-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_lb_finite [hPre_lb_finite : Cert.Pre_lb_finite.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_lb_finite.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_lb_finite [hPre_lb_finite : Cert.Pre_lb_finite.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_lb_finite.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Kernel10Ideal_pre_lb_finite [hKernel10Ideal : Cert.Kernel10Ideal.Facts] [hPre_lb_finite : Cert.Pre_lb_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_lb_finite m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Reference10Ideal_pre_lb_finite [hReference10Ideal : Cert.Reference10Ideal.Facts] [hPre_lb_finite : Cert.Pre_lb_finite.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_lb_finite m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v22) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v15_0)) (v1 : (c : Dev Cert.Kernel9Ideal.nD) → Buf (Elt Ideal) ((c.tc : Thread Cert.Kernel9Ideal.nD Cert.Kernel9Ideal.τ).loc Cert.Kernel9Ideal.main_v15_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v15_0) = v0 c
          ∧ r.2.mem ((c.tc : Thread Cert.Kernel9Ideal.nD Cert.Kernel9Ideal.τ).loc Cert.Kernel9Ideal.main_v15_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v74) = v0 c
          ∧ r.2.mem ((c.tc : Thread Cert.Reference9Ideal.nD Cert.Reference9Ideal.τ).loc Cert.Reference9Ideal.main_v75) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v21_0)) (v1 : (c : Dev Cert.Kernel3Ideal.nD) → Buf (Elt Ideal) ((c.tc : Thread Cert.Kernel3Ideal.nD Cert.Kernel3Ideal.τ).loc Cert.Kernel3Ideal.main_v21_1)) (v2 : (c : Dev Cert.Kernel3Ideal.nD) → Buf (Elt Ideal) ((c.tc : Thread Cert.Kernel3Ideal.nD Cert.Kernel3Ideal.τ).loc Cert.Kernel3Ideal.main_v21_2)) (v3 : (c : Dev Cert.Kernel3Ideal.nD) → Buf (Elt Ideal) ((c.tc : Thread Cert.Kernel3Ideal.nD Cert.Kernel3Ideal.τ).loc Cert.Kernel3Ideal.main_v21_3)) (v4 : (c : Dev Cert.Kernel3Ideal.nD) → Buf (Elt Ideal) ((c.tc : Thread Cert.Kernel3Ideal.nD Cert.Kernel3Ideal.τ).loc Cert.Kernel3Ideal.main_v21_4)) (v5 : (c : Dev Cert.Kernel3Ideal.nD) → Buf (Elt Ideal) ((c.tc : Thread Cert.Kernel3Ideal.nD Cert.Kernel3Ideal.τ).loc Cert.Kernel3Ideal.main_v21_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21_0) = v0 c
          ∧ r.2.mem ((c.tc : Thread Cert.Kernel3Ideal.nD Cert.Kernel3Ideal.τ).loc Cert.Kernel3Ideal.main_v21_1) = v1 c
          ∧ r.2.mem ((c.tc : Thread Cert.Kernel3Ideal.nD Cert.Kernel3Ideal.τ).loc Cert.Kernel3Ideal.main_v21_2) = v2 c
          ∧ r.2.mem ((c.tc : Thread Cert.Kernel3Ideal.nD Cert.Kernel3Ideal.τ).loc Cert.Kernel3Ideal.main_v21_3) = v3 c
          ∧ r.2.mem ((c.tc : Thread Cert.Kernel3Ideal.nD Cert.Kernel3Ideal.τ).loc Cert.Kernel3Ideal.main_v21_4) = v4 c
          ∧ r.2.mem ((c.tc : Thread Cert.Kernel3Ideal.nD Cert.Kernel3Ideal.τ).loc Cert.Kernel3Ideal.main_v21_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_v56) = v1 c
          ∧ r.2.mem ((c.tc : Thread Cert.Reference3Ideal.nD Cert.Reference3Ideal.τ).loc Cert.Reference3Ideal.main_v57) = v2 c
          ∧ r.2.mem ((c.tc : Thread Cert.Reference3Ideal.nD Cert.Reference3Ideal.τ).loc Cert.Reference3Ideal.main_v51) = v3 c
          ∧ r.2.mem ((c.tc : Thread Cert.Reference3Ideal.nD Cert.Reference3Ideal.τ).loc Cert.Reference3Ideal.main_v58) = v4 c
          ∧ r.2.mem ((c.tc : Thread Cert.Reference3Ideal.nD Cert.Reference3Ideal.τ).loc Cert.Reference3Ideal.main_v54) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel10_Kernel10Ideal : Prop :=
  True

def algebraic_Kernel10Ideal_Reference10Ideal_pre_lb_finite [hKernel10Ideal : Cert.Kernel10Ideal.Facts] [hReference10Ideal : Cert.Reference10Ideal.Facts] [hPre_lb_finite : Cert.Pre_lb_finite.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_lb_finite m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v68) = v0 c
          ∧ r.2.mem ((c.tc : Thread Cert.Reference10Ideal.nD Cert.Reference10Ideal.τ).loc Cert.Reference10Ideal.main_v70) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)) →
    ∃ (v0 : (c : Dev Cert.Kernel11Ideal.nD) → Buf (Elt Ideal) ((c.tc : Thread Cert.Kernel11Ideal.nD Cert.Kernel11Ideal.τ).loc Cert.Kernel11Ideal.main_v34_0)) (v1 : (c : Dev Cert.Kernel11Ideal.nD) → Buf (Elt Ideal) ((c.tc : Thread Cert.Kernel11Ideal.nD Cert.Kernel11Ideal.τ).loc Cert.Kernel11Ideal.main_v34_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v34_0) = v0 c
          ∧ r.2.mem ((c.tc : Thread Cert.Kernel11Ideal.nD Cert.Kernel11Ideal.τ).loc Cert.Kernel11Ideal.main_v34_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v119) = v0 c
          ∧ r.2.mem ((c.tc : Thread Cert.Reference11Ideal.nD Cert.Reference11Ideal.τ).loc Cert.Reference11Ideal.main_v120) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)) →
    ∃ (v0 : (c : Dev Cert.Kernel12Ideal.nD) → Buf (Elt Ideal) ((c.tc : Thread Cert.Kernel12Ideal.nD Cert.Kernel12Ideal.τ).loc Cert.Kernel12Ideal.main_v19)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v19) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v93) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)) →
    ∃ (v0 : (c : Dev Cert.Kernel13Ideal.nD) → Buf (Elt Ideal) ((c.tc : Thread Cert.Kernel13Ideal.nD Cert.Kernel13Ideal.τ).loc Cert.Kernel13Ideal.main_v33)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v33) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v106) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9))

def Claim : Prop :=
  ∃ (hKernel : Cert.Kernel.Facts) (hKernelIdeal : Cert.KernelIdeal.Facts) (hReferenceIdeal : Cert.ReferenceIdeal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel3 : Cert.Kernel3.Facts) (hKernel3Ideal : Cert.Kernel3Ideal.Facts) (hReference3Ideal : Cert.Reference3Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_lb_finite : Cert.Pre_lb_finite.Facts),
    quiescent_Kernel (hKernel := hKernel)
    ∧ quiescent_KernelIdeal (hKernelIdeal := hKernelIdeal)
    ∧ quiescent_ReferenceIdeal (hReferenceIdeal := hReferenceIdeal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel10 (hKernel10 := hKernel10)
    ∧ quiescent_Kernel10Ideal (hKernel10Ideal := hKernel10Ideal)
    ∧ quiescent_Kernel10Ideal_pre_lb_finite (hKernel10Ideal := hKernel10Ideal) (hPre_lb_finite := hPre_lb_finite)
    ∧ quiescent_Reference10Ideal (hReference10Ideal := hReference10Ideal)
    ∧ quiescent_Reference10Ideal_pre_lb_finite (hReference10Ideal := hReference10Ideal) (hPre_lb_finite := hPre_lb_finite)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal (hKernelIdeal := hKernelIdeal) (hReferenceIdeal := hReferenceIdeal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel3_Kernel3Ideal
    ∧ algebraic_Kernel3Ideal_Reference3Ideal (hKernel3Ideal := hKernel3Ideal) (hReference3Ideal := hReference3Ideal)
    ∧ preserves_Kernel10_Kernel10Ideal
    ∧ algebraic_Kernel10Ideal_Reference10Ideal_pre_lb_finite (hKernel10Ideal := hKernel10Ideal) (hReference10Ideal := hReference10Ideal) (hPre_lb_finite := hPre_lb_finite)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_lb_finite.lean ====
abbrev S4x4096x1024 : Shape := ⟨3, ![4, 4096, 1024]⟩
abbrev S1024 : Shape := ⟨1, ![1024]⟩
abbrev S1024x8192 : Shape := ⟨2, ![1024, 8192]⟩
abbrev S4x2048 : Shape := ⟨2, ![4, 2048]⟩
abbrev S_ : Shape := ⟨0, ![]⟩

class Facts : Prop where
  bcast_S_S4x2048 : S_.BroadcastsInDim S4x2048 (![] : Fin 0 → Fin S4x2048.rank)

variable [Facts]

def fn {F : FTy → Type} [FloatOps F] (main_arg0 : FVec F S4x4096x1024 .f32) (main_arg1 : FVec F S1024 .f32) (main_arg2 : FVec F S1024x8192 .f32) (main_arg3 : FVec F S4x2048 .f32) : IVec S4x2048 1 :=
  let main_v0 : FVec F S4x2048 .f32 := Host.absf main_arg3
  let main_cst : FVec F S_ .f32 := constant S_ .f32 0x7F800000#32
  let main_v1 : FVec F S4x2048 .f32 := broadcastInDim S4x2048 ![] bcast_S_S4x2048 main_cst
  let main_v2 : IVec S4x2048 1 := cmpf .olt main_v0 main_v1
  main_v2
-- ==== Kernel.lean ====
abbrev S4x4096x1024 : Shape := ⟨3, ![4, 4096, 1024]⟩
abbrev S1024 : Shape := ⟨1, ![1024]⟩
abbrev S1024x6144 : Shape := ⟨2, ![1024, 6144]⟩
abbrev S2048 : Shape := ⟨1, ![2048]⟩
abbrev S16x128x128 : Shape := ⟨3, ![16, 128, 128]⟩
abbrev S16x128 : Shape := ⟨2, ![16, 128]⟩
abbrev S2048x1024 : Shape := ⟨2, ![2048, 1024]⟩
abbrev S16384x1024 : Shape := ⟨2, ![16384, 1024]⟩
abbrev S1x16x1x128x1x128 : Shape := ⟨6, ![1, 16, 1, 128, 1, 128]⟩
abbrev S1x16x1x128 : Shape := ⟨4, ![1, 16, 1, 128]⟩
abbrev S16x128x1 : Shape := ⟨3, ![16, 128, 1]⟩
abbrev S1x1024 : Shape := ⟨2, ![1, 1024]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S128x128 : Shape := ⟨2, ![128, 128]⟩
abbrev S1x128x128 : Shape := ⟨3, ![1, 128, 128]⟩

abbrev nBuf : Space → Nat
  | .hbm => 21
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x6144, .f32⟩
  | .hbm, ⟨3, _⟩ => ⟨S2048, .f32⟩
  | .hbm, ⟨4, _⟩ => ⟨S16x128x128, .f32⟩
  | .hbm, ⟨5, _⟩ => ⟨S16x128, .f32⟩
  | .hbm, ⟨6, _⟩ => ⟨S2048x1024, .f32⟩
  | .hbm, ⟨7, _⟩ => ⟨S16384x1024, .f32⟩
  | .hbm, ⟨8, _⟩ => ⟨S1x16x1x128x1x128, .f32⟩
  | .hbm, ⟨9, _⟩ => ⟨S1x16x1x128x1x128, .f32⟩
  | .hbm, ⟨10, _⟩ => ⟨S16x128x128, .f32⟩
  | .hbm, ⟨11, _⟩ => ⟨S1x16x1x128, .f32⟩
  | .hbm, ⟨12, _⟩ => ⟨S1x16x1x128, .f32⟩
  | .hbm, ⟨13, _⟩ => ⟨S16x128, .f32⟩
  | .hbm, ⟨14, _⟩ => ⟨S16x128x1, .f32⟩
  | .hbm, ⟨15, _⟩ => ⟨S16x128x128, .f32⟩
  | .hbm, ⟨16, _⟩ => ⟨S1x1024, .f32⟩
  | .hbm, ⟨17, _⟩ => ⟨S1024x6144, .bf16⟩
  | .hbm, ⟨18, _⟩ => ⟨S1x2048, .f32⟩
  | .hbm, ⟨19, _⟩ => ⟨S2048x1024, .bf16⟩
  | .hbm, ⟨20, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6144, .bf16⟩
  | .local _ .vmem, ⟨4, _⟩ => ⟨S1x2048, .f32⟩
  | .local _ .vmem, ⟨5, _⟩ => ⟨S16x128x128, .f32⟩
  | .local _ .vmem, ⟨6, _⟩ => ⟨S16x128x128, .f32⟩
  | .local _ .vmem, ⟨7, _⟩ => ⟨S2048x1024, .bf16⟩
  | .local _ .vmem, ⟨8, _⟩ => ⟨S256x1024, .f32⟩
  | .local _ .vmem, ⟨9, _⟩ => ⟨S256x1024, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x4096x1024 : Shape := ⟨3, ![4, 4096, 1024]⟩
abbrev S1024 : Shape := ⟨1, ![1024]⟩
abbrev S1024x6144 : Shape := ⟨2, ![1024, 6144]⟩
abbrev S2048 : Shape := ⟨1, ![2048]⟩
abbrev S16x128x128 : Shape := ⟨3, ![16, 128, 128]⟩
abbrev S16x128 : Shape := ⟨2, ![16, 128]⟩
abbrev S2048x1024 : Shape := ⟨2, ![2048, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x6144 : Shape := ⟨3, ![4, 4096, 6144]⟩
abbrev S4x4096x2048 : Shape := ⟨3, ![4, 4096, 2048]⟩
abbrev S1x1x2048 : Shape := ⟨3, ![1, 1, 2048]⟩
abbrev S128x128 : Shape := ⟨2, ![128, 128]⟩
abbrev S4x32x128x16x128 : Shape := ⟨5, ![4, 32, 128, 16, 128]⟩
abbrev S16x4x32x128x128 : Shape := ⟨5, ![16, 4, 32, 128, 128]⟩
abbrev S128x16 : Shape := ⟨2, ![128, 16]⟩
abbrev S1x1x128x16x1 : Shape := ⟨5, ![1, 1, 128, 16, 1]⟩
abbrev S16384x1024 : Shape := ⟨2, ![16384, 1024]⟩

abbrev nBuf : Space → Nat
  | .hbm => 115
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x6144, .f32⟩
  | .hbm, ⟨3, _⟩ => ⟨S2048, .f32⟩
  | .hbm, ⟨4, _⟩ => ⟨S16x128x128, .f32⟩
  | .hbm, ⟨5, _⟩ => ⟨S16x128, .f32⟩
  | .hbm, ⟨6, _⟩ => ⟨S2048x1024, .f32⟩
  | .hbm, ⟨7, _⟩ => ⟨S4x4096x1024, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x1024, .f32⟩
  | .hbm, ⟨19, _⟩ => ⟨S4x4096x1024, .f32⟩
  | .hbm, ⟨20, _⟩ => ⟨S1x1x1024, .f32⟩
  | .hbm, ⟨21, _⟩ => ⟨S4x4096x1024, .f32⟩
  | .hbm, ⟨22, _⟩ => ⟨S4x4096x1024, .f32⟩
  | .hbm, ⟨23, _⟩ => ⟨S4x4096x6144, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S_, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S_, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S_, .f32⟩
  | .hbm, ⟨36, _⟩ => ⟨S4x4096x2048, .f32⟩
  | .hbm, ⟨37, _⟩ => ⟨S4x4096x2048, .f32⟩
  | .hbm, ⟨38, _⟩ => ⟨S_, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S4x4096x2048, .f32⟩
  | .hbm, ⟨45, _⟩ => ⟨S_, .f32⟩
  | .hbm, ⟨46, _⟩ => ⟨S4x4096x2048, .f32⟩
  | .hbm, ⟨47, _⟩ => ⟨S4x4096x2048, .f32⟩
  | .hbm, ⟨48, _⟩ => ⟨S4x4096x2048, .f32⟩
  | .hbm, ⟨49, _⟩ => ⟨S_, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S_, .f32⟩
  | .hbm, ⟨54, _⟩ => ⟨S4x4096x2048, .f32⟩
  | .hbm, ⟨55, _⟩ => ⟨S4x4096x2048, .f32⟩
  | .hbm, ⟨56, _⟩ => ⟨S_, .f32⟩
  | .hbm, ⟨57, _⟩ => ⟨S4x4096x2048, .f32⟩
  | .hbm, ⟨58, _⟩ => ⟨S4x4096x2048, .f32⟩
  | .hbm, ⟨59, _⟩ => ⟨S4x4096x2048, .f32⟩
  | .hbm, ⟨60, _⟩ => ⟨S4x4096x2048, .f32⟩
  | .hbm, ⟨61, _⟩ => ⟨S_, .f32⟩
  | .hbm, ⟨62, _⟩ => ⟨S4x4096, .f32⟩
  | .hbm, ⟨63, _⟩ => ⟨S4x4096x1, .f32⟩
  | .hbm, ⟨64, _⟩ => ⟨S_, .f32⟩
  | .hbm, ⟨65, _⟩ => ⟨S4x4096x1, .f32⟩
  | .hbm, ⟨66, _⟩ => ⟨S4x4096x1, .f32⟩
  | .hbm, ⟨67, _⟩ => ⟨S_, .f32⟩
  | .hbm, ⟨68, _⟩ => ⟨S4x4096x1, .f32⟩
  | .hbm, ⟨69, _⟩ => ⟨S4x4096x1, .f32⟩
  | .hbm, ⟨70, _⟩ => ⟨S4x4096x1, .f32⟩
  | .hbm, ⟨71, _⟩ => ⟨S4x4096x2048, .f32⟩
  | .hbm, ⟨72, _⟩ => ⟨S4x4096x2048, .f32⟩
  | .hbm, ⟨73, _⟩ => ⟨S1x1x2048, .f32⟩
  | .hbm, ⟨74, _⟩ => ⟨S4x4096x2048, .f32⟩
  | .hbm, ⟨75, _⟩ => ⟨S4x4096x2048, .f32⟩
  | .hbm, ⟨76, _⟩ => ⟨S4x4096x2048, .f32⟩
  | .hbm, ⟨77, _⟩ => ⟨S_, .i1⟩
  | .hbm, ⟨78, _⟩ => ⟨S128x128, .i1⟩
  | .hbm, ⟨79, _⟩ => ⟨S128x128, .i32⟩
  | .hbm, ⟨80, _⟩ => ⟨S_, .i32⟩
  | .hbm, ⟨81, _⟩ => ⟨S128x128, .i32⟩
  | .hbm, ⟨82, _⟩ => ⟨S128x128, .i32⟩
  | .hbm, ⟨83, _⟩ => ⟨S128x128, .i32⟩
  | .hbm, ⟨84, _⟩ => ⟨S128x128, .i1⟩
  | .hbm, ⟨85, _⟩ => ⟨S_, .i1⟩
  | .hbm, ⟨86, _⟩ => ⟨S128x128, .i1⟩
  | .hbm, ⟨87, _⟩ => ⟨S128x128, .i1⟩
  | .hbm, ⟨88, _⟩ => ⟨S_, .f32⟩
  | .hbm, ⟨89, _⟩ => ⟨S_, .f32⟩
  | .hbm, ⟨90, _⟩ => ⟨S16x128x128, .i1⟩
  | .hbm, ⟨91, _⟩ => ⟨S16x128x128, .f32⟩
  | .hbm, ⟨92, _⟩ => ⟨S16x128x128, .f32⟩
  | .hbm, ⟨93, _⟩ => ⟨S4x32x128x16x128, .f32⟩
  | .hbm, ⟨94, _⟩ => ⟨S16x4x32x128x128, .f32⟩
  | .hbm, ⟨95, _⟩ => ⟨S4x32x128x16x128, .f32⟩
  | .hbm, ⟨96, _⟩ => ⟨S128x16, .f32⟩
  | .hbm, ⟨97, _⟩ => ⟨S1x1x128x16x1, .f32⟩
  | .hbm, ⟨98, _⟩ => ⟨S4x32x128x16x128, .f32⟩
  | .hbm, ⟨99, _⟩ => ⟨S4x32x128x16x128, .f32⟩
  | .hbm, ⟨100, _⟩ => ⟨S4x4096x2048, .f32⟩
  | .hbm, ⟨101, _⟩ => ⟨S4x4096x2048, .f32⟩
  | .hbm, ⟨102, _⟩ => ⟨S4x4096x2048, .f32⟩
  | .hbm, ⟨103, _⟩ => ⟨S4x4096x2048, .f32⟩
  | .hbm, ⟨104, _⟩ => ⟨S_, .f32⟩
  | .hbm, ⟨105, _⟩ => ⟨S4x4096x2048, .f32⟩
  | .hbm, ⟨106, _⟩ => ⟨S4x4096x2048, .f32⟩
  | .hbm, ⟨107, _⟩ => ⟨S_, .f32⟩
  | .hbm, ⟨108, _⟩ => ⟨S4x4096x2048, .f32⟩
  | .hbm, ⟨109, _⟩ => ⟨S4x4096x2048, .f32⟩
  | .hbm, ⟨110, _⟩ => ⟨S4x4096x2048, .f32⟩
  | .hbm, ⟨111, _⟩ => ⟨S4x4096x2048, .f32⟩
  | .hbm, ⟨112, _⟩ => ⟨S4x4096x1024, .f32⟩
  | .hbm, ⟨113, _⟩ => ⟨S4x4096x1024, .f32⟩
  | .hbm, ⟨114, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_cst_12 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c : Ref sig .tc := ⟨.hbm, 77, rfl⟩
abbrev main_v56 : Ref sig .tc := ⟨.hbm, 78, rfl⟩
abbrev main_call0_v0 : Ref sig .tc := ⟨.hbm, 79, rfl⟩
abbrev main_call0_c : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_c_0 : Ref sig .tc := ⟨.hbm, 85, rfl⟩
abbrev main_call0_v5 : Ref sig .tc := ⟨.hbm, 86, rfl⟩
abbrev main_v57 : Ref sig .tc := ⟨.hbm, 87, rfl⟩
abbrev main_cst_13 : Ref sig .tc := ⟨.hbm, 88, rfl⟩
abbrev main_call1_v0 : Ref sig .tc := ⟨.hbm, 89, rfl⟩
abbrev main_call1_v1 : Ref sig .tc := ⟨.hbm, 90, rfl⟩
abbrev main_call1_v2 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_call2_v0 : Ref sig .tc := ⟨.hbm, 102, rfl⟩
abbrev main_call2_v1 : Ref sig .tc := ⟨.hbm, 103, rfl⟩
abbrev main_call2_cst : Ref sig .tc := ⟨.hbm, 104, rfl⟩
abbrev main_call2_v2 : Ref sig .tc := ⟨.hbm, 105, rfl⟩
abbrev main_call2_v3 : Ref sig .tc := ⟨.hbm, 106, rfl⟩
abbrev main_call2_cst_0 : Ref sig .tc := ⟨.hbm, 107, rfl⟩
abbrev main_call2_v4 : Ref sig .tc := ⟨.hbm, 108, rfl⟩
abbrev main_call2_v5 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩

abbrev nD : Nat := 1
abbrev τ : Topo := Topo.v7x

variable {F : FTy → Type} [FloatOps F]
-- ==== Kernel4.lean ====
abbrev S4x4096x1024 : Shape := ⟨3, ![4, 4096, 1024]⟩
abbrev S1024 : Shape := ⟨1, ![1024]⟩
abbrev S1024x8192 : Shape := ⟨2, ![1024, 8192]⟩
abbrev S16384x1024 : Shape := ⟨2, ![16384, 1024]⟩
abbrev S1024x2048 : Shape := ⟨2, ![1024, 2048]⟩
abbrev S1x1024 : Shape := ⟨2, ![1, 1024]⟩
abbrev S16x16384x128 : Shape := ⟨3, ![16, 16384, 128]⟩
abbrev S512x1024 : Shape := ⟨2, ![512, 1024]⟩
abbrev S16x512x128 : Shape := ⟨3, ![16, 512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 8
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x8192, .f32⟩
  | .hbm, ⟨3, _⟩ => ⟨S16384x1024, .f32⟩
  | .hbm, ⟨4, _⟩ => ⟨S1024x2048, .f32⟩
  | .hbm, ⟨5, _⟩ => ⟨S1x1024, .f32⟩
  | .hbm, ⟨6, _⟩ => ⟨S1024x2048, .bf16⟩
  | .hbm, ⟨7, _⟩ => ⟨S16x16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S16x512x128, .f32⟩
  | .local _ .vmem, ⟨5, _⟩ => ⟨S16x512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4x4096x1024 : Shape := ⟨3, ![4, 4096, 1024]⟩
abbrev S1024 : Shape := ⟨1, ![1024]⟩
abbrev S1024x8192 : Shape := ⟨2, ![1024, 8192]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x8192 : Shape := ⟨3, ![4, 4096, 8192]⟩
abbrev S4x4096x2048 : Shape := ⟨3, ![4, 4096, 2048]⟩
abbrev S16384x16x128 : Shape := ⟨3, ![16384, 16, 128]⟩
abbrev S16x16384x128 : Shape := ⟨3, ![16, 16384, 128]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x8192, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x8192, .f32⟩
  | .hbm, ⟨20, _⟩ => ⟨S4x4096x2048, .f32⟩
  | .hbm, ⟨21, _⟩ => ⟨S4x4096x2048, .f32⟩
  | .hbm, ⟨22, _⟩ => ⟨S4x4096x2048, .f32⟩
  | .hbm, ⟨23, _⟩ => ⟨S_, .f32⟩
  | .hbm, ⟨24, _⟩ => ⟨S4x4096x2048, .f32⟩
  | .hbm, ⟨25, _⟩ => ⟨S4x4096x2048, .f32⟩
  | .hbm, ⟨26, _⟩ => ⟨S_, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S_, .f32⟩
  | .hbm, ⟨31, _⟩ => ⟨S4x4096x2048, .f32⟩
  | .hbm, ⟨32, _⟩ => ⟨S4x4096x2048, .f32⟩
  | .hbm, ⟨33, _⟩ => ⟨S16384x16x128, .f32⟩
  | .hbm, ⟨34, _⟩ => ⟨S16x16384x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel5.lean ====
abbrev S4x4096x1024 : Shape := ⟨3, ![4, 4096, 1024]⟩
abbrev S1024 : Shape := ⟨1, ![1024]⟩
abbrev S1024x8192 : Shape := ⟨2, ![1024, 8192]⟩
abbrev S16384x1024 : Shape := ⟨2, ![16384, 1024]⟩
abbrev S1024x2048 : Shape := ⟨2, ![1024, 2048]⟩
abbrev S1x1024 : Shape := ⟨2, ![1, 1024]⟩
abbrev S16x16384x128 : Shape := ⟨3, ![16, 16384, 128]⟩
abbrev S512x1024 : Shape := ⟨2, ![512, 1024]⟩
abbrev S16x512x128 : Shape := ⟨3, ![16, 512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x128 : Shape := ⟨2, ![512, 128]⟩
abbrev S1x512x128 : Shape := ⟨3, ![1, 512, 128]⟩

abbrev nBuf : Space → Nat
  | .hbm => 8
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x8192, .f32⟩
  | .hbm, ⟨3, _⟩ => ⟨S16384x1024, .f32⟩
  | .hbm, ⟨4, _⟩ => ⟨S1024x2048, .f32⟩
  | .hbm, ⟨5, _⟩ => ⟨S1x1024, .f32⟩
  | .hbm, ⟨6, _⟩ => ⟨S1024x2048, .bf16⟩
  | .hbm, ⟨7, _⟩ => ⟨S16x16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S16x512x128, .f32⟩
  | .local _ .vmem, ⟨5, _⟩ => ⟨S16x512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4x4096x1024 : Shape := ⟨3, ![4, 4096, 1024]⟩
abbrev S1024 : Shape := ⟨1, ![1024]⟩
abbrev S1024x8192 : Shape := ⟨2, ![1024, 8192]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x8192 : Shape := ⟨3, ![4, 4096, 8192]⟩
abbrev S4x4096x2048 : Shape := ⟨3, ![4, 4096, 2048]⟩
abbrev S16384x16x128 : Shape := ⟨3, ![16384, 16, 128]⟩
abbrev S16x16384x128 : Shape := ⟨3, ![16, 16384, 128]⟩

abbrev nBuf : Space → Nat
  | .hbm => 23
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x8192, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x8192, .f32⟩
  | .hbm, ⟨20, _⟩ => ⟨S4x4096x2048, .f32⟩
  | .hbm, ⟨21, _⟩ => ⟨S16384x16x128, .f32⟩
  | .hbm, ⟨22, _⟩ => ⟨S16x16384x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel6.lean ====
abbrev S4x4096x1024 : Shape := ⟨3, ![4, 4096, 1024]⟩
abbrev S1024 : Shape := ⟨1, ![1024]⟩
abbrev S1024x8192 : Shape := ⟨2, ![1024, 8192]⟩
abbrev S16384x1024 : Shape := ⟨2, ![16384, 1024]⟩
abbrev S1024x2048 : Shape := ⟨2, ![1024, 2048]⟩
abbrev S1x1024 : Shape := ⟨2, ![1, 1024]⟩
abbrev S16384x2048 : Shape := ⟨2, ![16384, 2048]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 8
  | .vmem => 6
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x8192, .f32⟩
  | .hbm, ⟨3, _⟩ => ⟨S16384x1024, .f32⟩
  | .hbm, ⟨4, _⟩ => ⟨S1024x2048, .f32⟩
  | .hbm, ⟨5, _⟩ => ⟨S1x1024, .f32⟩
  | .hbm, ⟨6, _⟩ => ⟨S1024x2048, .bf16⟩
  | .hbm, ⟨7, _⟩ => ⟨S16384x2048, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S512x2048, .f32⟩
  | .local _ .vmem, ⟨5, _⟩ => ⟨S512x2048, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S4x4096x1024 : Shape := ⟨3, ![4, 4096, 1024]⟩
abbrev S1024 : Shape := ⟨1, ![1024]⟩
abbrev S1024x8192 : Shape := ⟨2, ![1024, 8192]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x8192 : Shape := ⟨3, ![4, 4096, 8192]⟩
abbrev S4x4096x2048 : Shape := ⟨3, ![4, 4096, 2048]⟩
abbrev S16384x2048 : Shape := ⟨2, ![16384, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x8192, .f32⟩
  | .hbm, ⟨3, _⟩ => ⟨S4x4096x1024, .f32⟩
  | .hbm, ⟨4, _⟩ => ⟨S_, .f32⟩
  | .hbm, ⟨5, _⟩ => ⟨S4x4096, .f32⟩
  | .hbm, ⟨6, _⟩ => ⟨S4x4096x1, .f32⟩
  | .hbm, ⟨7, _⟩ => ⟨S_, .f32⟩
  | .hbm, ⟨8, _⟩ => ⟨S4x4096x1, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1, .f32⟩
  | .hbm, ⟨14, _⟩ => ⟨S4x4096x1024, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x8192, .f32⟩
  | .hbm, ⟨20, _⟩ => ⟨S4x4096x2048, .f32⟩
  | .hbm, ⟨21, _⟩ => ⟨S16384x2048, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel7.lean ====
abbrev S16x16384x128 : Shape := ⟨3, ![16, 16384, 128]⟩
abbrev S16384x2048 : Shape := ⟨2, ![16384, 2048]⟩
abbrev S16384x1024 : Shape := ⟨2, ![16384, 1024]⟩
abbrev S128 : Shape := ⟨1, ![128]⟩
abbrev S2048x1024 : Shape := ⟨2, ![2048, 1024]⟩
abbrev S1x128 : Shape := ⟨2, ![1, 128]⟩
abbrev S16x256x128 : Shape := ⟨3, ![16, 256, 128]⟩
abbrev S256x2048 : Shape := ⟨2, ![256, 2048]⟩
abbrev S256x1024 : Shape := ⟨2, ![256, 1024]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16x16384x128, .f32⟩
  | .hbm, ⟨1, _⟩ => ⟨S16384x2048, .f32⟩
  | .hbm, ⟨2, _⟩ => ⟨S16384x1024, .f32⟩
  | .hbm, ⟨3, _⟩ => ⟨S128, .f32⟩
  | .hbm, ⟨4, _⟩ => ⟨S2048x1024, .f32⟩
  | .hbm, ⟨5, _⟩ => ⟨S1x128, .f32⟩
  | .hbm, ⟨6, _⟩ => ⟨S2048x1024, .bf16⟩
  | .hbm, ⟨7, _⟩ => ⟨S16384x1024, .f32⟩
  | .local _ .vmem, ⟨0, _⟩ => ⟨S16x256x128, .f32⟩
  | .local _ .vmem, ⟨1, _⟩ => ⟨S16x256x128, .f32⟩
  | .local _ .vmem, ⟨2, _⟩ => ⟨S256x2048, .f32⟩
  | .local _ .vmem, ⟨3, _⟩ => ⟨S256x2048, .f32⟩
  | .local _ .vmem, ⟨4, _⟩ => ⟨S256x1024, .f32⟩
  | .local _ .vmem, ⟨5, _⟩ => ⟨S256x1024, .f32⟩
  | .local _ .vmem, ⟨6, _⟩ => ⟨S1x128, .f32⟩
  | .local _ .vmem, ⟨7, _⟩ => ⟨S2048x1024, .bf16⟩
  | .local _ .vmem, ⟨8, _⟩ => ⟨S256x1024, .f32⟩
  | .local _ .vmem, ⟨9, _⟩ => ⟨S256x1024, .f32⟩
  | _, _ => ⟨S16x16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S16x16384x128 : Shape := ⟨3, ![16, 16384, 128]⟩
abbrev S16384x2048 : Shape := ⟨2, ![16384, 2048]⟩
abbrev S16384x1024 : Shape := ⟨2, ![16384, 1024]⟩
abbrev S128 : Shape := ⟨1, ![128]⟩
abbrev S2048x1024 : Shape := ⟨2, ![2048, 1024]⟩
abbrev S16384x16x128 : Shape := ⟨3, ![16384, 16, 128]⟩
abbrev S4x4096x16x128 : Shape := ⟨4, ![4, 4096, 16, 128]⟩
abbrev S4x4096x2048 : Shape := ⟨3, ![4, 4096, 2048]⟩
abbrev S_ : Shape := ⟨0, ![]⟩
abbrev S4x4096x16 : Shape := ⟨3, ![4, 4096, 16]⟩
abbrev S4x4096x16x1 : Shape := ⟨4, ![4, 4096, 16, 1]⟩
abbrev S1x1x1x128 : Shape := ⟨4, ![1, 1, 1, 128]⟩
abbrev S4x4096x1024 : Shape := ⟨3, ![4, 4096, 1024]⟩

abbrev nBuf : Space → Nat
  | .hbm => 38
  | .vmem => 0
  | .smem => 0
  | _ => 0

abbrev bufTy : (tb : Table) → Fin (tcTables nBuf tb) → BufTy
  | .hbm, ⟨0, _⟩ => ⟨S16x16384x128, .f32⟩
  | .hbm, ⟨1, _⟩ => ⟨S16384x2048, .f32⟩
  | .hbm, ⟨2, _⟩ => ⟨S16384x1024, .f32⟩
  | .hbm, ⟨3, _⟩ => ⟨S128, .f32⟩
  | .hbm, ⟨4, _⟩ => ⟨S2048x1024, .f32⟩
  | .hbm, ⟨5, _⟩ => ⟨S16384x16x128, .f32⟩
  | .hbm, ⟨6, _⟩ => ⟨S4x4096x16x128, .f32⟩
  | .hbm, ⟨7, _⟩ => ⟨S4x4096x2048, .f32⟩
  | .hbm, ⟨8, _⟩ => ⟨S4x4096x16x128, .f32⟩
  | .hbm, ⟨9, _⟩ => ⟨S_, .f32⟩
  | .hbm, ⟨10, _⟩ => ⟨S4x4096x16, .f32⟩
  | .hbm, ⟨11, _⟩ => ⟨S4x4096x16x1, .f32⟩
  | .hbm, ⟨12, _⟩ => ⟨S_, .f32⟩
  | .hbm, ⟨13, _⟩ => ⟨S4x4096x16x1, .f32⟩
  | .hbm, ⟨14, _⟩ => ⟨S4x4096x16x1, .f32⟩
  | .hbm, ⟨15, _⟩ => ⟨S_, .f32⟩
  | .hbm, ⟨16, _⟩ => ⟨S4x4096x16x1, .f32⟩
  | .hbm, ⟨17, _⟩ => ⟨S4x4096x16x1, .f32⟩
  | .hbm, ⟨18, _⟩ => ⟨S4x4096x16x1, .f32⟩
  | .hbm, ⟨19, _⟩ => ⟨S4x4096x16x128, .f32⟩
  | .hbm, ⟨20, _⟩ => ⟨S4x4096x16x128, .f32⟩
  | .hbm, ⟨21, _⟩ => ⟨S1x1x1x128, .f32⟩
  | .hbm, ⟨22, _⟩ => ⟨S4x4096x16x128, .f32⟩
  | .hbm, ⟨23, _⟩ => ⟨S4x4096x16x128, .f32⟩
  | .hbm, ⟨24, _⟩ => ⟨S4x4096x2048, .f32⟩
  | .hbm, ⟨25, _⟩ => ⟨S4x4096x2048, .f32⟩
  | .hbm, ⟨26, _⟩ => ⟨S4x4096x2048, .f32⟩
  | .hbm, ⟨27, _⟩ => ⟨S_, .f32⟩
  | .hbm, ⟨28, _⟩ => ⟨S4x4096x2048, .f32⟩
  | .hbm, ⟨29, _⟩ => ⟨S4x4096x2048, .f32⟩
  | .hbm, ⟨30, _⟩ => ⟨S_, .f32⟩
  | .hbm, ⟨31, _⟩ => ⟨S4x4096x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x1024, .f32⟩
  | .hbm, ⟨36, _⟩ => ⟨S16384x1024, .f32⟩
  | .hbm, ⟨37, _⟩ => ⟨S16384x1024, .f32⟩
  | _, _ => ⟨S16x16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Kernel8.lean ====
abbrev S16384x1024 : Shape := ⟨2, ![16384, 1024]⟩
abbrev S128 : Shape := ⟨1, ![128]⟩
abbrev S1024x1024 : Shape := ⟨2, ![1024, 1024]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S128, .f32⟩
  | .hbm, ⟨4, _⟩ => ⟨S1024x1024, .f32⟩
  | .hbm, ⟨5, _⟩ => ⟨S1x128, .f32⟩
  | .hbm, ⟨6, _⟩ => ⟨S1024x1024, .bf16⟩
  | .hbm, ⟨7, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x128, .f32⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S16384x1024 : Shape := ⟨2, ![16384, 1024]⟩
abbrev S128 : Shape := ⟨1, ![128]⟩
abbrev S1024x1024 : Shape := ⟨2, ![1024, 1024]⟩
abbrev S4x4096x8x128 : Shape := ⟨4, ![4, 4096, 8, 128]⟩
abbrev S4x4096x1024 : Shape := ⟨3, ![4, 4096, 1024]⟩
abbrev S_ : Shape := ⟨0, ![]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩

abbrev nBuf : Space → Nat
  | .hbm => 40
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S128, .f32⟩
  | .hbm, ⟨4, _⟩ => ⟨S1024x1024, .f32⟩
  | .hbm, ⟨5, _⟩ => ⟨S4x4096x8x128, .f32⟩
  | .hbm, ⟨6, _⟩ => ⟨S4x4096x1024, .f32⟩
  | .hbm, ⟨7, _⟩ => ⟨S4x4096x8x128, .f32⟩
  | .hbm, ⟨8, _⟩ => ⟨S_, .f32⟩
  | .hbm, ⟨9, _⟩ => ⟨S4x4096x8, .f32⟩
  | .hbm, ⟨10, _⟩ => ⟨S4x4096x8x1, .f32⟩
  | .hbm, ⟨11, _⟩ => ⟨S_, .f32⟩
  | .hbm, ⟨12, _⟩ => ⟨S4x4096x8x1, .f32⟩
  | .hbm, ⟨13, _⟩ => ⟨S4x4096x8x1, .f32⟩
  | .hbm, ⟨14, _⟩ => ⟨S_, .f32⟩
  | .hbm, ⟨15, _⟩ => ⟨S4x4096x8x1, .f32⟩
  | .hbm, ⟨16, _⟩ => ⟨S4x4096x8x1, .f32⟩
  | .hbm, ⟨17, _⟩ => ⟨S4x4096x8x1, .f32⟩
  | .hbm, ⟨18, _⟩ => ⟨S4x4096x8x128, .f32⟩
  | .hbm, ⟨19, _⟩ => ⟨S4x4096x8x128, .f32⟩
  | .hbm, ⟨20, _⟩ => ⟨S1x1x1x128, .f32⟩
  | .hbm, ⟨21, _⟩ => ⟨S4x4096x8x128, .f32⟩
  | .hbm, ⟨22, _⟩ => ⟨S4x4096x8x128, .f32⟩
  | .hbm, ⟨23, _⟩ => ⟨S_, .f32⟩
  | .hbm, ⟨24, _⟩ => ⟨S4x4096x8x128, .f32⟩
  | .hbm, ⟨25, _⟩ => ⟨S4x4096x8x128, .f32⟩
  | .hbm, ⟨26, _⟩ => ⟨S4x4096x1024, .f32⟩
  | .hbm, ⟨27, _⟩ => ⟨S4x4096x1024, .f32⟩
  | .hbm, ⟨28, _⟩ => ⟨S4x4096x1024, .f32⟩
  | .hbm, ⟨29, _⟩ => ⟨S_, .f32⟩
  | .hbm, ⟨30, _⟩ => ⟨S4x4096x1024, .f32⟩
  | .hbm, ⟨31, _⟩ => ⟨S4x4096x1024, .f32⟩
  | .hbm, ⟨32, _⟩ => ⟨S_, .f32⟩
  | .hbm, ⟨33, _⟩ => ⟨S4x4096x1024, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S16384x1024, .f32⟩
  | .hbm, ⟨39, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩

abbrev nD : Nat := 1
abbrev τ : Topo := Topo.v7x

variable {F : FTy → Type} [FloatOps F]
-- ==== Kernel9.lean ====
abbrev S128x8x1024 : Shape := ⟨3, ![128, 8, 1024]⟩
abbrev S1024 : Shape := ⟨1, ![1024]⟩
abbrev S1024x6144 : Shape := ⟨2, ![1024, 6144]⟩
abbrev S2048 : Shape := ⟨1, ![2048]⟩
abbrev S16x128x128 : Shape := ⟨3, ![16, 128, 128]⟩
abbrev S16x128 : Shape := ⟨2, ![16, 128]⟩
abbrev S2048x1024 : Shape := ⟨2, ![2048, 1024]⟩
abbrev S1024x1024 : Shape := ⟨2, ![1024, 1024]⟩
abbrev S16x8x8 : Shape := ⟨3, ![16, 8, 8]⟩
abbrev S1x16x1x8x1x8 : Shape := ⟨6, ![1, 16, 1, 8, 1, 8]⟩
abbrev S1x16x16x8x16x8 : Shape := ⟨6, ![1, 16, 16, 8, 16, 8]⟩
abbrev S16x8 : Shape := ⟨2, ![16, 8]⟩
abbrev S1x16x1x8 : Shape := ⟨4, ![1, 16, 1, 8]⟩
abbrev S1x16x16x8 : Shape := ⟨4, ![1, 16, 16, 8]⟩
abbrev S16x128x1 : Shape := ⟨3, ![16, 128, 1]⟩
abbrev S1x1024 : Shape := ⟨2, ![1, 1024]⟩
abbrev S1x2048 : Shape := ⟨2, ![1, 2048]⟩
abbrev S1024x2048 : Shape := ⟨2, ![1024, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S128x128 : Shape := ⟨2, ![128, 128]⟩
abbrev S1x128x128 : Shape := ⟨3, ![1, 128, 128]⟩

abbrev nBuf : Space → Nat
  | .hbm => 24
  | .vmem => 16
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x6144, .f32⟩
  | .hbm, ⟨3, _⟩ => ⟨S2048, .f32⟩
  | .hbm, ⟨4, _⟩ => ⟨S16x128x128, .f32⟩
  | .hbm, ⟨5, _⟩ => ⟨S16x128, .f32⟩
  | .hbm, ⟨6, _⟩ => ⟨S2048x1024, .f32⟩
  | .hbm, ⟨7, _⟩ => ⟨S1024x1024, .f32⟩
  | .hbm, ⟨8, _⟩ => ⟨S16x8x8, .f32⟩
  | .hbm, ⟨9, _⟩ => ⟨S1x16x1x8x1x8, .f32⟩
  | .hbm, ⟨10, _⟩ => ⟨S1x16x16x8x16x8, .f32⟩
  | .hbm, ⟨11, _⟩ => ⟨S16x128x128, .f32⟩
  | .hbm, ⟨12, _⟩ => ⟨S16x8, .f32⟩
  | .hbm, ⟨13, _⟩ => ⟨S1x16x1x8, .f32⟩
  | .hbm, ⟨14, _⟩ => ⟨S1x16x16x8, .f32⟩
  | .hbm, ⟨15, _⟩ => ⟨S16x128, .f32⟩
  | .hbm, ⟨16, _⟩ => ⟨S16x128x1, .f32⟩
  | .hbm, ⟨17, _⟩ => ⟨S16x128x128, .f32⟩
  | .hbm, ⟨18, _⟩ => ⟨S1x1024, .f32⟩
  | .hbm, ⟨19, _⟩ => ⟨S1024x6144, .bf16⟩
  | .hbm, ⟨20, _⟩ => ⟨S1x2048, .f32⟩
  | .hbm, ⟨21, _⟩ => ⟨S2048x1024, .bf16⟩
  | .hbm, ⟨22, _⟩ => ⟨S1024x1024, .f32⟩
  | .hbm, ⟨23, _⟩ => ⟨S1024x2048, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6144, .bf16⟩
  | .local _ .vmem, ⟨4, _⟩ => ⟨S1x2048, .f32⟩
  | .local _ .vmem, ⟨5, _⟩ => ⟨S16x128x128, .f32⟩
  | .local _ .vmem, ⟨6, _⟩ => ⟨S16x128x128, .f32⟩
  | .local _ .vmem, ⟨7, _⟩ => ⟨S2048x1024, .bf16⟩
  | .local _ .vmem, ⟨8, _⟩ => ⟨S256x1024, .f32⟩
  | .local _ .vmem, ⟨9, _⟩ => ⟨S256x1024, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .bf16⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference9Ideal.lean ====
abbrev S128x8x1024 : Shape := ⟨3, ![128, 8, 1024]⟩
abbrev S1024 : Shape := ⟨1, ![1024]⟩
abbrev S1024x6144 : Shape := ⟨2, ![1024, 6144]⟩
abbrev S2048 : Shape := ⟨1, ![2048]⟩
abbrev S16x128x128 : Shape := ⟨3, ![16, 128, 128]⟩
abbrev S16x128 : Shape := ⟨2, ![16, 128]⟩
abbrev S2048x1024 : Shape := ⟨2, ![2048, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x6144 : Shape := ⟨3, ![128, 8, 6144]⟩
abbrev S128x8x2048 : Shape := ⟨3, ![128, 8, 2048]⟩
abbrev S1x1x2048 : Shape := ⟨3, ![1, 1, 2048]⟩
abbrev S8x8 : Shape := ⟨2, ![8, 8]⟩
abbrev S16x8x8 : Shape := ⟨3, ![16, 8, 8]⟩
abbrev S128x1x8x16x128 : Shape := ⟨5, ![128, 1, 8, 16, 128]⟩
abbrev S16x128x1x128x8 : Shape := ⟨5, ![16, 128, 1, 128, 8]⟩
abbrev S16x8 : Shape := ⟨2, ![16, 8]⟩
abbrev S8x16 : Shape := ⟨2, ![8, 16]⟩
abbrev S1x1x8x16x1 : Shape := ⟨5, ![1, 1, 8, 16, 1]⟩
abbrev S1024x1024 : Shape := ⟨2, ![1024, 1024]⟩
abbrev S1024x2048 : Shape := ⟨2, ![1024, 2048]⟩

abbrev nBuf : Space → Nat
  | .hbm => 118
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x6144, .f32⟩
  | .hbm, ⟨3, _⟩ => ⟨S2048, .f32⟩
  | .hbm, ⟨4, _⟩ => ⟨S16x128x128, .f32⟩
  | .hbm, ⟨5, _⟩ => ⟨S16x128, .f32⟩
  | .hbm, ⟨6, _⟩ => ⟨S2048x1024, .f32⟩
  | .hbm, ⟨7, _⟩ => ⟨S128x8x1024, .f32⟩
  | .hbm, ⟨8, _⟩ => ⟨S_, .f32⟩
  | .hbm, ⟨9, _⟩ => ⟨S128x8, .f32⟩
  | .hbm, ⟨10, _⟩ => ⟨S128x8x1, .f32⟩
  | .hbm, ⟨11, _⟩ => ⟨S_, .f32⟩
  | .hbm, ⟨12, _⟩ => ⟨S128x8x1, .f32⟩
  | .hbm, ⟨13, _⟩ => ⟨S128x8x1, .f32⟩
  | .hbm, ⟨14, _⟩ => ⟨S_, .f32⟩
  | .hbm, ⟨15, _⟩ => ⟨S128x8x1, .f32⟩
  | .hbm, ⟨16, _⟩ => ⟨S128x8x1, .f32⟩
  | .hbm, ⟨17, _⟩ => ⟨S128x8x1, .f32⟩
  | .hbm, ⟨18, _⟩ => ⟨S128x8x1024, .f32⟩
  | .hbm, ⟨19, _⟩ => ⟨S128x8x1024, .f32⟩
  | .hbm, ⟨20, _⟩ => ⟨S1x1x1024, .f32⟩
  | .hbm, ⟨21, _⟩ => ⟨S128x8x1024, .f32⟩
  | .hbm, ⟨22, _⟩ => ⟨S128x8x1024, .f32⟩
  | .hbm, ⟨23, _⟩ => ⟨S128x8x6144, .f32⟩
  | .hbm, ⟨24, _⟩ => ⟨S128x8x2048, .f32⟩
  | .hbm, ⟨25, _⟩ => ⟨S128x8x2048, .f32⟩
  | .hbm, ⟨26, _⟩ => ⟨S128x8x2048, .f32⟩
  | .hbm, ⟨27, _⟩ => ⟨S_, .f32⟩
  | .hbm, ⟨28, _⟩ => ⟨S128x8x2048, .f32⟩
  | .hbm, ⟨29, _⟩ => ⟨S128x8x2048, .f32⟩
  | .hbm, ⟨30, _⟩ => ⟨S128x8x2048, .f32⟩
  | .hbm, ⟨31, _⟩ => ⟨S_, .f32⟩
  | .hbm, ⟨32, _⟩ => ⟨S128x8x2048, .f32⟩
  | .hbm, ⟨33, _⟩ => ⟨S128x8x2048, .f32⟩
  | .hbm, ⟨34, _⟩ => ⟨S128x8x2048, .f32⟩
  | .hbm, ⟨35, _⟩ => ⟨S_, .f32⟩
  | .hbm, ⟨36, _⟩ => ⟨S128x8x2048, .f32⟩
  | .hbm, ⟨37, _⟩ => ⟨S128x8x2048, .f32⟩
  | .hbm, ⟨38, _⟩ => ⟨S_, .f32⟩
  | .hbm, ⟨39, _⟩ => ⟨S128x8x2048, .f32⟩
  | .hbm, ⟨40, _⟩ => ⟨S128x8x2048, .f32⟩
  | .hbm, ⟨41, _⟩ => ⟨S128x8x2048, .f32⟩
  | .hbm, ⟨42, _⟩ => ⟨S128x8x2048, .f32⟩
  | .hbm, ⟨43, _⟩ => ⟨S128x8x2048, .f32⟩
  | .hbm, ⟨44, _⟩ => ⟨S128x8x2048, .f32⟩
  | .hbm, ⟨45, _⟩ => ⟨S_, .f32⟩
  | .hbm, ⟨46, _⟩ => ⟨S128x8x2048, .f32⟩
  | .hbm, ⟨47, _⟩ => ⟨S128x8x2048, .f32⟩
  | .hbm, ⟨48, _⟩ => ⟨S128x8x2048, .f32⟩
  | .hbm, ⟨49, _⟩ => ⟨S_, .f32⟩
  | .hbm, ⟨50, _⟩ => ⟨S128x8x2048, .f32⟩
  | .hbm, ⟨51, _⟩ => ⟨S128x8x2048, .f32⟩
  | .hbm, ⟨52, _⟩ => ⟨S128x8x2048, .f32⟩
  | .hbm, ⟨53, _⟩ => ⟨S_, .f32⟩
  | .hbm, ⟨54, _⟩ => ⟨S128x8x2048, .f32⟩
  | .hbm, ⟨55, _⟩ => ⟨S128x8x2048, .f32⟩
  | .hbm, ⟨56, _⟩ => ⟨S_, .f32⟩
  | .hbm, ⟨57, _⟩ => ⟨S128x8x2048, .f32⟩
  | .hbm, ⟨58, _⟩ => ⟨S128x8x2048, .f32⟩
  | .hbm, ⟨59, _⟩ => ⟨S128x8x2048, .f32⟩
  | .hbm, ⟨60, _⟩ => ⟨S128x8x2048, .f32⟩
  | .hbm, ⟨61, _⟩ => ⟨S_, .f32⟩
  | .hbm, ⟨62, _⟩ => ⟨S128x8, .f32⟩
  | .hbm, ⟨63, _⟩ => ⟨S128x8x1, .f32⟩
  | .hbm, ⟨64, _⟩ => ⟨S_, .f32⟩
  | .hbm, ⟨65, _⟩ => ⟨S128x8x1, .f32⟩
  | .hbm, ⟨66, _⟩ => ⟨S128x8x1, .f32⟩
  | .hbm, ⟨67, _⟩ => ⟨S_, .f32⟩
  | .hbm, ⟨68, _⟩ => ⟨S128x8x1, .f32⟩
  | .hbm, ⟨69, _⟩ => ⟨S128x8x1, .f32⟩
  | .hbm, ⟨70, _⟩ => ⟨S128x8x1, .f32⟩
  | .hbm, ⟨71, _⟩ => ⟨S128x8x2048, .f32⟩
  | .hbm, ⟨72, _⟩ => ⟨S128x8x2048, .f32⟩
  | .hbm, ⟨73, _⟩ => ⟨S1x1x2048, .f32⟩
  | .hbm, ⟨74, _⟩ => ⟨S128x8x2048, .f32⟩
  | .hbm, ⟨75, _⟩ => ⟨S128x8x2048, .f32⟩
  | .hbm, ⟨76, _⟩ => ⟨S128x8x2048, .f32⟩
  | .hbm, ⟨77, _⟩ => ⟨S_, .i1⟩
  | .hbm, ⟨78, _⟩ => ⟨S8x8, .i1⟩
  | .hbm, ⟨79, _⟩ => ⟨S8x8, .i32⟩
  | .hbm, ⟨80, _⟩ => ⟨S_, .i32⟩
  | .hbm, ⟨81, _⟩ => ⟨S8x8, .i32⟩
  | .hbm, ⟨82, _⟩ => ⟨S8x8, .i32⟩
  | .hbm, ⟨83, _⟩ => ⟨S8x8, .i32⟩
  | .hbm, ⟨84, _⟩ => ⟨S8x8, .i1⟩
  | .hbm, ⟨85, _⟩ => ⟨S_, .i1⟩
  | .hbm, ⟨86, _⟩ => ⟨S8x8, .i1⟩
  | .hbm, ⟨87, _⟩ => ⟨S8x8, .i1⟩
  | .hbm, ⟨88, _⟩ => ⟨S16x8x8, .f32⟩
  | .hbm, ⟨89, _⟩ => ⟨S_, .f32⟩
  | .hbm, ⟨90, _⟩ => ⟨S_, .f32⟩
  | .hbm, ⟨91, _⟩ => ⟨S16x8x8, .i1⟩
  | .hbm, ⟨92, _⟩ => ⟨S16x8x8, .f32⟩
  | .hbm, ⟨93, _⟩ => ⟨S16x8x8, .f32⟩
  | .hbm, ⟨94, _⟩ => ⟨S128x1x8x16x128, .f32⟩
  | .hbm, ⟨95, _⟩ => ⟨S16x128x1x128x8, .f32⟩
  | .hbm, ⟨96, _⟩ => ⟨S128x1x8x16x128, .f32⟩
  | .hbm, ⟨97, _⟩ => ⟨S16x8, .f32⟩
  | .hbm, ⟨98, _⟩ => ⟨S8x16, .f32⟩
  | .hbm, ⟨99, _⟩ => ⟨S1x1x8x16x1, .f32⟩
  | .hbm, ⟨100, _⟩ => ⟨S128x1x8x16x128, .f32⟩
  | .hbm, ⟨101, _⟩ => ⟨S128x1x8x16x128, .f32⟩
  | .hbm, ⟨102, _⟩ => ⟨S128x8x2048, .f32⟩
  | .hbm, ⟨103, _⟩ => ⟨S128x8x2048, .f32⟩
  | .hbm, ⟨104, _⟩ => ⟨S128x8x2048, .f32⟩
  | .hbm, ⟨105, _⟩ => ⟨S128x8x2048, .f32⟩
  | .hbm, ⟨106, _⟩ => ⟨S_, .f32⟩
  | .hbm, ⟨107, _⟩ => ⟨S128x8x2048, .f32⟩
  | .hbm, ⟨108, _⟩ => ⟨S128x8x2048, .f32⟩
  | .hbm, ⟨109, _⟩ => ⟨S_, .f32⟩
  | .hbm, ⟨110, _⟩ => ⟨S128x8x2048, .f32⟩
  | .hbm, ⟨111, _⟩ => ⟨S128x8x2048, .f32⟩
  | .hbm, ⟨112, _⟩ => ⟨S128x8x2048, .f32⟩
  | .hbm, ⟨113, _⟩ => ⟨S128x8x2048, .f32⟩
  | .hbm, ⟨114, _⟩ => ⟨S128x8x1024, .f32⟩
  | .hbm, ⟨115, _⟩ => ⟨S128x8x1024, .f32⟩
  | .hbm, ⟨116, _⟩ => ⟨S1024x1024, .f32⟩
  | .hbm, ⟨117, _⟩ => ⟨S1024x2048, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_cst_12 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c : Ref sig .tc := ⟨.hbm, 77, rfl⟩
abbrev main_v56 : Ref sig .tc := ⟨.hbm, 78, rfl⟩
abbrev main_call0_v0 : Ref sig .tc := ⟨.hbm, 79, rfl⟩
abbrev main_call0_c : Ref sig .tc := ⟨.hbm, 80, rfl⟩
abbrev main_call0_v1 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_c_0 : Ref sig .tc := ⟨.hbm, 85, rfl⟩
abbrev main_call0_v5 : Ref sig .tc := ⟨.hbm, 86, rfl⟩
abbrev main_v57 : Ref sig .tc := ⟨.hbm, 87, rfl⟩
abbrev main_v58 : Ref sig .tc := ⟨.hbm, 88, rfl⟩
abbrev main_cst_13 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_call2_v0 : Ref sig .tc := ⟨.hbm, 104, rfl⟩
abbrev main_call2_v1 : Ref sig .tc := ⟨.hbm, 105, rfl⟩
abbrev main_call2_cst : Ref sig .tc := ⟨.hbm, 106, rfl⟩
abbrev main_call2_v2 : Ref sig .tc := ⟨.hbm, 107, rfl⟩
abbrev main_call2_v3 : Ref sig .tc := ⟨.hbm, 108, rfl⟩
abbrev main_call2_cst_0 : Ref sig .tc := ⟨.hbm, 109, rfl⟩
abbrev main_call2_v4 : Ref sig .tc := ⟨.hbm, 110, rfl⟩
abbrev main_call2_v5 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩

abbrev nD : Nat := 1
abbrev τ : Topo := Topo.v7x

variable {F : FTy → Type} [FloatOps F]
-- ==== Kernel3.lean ====
abbrev S4x4096x1024 : Shape := ⟨3, ![4, 4096, 1024]⟩
abbrev S1024 : Shape := ⟨1, ![1024]⟩
abbrev S1024x4096 : Shape := ⟨2, ![1024, 4096]⟩
abbrev S64 : Shape := ⟨1, ![64]⟩
abbrev S16384x1024 : Shape := ⟨2, ![16384, 1024]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S1x64 : Shape := ⟨2, ![1, 64]⟩
abbrev S16x64 : Shape := ⟨2, ![16, 64]⟩
abbrev S1x1024 : Shape := ⟨2, ![1, 1024]⟩
abbrev S4x8x16x128x256 : Shape := ⟨5, ![4, 8, 16, 128, 256]⟩
abbrev S512x1024 : Shape := ⟨2, ![512, 1024]⟩
abbrev S1x8x2x128x256 : Shape := ⟨5, ![1, 8, 2, 128, 256]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S512x256 : Shape := ⟨2, ![512, 256]⟩
abbrev S1x512 : Shape := ⟨2, ![1, 512]⟩
abbrev S256x128 : Shape := ⟨2, ![256, 128]⟩
abbrev S128x256 : Shape := ⟨2, ![128, 256]⟩
abbrev S1x1x1x128x256 : Shape := ⟨5, ![1, 1, 1, 128, 256]⟩

abbrev nBuf : Space → Nat
  | .hbm => 66
  | .vmem => 19
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4096, .f32⟩
  | .hbm, ⟨3, _⟩ => ⟨S64, .f32⟩
  | .hbm, ⟨4, _⟩ => ⟨S64, .f32⟩
  | .hbm, ⟨5, _⟩ => ⟨S16384x1024, .f32⟩
  | .hbm, ⟨6, _⟩ => ⟨S256, .i32⟩
  | .hbm, ⟨7, _⟩ => ⟨S256x1, .i32⟩
  | .hbm, ⟨8, _⟩ => ⟨S_, .i32⟩
  | .hbm, ⟨9, _⟩ => ⟨S_, .i32⟩
  | .hbm, ⟨10, _⟩ => ⟨S256x1, .i32⟩
  | .hbm, ⟨11, _⟩ => ⟨S256x1, .i32⟩
  | .hbm, ⟨12, _⟩ => ⟨S256x1, .i32⟩
  | .hbm, ⟨13, _⟩ => ⟨S_, .i32⟩
  | .hbm, ⟨14, _⟩ => ⟨S256x1, .i32⟩
  | .hbm, ⟨15, _⟩ => ⟨S256x1, .i1⟩
  | .hbm, ⟨16, _⟩ => ⟨S256x1, .i32⟩
  | .hbm, ⟨17, _⟩ => ⟨S256x1, .i32⟩
  | .hbm, ⟨18, _⟩ => ⟨S_, .i32⟩
  | .hbm, ⟨19, _⟩ => ⟨S256x1, .i32⟩
  | .hbm, ⟨20, _⟩ => ⟨S256x1, .i1⟩
  | .hbm, ⟨21, _⟩ => ⟨S256x1, .i1⟩
  | .hbm, ⟨22, _⟩ => ⟨S_, .i32⟩
  | .hbm, ⟨23, _⟩ => ⟨S256x1, .i32⟩
  | .hbm, ⟨24, _⟩ => ⟨S256x1, .i32⟩
  | .hbm, ⟨25, _⟩ => ⟨S256x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S_, .i32⟩
  | .hbm, ⟨30, _⟩ => ⟨S1x256, .i32⟩
  | .hbm, ⟨31, _⟩ => ⟨S1x256, .i32⟩
  | .hbm, ⟨32, _⟩ => ⟨S1x256, .i32⟩
  | .hbm, ⟨33, _⟩ => ⟨S_, .i32⟩
  | .hbm, ⟨34, _⟩ => ⟨S1x256, .i32⟩
  | .hbm, ⟨35, _⟩ => ⟨S1x256, .i1⟩
  | .hbm, ⟨36, _⟩ => ⟨S1x256, .i32⟩
  | .hbm, ⟨37, _⟩ => ⟨S1x256, .i32⟩
  | .hbm, ⟨38, _⟩ => ⟨S_, .i32⟩
  | .hbm, ⟨39, _⟩ => ⟨S1x256, .i32⟩
  | .hbm, ⟨40, _⟩ => ⟨S1x256, .i1⟩
  | .hbm, ⟨41, _⟩ => ⟨S1x256, .i1⟩
  | .hbm, ⟨42, _⟩ => ⟨S_, .i32⟩
  | .hbm, ⟨43, _⟩ => ⟨S1x256, .i32⟩
  | .hbm, ⟨44, _⟩ => ⟨S1x256, .i32⟩
  | .hbm, ⟨45, _⟩ => ⟨S1x256, .i32⟩
  | .hbm, ⟨46, _⟩ => ⟨S256x256, .i32⟩
  | .hbm, ⟨47, _⟩ => ⟨S256x256, .i32⟩
  | .hbm, ⟨48, _⟩ => ⟨S256x256, .i1⟩
  | .hbm, ⟨49, _⟩ => ⟨S256x256, .bf16⟩
  | .hbm, ⟨50, _⟩ => ⟨S1x64, .f32⟩
  | .hbm, ⟨51, _⟩ => ⟨S16x64, .f32⟩
  | .hbm, ⟨52, _⟩ => ⟨S1024, .f32⟩
  | .hbm, ⟨53, _⟩ => ⟨S1x1024, .f32⟩
  | .hbm, ⟨54, _⟩ => ⟨S1x64, .f32⟩
  | .hbm, ⟨55, _⟩ => ⟨S16x64, .f32⟩
  | .hbm, ⟨56, _⟩ => ⟨S1024, .f32⟩
  | .hbm, ⟨57, _⟩ => ⟨S1x1024, .f32⟩
  | .hbm, ⟨58, _⟩ => ⟨S1x1024, .f32⟩
  | .hbm, ⟨59, _⟩ => ⟨S1024x4096, .bf16⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S4x8x16x128x256, .bf16⟩
  | .hbm, ⟨64, _⟩ => ⟨S16384x1024, .bf16⟩
  | .hbm, ⟨65, _⟩ => ⟨S4x8x16x128x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S256x256, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x8x2x128x256, .bf16⟩
  | .local _ .vmem, ⟨14, _⟩ => ⟨S1x8x2x128x256, .bf16⟩
  | .local _ .vmem, ⟨15, _⟩ => ⟨S512x1024, .bf16⟩
  | .local _ .vmem, ⟨16, _⟩ => ⟨S512x1024, .bf16⟩
  | .local _ .vmem, ⟨17, _⟩ => ⟨S1x8x2x128x256, .bf16⟩
  | .local _ .vmem, ⟨18, _⟩ => ⟨S1x8x2x128x256, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21_0 : Ref sig .tc := ⟨.hbm, 60, rfl⟩
abbrev main_v21_1 : Ref sig .tc := ⟨.hbm, 61, rfl⟩
abbrev main_v21_2 : Ref sig .tc := ⟨.hbm, 62, rfl⟩
abbrev main_v21_3 : Ref sig .tc := ⟨.hbm, 63, rfl⟩
abbrev main_v21_4 : Ref sig .tc := ⟨.hbm, 64, rfl⟩
abbrev main_v21_5 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x8x2x128x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x2x128x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S4x4096x1024 : Shape := ⟨3, ![4, 4096, 1024]⟩
abbrev S1024 : Shape := ⟨1, ![1024]⟩
abbrev S1024x4096 : Shape := ⟨2, ![1024, 4096]⟩
abbrev S64 : Shape := ⟨1, ![64]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩
abbrev S4x4096x8x2x64 : Shape := ⟨5, ![4, 4096, 8, 2, 64]⟩
abbrev S4x4096x8x2 : Shape := ⟨4, ![4, 4096, 8, 2]⟩
abbrev S4x4096x8x2x1 : Shape := ⟨5, ![4, 4096, 8, 2, 1]⟩
abbrev S1x1x1x1x64 : Shape := ⟨5, ![1, 1, 1, 1, 64]⟩
abbrev S4x4096x8x128 : Shape := ⟨4, ![4, 4096, 8, 128]⟩
abbrev S4x16x256x8x128 : Shape := ⟨5, ![4, 16, 256, 8, 128]⟩
abbrev S4x8x16x128x256 : Shape := ⟨5, ![4, 8, 16, 128, 256]⟩
abbrev S16384x1024 : Shape := ⟨2, ![16384, 1024]⟩

abbrev nBuf : Space → Nat
  | .hbm => 74
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4096, .f32⟩
  | .hbm, ⟨3, _⟩ => ⟨S64, .f32⟩
  | .hbm, ⟨4, _⟩ => ⟨S64, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S4x4096x4096, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S4x4096x8x2x64, .f32⟩
  | .hbm, ⟨27, _⟩ => ⟨S4x4096x8x2x64, .f32⟩
  | .hbm, ⟨28, _⟩ => ⟨S_, .f32⟩
  | .hbm, ⟨29, _⟩ => ⟨S4x4096x8x2, .f32⟩
  | .hbm, ⟨30, _⟩ => ⟨S4x4096x8x2x1, .f32⟩
  | .hbm, ⟨31, _⟩ => ⟨S_, .f32⟩
  | .hbm, ⟨32, _⟩ => ⟨S4x4096x8x2x1, .f32⟩
  | .hbm, ⟨33, _⟩ => ⟨S4x4096x8x2x1, .f32⟩
  | .hbm, ⟨34, _⟩ => ⟨S_, .f32⟩
  | .hbm, ⟨35, _⟩ => ⟨S4x4096x8x2x1, .f32⟩
  | .hbm, ⟨36, _⟩ => ⟨S4x4096x8x2x1, .f32⟩
  | .hbm, ⟨37, _⟩ => ⟨S4x4096x8x2x1, .f32⟩
  | .hbm, ⟨38, _⟩ => ⟨S4x4096x8x2x64, .f32⟩
  | .hbm, ⟨39, _⟩ => ⟨S4x4096x8x2x64, .f32⟩
  | .hbm, ⟨40, _⟩ => ⟨S1x1x1x1x64, .f32⟩
  | .hbm, ⟨41, _⟩ => ⟨S4x4096x8x2x64, .f32⟩
  | .hbm, ⟨42, _⟩ => ⟨S4x4096x8x2x64, .f32⟩
  | .hbm, ⟨43, _⟩ => ⟨S4x4096x8x2x64, .f32⟩
  | .hbm, ⟨44, _⟩ => ⟨S4x4096x8x2x64, .f32⟩
  | .hbm, ⟨45, _⟩ => ⟨S_, .f32⟩
  | .hbm, ⟨46, _⟩ => ⟨S4x4096x8x2, .f32⟩
  | .hbm, ⟨47, _⟩ => ⟨S4x4096x8x2x1, .f32⟩
  | .hbm, ⟨48, _⟩ => ⟨S_, .f32⟩
  | .hbm, ⟨49, _⟩ => ⟨S4x4096x8x2x1, .f32⟩
  | .hbm, ⟨50, _⟩ => ⟨S4x4096x8x2x1, .f32⟩
  | .hbm, ⟨51, _⟩ => ⟨S_, .f32⟩
  | .hbm, ⟨52, _⟩ => ⟨S4x4096x8x2x1, .f32⟩
  | .hbm, ⟨53, _⟩ => ⟨S4x4096x8x2x1, .f32⟩
  | .hbm, ⟨54, _⟩ => ⟨S4x4096x8x2x1, .f32⟩
  | .hbm, ⟨55, _⟩ => ⟨S4x4096x8x2x64, .f32⟩
  | .hbm, ⟨56, _⟩ => ⟨S4x4096x8x2x64, .f32⟩
  | .hbm, ⟨57, _⟩ => ⟨S1x1x1x1x64, .f32⟩
  | .hbm, ⟨58, _⟩ => ⟨S4x4096x8x2x64, .f32⟩
  | .hbm, ⟨59, _⟩ => ⟨S4x4096x8x2x64, .f32⟩
  | .hbm, ⟨60, _⟩ => ⟨S4x4096x8x128, .f32⟩
  | .hbm, ⟨61, _⟩ => ⟨S_, .f32⟩
  | .hbm, ⟨62, _⟩ => ⟨S4x4096x8x2x64, .f32⟩
  | .hbm, ⟨63, _⟩ => ⟨S4x4096x8x2x64, .f32⟩
  | .hbm, ⟨64, _⟩ => ⟨S4x16x256x8x128, .f32⟩
  | .hbm, ⟨65, _⟩ => ⟨S4x8x16x128x256, .f32⟩
  | .hbm, ⟨66, _⟩ => ⟨S4x8x16x128x256, .bf16⟩
  | .hbm, ⟨67, _⟩ => ⟨S4x16x256x8x128, .f32⟩
  | .hbm, ⟨68, _⟩ => ⟨S4x8x16x128x256, .f32⟩
  | .hbm, ⟨69, _⟩ => ⟨S4x8x16x128x256, .bf16⟩
  | .hbm, ⟨70, _⟩ => ⟨S16384x1024, .f32⟩
  | .hbm, ⟨71, _⟩ => ⟨S16384x1024, .f32⟩
  | .hbm, ⟨72, _⟩ => ⟨S16384x1024, .f32⟩
  | .hbm, ⟨73, _⟩ => ⟨S16384x1024, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== Kernel10.lean ====
abbrev S4x4096x1024 : Shape := ⟨3, ![4, 4096, 1024]⟩
abbrev S1024 : Shape := ⟨1, ![1024]⟩
abbrev S1024x8192 : Shape := ⟨2, ![1024, 8192]⟩
abbrev S4x2048 : Shape := ⟨2, ![4, 2048]⟩
abbrev S16384x1024 : Shape := ⟨2, ![16384, 1024]⟩
abbrev S1024x2048 : Shape := ⟨2, ![1024, 2048]⟩
abbrev S1x1024 : Shape := ⟨2, ![1, 1024]⟩
abbrev S16x16384x128 : Shape := ⟨3, ![16, 16384, 128]⟩
abbrev S512x1024 : Shape := ⟨2, ![512, 1024]⟩
abbrev S16x512x128 : Shape := ⟨3, ![16, 512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S4x512 : Shape := ⟨2, ![4, 512]⟩
abbrev S1x512 : Shape := ⟨2, ![1, 512]⟩
abbrev S512x128 : Shape := ⟨2, ![512, 128]⟩
abbrev S1x512x128 : Shape := ⟨3, ![1, 512, 128]⟩

abbrev nBuf : Space → Nat
  | .hbm => 10
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x8192, .f32⟩
  | .hbm, ⟨3, _⟩ => ⟨S4x2048, .f32⟩
  | .hbm, ⟨4, _⟩ => ⟨S16384x1024, .f32⟩
  | .hbm, ⟨5, _⟩ => ⟨S1024x2048, .f32⟩
  | .hbm, ⟨6, _⟩ => ⟨S1x1024, .f32⟩
  | .hbm, ⟨7, _⟩ => ⟨S1024x2048, .bf16⟩
  | .hbm, ⟨8, _⟩ => ⟨S16x16384x128, .f32⟩
  | .hbm, ⟨9, _⟩ => ⟨S16x16384x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2048, .bf16⟩
  | .local _ .vmem, ⟨4, _⟩ => ⟨S4x2048, .f32⟩
  | .local _ .vmem, ⟨5, _⟩ => ⟨S16x512x128, .f32⟩
  | .local _ .vmem, ⟨6, _⟩ => ⟨S16x512x128, .f32⟩
  | .local _ .vmem, ⟨7, _⟩ => ⟨S16x512x128, .f32⟩
  | .local _ .vmem, ⟨8, _⟩ => ⟨S16x512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S4x4096x1024 : Shape := ⟨3, ![4, 4096, 1024]⟩
abbrev S1024 : Shape := ⟨1, ![1024]⟩
abbrev S1024x8192 : Shape := ⟨2, ![1024, 8192]⟩
abbrev S4x2048 : Shape := ⟨2, ![4, 2048]⟩
abbrev S_ : Shape := ⟨0, ![]⟩
abbrev S2048 : Shape := ⟨1, ![2048]⟩
abbrev S1x2048 : Shape := ⟨2, ![1, 2048]⟩
abbrev S4x4096 : Shape := ⟨2, ![4, 4096]⟩
abbrev S4x4096x1 : Shape := ⟨3, ![4, 4096, 1]⟩
abbrev S1x1x1024 : Shape := ⟨3, ![1, 1, 1024]⟩
abbrev S4x4096x8192 : Shape := ⟨3, ![4, 4096, 8192]⟩
abbrev S4x4096x2048 : Shape := ⟨3, ![4, 4096, 2048]⟩
abbrev S1x1x2048 : Shape := ⟨3, ![1, 1, 2048]⟩
abbrev S16384x16x128 : Shape := ⟨3, ![16384, 16, 128]⟩
abbrev S16x16384x128 : Shape := ⟨3, ![16, 16384, 128]⟩

abbrev nBuf : Space → Nat
  | .hbm => 101
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x8192, .f32⟩
  | .hbm, ⟨3, _⟩ => ⟨S4x2048, .f32⟩
  | .hbm, ⟨4, _⟩ => ⟨S_, .f32⟩
  | .hbm, ⟨5, _⟩ => ⟨S2048, .f32⟩
  | .hbm, ⟨6, _⟩ => ⟨S_, .f32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S4x2048, .f32⟩
  | .hbm, ⟨11, _⟩ => ⟨S4x2048, .f32⟩
  | .hbm, ⟨12, _⟩ => ⟨S4x2048, .f32⟩
  | .hbm, ⟨13, _⟩ => ⟨S_, .f32⟩
  | .hbm, ⟨14, _⟩ => ⟨S2048, .f32⟩
  | .hbm, ⟨15, _⟩ => ⟨S1x2048, .f32⟩
  | .hbm, ⟨16, _⟩ => ⟨S4x2048, .f32⟩
  | .hbm, ⟨17, _⟩ => ⟨S4x2048, .f32⟩
  | .hbm, ⟨18, _⟩ => ⟨S_, .f32⟩
  | .hbm, ⟨19, _⟩ => ⟨S_, .f32⟩
  | .hbm, ⟨20, _⟩ => ⟨S4x2048, .f32⟩
  | .hbm, ⟨21, _⟩ => ⟨S1x2048, .f32⟩
  | .hbm, ⟨22, _⟩ => ⟨S2048, .f32⟩
  | .hbm, ⟨23, _⟩ => ⟨S1x2048, .f32⟩
  | .hbm, ⟨24, _⟩ => ⟨S4x2048, .f32⟩
  | .hbm, ⟨25, _⟩ => ⟨S4x2048, .f32⟩
  | .hbm, ⟨26, _⟩ => ⟨S1x2048, .f32⟩
  | .hbm, ⟨27, _⟩ => ⟨S2048, .f32⟩
  | .hbm, ⟨28, _⟩ => ⟨S4x4096x1024, .f32⟩
  | .hbm, ⟨29, _⟩ => ⟨S_, .f32⟩
  | .hbm, ⟨30, _⟩ => ⟨S4x4096, .f32⟩
  | .hbm, ⟨31, _⟩ => ⟨S4x4096x1, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S4x4096x1, .f32⟩
  | .hbm, ⟨39, _⟩ => ⟨S4x4096x1024, .f32⟩
  | .hbm, ⟨40, _⟩ => ⟨S4x4096x1024, .f32⟩
  | .hbm, ⟨41, _⟩ => ⟨S1x1x1024, .f32⟩
  | .hbm, ⟨42, _⟩ => ⟨S4x4096x1024, .f32⟩
  | .hbm, ⟨43, _⟩ => ⟨S4x4096x1024, .f32⟩
  | .hbm, ⟨44, _⟩ => ⟨S4x4096x8192, .f32⟩
  | .hbm, ⟨45, _⟩ => ⟨S4x4096x2048, .f32⟩
  | .hbm, ⟨46, _⟩ => ⟨S2048, .f32⟩
  | .hbm, ⟨47, _⟩ => ⟨S2048, .f32⟩
  | .hbm, ⟨48, _⟩ => ⟨S2048, .f32⟩
  | .hbm, ⟨49, _⟩ => ⟨S4x4096x2048, .f32⟩
  | .hbm, ⟨50, _⟩ => ⟨S_, .f32⟩
  | .hbm, ⟨51, _⟩ => ⟨S4x4096x2048, .f32⟩
  | .hbm, ⟨52, _⟩ => ⟨S4x4096x2048, .f32⟩
  | .hbm, ⟨53, _⟩ => ⟨S4x4096x2048, .f32⟩
  | .hbm, ⟨54, _⟩ => ⟨S4x4096x2048, .f32⟩
  | .hbm, ⟨55, _⟩ => ⟨S4x4096x2048, .i1⟩
  | .hbm, ⟨56, _⟩ => ⟨S4x4096x2048, .f32⟩
  | .hbm, ⟨57, _⟩ => ⟨S4x4096x2048, .f32⟩
  | .hbm, ⟨58, _⟩ => ⟨S4x4096x2048, .f32⟩
  | .hbm, ⟨59, _⟩ => ⟨S4x4096x2048, .f32⟩
  | .hbm, ⟨60, _⟩ => ⟨S4x4096x2048, .f32⟩
  | .hbm, ⟨61, _⟩ => ⟨S4x4096x2048, .f32⟩
  | .hbm, ⟨62, _⟩ => ⟨S4x4096x2048, .f32⟩
  | .hbm, ⟨63, _⟩ => ⟨S4x4096x2048, .f32⟩
  | .hbm, ⟨64, _⟩ => ⟨S4x4096x2048, .f32⟩
  | .hbm, ⟨65, _⟩ => ⟨S1x1x2048, .f32⟩
  | .hbm, ⟨66, _⟩ => ⟨S4x4096x2048, .f32⟩
  | .hbm, ⟨67, _⟩ => ⟨S4x4096x2048, .f32⟩
  | .hbm, ⟨68, _⟩ => ⟨S1x1x2048, .f32⟩
  | .hbm, ⟨69, _⟩ => ⟨S4x4096x2048, .f32⟩
  | .hbm, ⟨70, _⟩ => ⟨S4x4096x2048, .f32⟩
  | .hbm, ⟨71, _⟩ => ⟨S4x4096x2048, .f32⟩
  | .hbm, ⟨72, _⟩ => ⟨S4x4096x2048, .f32⟩
  | .hbm, ⟨73, _⟩ => ⟨S4x4096x2048, .i1⟩
  | .hbm, ⟨74, _⟩ => ⟨S4x4096x2048, .f32⟩
  | .hbm, ⟨75, _⟩ => ⟨S4x4096x2048, .f32⟩
  | .hbm, ⟨76, _⟩ => ⟨S4x4096x2048, .f32⟩
  | .hbm, ⟨77, _⟩ => ⟨S4x4096x2048, .f32⟩
  | .hbm, ⟨78, _⟩ => ⟨S4x4096x2048, .f32⟩
  | .hbm, ⟨79, _⟩ => ⟨S4x4096x2048, .f32⟩
  | .hbm, ⟨80, _⟩ => ⟨S4x4096x2048, .f32⟩
  | .hbm, ⟨81, _⟩ => ⟨S4x4096x2048, .f32⟩
  | .hbm, ⟨82, _⟩ => ⟨S_, .f32⟩
  | .hbm, ⟨83, _⟩ => ⟨S2048, .f32⟩
  | .hbm, ⟨84, _⟩ => ⟨S2048, .f32⟩
  | .hbm, ⟨85, _⟩ => ⟨S4x4096x2048, .f32⟩
  | .hbm, ⟨86, _⟩ => ⟨S4x4096x2048, .f32⟩
  | .hbm, ⟨87, _⟩ => ⟨S4x4096x2048, .f32⟩
  | .hbm, ⟨88, _⟩ => ⟨S_, .f32⟩
  | .hbm, ⟨89, _⟩ => ⟨S4x4096x2048, .f32⟩
  | .hbm, ⟨90, _⟩ => ⟨S4x4096x2048, .f32⟩
  | .hbm, ⟨91, _⟩ => ⟨S_, .f32⟩
  | .hbm, ⟨92, _⟩ => ⟨S4x4096x2048, .f32⟩
  | .hbm, ⟨93, _⟩ => ⟨S4x4096x2048, .f32⟩
  | .hbm, ⟨94, _⟩ => ⟨S1x1x2048, .f32⟩
  | .hbm, ⟨95, _⟩ => ⟨S4x4096x2048, .f32⟩
  | .hbm, ⟨96, _⟩ => ⟨S4x4096x2048, .f32⟩
  | .hbm, ⟨97, _⟩ => ⟨S16384x16x128, .f32⟩
  | .hbm, ⟨98, _⟩ => ⟨S16x16384x128, .f32⟩
  | .hbm, ⟨99, _⟩ => ⟨S16384x16x128, .f32⟩
  | .hbm, ⟨100, _⟩ => ⟨S16x16384x128, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call1_v0 : Ref sig .tc := ⟨.hbm, 49, rfl⟩
abbrev main_call1_call0_cst : Ref sig .tc := ⟨.hbm, 50, rfl⟩
abbrev main_call1_call0_v0 : Ref sig .tc := ⟨.hbm, 51, rfl⟩
abbrev main_call1_call0_v1 : Ref sig .tc := ⟨.hbm, 52, rfl⟩
abbrev main_call1_call0_v2 : Ref sig .tc := ⟨.hbm, 53, rfl⟩
abbrev main_call1_call0_v3 : Ref sig .tc := ⟨.hbm, 54, rfl⟩
abbrev main_call1_call0_v4 : Ref sig .tc := ⟨.hbm, 55, rfl⟩
abbrev main_call1_call0_v5 : Ref sig .tc := ⟨.hbm, 56, rfl⟩
abbrev main_call1_call0_v6 : Ref sig .tc := ⟨.hbm, 57, rfl⟩
abbrev main_call1_call0_v7 : Ref sig .tc := ⟨.hbm, 58, rfl⟩
abbrev main_call1_call0_v8 : Ref sig .tc := ⟨.hbm, 59, rfl⟩
abbrev main_call1_call0_v9 : Ref sig .tc := ⟨.hbm, 60, rfl⟩
abbrev main_call1_call0_v10 : Ref sig .tc := ⟨.hbm, 61, rfl⟩
abbrev main_call1_call0_v11 : Ref sig .tc := ⟨.hbm, 62, rfl⟩
abbrev main_call1_v1 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_5 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_cst_6 : Ref sig .tc := ⟨.hbm, 88, rfl⟩
abbrev main_v60 : Ref sig .tc := ⟨.hbm, 89, rfl⟩
abbrev main_v61 : Ref sig .tc := ⟨.hbm, 90, rfl⟩
abbrev main_cst_7 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩

abbrev nD : Nat := 1
abbrev τ : Topo := Topo.v7x

variable {F : FTy → Type} [FloatOps F]
-- ==== Kernel11.lean ====
abbrev S4x4096x1024 : Shape := ⟨3, ![4, 4096, 1024]⟩
abbrev S1024 : Shape := ⟨1, ![1024]⟩
abbrev S1024x6144 : Shape := ⟨2, ![1024, 6144]⟩
abbrev S2048 : Shape := ⟨1, ![2048]⟩
abbrev S16x128x128 : Shape := ⟨3, ![16, 128, 128]⟩
abbrev S16x128 : Shape := ⟨2, ![16, 128]⟩
abbrev S2048x1024 : Shape := ⟨2, ![2048, 1024]⟩
abbrev S1024x4096 : Shape := ⟨2, ![1024, 4096]⟩
abbrev S64 : Shape := ⟨1, ![64]⟩
abbrev S16384x1024 : Shape := ⟨2, ![16384, 1024]⟩
abbrev S1x16x1x128x1x128 : Shape := ⟨6, ![1, 16, 1, 128, 1, 128]⟩
abbrev S1x16x1x128 : Shape := ⟨4, ![1, 16, 1, 128]⟩
abbrev S16x128x1 : Shape := ⟨3, ![16, 128, 1]⟩
abbrev S1x1024 : Shape := ⟨2, ![1, 1024]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S128x128 : Shape := ⟨2, ![128, 128]⟩
abbrev S1x128x128 : Shape := ⟨3, ![1, 128, 128]⟩
abbrev S_ : Shape := ⟨0, ![]⟩
abbrev S1x256 : Shape := ⟨2, ![1, 256]⟩
abbrev S256x256 : Shape := ⟨2, ![256, 256]⟩
abbrev S1x64 : Shape := ⟨2, ![1, 64]⟩
abbrev S16x64 : Shape := ⟨2, ![16, 64]⟩
abbrev S4x8x16x128x256 : Shape := ⟨5, ![4, 8, 16, 128, 256]⟩
abbrev S512x1024 : Shape := ⟨2, ![512, 1024]⟩
abbrev S1x8x2x128x256 : Shape := ⟨5, ![1, 8, 2, 128, 256]⟩
abbrev S512 : Shape := ⟨1, ![512]⟩
abbrev S512x1 : Shape := ⟨2, ![512, 1]⟩
abbrev S512x512 : Shape := ⟨2, ![512, 512]⟩
abbrev S512x256 : Shape := ⟨2, ![512, 256]⟩
abbrev S1x512 : Shape := ⟨2, ![1, 512]⟩
abbrev S256x128 : Shape := ⟨2, ![256, 128]⟩
abbrev S128x256 : Shape := ⟨2, ![128, 256]⟩
abbrev S1x1x1x128x256 : Shape := ⟨5, ![1, 1, 1, 128, 256]⟩

abbrev nBuf : Space → Nat
  | .hbm => 85
  | .vmem => 33
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x6144, .f32⟩
  | .hbm, ⟨3, _⟩ => ⟨S2048, .f32⟩
  | .hbm, ⟨4, _⟩ => ⟨S16x128x128, .f32⟩
  | .hbm, ⟨5, _⟩ => ⟨S16x128, .f32⟩
  | .hbm, ⟨6, _⟩ => ⟨S2048x1024, .f32⟩
  | .hbm, ⟨7, _⟩ => ⟨S1024, .f32⟩
  | .hbm, ⟨8, _⟩ => ⟨S1024x4096, .f32⟩
  | .hbm, ⟨9, _⟩ => ⟨S64, .f32⟩
  | .hbm, ⟨10, _⟩ => ⟨S64, .f32⟩
  | .hbm, ⟨11, _⟩ => ⟨S16384x1024, .f32⟩
  | .hbm, ⟨12, _⟩ => ⟨S1x16x1x128x1x128, .f32⟩
  | .hbm, ⟨13, _⟩ => ⟨S1x16x1x128x1x128, .f32⟩
  | .hbm, ⟨14, _⟩ => ⟨S16x128x128, .f32⟩
  | .hbm, ⟨15, _⟩ => ⟨S1x16x1x128, .f32⟩
  | .hbm, ⟨16, _⟩ => ⟨S1x16x1x128, .f32⟩
  | .hbm, ⟨17, _⟩ => ⟨S16x128, .f32⟩
  | .hbm, ⟨18, _⟩ => ⟨S16x128x1, .f32⟩
  | .hbm, ⟨19, _⟩ => ⟨S16x128x128, .f32⟩
  | .hbm, ⟨20, _⟩ => ⟨S1x1024, .f32⟩
  | .hbm, ⟨21, _⟩ => ⟨S1024x6144, .bf16⟩
  | .hbm, ⟨22, _⟩ => ⟨S1x2048, .f32⟩
  | .hbm, ⟨23, _⟩ => ⟨S2048x1024, .bf16⟩
  | .hbm, ⟨24, _⟩ => ⟨S16384x1024, .f32⟩
  | .hbm, ⟨25, _⟩ => ⟨S256, .i32⟩
  | .hbm, ⟨26, _⟩ => ⟨S256x1, .i32⟩
  | .hbm, ⟨27, _⟩ => ⟨S_, .i32⟩
  | .hbm, ⟨28, _⟩ => ⟨S_, .i32⟩
  | .hbm, ⟨29, _⟩ => ⟨S256x1, .i32⟩
  | .hbm, ⟨30, _⟩ => ⟨S256x1, .i32⟩
  | .hbm, ⟨31, _⟩ => ⟨S256x1, .i32⟩
  | .hbm, ⟨32, _⟩ => ⟨S_, .i32⟩
  | .hbm, ⟨33, _⟩ => ⟨S256x1, .i32⟩
  | .hbm, ⟨34, _⟩ => ⟨S256x1, .i1⟩
  | .hbm, ⟨35, _⟩ => ⟨S256x1, .i32⟩
  | .hbm, ⟨36, _⟩ => ⟨S256x1, .i32⟩
  | .hbm, ⟨37, _⟩ => ⟨S_, .i32⟩
  | .hbm, ⟨38, _⟩ => ⟨S256x1, .i32⟩
  | .hbm, ⟨39, _⟩ => ⟨S256x1, .i1⟩
  | .hbm, ⟨40, _⟩ => ⟨S256x1, .i1⟩
  | .hbm, ⟨41, _⟩ => ⟨S_, .i32⟩
  | .hbm, ⟨42, _⟩ => ⟨S256x1, .i32⟩
  | .hbm, ⟨43, _⟩ => ⟨S256x1, .i32⟩
  | .hbm, ⟨44, _⟩ => ⟨S256x1, .i32⟩
  | .hbm, ⟨45, _⟩ => ⟨S256, .i32⟩
  | .hbm, ⟨46, _⟩ => ⟨S1x256, .i32⟩
  | .hbm, ⟨47, _⟩ => ⟨S_, .i32⟩
  | .hbm, ⟨48, _⟩ => ⟨S_, .i32⟩
  | .hbm, ⟨49, _⟩ => ⟨S1x256, .i32⟩
  | .hbm, ⟨50, _⟩ => ⟨S1x256, .i32⟩
  | .hbm, ⟨51, _⟩ => ⟨S1x256, .i32⟩
  | .hbm, ⟨52, _⟩ => ⟨S_, .i32⟩
  | .hbm, ⟨53, _⟩ => ⟨S1x256, .i32⟩
  | .hbm, ⟨54, _⟩ => ⟨S1x256, .i1⟩
  | .hbm, ⟨55, _⟩ => ⟨S1x256, .i32⟩
  | .hbm, ⟨56, _⟩ => ⟨S1x256, .i32⟩
  | .hbm, ⟨57, _⟩ => ⟨S_, .i32⟩
  | .hbm, ⟨58, _⟩ => ⟨S1x256, .i32⟩
  | .hbm, ⟨59, _⟩ => ⟨S1x256, .i1⟩
  | .hbm, ⟨60, _⟩ => ⟨S1x256, .i1⟩
  | .hbm, ⟨61, _⟩ => ⟨S_, .i32⟩
  | .hbm, ⟨62, _⟩ => ⟨S1x256, .i32⟩
  | .hbm, ⟨63, _⟩ => ⟨S1x256, .i32⟩
  | .hbm, ⟨64, _⟩ => ⟨S1x256, .i32⟩
  | .hbm, ⟨65, _⟩ => ⟨S256x256, .i32⟩
  | .hbm, ⟨66, _⟩ => ⟨S256x256, .i32⟩
  | .hbm, ⟨67, _⟩ => ⟨S256x256, .i1⟩
  | .hbm, ⟨68, _⟩ => ⟨S256x256, .bf16⟩
  | .hbm, ⟨69, _⟩ => ⟨S1x64, .f32⟩
  | .hbm, ⟨70, _⟩ => ⟨S16x64, .f32⟩
  | .hbm, ⟨71, _⟩ => ⟨S1024, .f32⟩
  | .hbm, ⟨72, _⟩ => ⟨S1x1024, .f32⟩
  | .hbm, ⟨73, _⟩ => ⟨S1x64, .f32⟩
  | .hbm, ⟨74, _⟩ => ⟨S16x64, .f32⟩
  | .hbm, ⟨75, _⟩ => ⟨S1024, .f32⟩
  | .hbm, ⟨76, _⟩ => ⟨S1x1024, .f32⟩
  | .hbm, ⟨77, _⟩ => ⟨S1x1024, .f32⟩
  | .hbm, ⟨78, _⟩ => ⟨S1024x4096, .bf16⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S4x8x16x128x256, .bf16⟩
  | .hbm, ⟨83, _⟩ => ⟨S16384x1024, .bf16⟩
  | .hbm, ⟨84, _⟩ => ⟨S4x8x16x128x256, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6144, .bf16⟩
  | .local _ .vmem, ⟨4, _⟩ => ⟨S1x2048, .f32⟩
  | .local _ .vmem, ⟨5, _⟩ => ⟨S16x128x128, .f32⟩
  | .local _ .vmem, ⟨6, _⟩ => ⟨S16x128x128, .f32⟩
  | .local _ .vmem, ⟨7, _⟩ => ⟨S2048x1024, .bf16⟩
  | .local _ .vmem, ⟨8, _⟩ => ⟨S256x1024, .f32⟩
  | .local _ .vmem, ⟨9, _⟩ => ⟨S256x1024, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1024x4096, .bf16⟩
  | .local _ .vmem, ⟨18, _⟩ => ⟨S1x1024, .f32⟩
  | .local _ .vmem, ⟨19, _⟩ => ⟨S1x1024, .f32⟩
  | .local _ .vmem, ⟨20, _⟩ => ⟨S256x256, .bf16⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S1x8x2x128x256, .bf16⟩
  | .local _ .vmem, ⟨28, _⟩ => ⟨S1x8x2x128x256, .bf16⟩
  | .local _ .vmem, ⟨29, _⟩ => ⟨S512x1024, .bf16⟩
  | .local _ .vmem, ⟨30, _⟩ => ⟨S512x1024, .bf16⟩
  | .local _ .vmem, ⟨31, _⟩ => ⟨S1x8x2x128x256, .bf16⟩
  | .local _ .vmem, ⟨32, _⟩ => ⟨S1x8x2x128x256, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c_0 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_c : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_0 : Ref sig .tc := ⟨.hbm, 61, rfl⟩
abbrev main_call1_v12 : Ref sig .tc := ⟨.hbm, 62, rfl⟩
abbrev main_call1_v13 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34_0 : Ref sig .tc := ⟨.hbm, 79, rfl⟩
abbrev main_v34_1 : Ref sig .tc := ⟨.hbm, 80, rfl⟩
abbrev main_v34_2 : Ref sig .tc := ⟨.hbm, 81, rfl⟩
abbrev main_v34_3 : Ref sig .tc := ⟨.hbm, 82, rfl⟩
abbrev main_v34_4 : Ref sig .tc := ⟨.hbm, 83, rfl⟩
abbrev main_v34_5 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_stg9_0 : Ref sig .tc := ⟨.vmem, 27, rfl⟩
abbrev cc1_stg9_1 : Ref sig .tc := ⟨.vmem, 28, rfl⟩
abbrev cc1_stg10_0 : Ref sig .tc := ⟨.vmem, 29, rfl⟩
abbrev cc1_stg10_1 : Ref sig .tc := ⟨.vmem, 30, rfl⟩
abbrev cc1_stg11_0 : Ref sig .tc := ⟨.vmem, 31, rfl⟩
abbrev cc1_stg11_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc1_sem9_0 : DmaSem sig := 23
abbrev cc1_sem9_1 : DmaSem sig := 24
abbrev cc1_sem10_0 : DmaSem sig := 25
abbrev cc1_sem10_1 : DmaSem sig := 26
abbrev cc1_sem11_0 : DmaSem sig := 27
abbrev cc1_sem11_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 5 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  let c0_i32_13 : BitVec 32 := 0#32
  ![v16.toNat, c0_i32_10.toNat, v26.toNat, c0_i32_11.toNat, c0_i32_12.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x4096 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x8x2x128x256 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x8x2x128x256 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]
-- ==== Reference11Ideal.lean ====
abbrev S4x4096x1024 : Shape := ⟨3, ![4, 4096, 1024]⟩
abbrev S1024 : Shape := ⟨1, ![1024]⟩
abbrev S1024x6144 : Shape := ⟨2, ![1024, 6144]⟩
abbrev S2048 : Shape := ⟨1, ![2048]⟩
abbrev S16x128x128 : Shape := ⟨3, ![16, 128, 128]⟩
abbrev S16x128 : Shape := ⟨2, ![16, 128]⟩
abbrev S2048x1024 : Shape := ⟨2, ![2048, 1024]⟩
abbrev S1024x4096 : Shape := ⟨2, ![1024, 4096]⟩
abbrev S64 : Shape := ⟨1, ![64]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x6144 : Shape := ⟨3, ![4, 4096, 6144]⟩
abbrev S4x4096x2048 : Shape := ⟨3, ![4, 4096, 2048]⟩
abbrev S1x1x2048 : Shape := ⟨3, ![1, 1, 2048]⟩
abbrev S128x128 : Shape := ⟨2, ![128, 128]⟩
abbrev S4x32x128x16x128 : Shape := ⟨5, ![4, 32, 128, 16, 128]⟩
abbrev S16x4x32x128x128 : Shape := ⟨5, ![16, 4, 32, 128, 128]⟩
abbrev S128x16 : Shape := ⟨2, ![128, 16]⟩
abbrev S1x1x128x16x1 : Shape := ⟨5, ![1, 1, 128, 16, 1]⟩
abbrev S4x4096x4096 : Shape := ⟨3, ![4, 4096, 4096]⟩
abbrev S4x4096x8x2x64 : Shape := ⟨5, ![4, 4096, 8, 2, 64]⟩
abbrev S4x4096x8x2 : Shape := ⟨4, ![4, 4096, 8, 2]⟩
abbrev S4x4096x8x2x1 : Shape := ⟨5, ![4, 4096, 8, 2, 1]⟩
abbrev S1x1x1x1x64 : Shape := ⟨5, ![1, 1, 1, 1, 64]⟩
abbrev S4x4096x8x128 : Shape := ⟨4, ![4, 4096, 8, 128]⟩
abbrev S16384x1024 : Shape := ⟨2, ![16384, 1024]⟩

abbrev nBuf : Space → Nat
  | .hbm => 176
  | .vmem => 0
  | .smem => 0
  | _ => 0

abbrev hbmTy0_0 (i : Nat) : BufTy := match i % 128 with
  | 0 => ⟨S4x4096x1024, .f32⟩
  | 1 => ⟨S1024, .f32⟩
  | 2 => ⟨S1024x6144, .f32⟩
  | 3 => ⟨S2048, .f32⟩
  | 4 => ⟨S16x128x128, .f32⟩
  | 5 => ⟨S16x128, .f32⟩
  | 6 => ⟨S2048x1024, .f32⟩
  | 7 => ⟨S1024, .f32⟩
  | 8 => ⟨S1024x4096, .f32⟩
  | 9 => ⟨S64, .f32⟩
  | 10 => ⟨S64, .f32⟩
  | 11 => ⟨S4x4096x1024, .f32⟩
  | 12 => ⟨S_, .f32⟩
  | 13 => ⟨S4x4096, .f32⟩
  | 14 => ⟨S4x4096x1, .f32⟩
  | 15 => ⟨S_, .f32⟩
  | 16 => ⟨S4x4096x1, .f32⟩
  | 17 => ⟨S4x4096x1, .f32⟩
  | 18 => ⟨S_, .f32⟩
  | 19 => ⟨S4x4096x1, .f32⟩
  | 20 => ⟨S4x4096x1, .f32⟩
  | 21 => ⟨S4x4096x1, .f32⟩
  | 22 => ⟨S4x4096x1024, .f32⟩
  | 23 => ⟨S4x4096x1024, .f32⟩
  | 24 => ⟨S1x1x1024, .f32⟩
  | 25 => ⟨S4x4096x1024, .f32⟩
  | 26 => ⟨S4x4096x1024, .f32⟩
  | 27 => ⟨S4x4096x6144, .f32⟩
  | 28 => ⟨S4x4096x2048, .f32⟩
  | 29 => ⟨S4x4096x2048, .f32⟩
  | 30 => ⟨S4x4096x2048, .f32⟩
  | 31 => ⟨S_, .f32⟩
  | 32 => ⟨S4x4096x2048, .f32⟩
  | 33 => ⟨S4x4096x2048, .f32⟩
  | 34 => ⟨S4x4096x2048, .f32⟩
  | 35 => ⟨S_, .f32⟩
  | 36 => ⟨S4x4096x2048, .f32⟩
  | 37 => ⟨S4x4096x2048, .f32⟩
  | 38 => ⟨S4x4096x2048, .f32⟩
  | 39 => ⟨S_, .f32⟩
  | 40 => ⟨S4x4096x2048, .f32⟩
  | 41 => ⟨S4x4096x2048, .f32⟩
  | 42 => ⟨S_, .f32⟩
  | 43 => ⟨S4x4096x2048, .f32⟩
  | 44 => ⟨S4x4096x2048, .f32⟩
  | 45 => ⟨S4x4096x2048, .f32⟩
  | 46 => ⟨S4x4096x2048, .f32⟩
  | 47 => ⟨S4x4096x2048, .f32⟩
  | 48 => ⟨S4x4096x2048, .f32⟩
  | 49 => ⟨S_, .f32⟩
  | 50 => ⟨S4x4096x2048, .f32⟩
  | 51 => ⟨S4x4096x2048, .f32⟩
  | 52 => ⟨S4x4096x2048, .f32⟩
  | 53 => ⟨S_, .f32⟩
  | 54 => ⟨S4x4096x2048, .f32⟩
  | 55 => ⟨S4x4096x2048, .f32⟩
  | 56 => ⟨S4x4096x2048, .f32⟩
  | 57 => ⟨S_, .f32⟩
  | 58 => ⟨S4x4096x2048, .f32⟩
  | 59 => ⟨S4x4096x2048, .f32⟩
  | 60 => ⟨S_, .f32⟩
  | 61 => ⟨S4x4096x2048, .f32⟩
  | 62 => ⟨S4x4096x2048, .f32⟩
  | 63 => ⟨S4x4096x2048, .f32⟩
  | 64 => ⟨S4x4096x2048, .f32⟩
  | 65 => ⟨S_, .f32⟩
  | 66 => ⟨S4x4096, .f32⟩
  | 67 => ⟨S4x4096x1, .f32⟩
  | 68 => ⟨S_, .f32⟩
  | 69 => ⟨S4x4096x1, .f32⟩
  | 70 => ⟨S4x4096x1, .f32⟩
  | 71 => ⟨S_, .f32⟩
  | 72 => ⟨S4x4096x1, .f32⟩
  | 73 => ⟨S4x4096x1, .f32⟩
  | 74 => ⟨S4x4096x1, .f32⟩
  | 75 => ⟨S4x4096x2048, .f32⟩
  | 76 => ⟨S4x4096x2048, .f32⟩
  | 77 => ⟨S1x1x2048, .f32⟩
  | 78 => ⟨S4x4096x2048, .f32⟩
  | 79 => ⟨S4x4096x2048, .f32⟩
  | 80 => ⟨S4x4096x2048, .f32⟩
  | 81 => ⟨S_, .i1⟩
  | 82 => ⟨S128x128, .i1⟩
  | 83 => ⟨S128x128, .i32⟩
  | 84 => ⟨S_, .i32⟩
  | 85 => ⟨S128x128, .i32⟩
  | 86 => ⟨S128x128, .i32⟩
  | 87 => ⟨S128x128, .i32⟩
  | 88 => ⟨S128x128, .i1⟩
  | 89 => ⟨S_, .i1⟩
  | 90 => ⟨S128x128, .i1⟩
  | 91 => ⟨S128x128, .i1⟩
  | 92 => ⟨S_, .f32⟩
  | 93 => ⟨S_, .f32⟩
  | 94 => ⟨S16x128x128, .i1⟩
  | 95 => ⟨S16x128x128, .f32⟩
  | 96 => ⟨S16x128x128, .f32⟩
  | 97 => ⟨S4x32x128x16x128, .f32⟩
  | 98 => ⟨S16x4x32x128x128, .f32⟩
  | 99 => ⟨S4x32x128x16x128, .f32⟩
  | 100 => ⟨S128x16, .f32⟩
  | 101 => ⟨S1x1x128x16x1, .f32⟩
  | 102 => ⟨S4x32x128x16x128, .f32⟩
  | 103 => ⟨S4x32x128x16x128, .f32⟩
  | 104 => ⟨S4x4096x2048, .f32⟩
  | 105 => ⟨S4x4096x2048, .f32⟩
  | 106 => ⟨S4x4096x2048, .f32⟩
  | 107 => ⟨S4x4096x2048, .f32⟩
  | 108 => ⟨S_, .f32⟩
  | 109 => ⟨S4x4096x2048, .f32⟩
  | 110 => ⟨S4x4096x2048, .f32⟩
  | 111 => ⟨S_, .f32⟩
  | 112 => ⟨S4x4096x2048, .f32⟩
  | 113 => ⟨S4x4096x2048, .f32⟩
  | 114 => ⟨S4x4096x2048, .f32⟩
  | 115 => ⟨S4x4096x2048, .f32⟩
  | 116 => ⟨S4x4096x1024, .f32⟩
  | 117 => ⟨S4x4096x1024, .f32⟩
  | 118 => ⟨S4x4096x1024, .f32⟩
  | 119 => ⟨S_, .f32⟩
  | 120 => ⟨S4x4096, .f32⟩
  | 121 => ⟨S4x4096x1, .f32⟩
  | 122 => ⟨S_, .f32⟩
  | 123 => ⟨S4x4096x1, .f32⟩
  | 124 => ⟨S4x4096x1, .f32⟩
  | 125 => ⟨S_, .f32⟩
  | 126 => ⟨S4x4096x1, .f32⟩
  | 127 => ⟨S4x4096x1, .f32⟩
  | _ => ⟨S4x4096x1024, .f32⟩

abbrev hbmTy0_1 (i : Nat) : BufTy := match i % 128 with
  | 0 => ⟨S4x4096x1, .f32⟩
  | 1 => ⟨S4x4096x1024, .f32⟩
  | 2 => ⟨S4x4096x1024, .f32⟩
  | 3 => ⟨S1x1x1024, .f32⟩
  | 4 => ⟨S4x4096x1024, .f32⟩
  | 5 => ⟨S4x4096x1024, .f32⟩
  | 6 => ⟨S4x4096x4096, .f32⟩
  | 7 => ⟨S4x4096x1024, .f32⟩
  | 8 => ⟨S4x4096x1024, .f32⟩
  | 9 => ⟨S4x4096x1024, .f32⟩
  | 10 => ⟨S4x4096x1024, .f32⟩
  | 11 => ⟨S4x4096x8x2x64, .f32⟩
  | 12 => ⟨S4x4096x8x2x64, .f32⟩
  | 13 => ⟨S_, .f32⟩
  | 14 => ⟨S4x4096x8x2, .f32⟩
  | 15 => ⟨S4x4096x8x2x1, .f32⟩
  | 16 => ⟨S_, .f32⟩
  | 17 => ⟨S4x4096x8x2x1, .f32⟩
  | 18 => ⟨S4x4096x8x2x1, .f32⟩
  | 19 => ⟨S_, .f32⟩
  | 20 => ⟨S4x4096x8x2x1, .f32⟩
  | 21 => ⟨S4x4096x8x2x1, .f32⟩
  | 22 => ⟨S4x4096x8x2x1, .f32⟩
  | 23 => ⟨S4x4096x8x2x64, .f32⟩
  | 24 => ⟨S4x4096x8x2x64, .f32⟩
  | 25 => ⟨S1x1x1x1x64, .f32⟩
  | 26 => ⟨S4x4096x8x2x64, .f32⟩
  | 27 => ⟨S4x4096x8x2x64, .f32⟩
  | 28 => ⟨S4x4096x8x2x64, .f32⟩
  | 29 => ⟨S4x4096x8x2x64, .f32⟩
  | 30 => ⟨S_, .f32⟩
  | 31 => ⟨S4x4096x8x2, .f32⟩
  | 32 => ⟨S4x4096x8x2x1, .f32⟩
  | 33 => ⟨S_, .f32⟩
  | 34 => ⟨S4x4096x8x2x1, .f32⟩
  | 35 => ⟨S4x4096x8x2x1, .f32⟩
  | 36 => ⟨S_, .f32⟩
  | 37 => ⟨S4x4096x8x2x1, .f32⟩
  | 38 => ⟨S4x4096x8x2x1, .f32⟩
  | 39 => ⟨S4x4096x8x2x1, .f32⟩
  | 40 => ⟨S4x4096x8x2x64, .f32⟩
  | 41 => ⟨S4x4096x8x2x64, .f32⟩
  | 42 => ⟨S1x1x1x1x64, .f32⟩
  | 43 => ⟨S4x4096x8x2x64, .f32⟩
  | 44 => ⟨S4x4096x8x2x64, .f32⟩
  | 45 => ⟨S4x4096x8x128, .f32⟩
  | 46 => ⟨S16384x1024, .f32⟩
  | 47 => ⟨S16384x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_8 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_cst_11 : Ref sig .tc := ⟨.hbm, 68, rfl⟩
abbrev main_v45 : Ref sig .tc := ⟨.hbm, 69, rfl⟩
abbrev main_v46 : Ref sig .tc := ⟨.hbm, 70, rfl⟩
abbrev main_cst_12 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c : Ref sig .tc := ⟨.hbm, 81, rfl⟩
abbrev main_v56 : Ref sig .tc := ⟨.hbm, 82, rfl⟩
abbrev main_call0_v0 : Ref sig .tc := ⟨.hbm, 83, rfl⟩
abbrev main_call0_c : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_call0_c_0 : Ref sig .tc := ⟨.hbm, 89, rfl⟩
abbrev main_call0_v5 : Ref sig .tc := ⟨.hbm, 90, rfl⟩
abbrev main_v57 : Ref sig .tc := ⟨.hbm, 91, rfl⟩
abbrev main_cst_13 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_call2_v0 : Ref sig .tc := ⟨.hbm, 106, rfl⟩
abbrev main_call2_v1 : Ref sig .tc := ⟨.hbm, 107, rfl⟩
abbrev main_call2_cst : Ref sig .tc := ⟨.hbm, 108, rfl⟩
abbrev main_call2_v2 : Ref sig .tc := ⟨.hbm, 109, rfl⟩
abbrev main_call2_v3 : Ref sig .tc := ⟨.hbm, 110, rfl⟩
abbrev main_call2_cst_0 : Ref sig .tc := ⟨.hbm, 111, rfl⟩
abbrev main_call2_v4 : Ref sig .tc := ⟨.hbm, 112, rfl⟩
abbrev main_call2_v5 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_14 : Ref sig .tc := ⟨.hbm, 119, rfl⟩
abbrev main_v73 : Ref sig .tc := ⟨.hbm, 120, rfl⟩
abbrev main_v74 : Ref sig .tc := ⟨.hbm, 121, rfl⟩
abbrev main_cst_15 : Ref sig .tc := ⟨.hbm, 122, rfl⟩
abbrev main_v75 : Ref sig .tc := ⟨.hbm, 123, rfl⟩
abbrev main_v76 : Ref sig .tc := ⟨.hbm, 124, rfl⟩
abbrev main_cst_16 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_17 : Ref sig .tc := ⟨.hbm, 141, rfl⟩
abbrev main_v92 : Ref sig .tc := ⟨.hbm, 142, rfl⟩
abbrev main_v93 : Ref sig .tc := ⟨.hbm, 143, rfl⟩
abbrev main_cst_18 : Ref sig .tc := ⟨.hbm, 144, rfl⟩
abbrev main_v94 : Ref sig .tc := ⟨.hbm, 145, rfl⟩
abbrev main_v95 : Ref sig .tc := ⟨.hbm, 146, rfl⟩
abbrev main_cst_19 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_cst_20 : Ref sig .tc := ⟨.hbm, 158, rfl⟩
abbrev main_v106 : Ref sig .tc := ⟨.hbm, 159, rfl⟩
abbrev main_v107 : Ref sig .tc := ⟨.hbm, 160, rfl⟩
abbrev main_cst_21 : Ref sig .tc := ⟨.hbm, 161, rfl⟩
abbrev main_v108 : Ref sig .tc := ⟨.hbm, 162, rfl⟩
abbrev main_v109 : Ref sig .tc := ⟨.hbm, 163, rfl⟩
abbrev main_cst_22 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩

abbrev nD : Nat := 1
abbrev τ : Topo := Topo.v7x

variable {F : FTy → Type} [FloatOps F]
-- ==== Kernel12.lean ====
abbrev S128x8x1024 : Shape := ⟨3, ![128, 8, 1024]⟩
abbrev S1024 : Shape := ⟨1, ![1024]⟩
abbrev S1024x6144 : Shape := ⟨2, ![1024, 6144]⟩
abbrev S2048 : Shape := ⟨1, ![2048]⟩
abbrev S16x128x128 : Shape := ⟨3, ![16, 128, 128]⟩
abbrev S16x128 : Shape := ⟨2, ![16, 128]⟩
abbrev S2048x1024 : Shape := ⟨2, ![2048, 1024]⟩
abbrev S1024x4096 : Shape := ⟨2, ![1024, 4096]⟩
abbrev S1024x1024 : Shape := ⟨2, ![1024, 1024]⟩
abbrev S16x8x8 : Shape := ⟨3, ![16, 8, 8]⟩
abbrev S1x16x1x8x1x8 : Shape := ⟨6, ![1, 16, 1, 8, 1, 8]⟩
abbrev S1x16x16x8x16x8 : Shape := ⟨6, ![1, 16, 16, 8, 16, 8]⟩
abbrev S16x8 : Shape := ⟨2, ![16, 8]⟩
abbrev S1x16x1x8 : Shape := ⟨4, ![1, 16, 1, 8]⟩
abbrev S1x16x16x8 : Shape := ⟨4, ![1, 16, 16, 8]⟩
abbrev S16x128x1 : Shape := ⟨3, ![16, 128, 1]⟩
abbrev S1x1024 : Shape := ⟨2, ![1, 1024]⟩
abbrev S1x2048 : Shape := ⟨2, ![1, 2048]⟩
abbrev S1024x2048 : Shape := ⟨2, ![1024, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S128x128 : Shape := ⟨2, ![128, 128]⟩
abbrev S1x128x128 : Shape := ⟨3, ![1, 128, 128]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩

abbrev nBuf : Space → Nat
  | .hbm => 30
  | .vmem => 22
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x6144, .f32⟩
  | .hbm, ⟨3, _⟩ => ⟨S2048, .f32⟩
  | .hbm, ⟨4, _⟩ => ⟨S16x128x128, .f32⟩
  | .hbm, ⟨5, _⟩ => ⟨S16x128, .f32⟩
  | .hbm, ⟨6, _⟩ => ⟨S2048x1024, .f32⟩
  | .hbm, ⟨7, _⟩ => ⟨S1024, .f32⟩
  | .hbm, ⟨8, _⟩ => ⟨S1024x4096, .f32⟩
  | .hbm, ⟨9, _⟩ => ⟨S1024x1024, .f32⟩
  | .hbm, ⟨10, _⟩ => ⟨S16x8x8, .f32⟩
  | .hbm, ⟨11, _⟩ => ⟨S1x16x1x8x1x8, .f32⟩
  | .hbm, ⟨12, _⟩ => ⟨S1x16x16x8x16x8, .f32⟩
  | .hbm, ⟨13, _⟩ => ⟨S16x128x128, .f32⟩
  | .hbm, ⟨14, _⟩ => ⟨S16x8, .f32⟩
  | .hbm, ⟨15, _⟩ => ⟨S1x16x1x8, .f32⟩
  | .hbm, ⟨16, _⟩ => ⟨S1x16x16x8, .f32⟩
  | .hbm, ⟨17, _⟩ => ⟨S16x128, .f32⟩
  | .hbm, ⟨18, _⟩ => ⟨S16x128x1, .f32⟩
  | .hbm, ⟨19, _⟩ => ⟨S16x128x128, .f32⟩
  | .hbm, ⟨20, _⟩ => ⟨S1x1024, .f32⟩
  | .hbm, ⟨21, _⟩ => ⟨S1024x6144, .bf16⟩
  | .hbm, ⟨22, _⟩ => ⟨S1x2048, .f32⟩
  | .hbm, ⟨23, _⟩ => ⟨S2048x1024, .bf16⟩
  | .hbm, ⟨24, _⟩ => ⟨S1024x1024, .f32⟩
  | .hbm, ⟨25, _⟩ => ⟨S1024x2048, .f32⟩
  | .hbm, ⟨26, _⟩ => ⟨S1024x1024, .f32⟩
  | .hbm, ⟨27, _⟩ => ⟨S1x1024, .f32⟩
  | .hbm, ⟨28, _⟩ => ⟨S1024x1024, .bf16⟩
  | .hbm, ⟨29, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6144, .bf16⟩
  | .local _ .vmem, ⟨4, _⟩ => ⟨S1x2048, .f32⟩
  | .local _ .vmem, ⟨5, _⟩ => ⟨S16x128x128, .f32⟩
  | .local _ .vmem, ⟨6, _⟩ => ⟨S16x128x128, .f32⟩
  | .local _ .vmem, ⟨7, _⟩ => ⟨S2048x1024, .bf16⟩
  | .local _ .vmem, ⟨8, _⟩ => ⟨S256x1024, .f32⟩
  | .local _ .vmem, ⟨9, _⟩ => ⟨S256x1024, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1024x1024, .bf16⟩
  | .local _ .vmem, ⟨20, _⟩ => ⟨S512x1024, .f32⟩
  | .local _ .vmem, ⟨21, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15_0 : Ref sig .tc := ⟨.hbm, 24, rfl⟩
abbrev main_v15_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg3_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== Reference12Ideal.lean ====
abbrev S128x8x1024 : Shape := ⟨3, ![128, 8, 1024]⟩
abbrev S1024 : Shape := ⟨1, ![1024]⟩
abbrev S1024x6144 : Shape := ⟨2, ![1024, 6144]⟩
abbrev S2048 : Shape := ⟨1, ![2048]⟩
abbrev S16x128x128 : Shape := ⟨3, ![16, 128, 128]⟩
abbrev S16x128 : Shape := ⟨2, ![16, 128]⟩
abbrev S2048x1024 : Shape := ⟨2, ![2048, 1024]⟩
abbrev S1024x4096 : Shape := ⟨2, ![1024, 4096]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x6144 : Shape := ⟨3, ![128, 8, 6144]⟩
abbrev S128x8x2048 : Shape := ⟨3, ![128, 8, 2048]⟩
abbrev S1x1x2048 : Shape := ⟨3, ![1, 1, 2048]⟩
abbrev S8x8 : Shape := ⟨2, ![8, 8]⟩
abbrev S16x8x8 : Shape := ⟨3, ![16, 8, 8]⟩
abbrev S128x1x8x16x128 : Shape := ⟨5, ![128, 1, 8, 16, 128]⟩
abbrev S16x128x1x128x8 : Shape := ⟨5, ![16, 128, 1, 128, 8]⟩
abbrev S16x8 : Shape := ⟨2, ![16, 8]⟩
abbrev S8x16 : Shape := ⟨2, ![8, 16]⟩
abbrev S1x1x8x16x1 : Shape := ⟨5, ![1, 1, 8, 16, 1]⟩
abbrev S128x8x4096 : Shape := ⟨3, ![128, 8, 4096]⟩
abbrev S128x8x8x128 : Shape := ⟨4, ![128, 8, 8, 128]⟩
abbrev S1024x1024 : Shape := ⟨2, ![1024, 1024]⟩

abbrev nBuf : Space → Nat
  | .hbm => 141
  | .vmem => 0
  | .smem => 0
  | _ => 0

abbrev hbmTy0_0 (i : Nat) : BufTy := match i % 128 with
  | 0 => ⟨S128x8x1024, .f32⟩
  | 1 => ⟨S1024, .f32⟩
  | 2 => ⟨S1024x6144, .f32⟩
  | 3 => ⟨S2048, .f32⟩
  | 4 => ⟨S16x128x128, .f32⟩
  | 5 => ⟨S16x128, .f32⟩
  | 6 => ⟨S2048x1024, .f32⟩
  | 7 => ⟨S1024, .f32⟩
  | 8 => ⟨S1024x4096, .f32⟩
  | 9 => ⟨S128x8x1024, .f32⟩
  | 10 => ⟨S_, .f32⟩
  | 11 => ⟨S128x8, .f32⟩
  | 12 => ⟨S128x8x1, .f32⟩
  | 13 => ⟨S_, .f32⟩
  | 14 => ⟨S128x8x1, .f32⟩
  | 15 => ⟨S128x8x1, .f32⟩
  | 16 => ⟨S_, .f32⟩
  | 17 => ⟨S128x8x1, .f32⟩
  | 18 => ⟨S128x8x1, .f32⟩
  | 19 => ⟨S128x8x1, .f32⟩
  | 20 => ⟨S128x8x1024, .f32⟩
  | 21 => ⟨S128x8x1024, .f32⟩
  | 22 => ⟨S1x1x1024, .f32⟩
  | 23 => ⟨S128x8x1024, .f32⟩
  | 24 => ⟨S128x8x1024, .f32⟩
  | 25 => ⟨S128x8x6144, .f32⟩
  | 26 => ⟨S128x8x2048, .f32⟩
  | 27 => ⟨S128x8x2048, .f32⟩
  | 28 => ⟨S128x8x2048, .f32⟩
  | 29 => ⟨S_, .f32⟩
  | 30 => ⟨S128x8x2048, .f32⟩
  | 31 => ⟨S128x8x2048, .f32⟩
  | 32 => ⟨S128x8x2048, .f32⟩
  | 33 => ⟨S_, .f32⟩
  | 34 => ⟨S128x8x2048, .f32⟩
  | 35 => ⟨S128x8x2048, .f32⟩
  | 36 => ⟨S128x8x2048, .f32⟩
  | 37 => ⟨S_, .f32⟩
  | 38 => ⟨S128x8x2048, .f32⟩
  | 39 => ⟨S128x8x2048, .f32⟩
  | 40 => ⟨S_, .f32⟩
  | 41 => ⟨S128x8x2048, .f32⟩
  | 42 => ⟨S128x8x2048, .f32⟩
  | 43 => ⟨S128x8x2048, .f32⟩
  | 44 => ⟨S128x8x2048, .f32⟩
  | 45 => ⟨S128x8x2048, .f32⟩
  | 46 => ⟨S128x8x2048, .f32⟩
  | 47 => ⟨S_, .f32⟩
  | 48 => ⟨S128x8x2048, .f32⟩
  | 49 => ⟨S128x8x2048, .f32⟩
  | 50 => ⟨S128x8x2048, .f32⟩
  | 51 => ⟨S_, .f32⟩
  | 52 => ⟨S128x8x2048, .f32⟩
  | 53 => ⟨S128x8x2048, .f32⟩
  | 54 => ⟨S128x8x2048, .f32⟩
  | 55 => ⟨S_, .f32⟩
  | 56 => ⟨S128x8x2048, .f32⟩
  | 57 => ⟨S128x8x2048, .f32⟩
  | 58 => ⟨S_, .f32⟩
  | 59 => ⟨S128x8x2048, .f32⟩
  | 60 => ⟨S128x8x2048, .f32⟩
  | 61 => ⟨S128x8x2048, .f32⟩
  | 62 => ⟨S128x8x2048, .f32⟩
  | 63 => ⟨S_, .f32⟩
  | 64 => ⟨S128x8, .f32⟩
  | 65 => ⟨S128x8x1, .f32⟩
  | 66 => ⟨S_, .f32⟩
  | 67 => ⟨S128x8x1, .f32⟩
  | 68 => ⟨S128x8x1, .f32⟩
  | 69 => ⟨S_, .f32⟩
  | 70 => ⟨S128x8x1, .f32⟩
  | 71 => ⟨S128x8x1, .f32⟩
  | 72 => ⟨S128x8x1, .f32⟩
  | 73 => ⟨S128x8x2048, .f32⟩
  | 74 => ⟨S128x8x2048, .f32⟩
  | 75 => ⟨S1x1x2048, .f32⟩
  | 76 => ⟨S128x8x2048, .f32⟩
  | 77 => ⟨S128x8x2048, .f32⟩
  | 78 => ⟨S128x8x2048, .f32⟩
  | 79 => ⟨S_, .i1⟩
  | 80 => ⟨S8x8, .i1⟩
  | 81 => ⟨S8x8, .i32⟩
  | 82 => ⟨S_, .i32⟩
  | 83 => ⟨S8x8, .i32⟩
  | 84 => ⟨S8x8, .i32⟩
  | 85 => ⟨S8x8, .i32⟩
  | 86 => ⟨S8x8, .i1⟩
  | 87 => ⟨S_, .i1⟩
  | 88 => ⟨S8x8, .i1⟩
  | 89 => ⟨S8x8, .i1⟩
  | 90 => ⟨S16x8x8, .f32⟩
  | 91 => ⟨S_, .f32⟩
  | 92 => ⟨S_, .f32⟩
  | 93 => ⟨S16x8x8, .i1⟩
  | 94 => ⟨S16x8x8, .f32⟩
  | 95 => ⟨S16x8x8, .f32⟩
  | 96 => ⟨S128x1x8x16x128, .f32⟩
  | 97 => ⟨S16x128x1x128x8, .f32⟩
  | 98 => ⟨S128x1x8x16x128, .f32⟩
  | 99 => ⟨S16x8, .f32⟩
  | 100 => ⟨S8x16, .f32⟩
  | 101 => ⟨S1x1x8x16x1, .f32⟩
  | 102 => ⟨S128x1x8x16x128, .f32⟩
  | 103 => ⟨S128x1x8x16x128, .f32⟩
  | 104 => ⟨S128x8x2048, .f32⟩
  | 105 => ⟨S128x8x2048, .f32⟩
  | 106 => ⟨S128x8x2048, .f32⟩
  | 107 => ⟨S128x8x2048, .f32⟩
  | 108 => ⟨S_, .f32⟩
  | 109 => ⟨S128x8x2048, .f32⟩
  | 110 => ⟨S128x8x2048, .f32⟩
  | 111 => ⟨S_, .f32⟩
  | 112 => ⟨S128x8x2048, .f32⟩
  | 113 => ⟨S128x8x2048, .f32⟩
  | 114 => ⟨S128x8x2048, .f32⟩
  | 115 => ⟨S128x8x2048, .f32⟩
  | 116 => ⟨S128x8x1024, .f32⟩
  | 117 => ⟨S128x8x1024, .f32⟩
  | 118 => ⟨S128x8x1024, .f32⟩
  | 119 => ⟨S_, .f32⟩
  | 120 => ⟨S128x8, .f32⟩
  | 121 => ⟨S128x8x1, .f32⟩
  | 122 => ⟨S_, .f32⟩
  | 123 => ⟨S128x8x1, .f32⟩
  | 124 => ⟨S128x8x1, .f32⟩
  | 125 => ⟨S_, .f32⟩
  | 126 => ⟨S128x8x1, .f32⟩
  | 127 => ⟨S128x8x1, .f32⟩
  | _ => ⟨S128x8x1024, .f32⟩

abbrev hbmTy0_1 (i : Nat) : BufTy := match i % 128 with
  | 0 => ⟨S128x8x1, .f32⟩
  | 1 => ⟨S128x8x1024, .f32⟩
  | 2 => ⟨S128x8x1024, .f32⟩
  | 3 => ⟨S1x1x1024, .f32⟩
  | 4 => ⟨S128x8x1024, .f32⟩
  | 5 => ⟨S128x8x1024, .f32⟩
  | 6 => ⟨S128x8x4096, .f32⟩
  | 7 => ⟨S128x8x1024, .f32⟩
  | 8 => ⟨S128x8x1024, .f32⟩
  | 9 => ⟨S128x8x1024, .f32⟩
  | 10 => ⟨S128x8x1024, .f32⟩
  | 11 => ⟨S128x8x8x128, .f32⟩
  | 12 => ⟨S1024x1024, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_cst_12 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c : Ref sig .tc := ⟨.hbm, 79, rfl⟩
abbrev main_v56 : Ref sig .tc := ⟨.hbm, 80, rfl⟩
abbrev main_call0_v0 : Ref sig .tc := ⟨.hbm, 81, rfl⟩
abbrev main_call0_c : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_c_0 : Ref sig .tc := ⟨.hbm, 87, rfl⟩
abbrev main_call0_v5 : Ref sig .tc := ⟨.hbm, 88, rfl⟩
abbrev main_v57 : Ref sig .tc := ⟨.hbm, 89, rfl⟩
abbrev main_v58 : Ref sig .tc := ⟨.hbm, 90, rfl⟩
abbrev main_cst_13 : Ref sig .tc := ⟨.hbm, 91, rfl⟩
abbrev main_call1_v0 : Ref sig .tc := ⟨.hbm, 92, rfl⟩
abbrev main_call1_v1 : Ref sig .tc := ⟨.hbm, 93, rfl⟩
abbrev main_call1_v2 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_call2_v0 : Ref sig .tc := ⟨.hbm, 106, rfl⟩
abbrev main_call2_v1 : Ref sig .tc := ⟨.hbm, 107, rfl⟩
abbrev main_call2_cst : Ref sig .tc := ⟨.hbm, 108, rfl⟩
abbrev main_call2_v2 : Ref sig .tc := ⟨.hbm, 109, rfl⟩
abbrev main_call2_v3 : Ref sig .tc := ⟨.hbm, 110, rfl⟩
abbrev main_call2_cst_0 : Ref sig .tc := ⟨.hbm, 111, rfl⟩
abbrev main_call2_v4 : Ref sig .tc := ⟨.hbm, 112, rfl⟩
abbrev main_call2_v5 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_cst_14 : Ref sig .tc := ⟨.hbm, 119, rfl⟩
abbrev main_v75 : Ref sig .tc := ⟨.hbm, 120, rfl⟩
abbrev main_v76 : Ref sig .tc := ⟨.hbm, 121, rfl⟩
abbrev main_cst_15 : Ref sig .tc := ⟨.hbm, 122, rfl⟩
abbrev main_v77 : Ref sig .tc := ⟨.hbm, 123, rfl⟩
abbrev main_v78 : Ref sig .tc := ⟨.hbm, 124, rfl⟩
abbrev main_cst_16 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩

abbrev nD : Nat := 1
abbrev τ : Topo := Topo.v7x

variable {F : FTy → Type} [FloatOps F]
-- ==== Kernel13.lean ====
abbrev S128x8x1024 : Shape := ⟨3, ![128, 8, 1024]⟩
abbrev S1024 : Shape := ⟨1, ![1024]⟩
abbrev S1024x6144 : Shape := ⟨2, ![1024, 6144]⟩
abbrev S2048 : Shape := ⟨1, ![2048]⟩
abbrev S16x128x128 : Shape := ⟨3, ![16, 128, 128]⟩
abbrev S16x128 : Shape := ⟨2, ![16, 128]⟩
abbrev S2048x1024 : Shape := ⟨2, ![2048, 1024]⟩
abbrev S1024x4096 : Shape := ⟨2, ![1024, 4096]⟩
abbrev S64 : Shape := ⟨1, ![64]⟩
abbrev S1024x1024 : Shape := ⟨2, ![1024, 1024]⟩
abbrev S16x8x8 : Shape := ⟨3, ![16, 8, 8]⟩
abbrev S1x16x1x8x1x8 : Shape := ⟨6, ![1, 16, 1, 8, 1, 8]⟩
abbrev S1x16x16x8x16x8 : Shape := ⟨6, ![1, 16, 16, 8, 16, 8]⟩
abbrev S16x8 : Shape := ⟨2, ![16, 8]⟩
abbrev S1x16x1x8 : Shape := ⟨4, ![1, 16, 1, 8]⟩
abbrev S1x16x16x8 : Shape := ⟨4, ![1, 16, 16, 8]⟩
abbrev S16x128x1 : Shape := ⟨3, ![16, 128, 1]⟩
abbrev S1x1024 : Shape := ⟨2, ![1, 1024]⟩
abbrev S1x2048 : Shape := ⟨2, ![1, 2048]⟩
abbrev S1024x2048 : Shape := ⟨2, ![1024, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S128x128 : Shape := ⟨2, ![128, 128]⟩
abbrev S1x128x128 : Shape := ⟨3, ![1, 128, 128]⟩
abbrev S_ : Shape := ⟨0, ![]⟩
abbrev S1x256 : Shape := ⟨2, ![1, 256]⟩
abbrev S256x256 : Shape := ⟨2, ![256, 256]⟩
abbrev S1x64 : Shape := ⟨2, ![1, 64]⟩
abbrev S16x64 : Shape := ⟨2, ![16, 64]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S512x256 : Shape := ⟨2, ![512, 256]⟩
abbrev S1x512 : Shape := ⟨2, ![1, 512]⟩

abbrev nBuf : Space → Nat
  | .hbm => 79
  | .vmem => 24
  | .smem => 0
  | _ => 0

abbrev bufTy : (tb : Table) → Fin (tcTables nBuf tb) → BufTy
  | .hbm, ⟨0, _⟩ => ⟨S128x8x1024, .f32⟩
  | .hbm, ⟨1, _⟩ => ⟨S1024, .f32⟩
  | .hbm, ⟨2, _⟩ => ⟨S1024x6144, .f32⟩
  | .hbm, ⟨3, _⟩ => ⟨S2048, .f32⟩
  | .hbm, ⟨4, _⟩ => ⟨S16x128x128, .f32⟩
  | .hbm, ⟨5, _⟩ => ⟨S16x128, .f32⟩
  | .hbm, ⟨6, _⟩ => ⟨S2048x1024, .f32⟩
  | .hbm, ⟨7, _⟩ => ⟨S1024, .f32⟩
  | .hbm, ⟨8, _⟩ => ⟨S1024x4096, .f32⟩
  | .hbm, ⟨9, _⟩ => ⟨S64, .f32⟩
  | .hbm, ⟨10, _⟩ => ⟨S1024x1024, .f32⟩
  | .hbm, ⟨11, _⟩ => ⟨S16x8x8, .f32⟩
  | .hbm, ⟨12, _⟩ => ⟨S1x16x1x8x1x8, .f32⟩
  | .hbm, ⟨13, _⟩ => ⟨S1x16x16x8x16x8, .f32⟩
  | .hbm, ⟨14, _⟩ => ⟨S16x128x128, .f32⟩
  | .hbm, ⟨15, _⟩ => ⟨S16x8, .f32⟩
  | .hbm, ⟨16, _⟩ => ⟨S1x16x1x8, .f32⟩
  | .hbm, ⟨17, _⟩ => ⟨S1x16x16x8, .f32⟩
  | .hbm, ⟨18, _⟩ => ⟨S16x128, .f32⟩
  | .hbm, ⟨19, _⟩ => ⟨S16x128x1, .f32⟩
  | .hbm, ⟨20, _⟩ => ⟨S16x128x128, .f32⟩
  | .hbm, ⟨21, _⟩ => ⟨S1x1024, .f32⟩
  | .hbm, ⟨22, _⟩ => ⟨S1024x6144, .bf16⟩
  | .hbm, ⟨23, _⟩ => ⟨S1x2048, .f32⟩
  | .hbm, ⟨24, _⟩ => ⟨S2048x1024, .bf16⟩
  | .hbm, ⟨25, _⟩ => ⟨S1024x1024, .f32⟩
  | .hbm, ⟨26, _⟩ => ⟨S1024x2048, .f32⟩
  | .hbm, ⟨27, _⟩ => ⟨S256, .i32⟩
  | .hbm, ⟨28, _⟩ => ⟨S256x1, .i32⟩
  | .hbm, ⟨29, _⟩ => ⟨S_, .i32⟩
  | .hbm, ⟨30, _⟩ => ⟨S_, .i32⟩
  | .hbm, ⟨31, _⟩ => ⟨S256x1, .i32⟩
  | .hbm, ⟨32, _⟩ => ⟨S256x1, .i32⟩
  | .hbm, ⟨33, _⟩ => ⟨S256x1, .i32⟩
  | .hbm, ⟨34, _⟩ => ⟨S_, .i32⟩
  | .hbm, ⟨35, _⟩ => ⟨S256x1, .i32⟩
  | .hbm, ⟨36, _⟩ => ⟨S256x1, .i1⟩
  | .hbm, ⟨37, _⟩ => ⟨S256x1, .i32⟩
  | .hbm, ⟨38, _⟩ => ⟨S256x1, .i32⟩
  | .hbm, ⟨39, _⟩ => ⟨S_, .i32⟩
  | .hbm, ⟨40, _⟩ => ⟨S256x1, .i32⟩
  | .hbm, ⟨41, _⟩ => ⟨S256x1, .i1⟩
  | .hbm, ⟨42, _⟩ => ⟨S256x1, .i1⟩
  | .hbm, ⟨43, _⟩ => ⟨S_, .i32⟩
  | .hbm, ⟨44, _⟩ => ⟨S256x1, .i32⟩
  | .hbm, ⟨45, _⟩ => ⟨S256x1, .i32⟩
  | .hbm, ⟨46, _⟩ => ⟨S256x1, .i32⟩
  | .hbm, ⟨47, _⟩ => ⟨S256, .i32⟩
  | .hbm, ⟨48, _⟩ => ⟨S1x256, .i32⟩
  | .hbm, ⟨49, _⟩ => ⟨S_, .i32⟩
  | .hbm, ⟨50, _⟩ => ⟨S_, .i32⟩
  | .hbm, ⟨51, _⟩ => ⟨S1x256, .i32⟩
  | .hbm, ⟨52, _⟩ => ⟨S1x256, .i32⟩
  | .hbm, ⟨53, _⟩ => ⟨S1x256, .i32⟩
  | .hbm, ⟨54, _⟩ => ⟨S_, .i32⟩
  | .hbm, ⟨55, _⟩ => ⟨S1x256, .i32⟩
  | .hbm, ⟨56, _⟩ => ⟨S1x256, .i1⟩
  | .hbm, ⟨57, _⟩ => ⟨S1x256, .i32⟩
  | .hbm, ⟨58, _⟩ => ⟨S1x256, .i32⟩
  | .hbm, ⟨59, _⟩ => ⟨S_, .i32⟩
  | .hbm, ⟨60, _⟩ => ⟨S1x256, .i32⟩
  | .hbm, ⟨61, _⟩ => ⟨S1x256, .i1⟩
  | .hbm, ⟨62, _⟩ => ⟨S1x256, .i1⟩
  | .hbm, ⟨63, _⟩ => ⟨S_, .i32⟩
  | .hbm, ⟨64, _⟩ => ⟨S1x256, .i32⟩
  | .hbm, ⟨65, _⟩ => ⟨S1x256, .i32⟩
  | .hbm, ⟨66, _⟩ => ⟨S1x256, .i32⟩
  | .hbm, ⟨67, _⟩ => ⟨S256x256, .i32⟩
  | .hbm, ⟨68, _⟩ => ⟨S256x256, .i32⟩
  | .hbm, ⟨69, _⟩ => ⟨S256x256, .i1⟩
  | .hbm, ⟨70, _⟩ => ⟨S256x256, .bf16⟩
  | .hbm, ⟨71, _⟩ => ⟨S1x64, .f32⟩
  | .hbm, ⟨72, _⟩ => ⟨S16x64, .f32⟩
  | .hbm, ⟨73, _⟩ => ⟨S1024, .f32⟩
  | .hbm, ⟨74, _⟩ => ⟨S1x1024, .f32⟩
  | .hbm, ⟨75, _⟩ => ⟨S1024x1024, .f32⟩
  | .hbm, ⟨76, _⟩ => ⟨S1x1024, .f32⟩
  | .hbm, ⟨77, _⟩ => ⟨S1024x1024, .bf16⟩
  | .hbm, ⟨78, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x6144, .bf16⟩
  | .local _ .vmem, ⟨4, _⟩ => ⟨S1x2048, .f32⟩
  | .local _ .vmem, ⟨5, _⟩ => ⟨S16x128x128, .f32⟩
  | .local _ .vmem, ⟨6, _⟩ => ⟨S16x128x128, .f32⟩
  | .local _ .vmem, ⟨7, _⟩ => ⟨S2048x1024, .bf16⟩
  | .local _ .vmem, ⟨8, _⟩ => ⟨S256x1024, .f32⟩
  | .local _ .vmem, ⟨9, _⟩ => ⟨S256x1024, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .bf16⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S1024x1024, .bf16⟩
  | .local _ .vmem, ⟨20, _⟩ => ⟨S1x1024, .f32⟩
  | .local _ .vmem, ⟨21, _⟩ => ⟨S256x256, .bf16⟩
  | .local _ .vmem, ⟨22, _⟩ => ⟨S512x1024, .f32⟩
  | .local _ .vmem, ⟨23, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v16 : Ref sig .tc := ⟨.hbm, 27, rfl⟩
abbrev main_v17 : Ref sig .tc := ⟨.hbm, 28, rfl⟩
abbrev main_c : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_c : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_0 : Ref sig .tc := ⟨.hbm, 43, rfl⟩
abbrev main_call0_v12 : Ref sig .tc := ⟨.hbm, 44, rfl⟩
abbrev main_call0_v13 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_c_0 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_c : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_0 : Ref sig .tc := ⟨.hbm, 63, rfl⟩
abbrev main_call1_v12 : Ref sig .tc := ⟨.hbm, 64, rfl⟩
abbrev main_call1_v13 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== Reference13Ideal.lean ====
abbrev S128x8x1024 : Shape := ⟨3, ![128, 8, 1024]⟩
abbrev S1024 : Shape := ⟨1, ![1024]⟩
abbrev S1024x6144 : Shape := ⟨2, ![1024, 6144]⟩
abbrev S2048 : Shape := ⟨1, ![2048]⟩
abbrev S16x128x128 : Shape := ⟨3, ![16, 128, 128]⟩
abbrev S16x128 : Shape := ⟨2, ![16, 128]⟩
abbrev S2048x1024 : Shape := ⟨2, ![2048, 1024]⟩
abbrev S1024x4096 : Shape := ⟨2, ![1024, 4096]⟩
abbrev S64 : Shape := ⟨1, ![64]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x6144 : Shape := ⟨3, ![128, 8, 6144]⟩
abbrev S128x8x2048 : Shape := ⟨3, ![128, 8, 2048]⟩
abbrev S1x1x2048 : Shape := ⟨3, ![1, 1, 2048]⟩
abbrev S8x8 : Shape := ⟨2, ![8, 8]⟩
abbrev S16x8x8 : Shape := ⟨3, ![16, 8, 8]⟩
abbrev S128x1x8x16x128 : Shape := ⟨5, ![128, 1, 8, 16, 128]⟩
abbrev S16x128x1x128x8 : Shape := ⟨5, ![16, 128, 1, 128, 8]⟩
abbrev S16x8 : Shape := ⟨2, ![16, 8]⟩
abbrev S8x16 : Shape := ⟨2, ![8, 16]⟩
abbrev S1x1x8x16x1 : Shape := ⟨5, ![1, 1, 8, 16, 1]⟩
abbrev S128x8x4096 : Shape := ⟨3, ![128, 8, 4096]⟩
abbrev S128x8x8x2x64 : Shape := ⟨5, ![128, 8, 8, 2, 64]⟩
abbrev S128x8x8x2 : Shape := ⟨4, ![128, 8, 8, 2]⟩
abbrev S128x8x8x2x1 : Shape := ⟨5, ![128, 8, 8, 2, 1]⟩
abbrev S1x1x1x1x64 : Shape := ⟨5, ![1, 1, 1, 1, 64]⟩
abbrev S1024x1024 : Shape := ⟨2, ![1024, 1024]⟩

abbrev nBuf : Space → Nat
  | .hbm => 158
  | .vmem => 0
  | .smem => 0
  | _ => 0

abbrev hbmTy0_0 (i : Nat) : BufTy := match i % 128 with
  | 0 => ⟨S128x8x1024, .f32⟩
  | 1 => ⟨S1024, .f32⟩
  | 2 => ⟨S1024x6144, .f32⟩
  | 3 => ⟨S2048, .f32⟩
  | 4 => ⟨S16x128x128, .f32⟩
  | 5 => ⟨S16x128, .f32⟩
  | 6 => ⟨S2048x1024, .f32⟩
  | 7 => ⟨S1024, .f32⟩
  | 8 => ⟨S1024x4096, .f32⟩
  | 9 => ⟨S64, .f32⟩
  | 10 => ⟨S128x8x1024, .f32⟩
  | 11 => ⟨S_, .f32⟩
  | 12 => ⟨S128x8, .f32⟩
  | 13 => ⟨S128x8x1, .f32⟩
  | 14 => ⟨S_, .f32⟩
  | 15 => ⟨S128x8x1, .f32⟩
  | 16 => ⟨S128x8x1, .f32⟩
  | 17 => ⟨S_, .f32⟩
  | 18 => ⟨S128x8x1, .f32⟩
  | 19 => ⟨S128x8x1, .f32⟩
  | 20 => ⟨S128x8x1, .f32⟩
  | 21 => ⟨S128x8x1024, .f32⟩
  | 22 => ⟨S128x8x1024, .f32⟩
  | 23 => ⟨S1x1x1024, .f32⟩
  | 24 => ⟨S128x8x1024, .f32⟩
  | 25 => ⟨S128x8x1024, .f32⟩
  | 26 => ⟨S128x8x6144, .f32⟩
  | 27 => ⟨S128x8x2048, .f32⟩
  | 28 => ⟨S128x8x2048, .f32⟩
  | 29 => ⟨S128x8x2048, .f32⟩
  | 30 => ⟨S_, .f32⟩
  | 31 => ⟨S128x8x2048, .f32⟩
  | 32 => ⟨S128x8x2048, .f32⟩
  | 33 => ⟨S128x8x2048, .f32⟩
  | 34 => ⟨S_, .f32⟩
  | 35 => ⟨S128x8x2048, .f32⟩
  | 36 => ⟨S128x8x2048, .f32⟩
  | 37 => ⟨S128x8x2048, .f32⟩
  | 38 => ⟨S_, .f32⟩
  | 39 => ⟨S128x8x2048, .f32⟩
  | 40 => ⟨S128x8x2048, .f32⟩
  | 41 => ⟨S_, .f32⟩
  | 42 => ⟨S128x8x2048, .f32⟩
  | 43 => ⟨S128x8x2048, .f32⟩
  | 44 => ⟨S128x8x2048, .f32⟩
  | 45 => ⟨S128x8x2048, .f32⟩
  | 46 => ⟨S128x8x2048, .f32⟩
  | 47 => ⟨S128x8x2048, .f32⟩
  | 48 => ⟨S_, .f32⟩
  | 49 => ⟨S128x8x2048, .f32⟩
  | 50 => ⟨S128x8x2048, .f32⟩
  | 51 => ⟨S128x8x2048, .f32⟩
  | 52 => ⟨S_, .f32⟩
  | 53 => ⟨S128x8x2048, .f32⟩
  | 54 => ⟨S128x8x2048, .f32⟩
  | 55 => ⟨S128x8x2048, .f32⟩
  | 56 => ⟨S_, .f32⟩
  | 57 => ⟨S128x8x2048, .f32⟩
  | 58 => ⟨S128x8x2048, .f32⟩
  | 59 => ⟨S_, .f32⟩
  | 60 => ⟨S128x8x2048, .f32⟩
  | 61 => ⟨S128x8x2048, .f32⟩
  | 62 => ⟨S128x8x2048, .f32⟩
  | 63 => ⟨S128x8x2048, .f32⟩
  | 64 => ⟨S_, .f32⟩
  | 65 => ⟨S128x8, .f32⟩
  | 66 => ⟨S128x8x1, .f32⟩
  | 67 => ⟨S_, .f32⟩
  | 68 => ⟨S128x8x1, .f32⟩
  | 69 => ⟨S128x8x1, .f32⟩
  | 70 => ⟨S_, .f32⟩
  | 71 => ⟨S128x8x1, .f32⟩
  | 72 => ⟨S128x8x1, .f32⟩
  | 73 => ⟨S128x8x1, .f32⟩
  | 74 => ⟨S128x8x2048, .f32⟩
  | 75 => ⟨S128x8x2048, .f32⟩
  | 76 => ⟨S1x1x2048, .f32⟩
  | 77 => ⟨S128x8x2048, .f32⟩
  | 78 => ⟨S128x8x2048, .f32⟩
  | 79 => ⟨S128x8x2048, .f32⟩
  | 80 => ⟨S_, .i1⟩
  | 81 => ⟨S8x8, .i1⟩
  | 82 => ⟨S8x8, .i32⟩
  | 83 => ⟨S_, .i32⟩
  | 84 => ⟨S8x8, .i32⟩
  | 85 => ⟨S8x8, .i32⟩
  | 86 => ⟨S8x8, .i32⟩
  | 87 => ⟨S8x8, .i1⟩
  | 88 => ⟨S_, .i1⟩
  | 89 => ⟨S8x8, .i1⟩
  | 90 => ⟨S8x8, .i1⟩
  | 91 => ⟨S16x8x8, .f32⟩
  | 92 => ⟨S_, .f32⟩
  | 93 => ⟨S_, .f32⟩
  | 94 => ⟨S16x8x8, .i1⟩
  | 95 => ⟨S16x8x8, .f32⟩
  | 96 => ⟨S16x8x8, .f32⟩
  | 97 => ⟨S128x1x8x16x128, .f32⟩
  | 98 => ⟨S16x128x1x128x8, .f32⟩
  | 99 => ⟨S128x1x8x16x128, .f32⟩
  | 100 => ⟨S16x8, .f32⟩
  | 101 => ⟨S8x16, .f32⟩
  | 102 => ⟨S1x1x8x16x1, .f32⟩
  | 103 => ⟨S128x1x8x16x128, .f32⟩
  | 104 => ⟨S128x1x8x16x128, .f32⟩
  | 105 => ⟨S128x8x2048, .f32⟩
  | 106 => ⟨S128x8x2048, .f32⟩
  | 107 => ⟨S128x8x2048, .f32⟩
  | 108 => ⟨S128x8x2048, .f32⟩
  | 109 => ⟨S_, .f32⟩
  | 110 => ⟨S128x8x2048, .f32⟩
  | 111 => ⟨S128x8x2048, .f32⟩
  | 112 => ⟨S_, .f32⟩
  | 113 => ⟨S128x8x2048, .f32⟩
  | 114 => ⟨S128x8x2048, .f32⟩
  | 115 => ⟨S128x8x2048, .f32⟩
  | 116 => ⟨S128x8x2048, .f32⟩
  | 117 => ⟨S128x8x1024, .f32⟩
  | 118 => ⟨S128x8x1024, .f32⟩
  | 119 => ⟨S128x8x1024, .f32⟩
  | 120 => ⟨S_, .f32⟩
  | 121 => ⟨S128x8, .f32⟩
  | 122 => ⟨S128x8x1, .f32⟩
  | 123 => ⟨S_, .f32⟩
  | 124 => ⟨S128x8x1, .f32⟩
  | 125 => ⟨S128x8x1, .f32⟩
  | 126 => ⟨S_, .f32⟩
  | 127 => ⟨S128x8x1, .f32⟩
  | _ => ⟨S128x8x1024, .f32⟩

abbrev hbmTy0_1 (i : Nat) : BufTy := match i % 128 with
  | 0 => ⟨S128x8x1, .f32⟩
  | 1 => ⟨S128x8x1, .f32⟩
  | 2 => ⟨S128x8x1024, .f32⟩
  | 3 => ⟨S128x8x1024, .f32⟩
  | 4 => ⟨S1x1x1024, .f32⟩
  | 5 => ⟨S128x8x1024, .f32⟩
  | 6 => ⟨S128x8x1024, .f32⟩
  | 7 => ⟨S128x8x4096, .f32⟩
  | 8 => ⟨S128x8x1024, .f32⟩
  | 9 => ⟨S128x8x1024, .f32⟩
  | 10 => ⟨S128x8x1024, .f32⟩
  | 11 => ⟨S128x8x1024, .f32⟩
  | 12 => ⟨S128x8x8x2x64, .f32⟩
  | 13 => ⟨S128x8x8x2x64, .f32⟩
  | 14 => ⟨S_, .f32⟩
  | 15 => ⟨S128x8x8x2, .f32⟩
  | 16 => ⟨S128x8x8x2x1, .f32⟩
  | 17 => ⟨S_, .f32⟩
  | 18 => ⟨S128x8x8x2x1, .f32⟩
  | 19 => ⟨S128x8x8x2x1, .f32⟩
  | 20 => ⟨S_, .f32⟩
  | 21 => ⟨S128x8x8x2x1, .f32⟩
  | 22 => ⟨S128x8x8x2x1, .f32⟩
  | 23 => ⟨S128x8x8x2x1, .f32⟩
  | 24 => ⟨S128x8x8x2x64, .f32⟩
  | 25 => ⟨S128x8x8x2x64, .f32⟩
  | 26 => ⟨S1x1x1x1x64, .f32⟩
  | 27 => ⟨S128x8x8x2x64, .f32⟩
  | 28 => ⟨S128x8x8x2x64, .f32⟩
  | 29 => ⟨S1024x1024, .f32⟩
  | _ => ⟨S128x8x1024, .f32⟩

abbrev hbmTy (i : Nat) : BufTy := match i / 128 with
  | 0 => hbmTy0_0 i
  | 1 => hbmTy0_1 i
  | _ => ⟨S128x8x1024, .f32⟩

abbrev bufTy : (tb : Table) → Fin (tcTables nBuf tb) → BufTy
  | .hbm, ⟨i, _⟩ => hbmTy i
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_10 : Ref sig .tc := ⟨.hbm, 64, rfl⟩
abbrev main_v43 : Ref sig .tc := ⟨.hbm, 65, rfl⟩
abbrev main_v44 : Ref sig .tc := ⟨.hbm, 66, rfl⟩
abbrev main_cst_11 : Ref sig .tc := ⟨.hbm, 67, rfl⟩
abbrev main_v45 : Ref sig .tc := ⟨.hbm, 68, rfl⟩
abbrev main_v46 : Ref sig .tc := ⟨.hbm, 69, rfl⟩
abbrev main_cst_12 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c : Ref sig .tc := ⟨.hbm, 80, rfl⟩
abbrev main_v56 : Ref sig .tc := ⟨.hbm, 81, rfl⟩
abbrev main_call0_v0 : Ref sig .tc := ⟨.hbm, 82, rfl⟩
abbrev main_call0_c : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_c_0 : Ref sig .tc := ⟨.hbm, 88, rfl⟩
abbrev main_call0_v5 : Ref sig .tc := ⟨.hbm, 89, rfl⟩
abbrev main_v57 : Ref sig .tc := ⟨.hbm, 90, rfl⟩
abbrev main_v58 : Ref sig .tc := ⟨.hbm, 91, rfl⟩
abbrev main_cst_13 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_call2_v0 : Ref sig .tc := ⟨.hbm, 107, rfl⟩
abbrev main_call2_v1 : Ref sig .tc := ⟨.hbm, 108, rfl⟩
abbrev main_call2_cst : Ref sig .tc := ⟨.hbm, 109, rfl⟩
abbrev main_call2_v2 : Ref sig .tc := ⟨.hbm, 110, rfl⟩
abbrev main_call2_v3 : Ref sig .tc := ⟨.hbm, 111, rfl⟩
abbrev main_call2_cst_0 : Ref sig .tc := ⟨.hbm, 112, rfl⟩
abbrev main_call2_v4 : Ref sig .tc := ⟨.hbm, 113, rfl⟩
abbrev main_call2_v5 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_cst_14 : Ref sig .tc := ⟨.hbm, 120, rfl⟩
abbrev main_v75 : Ref sig .tc := ⟨.hbm, 121, rfl⟩
abbrev main_v76 : Ref sig .tc := ⟨.hbm, 122, rfl⟩
abbrev main_cst_15 : Ref sig .tc := ⟨.hbm, 123, rfl⟩
abbrev main_v77 : Ref sig .tc := ⟨.hbm, 124, rfl⟩
abbrev main_v78 : Ref sig .tc := ⟨.hbm, 125, rfl⟩
abbrev main_cst_16 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_17 : Ref sig .tc := ⟨.hbm, 142, rfl⟩
abbrev main_v94 : Ref sig .tc := ⟨.hbm, 143, rfl⟩
abbrev main_v95 : Ref sig .tc := ⟨.hbm, 144, rfl⟩
abbrev main_cst_18 : Ref sig .tc := ⟨.hbm, 145, rfl⟩
abbrev main_v96 : Ref sig .tc := ⟨.hbm, 146, rfl⟩
abbrev main_v97 : Ref sig .tc := ⟨.hbm, 147, rfl⟩
abbrev main_cst_19 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩

abbrev nD : Nat := 1
abbrev τ : Topo := Topo.v7x

variable {F : FTy → Type} [FloatOps F]
-- ==== Proof.Layer.lean ====
/-
  The mathematics of one gated spatial-mixing layer over the extended reals, with no program in it: one row of the
  RMS norm and of the input projection, the three gates read off the projection, the norm of the value row, and the
  mixing of a chunk of 128 rows. The kernel and the reference are both read as these functions. -/
module

public import Idealize.ShloMosaic.Lib.Pipeline.ValueKit

@[expose] public section

noncomputable section

namespace Gmlp

open Idealize.ShloMosaic

/-- The tanh form of GELU at a number, with the constants as the programs spell them. -/
def gelu (p : EReal) : EReal :=
  Ideal.ofBits FTy.f32 1056964608#32 * p *
    (1 + Ideal.tanh (Ideal.ofBits FTy.f32 1061962282#32 * (p + Ideal.ofBits FTy.f32 1027024659#32 * (p * p * p))))

/-- The sigmoid-weighted unit at a number. -/
def silu (p : EReal) : EReal := p * Ideal.div 1 (1 + Ideal.exp (0 - p))

/-- A row of 1024 numbers under the RMS norm with gain `g`. -/
def hrow (x g : Fin 1024 → EReal) (k : Fin 1024) : EReal :=
  x k * Ideal.rsqrt (Ideal.div (∑ i, x i * x i) (Ideal.ofBits FTy.f32 1149239296#32) + Ideal.ofBits FTy.f32 897988541#32) * g k

/-- The normed row against column `j` of the input weights. -/
def prow (x g : Fin 1024 → EReal) (w : Fin 1024 → Fin 6144 → EReal) (j : Fin 6144) : EReal :=
  ∑ k, hrow x g k * w k j

/-- The gate `u`: GELU of the first third of the projection. -/
def urow (x g : Fin 1024 → EReal) (w : Fin 1024 → Fin 6144 → EReal) (j : Fin 2048) : EReal :=
  gelu (prow x g w ⟨j, by omega⟩)

/-- The value `v`: GELU of the second third of the projection. -/
def vrow (x g : Fin 1024 → EReal) (w : Fin 1024 → Fin 6144 → EReal) (j : Fin 2048) : EReal :=
  gelu (prow x g w ⟨2048 + j, by omega⟩)

/-- The gate `z`: the sigmoid-weighted last third of the projection. -/
def zrow (x g : Fin 1024 → EReal) (w : Fin 1024 → Fin 6144 → EReal) (j : Fin 2048) : EReal :=
  silu (prow x g w ⟨4096 + j, by omega⟩)

/-- The sum of the squares of a row's 2048 values. -/
def ssq (x g : Fin 1024 → EReal) (w : Fin 1024 → Fin 6144 → EReal) : EReal :=
  ∑ j, vrow x g w j * vrow x g w j

/-- The value row under its own RMS norm with gain `vg`. -/
def vnrow (x g : Fin 1024 → EReal) (w : Fin 1024 → Fin 6144 → EReal) (vg : Fin 2048 → EReal) (j : Fin 2048) : EReal :=
  vrow x g w j * Ideal.rsqrt (ssq x g w * Ideal.ofBits FTy.f32 973078528#32 + Ideal.ofBits FTy.f32 897988541#32) * vg j

/-- Row `t` of a chunk of 128 rows after the spatial mixing: in the group of column `j` the row's earlier rows are
    weighted (where `keep t s` holds), the bias is added, and the two gates multiply the result. -/
def grow (keep : Fin 128 → Fin 128 → Bool) (X : Fin 128 → Fin 1024 → EReal) (g : Fin 1024 → EReal) (w : Fin 1024 → Fin 6144 → EReal)
    (vg : Fin 2048 → EReal) (W B : Fin 16 → Fin 128 → Fin 128 → EReal) (t : Fin 128) (j : Fin 2048) : EReal :=
  urow (X t) g w j *
    ((∑ s, if keep t s then W ⟨(j : ℕ) / 128, by omega⟩ t s * vnrow (X s) g w vg j else 0)
      + B ⟨(j : ℕ) / 128, by omega⟩ t ⟨(j : ℕ) % 128, by omega⟩) *
    zrow (X t) g w j

/-- The layer's result at row `t` of a chunk: the row itself plus the mixed row against the output weights. -/
def yrow (keep : Fin 128 → Fin 128 → Bool) (X : Fin 128 → Fin 1024 → EReal) (g : Fin 1024 → EReal) (w : Fin 1024 → Fin 6144 → EReal)
    (vg : Fin 2048 → EReal) (W B : Fin 16 → Fin 128 → Fin 128 → EReal) (wo : Fin 2048 → Fin 1024 → EReal)
    (t : Fin 128) (n : Fin 1024) : EReal :=
  X t n + ∑ j, grow keep X g w vg W B t j * wo j n

/-- A row may look at itself and at the rows before it in its chunk. -/
def causal (t s : Fin 128) : Bool := decide (s ≤ t)

/-- A sum over 2048 places is the sum of the sums over its four quarters, added in order. -/
theorem sum_quarters (f : Fin 2048 → EReal) :
    ((∑ j : Fin 512, f ⟨j, by omega⟩ + ∑ j : Fin 512, f ⟨512 + j, by omega⟩) + ∑ j : Fin 512, f ⟨1024 + j, by omega⟩)
      + ∑ j : Fin 512, f ⟨1536 + j, by omega⟩ = ∑ j, f j := by
  have h3 := Fin.sum_univ_add (a := 1536) (b := 512) f
  have h2 := Fin.sum_univ_add (a := 1024) (b := 512) fun j : Fin 1536 => f (Fin.castAdd 512 j)
  have h1 := Fin.sum_univ_add (a := 512) (b := 512) fun j : Fin 1024 => f (Fin.castAdd 512 (Fin.castAdd 512 j))
  exact (h3.trans (congrArg (· + _) (h2.trans (congrArg (· + _) h1)))).symm

/-- The kernel's mask word at row `t`, column `s` of a chunk (column at most row, and not before the row's 128-row segment) picks
    exactly the causal entries. -/
theorem mask_word (t s : Fin 128) : IntOp.andi (IntOp.cmpi CmpIPredicate.sle (BitVec.ofNat 32 (s : ℕ)) (BitVec.ofNat 32 (t : ℕ)))
      (IntOp.cmpi CmpIPredicate.sge (BitVec.ofNat 32 (s : ℕ))
        (IntOp.muli (IntOp.shrui ArithUnit.vector (BitVec.ofNat 32 (t : ℕ)) 7#32) 128#32)) = if causal t s then 1#1 else 0#1 := by
  revert t s; decide +kernel

/-- A choice by the kernel's mask word is a choice by the causal test. -/
theorem select_mask (t s : Fin 128) (a b : EReal) :
    Scalar.select (IntOp.andi (IntOp.cmpi CmpIPredicate.sle (BitVec.ofNat 32 (s : ℕ)) (BitVec.ofNat 32 (t : ℕ)))
      (IntOp.cmpi CmpIPredicate.sge (BitVec.ofNat 32 (s : ℕ))
        (IntOp.muli (IntOp.shrui ArithUnit.vector (BitVec.ofNat 32 (t : ℕ)) 7#32) 128#32))) a b = if causal t s then a else b := by
  rw [mask_word]; cases causal t s <;> rfl

end Gmlp

end
-- ==== Proof.Block.lean ====
module

public import proofs.«01_k».proof.Proof.Layer
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Block

open Cert.KernelIdeal Cert.KernelIdeal.Gen Idealize.ShloMosaic Idealize.ShloMosaic.TcCoe Idealize.SL.Sem

/-! What one block of 256 rows computes, as functions of the block's inputs. -/

/-- Row `r` of the block of rows. -/
abbrev rowB (x0 : Vec Ideal S256x1024 .f32) (r : Fin 256) : Fin 1024 → EReal := fun k => x0 (ix2 r k)
/-- The gain of the norm, as a row. -/
abbrev gainB (x1 : Vec Ideal S1x1024 .f32) : Fin 1024 → EReal := fun k => x1 (ix2 0 k)
/-- The input weights. -/
abbrev winB (x2 : Vec Ideal S1024x6144 .bf16) : Fin 1024 → Fin 6144 → EReal := fun k j => x2 (ix2 k j)
/-- The gain of the value norm, as a row. -/
abbrev vgB (x3 : Vec Ideal S1x2048 .f32) : Fin 2048 → EReal := fun j => x3 (ix2 0 j)

/-- The first gate over the block. -/
def UB (x0 : Vec Ideal S256x1024 .f32) (x1 : Vec Ideal S1x1024 .f32) (x2 : Vec Ideal S1024x6144 .bf16) : S256x2048.Idx → Elt Ideal .f32 :=
  fun y => Gmlp.urow (rowB x0 (y 0)) (gainB x1) (winB x2) (y 1)
/-- The values over the block. -/
def VB (x0 : Vec Ideal S256x1024 .f32) (x1 : Vec Ideal S1x1024 .f32) (x2 : Vec Ideal S1024x6144 .bf16) : S256x2048.Idx → Elt Ideal .f32 :=
  fun y => Gmlp.vrow (rowB x0 (y 0)) (gainB x1) (winB x2) (y 1)
/-- The second gate over the block. -/
def ZB (x0 : Vec Ideal S256x1024 .f32) (x1 : Vec Ideal S1x1024 .f32) (x2 : Vec Ideal S1024x6144 .bf16) : S256x2048.Idx → Elt Ideal .f32 :=
  fun y => Gmlp.zrow (rowB x0 (y 0)) (gainB x1) (winB x2) (y 1)
/-- The normed values over the block. -/
def VNB (x0 : Vec Ideal S256x1024 .f32) (x1 : Vec Ideal S1x1024 .f32) (x2 : Vec Ideal S1024x6144 .bf16) (x3 : Vec Ideal S1x2048 .f32) :
    S256x2048.Idx → Elt Ideal .f32 :=
  fun y => Gmlp.vnrow (rowB x0 (y 0)) (gainB x1) (winB x2) (vgB x3) (y 1)
/-- The mixed rows over the block: row `r` is row `r % 128` of chunk `r / 128`. -/
def GB (x0 : Vec Ideal S256x1024 .f32) (x1 : Vec Ideal S1x1024 .f32) (x2 : Vec Ideal S1024x6144 .bf16) (x3 : Vec Ideal S1x2048 .f32)
    (x4 x5 : Vec Ideal S16x128x128 .f32) : S256x2048.Idx → Elt Ideal .bf16 :=
  fun y => Gmlp.grow Gmlp.causal (fun s => rowB x0 ⟨128 * ((y 0 : ℕ) / 128) + s, by have := (y 0).isLt; change (y 0 : ℕ) < 256 at this; omega⟩) (gainB x1) (winB x2) (vgB x3)
    (fun g t s => x4 (ix3 g t s)) (fun g t d => x5 (ix3 g t d)) ⟨(y 0 : ℕ) % 128, by omega⟩ (y 1)

/-- A stored slab of 512 columns whose entries are those of a whole-block function is that function at the slab's places. -/
theorem slab_of (G : S256x2048.Idx → Elt Ideal .f32) (p : FVec Ideal S256x512 .f32) (o : ℕ) (inb : ∀ a, (![0, o] : Fin 2 → ℕ) a + S256x512.size a ≤ S256x2048.size a)
    (ho : o ≤ 1536)
    (hp : ∀ (r : Fin 256) (j : Fin 512), p (ix2 r j) = G (ix2 r ⟨o + j, by omega⟩))
    (x : (Rect.unit (s := S256x2048) ![0, o] S256x512.size inb).shape.Idx) : p x = G ((Rect.unit (s := S256x2048) ![0, o] S256x512.size inb).emb x) := by
  have hx : x = ix2 (n0 := 256) (n1 := 512) (x 0) (x 1) := eq_ix2 _
  rw [hx]
  refine (hp (x 0) (x 1)).trans (congrArg G ?_)
  funext a
  match a with
  | ⟨0, _⟩ => exact Fin.ext (show ((x 0 : Fin 256) : ℕ) = 0 + 1 * ((x 0 : Fin 256) : ℕ) by omega)
  | ⟨1, _⟩ => exact Fin.ext (show o + ((x 1 : Fin 512) : ℕ) = o + 1 * ((x 1 : Fin 512) : ℕ) by omega)

variable (c : Dev nD) (arg1 : Memref sig .tc .vmem S256x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S16x128x128 .f32) (harg6 : arg6.IsWhole)
  (arg9 arg10 arg11 : Memref sig .tc .vmem S256x2048 .f32)
  (x0 : Vec Ideal S256x1024 .f32) (x1 : Vec Ideal S1x1024 .f32) (x2 : Vec Ideal S1024x6144 .bf16) (x3 : Vec Ideal S1x2048 .f32) (x4 x5 : Vec Ideal S16x128x128 .f32)

/-- The normed rows. -/
theorem norm_word : kernelRun0_A.sl.r_1 (F := Ideal) c arg1 harg1 arg2 harg2 x0 x1 = fun i => Gmlp.hrow (rowB x0 (i 0)) (gainB x1) (i 1) := by
  funext i
  simp only [kernelRun0_A.sl.r_1, View.readAt_eq_ld, Memref.IsWhole.read_unread]
  unfold_payloads
  idx_vars i
  pointwise
  rfl

/-- The first scratch holds the first gate. -/
theorem HS0_4_eq : View.canon (kernelRun0_A.sl.HS0_4 (F := Ideal) c arg1 harg1 arg2 harg2 arg3 harg3 x0 x1 x2) = UB x0 x1 x2 := by
  have hc := View.cover_of_tiledL (kernelRun0_A.sl.HS0_4 (F := Ideal) c arg1 harg1 arg2 harg2 arg3 harg3 x0 x1 x2) ![256, 512] (by unfold kernelRun0_A.sl.HS0_4; rfl)
  funext y
  refine View.canon_apply_of_pieces _ _ (View.PiecesOf.mem ?_) y (hc y)
  unfold kernelRun0_A.sl.HS0_4
  refine ⟨slab_of _ _ 1536 inb_S256x2048_S256x512_0_1536 (by omega) fun r j => ?_, slab_of _ _ 1024 inb_S256x2048_S256x512_0_1024 (by omega) fun r j => ?_, slab_of _ _ 512 inb_S256x2048_S256x512_0_512 (by omega) fun r j => ?_,
    slab_of _ _ 0 inb_S256x2048_S256x512_0_0 (by omega) fun r j => ?_, trivial⟩
  all_goals
    simp only [kernelRun0_A.sl.r_11, kernelRun0_A.sl.r_12, kernelRun0_A.sl.r_4, kernelRun0_A.sl.cst_33, norm_word, View.readAt_eq_ld, Memref.IsWhole.read_unread]
    unfold_payloads
    pointwise
    simp only [UB, Gmlp.urow, Gmlp.prow, Gmlp.gelu, Gmlp.silu, Gmlp.hrow]
    try simp only [ix2_0, ix2_1, ← Nat.add_assoc, Nat.reduceAdd]
    try rfl

/-- The second scratch holds the values. -/
theorem HS1_4_eq : View.canon (kernelRun0_A.sl.HS1_4 (F := Ideal) c arg1 harg1 arg2 harg2 arg3 harg3 x0 x1 x2) = VB x0 x1 x2 := by
  have hc := View.cover_of_tiledL (kernelRun0_A.sl.HS1_4 (F := Ideal) c arg1 harg1 arg2 harg2 arg3 harg3 x0 x1 x2) ![256, 512] (by unfold kernelRun0_A.sl.HS1_4; rfl)
  funext y
  refine View.canon_apply_of_pieces _ _ (View.PiecesOf.mem ?_) y (hc y)
  unfold kernelRun0_A.sl.HS1_4
  refine ⟨slab_of _ _ 1536 inb_S256x2048_S256x512_0_1536 (by omega) fun r j => ?_, slab_of _ _ 1024 inb_S256x2048_S256x512_0_1024 (by omega) fun r j => ?_, slab_of _ _ 512 inb_S256x2048_S256x512_0_512 (by omega) fun r j => ?_,
    slab_of _ _ 0 inb_S256x2048_S256x512_0_0 (by omega) fun r j => ?_, trivial⟩
  all_goals
    simp only [kernelRun0_A.sl.r_2, kernelRun0_A.sl.r_7, kernelRun0_A.sl.r_8, kernelRun0_A.sl.r_9, kernelRun0_A.sl.cst_66, norm_word, View.readAt_eq_ld, Memref.IsWhole.read_unread]
    unfold_payloads
    pointwise
    simp only [VB, Gmlp.vrow, Gmlp.prow, Gmlp.gelu, Gmlp.silu, Gmlp.hrow]
    try simp only [ix2_0, ix2_1, ← Nat.add_assoc, Nat.reduceAdd]
    try rfl

/-- The third scratch holds the second gate. -/
theorem HS2_4_eq : View.canon (kernelRun0_A.sl.HS2_4 (F := Ideal) c arg1 harg1 arg2 harg2 arg3 harg3 x0 x1 x2) = ZB x0 x1 x2 := by
  have hc := View.cover_of_tiledL (kernelRun0_A.sl.HS2_4 (F := Ideal) c arg1 harg1 arg2 harg2 arg3 harg3 x0 x1 x2) ![256, 512] (by unfold kernelRun0_A.sl.HS2_4; rfl)
  funext y
  refine View.canon_apply_of_pieces _ _ (View.PiecesOf.mem ?_) y (hc y)
  unfold kernelRun0_A.sl.HS2_4
  refine ⟨slab_of _ _ 1536 inb_S256x2048_S256x512_0_1536 (by omega) fun r j => ?_, slab_of _ _ 1024 inb_S256x2048_S256x512_0_1024 (by omega) fun r j => ?_, slab_of _ _ 512 inb_S256x2048_S256x512_0_512 (by omega) fun r j => ?_,
    slab_of _ _ 0 inb_S256x2048_S256x512_0_0 (by omega) fun r j => ?_, trivial⟩
  all_goals
    simp only [kernelRun0_A.sl.r_14, kernelRun0_A.sl.r_15, kernelRun0_A.sl.r_6, norm_word, View.readAt_eq_ld, Memref.IsWhole.read_unread]
    unfold_payloads
    pointwise
    simp only [ZB, Gmlp.zrow, Gmlp.prow, Gmlp.gelu, Gmlp.silu, Gmlp.hrow]
    try simp only [ix2_0, ix2_1, ← Nat.add_assoc, Nat.reduceAdd]
    try rfl

end Cert.KernelIdeal.Block

end
-- ==== Proof.Mix.lean ====
module

public import proofs.«01_k».proof.Proof.Block
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Block

open Cert.KernelIdeal Cert.KernelIdeal.Gen Idealize.ShloMosaic Idealize.ShloMosaic.TcCoe Idealize.SL.Sem

variable (c : Dev nD) (arg1 : Memref sig .tc .vmem S256x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S16x128x128 .f32) (harg6 : arg6.IsWhole)
  (arg9 arg10 arg11 : Memref sig .tc .vmem S256x2048 .f32)
  (x0 : Vec Ideal S256x1024 .f32) (x1 : Vec Ideal S1x1024 .f32) (x2 : Vec Ideal S1024x6144 .bf16) (x3 : Vec Ideal S1x2048 .f32) (x4 x5 : Vec Ideal S16x128x128 .f32)

/-- The sum of squares that the kernel accumulates slab by slab is the whole row's. -/
theorem ssq_word : kernelRun0_A.sl.r_13 (F := Ideal) c arg1 harg1 arg2 harg2 arg3 harg3 x0 x1 x2 = fun i => Gmlp.ssq (rowB x0 (i 0)) (gainB x1) (winB x2) := by
  funext i
  simp only [kernelRun0_A.sl.r_13, kernelRun0_A.sl.r_10, kernelRun0_A.sl.r_5, kernelRun0_A.sl.r_3, kernelRun0_A.sl.r_2, kernelRun0_A.sl.r_7, kernelRun0_A.sl.r_8, kernelRun0_A.sl.r_9, kernelRun0_A.sl.cst_66, norm_word, View.readAt_eq_ld, Memref.IsWhole.read_unread]
  unfold_payloads
  idx_vars i
  pointwise
  refine Eq.trans ?_ (Gmlp.sum_quarters _)
  simp only [Gmlp.vrow, Gmlp.prow, Gmlp.gelu, Gmlp.hrow, ← Nat.add_assoc, Nat.reduceAdd]
  try rfl

/-- After the norm the second scratch holds the normed values. -/
theorem HS1_5_eq : View.canon (kernelRun0_A.sl.HS1_5 (F := Ideal) c arg1 harg1 arg2 harg2 arg3 harg3 arg4 harg4 arg10 x0 x1 x2 x3) = VNB x0 x1 x2 x3 := by
  unfold kernelRun0_A.sl.HS1_5 kernelRun0_A.sl.v242
  rw [View.canon_cons_unit_lit _ _ _ (by decide), View.readCov_eq_canon', HS1_4_eq, ssq_word]
  funext y
  simp only [View.readAt_eq_ld, Memref.IsWhole.read_unread]
  unfold_payloads
  idx_vars y
  pointwise
  rfl

/-- A stored tile of 128 × 128 entries, given entry by entry over the whole-block gates and normed values, is the mixed block at the tile's
    places: rows of chunk `rr`, columns of group `g`. -/
theorem tile_of (x0 : Vec Ideal S256x1024 .f32) (x1 : Vec Ideal S1x1024 .f32) (x2 : Vec Ideal S1024x6144 .bf16) (x3 : Vec Ideal S1x2048 .f32)
    (x4 x5 : Vec Ideal S16x128x128 .f32) (p : FVec Ideal S128x128 .bf16) (o q : ℕ)
    (inb : ∀ a, (![o, q] : Fin 2 → ℕ) a + S128x128.size a ≤ S256x2048.size a) (rr g : ℕ) (hr : o = 128 * rr) (hg : q = 128 * g) (hr2 : rr < 2) (hg16 : g < 16)
    (hp : ∀ t d : Fin 128, p (ix2 t d) = UB x0 x1 x2 (ix2 ⟨o + t, by omega⟩ ⟨q + d, by omega⟩) *
      ((∑ s : Fin 128, if Gmlp.causal t s then x4 (ix3 ⟨g, hg16⟩ t s) * VNB x0 x1 x2 x3 (ix2 ⟨o + s, by omega⟩ ⟨q + d, by omega⟩) else 0)
        + x5 (ix3 ⟨g, hg16⟩ t d)) * ZB x0 x1 x2 (ix2 ⟨o + t, by omega⟩ ⟨q + d, by omega⟩))
    (x : (Rect.unit (s := S256x2048) ![o, q] S128x128.size inb).shape.Idx) :
    p x = GB x0 x1 x2 x3 x4 x5 ((Rect.unit (s := S256x2048) ![o, q] S128x128.size inb).emb x) := by
  have key : ∀ t d : Fin 128, p (ix2 t d) = GB x0 x1 x2 x3 x4 x5 (ix2 ⟨o + t, by omega⟩ ⟨q + d, by omega⟩) := fun t d => by
    have e1 : (o + (t : ℕ)) % 128 = t := by omega
    have e2 : 128 * ((o + (t : ℕ)) / 128) = o := by omega
    have e3 : (q + (d : ℕ)) / 128 = g := by omega
    have e4 : (q + (d : ℕ)) % 128 = d := by omega
    rw [hp]
    simp only [GB, Gmlp.grow, UB, VNB, ZB, ix2_0, ix2_1, e1, e2, e3, e4, Fin.eta]
  have hx : x = ix2 (n0 := 128) (n1 := 128) (x 0) (x 1) := eq_ix2 _
  refine (congrArg p hx).trans ((key (x 0) (x 1)).trans (congrArg (GB x0 x1 x2 x3 x4 x5) ?_))
  funext a
  match a with
  | ⟨0, _⟩ => exact Fin.ext (show o + ((x 0 : Fin 128) : ℕ) = o + 1 * ((x 0 : Fin 128) : ℕ) by omega)
  | ⟨1, _⟩ => exact Fin.ext (show q + ((x 1 : Fin 128) : ℕ) = q + 1 * ((x 1 : Fin 128) : ℕ) by omega)

/-- The last scratch holds the mixed rows. -/
theorem HS3_32_eq : View.canon (kernelRun0_A.sl.HS3_32 (F := Ideal) c arg1 harg1 arg2 harg2 arg3 harg3 arg4 harg4 arg5 harg5 arg6 harg6 arg9 arg10 arg11 x0 x1 x2 x3 x4 x5) = GB x0 x1 x2 x3 x4 x5 := by
  have hc := View.cover_of_tiledL (kernelRun0_A.sl.HS3_32 (F := Ideal) c arg1 harg1 arg2 harg2 arg3 harg3 arg4 harg4 arg5 harg5 arg6 harg6 arg9 arg10 arg11 x0 x1 x2 x3 x4 x5) ![128, 128] (by unfold kernelRun0_A.sl.HS3_32; rfl)
  funext y
  refine View.canon_apply_of_pieces _ _ (View.PiecesOf.mem ?_) y (hc y)
  unfold kernelRun0_A.sl.HS3_32
  refine ⟨tile_of x0 x1 x2 x3 x4 x5 _ 128 1920 inb_S256x2048_S128x128_128_1920 1 15 rfl rfl (by omega) (by omega) fun t d => ?_,
    tile_of x0 x1 x2 x3 x4 x5 _ 0 1920 inb_S256x2048_S128x128_0_1920 0 15 rfl rfl (by omega) (by omega) fun t d => ?_,
    tile_of x0 x1 x2 x3 x4 x5 _ 128 1792 inb_S256x2048_S128x128_128_1792 1 14 rfl rfl (by omega) (by omega) fun t d => ?_,
    tile_of x0 x1 x2 x3 x4 x5 _ 0 1792 inb_S256x2048_S128x128_0_1792 0 14 rfl rfl (by omega) (by omega) fun t d => ?_,
    tile_of x0 x1 x2 x3 x4 x5 _ 128 1664 inb_S256x2048_S128x128_128_1664 1 13 rfl rfl (by omega) (by omega) fun t d => ?_,
    tile_of x0 x1 x2 x3 x4 x5 _ 0 1664 inb_S256x2048_S128x128_0_1664 0 13 rfl rfl (by omega) (by omega) fun t d => ?_,
    tile_of x0 x1 x2 x3 x4 x5 _ 128 1536 inb_S256x2048_S128x128_128_1536 1 12 rfl rfl (by omega) (by omega) fun t d => ?_,
    tile_of x0 x1 x2 x3 x4 x5 _ 0 1536 inb_S256x2048_S128x128_0_1536 0 12 rfl rfl (by omega) (by omega) fun t d => ?_,
    tile_of x0 x1 x2 x3 x4 x5 _ 128 1408 inb_S256x2048_S128x128_128_1408 1 11 rfl rfl (by omega) (by omega) fun t d => ?_,
    tile_of x0 x1 x2 x3 x4 x5 _ 0 1408 inb_S256x2048_S128x128_0_1408 0 11 rfl rfl (by omega) (by omega) fun t d => ?_,
    tile_of x0 x1 x2 x3 x4 x5 _ 128 1280 inb_S256x2048_S128x128_128_1280 1 10 rfl rfl (by omega) (by omega) fun t d => ?_,
    tile_of x0 x1 x2 x3 x4 x5 _ 0 1280 inb_S256x2048_S128x128_0_1280 0 10 rfl rfl (by omega) (by omega) fun t d => ?_,
    tile_of x0 x1 x2 x3 x4 x5 _ 128 1152 inb_S256x2048_S128x128_128_1152 1 9 rfl rfl (by omega) (by omega) fun t d => ?_,
    tile_of x0 x1 x2 x3 x4 x5 _ 0 1152 inb_S256x2048_S128x128_0_1152 0 9 rfl rfl (by omega) (by omega) fun t d => ?_,
    tile_of x0 x1 x2 x3 x4 x5 _ 128 1024 inb_S256x2048_S128x128_128_1024 1 8 rfl rfl (by omega) (by omega) fun t d => ?_,
    tile_of x0 x1 x2 x3 x4 x5 _ 0 1024 inb_S256x2048_S128x128_0_1024 0 8 rfl rfl (by omega) (by omega) fun t d => ?_,
    tile_of x0 x1 x2 x3 x4 x5 _ 128 896 inb_S256x2048_S128x128_128_896 1 7 rfl rfl (by omega) (by omega) fun t d => ?_,
    tile_of x0 x1 x2 x3 x4 x5 _ 0 896 inb_S256x2048_S128x128_0_896 0 7 rfl rfl (by omega) (by omega) fun t d => ?_,
    tile_of x0 x1 x2 x3 x4 x5 _ 128 768 inb_S256x2048_S128x128_128_768 1 6 rfl rfl (by omega) (by omega) fun t d => ?_,
    tile_of x0 x1 x2 x3 x4 x5 _ 0 768 inb_S256x2048_S128x128_0_768 0 6 rfl rfl (by omega) (by omega) fun t d => ?_,
    tile_of x0 x1 x2 x3 x4 x5 _ 128 640 inb_S256x2048_S128x128_128_640 1 5 rfl rfl (by omega) (by omega) fun t d => ?_,
    tile_of x0 x1 x2 x3 x4 x5 _ 0 640 inb_S256x2048_S128x128_0_640 0 5 rfl rfl (by omega) (by omega) fun t d => ?_,
    tile_of x0 x1 x2 x3 x4 x5 _ 128 512 inb_S256x2048_S128x128_128_512 1 4 rfl rfl (by omega) (by omega) fun t d => ?_,
    tile_of x0 x1 x2 x3 x4 x5 _ 0 512 inb_S256x2048_S128x128_0_512 0 4 rfl rfl (by omega) (by omega) fun t d => ?_,
    tile_of x0 x1 x2 x3 x4 x5 _ 128 384 inb_S256x2048_S128x128_128_384 1 3 rfl rfl (by omega) (by omega) fun t d => ?_,
    tile_of x0 x1 x2 x3 x4 x5 _ 0 384 inb_S256x2048_S128x128_0_384 0 3 rfl rfl (by omega) (by omega) fun t d => ?_,
    tile_of x0 x1 x2 x3 x4 x5 _ 128 256 inb_S256x2048_S128x128_128_256 1 2 rfl rfl (by omega) (by omega) fun t d => ?_,
    tile_of x0 x1 x2 x3 x4 x5 _ 0 256 inb_S256x2048_S128x128_0_256 0 2 rfl rfl (by omega) (by omega) fun t d => ?_,
    tile_of x0 x1 x2 x3 x4 x5 _ 128 128 inb_S256x2048_S128x128_128_128 1 1 rfl rfl (by omega) (by omega) fun t d => ?_,
    tile_of x0 x1 x2 x3 x4 x5 _ 0 128 inb_S256x2048_S128x128_0_128 0 1 rfl rfl (by omega) (by omega) fun t d => ?_,
    tile_of x0 x1 x2 x3 x4 x5 _ 128 0 inb_S256x2048_S128x128_128_0 1 0 rfl rfl (by omega) (by omega) fun t d => ?_,
    tile_of x0 x1 x2 x3 x4 x5 _ 0 0 inb_S256x2048_S128x128_0_0 0 0 rfl rfl (by omega) (by omega) fun t d => ?_, trivial⟩
  all_goals
    simp only [kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.v273, kernelRun0_A.sl.v277, kernelRun0_A.sl.v279, kernelRun0_A.sl.v285, kernelRun0_A.sl.v289, kernelRun0_A.sl.v291, kernelRun0_A.sl.v304, kernelRun0_A.sl.v308, kernelRun0_A.sl.v310, kernelRun0_A.sl.v316, kernelRun0_A.sl.v320, kernelRun0_A.sl.v322, kernelRun0_A.sl.v335, kernelRun0_A.sl.v339, kernelRun0_A.sl.v341, kernelRun0_A.sl.v347, kernelRun0_A.sl.v351, kernelRun0_A.sl.v353, kernelRun0_A.sl.v366, kernelRun0_A.sl.v370, kernelRun0_A.sl.v372, kernelRun0_A.sl.v378, kernelRun0_A.sl.v382, kernelRun0_A.sl.v384, kernelRun0_A.sl.v397, kernelRun0_A.sl.v401, kernelRun0_A.sl.v403, kernelRun0_A.sl.v409, kernelRun0_A.sl.v413, kernelRun0_A.sl.v415, kernelRun0_A.sl.v428, kernelRun0_A.sl.v432, kernelRun0_A.sl.v434, kernelRun0_A.sl.v440, kernelRun0_A.sl.v444, kernelRun0_A.sl.v446, kernelRun0_A.sl.v459, kernelRun0_A.sl.v463, kernelRun0_A.sl.v465, kernelRun0_A.sl.v471, kernelRun0_A.sl.v475, kernelRun0_A.sl.v477, kernelRun0_A.sl.v490, kernelRun0_A.sl.v494, kernelRun0_A.sl.v496, kernelRun0_A.sl.v502, kernelRun0_A.sl.v506, kernelRun0_A.sl.v508, kernelRun0_A.sl.v521, kernelRun0_A.sl.v525, kernelRun0_A.sl.v527, kernelRun0_A.sl.v533, kernelRun0_A.sl.v537, kernelRun0_A.sl.v539, kernelRun0_A.sl.v552, kernelRun0_A.sl.v556, kernelRun0_A.sl.v558, kernelRun0_A.sl.v564, kernelRun0_A.sl.v568, kernelRun0_A.sl.v570, kernelRun0_A.sl.v583, kernelRun0_A.sl.v587, kernelRun0_A.sl.v589, kernelRun0_A.sl.v595, kernelRun0_A.sl.v599, kernelRun0_A.sl.v601, kernelRun0_A.sl.v614, kernelRun0_A.sl.v618, kernelRun0_A.sl.v620, kernelRun0_A.sl.v626, kernelRun0_A.sl.v630, kernelRun0_A.sl.v632, kernelRun0_A.sl.v645, kernelRun0_A.sl.v649, kernelRun0_A.sl.v651, kernelRun0_A.sl.v657, kernelRun0_A.sl.v661, kernelRun0_A.sl.v663, kernelRun0_A.sl.v676, kernelRun0_A.sl.v680, kernelRun0_A.sl.v682, kernelRun0_A.sl.v688, kernelRun0_A.sl.v692, kernelRun0_A.sl.v694, kernelRun0_A.sl.v707, kernelRun0_A.sl.v711, kernelRun0_A.sl.v713, kernelRun0_A.sl.v719, kernelRun0_A.sl.v723, kernelRun0_A.sl.v725, kernelRun0_A.sl.v738, kernelRun0_A.sl.v742, kernelRun0_A.sl.v744, kernelRun0_A.sl.v750, kernelRun0_A.sl.v754, kernelRun0_A.sl.v756, View.readCov_eq_canon', HS0_4_eq, HS1_5_eq, HS2_4_eq, View.readAt_eq_ld, Memref.IsWhole.read_unread]
    unfold_payloads
    pointwise
    simp only [Gmlp.select_mask, Nat.zero_add, Fin.eta]
    try rfl

end Cert.KernelIdeal.Block

end
-- ==== Proof.Out.lean ====
module

public import proofs.«01_k».proof.Proof.Mix

@[expose] public section

set_option maxRecDepth 16384

noncomputable section

namespace Cert.KernelIdeal.Block

open Cert.KernelIdeal Cert.KernelIdeal.Gen Idealize.ShloMosaic Idealize.ShloMosaic.TcCoe Idealize.SL.Sem

/-! What a grid point leaves in the output block. -/

/-- What the output block holds after a point, as a function of the point's input blocks: the rows plus the mixed rows
    against the output weights. -/
def YB (x0 : Vec Ideal S256x1024 .f32) (x1 : Vec Ideal S1x1024 .f32) (x2 : Vec Ideal S1024x6144 .bf16) (x3 : Vec Ideal S1x2048 .f32)
    (x4 x5 : Vec Ideal S16x128x128 .f32) (x6 : Vec Ideal S2048x1024 .bf16) : S256x1024.Idx → EReal :=
  fun y => Gmlp.yrow Gmlp.causal (fun s => rowB x0 ⟨128 * ((y 0 : ℕ) / 128) + s, by have := (y 0).isLt; change (y 0 : ℕ) < 256 at this; omega⟩) (gainB x1) (winB x2) (vgB x3)
    (fun g t s => x4 (ix3 g t s)) (fun g t d => x5 (ix3 g t d)) (fun j n => x6 (ix2 j n)) ⟨(y 0 : ℕ) % 128, by omega⟩ (y 1)

/-- `YB` through the mixed block. -/
theorem YB_apply (x0 : Vec Ideal S256x1024 .f32) (x1 : Vec Ideal S1x1024 .f32) (x2 : Vec Ideal S1024x6144 .bf16) (x3 : Vec Ideal S1x2048 .f32)
    (x4 x5 : Vec Ideal S16x128x128 .f32) (x6 : Vec Ideal S2048x1024 .bf16) (r : Fin 256) (n : Fin 1024) :
    x0 (ix2 r n) + ∑ j : Fin 2048, GB x0 x1 x2 x3 x4 x5 (ix2 r j) * x6 (ix2 j n) = YB x0 x1 x2 x3 x4 x5 x6 (ix2 r n) := by
  have e : 128 * ((r : ℕ) / 128) + (r : ℕ) % 128 = r := by omega
  simp only [YB, Gmlp.yrow, GB, ix2_0, ix2_1, e, Fin.eta]

/-- A run's output block is `YB` of its input blocks. -/
theorem out_eq (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S16x128x128 .f32) (harg6 : arg6.IsWhole) (arg7 : Memref sig .tc .vmem S2048x1024 .bf16) (harg7 : arg7.IsWhole) (arg8 : Memref sig .tc .vmem S256x1024 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .bf16) (harg12 : arg12.IsWhole)
    (x0 : Vec Ideal S256x1024 .f32) (x1 : Vec Ideal S1x1024 .f32) (x2 : Vec Ideal S1024x6144 .bf16) (x3 : Vec Ideal S1x2048 .f32) (x4 : Vec Ideal S16x128x128 .f32) (x5 : Vec Ideal S16x128x128 .f32) (x6 : Vec Ideal S2048x1024 .bf16) :
    out0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 = YB x0 x1 x2 x3 x4 x5 x6 := by
  unfold out0_A_7
  rw [View.read_writes_junk_eq_canon]
  unfold kernelRun0_A
  dsimp only
  rw [View.canon_cons_unit_lit _ _ _ (by decide)]
  simp only [kernelRun0_A.sl.r, kernelRun0_A.sl.v762, View.readCov_eq_canon', HS3_32_eq, View.readAt_eq_ld, Memref.IsWhole.read_unread]
  funext y
  rw [eq_ix2 (n0 := 256) (n1 := 1024) y]
  refine Eq.trans ?_ (YB_apply x0 x1 x2 x3 x4 x5 x6 (y 0) (y 1))
  unfold_payloads
  pointwise

/-- The output block after a point is `YB` of the point's input blocks. -/
theorem outs_eq (m : (ℓ : Loc nD τ sig) → Buf (Elt Ideal) ℓ) (c : Dev nD) (t : Fin cfg0.N) :
    outsAt0 m c t = YB (iblk m c 0 t) (iblk m c 1 t) (iblk m c 2 t) (iblk m c 3 t) (iblk m c 4 t) (iblk m c 5 t) (iblk m c 6 t) :=
  out_eq ..

end Cert.KernelIdeal.Block

end
-- ==== Proof.Array.lean ====
module

public import proofs.«01_k».proof.Proof.Out

@[expose] public section

set_option maxRecDepth 16384

noncomputable section

namespace Cert.KernelIdeal.Block

open Cert.KernelIdeal Cert.KernelIdeal.Gen Idealize.ShloMosaic Idealize.ShloMosaic.TcCoe Idealize.SL.Sem

/-! The result array after the run, from the arguments. -/

variable (m : (ℓ : Loc nD τ sig) → Buf (Elt Ideal) ℓ) (c : Dev nD) (t : Fin cfg0.N)

/-- The block of window 0 at a point is the point's own block of rows. -/
theorem index0 : ∀ t : Fin cfg0.N, win0_0.index t = ![(t : ℕ), 0] := by decide +kernel
/-- The block of window 1 is the same at every point. -/
theorem index1 : ∀ t : Fin cfg0.N, win0_1.index t = ![0, 0] := by decide +kernel
/-- The block of window 2 is the same at every point. -/
theorem index2 : ∀ t : Fin cfg0.N, win0_2.index t = ![0, 0] := by decide +kernel
/-- The block of window 3 is the same at every point. -/
theorem index3 : ∀ t : Fin cfg0.N, win0_3.index t = ![0, 0] := by decide +kernel
/-- The block of window 4 is the same at every point. -/
theorem index4 : ∀ t : Fin cfg0.N, win0_4.index t = ![0, 0, 0] := by decide +kernel
/-- The block of window 5 is the same at every point. -/
theorem index5 : ∀ t : Fin cfg0.N, win0_5.index t = ![0, 0, 0] := by decide +kernel
/-- The block of window 6 is the same at every point. -/
theorem index6 : ∀ t : Fin cfg0.N, win0_6.index t = ![0, 0] := by decide +kernel
/-- The block of window 7 at a point is the point's own block of rows. -/
theorem index7 : ∀ t : Fin cfg0.N, win0_7.index t = ![(t : ℕ), 0] := by decide +kernel

/-- The weights' block is the whole array. -/
theorem blk2 (k : Fin 1024) (j : Fin 6144) : iblk m c 2 t (ix2 k j) = m ((c : Thread nD τ).loc main_arg2) (ix2 k j) := by
  blk_ext! [iblk, V, index2 t]
/-- The output weights' block is the whole array. -/
theorem blk6 (j : Fin 2048) (n : Fin 1024) : iblk m c 6 t (ix2 j n) = m ((c : Thread nD τ).loc main_arg6) (ix2 j n) := by
  blk_ext! [iblk, V, index6 t]
/-- The gain's block is the gain, as a row. -/
theorem blk1 (k : Fin 1024) : iblk m c 1 t (ix2 0 k) = m ((c : Thread nD τ).loc main_arg1) (ix1 k) := by
  blk_ext! [iblk, V, index1 t]
/-- The value gain's block is that gain, as a row. -/
theorem blk3 (k : Fin 2048) : iblk m c 3 t (ix2 0 k) = m ((c : Thread nD τ).loc main_arg3) (ix1 k) := by
  blk_ext! [iblk, V, index3 t]
/-- The spatial weights' block is the whole array. -/
theorem blk4 (g : Fin 16) (r s : Fin 128) : iblk m c 4 t (ix3 g r s) = m ((c : Thread nD τ).loc main_arg4) (ix3 g r s) := by
  blk_ext! [iblk, V, index4 t]
/-- The bias block repeats the bias along its last axis. -/
theorem blk5 (g : Fin 16) (r s : Fin 128) : iblk m c 5 t (ix3 g r s) = m ((c : Thread nD τ).loc main_arg5) (ix2 g r) := by
  blk_ext! [iblk, V, index5 t]
/-- Row `r` of a point's block of rows is row `256 t + r` of the flattened rows. -/
theorem blk0 (r : Fin 256) (k : Fin 1024) : iblk m c 0 t (ix2 r k) = m ((c : Thread nD τ).loc main_arg0)
    (ix3 ⟨(256 * (t : ℕ) + r) / 4096, by have : (t : ℕ) < 64 := t.isLt; omega⟩ ⟨(256 * (t : ℕ) + r) % 4096, by omega⟩ k) := by
  blk_ext! [iblk, V, index0 t]

/-- What the result array holds, from the arguments: place `(i, n)` is row `i % 4096` of batch `i / 4096`, in its chunk of 128 rows. -/
def YA (X : S4x4096x1024.Idx → EReal) (g : S1024.Idx → EReal) (w : S1024x6144.Idx → EReal) (vg : S2048.Idx → EReal) (W : S16x128x128.Idx → EReal)
    (B : S16x128.Idx → EReal) (wo : S2048x1024.Idx → EReal) (i : S16384x1024.Idx) : EReal :=
  Gmlp.yrow Gmlp.causal
    (fun s k => X (ix3 ⟨(i 0 : ℕ) / 4096, by have : (i 0 : ℕ) < 16384 := (i 0).isLt; omega⟩ ⟨128 * ((i 0 : ℕ) % 4096 / 128) + s, by omega⟩ k))
    (fun k => g (ix1 k)) (fun k j => w (ix2 k j)) (fun j => vg (ix1 j)) (fun g t s => W (ix3 g t s)) (fun g t _ => B (ix2 g t))
    (fun j n => wo (ix2 j n)) ⟨(i 0 : ℕ) % 4096 % 128, by omega⟩ (i 1)

/-- One place of a point's output block is the array's place it is written to. -/
theorem block_row (r : Fin 256) (n : Fin 1024) (ht : (t : ℕ) < 64) :
    YB (iblk m c 0 t) (iblk m c 1 t) (iblk m c 2 t) (iblk m c 3 t) (iblk m c 4 t) (iblk m c 5 t) (iblk m c 6 t) (ix2 r n) =
      YA (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
        (m ((c : Thread nD τ).loc main_arg6)) (ix2 ⟨256 * (t : ℕ) + r, by omega⟩ n) := by
  have hX : (fun s : Fin 128 => rowB (iblk m c 0 t) ⟨128 * ((r : ℕ) / 128) + s, by omega⟩) = fun (s : Fin 128) (k : Fin 1024) => m ((c : Thread nD τ).loc main_arg0)
      (ix3 ⟨(256 * (t : ℕ) + r) / 4096, by omega⟩ ⟨128 * ((256 * (t : ℕ) + r) % 4096 / 128) + s, by omega⟩ k) := by
    funext s k
    have e1 : (256 * (t : ℕ) + (128 * ((r : ℕ) / 128) + s)) / 4096 = (256 * (t : ℕ) + r) / 4096 := by omega
    have e2 : (256 * (t : ℕ) + (128 * ((r : ℕ) / 128) + s)) % 4096 = 128 * ((256 * (t : ℕ) + r) % 4096 / 128) + s := by omega
    exact (blk0 m c t _ k).trans (by simp only [e1, e2])
  have hT : (⟨(r : ℕ) % 128, by omega⟩ : Fin 128) = ⟨(256 * (t : ℕ) + r) % 4096 % 128, by omega⟩ := Fin.ext (by show (r : ℕ) % 128 = (256 * (t : ℕ) + r) % 4096 % 128; omega)
  show Gmlp.yrow Gmlp.causal (fun s : Fin 128 => rowB (iblk m c 0 t) ⟨128 * ((r : ℕ) / 128) + s, by omega⟩) (fun k => iblk m c 1 t (ix2 0 k))
    (fun k j => iblk m c 2 t (ix2 k j)) (fun j => iblk m c 3 t (ix2 0 j)) (fun g t' s => iblk m c 4 t (ix3 g t' s))
    (fun g t' d => iblk m c 5 t (ix3 g t' d)) (fun j n => iblk m c 6 t (ix2 j n)) ⟨(r : ℕ) % 128, by omega⟩ n = _
  rw [hX, hT]
  simp only [blk1, blk2, blk3, blk4, blk5, blk6]
  rfl

/-- The result array after the run. -/
theorem arr_eq : (dats m 0 c).arrAt 7 cfg0.N = YA (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) := by
  refine (dats m 0 c).arrAt_eq_of_covers 7 _ (by decide +kernel) fun t hf y => ?_
  obtain ⟨r, n, rfl⟩ : ∃ (r : Fin 256) (n : Fin 1024), y = ix2 r n := ⟨y 0, y 1, eq_ix2 _⟩
  have ht : (t : ℕ) < 64 := lt_of_lt_of_eq t.isLt (by decide)
  have e : ((cfg0.win 7).blk t).view.emb (ix2 r n) = ix2 (n0 := 16384) (n1 := 1024) ⟨256 * (t : ℕ) + r, by omega⟩ n := by
    blk_ext [index7 t]
  have ex : (cfg0.win 7).xinj (cfg0.grid.coords t) (ix2 r n) = ix2 (n0 := 256) (n1 := 1024) r n := rfl
  rw [e, after0_7, outs_eq, ex, ← block_row m c t r n ht]
  exact cast_eq _ _

end Cert.KernelIdeal.Block

end
-- ==== Proof.RefRows.lean ====
module

public import proofs.«01_k».proof.Proof.Layer
public import proofs.«01_k».proof.Proof.Gen.ReferenceIdeal.Read
public import Idealize.ShloMosaic.Lib.Pipeline.ValueKit
public import Idealize.ShloMosaic.Lib.IdealHost

@[expose] public section

set_option maxRecDepth 16384

noncomputable section

namespace Cert.ReferenceIdeal.Rows

open Cert.ReferenceIdeal Cert.ReferenceIdeal.Read Idealize.ShloMosaic

/-! What the reference computes, row by row, as the layer's functions. -/

variable (x0 : (⟨S4x4096x1024, .f32⟩ : BufTy).Contents (Elt Ideal)) (x1 : (⟨S1024, .f32⟩ : BufTy).Contents (Elt Ideal))
  (x2 : (⟨S1024x6144, .f32⟩ : BufTy).Contents (Elt Ideal)) (x3 : (⟨S2048, .f32⟩ : BufTy).Contents (Elt Ideal))

/-- Row `t` of batch `b`. -/
abbrev rowR (b : Fin 4) (t : Fin 4096) : Fin 1024 → EReal := fun k => x0 (ix3 b t k)
/-- The gain of the norm. -/
abbrev gainR : Fin 1024 → EReal := fun k => x1 (ix1 k)
/-- The input weights. -/
abbrev winR : Fin 1024 → Fin 6144 → EReal := fun k j => x2 (ix2 k j)
/-- The gain of the value norm. -/
abbrev vgR : Fin 2048 → EReal := fun j => x3 (ix1 j)

/-- The normed rows. -/
theorem norm_row (b : Fin 4) (t : Fin 4096) (k : Fin 1024) :
    val_main_v12 (F := Ideal) x0 x1 (ix3 b t k) = Gmlp.hrow (rowR x0 b t) (gainR x1) k := by
  simp only [val_main_v12_apply, val_main_v9_apply, val_main_v8_apply, val_main_v7_apply, val_main_v6_apply, val_main_v5_apply, val_main_v4_apply,
    val_main_v3_apply, val_main_v2_apply, val_main_v1_apply, val_main_v0_apply, val_main_cst_apply, val_main_cst_0_apply, val_main_cst_1_apply,
    val_main_v10_apply, val_main_v11_apply]
  have ex : ∀ i, x0 (idx_main_v1 (idx_main_v2 (idx_main_v8 (ix3 b t k))) i) = x0 (ix3 b t i) := fun i => congrArg x0 (eq_ix3 _)
  have eg : x1 (idx_main_v10 (idx_main_v11 (ix3 b t k))) = x1 (ix1 k) := congrArg x1 (eq_ix1 _)
  simp only [ex, eg]
  pointwise
  rfl

/-- The projection of the normed rows. -/
theorem proj_row (b : Fin 4) (t : Fin 4096) (j : Fin 6144) :
    val_main_v13 (F := Ideal) x0 x1 x2 (ix3 b t j) = Gmlp.prow (rowR x0 b t) (gainR x1) (winR x2) j := by
  rw [val_main_v13_apply]
  refine Finset.sum_congr rfl fun k _ => congrArg₂ (· * ·) ?_ ?_
  · exact (congrArg (val_main_v12 (F := Ideal) x0 x1) (eq_ix3 _)).trans (norm_row x0 x1 b t k)
  · exact congrArg x2 (eq_ix2 _)

/-- The first gate. -/
theorem u_row (b : Fin 4) (t : Fin 4096) (j : Fin 2048) :
    val_main_v27 (F := Ideal) x0 x1 x2 (ix3 b t j) = Gmlp.urow (rowR x0 b t) (gainR x1) (winR x2) j := by
  have e : val_main_v14 (F := Ideal) x0 x1 x2 (ix3 b t j) = Gmlp.prow (rowR x0 b t) (gainR x1) (winR x2) ⟨j, by omega⟩ := by
    rw [val_main_v14_apply]
    exact (congrArg (val_main_v13 (F := Ideal) x0 x1 x2) (eq_ix3 _)).trans (proj_row x0 x1 x2 b t ⟨j, by omega⟩)
  simp only [val_main_v27_apply, val_main_v26_apply, val_main_v25_apply, val_main_v24_apply, val_main_v23_apply, val_main_v22_apply, val_main_v21_apply,
    val_main_v20_apply, val_main_v19_apply, val_main_v18_apply, val_main_v17_apply, val_main_v16_apply, val_main_v15_apply, e,
    val_main_cst_2_apply, val_main_cst_3_apply, val_main_cst_4_apply, val_main_cst_5_apply, Gmlp.urow]
  generalize Gmlp.prow _ _ _ _ = p
  pointwise
  rw [Gmlp.gelu, ← mul_assoc, mul_comm p]

/-- The values. -/
theorem v_row (b : Fin 4) (t : Fin 4096) (j : Fin 2048) :
    val_main_v41 (F := Ideal) x0 x1 x2 (ix3 b t j) = Gmlp.vrow (rowR x0 b t) (gainR x1) (winR x2) j := by
  have e : val_main_v28 (F := Ideal) x0 x1 x2 (ix3 b t j) = Gmlp.prow (rowR x0 b t) (gainR x1) (winR x2) ⟨2048 + j, by omega⟩ := by
    rw [val_main_v28_apply]
    exact (congrArg (val_main_v13 (F := Ideal) x0 x1 x2) (eq_ix3 _)).trans (proj_row x0 x1 x2 b t ⟨2048 + j, by omega⟩)
  simp only [val_main_v41_apply, val_main_v40_apply, val_main_v39_apply, val_main_v38_apply, val_main_v37_apply, val_main_v36_apply, val_main_v35_apply,
    val_main_v34_apply, val_main_v33_apply, val_main_v32_apply, val_main_v31_apply, val_main_v30_apply, val_main_v29_apply, e,
    val_main_cst_6_apply, val_main_cst_7_apply, val_main_cst_8_apply, val_main_cst_9_apply, Gmlp.vrow]
  generalize Gmlp.prow _ _ _ _ = p
  pointwise
  rw [Gmlp.gelu, ← mul_assoc, mul_comm p]

/-- The second gate. -/
theorem z_row (b : Fin 4) (t : Fin 4096) (j : Fin 2048) :
    val_main_v68 (F := Ideal) x0 x1 x2 (ix3 b t j) = Gmlp.zrow (rowR x0 b t) (gainR x1) (winR x2) j := by
  have e : val_main_v55 (F := Ideal) x0 x1 x2 (ix3 b t j) = Gmlp.prow (rowR x0 b t) (gainR x1) (winR x2) ⟨4096 + j, by omega⟩ := by
    rw [val_main_v55_apply]
    exact (congrArg (val_main_v13 (F := Ideal) x0 x1 x2) (eq_ix3 _)).trans (proj_row x0 x1 x2 b t ⟨4096 + j, by omega⟩)
  simp only [val_main_v68_apply, val_main_call2_v5_apply, val_main_call2_v4_apply, val_main_call2_v3_apply, val_main_call2_v2_apply,
    val_main_call2_v1_apply, val_main_call2_v0_apply, val_main_call2_cst_apply, val_main_call2_cst_0_apply, e, Gmlp.zrow]
  generalize Gmlp.prow _ _ _ _ = p
  pointwise
  rw [Gmlp.silu, zero_sub]

/-- The f32 word of 2048 and that of its reciprocal, as numbers. -/
theorem word_2048 : Ideal.ofBits .f32 0x45000000#32 = ((2048 : ℝ) : EReal) := by
  simp [Ideal.ofBits, Ideal.ieee, -EReal.coe_mul]; norm_num

/-- The f32 word of `1/2048`. -/
theorem word_inv_2048 : Ideal.ofBits .f32 973078528#32 = ((1 / 2048 : ℝ) : EReal) := by
  simp [Ideal.ofBits, Ideal.ieee, -EReal.coe_mul]; norm_num

/-- Dividing by 2048 is multiplying by its reciprocal. -/
theorem div_2048 (x : EReal) : Ideal.div x (Ideal.ofBits .f32 0x45000000#32) = x * Ideal.ofBits .f32 973078528#32 := by
  rw [word_2048, word_inv_2048, Ideal.div_coe (by norm_num)]

/-- The sum of a row's squared values. -/
theorem ssq_row (b : Fin 4) (t : Fin 4096) :
    val_main_v43 (F := Ideal) x0 x1 x2 (ix2 b t) = Gmlp.ssq (rowR x0 b t) (gainR x1) (winR x2) := by
  rw [val_main_v43_apply, val_main_cst_10_apply]
  pointwise
  refine Finset.sum_congr rfl fun k _ => ?_
  rw [val_main_v42_apply]
  have e : val_main_v41 (F := Ideal) x0 x1 x2 (idx_main_v43 (ix2 b t) k) = Gmlp.vrow (rowR x0 b t) (gainR x1) (winR x2) k :=
    (congrArg (val_main_v41 (F := Ideal) x0 x1 x2) (eq_ix3 _)).trans (v_row x0 x1 x2 b t k)
  rw [e]
  rfl

/-- The normed values. -/
theorem vn_row (b : Fin 4) (t : Fin 4096) (j : Fin 2048) :
    val_main_v54 (F := Ideal) x0 x1 x2 x3 (ix3 b t j) = Gmlp.vnrow (rowR x0 b t) (gainR x1) (winR x2) (vgR x3) j := by
  have e : val_main_v44 (F := Ideal) x0 x1 x2 (idx_main_v50 (ix3 b t j)) = Gmlp.ssq (rowR x0 b t) (gainR x1) (winR x2) := by
    rw [val_main_v44_apply]
    exact (congrArg (val_main_v43 (F := Ideal) x0 x1 x2) (eq_ix2 _)).trans (ssq_row x0 x1 x2 b t)
  have eg : x3 (idx_main_v52 (idx_main_v53 (ix3 b t j))) = x3 (ix1 j) := congrArg x3 (eq_ix1 _)
  simp only [val_main_v54_apply, val_main_v53_apply, val_main_v52_apply, val_main_v51_apply, val_main_v50_apply, val_main_v49_apply, val_main_v48_apply,
    val_main_v47_apply, val_main_v46_apply, val_main_v45_apply, val_main_cst_11_apply, val_main_cst_12_apply, v_row, e, eg, Gmlp.vnrow]
  generalize Gmlp.vrow _ _ _ _ = v
  generalize Gmlp.ssq _ _ _ = q
  rw [← div_2048]
  pointwise

end Cert.ReferenceIdeal.Rows

end
-- ==== Proof.RefMix.lean ====
module

public import proofs.«01_k».proof.Proof.RefRows

@[expose] public section

set_option maxRecDepth 16384

noncomputable section

namespace Cert.ReferenceIdeal.Rows

open Cert.ReferenceIdeal Cert.ReferenceIdeal.Read Idealize.ShloMosaic

/-! The reference's spatial mixing and its result. -/

variable (x0 : (⟨S4x4096x1024, .f32⟩ : BufTy).Contents (Elt Ideal)) (x1 : (⟨S1024, .f32⟩ : BufTy).Contents (Elt Ideal))
  (x2 : (⟨S1024x6144, .f32⟩ : BufTy).Contents (Elt Ideal)) (x3 : (⟨S2048, .f32⟩ : BufTy).Contents (Elt Ideal))
  (x4 : (⟨S16x128x128, .f32⟩ : BufTy).Contents (Elt Ideal)) (x5 : (⟨S16x128, .f32⟩ : BufTy).Contents (Elt Ideal))
  (x6 : (⟨S2048x1024, .f32⟩ : BufTy).Contents (Elt Ideal))

/-- The reference's lower-triangle word picks the causal entries. -/
theorem tril_word (t s : Fin 128) : Scalar.select (IntOp.cmpi CmpIPredicate.sge (IntOp.addi (BitVec.ofNat 32 (t : ℕ)) 0#32) (BitVec.ofNat 32 (s : ℕ))) 1#1 0#1
    = if Gmlp.causal t s then 1#1 else 0#1 := by
  revert t s; decide +kernel

/-- The masked spatial weights. -/
theorem mask_row (g : Fin 16) (t s : Fin 128) :
    val_main_v58 (F := Ideal) x4 (ix3 g t s) = if Gmlp.causal t s then x4 (ix3 g t s) else 0 := by
  have hm : val_main_v57 (F := Ideal) (idx_main_call1_v1 (ix3 g t s)) = if Gmlp.causal t s then 1#1 else 0#1 := by
    simp only [val_main_v57_apply, val_main_v56_apply, val_main_c_apply, val_main_call0_v0_apply, val_main_call0_v1_apply, val_main_call0_v2_apply,
      val_main_call0_v3_apply, val_main_call0_v4_apply, val_main_call0_v5_apply, val_main_call0_c_apply, val_main_call0_c_0_apply]
    exact tril_word t s
  simp only [val_main_v58_apply, val_main_call1_v1_apply, val_main_call1_v2_apply, val_main_call1_v0_apply, val_main_cst_13_apply, hm]
  pointwise
  cases Gmlp.causal t s <;> rfl

/-- One place of the mixed values before the gates. -/
theorem mix_row (b : Fin 4) (t : Fin 4096) (j : Fin 2048) :
    val_main_v66 (F := Ideal) x0 x1 x2 x3 x4 x5 (ix3 b t j) =
      (∑ s : Fin 128, if Gmlp.causal ⟨(t : ℕ) % 128, by omega⟩ s then x4 (ix3 ⟨(j : ℕ) / 128, by omega⟩ ⟨(t : ℕ) % 128, by omega⟩ s)
          * Gmlp.vnrow (rowR x0 b ⟨128 * ((t : ℕ) / 128) + s, by omega⟩) (gainR x1) (winR x2) (vgR x3) j else 0)
        + x5 (ix2 ⟨(j : ℕ) / 128, by omega⟩ ⟨(t : ℕ) % 128, by omega⟩) := by
  have hb := b.isLt
  have ht := t.isLt
  have hj := j.isLt
  rw [val_main_v66_apply, val_main_v65_apply]
  refine congrArg₂ (· + ·) ?_ ?_
  · rw [val_main_v61_apply, val_main_v60_apply]
    refine Finset.sum_congr rfl fun s _ => ?_
    have hs := s.isLt
    have ev : val_main_v59 (F := Ideal) x0 x1 x2 x3 (lidx_main_v60 (idx_main_v61 (idx_main_v66 (ix3 b t j))) s)
        = Gmlp.vnrow (rowR x0 b ⟨128 * ((t : ℕ) / 128) + s, by omega⟩) (gainR x1) (winR x2) (vgR x3) j := by
      rw [val_main_v59_apply, ← vn_row]
      refine congrArg (val_main_v54 (F := Ideal) x0 x1 x2 x3) (funext fun a => Fin.ext ?_)
      match a with
      | ⟨0, _⟩ =>
        show (((((((b : ℕ) * 4096 + t) * 2048 + j) / 8388608 * 32 + (((b : ℕ) * 4096 + t) * 2048 + j) / 262144 % 32) * 128 + s) * 16
          + (((b : ℕ) * 4096 + t) * 2048 + j) / 128 % 16) * 128 + (((b : ℕ) * 4096 + t) * 2048 + j) % 128) / 8388608 = b
        omega
      | ⟨1, _⟩ =>
        show (((((((b : ℕ) * 4096 + t) * 2048 + j) / 8388608 * 32 + (((b : ℕ) * 4096 + t) * 2048 + j) / 262144 % 32) * 128 + s) * 16
          + (((b : ℕ) * 4096 + t) * 2048 + j) / 128 % 16) * 128 + (((b : ℕ) * 4096 + t) * 2048 + j) % 128) / 2048 % 4096 = 128 * ((t : ℕ) / 128) + s
        omega
      | ⟨2, _⟩ =>
        show (((((((b : ℕ) * 4096 + t) * 2048 + j) / 8388608 * 32 + (((b : ℕ) * 4096 + t) * 2048 + j) / 262144 % 32) * 128 + s) * 16
          + (((b : ℕ) * 4096 + t) * 2048 + j) / 128 % 16) * 128 + (((b : ℕ) * 4096 + t) * 2048 + j) % 128) % 2048 = j
        omega
    have ew : val_main_v58 (F := Ideal) x4 (ridx_main_v60 (idx_main_v61 (idx_main_v66 (ix3 b t j))) s)
        = if Gmlp.causal ⟨(t : ℕ) % 128, by omega⟩ s then x4 (ix3 ⟨(j : ℕ) / 128, by omega⟩ ⟨(t : ℕ) % 128, by omega⟩ s) else 0 := by
      rw [← mask_row]
      refine congrArg (val_main_v58 (F := Ideal) x4) (funext fun a => Fin.ext ?_)
      match a with
      | ⟨0, _⟩ => show (((b : ℕ) * 4096 + t) * 2048 + j) / 128 % 16 = (j : ℕ) / 128; omega
      | ⟨1, _⟩ => show (((b : ℕ) * 4096 + t) * 2048 + j) / 2048 % 128 = (t : ℕ) % 128; omega
      | ⟨2, _⟩ => rfl
    rw [ev, ew, mul_comm]
    split_ifs
    · rfl
    · rw [zero_mul]
  · rw [val_main_v64_apply, val_main_v63_apply, val_main_v62_apply]
    refine congrArg x5 (funext fun a => Fin.ext ?_)
    match a with
    | ⟨0, _⟩ => show (((b : ℕ) * 4096 + t) * 2048 + j) / 128 % 16 = (j : ℕ) / 128; omega
    | ⟨1, _⟩ => show (((b : ℕ) * 4096 + t) * 2048 + j) / 2048 % 128 = (t : ℕ) % 128; omega

/-- The rows of the chunk that holds row `t`. -/
abbrev chunkR (b : Fin 4) (t : Fin 4096) (s : Fin 128) : Fin 1024 → EReal := rowR x0 b ⟨128 * ((t : ℕ) / 128) + s, by omega⟩

/-- The gated mixed rows. -/
theorem g_row (b : Fin 4) (t : Fin 4096) (j : Fin 2048) :
    val_main_v69 (F := Ideal) x0 x1 x2 x3 x4 x5 (ix3 b t j) =
      Gmlp.grow Gmlp.causal (chunkR x0 b t) (gainR x1) (winR x2) (vgR x3) (fun g t s => x4 (ix3 g t s)) (fun g t _ => x5 (ix2 g t)) ⟨(t : ℕ) % 128, by omega⟩ j := by
  have e : 128 * ((t : ℕ) / 128) + (t : ℕ) % 128 = t := by omega
  rw [val_main_v69_apply, val_main_v67_apply, u_row, z_row, mix_row]
  simp only [Gmlp.grow, chunkR, e, Fin.eta]
  rfl

/-- The reference's result at row `t` of batch `b`. -/
theorem y_row (b : Fin 4) (t : Fin 4096) (n : Fin 1024) :
    val_main_v71 (F := Ideal) x0 x1 x2 x3 x4 x5 x6 (ix3 b t n) =
      Gmlp.yrow Gmlp.causal (chunkR x0 b t) (gainR x1) (winR x2) (vgR x3) (fun g t s => x4 (ix3 g t s)) (fun g t _ => x5 (ix2 g t))
        (fun j n => x6 (ix2 j n)) ⟨(t : ℕ) % 128, by omega⟩ n := by
  have e : 128 * ((t : ℕ) / 128) + (t : ℕ) % 128 = t := by omega
  rw [val_main_v71_apply, val_main_v70_apply]
  simp only [Gmlp.yrow]
  refine congrArg₂ (· + ·) (by simp only [chunkR, e, Fin.eta]) (Finset.sum_congr rfl fun j _ => congrArg₂ (· * ·) ?_ ?_)
  · exact (congrArg (val_main_v69 (F := Ideal) x0 x1 x2 x3 x4 x5) (eq_ix3 _)).trans (g_row x0 x1 x2 x3 x4 x5 b t j)
  · exact congrArg x6 (eq_ix2 _)

end Cert.ReferenceIdeal.Rows

end
-- ==== Proof.Meet.lean ====
module

public import proofs.«01_k».proof.Proof.Array
public import proofs.«01_k».proof.Proof.RefMix

@[expose] public section

set_option maxRecDepth 16384

noncomputable section

namespace Cert.Meet

open Idealize.ShloMosaic Cert.ReferenceIdeal Cert.ReferenceIdeal.Read Cert.ReferenceIdeal.Rows

/-- The reference's result is the function of the arguments that the kernel's result array holds. -/
theorem ref_eq (x0 : (⟨S4x4096x1024, .f32⟩ : BufTy).Contents (Elt Ideal)) (x1 : (⟨S1024, .f32⟩ : BufTy).Contents (Elt Ideal))
    (x2 : (⟨S1024x6144, .f32⟩ : BufTy).Contents (Elt Ideal)) (x3 : (⟨S2048, .f32⟩ : BufTy).Contents (Elt Ideal))
    (x4 : (⟨S16x128x128, .f32⟩ : BufTy).Contents (Elt Ideal)) (x5 : (⟨S16x128, .f32⟩ : BufTy).Contents (Elt Ideal))
    (x6 : (⟨S2048x1024, .f32⟩ : BufTy).Contents (Elt Ideal)) :
    val_main_v72 (F := Ideal) x0 x1 x2 x3 x4 x5 x6 = Cert.KernelIdeal.Block.YA x0 x1 x2 x3 x4 x5 x6 := by
  funext i
  obtain ⟨r, n, rfl⟩ : ∃ (r : Fin 16384) (n : Fin 1024), i = ix2 r n := ⟨i 0, i 1, eq_ix2 _⟩
  have e : idx_main_v72 (ix2 r n) = ix3 (n0 := 4) (n1 := 4096) (n2 := 1024) ⟨(r : ℕ) / 4096, by omega⟩ ⟨(r : ℕ) % 4096, by omega⟩ n := by
    funext a
    refine Fin.ext ?_
    match a with
    | ⟨0, _⟩ => show ((r : ℕ) * 1024 + (n : ℕ)) / 4194304 = (r : ℕ) / 4096; omega
    | ⟨1, _⟩ => show ((r : ℕ) * 1024 + (n : ℕ)) / 1024 % 4096 = (r : ℕ) % 4096; omega
    | ⟨2, _⟩ => show ((r : ℕ) * 1024 + (n : ℕ)) % 1024 = (n : ℕ); omega
  rw [val_main_v72_apply, e, y_row]
  rfl

end Cert.Meet

end
-- ==== Proof.Slab.lean ====
/-
  What the projections share: one row of the RMS norm against a column of weights, and the reading of a block that is
  stored slab by slab. -/
module

public import proofs.«01_k».proof.Proof.Layer
public import Idealize.ShloMosaic.Lib.Pipeline.ValueKit
public import Idealize.ShloMosaic.Lib.Pipeline.ReadBack

@[expose] public section

noncomputable section

namespace Slab

open Idealize.ShloMosaic

/-- The normed row `x` against column `j` of the weights. -/
def lin {n : ℕ} (x g : Fin 1024 → EReal) (w : Fin 1024 → Fin n → EReal) (j : Fin n) : EReal :=
  ∑ k, Gmlp.hrow x g k * w k j

/-- A slab of columns stored into a matrix, whose entries are those of a whole-matrix function, is that function at the
    slab's places. -/
theorem cols {Val : Type} {a b c : ℕ} (G : (⟨2, ![a, b]⟩ : Shape).Idx → Val) (p : (⟨2, ![a, c]⟩ : Shape).Idx → Val) (o : ℕ)
    (inb : ∀ d, (![0, o] : Fin 2 → ℕ) d + (⟨2, ![a, c]⟩ : Shape).size d ≤ (⟨2, ![a, b]⟩ : Shape).size d) (ho : o + c ≤ b)
    (hp : ∀ (r : Fin a) (j : Fin c), p (ix2 r j) = G (ix2 r ⟨o + j, by omega⟩))
    (x : (Rect.unit (s := ⟨2, ![a, b]⟩) ![0, o] (⟨2, ![a, c]⟩ : Shape).size inb).shape.Idx) :
    p x = G ((Rect.unit (s := ⟨2, ![a, b]⟩) ![0, o] (⟨2, ![a, c]⟩ : Shape).size inb).emb x) := by
  have hx : x = ix2 (n0 := a) (n1 := c) (x 0) (x 1) := eq_ix2 _
  rw [hx]
  refine (hp (x 0) (x 1)).trans (congrArg G ?_)
  funext d
  match d with
  | ⟨0, _⟩ => exact Fin.ext (show ((x 0 : Fin a) : ℕ) = 0 + 1 * ((x 0 : Fin a) : ℕ) by omega)
  | ⟨1, _⟩ => exact Fin.ext (show o + ((x 1 : Fin c) : ℕ) = o + 1 * ((x 1 : Fin c) : ℕ) by omega)

/-- A plane stored into a stack of matrices, whose entries are those of a whole-stack function, is that function at the
    plane's places. -/
theorem plane {Val : Type} {h a b : ℕ} (G : (⟨3, ![h, a, b]⟩ : Shape).Idx → Val) (p : (⟨3, ![1, a, b]⟩ : Shape).Idx → Val) (o : ℕ)
    (inb : ∀ d, (![o, 0, 0] : Fin 3 → ℕ) d + (⟨3, ![1, a, b]⟩ : Shape).size d ≤ (⟨3, ![h, a, b]⟩ : Shape).size d) (ho : o < h)
    (hp : ∀ (r : Fin a) (j : Fin b), p (ix3 0 r j) = G (ix3 ⟨o, ho⟩ r j))
    (x : (Rect.unit (s := ⟨3, ![h, a, b]⟩) ![o, 0, 0] (⟨3, ![1, a, b]⟩ : Shape).size inb).shape.Idx) :
    p x = G ((Rect.unit (s := ⟨3, ![h, a, b]⟩) ![o, 0, 0] (⟨3, ![1, a, b]⟩ : Shape).size inb).emb x) := by
  have hx : x = ix3 (n0 := 1) (n1 := a) (n2 := b) 0 (x 1) (x 2) := by
    have h0 : x 0 = (0 : Fin 1) := Subsingleton.elim (α := Fin 1) _ _
    funext d
    match d with
    | ⟨0, _⟩ => exact h0
    | ⟨1, _⟩ => rfl
    | ⟨2, _⟩ => rfl
  rw [hx]
  refine (hp (x 1) (x 2)).trans (congrArg G ?_)
  funext d
  match d with
  | ⟨0, _⟩ => exact Fin.ext (show o = o + 1 * 0 by omega)
  | ⟨1, _⟩ => exact Fin.ext (show ((x 1 : Fin a) : ℕ) = 0 + 1 * ((x 1 : Fin a) : ℕ) by omega)
  | ⟨2, _⟩ => exact Fin.ext (show ((x 2 : Fin b) : ℕ) = 0 + 1 * ((x 2 : Fin b) : ℕ) by omega)

end Slab

end
-- ==== Proof.CQ.lean ====
module

public import proofs.«01_k».proof.Proof.Slab
public import proofs.«01_k».proof.Proof.Gen.Kernel4Ideal.Value
public import proofs.«01_k».proof.Proof.Gen.Reference4Ideal.Read
public import Idealize.ShloMosaic.Lib.IdealHost

@[expose] public section

set_option maxRecDepth 16384

noncomputable section

namespace Cert.Kernel4Ideal.Block

open Cert.Kernel4Ideal Cert.Kernel4Ideal.Gen Idealize.ShloMosaic Idealize.ShloMosaic.TcCoe Idealize.SL.Sem

/-! The projection to the queries of the recurrent layer, head by head: what a grid point leaves in its output block, and the result array. -/

/-- The output block of a point, from its normed rows against the weights. -/
def PB (x0 : Vec Ideal S512x1024 .f32) (x1 : Vec Ideal S1x1024 .f32) (x2 : Vec Ideal S1024x2048 .bf16) : S16x512x128.Idx → Elt Ideal .f32 :=
  fun y => Gmlp.silu (Slab.lin (fun k => x0 (ix2 (y 1) k)) (fun k => x1 (ix2 0 k)) (fun k j => x2 (ix2 k j)) ⟨128 * (y 0 : ℕ) + (y 2 : ℕ), by have := (y 0).isLt; have := (y 2).isLt; change (y 0 : ℕ) < 16 at *; change (y 2 : ℕ) < 128 at *; omega⟩) * Ideal.ofBits FTy.f32 0x3DB504F3#32

/-- What the body leaves in the output block. -/
theorem out_eq (x0 : Vec Ideal S512x1024 .f32) (x1 : Vec Ideal S1x1024 .f32) (x2 : Vec Ideal S1024x2048 .bf16) :
    out0_3 (F := Ideal) x0 x1 x2 = PB x0 x1 x2 := by
  funext y
  unfold out0_3
  refine View.canon_apply_of_pieces _ _ (View.PiecesOf.mem ?_) y (cover0_3 _ _ _ _ _ _ _ _ _ _ _ _ _ _ _ _ y)
  refine ⟨Slab.plane _ _ 15 inb_S16x512x128_S1x512x128_15_0_0 (by omega) fun r j => ?_,
    Slab.plane _ _ 14 inb_S16x512x128_S1x512x128_14_0_0 (by omega) fun r j => ?_,
    Slab.plane _ _ 13 inb_S16x512x128_S1x512x128_13_0_0 (by omega) fun r j => ?_,
    Slab.plane _ _ 12 inb_S16x512x128_S1x512x128_12_0_0 (by omega) fun r j => ?_,
    Slab.plane _ _ 11 inb_S16x512x128_S1x512x128_11_0_0 (by omega) fun r j => ?_,
    Slab.plane _ _ 10 inb_S16x512x128_S1x512x128_10_0_0 (by omega) fun r j => ?_,
    Slab.plane _ _ 9 inb_S16x512x128_S1x512x128_9_0_0 (by omega) fun r j => ?_,
    Slab.plane _ _ 8 inb_S16x512x128_S1x512x128_8_0_0 (by omega) fun r j => ?_,
    Slab.plane _ _ 7 inb_S16x512x128_S1x512x128_7_0_0 (by omega) fun r j => ?_,
    Slab.plane _ _ 6 inb_S16x512x128_S1x512x128_6_0_0 (by omega) fun r j => ?_,
    Slab.plane _ _ 5 inb_S16x512x128_S1x512x128_5_0_0 (by omega) fun r j => ?_,
    Slab.plane _ _ 4 inb_S16x512x128_S1x512x128_4_0_0 (by omega) fun r j => ?_,
    Slab.plane _ _ 3 inb_S16x512x128_S1x512x128_3_0_0 (by omega) fun r j => ?_,
    Slab.plane _ _ 2 inb_S16x512x128_S1x512x128_2_0_0 (by omega) fun r j => ?_,
    Slab.plane _ _ 1 inb_S16x512x128_S1x512x128_1_0_0 (by omega) fun r j => ?_,
    Slab.plane _ _ 0 inb_S16x512x128_S1x512x128_0_0_0 (by omega) fun r j => ?_, trivial⟩
  all_goals
    unfold_payloads
    pointwise
    simp only [PB, Slab.lin, Gmlp.hrow, Gmlp.silu]
    try simp only [ix2_0, ix2_1, ix3_0, ix3_1, ix3_2, Fin.val_zero, Fin.coe_ofNat_eq_mod, Nat.zero_mod, Nat.mul_zero, ← Nat.add_assoc, Nat.reduceAdd, Nat.reduceMul, Nat.zero_add]
    try rfl

variable (m : (ℓ : Loc nD τ sig) → Buf (Elt Ideal) ℓ) (c : Dev nD) (t : Fin cfg0.N)

/-- The rows' block at a point is the point's own. -/
theorem index0 : ∀ t : Fin cfg0.N, win0_0.index t = ![(t : ℕ), 0] := by decide +kernel
/-- The gain's block is the same at every point. -/
theorem index1 : ∀ t : Fin cfg0.N, win0_1.index t = ![0, 0] := by decide +kernel
/-- The weights' block is the same at every point. -/
theorem index2 : ∀ t : Fin cfg0.N, win0_2.index t = ![0, 0] := by decide +kernel
/-- The result's block at a point is the point's own. -/
theorem index3 : ∀ t : Fin cfg0.N, win0_3.index t = ![0, (t : ℕ), 0] := by decide +kernel

/-- Row `r` of a point's block of rows is row `512 t + r` of the flattened rows. -/
theorem blk0 (r : Fin 512) (k : Fin 1024) : iblk m c 0 t (ix2 r k) = m ((c : Thread nD τ).loc main_arg0)
    (ix3 ⟨(512 * (t : ℕ) + r) / 4096, by have : (t : ℕ) < 32 := t.isLt; omega⟩ ⟨(512 * (t : ℕ) + r) % 4096, by omega⟩ k) := by
  blk_ext! [iblk, V, index0 t]
/-- The gain's block is the gain, as a row. -/
theorem blk1 (k : Fin 1024) : iblk m c 1 t (ix2 0 k) = m ((c : Thread nD τ).loc main_arg1) (ix1 k) := by
  blk_ext! [iblk, V, index1 t]
/-- The weights' block is the call's columns of the input weights. -/
theorem blk2 (k : Fin 1024) (j : Fin 2048) : iblk m c 2 t (ix2 k j) = m ((c : Thread nD τ).loc main_arg2) (ix2 k ⟨0 + j, by omega⟩) := by
  blk_ext! [iblk, V, index2 t]

/-- What the result array holds, from the arguments. -/
def PA (X : S4x4096x1024.Idx → EReal) (g : S1024.Idx → EReal) (w : S1024x8192.Idx → EReal) (i : S16x16384x128.Idx) : EReal :=
  Gmlp.silu (Slab.lin (fun k => X (ix3 ⟨(i 1 : ℕ) / 4096, by have := (i 1).isLt; change (i 1 : ℕ) < 16384 at this; omega⟩ ⟨(i 1 : ℕ) % 4096, by omega⟩ k)) (fun k => g (ix1 k)) (fun k j => w (ix2 k j)) ⟨0 + (128 * (i 0 : ℕ) + (i 2 : ℕ)), by have := (i 0).isLt; have := (i 2).isLt; change (i 0 : ℕ) < 16 at *; change (i 2 : ℕ) < 128 at *; omega⟩) * Ideal.ofBits FTy.f32 0x3DB504F3#32

/-- One place of a point's output block is the array's place it is written to. -/
theorem block_row (h : Fin 16) (r : Fin 512) (j : Fin 128) (ht : (t : ℕ) < 32) :
    PB (iblk m c 0 t) (iblk m c 1 t) (iblk m c 2 t) (ix3 h r j) = PA (m ((c : Thread nD τ).loc main_arg0)) (m ((c : Thread nD τ).loc main_arg1)) (m ((c : Thread nD τ).loc main_arg2)) (ix3 (n0 := 16) (n1 := 16384) (n2 := 128) h ⟨512 * (t : ℕ) + r, by omega⟩ j) := by
  show Gmlp.silu (Slab.lin (fun k => iblk m c 0 t (ix2 r k)) (fun k => iblk m c 1 t (ix2 0 k)) (fun k j => iblk m c 2 t (ix2 k j)) ⟨128 * (h : ℕ) + (j : ℕ), by omega⟩) * Ideal.ofBits FTy.f32 0x3DB504F3#32 = _
  simp only [blk0, blk1, blk2]
  rfl

/-- The result array after the run. -/
theorem arr_eq : (dats m 0 c).arrAt 3 cfg0.N = PA (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨h, r, j, rfl⟩ : ∃ (h : Fin 16) (r : Fin 512) (j : Fin 128), y = ix3 h r j := ⟨y 0, y 1, y 2, eq_ix3 _⟩
  have ht : (t : ℕ) < 32 := lt_of_lt_of_eq t.isLt (by decide)
  have e : ((cfg0.win 3).blk t).view.emb (ix3 h r j) = ix3 (n0 := 16) (n1 := 16384) (n2 := 128) h ⟨512 * (t : ℕ) + r, by omega⟩ j := by
    blk_ext [index3 t]
  have ex : (cfg0.win 3).xinj (cfg0.grid.coords t) (ix3 h r j) = ix3 (n0 := 16) (n1 := 512) (n2 := 128) h r j := rfl
  rw [e, after0_3, out_eq, ex, ← block_row m c t h r j ht]
  exact cast_eq _ _

end Cert.Kernel4Ideal.Block

namespace Cert.Reference4Ideal.Rows

open Cert.Reference4Ideal Cert.Reference4Ideal.Read Idealize.ShloMosaic

/-! What the reference computes, row by row. -/

variable (x0 : (⟨S4x4096x1024, .f32⟩ : BufTy).Contents (Elt Ideal)) (x1 : (⟨S1024, .f32⟩ : BufTy).Contents (Elt Ideal))
  (x2 : (⟨S1024x8192, .f32⟩ : BufTy).Contents (Elt Ideal))

/-- The normed rows. -/
theorem norm_row (b : Fin 4) (t : Fin 4096) (k : Fin 1024) :
    val_main_v12 (F := Ideal) x0 x1 (ix3 b t k) = Gmlp.hrow (fun k => x0 (ix3 b t k)) (fun k => x1 (ix1 k)) k := by
  simp only [val_main_v12_apply, val_main_v9_apply, val_main_v8_apply, val_main_v7_apply, val_main_v6_apply, val_main_v5_apply, val_main_v4_apply,
    val_main_v3_apply, val_main_v2_apply, val_main_v1_apply, val_main_v0_apply, val_main_cst_apply, val_main_cst_0_apply, val_main_cst_1_apply,
    val_main_v10_apply, val_main_v11_apply]
  have ex : ∀ i, x0 (idx_main_v1 (idx_main_v2 (idx_main_v8 (ix3 b t k))) i) = x0 (ix3 b t i) := fun i => congrArg x0 (eq_ix3 _)
  have eg : x1 (idx_main_v10 (idx_main_v11 (ix3 b t k))) = x1 (ix1 k) := congrArg x1 (eq_ix1 _)
  simp only [ex, eg]
  pointwise
  rfl

/-- The projection of the normed rows. -/
theorem proj_row (b : Fin 4) (t : Fin 4096) (j : Fin 8192) :
    val_main_v13 (F := Ideal) x0 x1 x2 (ix3 b t j) = Slab.lin (fun k => x0 (ix3 b t k)) (fun k => x1 (ix1 k)) (fun k j => x2 (ix2 k j)) j := by
  rw [val_main_v13_apply]
  refine Finset.sum_congr rfl fun k _ => congrArg₂ (· * ·) ?_ ?_
  · exact (congrArg (val_main_v12 (F := Ideal) x0 x1) (eq_ix3 _)).trans (norm_row x0 x1 b t k)
  · exact congrArg x2 (eq_ix2 _)

/-- The call's columns of the projection. -/
theorem cols_row (b : Fin 4) (t : Fin 4096) (j : Fin 2048) :
    val_main_v14 (F := Ideal) x0 x1 x2 (ix3 b t j) = Slab.lin (fun k => x0 (ix3 b t k)) (fun k => x1 (ix1 k)) (fun k j => x2 (ix2 k j)) ⟨0 + j, by omega⟩ := by
  rw [val_main_v14_apply]
  exact (congrArg (val_main_v13 (F := Ideal) x0 x1 x2) ((eq_ix3 _).trans (by congr 1; exact Fin.ext (Nat.zero_add _).symm))).trans (proj_row x0 x1 x2 b t ⟨0 + j, by omega⟩)

/-- The queries: the gated projection, scaled. -/
theorem epi_row (b : Fin 4) (t : Fin 4096) (j : Fin 2048) :
    val_main_v17 (F := Ideal) x0 x1 x2 (ix3 b t j) = Gmlp.silu (Slab.lin (fun k => x0 (ix3 b t k)) (fun k => x1 (ix1 k)) (fun k j => x2 (ix2 k j)) ⟨0 + j, by omega⟩) * Ideal.ofBits FTy.f32 0x3DB504F3#32 := by
  simp only [val_main_v17_apply, val_main_v16_apply, val_main_v15_apply, val_main_call0_v5_apply, val_main_call0_v4_apply, val_main_call0_v3_apply,
    val_main_call0_v2_apply, val_main_call0_v1_apply, val_main_call0_v0_apply, val_main_call0_cst_apply, val_main_call0_cst_0_apply, val_main_cst_2_apply, cols_row]
  generalize Slab.lin _ _ _ _ = p
  pointwise
  rw [Gmlp.silu, zero_sub]

/-- The reference's result is what the kernel's result array holds. -/
theorem ref_eq : val_main_v19 (F := Ideal) x0 x1 x2 = Cert.Kernel4Ideal.Block.PA x0 x1 x2 := by
  funext i
  obtain ⟨h, r, j, rfl⟩ : ∃ (h : Fin 16) (r : Fin 16384) (j : Fin 128), i = ix3 h r j := ⟨i 0, i 1, i 2, eq_ix3 _⟩
  have e : idx_main_v18 (idx_main_v19 (ix3 h r j)) = ix3 (n0 := 4) (n1 := 4096) (n2 := 2048) ⟨(r : ℕ) / 4096, by omega⟩ ⟨(r : ℕ) % 4096, by omega⟩ ⟨128 * (h : ℕ) + j, by omega⟩ := by
    funext a
    refine Fin.ext ?_
    match a with
    | ⟨0, _⟩ => show (((r : ℕ) * 16 + (h : ℕ)) * 128 + (j : ℕ)) / 8388608 = (r : ℕ) / 4096; omega
    | ⟨1, _⟩ => show (((r : ℕ) * 16 + (h : ℕ)) * 128 + (j : ℕ)) / 2048 % 4096 = (r : ℕ) % 4096; omega
    | ⟨2, _⟩ => show (((r : ℕ) * 16 + (h : ℕ)) * 128 + (j : ℕ)) % 2048 = 128 * (h : ℕ) + j; omega
  rw [val_main_v19_apply, val_main_v18_apply, e, epi_row]
  rfl

end Cert.Reference4Ideal.Rows

end
-- ==== Proof.CV.lean ====
module

public import proofs.«01_k».proof.Proof.Slab
public import proofs.«01_k».proof.Proof.Gen.Kernel5Ideal.Value
public import proofs.«01_k».proof.Proof.Gen.Reference5Ideal.Read
public import Idealize.ShloMosaic.Lib.IdealHost

@[expose] public section

set_option maxRecDepth 16384

noncomputable section

namespace Cert.Kernel5Ideal.Block

open Cert.Kernel5Ideal Cert.Kernel5Ideal.Gen Idealize.ShloMosaic Idealize.ShloMosaic.TcCoe Idealize.SL.Sem

/-! The projection to the values of the recurrent layer, head by head: what a grid point leaves in its output block, and the result array. -/

/-- The output block of a point, from its normed rows against the weights. -/
def PB (x0 : Vec Ideal S512x1024 .f32) (x1 : Vec Ideal S1x1024 .f32) (x2 : Vec Ideal S1024x2048 .bf16) : S16x512x128.Idx → Elt Ideal .f32 :=
  fun y => (Slab.lin (fun k => x0 (ix2 (y 1) k)) (fun k => x1 (ix2 0 k)) (fun k j => x2 (ix2 k j)) ⟨128 * (y 0 : ℕ) + (y 2 : ℕ), by have := (y 0).isLt; have := (y 2).isLt; change (y 0 : ℕ) < 16 at *; change (y 2 : ℕ) < 128 at *; omega⟩)

/-- What the body leaves in the output block. -/
theorem out_eq (x0 : Vec Ideal S512x1024 .f32) (x1 : Vec Ideal S1x1024 .f32) (x2 : Vec Ideal S1024x2048 .bf16) :
    out0_3 (F := Ideal) x0 x1 x2 = PB x0 x1 x2 := by
  funext y
  unfold out0_3
  refine View.canon_apply_of_pieces _ _ (View.PiecesOf.mem ?_) y (cover0_3 _ _ _ _ _ _ _ _ _ _ _ _ _ _ _ _ y)
  refine ⟨Slab.plane _ _ 15 inb_S16x512x128_S1x512x128_15_0_0 (by omega) fun r j => ?_,
    Slab.plane _ _ 14 inb_S16x512x128_S1x512x128_14_0_0 (by omega) fun r j => ?_,
    Slab.plane _ _ 13 inb_S16x512x128_S1x512x128_13_0_0 (by omega) fun r j => ?_,
    Slab.plane _ _ 12 inb_S16x512x128_S1x512x128_12_0_0 (by omega) fun r j => ?_,
    Slab.plane _ _ 11 inb_S16x512x128_S1x512x128_11_0_0 (by omega) fun r j => ?_,
    Slab.plane _ _ 10 inb_S16x512x128_S1x512x128_10_0_0 (by omega) fun r j => ?_,
    Slab.plane _ _ 9 inb_S16x512x128_S1x512x128_9_0_0 (by omega) fun r j => ?_,
    Slab.plane _ _ 8 inb_S16x512x128_S1x512x128_8_0_0 (by omega) fun r j => ?_,
    Slab.plane _ _ 7 inb_S16x512x128_S1x512x128_7_0_0 (by omega) fun r j => ?_,
    Slab.plane _ _ 6 inb_S16x512x128_S1x512x128_6_0_0 (by omega) fun r j => ?_,
    Slab.plane _ _ 5 inb_S16x512x128_S1x512x128_5_0_0 (by omega) fun r j => ?_,
    Slab.plane _ _ 4 inb_S16x512x128_S1x512x128_4_0_0 (by omega) fun r j => ?_,
    Slab.plane _ _ 3 inb_S16x512x128_S1x512x128_3_0_0 (by omega) fun r j => ?_,
    Slab.plane _ _ 2 inb_S16x512x128_S1x512x128_2_0_0 (by omega) fun r j => ?_,
    Slab.plane _ _ 1 inb_S16x512x128_S1x512x128_1_0_0 (by omega) fun r j => ?_,
    Slab.plane _ _ 0 inb_S16x512x128_S1x512x128_0_0_0 (by omega) fun r j => ?_, trivial⟩
  all_goals
    unfold_payloads
    pointwise
    simp only [PB, Slab.lin, Gmlp.hrow]
    try simp only [ix2_0, ix2_1, ix3_0, ix3_1, ix3_2, Fin.val_zero, Fin.coe_ofNat_eq_mod, Nat.zero_mod, Nat.mul_zero, ← Nat.add_assoc, Nat.reduceAdd, Nat.reduceMul, Nat.zero_add]
    try rfl

variable (m : (ℓ : Loc nD τ sig) → Buf (Elt Ideal) ℓ) (c : Dev nD) (t : Fin cfg0.N)

/-- The rows' block at a point is the point's own. -/
theorem index0 : ∀ t : Fin cfg0.N, win0_0.index t = ![(t : ℕ), 0] := by decide +kernel
/-- The gain's block is the same at every point. -/
theorem index1 : ∀ t : Fin cfg0.N, win0_1.index t = ![0, 0] := by decide +kernel
/-- The weights' block is the same at every point. -/
theorem index2 : ∀ t : Fin cfg0.N, win0_2.index t = ![0, 0] := by decide +kernel
/-- The result's block at a point is the point's own. -/
theorem index3 : ∀ t : Fin cfg0.N, win0_3.index t = ![0, (t : ℕ), 0] := by decide +kernel

/-- Row `r` of a point's block of rows is row `512 t + r` of the flattened rows. -/
theorem blk0 (r : Fin 512) (k : Fin 1024) : iblk m c 0 t (ix2 r k) = m ((c : Thread nD τ).loc main_arg0)
    (ix3 ⟨(512 * (t : ℕ) + r) / 4096, by have : (t : ℕ) < 32 := t.isLt; omega⟩ ⟨(512 * (t : ℕ) + r) % 4096, by omega⟩ k) := by
  blk_ext! [iblk, V, index0 t]
/-- The gain's block is the gain, as a row. -/
theorem blk1 (k : Fin 1024) : iblk m c 1 t (ix2 0 k) = m ((c : Thread nD τ).loc main_arg1) (ix1 k) := by
  blk_ext! [iblk, V, index1 t]
/-- The weights' block is the call's columns of the input weights. -/
theorem blk2 (k : Fin 1024) (j : Fin 2048) : iblk m c 2 t (ix2 k j) = m ((c : Thread nD τ).loc main_arg2) (ix2 k ⟨4096 + j, by omega⟩) := by
  blk_ext! [iblk, V, index2 t]

/-- What the result array holds, from the arguments. -/
def PA (X : S4x4096x1024.Idx → EReal) (g : S1024.Idx → EReal) (w : S1024x8192.Idx → EReal) (i : S16x16384x128.Idx) : EReal :=
  (Slab.lin (fun k => X (ix3 ⟨(i 1 : ℕ) / 4096, by have := (i 1).isLt; change (i 1 : ℕ) < 16384 at this; omega⟩ ⟨(i 1 : ℕ) % 4096, by omega⟩ k)) (fun k => g (ix1 k)) (fun k j => w (ix2 k j)) ⟨4096 + (128 * (i 0 : ℕ) + (i 2 : ℕ)), by have := (i 0).isLt; have := (i 2).isLt; change (i 0 : ℕ) < 16 at *; change (i 2 : ℕ) < 128 at *; omega⟩)

/-- One place of a point's output block is the array's place it is written to. -/
theorem block_row (h : Fin 16) (r : Fin 512) (j : Fin 128) (ht : (t : ℕ) < 32) :
    PB (iblk m c 0 t) (iblk m c 1 t) (iblk m c 2 t) (ix3 h r j) = PA (m ((c : Thread nD τ).loc main_arg0)) (m ((c : Thread nD τ).loc main_arg1)) (m ((c : Thread nD τ).loc main_arg2)) (ix3 (n0 := 16) (n1 := 16384) (n2 := 128) h ⟨512 * (t : ℕ) + r, by omega⟩ j) := by
  show (Slab.lin (fun k => iblk m c 0 t (ix2 r k)) (fun k => iblk m c 1 t (ix2 0 k)) (fun k j => iblk m c 2 t (ix2 k j)) ⟨128 * (h : ℕ) + (j : ℕ), by omega⟩) = _
  simp only [blk0, blk1, blk2]
  rfl

/-- The result array after the run. -/
theorem arr_eq : (dats m 0 c).arrAt 3 cfg0.N = PA (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨h, r, j, rfl⟩ : ∃ (h : Fin 16) (r : Fin 512) (j : Fin 128), y = ix3 h r j := ⟨y 0, y 1, y 2, eq_ix3 _⟩
  have ht : (t : ℕ) < 32 := lt_of_lt_of_eq t.isLt (by decide)
  have e : ((cfg0.win 3).blk t).view.emb (ix3 h r j) = ix3 (n0 := 16) (n1 := 16384) (n2 := 128) h ⟨512 * (t : ℕ) + r, by omega⟩ j := by
    blk_ext [index3 t]
  have ex : (cfg0.win 3).xinj (cfg0.grid.coords t) (ix3 h r j) = ix3 (n0 := 16) (n1 := 512) (n2 := 128) h r j := rfl
  rw [e, after0_3, out_eq, ex, ← block_row m c t h r j ht]
  exact cast_eq _ _

end Cert.Kernel5Ideal.Block

namespace Cert.Reference5Ideal.Rows

open Cert.Reference5Ideal Cert.Reference5Ideal.Read Idealize.ShloMosaic

/-! What the reference computes, row by row. -/

variable (x0 : (⟨S4x4096x1024, .f32⟩ : BufTy).Contents (Elt Ideal)) (x1 : (⟨S1024, .f32⟩ : BufTy).Contents (Elt Ideal))
  (x2 : (⟨S1024x8192, .f32⟩ : BufTy).Contents (Elt Ideal))

/-- The normed rows. -/
theorem norm_row (b : Fin 4) (t : Fin 4096) (k : Fin 1024) :
    val_main_v12 (F := Ideal) x0 x1 (ix3 b t k) = Gmlp.hrow (fun k => x0 (ix3 b t k)) (fun k => x1 (ix1 k)) k := by
  simp only [val_main_v12_apply, val_main_v9_apply, val_main_v8_apply, val_main_v7_apply, val_main_v6_apply, val_main_v5_apply, val_main_v4_apply,
    val_main_v3_apply, val_main_v2_apply, val_main_v1_apply, val_main_v0_apply, val_main_cst_apply, val_main_cst_0_apply, val_main_cst_1_apply,
    val_main_v10_apply, val_main_v11_apply]
  have ex : ∀ i, x0 (idx_main_v1 (idx_main_v2 (idx_main_v8 (ix3 b t k))) i) = x0 (ix3 b t i) := fun i => congrArg x0 (eq_ix3 _)
  have eg : x1 (idx_main_v10 (idx_main_v11 (ix3 b t k))) = x1 (ix1 k) := congrArg x1 (eq_ix1 _)
  simp only [ex, eg]
  pointwise
  rfl

/-- The projection of the normed rows. -/
theorem proj_row (b : Fin 4) (t : Fin 4096) (j : Fin 8192) :
    val_main_v13 (F := Ideal) x0 x1 x2 (ix3 b t j) = Slab.lin (fun k => x0 (ix3 b t k)) (fun k => x1 (ix1 k)) (fun k j => x2 (ix2 k j)) j := by
  rw [val_main_v13_apply]
  refine Finset.sum_congr rfl fun k _ => congrArg₂ (· * ·) ?_ ?_
  · exact (congrArg (val_main_v12 (F := Ideal) x0 x1) (eq_ix3 _)).trans (norm_row x0 x1 b t k)
  · exact congrArg x2 (eq_ix2 _)

/-- The call's columns of the projection. -/
theorem cols_row (b : Fin 4) (t : Fin 4096) (j : Fin 2048) :
    val_main_v14 (F := Ideal) x0 x1 x2 (ix3 b t j) = Slab.lin (fun k => x0 (ix3 b t k)) (fun k => x1 (ix1 k)) (fun k j => x2 (ix2 k j)) ⟨4096 + j, by omega⟩ := by
  rw [val_main_v14_apply]
  exact (congrArg (val_main_v13 (F := Ideal) x0 x1 x2) (eq_ix3 _)).trans (proj_row x0 x1 x2 b t ⟨4096 + j, by omega⟩)

/-- The reference's result is what the kernel's result array holds. -/
theorem ref_eq : val_main_v16 (F := Ideal) x0 x1 x2 = Cert.Kernel5Ideal.Block.PA x0 x1 x2 := by
  funext i
  obtain ⟨h, r, j, rfl⟩ : ∃ (h : Fin 16) (r : Fin 16384) (j : Fin 128), i = ix3 h r j := ⟨i 0, i 1, i 2, eq_ix3 _⟩
  have e : idx_main_v15 (idx_main_v16 (ix3 h r j)) = ix3 (n0 := 4) (n1 := 4096) (n2 := 2048) ⟨(r : ℕ) / 4096, by omega⟩ ⟨(r : ℕ) % 4096, by omega⟩ ⟨128 * (h : ℕ) + j, by omega⟩ := by
    funext a
    refine Fin.ext ?_
    match a with
    | ⟨0, _⟩ => show (((r : ℕ) * 16 + (h : ℕ)) * 128 + (j : ℕ)) / 8388608 = (r : ℕ) / 4096; omega
    | ⟨1, _⟩ => show (((r : ℕ) * 16 + (h : ℕ)) * 128 + (j : ℕ)) / 2048 % 4096 = (r : ℕ) % 4096; omega
    | ⟨2, _⟩ => show (((r : ℕ) * 16 + (h : ℕ)) * 128 + (j : ℕ)) % 2048 = 128 * (h : ℕ) + j; omega
  rw [val_main_v16_apply, val_main_v15_apply, e, cols_row]
  rfl

end Cert.Reference5Ideal.Rows

end
-- ==== Proof.CZ.lean ====
module

public import proofs.«01_k».proof.Proof.Slab
public import proofs.«01_k».proof.Proof.Gen.Kernel6Ideal.Value
public import proofs.«01_k».proof.Proof.Gen.Reference6Ideal.Read
public import Idealize.ShloMosaic.Lib.IdealHost

@[expose] public section

set_option maxRecDepth 16384

noncomputable section

namespace Cert.Kernel6Ideal.Block

open Cert.Kernel6Ideal Cert.Kernel6Ideal.Gen Idealize.ShloMosaic Idealize.ShloMosaic.TcCoe Idealize.SL.Sem

/-! The projection to the gate `z` of the recurrent layer: what a grid point leaves in its output block, and the result array. -/

/-- The output block of a point, from its normed rows against the weights. -/
def PB (x0 : Vec Ideal S512x1024 .f32) (x1 : Vec Ideal S1x1024 .f32) (x2 : Vec Ideal S1024x2048 .bf16) : S512x2048.Idx → Elt Ideal .f32 :=
  fun y => (Slab.lin (fun k => x0 (ix2 (y 0) k)) (fun k => x1 (ix2 0 k)) (fun k j => x2 (ix2 k j)) (y 1))

/-- What the body leaves in the output block. -/
theorem out_eq (x0 : Vec Ideal S512x1024 .f32) (x1 : Vec Ideal S1x1024 .f32) (x2 : Vec Ideal S1024x2048 .bf16) :
    out0_3 (F := Ideal) x0 x1 x2 = PB x0 x1 x2 := by
  funext y
  unfold out0_3
  refine View.canon_apply_of_pieces _ _ (View.PiecesOf.mem ?_) y (cover0_3 _ _ _ _ y)
  refine ⟨Slab.cols _ _ 1536 inb_S512x2048_S512x512_0_1536 (by omega) fun r j => ?_,
    Slab.cols _ _ 1024 inb_S512x2048_S512x512_0_1024 (by omega) fun r j => ?_,
    Slab.cols _ _ 512 inb_S512x2048_S512x512_0_512 (by omega) fun r j => ?_,
    Slab.cols _ _ 0 inb_S512x2048_S512x512_0_0 (by omega) fun r j => ?_, trivial⟩
  all_goals
    unfold_payloads
    pointwise
    simp only [PB, Slab.lin, Gmlp.hrow]
    try simp only [ix2_0, ix2_1, ix3_0, ix3_1, ix3_2, Fin.val_zero, Fin.coe_ofNat_eq_mod, Nat.zero_mod, Nat.mul_zero, ← Nat.add_assoc, Nat.reduceAdd, Nat.reduceMul, Nat.zero_add]
    try rfl

variable (m : (ℓ : Loc nD τ sig) → Buf (Elt Ideal) ℓ) (c : Dev nD) (t : Fin cfg0.N)

/-- The rows' block at a point is the point's own. -/
theorem index0 : ∀ t : Fin cfg0.N, win0_0.index t = ![(t : ℕ), 0] := by decide +kernel
/-- The gain's block is the same at every point. -/
theorem index1 : ∀ t : Fin cfg0.N, win0_1.index t = ![0, 0] := by decide +kernel
/-- The weights' block is the same at every point. -/
theorem index2 : ∀ t : Fin cfg0.N, win0_2.index t = ![0, 0] := by decide +kernel
/-- The result's block at a point is the point's own. -/
theorem index3 : ∀ t : Fin cfg0.N, win0_3.index t = ![(t : ℕ), 0] := by decide +kernel

/-- Row `r` of a point's block of rows is row `512 t + r` of the flattened rows. -/
theorem blk0 (r : Fin 512) (k : Fin 1024) : iblk m c 0 t (ix2 r k) = m ((c : Thread nD τ).loc main_arg0)
    (ix3 ⟨(512 * (t : ℕ) + r) / 4096, by have : (t : ℕ) < 32 := t.isLt; omega⟩ ⟨(512 * (t : ℕ) + r) % 4096, by omega⟩ k) := by
  blk_ext! [iblk, V, index0 t]
/-- The gain's block is the gain, as a row. -/
theorem blk1 (k : Fin 1024) : iblk m c 1 t (ix2 0 k) = m ((c : Thread nD τ).loc main_arg1) (ix1 k) := by
  blk_ext! [iblk, V, index1 t]
/-- The weights' block is the call's columns of the input weights. -/
theorem blk2 (k : Fin 1024) (j : Fin 2048) : iblk m c 2 t (ix2 k j) = m ((c : Thread nD τ).loc main_arg2) (ix2 k ⟨6144 + j, by omega⟩) := by
  blk_ext! [iblk, V, index2 t]

/-- What the result array holds, from the arguments. -/
def PA (X : S4x4096x1024.Idx → EReal) (g : S1024.Idx → EReal) (w : S1024x8192.Idx → EReal) (i : S16384x2048.Idx) : EReal :=
  (Slab.lin (fun k => X (ix3 ⟨(i 0 : ℕ) / 4096, by have := (i 0).isLt; change (i 0 : ℕ) < 16384 at this; omega⟩ ⟨(i 0 : ℕ) % 4096, by omega⟩ k)) (fun k => g (ix1 k)) (fun k j => w (ix2 k j)) ⟨6144 + (i 1 : ℕ), by have := (i 1).isLt; change (i 1 : ℕ) < 2048 at this; omega⟩)

/-- One place of a point's output block is the array's place it is written to. -/
theorem block_row (r : Fin 512) (j : Fin 2048) (ht : (t : ℕ) < 32) :
    PB (iblk m c 0 t) (iblk m c 1 t) (iblk m c 2 t) (ix2 r j) = PA (m ((c : Thread nD τ).loc main_arg0)) (m ((c : Thread nD τ).loc main_arg1)) (m ((c : Thread nD τ).loc main_arg2)) (ix2 (n0 := 16384) (n1 := 2048) ⟨512 * (t : ℕ) + r, by omega⟩ j) := by
  show (Slab.lin (fun k => iblk m c 0 t (ix2 r k)) (fun k => iblk m c 1 t (ix2 0 k)) (fun k j => iblk m c 2 t (ix2 k j)) j) = _
  simp only [blk0, blk1, blk2]
  rfl

/-- The result array after the run. -/
theorem arr_eq : (dats m 0 c).arrAt 3 cfg0.N = PA (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨r, j, rfl⟩ : ∃ (r : Fin 512) (j : Fin 2048), y = ix2 r j := ⟨y 0, y 1, eq_ix2 _⟩
  have ht : (t : ℕ) < 32 := lt_of_lt_of_eq t.isLt (by decide)
  have e : ((cfg0.win 3).blk t).view.emb (ix2 r j) = ix2 (n0 := 16384) (n1 := 2048) ⟨512 * (t : ℕ) + r, by omega⟩ j := by
    blk_ext [index3 t]
  have ex : (cfg0.win 3).xinj (cfg0.grid.coords t) (ix2 r j) = ix2 (n0 := 512) (n1 := 2048) r j := rfl
  rw [e, after0_3, out_eq, ex, ← block_row m c t r j ht]
  exact cast_eq _ _

end Cert.Kernel6Ideal.Block

namespace Cert.Reference6Ideal.Rows

open Cert.Reference6Ideal Cert.Reference6Ideal.Read Idealize.ShloMosaic

/-! What the reference computes, row by row. -/

variable (x0 : (⟨S4x4096x1024, .f32⟩ : BufTy).Contents (Elt Ideal)) (x1 : (⟨S1024, .f32⟩ : BufTy).Contents (Elt Ideal))
  (x2 : (⟨S1024x8192, .f32⟩ : BufTy).Contents (Elt Ideal))

/-- The normed rows. -/
theorem norm_row (b : Fin 4) (t : Fin 4096) (k : Fin 1024) :
    val_main_v12 (F := Ideal) x0 x1 (ix3 b t k) = Gmlp.hrow (fun k => x0 (ix3 b t k)) (fun k => x1 (ix1 k)) k := by
  simp only [val_main_v12_apply, val_main_v9_apply, val_main_v8_apply, val_main_v7_apply, val_main_v6_apply, val_main_v5_apply, val_main_v4_apply,
    val_main_v3_apply, val_main_v2_apply, val_main_v1_apply, val_main_v0_apply, val_main_cst_apply, val_main_cst_0_apply, val_main_cst_1_apply,
    val_main_v10_apply, val_main_v11_apply]
  have ex : ∀ i, x0 (idx_main_v1 (idx_main_v2 (idx_main_v8 (ix3 b t k))) i) = x0 (ix3 b t i) := fun i => congrArg x0 (eq_ix3 _)
  have eg : x1 (idx_main_v10 (idx_main_v11 (ix3 b t k))) = x1 (ix1 k) := congrArg x1 (eq_ix1 _)
  simp only [ex, eg]
  pointwise
  rfl

/-- The projection of the normed rows. -/
theorem proj_row (b : Fin 4) (t : Fin 4096) (j : Fin 8192) :
    val_main_v13 (F := Ideal) x0 x1 x2 (ix3 b t j) = Slab.lin (fun k => x0 (ix3 b t k)) (fun k => x1 (ix1 k)) (fun k j => x2 (ix2 k j)) j := by
  rw [val_main_v13_apply]
  refine Finset.sum_congr rfl fun k _ => congrArg₂ (· * ·) ?_ ?_
  · exact (congrArg (val_main_v12 (F := Ideal) x0 x1) (eq_ix3 _)).trans (norm_row x0 x1 b t k)
  · exact congrArg x2 (eq_ix2 _)

/-- The call's columns of the projection. -/
theorem cols_row (b : Fin 4) (t : Fin 4096) (j : Fin 2048) :
    val_main_v14 (F := Ideal) x0 x1 x2 (ix3 b t j) = Slab.lin (fun k => x0 (ix3 b t k)) (fun k => x1 (ix1 k)) (fun k j => x2 (ix2 k j)) ⟨6144 + j, by omega⟩ := by
  rw [val_main_v14_apply]
  exact (congrArg (val_main_v13 (F := Ideal) x0 x1 x2) (eq_ix3 _)).trans (proj_row x0 x1 x2 b t ⟨6144 + j, by omega⟩)

/-- The reference's result is what the kernel's result array holds. -/
theorem ref_eq : val_main_v15 (F := Ideal) x0 x1 x2 = Cert.Kernel6Ideal.Block.PA x0 x1 x2 := by
  funext i
  obtain ⟨r, j, rfl⟩ : ∃ (r : Fin 16384) (j : Fin 2048), i = ix2 r j := ⟨i 0, i 1, eq_ix2 _⟩
  have e : idx_main_v15 (ix2 r j) = ix3 (n0 := 4) (n1 := 4096) (n2 := 2048) ⟨(r : ℕ) / 4096, by omega⟩ ⟨(r : ℕ) % 4096, by omega⟩ j := by
    funext a
    refine Fin.ext ?_
    match a with
    | ⟨0, _⟩ => show ((r : ℕ) * 2048 + (j : ℕ)) / 8388608 = (r : ℕ) / 4096; omega
    | ⟨1, _⟩ => show ((r : ℕ) * 2048 + (j : ℕ)) / 2048 % 4096 = (r : ℕ) % 4096; omega
    | ⟨2, _⟩ => show ((r : ℕ) * 2048 + (j : ℕ)) % 2048 = (j : ℕ); omega
  rw [val_main_v15_apply, e, cols_row]
  rfl

end Cert.Reference6Ideal.Rows

end
-- ==== Proof.Finish.lean ====
/-
  What closes the attention-like layers: the heads of one row, each under its own RMS norm over its 128 values, times the
  gate's sigmoid-weighted unit. -/
module

public import proofs.«01_k».proof.Proof.Slab

@[expose] public section

noncomputable section

namespace Finish

open Idealize.ShloMosaic

/-- One head of a row under the RMS norm over its 128 values with gain `g`. -/
def norm (o g : Fin 128 → EReal) (i : Fin 128) : EReal :=
  o i * Ideal.rsqrt (Ideal.div (∑ i, o i * o i) (Ideal.ofBits FTy.f32 1124073472#32) + Ideal.ofBits FTy.f32 897988541#32) * g i

/-- The normed heads of a row laid side by side, scaled by `c` and gated by the silu of `z`. -/
def gated {nh n : ℕ} (o : Fin nh → Fin 128 → EReal) (z : Fin n → EReal) (g : Fin 128 → EReal) (c : EReal) (hn : n = 128 * nh) (k : Fin n) : EReal :=
  norm (o ⟨(k : ℕ) / 128, by omega⟩) g ⟨(k : ℕ) % 128, by omega⟩ * c * Gmlp.silu (z k)

/-- The gated heads at place `j` of head `h`. -/
theorem gated_at {nh n : ℕ} (o : Fin nh → Fin 128 → EReal) (z : Fin n → EReal) (g : Fin 128 → EReal) (c : EReal) (hn : n = 128 * nh)
    (a : ℕ) (h : Fin nh) (j : Fin 128) (ha : a = 128 * (h : ℕ)) (hk : a + (j : ℕ) < n) :
    gated o z g c hn ⟨a + j, hk⟩ = norm (o h) g j * c * Gmlp.silu (z ⟨a + j, hk⟩) := by
  subst ha
  have e1 : (⟨(128 * (h : ℕ) + (j : ℕ)) / 128, by omega⟩ : Fin nh) = h := Fin.ext (by dsimp only; omega)
  have e2 : (⟨(128 * (h : ℕ) + (j : ℕ)) % 128, by omega⟩ : Fin 128) = j := Fin.ext (by dsimp only; omega)
  unfold gated
  dsimp only
  rw [e1, e2]

/-- A sum over 1024 places, cut into eight runs of 128. -/
theorem sum_eight (f : Fin 1024 → EReal) : ∑ k, f k =
    ∑ j : Fin 128, f ⟨0 + j, by omega⟩ + (∑ j : Fin 128, f ⟨128 + j, by omega⟩ + (∑ j : Fin 128, f ⟨256 + j, by omega⟩ + (∑ j : Fin 128, f ⟨384 + j, by omega⟩ + (∑ j : Fin 128, f ⟨512 + j, by omega⟩ + (∑ j : Fin 128, f ⟨640 + j, by omega⟩ + (∑ j : Fin 128, f ⟨768 + j, by omega⟩ + ∑ j : Fin 128, f ⟨896 + j, by omega⟩)))))) := by
  have cut : ∀ (a b : ℕ) (h : a + (128 + b) = 1024), ∑ j : Fin (128 + b), f ⟨a + j, by omega⟩ = ∑ j : Fin 128, f ⟨a + j, by omega⟩ + ∑ j : Fin b, f ⟨(a + 128) + j, by omega⟩ := by
    intro a b h
    rw [Fin.sum_univ_add]
    refine congrArg₂ (· + ·) rfl (Finset.sum_congr rfl fun j _ => congrArg f (Fin.ext ?_))
    simp only [Fin.val_natAdd]
    omega
  have e0 : ∑ k, f k = ∑ j : Fin (128 + 896), f ⟨0 + j, by omega⟩ := Finset.sum_congr rfl fun j _ => congrArg f (Fin.ext (by simp))
  rw [e0, cut 0 896 rfl]
  refine congrArg₂ (· + ·) rfl ((cut 128 768 rfl).trans (congrArg₂ (· + ·) rfl ((cut 256 640 rfl).trans (congrArg₂ (· + ·) rfl
    ((cut 384 512 rfl).trans (congrArg₂ (· + ·) rfl ((cut 512 384 rfl).trans (congrArg₂ (· + ·) rfl
      ((cut 640 256 rfl).trans (congrArg₂ (· + ·) rfl (cut 768 128 rfl)))))))))))

end Finish

end
-- ==== Proof.CF.lean ====
module

public import proofs.«01_k».proof.Proof.Finish
public import proofs.«01_k».proof.Proof.Gen.Kernel7Ideal.Value
public import proofs.«01_k».proof.Proof.Gen.Reference7Ideal.Read
public import Idealize.ShloMosaic.Lib.IdealHost

@[expose] public section

set_option maxRecDepth 16384

noncomputable section

namespace Cert.Kernel7Ideal.Block

open Cert.Kernel7Ideal Cert.Kernel7Ideal.Gen Idealize.ShloMosaic Idealize.ShloMosaic.TcCoe Idealize.SL.Sem

/-! The finish of the recurrent layer: what a grid point leaves in its output block, and the result array. -/

/-- Row `r` of the gated heads of a point's blocks. -/
def gblk (x0 : Vec Ideal S16x256x128 .f32) (x1 : Vec Ideal S256x2048 .f32) (x3 : Vec Ideal S1x128 .f32) (r : Fin 256) (k : Fin 2048) : EReal :=
  Finish.gated (fun (h : Fin 16) (i : Fin 128) => x0 (ix3 h r i)) (fun k => x1 (ix2 r k)) (fun i => x3 (ix2 0 i)) 1 rfl k

/-- The output block of a point: its rows plus the gated heads against the output weights. -/
def PB (x0 : Vec Ideal S16x256x128 .f32) (x1 : Vec Ideal S256x2048 .f32) (x2 : Vec Ideal S256x1024 .f32) (x3 : Vec Ideal S1x128 .f32) (x4 : Vec Ideal S2048x1024 .bf16) : S256x1024.Idx → Elt Ideal .f32 :=
  fun y => x2 (ix2 (y 0) (y 1)) + ∑ k : Fin 2048, gblk x0 x1 x3 (y 0) k * x4 (ix2 k (y 1))

set_option maxHeartbeats 4000000 in
/-- The heads laid side by side, read at a place. -/
theorem stack (G : Fin 256 → Fin 2048 → EReal) (v28 v57 v86 v115 v144 v173 v202 v231 v260 v289 v318 v347 v376 v405 v434 : FVec Ideal S256x128 .bf16) (v462 : FVec Ideal S256x128 .f32)
    (h0 : ∀ r (j : Fin 128), v28 (ix2 r j) = G r ⟨0 + j, by omega⟩) (h1 : ∀ r (j : Fin 128), v57 (ix2 r j) = G r ⟨128 + j, by omega⟩) (h2 : ∀ r (j : Fin 128), v86 (ix2 r j) = G r ⟨256 + j, by omega⟩) (h3 : ∀ r (j : Fin 128), v115 (ix2 r j) = G r ⟨384 + j, by omega⟩) (h4 : ∀ r (j : Fin 128), v144 (ix2 r j) = G r ⟨512 + j, by omega⟩) (h5 : ∀ r (j : Fin 128), v173 (ix2 r j) = G r ⟨640 + j, by omega⟩) (h6 : ∀ r (j : Fin 128), v202 (ix2 r j) = G r ⟨768 + j, by omega⟩) (h7 : ∀ r (j : Fin 128), v231 (ix2 r j) = G r ⟨896 + j, by omega⟩) (h8 : ∀ r (j : Fin 128), v260 (ix2 r j) = G r ⟨1024 + j, by omega⟩) (h9 : ∀ r (j : Fin 128), v289 (ix2 r j) = G r ⟨1152 + j, by omega⟩) (h10 : ∀ r (j : Fin 128), v318 (ix2 r j) = G r ⟨1280 + j, by omega⟩) (h11 : ∀ r (j : Fin 128), v347 (ix2 r j) = G r ⟨1408 + j, by omega⟩) (h12 : ∀ r (j : Fin 128), v376 (ix2 r j) = G r ⟨1536 + j, by omega⟩) (h13 : ∀ r (j : Fin 128), v405 (ix2 r j) = G r ⟨1664 + j, by omega⟩) (h14 : ∀ r (j : Fin 128), v434 (ix2 r j) = G r ⟨1792 + j, by omega⟩) (h15 : ∀ r (j : Fin 128), v462 (ix2 r j) = G r ⟨1920 + j, by omega⟩) (r : Fin 256) (k : Fin 2048) : k0_pay2 (F := Ideal) v28 v57 v86 v115 v144 v173 v202 v231 v260 v289 v318 v347 v376 v405 v434 v462 (ix2 r k) = G r k := by
  have hK : (128 : ℕ) ≠ 0 := by decide
  have e : ∀ (n : Fin 16) (j : Fin 128), (![v28, v57, v86, v115, v144, v173, v202, v231, v260, v289, v318, v347, v376, v405, v434, v462] : Fin 16 → FVec Ideal S256x128 .bf16) n (ix2 r j) = G r ⟨128 * (n : ℕ) + j, by omega⟩ := by
    intro n j
    match n with
    | ⟨0, _⟩ => exact h0 r j
    | ⟨1, _⟩ => exact h1 r j
    | ⟨2, _⟩ => exact h2 r j
    | ⟨3, _⟩ => exact h3 r j
    | ⟨4, _⟩ => exact h4 r j
    | ⟨5, _⟩ => exact h5 r j
    | ⟨6, _⟩ => exact h6 r j
    | ⟨7, _⟩ => exact h7 r j
    | ⟨8, _⟩ => exact h8 r j
    | ⟨9, _⟩ => exact h9 r j
    | ⟨10, _⟩ => exact h10 r j
    | ⟨11, _⟩ => exact h11 r j
    | ⟨12, _⟩ => exact h12 r j
    | ⟨13, _⟩ => exact h13 r j
    | ⟨14, _⟩ => exact h14 r j
    | ⟨15, _⟩ => exact h15 r j
    | ⟨n + 16, h⟩ => exact absurd h (by omega)
  refine (concatenate_ofFn_apply 1 (![v28, v57, v86, v115, v144, v173, v202, v231, v260, v289, v318, v347, v376, v405, v434, v462] : Fin 16 → FVec Ideal S256x128 .bf16) concatenates_S256x128_S256x128_S256x128_S256x128_S256x128_S256x128_S256x128_S256x128_S256x128_S256x128_S256x128_S256x128_S256x128_S256x128_S256x128_S256x128_S256x2048_d1 rfl 128 rfl (ix2 r k) ⟨(k : ℕ) / 128, by omega⟩ rfl (ix2 r ⟨(k : ℕ) % 128, by omega⟩) rfl (fun b hb => ?_)).trans ?_
  · match b with
    | ⟨0, _⟩ => rfl
    | ⟨1, _⟩ => exact absurd rfl hb
  · rw [e]
    exact congrArg (G r) (Fin.ext (by dsimp only; omega))

/-- The output weights against the stacked heads, and the rows added. -/
theorem last (G : Fin 256 → Fin 2048 → EReal) (v : FVec Ideal S256x2048 .bf16) (x2 : Vec Ideal S256x1024 .f32) (x4 : Vec Ideal S2048x1024 .bf16)
    (h : ∀ r k, v (ix2 r k) = G r k) (r : Fin 256) (n : Fin 1024) :
    k0_pay3 (F := Ideal) v x2 x4 (ix2 r n) = x2 (ix2 r n) + ∑ k, G r k * x4 (ix2 k n) := by
  unfold k0_pay3
  pointwise
  simp only [h]

set_option maxHeartbeats 1000000 in
/-- What the body leaves in the output block. -/
theorem out_eq (x0 : Vec Ideal S16x256x128 .f32) (x1 : Vec Ideal S256x2048 .f32) (x2 : Vec Ideal S256x1024 .f32) (x3 : Vec Ideal S1x128 .f32) (x4 : Vec Ideal S2048x1024 .bf16) :
    out0_5 (F := Ideal) x0 x1 x2 x3 x4 = PB x0 x1 x2 x3 x4 := by
  funext y
  unfold out0_5
  refine View.canon_apply_of_pieces _ _ (View.PiecesOf.mem ?_) y (cover0_5 _ y)
  refine ⟨Slab.cols _ _ 0 inb_S256x1024_S256x1024_0_0 (by omega) fun r n => ?_, trivial⟩
  refine (last (gblk x0 x1 x3) _ _ _ (stack (gblk x0 x1 x3) _ _ _ _ _ _ _ _ _ _ _ _ _ _ _ _ ?_ ?_ ?_ ?_ ?_ ?_ ?_ ?_ ?_ ?_ ?_ ?_ ?_ ?_ ?_ ?_) r n).trans ?_
  · intro r j
    rw [gblk, Finish.gated_at _ _ _ _ rfl 0 0 j rfl]
    unfold_payloads
    pointwise
    simp only [Finish.norm, Gmlp.silu, mul_one]
    try rfl
  · intro r j
    rw [gblk, Finish.gated_at _ _ _ _ rfl 128 1 j rfl]
    unfold_payloads
    pointwise
    simp only [Finish.norm, Gmlp.silu, mul_one]
    try rfl
  · intro r j
    rw [gblk, Finish.gated_at _ _ _ _ rfl 256 2 j rfl]
    unfold_payloads
    pointwise
    simp only [Finish.norm, Gmlp.silu, mul_one]
    try rfl
  · intro r j
    rw [gblk, Finish.gated_at _ _ _ _ rfl 384 3 j rfl]
    unfold_payloads
    pointwise
    simp only [Finish.norm, Gmlp.silu, mul_one]
    try rfl
  · intro r j
    rw [gblk, Finish.gated_at _ _ _ _ rfl 512 4 j rfl]
    unfold_payloads
    pointwise
    simp only [Finish.norm, Gmlp.silu, mul_one]
    try rfl
  · intro r j
    rw [gblk, Finish.gated_at _ _ _ _ rfl 640 5 j rfl]
    unfold_payloads
    pointwise
    simp only [Finish.norm, Gmlp.silu, mul_one]
    try rfl
  · intro r j
    rw [gblk, Finish.gated_at _ _ _ _ rfl 768 6 j rfl]
    unfold_payloads
    pointwise
    simp only [Finish.norm, Gmlp.silu, mul_one]
    try rfl
  · intro r j
    rw [gblk, Finish.gated_at _ _ _ _ rfl 896 7 j rfl]
    unfold_payloads
    pointwise
    simp only [Finish.norm, Gmlp.silu, mul_one]
    try rfl
  · intro r j
    rw [gblk, Finish.gated_at _ _ _ _ rfl 1024 8 j rfl]
    unfold_payloads
    pointwise
    simp only [Finish.norm, Gmlp.silu, mul_one]
    try rfl
  · intro r j
    rw [gblk, Finish.gated_at _ _ _ _ rfl 1152 9 j rfl]
    unfold_payloads
    pointwise
    simp only [Finish.norm, Gmlp.silu, mul_one]
    try rfl
  · intro r j
    rw [gblk, Finish.gated_at _ _ _ _ rfl 1280 10 j rfl]
    unfold_payloads
    pointwise
    simp only [Finish.norm, Gmlp.silu, mul_one]
    try rfl
  · intro r j
    rw [gblk, Finish.gated_at _ _ _ _ rfl 1408 11 j rfl]
    unfold_payloads
    pointwise
    simp only [Finish.norm, Gmlp.silu, mul_one]
    try rfl
  · intro r j
    rw [gblk, Finish.gated_at _ _ _ _ rfl 1536 12 j rfl]
    unfold_payloads
    pointwise
    simp only [Finish.norm, Gmlp.silu, mul_one]
    try rfl
  · intro r j
    rw [gblk, Finish.gated_at _ _ _ _ rfl 1664 13 j rfl]
    unfold_payloads
    pointwise
    simp only [Finish.norm, Gmlp.silu, mul_one]
    try rfl
  · intro r j
    rw [gblk, Finish.gated_at _ _ _ _ rfl 1792 14 j rfl]
    unfold_payloads
    pointwise
    simp only [Finish.norm, Gmlp.silu, mul_one]
    try rfl
  · intro r j
    rw [gblk, Finish.gated_at _ _ _ _ rfl 1920 15 j rfl]
    unfold_payloads
    pointwise
    simp only [Finish.norm, Gmlp.silu, mul_one]
    try rfl
  · simp only [PB]
    pointwise

variable (m : (ℓ : Loc nD τ sig) → Buf (Elt Ideal) ℓ) (c : Dev nD) (t : Fin cfg0.N)

/-- The heads' block at a point is the point's own. -/
theorem index0 : ∀ t : Fin cfg0.N, win0_0.index t = ![0, (t : ℕ), 0] := by decide +kernel
/-- The gate's block at a point is the point's own. -/
theorem index1 : ∀ t : Fin cfg0.N, win0_1.index t = ![(t : ℕ), 0] := by decide +kernel
/-- The rows' block at a point is the point's own. -/
theorem index2 : ∀ t : Fin cfg0.N, win0_2.index t = ![(t : ℕ), 0] := by decide +kernel
/-- The gain's block is the same at every point. -/
theorem index3 : ∀ t : Fin cfg0.N, win0_3.index t = ![0, 0] := by decide +kernel
/-- The weights' block is the same at every point. -/
theorem index4 : ∀ t : Fin cfg0.N, win0_4.index t = ![0, 0] := by decide +kernel
/-- The result's block at a point is the point's own. -/
theorem index5 : ∀ t : Fin cfg0.N, win0_5.index t = ![(t : ℕ), 0] := by decide +kernel

/-- Row `r` of a point's block of heads is row `256 t + r`. -/
theorem blk0 (h : Fin 16) (r : Fin 256) (i : Fin 128) : iblk m c 0 t (ix3 h r i) = m ((c : Thread nD τ).loc main_arg0)
    (ix3 h ⟨256 * (t : ℕ) + r, by have : (t : ℕ) < 64 := t.isLt; omega⟩ i) := by
  blk_ext! [iblk, V, index0 t]
/-- Row `r` of a point's block of gates is row `256 t + r`. -/
theorem blk1 (r : Fin 256) (k : Fin 2048) : iblk m c 1 t (ix2 r k) = m ((c : Thread nD τ).loc main_arg1)
    (ix2 ⟨256 * (t : ℕ) + r, by have : (t : ℕ) < 64 := t.isLt; omega⟩ k) := by
  blk_ext! [iblk, V, index1 t]
/-- Row `r` of a point's block of rows is row `256 t + r`. -/
theorem blk2 (r : Fin 256) (k : Fin 1024) : iblk m c 2 t (ix2 r k) = m ((c : Thread nD τ).loc main_arg2)
    (ix2 ⟨256 * (t : ℕ) + r, by have : (t : ℕ) < 64 := t.isLt; omega⟩ k) := by
  blk_ext! [iblk, V, index2 t]
/-- The gain's block is the gain, as a row. -/
theorem blk3 (k : Fin 128) : iblk m c 3 t (ix2 0 k) = m ((c : Thread nD τ).loc main_arg3) (ix1 k) := by
  blk_ext! [iblk, V, index3 t]
/-- The weights' block is the weights. -/
theorem blk4 (k : Fin 2048) (j : Fin 1024) : iblk m c 4 t (ix2 k j) = m ((c : Thread nD τ).loc main_arg4) (ix2 k j) := by
  blk_ext! [iblk, V, index4 t]

/-- The gated heads of a row, from the arguments. -/
def GA (O : S16x16384x128.Idx → EReal) (Z : S16384x2048.Idx → EReal) (g : S128.Idx → EReal) (r : Fin 16384) (k : Fin 2048) : EReal :=
  Finish.gated (fun (h : Fin 16) (i : Fin 128) => O (ix3 h r i)) (fun k => Z (ix2 r k)) (fun i => g (ix1 i)) 1 rfl k

/-- What the result array holds, from the arguments. -/
def PA (O : S16x16384x128.Idx → EReal) (Z : S16384x2048.Idx → EReal) (X : S16384x1024.Idx → EReal) (g : S128.Idx → EReal) (w : S2048x1024.Idx → EReal) (i : S16384x1024.Idx) : EReal :=
  X (ix2 (i 0) (i 1)) + ∑ k : Fin 2048, GA O Z g (i 0) k * w (ix2 k (i 1))

/-- One place of a point's output block is the array's place it is written to. -/
theorem block_row (r : Fin 256) (n : Fin 1024) (ht : (t : ℕ) < 64) :
    PB (iblk m c 0 t) (iblk m c 1 t) (iblk m c 2 t) (iblk m c 3 t) (iblk m c 4 t) (ix2 r n) = PA (m ((c : Thread nD τ).loc main_arg0)) (m ((c : Thread nD τ).loc main_arg1)) (m ((c : Thread nD τ).loc main_arg2)) (m ((c : Thread nD τ).loc main_arg3)) (m ((c : Thread nD τ).loc main_arg4)) (ix2 (n0 := 16384) (n1 := 1024) ⟨256 * (t : ℕ) + r, by omega⟩ n) := by
  simp only [PB, gblk, ix2_0, ix2_1, blk0, blk1, blk2, blk3, blk4]
  rfl

/-- The result array after the run. -/
theorem arr_eq : (dats m 0 c).arrAt 5 cfg0.N = PA (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨r, n, rfl⟩ : ∃ (r : Fin 256) (n : Fin 1024), y = ix2 r n := ⟨y 0, y 1, eq_ix2 _⟩
  have ht : (t : ℕ) < 64 := lt_of_lt_of_eq t.isLt (by decide)
  have e : ((cfg0.win 5).blk t).view.emb (ix2 r n) = ix2 (n0 := 16384) (n1 := 1024) ⟨256 * (t : ℕ) + r, by omega⟩ n := by
    blk_ext [index5 t]
  have ex : (cfg0.win 5).xinj (cfg0.grid.coords t) (ix2 r n) = ix2 (n0 := 256) (n1 := 1024) r n := rfl
  rw [e, after0_5, out_eq, ex, ← block_row m c t r n ht]
  exact cast_eq _ _

end Cert.Kernel7Ideal.Block

namespace Cert.Reference7Ideal.Rows

open Cert.Reference7Ideal Cert.Reference7Ideal.Read Idealize.ShloMosaic

/-! What the reference computes, row by row. -/

variable (x0 : (⟨S16x16384x128, .f32⟩ : BufTy).Contents (Elt Ideal)) (x1 : (⟨S16384x2048, .f32⟩ : BufTy).Contents (Elt Ideal)) (x2 : (⟨S16384x1024, .f32⟩ : BufTy).Contents (Elt Ideal))
  (x3 : (⟨S128, .f32⟩ : BufTy).Contents (Elt Ideal)) (x4 : (⟨S2048x1024, .f32⟩ : BufTy).Contents (Elt Ideal))

/-- The heads, row by row. -/
theorem base (b : Fin 4) (t : Fin 4096) (h : Fin 16) (j : Fin 128) :
    val_main_v1 (F := Ideal) x0 (ix4 b t h j) = x0 (ix3 h ⟨4096 * (b : ℕ) + t, by omega⟩ j) := by
  rw [val_main_v1_apply, val_main_v0_apply]
  refine congrArg x0 ?_
  funext a
  refine Fin.ext ?_
  match a with
  | ⟨0, _⟩ => show ((((b : ℕ) * 4096 + (t : ℕ)) * 16 + (h : ℕ)) * 128 + (j : ℕ)) / 128 % 16 = (h : ℕ); omega
  | ⟨1, _⟩ => show ((((b : ℕ) * 4096 + (t : ℕ)) * 16 + (h : ℕ)) * 128 + (j : ℕ)) / 2048 = 4096 * (b : ℕ) + (t : ℕ); omega
  | ⟨2, _⟩ => show ((((b : ℕ) * 4096 + (t : ℕ)) * 16 + (h : ℕ)) * 128 + (j : ℕ)) % 128 = (j : ℕ); omega

/-- The normed heads. -/
theorem norm_row (b : Fin 4) (t : Fin 4096) (h : Fin 16) (j : Fin 128) :
    val_main_v15 (F := Ideal) x0 x3 (ix4 b t h j) = Finish.norm (fun i => x0 (ix3 h ⟨4096 * (b : ℕ) + t, by omega⟩ i)) (fun i => x3 (ix1 i)) j := by
  simp only [val_main_v15_apply, val_main_v14_apply, val_main_v13_apply, val_main_v12_apply, val_main_v11_apply, val_main_v10_apply, val_main_v9_apply, val_main_v8_apply, val_main_v7_apply, val_main_v6_apply, val_main_v5_apply, val_main_v4_apply, val_main_v3_apply, val_main_cst_apply, val_main_cst_0_apply, val_main_cst_1_apply]
  have e0 : ∀ i : Fin 128, idx_main_v4 (idx_main_v5 (idx_main_v11 (ix4 b t h j))) i = ix4 b t h i := fun i => eq_ix4 _
  have eg : x3 (idx_main_v13 (idx_main_v14 (ix4 b t h j))) = x3 (ix1 j) := congrArg x3 (eq_ix1 _)
  simp only [e0, eg, base]
  pointwise
  rfl

/-- The gate. -/
theorem gate_row (b : Fin 4) (t : Fin 4096) (k : Fin 2048) :
    val_main_v17 (F := Ideal) x1 (ix3 b t k) = Gmlp.silu (x1 (ix2 ⟨4096 * (b : ℕ) + t, by omega⟩ k)) := by
  have ez : val_main_v2 (F := Ideal) x1 (ix3 b t k) = x1 (ix2 ⟨4096 * (b : ℕ) + t, by omega⟩ k) := by
    rw [val_main_v2_apply]
    refine congrArg x1 ?_
    funext a
    refine Fin.ext ?_
    match a with
    | ⟨0, _⟩ => show (((b : ℕ) * 4096 + (t : ℕ)) * 2048 + (k : ℕ)) / 2048 = 4096 * (b : ℕ) + (t : ℕ); omega
    | ⟨1, _⟩ => show (((b : ℕ) * 4096 + (t : ℕ)) * 2048 + (k : ℕ)) % 2048 = (k : ℕ); omega
  simp only [val_main_v17_apply, val_main_call0_v5_apply, val_main_call0_v4_apply, val_main_call0_v3_apply,
    val_main_call0_v2_apply, val_main_call0_v1_apply, val_main_call0_v0_apply, val_main_call0_cst_apply, val_main_call0_cst_0_apply, ez]
  generalize x1 _ = p
  pointwise
  rw [Gmlp.silu, zero_sub]

/-- The gated heads. -/
theorem gated_row (b : Fin 4) (t : Fin 4096) (k : Fin 2048) :
    val_main_v18 (F := Ideal) x0 x1 x3 (ix3 b t k) = Cert.Kernel7Ideal.Block.GA x0 x1 x3 ⟨4096 * (b : ℕ) + t, by omega⟩ k := by
  have e : idx_main_v16 (ix3 b t k) = ix4 (n0 := 4) (n1 := 4096) (n2 := 16) (n3 := 128) b t ⟨(k : ℕ) / 128, by omega⟩ ⟨(k : ℕ) % 128, by omega⟩ := by
    funext a
    refine Fin.ext ?_
    match a with
    | ⟨0, _⟩ => show (((b : ℕ) * 4096 + (t : ℕ)) * 2048 + (k : ℕ)) / 8388608 = (b : ℕ); omega
    | ⟨1, _⟩ => show (((b : ℕ) * 4096 + (t : ℕ)) * 2048 + (k : ℕ)) / 2048 % 4096 = (t : ℕ); omega
    | ⟨2, _⟩ => show (((b : ℕ) * 4096 + (t : ℕ)) * 2048 + (k : ℕ)) / 128 % 16 = (k : ℕ) / 128; omega
    | ⟨3, _⟩ => show (((b : ℕ) * 4096 + (t : ℕ)) * 2048 + (k : ℕ)) % 128 = (k : ℕ) % 128; omega
  rw [val_main_v18_apply, val_main_v16_apply, e, norm_row, gate_row]
  exact (congrArg (· * _) (mul_one _)).symm

/-- The reference's result is what the kernel's result array holds. -/
theorem ref_eq : val_main_v21 (F := Ideal) x0 x1 x2 x3 x4 = Cert.Kernel7Ideal.Block.PA x0 x1 x2 x3 x4 := by
  funext i
  obtain ⟨r, n, rfl⟩ : ∃ (r : Fin 16384) (n : Fin 1024), i = ix2 r n := ⟨i 0, i 1, eq_ix2 _⟩
  have e : idx_main_v20 (ix2 r n) = ix3 (n0 := 4) (n1 := 4096) (n2 := 1024) ⟨(r : ℕ) / 4096, by omega⟩ ⟨(r : ℕ) % 4096, by omega⟩ n := by
    funext a
    refine Fin.ext ?_
    match a with
    | ⟨0, _⟩ => show ((r : ℕ) * 1024 + (n : ℕ)) / 4194304 = (r : ℕ) / 4096; omega
    | ⟨1, _⟩ => show ((r : ℕ) * 1024 + (n : ℕ)) / 1024 % 4096 = (r : ℕ) % 4096; omega
    | ⟨2, _⟩ => show ((r : ℕ) * 1024 + (n : ℕ)) % 1024 = (n : ℕ); omega
  rw [val_main_v21_apply, val_main_v20_apply, e, val_main_v19_apply]
  refine congrArg (x2 (ix2 r n) + ·) (Finset.sum_congr rfl fun k _ => congrArg₂ (· * ·) ?_ (congrArg x4 (eq_ix2 _)))
  refine (congrArg (val_main_v18 (F := Ideal) x0 x1 x3) (eq_ix3 _)).trans ((gated_row x0 x1 x3 _ _ k).trans ?_)
  refine congrArg (fun q => Cert.Kernel7Ideal.Block.GA x0 x1 x3 q k) (Fin.ext ?_)
  show 4096 * ((r : ℕ) / 4096) + (r : ℕ) % 4096 = (r : ℕ)
  omega

end Cert.Reference7Ideal.Rows

end
-- ==== Proof.BF.lean ====
module

public import proofs.«01_k».proof.Proof.Finish
public import proofs.«01_k».proof.Proof.Gen.Kernel8Ideal.Value
public import proofs.«01_k».proof.Proof.Gen.Reference8Ideal.Read
public import Idealize.ShloMosaic.Lib.IdealHost

@[expose] public section

set_option maxRecDepth 16384

noncomputable section

namespace Cert.Kernel8Ideal.Block

open Cert.Kernel8Ideal Cert.Kernel8Ideal.Gen Idealize.ShloMosaic Idealize.ShloMosaic.TcCoe Idealize.SL.Sem

/-! The finish of the attention layer: what a grid point leaves in its output block, and the result array. -/

/-- Row `r` of the gated heads of a point's blocks. -/
def gblk (x0 : Vec Ideal S256x1024 .f32) (x1 : Vec Ideal S256x1024 .f32) (x3 : Vec Ideal S1x128 .f32) (r : Fin 256) (k : Fin 1024) : EReal :=
  Finish.gated (fun (h : Fin 8) (i : Fin 128) => x0 (ix2 r ⟨128 * (h : ℕ) + i, by omega⟩)) (fun k => x1 (ix2 r k)) (fun i => x3 (ix2 0 i)) (Ideal.ofBits FTy.f32 0x3F24FD5C#32) rfl k

/-- The output block of a point: its rows plus the gated heads against the output weights. -/
def PB (x0 : Vec Ideal S256x1024 .f32) (x1 : Vec Ideal S256x1024 .f32) (x2 : Vec Ideal S256x1024 .f32) (x3 : Vec Ideal S1x128 .f32) (x4 : Vec Ideal S1024x1024 .bf16) : S256x1024.Idx → Elt Ideal .f32 :=
  fun y => x2 (ix2 (y 0) (y 1)) + ∑ k : Fin 1024, gblk x0 x1 x3 (y 0) k * x4 (ix2 k (y 1))

/-- The output weights against the stacked heads, and the rows added. -/
theorem last (G : Fin 256 → Fin 1024 → EReal) (v27 v55 v83 v111 v139 v167 v195 : FVec Ideal S256x128 .bf16) (v196 : Vec Ideal S256x128 .f32) (v198 : FVec Ideal S1x128 .f32)
    (v201 : FVec Ideal S256x1 .f32) (c : EReal) (v213 : Vec Ideal S256x128 .f32) (x2 : Vec Ideal S256x1024 .f32) (x4 : Vec Ideal S1024x1024 .bf16)
    (h0 : ∀ r (j : Fin 128), v27 (ix2 r j) = G r ⟨0 + j, by omega⟩) (h1 : ∀ r (j : Fin 128), v55 (ix2 r j) = G r ⟨128 + j, by omega⟩) (h2 : ∀ r (j : Fin 128), v83 (ix2 r j) = G r ⟨256 + j, by omega⟩) (h3 : ∀ r (j : Fin 128), v111 (ix2 r j) = G r ⟨384 + j, by omega⟩) (h4 : ∀ r (j : Fin 128), v139 (ix2 r j) = G r ⟨512 + j, by omega⟩) (h5 : ∀ r (j : Fin 128), v167 (ix2 r j) = G r ⟨640 + j, by omega⟩) (h6 : ∀ r (j : Fin 128), v195 (ix2 r j) = G r ⟨768 + j, by omega⟩)
    (h7 : ∀ r (j : Fin 128), v196 (ix2 r j) * Ideal.rsqrt (Ideal.div (v201 (ix2 r 0)) c + Ideal.ofBits FTy.f32 897988541#32) * v198 (ix2 0 j) * (Ideal.ofBits FTy.f32 0x3F24FD5C#32) * Gmlp.silu (v213 (ix2 r j)) = G r ⟨896 + j, by omega⟩)
    (r : Fin 256) (n : Fin 1024) :
    k0_pay1 (F := Ideal) v27 v55 v83 v111 v139 v167 v195 v196 v198 v201 c v213 x2 x4 (ix2 r n) = x2 (ix2 r n) + ∑ k, G r k * x4 (ix2 k n) := by
  unfold k0_pay1
  pointwise
  simp only [Gmlp.silu] at h7
  simp only [h0, h1, h2, h3, h4, h5, h6, h7]
  refine congrArg (x2 (ix2 r n) + ·) (Finset.sum_congr rfl fun k _ => congrArg (· * x4 (ix2 k n)) ?_)
  split_ifs <;> exact congrArg (G r) (Fin.ext (by dsimp only; omega))

set_option maxHeartbeats 1000000 in
/-- What the body leaves in the output block. -/
theorem out_eq (x0 : Vec Ideal S256x1024 .f32) (x1 : Vec Ideal S256x1024 .f32) (x2 : Vec Ideal S256x1024 .f32) (x3 : Vec Ideal S1x128 .f32) (x4 : Vec Ideal S1024x1024 .bf16) :
    out0_5 (F := Ideal) x0 x1 x2 x3 x4 = PB x0 x1 x2 x3 x4 := by
  funext y
  unfold out0_5
  refine View.canon_apply_of_pieces _ _ (View.PiecesOf.mem ?_) y (cover0_5 _ y)
  refine ⟨Slab.cols _ _ 0 inb_S256x1024_S256x1024_0_0 (by omega) fun r n => ?_, trivial⟩
  refine (last (gblk x0 x1 x3) _ _ _ _ _ _ _ _ _ _ _ _ _ _ ?_ ?_ ?_ ?_ ?_ ?_ ?_ ?_ r n).trans ?_
  · intro r j
    rw [gblk, Finish.gated_at _ _ _ _ rfl 0 0 j rfl]
    unfold_payloads
    pointwise
    simp only [Finish.norm, Gmlp.silu, mul_one]
    try rfl
  · intro r j
    rw [gblk, Finish.gated_at _ _ _ _ rfl 128 1 j rfl]
    unfold_payloads
    pointwise
    simp only [Finish.norm, Gmlp.silu, mul_one]
    try rfl
  · intro r j
    rw [gblk, Finish.gated_at _ _ _ _ rfl 256 2 j rfl]
    unfold_payloads
    pointwise
    simp only [Finish.norm, Gmlp.silu, mul_one]
    try rfl
  · intro r j
    rw [gblk, Finish.gated_at _ _ _ _ rfl 384 3 j rfl]
    unfold_payloads
    pointwise
    simp only [Finish.norm, Gmlp.silu, mul_one]
    try rfl
  · intro r j
    rw [gblk, Finish.gated_at _ _ _ _ rfl 512 4 j rfl]
    unfold_payloads
    pointwise
    simp only [Finish.norm, Gmlp.silu, mul_one]
    try rfl
  · intro r j
    rw [gblk, Finish.gated_at _ _ _ _ rfl 640 5 j rfl]
    unfold_payloads
    pointwise
    simp only [Finish.norm, Gmlp.silu, mul_one]
    try rfl
  · intro r j
    rw [gblk, Finish.gated_at _ _ _ _ rfl 768 6 j rfl]
    unfold_payloads
    pointwise
    simp only [Finish.norm, Gmlp.silu, mul_one]
    try rfl
  · intro r j
    rw [gblk, Finish.gated_at _ _ _ _ rfl 896 7 j rfl]
    unfold_payloads
    pointwise
    simp only [Finish.norm, Gmlp.silu, mul_one]
    try rfl
  · simp only [PB]
    pointwise

variable (m : (ℓ : Loc nD τ sig) → Buf (Elt Ideal) ℓ) (c : Dev nD) (t : Fin cfg0.N)

/-- The heads' block at a point is the point's own. -/
theorem index0 : ∀ t : Fin cfg0.N, win0_0.index t = ![(t : ℕ), 0] := by decide +kernel
/-- The gate's block at a point is the point's own. -/
theorem index1 : ∀ t : Fin cfg0.N, win0_1.index t = ![(t : ℕ), 0] := by decide +kernel
/-- The rows' block at a point is the point's own. -/
theorem index2 : ∀ t : Fin cfg0.N, win0_2.index t = ![(t : ℕ), 0] := by decide +kernel
/-- The gain's block is the same at every point. -/
theorem index3 : ∀ t : Fin cfg0.N, win0_3.index t = ![0, 0] := by decide +kernel
/-- The weights' block is the same at every point. -/
theorem index4 : ∀ t : Fin cfg0.N, win0_4.index t = ![0, 0] := by decide +kernel
/-- The result's block at a point is the point's own. -/
theorem index5 : ∀ t : Fin cfg0.N, win0_5.index t = ![(t : ℕ), 0] := by decide +kernel

/-- Row `r` of a point's block of heads is row `256 t + r`. -/
theorem blk0 (r : Fin 256) (k : Fin 1024) : iblk m c 0 t (ix2 r k) = m ((c : Thread nD τ).loc main_arg0)
    (ix2 ⟨256 * (t : ℕ) + r, by have : (t : ℕ) < 64 := t.isLt; omega⟩ k) := by
  blk_ext! [iblk, V, index0 t]
/-- Row `r` of a point's block of gates is row `256 t + r`. -/
theorem blk1 (r : Fin 256) (k : Fin 1024) : iblk m c 1 t (ix2 r k) = m ((c : Thread nD τ).loc main_arg1)
    (ix2 ⟨256 * (t : ℕ) + r, by have : (t : ℕ) < 64 := t.isLt; omega⟩ k) := by
  blk_ext! [iblk, V, index1 t]
/-- Row `r` of a point's block of rows is row `256 t + r`. -/
theorem blk2 (r : Fin 256) (k : Fin 1024) : iblk m c 2 t (ix2 r k) = m ((c : Thread nD τ).loc main_arg2)
    (ix2 ⟨256 * (t : ℕ) + r, by have : (t : ℕ) < 64 := t.isLt; omega⟩ k) := by
  blk_ext! [iblk, V, index2 t]
/-- The gain's block is the gain, as a row. -/
theorem blk3 (k : Fin 128) : iblk m c 3 t (ix2 0 k) = m ((c : Thread nD τ).loc main_arg3) (ix1 k) := by
  blk_ext! [iblk, V, index3 t]
/-- The weights' block is the weights. -/
theorem blk4 (k : Fin 1024) (j : Fin 1024) : iblk m c 4 t (ix2 k j) = m ((c : Thread nD τ).loc main_arg4) (ix2 k j) := by
  blk_ext! [iblk, V, index4 t]

/-- The gated heads of a row, from the arguments. -/
def GA (O : S16384x1024.Idx → EReal) (Z : S16384x1024.Idx → EReal) (g : S128.Idx → EReal) (r : Fin 16384) (k : Fin 1024) : EReal :=
  Finish.gated (fun (h : Fin 8) (i : Fin 128) => O (ix2 r ⟨128 * (h : ℕ) + i, by omega⟩)) (fun k => Z (ix2 r k)) (fun i => g (ix1 i)) (Ideal.ofBits FTy.f32 0x3F24FD5C#32) rfl k

/-- What the result array holds, from the arguments. -/
def PA (O : S16384x1024.Idx → EReal) (Z : S16384x1024.Idx → EReal) (X : S16384x1024.Idx → EReal) (g : S128.Idx → EReal) (w : S1024x1024.Idx → EReal) (i : S16384x1024.Idx) : EReal :=
  X (ix2 (i 0) (i 1)) + ∑ k : Fin 1024, GA O Z g (i 0) k * w (ix2 k (i 1))

/-- One place of a point's output block is the array's place it is written to. -/
theorem block_row (r : Fin 256) (n : Fin 1024) (ht : (t : ℕ) < 64) :
    PB (iblk m c 0 t) (iblk m c 1 t) (iblk m c 2 t) (iblk m c 3 t) (iblk m c 4 t) (ix2 r n) = PA (m ((c : Thread nD τ).loc main_arg0)) (m ((c : Thread nD τ).loc main_arg1)) (m ((c : Thread nD τ).loc main_arg2)) (m ((c : Thread nD τ).loc main_arg3)) (m ((c : Thread nD τ).loc main_arg4)) (ix2 (n0 := 16384) (n1 := 1024) ⟨256 * (t : ℕ) + r, by omega⟩ n) := by
  simp only [PB, gblk, ix2_0, ix2_1, blk0, blk1, blk2, blk3, blk4]
  rfl

/-- The result array after the run. -/
theorem arr_eq : (dats m 0 c).arrAt 5 cfg0.N = PA (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  obtain ⟨r, n, rfl⟩ : ∃ (r : Fin 256) (n : Fin 1024), y = ix2 r n := ⟨y 0, y 1, eq_ix2 _⟩
  have ht : (t : ℕ) < 64 := lt_of_lt_of_eq t.isLt (by decide)
  have e : ((cfg0.win 5).blk t).view.emb (ix2 r n) = ix2 (n0 := 16384) (n1 := 1024) ⟨256 * (t : ℕ) + r, by omega⟩ n := by
    blk_ext [index5 t]
  have ex : (cfg0.win 5).xinj (cfg0.grid.coords t) (ix2 r n) = ix2 (n0 := 256) (n1 := 1024) r n := rfl
  rw [e, after0_5, out_eq, ex, ← block_row m c t r n ht]
  exact cast_eq _ _

end Cert.Kernel8Ideal.Block

namespace Cert.Reference8Ideal.Rows

open Cert.Reference8Ideal Cert.Reference8Ideal.Read Idealize.ShloMosaic

/-! What the reference computes, row by row. -/

variable (x0 : (⟨S16384x1024, .f32⟩ : BufTy).Contents (Elt Ideal)) (x1 : (⟨S16384x1024, .f32⟩ : BufTy).Contents (Elt Ideal)) (x2 : (⟨S16384x1024, .f32⟩ : BufTy).Contents (Elt Ideal))
  (x3 : (⟨S128, .f32⟩ : BufTy).Contents (Elt Ideal)) (x4 : (⟨S1024x1024, .f32⟩ : BufTy).Contents (Elt Ideal))

/-- The heads, row by row. -/
theorem base (b : Fin 4) (t : Fin 4096) (h : Fin 8) (j : Fin 128) :
    val_main_v0 (F := Ideal) x0 (ix4 b t h j) = x0 (ix2 ⟨4096 * (b : ℕ) + t, by omega⟩ ⟨128 * (h : ℕ) + j, by omega⟩) := by
  rw [val_main_v0_apply]
  refine congrArg x0 ?_
  funext a
  refine Fin.ext ?_
  match a with
  | ⟨0, _⟩ => show ((((b : ℕ) * 4096 + (t : ℕ)) * 8 + (h : ℕ)) * 128 + (j : ℕ)) / 1024 = 4096 * (b : ℕ) + (t : ℕ); omega
  | ⟨1, _⟩ => show ((((b : ℕ) * 4096 + (t : ℕ)) * 8 + (h : ℕ)) * 128 + (j : ℕ)) % 1024 = 128 * (h : ℕ) + (j : ℕ); omega

/-- The normed heads. -/
theorem norm_row (b : Fin 4) (t : Fin 4096) (h : Fin 8) (j : Fin 128) :
    val_main_v14 (F := Ideal) x0 x3 (ix4 b t h j) = Finish.norm (fun i => x0 (ix2 ⟨4096 * (b : ℕ) + t, by omega⟩ ⟨128 * (h : ℕ) + i, by omega⟩)) (fun i => x3 (ix1 i)) j := by
  simp only [val_main_v14_apply, val_main_v13_apply, val_main_v12_apply, val_main_v11_apply, val_main_v10_apply, val_main_v9_apply, val_main_v8_apply, val_main_v7_apply, val_main_v6_apply, val_main_v5_apply, val_main_v4_apply, val_main_v3_apply, val_main_v2_apply, val_main_cst_apply, val_main_cst_0_apply, val_main_cst_1_apply]
  have e0 : ∀ i : Fin 128, idx_main_v3 (idx_main_v4 (idx_main_v10 (ix4 b t h j))) i = ix4 b t h i := fun i => eq_ix4 _
  have eg : x3 (idx_main_v12 (idx_main_v13 (ix4 b t h j))) = x3 (ix1 j) := congrArg x3 (eq_ix1 _)
  simp only [e0, eg, base]
  pointwise
  rfl

/-- The gate. -/
theorem gate_row (b : Fin 4) (t : Fin 4096) (k : Fin 1024) :
    val_main_v18 (F := Ideal) x1 (ix3 b t k) = Gmlp.silu (x1 (ix2 ⟨4096 * (b : ℕ) + t, by omega⟩ k)) := by
  have ez : val_main_v1 (F := Ideal) x1 (ix3 b t k) = x1 (ix2 ⟨4096 * (b : ℕ) + t, by omega⟩ k) := by
    rw [val_main_v1_apply]
    refine congrArg x1 ?_
    funext a
    refine Fin.ext ?_
    match a with
    | ⟨0, _⟩ => show (((b : ℕ) * 4096 + (t : ℕ)) * 1024 + (k : ℕ)) / 1024 = 4096 * (b : ℕ) + (t : ℕ); omega
    | ⟨1, _⟩ => show (((b : ℕ) * 4096 + (t : ℕ)) * 1024 + (k : ℕ)) % 1024 = (k : ℕ); omega
  simp only [val_main_v18_apply, val_main_call0_v5_apply, val_main_call0_v4_apply, val_main_call0_v3_apply,
    val_main_call0_v2_apply, val_main_call0_v1_apply, val_main_call0_v0_apply, val_main_call0_cst_apply, val_main_call0_cst_0_apply, ez]
  generalize x1 _ = p
  pointwise
  rw [Gmlp.silu, zero_sub]

/-- The gated heads. -/
theorem gated_row (b : Fin 4) (t : Fin 4096) (k : Fin 1024) :
    val_main_v19 (F := Ideal) x0 x1 x3 (ix3 b t k) = Cert.Kernel8Ideal.Block.GA x0 x1 x3 ⟨4096 * (b : ℕ) + t, by omega⟩ k := by
  have e : idx_main_v17 (ix3 b t k) = ix4 (n0 := 4) (n1 := 4096) (n2 := 8) (n3 := 128) b t ⟨(k : ℕ) / 128, by omega⟩ ⟨(k : ℕ) % 128, by omega⟩ := by
    funext a
    refine Fin.ext ?_
    match a with
    | ⟨0, _⟩ => show (((b : ℕ) * 4096 + (t : ℕ)) * 1024 + (k : ℕ)) / 4194304 = (b : ℕ); omega
    | ⟨1, _⟩ => show (((b : ℕ) * 4096 + (t : ℕ)) * 1024 + (k : ℕ)) / 1024 % 4096 = (t : ℕ); omega
    | ⟨2, _⟩ => show (((b : ℕ) * 4096 + (t : ℕ)) * 1024 + (k : ℕ)) / 128 % 8 = (k : ℕ) / 128; omega
    | ⟨3, _⟩ => show (((b : ℕ) * 4096 + (t : ℕ)) * 1024 + (k : ℕ)) % 128 = (k : ℕ) % 128; omega
  rw [val_main_v19_apply, val_main_v17_apply, e, val_main_v16_apply, val_main_v15_apply, val_main_cst_2_apply, norm_row, gate_row]
  rfl

/-- The reference's result is what the kernel's result array holds. -/
theorem ref_eq : val_main_v22 (F := Ideal) x0 x1 x2 x3 x4 = Cert.Kernel8Ideal.Block.PA x0 x1 x2 x3 x4 := by
  funext i
  obtain ⟨r, n, rfl⟩ : ∃ (r : Fin 16384) (n : Fin 1024), i = ix2 r n := ⟨i 0, i 1, eq_ix2 _⟩
  have e : idx_main_v21 (ix2 r n) = ix3 (n0 := 4) (n1 := 4096) (n2 := 1024) ⟨(r : ℕ) / 4096, by omega⟩ ⟨(r : ℕ) % 4096, by omega⟩ n := by
    funext a
    refine Fin.ext ?_
    match a with
    | ⟨0, _⟩ => show ((r : ℕ) * 1024 + (n : ℕ)) / 4194304 = (r : ℕ) / 4096; omega
    | ⟨1, _⟩ => show ((r : ℕ) * 1024 + (n : ℕ)) / 1024 % 4096 = (r : ℕ) % 4096; omega
    | ⟨2, _⟩ => show ((r : ℕ) * 1024 + (n : ℕ)) % 1024 = (n : ℕ); omega
  rw [val_main_v22_apply, val_main_v21_apply, e, val_main_v20_apply]
  refine congrArg (x2 (ix2 r n) + ·) (Finset.sum_congr rfl fun k _ => congrArg₂ (· * ·) ?_ (congrArg x4 (eq_ix2 _)))
  refine (congrArg (val_main_v19 (F := Ideal) x0 x1 x3) (eq_ix3 _)).trans ((gated_row x0 x1 x3 _ _ k).trans ?_)
  refine congrArg (fun q => Cert.Kernel8Ideal.Block.GA x0 x1 x3 q k) (Fin.ext ?_)
  show 4096 * ((r : ℕ) / 4096) + (r : ℕ) % 4096 = (r : ℕ)
  omega

end Cert.Reference8Ideal.Rows

end
-- ==== Proof.SampleBlock.lean ====
module

public import proofs.«01_k».proof.Proof.Layer
public import proofs.«01_k».proof.Proof.Gen.Kernel9Ideal.Value
public import Idealize.ShloMosaic.Lib.Pipeline.ValueKit
public import Idealize.ShloMosaic.Lib.Pipeline.ReadBack

@[expose] public section

set_option maxRecDepth 16384

noncomputable section

namespace Gmlp

/-- A row of the samples' chunk may look at itself and at the rows before it in its segment of eight rows. -/
def recent (t s : Fin 128) : Bool := decide (s ≤ t ∧ (t : ℕ) / 8 * 8 ≤ s)

open Idealize.ShloMosaic in
/-- The kernel's mask word at row `t`, column `s` of a chunk picks exactly those entries. -/
theorem recent_word (t s : Fin 128) : IntOp.andi (IntOp.cmpi CmpIPredicate.sle (BitVec.ofNat 32 (s : ℕ)) (BitVec.ofNat 32 (t : ℕ)))
      (IntOp.cmpi CmpIPredicate.sge (BitVec.ofNat 32 (s : ℕ))
        (IntOp.muli (IntOp.shrui ArithUnit.vector (BitVec.ofNat 32 (t : ℕ)) 3#32) 8#32)) = if recent t s then 1#1 else 0#1 := by
  revert t s; decide +kernel

open Idealize.ShloMosaic in
/-- A choice by that word is a choice by the test. -/
theorem select_recent (t s : Fin 128) (a b : EReal) :
    Scalar.select (IntOp.andi (IntOp.cmpi CmpIPredicate.sle (BitVec.ofNat 32 (s : ℕ)) (BitVec.ofNat 32 (t : ℕ)))
      (IntOp.cmpi CmpIPredicate.sge (BitVec.ofNat 32 (s : ℕ))
        (IntOp.muli (IntOp.shrui ArithUnit.vector (BitVec.ofNat 32 (t : ℕ)) 3#32) 8#32))) a b = if recent t s then a else b := by
  rw [recent_word]; cases recent t s <;> rfl

end Gmlp

namespace Cert.Kernel9Ideal.Block

open Cert.Kernel9Ideal Cert.Kernel9Ideal.Gen Idealize.ShloMosaic Idealize.ShloMosaic.TcCoe Idealize.SL.Sem

/-! What one block of 256 rows computes, as functions of the block's inputs. -/

/-- Row `r` of the block of rows. -/
abbrev rowB (x0 : Vec Ideal S256x1024 .f32) (r : Fin 256) : Fin 1024 → EReal := fun k => x0 (ix2 r k)
/-- The gain of the norm, as a row. -/
abbrev gainB (x1 : Vec Ideal S1x1024 .f32) : Fin 1024 → EReal := fun k => x1 (ix2 0 k)
/-- The input weights. -/
abbrev winB (x2 : Vec Ideal S1024x6144 .bf16) : Fin 1024 → Fin 6144 → EReal := fun k j => x2 (ix2 k j)
/-- The gain of the value norm, as a row. -/
abbrev vgB (x3 : Vec Ideal S1x2048 .f32) : Fin 2048 → EReal := fun j => x3 (ix2 0 j)

/-- The first gate over the block. -/
def UB (x0 : Vec Ideal S256x1024 .f32) (x1 : Vec Ideal S1x1024 .f32) (x2 : Vec Ideal S1024x6144 .bf16) : S256x2048.Idx → Elt Ideal .f32 :=
  fun y => Gmlp.urow (rowB x0 (y 0)) (gainB x1) (winB x2) (y 1)
/-- The values over the block. -/
def VB (x0 : Vec Ideal S256x1024 .f32) (x1 : Vec Ideal S1x1024 .f32) (x2 : Vec Ideal S1024x6144 .bf16) : S256x2048.Idx → Elt Ideal .f32 :=
  fun y => Gmlp.vrow (rowB x0 (y 0)) (gainB x1) (winB x2) (y 1)
/-- The second gate over the block. -/
def ZB (x0 : Vec Ideal S256x1024 .f32) (x1 : Vec Ideal S1x1024 .f32) (x2 : Vec Ideal S1024x6144 .bf16) : S256x2048.Idx → Elt Ideal .f32 :=
  fun y => Gmlp.zrow (rowB x0 (y 0)) (gainB x1) (winB x2) (y 1)
/-- The normed values over the block. -/
def VNB (x0 : Vec Ideal S256x1024 .f32) (x1 : Vec Ideal S1x1024 .f32) (x2 : Vec Ideal S1024x6144 .bf16) (x3 : Vec Ideal S1x2048 .f32) :
    S256x2048.Idx → Elt Ideal .f32 :=
  fun y => Gmlp.vnrow (rowB x0 (y 0)) (gainB x1) (winB x2) (vgB x3) (y 1)
/-- The mixed rows over the block: row `r` is row `r % 128` of chunk `r / 128`. -/
def GB (x0 : Vec Ideal S256x1024 .f32) (x1 : Vec Ideal S1x1024 .f32) (x2 : Vec Ideal S1024x6144 .bf16) (x3 : Vec Ideal S1x2048 .f32)
    (x4 x5 : Vec Ideal S16x128x128 .f32) : S256x2048.Idx → Elt Ideal .bf16 :=
  fun y => Gmlp.grow Gmlp.recent (fun s => rowB x0 ⟨128 * ((y 0 : ℕ) / 128) + s, by have := (y 0).isLt; change (y 0 : ℕ) < 256 at this; omega⟩) (gainB x1) (winB x2) (vgB x3)
    (fun g t s => x4 (ix3 g t s)) (fun g t d => x5 (ix3 g t d)) ⟨(y 0 : ℕ) % 128, by omega⟩ (y 1)

/-- A stored slab of 512 columns whose entries are those of a whole-block function is that function at the slab's places. -/
theorem slab_of (G : S256x2048.Idx → Elt Ideal .f32) (p : FVec Ideal S256x512 .f32) (o : ℕ) (inb : ∀ a, (![0, o] : Fin 2 → ℕ) a + S256x512.size a ≤ S256x2048.size a)
    (ho : o ≤ 1536)
    (hp : ∀ (r : Fin 256) (j : Fin 512), p (ix2 r j) = G (ix2 r ⟨o + j, by omega⟩))
    (x : (Rect.unit (s := S256x2048) ![0, o] S256x512.size inb).shape.Idx) : p x = G ((Rect.unit (s := S256x2048) ![0, o] S256x512.size inb).emb x) := by
  have hx : x = ix2 (n0 := 256) (n1 := 512) (x 0) (x 1) := eq_ix2 _
  rw [hx]
  refine (hp (x 0) (x 1)).trans (congrArg G ?_)
  funext a
  match a with
  | ⟨0, _⟩ => exact Fin.ext (show ((x 0 : Fin 256) : ℕ) = 0 + 1 * ((x 0 : Fin 256) : ℕ) by omega)
  | ⟨1, _⟩ => exact Fin.ext (show o + ((x 1 : Fin 512) : ℕ) = o + 1 * ((x 1 : Fin 512) : ℕ) by omega)

variable (c : Dev nD) (arg1 : Memref sig .tc .vmem S256x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S16x128x128 .f32) (harg6 : arg6.IsWhole)
  (arg10 arg11 arg12 : Memref sig .tc .vmem S256x2048 .f32)
  (x0 : Vec Ideal S256x1024 .f32) (x1 : Vec Ideal S1x1024 .f32) (x2 : Vec Ideal S1024x6144 .bf16) (x3 : Vec Ideal S1x2048 .f32) (x4 x5 : Vec Ideal S16x128x128 .f32)

/-- The normed rows. -/
theorem norm_word : kernelRun0_A.sl.r_1 (F := Ideal) c arg1 harg1 arg2 harg2 x0 x1 = fun i => Gmlp.hrow (rowB x0 (i 0)) (gainB x1) (i 1) := by
  funext i
  simp only [kernelRun0_A.sl.r_1, View.readAt_eq_ld, Memref.IsWhole.read_unread]
  unfold_payloads
  idx_vars i
  pointwise
  rfl

/-- The first scratch holds the first gate. -/
theorem HS0_4_eq : View.canon (kernelRun0_A.sl.HS0_4 (F := Ideal) c arg1 harg1 arg2 harg2 arg3 harg3 x0 x1 x2) = UB x0 x1 x2 := by
  have hc := View.cover_of_tiledL (kernelRun0_A.sl.HS0_4 (F := Ideal) c arg1 harg1 arg2 harg2 arg3 harg3 x0 x1 x2) ![256, 512] (by unfold kernelRun0_A.sl.HS0_4; rfl)
  funext y
  refine View.canon_apply_of_pieces _ _ (View.PiecesOf.mem ?_) y (hc y)
  unfold kernelRun0_A.sl.HS0_4
  refine ⟨slab_of _ _ 1536 inb_S256x2048_S256x512_0_1536 (by omega) fun r j => ?_, slab_of _ _ 1024 inb_S256x2048_S256x512_0_1024 (by omega) fun r j => ?_, slab_of _ _ 512 inb_S256x2048_S256x512_0_512 (by omega) fun r j => ?_,
    slab_of _ _ 0 inb_S256x2048_S256x512_0_0 (by omega) fun r j => ?_, trivial⟩
  all_goals
    simp only [kernelRun0_A.sl.r_10, kernelRun0_A.sl.r_11, kernelRun0_A.sl.r_12, kernelRun0_A.sl.r_13, kernelRun0_A.sl.r_14, kernelRun0_A.sl.r_15, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.cst_33, kernelRun0_A.sl.cst_66, norm_word, View.readAt_eq_ld, Memref.IsWhole.read_unread]
    unfold_payloads
    pointwise
    simp only [UB, Gmlp.urow, Gmlp.prow, Gmlp.gelu, Gmlp.silu, Gmlp.hrow]
    try simp only [ix2_0, ix2_1, ← Nat.add_assoc, Nat.reduceAdd]
    try rfl

/-- The second scratch holds the values. -/
theorem HS1_4_eq : View.canon (kernelRun0_A.sl.HS1_4 (F := Ideal) c arg1 harg1 arg2 harg2 arg3 harg3 x0 x1 x2) = VB x0 x1 x2 := by
  have hc := View.cover_of_tiledL (kernelRun0_A.sl.HS1_4 (F := Ideal) c arg1 harg1 arg2 harg2 arg3 harg3 x0 x1 x2) ![256, 512] (by unfold kernelRun0_A.sl.HS1_4; rfl)
  funext y
  refine View.canon_apply_of_pieces _ _ (View.PiecesOf.mem ?_) y (hc y)
  unfold kernelRun0_A.sl.HS1_4
  refine ⟨slab_of _ _ 1536 inb_S256x2048_S256x512_0_1536 (by omega) fun r j => ?_, slab_of _ _ 1024 inb_S256x2048_S256x512_0_1024 (by omega) fun r j => ?_, slab_of _ _ 512 inb_S256x2048_S256x512_0_512 (by omega) fun r j => ?_,
    slab_of _ _ 0 inb_S256x2048_S256x512_0_0 (by omega) fun r j => ?_, trivial⟩
  all_goals
    simp only [kernelRun0_A.sl.r_10, kernelRun0_A.sl.r_11, kernelRun0_A.sl.r_12, kernelRun0_A.sl.r_13, kernelRun0_A.sl.r_14, kernelRun0_A.sl.r_15, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.cst_33, kernelRun0_A.sl.cst_66, norm_word, View.readAt_eq_ld, Memref.IsWhole.read_unread]
    unfold_payloads
    pointwise
    simp only [VB, Gmlp.vrow, Gmlp.prow, Gmlp.gelu, Gmlp.silu, Gmlp.hrow]
    try simp only [ix2_0, ix2_1, ← Nat.add_assoc, Nat.reduceAdd]
    try rfl

/-- The third scratch holds the second gate. -/
theorem HS2_4_eq : View.canon (kernelRun0_A.sl.HS2_4 (F := Ideal) c arg1 harg1 arg2 harg2 arg3 harg3 x0 x1 x2) = ZB x0 x1 x2 := by
  have hc := View.cover_of_tiledL (kernelRun0_A.sl.HS2_4 (F := Ideal) c arg1 harg1 arg2 harg2 arg3 harg3 x0 x1 x2) ![256, 512] (by unfold kernelRun0_A.sl.HS2_4; rfl)
  funext y
  refine View.canon_apply_of_pieces _ _ (View.PiecesOf.mem ?_) y (hc y)
  unfold kernelRun0_A.sl.HS2_4
  refine ⟨slab_of _ _ 1536 inb_S256x2048_S256x512_0_1536 (by omega) fun r j => ?_, slab_of _ _ 1024 inb_S256x2048_S256x512_0_1024 (by omega) fun r j => ?_, slab_of _ _ 512 inb_S256x2048_S256x512_0_512 (by omega) fun r j => ?_,
    slab_of _ _ 0 inb_S256x2048_S256x512_0_0 (by omega) fun r j => ?_, trivial⟩
  all_goals
    simp only [kernelRun0_A.sl.r_10, kernelRun0_A.sl.r_11, kernelRun0_A.sl.r_12, kernelRun0_A.sl.r_13, kernelRun0_A.sl.r_14, kernelRun0_A.sl.r_15, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.cst_33, kernelRun0_A.sl.cst_66, norm_word, View.readAt_eq_ld, Memref.IsWhole.read_unread]
    unfold_payloads
    pointwise
    simp only [ZB, Gmlp.zrow, Gmlp.prow, Gmlp.gelu, Gmlp.silu, Gmlp.hrow]
    try simp only [ix2_0, ix2_1, ← Nat.add_assoc, Nat.reduceAdd]
    try rfl

/-- The sum of squares that the kernel accumulates slab by slab is the whole row's. -/
theorem ssq_word : kernelRun0_A.sl.r_13 (F := Ideal) c arg1 harg1 arg2 harg2 arg3 harg3 x0 x1 x2 = fun i => Gmlp.ssq (rowB x0 (i 0)) (gainB x1) (winB x2) := by
  funext i
  simp only [kernelRun0_A.sl.r_10, kernelRun0_A.sl.r_11, kernelRun0_A.sl.r_12, kernelRun0_A.sl.r_13, kernelRun0_A.sl.r_14, kernelRun0_A.sl.r_15, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.cst_33, kernelRun0_A.sl.cst_66, norm_word, View.readAt_eq_ld, Memref.IsWhole.read_unread]
  unfold_payloads
  idx_vars i
  pointwise
  refine Eq.trans ?_ (Gmlp.sum_quarters _)
  simp only [Gmlp.vrow, Gmlp.prow, Gmlp.gelu, Gmlp.hrow, ← Nat.add_assoc, Nat.reduceAdd]
  try rfl

/-- After the norm the second scratch holds the normed values. -/
theorem HS1_5_eq : View.canon (kernelRun0_A.sl.HS1_5 (F := Ideal) c arg1 harg1 arg2 harg2 arg3 harg3 arg4 harg4 arg11 x0 x1 x2 x3) = VNB x0 x1 x2 x3 := by
  unfold kernelRun0_A.sl.HS1_5 kernelRun0_A.sl.v242
  rw [View.canon_cons_unit_lit _ _ _ (by decide), View.readCov_eq_canon', HS1_4_eq, ssq_word]
  funext y
  simp only [View.readAt_eq_ld, Memref.IsWhole.read_unread]
  unfold_payloads
  idx_vars y
  pointwise
  rfl

/-- A stored tile of 128 × 128 entries, given entry by entry over the whole-block gates and normed values, is the mixed block at the tile's
    places: rows of chunk `rr`, columns of group `g`. -/
theorem tile_of (x0 : Vec Ideal S256x1024 .f32) (x1 : Vec Ideal S1x1024 .f32) (x2 : Vec Ideal S1024x6144 .bf16) (x3 : Vec Ideal S1x2048 .f32)
    (x4 x5 : Vec Ideal S16x128x128 .f32) (p : FVec Ideal S128x128 .bf16) (o q : ℕ)
    (inb : ∀ a, (![o, q] : Fin 2 → ℕ) a + S128x128.size a ≤ S256x2048.size a) (rr g : ℕ) (hr : o = 128 * rr) (hg : q = 128 * g) (hr2 : rr < 2) (hg16 : g < 16)
    (hp : ∀ t d : Fin 128, p (ix2 t d) = UB x0 x1 x2 (ix2 ⟨o + t, by omega⟩ ⟨q + d, by omega⟩) *
      ((∑ s : Fin 128, if Gmlp.recent t s then x4 (ix3 ⟨g, hg16⟩ t s) * VNB x0 x1 x2 x3 (ix2 ⟨o + s, by omega⟩ ⟨q + d, by omega⟩) else 0)
        + x5 (ix3 ⟨g, hg16⟩ t d)) * ZB x0 x1 x2 (ix2 ⟨o + t, by omega⟩ ⟨q + d, by omega⟩))
    (x : (Rect.unit (s := S256x2048) ![o, q] S128x128.size inb).shape.Idx) :
    p x = GB x0 x1 x2 x3 x4 x5 ((Rect.unit (s := S256x2048) ![o, q] S128x128.size inb).emb x) := by
  have key : ∀ t d : Fin 128, p (ix2 t d) = GB x0 x1 x2 x3 x4 x5 (ix2 ⟨o + t, by omega⟩ ⟨q + d, by omega⟩) := fun t d => by
    have e1 : (o + (t : ℕ)) % 128 = t := by omega
    have e2 : 128 * ((o + (t : ℕ)) / 128) = o := by omega
    have e3 : (q + (d : ℕ)) / 128 = g := by omega
    have e4 : (q + (d : ℕ)) % 128 = d := by omega
    rw [hp]
    simp only [GB, Gmlp.grow, UB, VNB, ZB, ix2_0, ix2_1, e1, e2, e3, e4, Fin.eta]
  have hx : x = ix2 (n0 := 128) (n1 := 128) (x 0) (x 1) := eq_ix2 _
  refine (congrArg p hx).trans ((key (x 0) (x 1)).trans (congrArg (GB x0 x1 x2 x3 x4 x5) ?_))
  funext a
  match a with
  | ⟨0, _⟩ => exact Fin.ext (show o + ((x 0 : Fin 128) : ℕ) = o + 1 * ((x 0 : Fin 128) : ℕ) by omega)
  | ⟨1, _⟩ => exact Fin.ext (show q + ((x 1 : Fin 128) : ℕ) = q + 1 * ((x 1 : Fin 128) : ℕ) by omega)

/-- The last scratch holds the mixed rows. -/
theorem HS3_32_eq : View.canon (kernelRun0_A.sl.HS3_32 (F := Ideal) c arg1 harg1 arg2 harg2 arg3 harg3 arg4 harg4 arg5 harg5 arg6 harg6 arg10 arg11 arg12 x0 x1 x2 x3 x4 x5) = GB x0 x1 x2 x3 x4 x5 := by
  have hc := View.cover_of_tiledL (kernelRun0_A.sl.HS3_32 (F := Ideal) c arg1 harg1 arg2 harg2 arg3 harg3 arg4 harg4 arg5 harg5 arg6 harg6 arg10 arg11 arg12 x0 x1 x2 x3 x4 x5) ![128, 128] (by unfold kernelRun0_A.sl.HS3_32; rfl)
  funext y
  refine View.canon_apply_of_pieces _ _ (View.PiecesOf.mem ?_) y (hc y)
  unfold kernelRun0_A.sl.HS3_32
  refine ⟨tile_of x0 x1 x2 x3 x4 x5 _ 128 1920 inb_S256x2048_S128x128_128_1920 1 15 rfl rfl (by omega) (by omega) fun t d => ?_,
    tile_of x0 x1 x2 x3 x4 x5 _ 0 1920 inb_S256x2048_S128x128_0_1920 0 15 rfl rfl (by omega) (by omega) fun t d => ?_,
    tile_of x0 x1 x2 x3 x4 x5 _ 128 1792 inb_S256x2048_S128x128_128_1792 1 14 rfl rfl (by omega) (by omega) fun t d => ?_,
    tile_of x0 x1 x2 x3 x4 x5 _ 0 1792 inb_S256x2048_S128x128_0_1792 0 14 rfl rfl (by omega) (by omega) fun t d => ?_,
    tile_of x0 x1 x2 x3 x4 x5 _ 128 1664 inb_S256x2048_S128x128_128_1664 1 13 rfl rfl (by omega) (by omega) fun t d => ?_,
    tile_of x0 x1 x2 x3 x4 x5 _ 0 1664 inb_S256x2048_S128x128_0_1664 0 13 rfl rfl (by omega) (by omega) fun t d => ?_,
    tile_of x0 x1 x2 x3 x4 x5 _ 128 1536 inb_S256x2048_S128x128_128_1536 1 12 rfl rfl (by omega) (by omega) fun t d => ?_,
    tile_of x0 x1 x2 x3 x4 x5 _ 0 1536 inb_S256x2048_S128x128_0_1536 0 12 rfl rfl (by omega) (by omega) fun t d => ?_,
    tile_of x0 x1 x2 x3 x4 x5 _ 128 1408 inb_S256x2048_S128x128_128_1408 1 11 rfl rfl (by omega) (by omega) fun t d => ?_,
    tile_of x0 x1 x2 x3 x4 x5 _ 0 1408 inb_S256x2048_S128x128_0_1408 0 11 rfl rfl (by omega) (by omega) fun t d => ?_,
    tile_of x0 x1 x2 x3 x4 x5 _ 128 1280 inb_S256x2048_S128x128_128_1280 1 10 rfl rfl (by omega) (by omega) fun t d => ?_,
    tile_of x0 x1 x2 x3 x4 x5 _ 0 1280 inb_S256x2048_S128x128_0_1280 0 10 rfl rfl (by omega) (by omega) fun t d => ?_,
    tile_of x0 x1 x2 x3 x4 x5 _ 128 1152 inb_S256x2048_S128x128_128_1152 1 9 rfl rfl (by omega) (by omega) fun t d => ?_,
    tile_of x0 x1 x2 x3 x4 x5 _ 0 1152 inb_S256x2048_S128x128_0_1152 0 9 rfl rfl (by omega) (by omega) fun t d => ?_,
    tile_of x0 x1 x2 x3 x4 x5 _ 128 1024 inb_S256x2048_S128x128_128_1024 1 8 rfl rfl (by omega) (by omega) fun t d => ?_,
    tile_of x0 x1 x2 x3 x4 x5 _ 0 1024 inb_S256x2048_S128x128_0_1024 0 8 rfl rfl (by omega) (by omega) fun t d => ?_,
    tile_of x0 x1 x2 x3 x4 x5 _ 128 896 inb_S256x2048_S128x128_128_896 1 7 rfl rfl (by omega) (by omega) fun t d => ?_,
    tile_of x0 x1 x2 x3 x4 x5 _ 0 896 inb_S256x2048_S128x128_0_896 0 7 rfl rfl (by omega) (by omega) fun t d => ?_,
    tile_of x0 x1 x2 x3 x4 x5 _ 128 768 inb_S256x2048_S128x128_128_768 1 6 rfl rfl (by omega) (by omega) fun t d => ?_,
    tile_of x0 x1 x2 x3 x4 x5 _ 0 768 inb_S256x2048_S128x128_0_768 0 6 rfl rfl (by omega) (by omega) fun t d => ?_,
    tile_of x0 x1 x2 x3 x4 x5 _ 128 640 inb_S256x2048_S128x128_128_640 1 5 rfl rfl (by omega) (by omega) fun t d => ?_,
    tile_of x0 x1 x2 x3 x4 x5 _ 0 640 inb_S256x2048_S128x128_0_640 0 5 rfl rfl (by omega) (by omega) fun t d => ?_,
    tile_of x0 x1 x2 x3 x4 x5 _ 128 512 inb_S256x2048_S128x128_128_512 1 4 rfl rfl (by omega) (by omega) fun t d => ?_,
    tile_of x0 x1 x2 x3 x4 x5 _ 0 512 inb_S256x2048_S128x128_0_512 0 4 rfl rfl (by omega) (by omega) fun t d => ?_,
    tile_of x0 x1 x2 x3 x4 x5 _ 128 384 inb_S256x2048_S128x128_128_384 1 3 rfl rfl (by omega) (by omega) fun t d => ?_,
    tile_of x0 x1 x2 x3 x4 x5 _ 0 384 inb_S256x2048_S128x128_0_384 0 3 rfl rfl (by omega) (by omega) fun t d => ?_,
    tile_of x0 x1 x2 x3 x4 x5 _ 128 256 inb_S256x2048_S128x128_128_256 1 2 rfl rfl (by omega) (by omega) fun t d => ?_,
    tile_of x0 x1 x2 x3 x4 x5 _ 0 256 inb_S256x2048_S128x128_0_256 0 2 rfl rfl (by omega) (by omega) fun t d => ?_,
    tile_of x0 x1 x2 x3 x4 x5 _ 128 128 inb_S256x2048_S128x128_128_128 1 1 rfl rfl (by omega) (by omega) fun t d => ?_,
    tile_of x0 x1 x2 x3 x4 x5 _ 0 128 inb_S256x2048_S128x128_0_128 0 1 rfl rfl (by omega) (by omega) fun t d => ?_,
    tile_of x0 x1 x2 x3 x4 x5 _ 128 0 inb_S256x2048_S128x128_128_0 1 0 rfl rfl (by omega) (by omega) fun t d => ?_,
    tile_of x0 x1 x2 x3 x4 x5 _ 0 0 inb_S256x2048_S128x128_0_0 0 0 rfl rfl (by omega) (by omega) fun t d => ?_, trivial⟩
  all_goals
    simp only [kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.v274, kernelRun0_A.sl.v278, kernelRun0_A.sl.v280, kernelRun0_A.sl.v286, kernelRun0_A.sl.v290, kernelRun0_A.sl.v292, kernelRun0_A.sl.v305, kernelRun0_A.sl.v309, kernelRun0_A.sl.v311, kernelRun0_A.sl.v317, kernelRun0_A.sl.v321, kernelRun0_A.sl.v323, kernelRun0_A.sl.v336, kernelRun0_A.sl.v340, kernelRun0_A.sl.v342, kernelRun0_A.sl.v348, kernelRun0_A.sl.v352, kernelRun0_A.sl.v354, kernelRun0_A.sl.v367, kernelRun0_A.sl.v371, kernelRun0_A.sl.v373, kernelRun0_A.sl.v379, kernelRun0_A.sl.v383, kernelRun0_A.sl.v385, kernelRun0_A.sl.v398, kernelRun0_A.sl.v402, kernelRun0_A.sl.v404, kernelRun0_A.sl.v410, kernelRun0_A.sl.v414, kernelRun0_A.sl.v416, kernelRun0_A.sl.v429, kernelRun0_A.sl.v433, kernelRun0_A.sl.v435, kernelRun0_A.sl.v441, kernelRun0_A.sl.v445, kernelRun0_A.sl.v447, kernelRun0_A.sl.v460, kernelRun0_A.sl.v464, kernelRun0_A.sl.v466, kernelRun0_A.sl.v472, kernelRun0_A.sl.v476, kernelRun0_A.sl.v478, kernelRun0_A.sl.v491, kernelRun0_A.sl.v495, kernelRun0_A.sl.v497, kernelRun0_A.sl.v503, kernelRun0_A.sl.v507, kernelRun0_A.sl.v509, kernelRun0_A.sl.v522, kernelRun0_A.sl.v526, kernelRun0_A.sl.v528, kernelRun0_A.sl.v534, kernelRun0_A.sl.v538, kernelRun0_A.sl.v540, kernelRun0_A.sl.v553, kernelRun0_A.sl.v557, kernelRun0_A.sl.v559, kernelRun0_A.sl.v565, kernelRun0_A.sl.v569, kernelRun0_A.sl.v571, kernelRun0_A.sl.v584, kernelRun0_A.sl.v588, kernelRun0_A.sl.v590, kernelRun0_A.sl.v596, kernelRun0_A.sl.v600, kernelRun0_A.sl.v602, kernelRun0_A.sl.v615, kernelRun0_A.sl.v619, kernelRun0_A.sl.v621, kernelRun0_A.sl.v627, kernelRun0_A.sl.v631, kernelRun0_A.sl.v633, kernelRun0_A.sl.v646, kernelRun0_A.sl.v650, kernelRun0_A.sl.v652, kernelRun0_A.sl.v658, kernelRun0_A.sl.v662, kernelRun0_A.sl.v664, kernelRun0_A.sl.v677, kernelRun0_A.sl.v681, kernelRun0_A.sl.v683, kernelRun0_A.sl.v689, kernelRun0_A.sl.v693, kernelRun0_A.sl.v695, kernelRun0_A.sl.v708, kernelRun0_A.sl.v712, kernelRun0_A.sl.v714, kernelRun0_A.sl.v720, kernelRun0_A.sl.v724, kernelRun0_A.sl.v726, kernelRun0_A.sl.v739, kernelRun0_A.sl.v743, kernelRun0_A.sl.v745, kernelRun0_A.sl.v751, kernelRun0_A.sl.v755, kernelRun0_A.sl.v757, View.readCov_eq_canon', HS0_4_eq, HS1_5_eq, HS2_4_eq, View.readAt_eq_ld, Memref.IsWhole.read_unread]
    unfold_payloads
    pointwise
    simp only [Gmlp.select_recent, Nat.zero_add, Fin.eta]
    try rfl

end Cert.Kernel9Ideal.Block

end
-- ==== Proof.SampleOut.lean ====
module

public import proofs.«01_k».proof.Proof.SampleBlock
public import proofs.«01_k».proof.Proof.Gen.Kernel9Ideal.Value
public import Idealize.ShloMosaic.Lib.Pipeline.ValueKit
public import Idealize.ShloMosaic.Lib.Pipeline.ReadBack

@[expose] public section

set_option maxRecDepth 16384

noncomputable section

namespace Cert.Kernel9Ideal.Block

open Cert.Kernel9Ideal Cert.Kernel9Ideal.Gen Idealize.ShloMosaic Idealize.ShloMosaic.TcCoe Idealize.SL.Sem

/-! What a grid point leaves in the output block. -/

/-- What the output block holds after a point, as a function of the point's input blocks: the rows plus the mixed rows
    against the output weights. -/
def YB (x0 : Vec Ideal S256x1024 .f32) (x1 : Vec Ideal S1x1024 .f32) (x2 : Vec Ideal S1024x6144 .bf16) (x3 : Vec Ideal S1x2048 .f32)
    (x4 x5 : Vec Ideal S16x128x128 .f32) (x6 : Vec Ideal S2048x1024 .bf16) : S256x1024.Idx → EReal :=
  fun y => Gmlp.yrow Gmlp.recent (fun s => rowB x0 ⟨128 * ((y 0 : ℕ) / 128) + s, by have := (y 0).isLt; change (y 0 : ℕ) < 256 at this; omega⟩) (gainB x1) (winB x2) (vgB x3)
    (fun g t s => x4 (ix3 g t s)) (fun g t d => x5 (ix3 g t d)) (fun j n => x6 (ix2 j n)) ⟨(y 0 : ℕ) % 128, by omega⟩ (y 1)

/-- `YB` through the mixed block. -/
theorem YB_apply (x0 : Vec Ideal S256x1024 .f32) (x1 : Vec Ideal S1x1024 .f32) (x2 : Vec Ideal S1024x6144 .bf16) (x3 : Vec Ideal S1x2048 .f32)
    (x4 x5 : Vec Ideal S16x128x128 .f32) (x6 : Vec Ideal S2048x1024 .bf16) (r : Fin 256) (n : Fin 1024) :
    x0 (ix2 r n) + ∑ j : Fin 2048, GB x0 x1 x2 x3 x4 x5 (ix2 r j) * x6 (ix2 j n) = YB x0 x1 x2 x3 x4 x5 x6 (ix2 r n) := by
  have e : 128 * ((r : ℕ) / 128) + (r : ℕ) % 128 = r := by omega
  simp only [YB, Gmlp.yrow, GB, ix2_0, ix2_1, e, Fin.eta]

/-- A run's first output block is `YB` of its input blocks. -/
theorem out_eq (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S16x128x128 .f32) (harg6 : arg6.IsWhole) (arg7 : Memref sig .tc .vmem S2048x1024 .bf16) (harg7 : arg7.IsWhole) (arg8 : Memref sig .tc .vmem S256x1024 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .bf16) (harg13 : arg13.IsWhole)
    (x0 : Vec Ideal S256x1024 .f32) (x1 : Vec Ideal S1x1024 .f32) (x2 : Vec Ideal S1024x6144 .bf16) (x3 : Vec Ideal S1x2048 .f32) (x4 : Vec Ideal S16x128x128 .f32) (x5 : Vec Ideal S16x128x128 .f32) (x6 : Vec Ideal S2048x1024 .bf16) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 = YB x0 x1 x2 x3 x4 x5 x6 := by
  unfold out0_A_7
  rw [View.read_writes_junk_eq_canon]
  unfold kernelRun0_A
  dsimp only
  rw [View.canon_cons_unit_lit _ _ _ (by decide)]
  simp only [kernelRun0_A.sl.r, kernelRun0_A.sl.v763, View.readCov_eq_canon', HS3_32_eq, View.readAt_eq_ld, Memref.IsWhole.read_unread]
  funext y
  rw [eq_ix2 (n0 := 256) (n1 := 1024) y]
  refine Eq.trans ?_ (YB_apply x0 x1 x2 x3 x4 x5 x6 (y 0) (y 1))
  unfold_payloads
  pointwise

/-- A run's second output block is the normed values. -/
theorem vout_eq (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S16x128x128 .f32) (harg6 : arg6.IsWhole) (arg7 : Memref sig .tc .vmem S2048x1024 .bf16) (harg7 : arg7.IsWhole) (arg8 : Memref sig .tc .vmem S256x1024 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .bf16) (harg13 : arg13.IsWhole)
    (x0 : Vec Ideal S256x1024 .f32) (x1 : Vec Ideal S1x1024 .f32) (x2 : Vec Ideal S1024x6144 .bf16) (x3 : Vec Ideal S1x2048 .f32) (x4 : Vec Ideal S16x128x128 .f32) (x5 : Vec Ideal S16x128x128 .f32) (x6 : Vec Ideal S2048x1024 .bf16) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 = VNB x0 x1 x2 x3 := by
  unfold out0_A_8
  rw [View.read_writes_junk_eq_canon]
  unfold kernelRun0_A
  dsimp only
  rw [View.canon_cons_unit_lit _ _ _ (by decide)]
  unfold kernelRun0_A.sl.v242
  rw [View.readCov_eq_canon', HS1_4_eq, ssq_word]
  funext y
  simp only [View.readAt_eq_ld, Memref.IsWhole.read_unread]
  unfold_payloads
  idx_vars y
  pointwise
  rfl

/-- The output blocks after a point are `YB` and the normed values of the point's input blocks. -/
theorem outs_eq (m : (ℓ : Loc nD τ sig) → Buf (Elt Ideal) ℓ) (c : Dev nD) (t : Fin cfg0.N) :
    outsAt0 m c t = (YB (iblk m c 0 t) (iblk m c 1 t) (iblk m c 2 t) (iblk m c 3 t) (iblk m c 4 t) (iblk m c 5 t) (iblk m c 6 t),
      VNB (iblk m c 0 t) (iblk m c 1 t) (iblk m c 2 t) (iblk m c 3 t)) := by
  rw [outsAt0, out_eq, vout_eq]

end Cert.Kernel9Ideal.Block

end
-- ==== Proof.SampleArr.lean ====
module

public import proofs.«01_k».proof.Proof.SampleOut

@[expose] public section

set_option maxRecDepth 16384

noncomputable section

namespace Cert.Kernel9Ideal.Block

open Cert.Kernel9Ideal Cert.Kernel9Ideal.Gen Idealize.ShloMosaic Idealize.ShloMosaic.TcCoe Idealize.SL.Sem

/-! The result array after the run, from the arguments. -/

variable (m : (ℓ : Loc nD τ sig) → Buf (Elt Ideal) ℓ) (c : Dev nD) (t : Fin cfg0.N)

/-- The block of window 0 at a point is the point's own block of rows. -/
theorem index0 : ∀ t : Fin cfg0.N, win0_0.index t = ![(t : ℕ), 0] := by decide +kernel
/-- The block of window 1 is the same at every point. -/
theorem index1 : ∀ t : Fin cfg0.N, win0_1.index t = ![0, 0] := by decide +kernel
/-- The block of window 2 is the same at every point. -/
theorem index2 : ∀ t : Fin cfg0.N, win0_2.index t = ![0, 0] := by decide +kernel
/-- The block of window 3 is the same at every point. -/
theorem index3 : ∀ t : Fin cfg0.N, win0_3.index t = ![0, 0] := by decide +kernel
/-- The block of window 4 is the same at every point. -/
theorem index4 : ∀ t : Fin cfg0.N, win0_4.index t = ![0, 0, 0] := by decide +kernel
/-- The block of window 5 is the same at every point. -/
theorem index5 : ∀ t : Fin cfg0.N, win0_5.index t = ![0, 0, 0] := by decide +kernel
/-- The block of window 6 is the same at every point. -/
theorem index6 : ∀ t : Fin cfg0.N, win0_6.index t = ![0, 0] := by decide +kernel
/-- The block of window 7 at a point is the point's own block of rows. -/
theorem index7 : ∀ t : Fin cfg0.N, win0_7.index t = ![(t : ℕ), 0] := by decide +kernel
/-- The block of window 8 at a point is the point's own block of rows. -/
theorem index8 : ∀ t : Fin cfg0.N, win0_8.index t = ![(t : ℕ), 0] := by decide +kernel

/-- The weights' block is the whole array. -/
theorem blk2 (k : Fin 1024) (j : Fin 6144) : iblk m c 2 t (ix2 k j) = m ((c : Thread nD τ).loc main_arg2) (ix2 k j) := by
  blk_ext! [iblk, V, index2 t]
/-- The output weights' block is the whole array. -/
theorem blk6 (j : Fin 2048) (n : Fin 1024) : iblk m c 6 t (ix2 j n) = m ((c : Thread nD τ).loc main_arg6) (ix2 j n) := by
  blk_ext! [iblk, V, index6 t]
/-- The gain's block is the gain, as a row. -/
theorem blk1 (k : Fin 1024) : iblk m c 1 t (ix2 0 k) = m ((c : Thread nD τ).loc main_arg1) (ix1 k) := by
  blk_ext! [iblk, V, index1 t]
/-- The value gain's block is that gain, as a row. -/
theorem blk3 (k : Fin 2048) : iblk m c 3 t (ix2 0 k) = m ((c : Thread nD τ).loc main_arg3) (ix1 k) := by
  blk_ext! [iblk, V, index3 t]
/-- The spatial weights' block repeats the first 8 × 8 entries of each plane. -/
theorem blk4 (g : Fin 16) (r s : Fin 128) : iblk m c 4 t (ix3 g r s) = m ((c : Thread nD τ).loc main_arg4)
    (ix3 g ⟨(r : ℕ) % 8, by omega⟩ ⟨(s : ℕ) % 8, by omega⟩) := by
  blk_ext! [iblk, V, index4 t]
/-- The bias block repeats the first 8 biases, and each along its last axis. -/
theorem blk5 (g : Fin 16) (r s : Fin 128) : iblk m c 5 t (ix3 g r s) = m ((c : Thread nD τ).loc main_arg5) (ix2 g ⟨(r : ℕ) % 8, by omega⟩) := by
  blk_ext! [iblk, V, index5 t]
/-- Row `r` of a point's block of rows is row `256 t + r` of the flattened rows. -/
theorem blk0 (r : Fin 256) (k : Fin 1024) : iblk m c 0 t (ix2 r k) = m ((c : Thread nD τ).loc main_arg0)
    (ix3 ⟨(256 * (t : ℕ) + r) / 8, by have : (t : ℕ) < 4 := t.isLt; omega⟩ ⟨(256 * (t : ℕ) + r) % 8, by omega⟩ k) := by
  blk_ext! [iblk, V, index0 t]

/-- What the first result array holds, from the arguments: place `(i, n)` is row `i % 8` of sample `i / 8`, in its chunk of 16 samples. -/
def YA (X : S128x8x1024.Idx → EReal) (g : S1024.Idx → EReal) (w : S1024x6144.Idx → EReal) (vg : S2048.Idx → EReal) (W : S16x128x128.Idx → EReal)
    (B : S16x128.Idx → EReal) (wo : S2048x1024.Idx → EReal) (i : S1024x1024.Idx) : EReal :=
  Gmlp.yrow Gmlp.recent
    (fun s k => X (ix3 ⟨(128 * ((i 0 : ℕ) / 128) + s) / 8, by have : (i 0 : ℕ) < 1024 := (i 0).isLt; omega⟩ ⟨(128 * ((i 0 : ℕ) / 128) + s) % 8, by omega⟩ k))
    (fun k => g (ix1 k)) (fun k j => w (ix2 k j)) (fun j => vg (ix1 j))
    (fun g t s => W (ix3 g ⟨(t : ℕ) % 8, by omega⟩ ⟨(s : ℕ) % 8, by omega⟩)) (fun g t _ => B (ix2 g ⟨(t : ℕ) % 8, by omega⟩))
    (fun j n => wo (ix2 j n)) ⟨(i 0 : ℕ) % 128, by omega⟩ (i 1)

/-- What the second result array holds: the normed values of row `i % 8` of sample `i / 8`. -/
def VA (X : S128x8x1024.Idx → EReal) (g : S1024.Idx → EReal) (w : S1024x6144.Idx → EReal) (vg : S2048.Idx → EReal) (i : S1024x2048.Idx) : EReal :=
  Gmlp.vnrow (fun k => X (ix3 ⟨(i 0 : ℕ) / 8, by have : (i 0 : ℕ) < 1024 := (i 0).isLt; omega⟩ ⟨(i 0 : ℕ) % 8, by omega⟩ k))
    (fun k => g (ix1 k)) (fun k j => w (ix2 k j)) (fun j => vg (ix1 j)) (i 1)

/-- One place of a point's first output block is the array's place it is written to. -/
theorem block_row (r : Fin 256) (n : Fin 1024) (ht : (t : ℕ) < 4) :
    YB (iblk m c 0 t) (iblk m c 1 t) (iblk m c 2 t) (iblk m c 3 t) (iblk m c 4 t) (iblk m c 5 t) (iblk m c 6 t) (ix2 r n) =
      YA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 ⟨256 * (t : ℕ) + r, by omega⟩ n) := by
  have hX : (fun s : Fin 128 => rowB (iblk m c 0 t) ⟨128 * ((r : ℕ) / 128) + s, by omega⟩) = fun (s : Fin 128) (k : Fin 1024) => m ((c : Thread nD τ).loc main_arg0)
      (ix3 ⟨(128 * ((256 * (t : ℕ) + r) / 128) + s) / 8, by omega⟩ ⟨(128 * ((256 * (t : ℕ) + r) / 128) + s) % 8, by omega⟩ k) := by
    funext s k
    have e1 : 256 * (t : ℕ) + (128 * ((r : ℕ) / 128) + s) = 128 * ((256 * (t : ℕ) + r) / 128) + s := by omega
    exact (blk0 m c t _ k).trans (by simp only [e1])
  have hT : (⟨(r : ℕ) % 128, by omega⟩ : Fin 128) = ⟨(256 * (t : ℕ) + r) % 128, by omega⟩ := Fin.ext (by show (r : ℕ) % 128 = (256 * (t : ℕ) + r) % 128; omega)
  show Gmlp.yrow Gmlp.recent (fun s : Fin 128 => rowB (iblk m c 0 t) ⟨128 * ((r : ℕ) / 128) + s, by omega⟩) (fun k => iblk m c 1 t (ix2 0 k))
    (fun k j => iblk m c 2 t (ix2 k j)) (fun j => iblk m c 3 t (ix2 0 j)) (fun g t' s => iblk m c 4 t (ix3 g t' s))
    (fun g t' d => iblk m c 5 t (ix3 g t' d)) (fun j n => iblk m c 6 t (ix2 j n)) ⟨(r : ℕ) % 128, by omega⟩ n = _
  rw [hX, hT]
  simp only [blk1, blk2, blk3, blk4, blk5, blk6]
  rfl

/-- One place of a point's second output block is the array's place it is written to. -/
theorem block_vrow (r : Fin 256) (n : Fin 2048) (ht : (t : ℕ) < 4) :
    VNB (iblk m c 0 t) (iblk m c 1 t) (iblk m c 2 t) (iblk m c 3 t) (ix2 r n) =
      VA (m ((c : Thread nD τ).loc main_arg0)) (m ((c : Thread nD τ).loc main_arg1)) (m ((c : Thread nD τ).loc main_arg2)) (m ((c : Thread nD τ).loc main_arg3)) (ix2 ⟨256 * (t : ℕ) + r, by omega⟩ n) := by
  show Gmlp.vnrow (fun k => iblk m c 0 t (ix2 r k)) (fun k => iblk m c 1 t (ix2 0 k))
    (fun k j => iblk m c 2 t (ix2 k j)) (fun j => iblk m c 3 t (ix2 0 j)) n = _
  simp only [blk0, blk1, blk2, blk3]
  rfl

/-- The first result array after the run. -/
theorem arr_eq : (dats m 0 c).arrAt 7 cfg0.N = YA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  obtain ⟨r, n, rfl⟩ : ∃ (r : Fin 256) (n : Fin 1024), y = ix2 r n := ⟨y 0, y 1, eq_ix2 _⟩
  have ht : (t : ℕ) < 4 := lt_of_lt_of_eq t.isLt (by decide)
  have e : ((cfg0.win 7).blk t).view.emb (ix2 r n) = ix2 (n0 := 1024) (n1 := 1024) ⟨256 * (t : ℕ) + r, by omega⟩ n := by
    blk_ext [index7 t]
  have ex : (cfg0.win 7).xinj (cfg0.grid.coords t) (ix2 r n) = ix2 (n0 := 256) (n1 := 1024) r n := rfl
  rw [e, after0_7, outs_eq, ex, ← block_row m c t r n ht]
  exact cast_eq _ _

/-- The second result array after the run. -/
theorem varr_eq : (dats m 0 c).arrAt 8 cfg0.N = VA (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t hf y => ?_
  obtain ⟨r, n, rfl⟩ : ∃ (r : Fin 256) (n : Fin 2048), y = ix2 r n := ⟨y 0, y 1, eq_ix2 _⟩
  have ht : (t : ℕ) < 4 := lt_of_lt_of_eq t.isLt (by decide)
  have e : ((cfg0.win 8).blk t).view.emb (ix2 r n) = ix2 (n0 := 1024) (n1 := 2048) ⟨256 * (t : ℕ) + r, by omega⟩ n := by
    blk_ext [index8 t]
  have ex : (cfg0.win 8).xinj (cfg0.grid.coords t) (ix2 r n) = ix2 (n0 := 256) (n1 := 2048) r n := rfl
  rw [e, after0_8, outs_eq, ex, ← block_vrow m c t r n ht]
  exact cast_eq _ _

end Cert.Kernel9Ideal.Block

end
-- ==== Proof.SampleRef.lean ====
module

public import proofs.«01_k».proof.Proof.SampleArr
public import proofs.«01_k».proof.Proof.Gen.Reference9Ideal.Read
public import Idealize.ShloMosaic.Lib.Pipeline.ValueKit
public import Idealize.ShloMosaic.Lib.IdealHost

@[expose] public section

set_option maxRecDepth 16384

noncomputable section

namespace Cert.Reference9Ideal.Rows

open Cert.Reference9Ideal Cert.Reference9Ideal.Read Idealize.ShloMosaic

/-! What the reference computes, row by row, as the layer's functions. -/

variable (x0 : (⟨S128x8x1024, .f32⟩ : BufTy).Contents (Elt Ideal)) (x1 : (⟨S1024, .f32⟩ : BufTy).Contents (Elt Ideal))
  (x2 : (⟨S1024x6144, .f32⟩ : BufTy).Contents (Elt Ideal)) (x3 : (⟨S2048, .f32⟩ : BufTy).Contents (Elt Ideal))

/-- Row `t` of sample `b`. -/
abbrev rowR (b : Fin 128) (t : Fin 8) : Fin 1024 → EReal := fun k => x0 (ix3 b t k)
/-- The gain of the norm. -/
abbrev gainR : Fin 1024 → EReal := fun k => x1 (ix1 k)
/-- The input weights. -/
abbrev winR : Fin 1024 → Fin 6144 → EReal := fun k j => x2 (ix2 k j)
/-- The gain of the value norm. -/
abbrev vgR : Fin 2048 → EReal := fun j => x3 (ix1 j)

/-- The normed rows. -/
theorem norm_row (b : Fin 128) (t : Fin 8) (k : Fin 1024) :
    val_main_v12 (F := Ideal) x0 x1 (ix3 b t k) = Gmlp.hrow (rowR x0 b t) (gainR x1) k := by
  simp only [val_main_v12_apply, val_main_v9_apply, val_main_v8_apply, val_main_v7_apply, val_main_v6_apply, val_main_v5_apply, val_main_v4_apply,
    val_main_v3_apply, val_main_v2_apply, val_main_v1_apply, val_main_v0_apply, val_main_cst_apply, val_main_cst_0_apply, val_main_cst_1_apply,
    val_main_v10_apply, val_main_v11_apply]
  have ex : ∀ i, x0 (idx_main_v1 (idx_main_v2 (idx_main_v8 (ix3 b t k))) i) = x0 (ix3 b t i) := fun i => congrArg x0 (eq_ix3 _)
  have eg : x1 (idx_main_v10 (idx_main_v11 (ix3 b t k))) = x1 (ix1 k) := congrArg x1 (eq_ix1 _)
  simp only [ex, eg]
  pointwise
  rfl

/-- The projection of the normed rows. -/
theorem proj_row (b : Fin 128) (t : Fin 8) (j : Fin 6144) :
    val_main_v13 (F := Ideal) x0 x1 x2 (ix3 b t j) = Gmlp.prow (rowR x0 b t) (gainR x1) (winR x2) j := by
  rw [val_main_v13_apply]
  refine Finset.sum_congr rfl fun k _ => congrArg₂ (· * ·) ?_ ?_
  · exact (congrArg (val_main_v12 (F := Ideal) x0 x1) (eq_ix3 _)).trans (norm_row x0 x1 b t k)
  · exact congrArg x2 (eq_ix2 _)

/-- The first gate. -/
theorem u_row (b : Fin 128) (t : Fin 8) (j : Fin 2048) :
    val_main_v27 (F := Ideal) x0 x1 x2 (ix3 b t j) = Gmlp.urow (rowR x0 b t) (gainR x1) (winR x2) j := by
  have e : val_main_v14 (F := Ideal) x0 x1 x2 (ix3 b t j) = Gmlp.prow (rowR x0 b t) (gainR x1) (winR x2) ⟨j, by omega⟩ := by
    rw [val_main_v14_apply]
    exact (congrArg (val_main_v13 (F := Ideal) x0 x1 x2) (eq_ix3 _)).trans (proj_row x0 x1 x2 b t ⟨j, by omega⟩)
  simp only [val_main_v27_apply, val_main_v26_apply, val_main_v25_apply, val_main_v24_apply, val_main_v23_apply, val_main_v22_apply, val_main_v21_apply,
    val_main_v20_apply, val_main_v19_apply, val_main_v18_apply, val_main_v17_apply, val_main_v16_apply, val_main_v15_apply, e,
    val_main_cst_2_apply, val_main_cst_3_apply, val_main_cst_4_apply, val_main_cst_5_apply, Gmlp.urow]
  generalize Gmlp.prow _ _ _ _ = p
  pointwise
  rw [Gmlp.gelu, ← mul_assoc, mul_comm p]

/-- The values. -/
theorem v_row (b : Fin 128) (t : Fin 8) (j : Fin 2048) :
    val_main_v41 (F := Ideal) x0 x1 x2 (ix3 b t j) = Gmlp.vrow (rowR x0 b t) (gainR x1) (winR x2) j := by
  have e : val_main_v28 (F := Ideal) x0 x1 x2 (ix3 b t j) = Gmlp.prow (rowR x0 b t) (gainR x1) (winR x2) ⟨2048 + j, by omega⟩ := by
    rw [val_main_v28_apply]
    exact (congrArg (val_main_v13 (F := Ideal) x0 x1 x2) (eq_ix3 _)).trans (proj_row x0 x1 x2 b t ⟨2048 + j, by omega⟩)
  simp only [val_main_v41_apply, val_main_v40_apply, val_main_v39_apply, val_main_v38_apply, val_main_v37_apply, val_main_v36_apply, val_main_v35_apply,
    val_main_v34_apply, val_main_v33_apply, val_main_v32_apply, val_main_v31_apply, val_main_v30_apply, val_main_v29_apply, e,
    val_main_cst_6_apply, val_main_cst_7_apply, val_main_cst_8_apply, val_main_cst_9_apply, Gmlp.vrow]
  generalize Gmlp.prow _ _ _ _ = p
  pointwise
  rw [Gmlp.gelu, ← mul_assoc, mul_comm p]

/-- The second gate. -/
theorem z_row (b : Fin 128) (t : Fin 8) (j : Fin 2048) :
    val_main_v70 (F := Ideal) x0 x1 x2 (ix3 b t j) = Gmlp.zrow (rowR x0 b t) (gainR x1) (winR x2) j := by
  have e : val_main_v55 (F := Ideal) x0 x1 x2 (ix3 b t j) = Gmlp.prow (rowR x0 b t) (gainR x1) (winR x2) ⟨4096 + j, by omega⟩ := by
    rw [val_main_v55_apply]
    exact (congrArg (val_main_v13 (F := Ideal) x0 x1 x2) (eq_ix3 _)).trans (proj_row x0 x1 x2 b t ⟨4096 + j, by omega⟩)
  simp only [val_main_v70_apply, val_main_call2_v5_apply, val_main_call2_v4_apply, val_main_call2_v3_apply, val_main_call2_v2_apply,
    val_main_call2_v1_apply, val_main_call2_v0_apply, val_main_call2_cst_apply, val_main_call2_cst_0_apply, e, Gmlp.zrow]
  generalize Gmlp.prow _ _ _ _ = p
  pointwise
  rw [Gmlp.silu, zero_sub]

/-- The f32 word of 2048 and that of its reciprocal, as numbers. -/
theorem word_2048 : Ideal.ofBits .f32 0x45000000#32 = ((2048 : ℝ) : EReal) := by
  simp [Ideal.ofBits, Ideal.ieee, -EReal.coe_mul]; norm_num

/-- The f32 word of `1/2048`. -/
theorem word_inv_2048 : Ideal.ofBits .f32 973078528#32 = ((1 / 2048 : ℝ) : EReal) := by
  simp [Ideal.ofBits, Ideal.ieee, -EReal.coe_mul]; norm_num

/-- Dividing by 2048 is multiplying by its reciprocal. -/
theorem div_2048 (x : EReal) : Ideal.div x (Ideal.ofBits .f32 0x45000000#32) = x * Ideal.ofBits .f32 973078528#32 := by
  rw [word_2048, word_inv_2048, Ideal.div_coe (by norm_num)]

/-- The sum of a row's squared values. -/
theorem ssq_row (b : Fin 128) (t : Fin 8) :
    val_main_v43 (F := Ideal) x0 x1 x2 (ix2 b t) = Gmlp.ssq (rowR x0 b t) (gainR x1) (winR x2) := by
  rw [val_main_v43_apply, val_main_cst_10_apply]
  pointwise
  refine Finset.sum_congr rfl fun k _ => ?_
  rw [val_main_v42_apply]
  have e : val_main_v41 (F := Ideal) x0 x1 x2 (idx_main_v43 (ix2 b t) k) = Gmlp.vrow (rowR x0 b t) (gainR x1) (winR x2) k :=
    (congrArg (val_main_v41 (F := Ideal) x0 x1 x2) (eq_ix3 _)).trans (v_row x0 x1 x2 b t k)
  rw [e]
  rfl

/-- The normed values. -/
theorem vn_row (b : Fin 128) (t : Fin 8) (j : Fin 2048) :
    val_main_v54 (F := Ideal) x0 x1 x2 x3 (ix3 b t j) = Gmlp.vnrow (rowR x0 b t) (gainR x1) (winR x2) (vgR x3) j := by
  have e : val_main_v44 (F := Ideal) x0 x1 x2 (idx_main_v50 (ix3 b t j)) = Gmlp.ssq (rowR x0 b t) (gainR x1) (winR x2) := by
    rw [val_main_v44_apply]
    exact (congrArg (val_main_v43 (F := Ideal) x0 x1 x2) (eq_ix2 _)).trans (ssq_row x0 x1 x2 b t)
  have eg : x3 (idx_main_v52 (idx_main_v53 (ix3 b t j))) = x3 (ix1 j) := congrArg x3 (eq_ix1 _)
  simp only [val_main_v54_apply, val_main_v53_apply, val_main_v52_apply, val_main_v51_apply, val_main_v50_apply, val_main_v49_apply, val_main_v48_apply,
    val_main_v47_apply, val_main_v46_apply, val_main_v45_apply, val_main_cst_11_apply, val_main_cst_12_apply, v_row, e, eg, Gmlp.vnrow]
  generalize Gmlp.vrow _ _ _ _ = v
  generalize Gmlp.ssq _ _ _ = q
  rw [← div_2048]
  pointwise

variable (x4 : (⟨S16x128x128, .f32⟩ : BufTy).Contents (Elt Ideal)) (x5 : (⟨S16x128, .f32⟩ : BufTy).Contents (Elt Ideal))
  (x6 : (⟨S2048x1024, .f32⟩ : BufTy).Contents (Elt Ideal))

/-- The reference's lower-triangle word picks the places at or before. -/
theorem tril_word (t s : Fin 8) : Scalar.select (IntOp.cmpi CmpIPredicate.sge (IntOp.addi (BitVec.ofNat 32 (t : ℕ)) 0#32) (BitVec.ofNat 32 (s : ℕ))) 1#1 0#1
    = if s ≤ t then 1#1 else 0#1 := by
  revert t s; decide +kernel

/-- The masked spatial weights. -/
theorem mask_row (g : Fin 16) (t s : Fin 8) :
    val_main_v59 (F := Ideal) x4 (ix3 g t s) = if s ≤ t then x4 (ix3 g ⟨t, by omega⟩ ⟨s, by omega⟩) else 0 := by
  have hm : val_main_v57 (F := Ideal) (idx_main_call1_v1 (ix3 g t s)) = if s ≤ t then 1#1 else 0#1 := by
    simp only [val_main_v57_apply, val_main_v56_apply, val_main_c_apply, val_main_call0_v0_apply, val_main_call0_v1_apply, val_main_call0_v2_apply,
      val_main_call0_v3_apply, val_main_call0_v4_apply, val_main_call0_v5_apply, val_main_call0_c_apply, val_main_call0_c_0_apply]
    exact tril_word t s
  have hw : x4 (idx_main_v58 (ix3 g t s)) = x4 (ix3 g ⟨t, by omega⟩ ⟨s, by omega⟩) := congrArg x4 (eq_ix3 _)
  simp only [val_main_v59_apply, val_main_v58_apply, val_main_call1_v1_apply, val_main_call1_v2_apply, val_main_call1_v0_apply, val_main_cst_13_apply, hm, hw]
  pointwise
  by_cases h : s ≤ t
  · simp only [if_pos h]; rfl
  · simp only [if_neg h]; rfl

/-- One place of the mixed values before the gates. -/
theorem mix_row (b : Fin 128) (t : Fin 8) (j : Fin 2048) :
    val_main_v68 (F := Ideal) x0 x1 x2 x3 x4 x5 (ix3 b t j) =
      (∑ s : Fin 8, if s ≤ t then x4 (ix3 ⟨(j : ℕ) / 128, by omega⟩ ⟨t, by omega⟩ ⟨s, by omega⟩)
          * Gmlp.vnrow (rowR x0 b s) (gainR x1) (winR x2) (vgR x3) j else 0)
        + x5 (ix2 ⟨(j : ℕ) / 128, by omega⟩ ⟨t, by omega⟩) := by
  have hb := b.isLt
  have ht := t.isLt
  have hj := j.isLt
  rw [val_main_v68_apply, val_main_v67_apply]
  refine congrArg₂ (· + ·) ?_ ?_
  · rw [val_main_v62_apply, val_main_v61_apply]
    refine Finset.sum_congr rfl fun s _ => ?_
    have hs := s.isLt
    have ev : val_main_v60 (F := Ideal) x0 x1 x2 x3 (lidx_main_v61 (idx_main_v62 (idx_main_v68 (ix3 b t j))) s)
        = Gmlp.vnrow (rowR x0 b s) (gainR x1) (winR x2) (vgR x3) j := by
      rw [val_main_v60_apply, ← vn_row]
      refine congrArg (val_main_v54 (F := Ideal) x0 x1 x2 x3) (funext fun a => Fin.ext ?_)
      match a with
      | ⟨0, _⟩ =>
        show ((((((((b : ℕ) * 8 + t) * 2048 + j) / 16384) * 1 + 0) * 8 + s) * 16
          + (((b : ℕ) * 8 + t) * 2048 + j) / 128 % 16) * 128 + (((b : ℕ) * 8 + t) * 2048 + j) % 128) / 16384 = b
        omega
      | ⟨1, _⟩ =>
        show ((((((((b : ℕ) * 8 + t) * 2048 + j) / 16384) * 1 + 0) * 8 + s) * 16
          + (((b : ℕ) * 8 + t) * 2048 + j) / 128 % 16) * 128 + (((b : ℕ) * 8 + t) * 2048 + j) % 128) / 2048 % 8 = s
        omega
      | ⟨2, _⟩ =>
        show ((((((((b : ℕ) * 8 + t) * 2048 + j) / 16384) * 1 + 0) * 8 + s) * 16
          + (((b : ℕ) * 8 + t) * 2048 + j) / 128 % 16) * 128 + (((b : ℕ) * 8 + t) * 2048 + j) % 128) % 2048 = j
        omega
    have ew : val_main_v59 (F := Ideal) x4 (ridx_main_v61 (idx_main_v62 (idx_main_v68 (ix3 b t j))) s)
        = if s ≤ t then x4 (ix3 ⟨(j : ℕ) / 128, by omega⟩ ⟨t, by omega⟩ ⟨s, by omega⟩) else 0 := by
      rw [← mask_row]
      refine congrArg (val_main_v59 (F := Ideal) x4) (funext fun a => Fin.ext ?_)
      match a with
      | ⟨0, _⟩ => show (((b : ℕ) * 8 + t) * 2048 + j) / 128 % 16 = (j : ℕ) / 128; omega
      | ⟨1, _⟩ => show (((b : ℕ) * 8 + t) * 2048 + j) / 2048 % 8 = (t : ℕ); omega
      | ⟨2, _⟩ => rfl
    rw [ev, ew, mul_comm]
    by_cases h : s ≤ t
    · simp only [if_pos h]
    · simp only [if_neg h, zero_mul]
  · rw [val_main_v66_apply, val_main_v65_apply, val_main_v64_apply, val_main_v63_apply]
    refine congrArg x5 (funext fun a => Fin.ext ?_)
    match a with
    | ⟨0, _⟩ => show (((b : ℕ) * 8 + t) * 2048 + j) / 128 % 16 = (j : ℕ) / 128; omega
    | ⟨1, _⟩ => show (((b : ℕ) * 8 + t) * 2048 + j) / 2048 % 8 = (t : ℕ); omega

/-- Summing what is recent over a chunk is summing over the place's own sample. -/
theorem sum_recent (T : Fin 128) (F : Fin 128 → EReal) :
    (∑ s : Fin 128, if Gmlp.recent T s then F s else 0) =
      ∑ s : Fin 8, if (s : ℕ) ≤ (T : ℕ) % 8 then F ⟨8 * ((T : ℕ) / 8) + s, by omega⟩ else 0 := by
  have hT := T.isLt
  rw [← (finProdFinEquiv (m := 16) (n := 8)).sum_comp, Fintype.sum_prod_type]
  rw [Finset.sum_eq_single (⟨(T : ℕ) / 8, by omega⟩ : Fin 16)]
  · refine Finset.sum_congr rfl fun s _ => ?_
    have hs := s.isLt
    have e : (finProdFinEquiv (m := 16) (n := 8)) (⟨(T : ℕ) / 8, by omega⟩, s) = (⟨8 * ((T : ℕ) / 8) + s, by omega⟩ : Fin 128) :=
      Fin.ext (by show (s : ℕ) + 8 * ((T : ℕ) / 8) = _; exact add_comm _ _)
    rw [e]
    by_cases h : (s : ℕ) ≤ (T : ℕ) % 8
    · rw [if_pos h, if_pos (by simp only [Gmlp.recent, decide_eq_true_eq, Fin.le_def]; omega)]
    · rw [if_neg h, if_neg (by simp only [Gmlp.recent, decide_eq_true_eq, Fin.le_def]; omega)]
  · intro a _ ha
    refine Finset.sum_eq_zero fun s _ => if_neg ?_
    have hs := s.isLt
    have e : (((finProdFinEquiv (m := 16) (n := 8)) (a, s) : Fin 128) : ℕ) = s + 8 * a := rfl
    have ha' : (a : ℕ) ≠ (T : ℕ) / 8 := fun h => ha (Fin.ext h)
    simp only [Gmlp.recent, decide_eq_true_eq, Fin.le_def, e]
    omega
  · intro h
    exact absurd (Finset.mem_univ _) h

/-- The rows of the chunk of 16 samples that holds row `r` of the flattened rows. -/
abbrev chunkR (r : Fin 1024) (s : Fin 128) : Fin 1024 → EReal :=
  rowR x0 ⟨(128 * ((r : ℕ) / 128) + s) / 8, by omega⟩ ⟨(128 * ((r : ℕ) / 128) + s) % 8, by omega⟩

/-- The gated mixed rows. -/
theorem g_row (r : Fin 1024) (j : Fin 2048) :
    val_main_v71 (F := Ideal) x0 x1 x2 x3 x4 x5 (ix3 (n0 := 128) (n1 := 8) (n2 := 2048) ⟨(r : ℕ) / 8, by omega⟩ ⟨(r : ℕ) % 8, by omega⟩ j) =
      Gmlp.grow Gmlp.recent (chunkR x0 r) (gainR x1) (winR x2) (vgR x3)
        (fun g t s => x4 (ix3 g ⟨(t : ℕ) % 8, by omega⟩ ⟨(s : ℕ) % 8, by omega⟩)) (fun g t _ => x5 (ix2 g ⟨(t : ℕ) % 8, by omega⟩)) ⟨(r : ℕ) % 128, by omega⟩ j := by
  have e : 128 * ((r : ℕ) / 128) + (r : ℕ) % 128 = r := by omega
  have e8 : (r : ℕ) % 128 % 8 = (r : ℕ) % 8 := by omega
  rw [val_main_v71_apply, val_main_v69_apply, u_row, z_row, mix_row]
  simp only [Gmlp.grow]
  rw [sum_recent]
  have es : ∀ s : Fin 8, (128 * ((r : ℕ) / 128) + (8 * ((r : ℕ) % 128 / 8) + s)) / 8 = (r : ℕ) / 8 := fun s => by omega
  have es' : ∀ s : Fin 8, (128 * ((r : ℕ) / 128) + (8 * ((r : ℕ) % 128 / 8) + s)) % 8 = s := fun s => by omega
  have es2 : ∀ s : Fin 8, (8 * ((r : ℕ) % 128 / 8) + (s : ℕ)) % 8 = s := fun s => by omega
  simp only [chunkR, e, e8, es, es', es2, Fin.eta]
  rfl

/-- The reference's first result at row `r` of the flattened rows. -/
theorem y_row (r : Fin 1024) (n : Fin 1024) :
    val_main_v73 (F := Ideal) x0 x1 x2 x3 x4 x5 x6 (ix3 (n0 := 128) (n1 := 8) (n2 := 1024) ⟨(r : ℕ) / 8, by omega⟩ ⟨(r : ℕ) % 8, by omega⟩ n) =
      Gmlp.yrow Gmlp.recent (chunkR x0 r) (gainR x1) (winR x2) (vgR x3)
        (fun g t s => x4 (ix3 g ⟨(t : ℕ) % 8, by omega⟩ ⟨(s : ℕ) % 8, by omega⟩)) (fun g t _ => x5 (ix2 g ⟨(t : ℕ) % 8, by omega⟩))
        (fun j n => x6 (ix2 j n)) ⟨(r : ℕ) % 128, by omega⟩ n := by
  have e : 128 * ((r : ℕ) / 128) + (r : ℕ) % 128 = r := by omega
  rw [val_main_v73_apply, val_main_v72_apply]
  simp only [Gmlp.yrow]
  refine congrArg₂ (· + ·) (by simp only [chunkR, e, Fin.eta]) (Finset.sum_congr rfl fun j _ => congrArg₂ (· * ·) ?_ ?_)
  · exact (congrArg (val_main_v71 (F := Ideal) x0 x1 x2 x3 x4 x5) (eq_ix3 _)).trans (g_row x0 x1 x2 x3 x4 x5 r j)
  · exact congrArg x6 (eq_ix2 _)

/-- The reference's first result is the function of the arguments that the kernel's first result array holds. -/
theorem ref_eq : val_main_v74 (F := Ideal) x0 x1 x2 x3 x4 x5 x6 = Cert.Kernel9Ideal.Block.YA x0 x1 x2 x3 x4 x5 x6 := by
  funext i
  obtain ⟨r, n, rfl⟩ : ∃ (r : Fin 1024) (n : Fin 1024), i = ix2 r n := ⟨i 0, i 1, eq_ix2 _⟩
  have e : idx_main_v74 (ix2 r n) = ix3 (n0 := 128) (n1 := 8) (n2 := 1024) ⟨(r : ℕ) / 8, by omega⟩ ⟨(r : ℕ) % 8, by omega⟩ n := by
    funext a
    refine Fin.ext ?_
    match a with
    | ⟨0, _⟩ => show ((r : ℕ) * 1024 + (n : ℕ)) / 8192 = (r : ℕ) / 8; omega
    | ⟨1, _⟩ => show ((r : ℕ) * 1024 + (n : ℕ)) / 1024 % 8 = (r : ℕ) % 8; omega
    | ⟨2, _⟩ => show ((r : ℕ) * 1024 + (n : ℕ)) % 1024 = (n : ℕ); omega
  rw [val_main_v74_apply, e, y_row]
  rfl

/-- The reference's second result is the function of the arguments that the kernel's second result array holds. -/
theorem vref_eq : val_main_v75 (F := Ideal) x0 x1 x2 x3 = Cert.Kernel9Ideal.Block.VA x0 x1 x2 x3 := by
  funext i
  obtain ⟨r, n, rfl⟩ : ∃ (r : Fin 1024) (n : Fin 2048), i = ix2 r n := ⟨i 0, i 1, eq_ix2 _⟩
  have e : idx_main_v75 (ix2 r n) = ix3 (n0 := 128) (n1 := 8) (n2 := 2048) ⟨(r : ℕ) / 8, by omega⟩ ⟨(r : ℕ) % 8, by omega⟩ n := by
    funext a
    refine Fin.ext ?_
    match a with
    | ⟨0, _⟩ => show ((r : ℕ) * 2048 + (n : ℕ)) / 16384 = (r : ℕ) / 8; omega
    | ⟨1, _⟩ => show ((r : ℕ) * 2048 + (n : ℕ)) / 2048 % 8 = (r : ℕ) % 8; omega
    | ⟨2, _⟩ => show ((r : ℕ) * 2048 + (n : ℕ)) % 2048 = (n : ℕ); omega
  rw [val_main_v75_apply, e, vn_row]
  rfl

end Cert.Reference9Ideal.Rows

end
-- ==== Proof.BBlock.lean ====
module

public import proofs.«01_k».proof.Proof.Slab
public import proofs.«01_k».proof.Proof.Gen.Kernel3Ideal.Value
public import Idealize.ShloMosaic.Lib.IdealHost

@[expose] public section

set_option maxRecDepth 16384

noncomputable section

namespace Slab

open Idealize.ShloMosaic

/-- A block stored at head `o` and half `e` of a stack of transposed blocks, whose entries are those of a whole-stack
    function, is that function at the block's places. -/
theorem tile {Val : Type} (G : (⟨5, ![1, 8, 2, 128, 256]⟩ : Shape).Idx → Val) (p : (⟨5, ![1, 1, 1, 128, 256]⟩ : Shape).Idx → Val) (o e : ℕ)
    (inb : ∀ d, (![0, o, e, 0, 0] : Fin 5 → ℕ) d + (⟨5, ![1, 1, 1, 128, 256]⟩ : Shape).size d ≤ (⟨5, ![1, 8, 2, 128, 256]⟩ : Shape).size d) (ho : o < 8) (he : e < 2)
    (hp : ∀ (d : Fin 128) (r : Fin 256), p (ix5 0 0 0 d r) = G (ix5 0 ⟨o, ho⟩ ⟨e, he⟩ d r))
    (x : (Rect.unit (s := ⟨5, ![1, 8, 2, 128, 256]⟩) ![0, o, e, 0, 0] (⟨5, ![1, 1, 1, 128, 256]⟩ : Shape).size inb).shape.Idx) :
    p x = G ((Rect.unit (s := ⟨5, ![1, 8, 2, 128, 256]⟩) ![0, o, e, 0, 0] (⟨5, ![1, 1, 1, 128, 256]⟩ : Shape).size inb).emb x) := by
  have hx : x = ix5 (n0 := 1) (n1 := 1) (n2 := 1) (n3 := 128) (n4 := 256) 0 0 0 (x 3) (x 4) := by
    have h0 : x 0 = (0 : Fin 1) := Subsingleton.elim (α := Fin 1) _ _
    have h1 : x 1 = (0 : Fin 1) := Subsingleton.elim (α := Fin 1) _ _
    have h2 : x 2 = (0 : Fin 1) := Subsingleton.elim (α := Fin 1) _ _
    funext d
    match d with
    | ⟨0, _⟩ => exact h0
    | ⟨1, _⟩ => exact h1
    | ⟨2, _⟩ => exact h2
    | ⟨3, _⟩ => rfl
    | ⟨4, _⟩ => rfl
  rw [hx]
  refine (hp (x 3) (x 4)).trans (congrArg G ?_)
  funext d
  match d with
  | ⟨0, _⟩ => exact Fin.ext (show 0 = 0 + 1 * 0 by omega)
  | ⟨1, _⟩ => exact Fin.ext (show o = o + 1 * 0 by omega)
  | ⟨2, _⟩ => exact Fin.ext (show e = e + 1 * 0 by omega)
  | ⟨3, _⟩ => exact Fin.ext (show ((x 3 : Fin 128) : ℕ) = 0 + 1 * ((x 3 : Fin 128) : ℕ) by omega)
  | ⟨4, _⟩ => exact Fin.ext (show ((x 4 : Fin 256) : ℕ) = 0 + 1 * ((x 4 : Fin 256) : ℕ) by omega)

end Slab

namespace Cert.Kernel3Ideal.Block

open Cert.Kernel3Ideal Cert.Kernel3Ideal.Gen Idealize.ShloMosaic Idealize.ShloMosaic.TcCoe Idealize.SL.Sem

/-! The attention layer's projection: what a grid point leaves in its six output blocks. -/

/-- The normed rows of a point against column `j` of the input weights. -/
def LB (x0 : Vec Ideal S512x1024 .f32) (x1 : Vec Ideal S1x1024 .f32) (x2 : Vec Ideal S1024x4096 .bf16) (r : Fin 512) (j : Fin 4096) : EReal :=
  Slab.lin (fun k => x0 (ix2 r k)) (fun k => x1 (ix2 0 k)) (fun k j => x2 (ix2 k j)) j

/-- A row `P` of 1024 columns under the norm of its column's part of 256 against the 256 × 256 matrix `w`, times `g`. -/
def part (P : Fin 1024 → EReal) (w : Fin 256 → Fin 256 → EReal) (g : Fin 1024 → EReal) (j : Fin 1024) : EReal :=
  P j * Ideal.rsqrt ((∑ s : Fin 256, P ⟨256 * ((j : ℕ) / 256) + s, by omega⟩ * P ⟨256 * ((j : ℕ) / 256) + s, by omega⟩ * w s ⟨(j : ℕ) % 256, by omega⟩)
    * Ideal.ofBits FTy.f32 0x3C800000#32 + Ideal.ofBits FTy.f32 0x358637BD#32) * g j

/-- The scaled queries of a point. -/
def QB (x0 : Vec Ideal S512x1024 .f32) (x1 : Vec Ideal S1x1024 .f32) (x2 : Vec Ideal S1024x4096 .bf16) (x3 x4 : Vec Ideal S1x1024 .f32) (x5 : Vec Ideal S256x256 .bf16) (r : Fin 512) (j : Fin 1024) : EReal :=
  part (fun j => LB x0 x1 x2 r ⟨j, by omega⟩) (fun s k => x5 (ix2 s k)) (fun j => x3 (ix2 0 j) * Ideal.ofBits FTy.f32 0x3E38AA3B#32) j
/-- The keys of a point. -/
def KB (x0 : Vec Ideal S512x1024 .f32) (x1 : Vec Ideal S1x1024 .f32) (x2 : Vec Ideal S1024x4096 .bf16) (x3 x4 : Vec Ideal S1x1024 .f32) (x5 : Vec Ideal S256x256 .bf16) (r : Fin 512) (j : Fin 1024) : EReal :=
  part (fun j => LB x0 x1 x2 r ⟨1024 + j, by omega⟩) (fun s k => x5 (ix2 s k)) (fun j => x4 (ix2 0 j)) j
/-- The values of a point. -/
def VB (x0 : Vec Ideal S512x1024 .f32) (x1 : Vec Ideal S1x1024 .f32) (x2 : Vec Ideal S1024x4096 .bf16) (x3 x4 : Vec Ideal S1x1024 .f32) (x5 : Vec Ideal S256x256 .bf16) (r : Fin 512) (j : Fin 1024) : EReal := LB x0 x1 x2 r ⟨2048 + j, by omega⟩
/-- The gate of a point. -/
def ZB (x0 : Vec Ideal S512x1024 .f32) (x1 : Vec Ideal S1x1024 .f32) (x2 : Vec Ideal S1024x4096 .bf16) (x3 x4 : Vec Ideal S1x1024 .f32) (x5 : Vec Ideal S256x256 .bf16) (r : Fin 512) (j : Fin 1024) : EReal := LB x0 x1 x2 r ⟨3072 + j, by omega⟩

/-- A block of rows as one array. -/
def RB (f : Fin 512 → Fin 1024 → EReal) (y : S512x1024.Idx) : EReal := f (y 0) (y 1)

/-- A block of rows as the stack of its transposed blocks, head by head. -/
def TB (f : Fin 512 → Fin 1024 → EReal) (y : S1x8x2x128x256.Idx) : EReal :=
  f ⟨256 * (y 2 : ℕ) + (y 4 : ℕ), by have := (y 2).isLt; have := (y 4).isLt; change (y 2 : ℕ) < 2 at *; change (y 4 : ℕ) < 256 at *; omega⟩
    ⟨128 * (y 1 : ℕ) + (y 3 : ℕ), by have := (y 1).isLt; have := (y 3).isLt; change (y 1 : ℕ) < 8 at *; change (y 3 : ℕ) < 128 at *; omega⟩

/-- The first 512 columns of the values. -/
theorem v0 (x0 : Vec Ideal S512x1024 .f32) (x1 : Vec Ideal S1x1024 .f32) (x2 : Vec Ideal S1024x4096 .bf16) (x3 x4 : Vec Ideal S1x1024 .f32) (x5 : Vec Ideal S256x256 .bf16) (r j : Fin 512) :
    k0_pay67 (F := Ideal) x0 x1 x2 x3 x4 x5 (ix2 r j) = VB x0 x1 x2 x3 x4 x5 r ⟨0 + j, by omega⟩ := by
  unfold_payloads
  pointwise
  simp only [VB, LB, Slab.lin, Gmlp.hrow]
  try simp only [← Nat.add_assoc, Nat.reduceAdd, Nat.zero_add]
  try rfl

/-- The last 512 columns of the values. -/
theorem v1 (x0 : Vec Ideal S512x1024 .f32) (x1 : Vec Ideal S1x1024 .f32) (x2 : Vec Ideal S1024x4096 .bf16) (x3 x4 : Vec Ideal S1x1024 .f32) (x5 : Vec Ideal S256x256 .bf16) (r j : Fin 512) :
    k0_pay76 (F := Ideal) x0 x1 x2 x3 x4 x5 (ix2 r j) = VB x0 x1 x2 x3 x4 x5 r ⟨512 + j, by omega⟩ := by
  unfold_payloads
  pointwise
  simp only [VB, LB, Slab.lin, Gmlp.hrow]
  try simp only [← Nat.add_assoc, Nat.reduceAdd, Nat.zero_add]
  try rfl

/-- The first 512 columns of the gate. -/
theorem z0 (x0 : Vec Ideal S512x1024 .f32) (x1 : Vec Ideal S1x1024 .f32) (x2 : Vec Ideal S1024x4096 .bf16) (x3 x4 : Vec Ideal S1x1024 .f32) (x5 : Vec Ideal S256x256 .bf16) (r j : Fin 512) :
    k0_pay31 (F := Ideal) (k0_pay59 x0 x1 x2 x3 x4 x5) (View.ld x2 r0_16) (ix2 r j) = ZB x0 x1 x2 x3 x4 x5 r ⟨0 + j, by omega⟩ := by
  unfold_payloads
  pointwise
  simp only [ZB, LB, Slab.lin, Gmlp.hrow]
  try simp only [← Nat.add_assoc, Nat.reduceAdd, Nat.zero_add]
  try rfl

/-- The last 512 columns of the gate. -/
theorem z1 (x0 : Vec Ideal S512x1024 .f32) (x1 : Vec Ideal S1x1024 .f32) (x2 : Vec Ideal S1024x4096 .bf16) (x3 x4 : Vec Ideal S1x1024 .f32) (x5 : Vec Ideal S256x256 .bf16) (r j : Fin 512) :
    k0_pay1 (F := Ideal) (k0_pay59 x0 x1 x2 x3 x4 x5) (View.ld x2 r0_30) (ix2 r j) = ZB x0 x1 x2 x3 x4 x5 r ⟨512 + j, by omega⟩ := by
  unfold_payloads
  pointwise
  simp only [ZB, LB, Slab.lin, Gmlp.hrow]
  try simp only [← Nat.add_assoc, Nat.reduceAdd, Nat.zero_add]
  try rfl

/-- The first 512 columns of the keys. -/
theorem k0 (x0 : Vec Ideal S512x1024 .f32) (x1 : Vec Ideal S1x1024 .f32) (x2 : Vec Ideal S1024x4096 .bf16) (x3 x4 : Vec Ideal S1x1024 .f32) (x5 : Vec Ideal S256x256 .bf16) (r j : Fin 512) :
    k0_pay20 (F := Ideal) (k0_pay64 x0 x1 x2 x3 x4 x5) (k0_pay65 x0 x1 x2 x3 x4 x5) (k0_pay66 x0 x1 x2 x3 x4 x5) (View.ld x5 r0_3) (View.ld x5 r0_3) (View.ld x4 r0_4) (ix2 r j) = KB x0 x1 x2 x3 x4 x5 r ⟨0 + j, by omega⟩ := by
  unfold_payloads
  pointwise
  have hj := j.isLt
  by_cases h : (j : ℕ) < 256
  · have e1 : (j : ℕ) / 256 = 0 := by omega
    have e2 : (j : ℕ) % 256 = j - 0 := by omega
    simp only [h, if_true, if_false, ite_true, ite_false, dite_true, dite_false, KB, part, LB, Slab.lin, Gmlp.hrow, Nat.zero_add, Nat.sub_zero, e1, e2, ← Nat.add_assoc, Nat.reduceAdd, Nat.reduceMul]
  · have e1 : (j : ℕ) / 256 = 1 := by omega
    have e2 : (j : ℕ) % 256 = j - 256 := by omega
    have e3 : 1280 + ((j : ℕ) - 256) = 1024 + (j : ℕ) := by omega
    simp only [h, if_true, if_false, ite_true, ite_false, dite_true, dite_false, KB, part, LB, Slab.lin, Gmlp.hrow, Nat.zero_add, Nat.sub_zero, e1, e2, ← Nat.add_assoc, Nat.reduceAdd, Nat.reduceMul, e3]

/-- The last 512 columns of the keys. -/
theorem k1 (x0 : Vec Ideal S512x1024 .f32) (x1 : Vec Ideal S1x1024 .f32) (x2 : Vec Ideal S1024x4096 .bf16) (x3 x4 : Vec Ideal S1x1024 .f32) (x5 : Vec Ideal S256x256 .bf16) (r j : Fin 512) :
    k0_pay47 (F := Ideal) (k0_pay74 x0 x1 x2 x3 x4 x5) (k0_pay75 x0 x1 x2 x3 x4 x5) (ix2 r j) = KB x0 x1 x2 x3 x4 x5 r ⟨512 + j, by omega⟩ := by
  unfold_payloads
  pointwise
  have hj := j.isLt
  by_cases h : (j : ℕ) < 256
  · have e1 : (512 + (j : ℕ)) / 256 = 2 := by omega
    have e2 : (512 + (j : ℕ)) % 256 = j - 0 := by omega
    simp only [h, if_true, if_false, ite_true, ite_false, dite_true, dite_false, KB, part, LB, Slab.lin, Gmlp.hrow, Nat.zero_add, Nat.sub_zero, e1, e2, ← Nat.add_assoc, Nat.reduceAdd, Nat.reduceMul]
  · have e1 : (512 + (j : ℕ)) / 256 = 3 := by omega
    have e2 : (512 + (j : ℕ)) % 256 = j - 256 := by omega
    have e3 : 1792 + ((j : ℕ) - 256) = 1536 + (j : ℕ) := by omega
    simp only [h, if_true, if_false, ite_true, ite_false, dite_true, dite_false, KB, part, LB, Slab.lin, Gmlp.hrow, Nat.zero_add, Nat.sub_zero, e1, e2, ← Nat.add_assoc, Nat.reduceAdd, Nat.reduceMul, e3]

/-- The first 512 columns of the queries. -/
theorem q0 (x0 : Vec Ideal S512x1024 .f32) (x1 : Vec Ideal S1x1024 .f32) (x2 : Vec Ideal S1024x4096 .bf16) (x3 x4 : Vec Ideal S1x1024 .f32) (x5 : Vec Ideal S256x256 .bf16) (r j : Fin 512) :
    k0_pay63 (F := Ideal) x0 x1 x2 x3 x4 x5 (ix2 r j) = QB x0 x1 x2 x3 x4 x5 r ⟨0 + j, by omega⟩ := by
  unfold_payloads
  pointwise
  have hj := j.isLt
  by_cases h : (j : ℕ) < 256
  · have e1 : (j : ℕ) / 256 = 0 := by omega
    have e2 : (j : ℕ) % 256 = j - 0 := by omega
    simp only [h, if_true, if_false, ite_true, ite_false, dite_true, dite_false, QB, part, LB, Slab.lin, Gmlp.hrow, Nat.zero_add, Nat.sub_zero, e1, e2, ← Nat.add_assoc, Nat.reduceAdd, Nat.reduceMul]
  · have e1 : (j : ℕ) / 256 = 1 := by omega
    have e2 : (j : ℕ) % 256 = j - 256 := by omega
    have e3 : 256 + ((j : ℕ) - 256) = (j : ℕ) := by omega
    simp only [h, if_true, if_false, ite_true, ite_false, dite_true, dite_false, QB, part, LB, Slab.lin, Gmlp.hrow, Nat.zero_add, Nat.sub_zero, e1, e2, ← Nat.add_assoc, Nat.reduceAdd, Nat.reduceMul, e3]

/-- The last 512 columns of the queries. -/
theorem q1 (x0 : Vec Ideal S512x1024 .f32) (x1 : Vec Ideal S1x1024 .f32) (x2 : Vec Ideal S1024x4096 .bf16) (x3 x4 : Vec Ideal S1x1024 .f32) (x5 : Vec Ideal S256x256 .bf16) (r j : Fin 512) :
    k0_pay73 (F := Ideal) x0 x1 x2 x3 x4 x5 (ix2 r j) = QB x0 x1 x2 x3 x4 x5 r ⟨512 + j, by omega⟩ := by
  unfold_payloads
  pointwise
  have hj := j.isLt
  by_cases h : (j : ℕ) < 256
  · have e1 : (512 + (j : ℕ)) / 256 = 2 := by omega
    have e2 : (512 + (j : ℕ)) % 256 = j - 0 := by omega
    simp only [h, if_true, if_false, ite_true, ite_false, dite_true, dite_false, QB, part, LB, Slab.lin, Gmlp.hrow, Nat.zero_add, Nat.sub_zero, e1, e2, ← Nat.add_assoc, Nat.reduceAdd, Nat.reduceMul]
  · have e1 : (512 + (j : ℕ)) / 256 = 3 := by omega
    have e2 : (512 + (j : ℕ)) % 256 = j - 256 := by omega
    have e3 : 768 + ((j : ℕ) - 256) = 512 + (j : ℕ) := by omega
    simp only [h, if_true, if_false, ite_true, ite_false, dite_true, dite_false, QB, part, LB, Slab.lin, Gmlp.hrow, Nat.zero_add, Nat.sub_zero, e1, e2, ← Nat.add_assoc, Nat.reduceAdd, Nat.reduceMul, e3]

/-- What the body leaves in the keys' block. -/
theorem out6_eq (x0 : Vec Ideal S512x1024 .f32) (x1 : Vec Ideal S1x1024 .f32) (x2 : Vec Ideal S1024x4096 .bf16) (x3 x4 : Vec Ideal S1x1024 .f32) (x5 : Vec Ideal S256x256 .bf16) : out0_6 (F := Ideal) x0 x1 x2 x3 x4 x5 = RB (KB x0 x1 x2 x3 x4 x5) := by
  funext y
  unfold out0_6
  refine View.canon_apply_of_pieces _ _ (View.PiecesOf.mem ?_) y (cover0_6 (F := Ideal) _ _ y)
  refine ⟨Slab.cols (RB (KB x0 x1 x2 x3 x4 x5)) _ 512 inb_S512x1024_S512x512_0_512 (by omega) fun r j => k1 x0 x1 x2 x3 x4 x5 r j,
    Slab.cols (RB (KB x0 x1 x2 x3 x4 x5)) _ 0 inb_S512x1024_S512x512_0_0 (by omega) fun r j => k0 x0 x1 x2 x3 x4 x5 r j, trivial⟩

/-- What the body leaves in the values' block. -/
theorem out7_eq (x0 : Vec Ideal S512x1024 .f32) (x1 : Vec Ideal S1x1024 .f32) (x2 : Vec Ideal S1024x4096 .bf16) (x3 x4 : Vec Ideal S1x1024 .f32) (x5 : Vec Ideal S256x256 .bf16) : out0_7 (F := Ideal) x0 x1 x2 x3 x4 x5 = RB (VB x0 x1 x2 x3 x4 x5) := by
  funext y
  unfold out0_7
  refine View.canon_apply_of_pieces _ _ (View.PiecesOf.mem ?_) y (cover0_7 (F := Ideal) _ _ y)
  refine ⟨Slab.cols (RB (VB x0 x1 x2 x3 x4 x5)) _ 512 inb_S512x1024_S512x512_0_512 (by omega) fun r j => v1 x0 x1 x2 x3 x4 x5 r j,
    Slab.cols (RB (VB x0 x1 x2 x3 x4 x5)) _ 0 inb_S512x1024_S512x512_0_0 (by omega) fun r j => v0 x0 x1 x2 x3 x4 x5 r j, trivial⟩

/-- What the body leaves in the gate's block. -/
theorem out8_eq (x0 : Vec Ideal S512x1024 .f32) (x1 : Vec Ideal S1x1024 .f32) (x2 : Vec Ideal S1024x4096 .bf16) (x3 x4 : Vec Ideal S1x1024 .f32) (x5 : Vec Ideal S256x256 .bf16) : out0_8 (F := Ideal) x0 x1 x2 x3 x4 x5 = RB (ZB x0 x1 x2 x3 x4 x5) := by
  funext y
  unfold out0_8
  refine View.canon_apply_of_pieces _ _ (View.PiecesOf.mem ?_) y (cover0_8 (F := Ideal) _ _ y)
  refine ⟨Slab.cols (RB (ZB x0 x1 x2 x3 x4 x5)) _ 512 inb_S512x1024_S512x512_0_512 (by omega) fun r j => z1 x0 x1 x2 x3 x4 x5 r j,
    Slab.cols (RB (ZB x0 x1 x2 x3 x4 x5)) _ 0 inb_S512x1024_S512x512_0_0 (by omega) fun r j => z0 x0 x1 x2 x3 x4 x5 r j, trivial⟩

/-- What the body leaves in the block of the keys' copy. -/
theorem out10_eq (x0 : Vec Ideal S512x1024 .f32) (x1 : Vec Ideal S1x1024 .f32) (x2 : Vec Ideal S1024x4096 .bf16) (x3 x4 : Vec Ideal S1x1024 .f32) (x5 : Vec Ideal S256x256 .bf16) : out0_10 (F := Ideal) x0 x1 x2 x3 x4 x5 = RB (KB x0 x1 x2 x3 x4 x5) := by
  funext y
  unfold out0_10
  refine View.canon_apply_of_pieces _ _ (View.PiecesOf.mem ?_) y (cover0_10 (F := Ideal) _ _ y)
  refine ⟨Slab.cols (RB (KB x0 x1 x2 x3 x4 x5)) _ 512 inb_S512x1024_S512x512_0_512 (by omega) fun r j => k1 x0 x1 x2 x3 x4 x5 r j,
    Slab.cols (RB (KB x0 x1 x2 x3 x4 x5)) _ 0 inb_S512x1024_S512x512_0_0 (by omega) fun r j => k0 x0 x1 x2 x3 x4 x5 r j, trivial⟩

/-- A slab of 512 columns cut into 256 rows and 128 columns and transposed. -/
theorem cut (f : FVec Ideal S512x512 .f32) (e o : ℕ) (he : e + 256 ≤ 512) (ho : o + 128 ≤ 512) (h : S512x512.Slices ![e, o] S256x128)
    (h' : S256x128.Transposes [1, 0] S128x256) (hs : S128x256.numel = S1x1x1x128x256.numel) (hb : FTy.bits .bf16 < FTy.bits .f32) (d : Fin 128) (r : Fin 256) :
    shapeCast S1x1x1x128x256 (truncf .bf16 (transpose S128x256 [1, 0] (extractStridedSlice S256x128 ![e, o] f h) h') hb) hs (ix5 0 0 0 d r)
      = f (ix2 ⟨e + r, by omega⟩ ⟨o + d, by omega⟩) := by
  pointwise

/-- A place of the transposed stack, from the row and the column it shows. -/
theorem TB_of (f : Fin 512 → Fin 1024 → EReal) (a : Fin 512) (b : Fin 1024) (h : Fin 8) (e : Fin 2) (d : Fin 128) (r : Fin 256)
    (ha : (a : ℕ) = 256 * (e : ℕ) + r) (hb : (b : ℕ) = 128 * (h : ℕ) + d) : f a b = TB f (ix5 0 h e d r) :=
  congrArg₂ f (Fin.ext ha) (Fin.ext hb)

/-- What the body leaves in the block of the transposed queries. -/
theorem out9_eq (x0 : Vec Ideal S512x1024 .f32) (x1 : Vec Ideal S1x1024 .f32) (x2 : Vec Ideal S1024x4096 .bf16) (x3 x4 : Vec Ideal S1x1024 .f32) (x5 : Vec Ideal S256x256 .bf16) : out0_9 (F := Ideal) x0 x1 x2 x3 x4 x5 = TB (QB x0 x1 x2 x3 x4 x5) := by
  funext y
  unfold out0_9
  refine View.canon_apply_of_pieces _ _ (View.PiecesOf.mem ?_) y (cover0_9 (F := Ideal) _ _ _ _ _ _ _ _ _ _ _ _ _ _ _ _ y)
  refine ⟨Slab.tile (TB (QB x0 x1 x2 x3 x4 x5)) _ 7 1 inb_S1x8x2x128x256_S1x1x1x128x256_0_7_1_0_0 (by omega) (by omega) fun d r =>
      (cut (k0_pay73 (F := Ideal) x0 x1 x2 x3 x4 x5) 256 384 (by omega) (by omega) _ _ _ _ d r).trans ((q1 x0 x1 x2 x3 x4 x5 _ _).trans (TB_of (QB x0 x1 x2 x3 x4 x5) _ _ _ _ _ _ (by first | rfl | omega | (dsimp only; omega)) (by first | rfl | omega | (dsimp only; omega)))),
    Slab.tile (TB (QB x0 x1 x2 x3 x4 x5)) _ 7 0 inb_S1x8x2x128x256_S1x1x1x128x256_0_7_0_0_0 (by omega) (by omega) fun d r =>
      (cut (k0_pay73 (F := Ideal) x0 x1 x2 x3 x4 x5) 0 384 (by omega) (by omega) _ _ _ _ d r).trans ((q1 x0 x1 x2 x3 x4 x5 _ _).trans (TB_of (QB x0 x1 x2 x3 x4 x5) _ _ _ _ _ _ (by first | rfl | omega | (dsimp only; omega)) (by first | rfl | omega | (dsimp only; omega)))),
    Slab.tile (TB (QB x0 x1 x2 x3 x4 x5)) _ 6 1 inb_S1x8x2x128x256_S1x1x1x128x256_0_6_1_0_0 (by omega) (by omega) fun d r =>
      (cut (k0_pay73 (F := Ideal) x0 x1 x2 x3 x4 x5) 256 256 (by omega) (by omega) _ _ _ _ d r).trans ((q1 x0 x1 x2 x3 x4 x5 _ _).trans (TB_of (QB x0 x1 x2 x3 x4 x5) _ _ _ _ _ _ (by first | rfl | omega | (dsimp only; omega)) (by first | rfl | omega | (dsimp only; omega)))),
    Slab.tile (TB (QB x0 x1 x2 x3 x4 x5)) _ 6 0 inb_S1x8x2x128x256_S1x1x1x128x256_0_6_0_0_0 (by omega) (by omega) fun d r =>
      (cut (k0_pay73 (F := Ideal) x0 x1 x2 x3 x4 x5) 0 256 (by omega) (by omega) _ _ _ _ d r).trans ((q1 x0 x1 x2 x3 x4 x5 _ _).trans (TB_of (QB x0 x1 x2 x3 x4 x5) _ _ _ _ _ _ (by first | rfl | omega | (dsimp only; omega)) (by first | rfl | omega | (dsimp only; omega)))),
    Slab.tile (TB (QB x0 x1 x2 x3 x4 x5)) _ 5 1 inb_S1x8x2x128x256_S1x1x1x128x256_0_5_1_0_0 (by omega) (by omega) fun d r =>
      (cut (k0_pay73 (F := Ideal) x0 x1 x2 x3 x4 x5) 256 128 (by omega) (by omega) _ _ _ _ d r).trans ((q1 x0 x1 x2 x3 x4 x5 _ _).trans (TB_of (QB x0 x1 x2 x3 x4 x5) _ _ _ _ _ _ (by first | rfl | omega | (dsimp only; omega)) (by first | rfl | omega | (dsimp only; omega)))),
    Slab.tile (TB (QB x0 x1 x2 x3 x4 x5)) _ 5 0 inb_S1x8x2x128x256_S1x1x1x128x256_0_5_0_0_0 (by omega) (by omega) fun d r =>
      (cut (k0_pay73 (F := Ideal) x0 x1 x2 x3 x4 x5) 0 128 (by omega) (by omega) _ _ _ _ d r).trans ((q1 x0 x1 x2 x3 x4 x5 _ _).trans (TB_of (QB x0 x1 x2 x3 x4 x5) _ _ _ _ _ _ (by first | rfl | omega | (dsimp only; omega)) (by first | rfl | omega | (dsimp only; omega)))),
    Slab.tile (TB (QB x0 x1 x2 x3 x4 x5)) _ 4 1 inb_S1x8x2x128x256_S1x1x1x128x256_0_4_1_0_0 (by omega) (by omega) fun d r =>
      (cut (k0_pay73 (F := Ideal) x0 x1 x2 x3 x4 x5) 256 0 (by omega) (by omega) _ _ _ _ d r).trans ((q1 x0 x1 x2 x3 x4 x5 _ _).trans (TB_of (QB x0 x1 x2 x3 x4 x5) _ _ _ _ _ _ (by first | rfl | omega | (dsimp only; omega)) (by first | rfl | omega | (dsimp only; omega)))),
    Slab.tile (TB (QB x0 x1 x2 x3 x4 x5)) _ 4 0 inb_S1x8x2x128x256_S1x1x1x128x256_0_4_0_0_0 (by omega) (by omega) fun d r =>
      (cut (k0_pay73 (F := Ideal) x0 x1 x2 x3 x4 x5) 0 0 (by omega) (by omega) _ _ _ _ d r).trans ((q1 x0 x1 x2 x3 x4 x5 _ _).trans (TB_of (QB x0 x1 x2 x3 x4 x5) _ _ _ _ _ _ (by first | rfl | omega | (dsimp only; omega)) (by first | rfl | omega | (dsimp only; omega)))),
    Slab.tile (TB (QB x0 x1 x2 x3 x4 x5)) _ 3 1 inb_S1x8x2x128x256_S1x1x1x128x256_0_3_1_0_0 (by omega) (by omega) fun d r =>
      (cut (k0_pay63 (F := Ideal) x0 x1 x2 x3 x4 x5) 256 384 (by omega) (by omega) _ _ _ _ d r).trans ((q0 x0 x1 x2 x3 x4 x5 _ _).trans (TB_of (QB x0 x1 x2 x3 x4 x5) _ _ _ _ _ _ (by first | rfl | omega | (dsimp only; omega)) (by first | rfl | omega | (dsimp only; omega)))),
    Slab.tile (TB (QB x0 x1 x2 x3 x4 x5)) _ 3 0 inb_S1x8x2x128x256_S1x1x1x128x256_0_3_0_0_0 (by omega) (by omega) fun d r =>
      (cut (k0_pay63 (F := Ideal) x0 x1 x2 x3 x4 x5) 0 384 (by omega) (by omega) _ _ _ _ d r).trans ((q0 x0 x1 x2 x3 x4 x5 _ _).trans (TB_of (QB x0 x1 x2 x3 x4 x5) _ _ _ _ _ _ (by first | rfl | omega | (dsimp only; omega)) (by first | rfl | omega | (dsimp only; omega)))),
    Slab.tile (TB (QB x0 x1 x2 x3 x4 x5)) _ 2 1 inb_S1x8x2x128x256_S1x1x1x128x256_0_2_1_0_0 (by omega) (by omega) fun d r =>
      (cut (k0_pay63 (F := Ideal) x0 x1 x2 x3 x4 x5) 256 256 (by omega) (by omega) _ _ _ _ d r).trans ((q0 x0 x1 x2 x3 x4 x5 _ _).trans (TB_of (QB x0 x1 x2 x3 x4 x5) _ _ _ _ _ _ (by first | rfl | omega | (dsimp only; omega)) (by first | rfl | omega | (dsimp only; omega)))),
    Slab.tile (TB (QB x0 x1 x2 x3 x4 x5)) _ 2 0 inb_S1x8x2x128x256_S1x1x1x128x256_0_2_0_0_0 (by omega) (by omega) fun d r =>
      (cut (k0_pay63 (F := Ideal) x0 x1 x2 x3 x4 x5) 0 256 (by omega) (by omega) _ _ _ _ d r).trans ((q0 x0 x1 x2 x3 x4 x5 _ _).trans (TB_of (QB x0 x1 x2 x3 x4 x5) _ _ _ _ _ _ (by first | rfl | omega | (dsimp only; omega)) (by first | rfl | omega | (dsimp only; omega)))),
    Slab.tile (TB (QB x0 x1 x2 x3 x4 x5)) _ 1 1 inb_S1x8x2x128x256_S1x1x1x128x256_0_1_1_0_0 (by omega) (by omega) fun d r =>
      (cut (k0_pay63 (F := Ideal) x0 x1 x2 x3 x4 x5) 256 128 (by omega) (by omega) _ _ _ _ d r).trans ((q0 x0 x1 x2 x3 x4 x5 _ _).trans (TB_of (QB x0 x1 x2 x3 x4 x5) _ _ _ _ _ _ (by first | rfl | omega | (dsimp only; omega)) (by first | rfl | omega | (dsimp only; omega)))),
    Slab.tile (TB (QB x0 x1 x2 x3 x4 x5)) _ 1 0 inb_S1x8x2x128x256_S1x1x1x128x256_0_1_0_0_0 (by omega) (by omega) fun d r =>
      (cut (k0_pay63 (F := Ideal) x0 x1 x2 x3 x4 x5) 0 128 (by omega) (by omega) _ _ _ _ d r).trans ((q0 x0 x1 x2 x3 x4 x5 _ _).trans (TB_of (QB x0 x1 x2 x3 x4 x5) _ _ _ _ _ _ (by first | rfl | omega | (dsimp only; omega)) (by first | rfl | omega | (dsimp only; omega)))),
    Slab.tile (TB (QB x0 x1 x2 x3 x4 x5)) _ 0 1 inb_S1x8x2x128x256_S1x1x1x128x256_0_0_1_0_0 (by omega) (by omega) fun d r =>
      (cut (k0_pay63 (F := Ideal) x0 x1 x2 x3 x4 x5) 256 0 (by omega) (by omega) _ _ _ _ d r).trans ((q0 x0 x1 x2 x3 x4 x5 _ _).trans (TB_of (QB x0 x1 x2 x3 x4 x5) _ _ _ _ _ _ (by first | rfl | omega | (dsimp only; omega)) (by first | rfl | omega | (dsimp only; omega)))),
    Slab.tile (TB (QB x0 x1 x2 x3 x4 x5)) _ 0 0 inb_S1x8x2x128x256_S1x1x1x128x256_0_0_0_0_0 (by omega) (by omega) fun d r =>
      (cut (k0_pay63 (F := Ideal) x0 x1 x2 x3 x4 x5) 0 0 (by omega) (by omega) _ _ _ _ d r).trans ((q0 x0 x1 x2 x3 x4 x5 _ _).trans (TB_of (QB x0 x1 x2 x3 x4 x5) _ _ _ _ _ _ (by first | rfl | omega | (dsimp only; omega)) (by first | rfl | omega | (dsimp only; omega)))), trivial⟩

/-- What the body leaves in the block of the transposed values. -/
theorem out11_eq (x0 : Vec Ideal S512x1024 .f32) (x1 : Vec Ideal S1x1024 .f32) (x2 : Vec Ideal S1024x4096 .bf16) (x3 x4 : Vec Ideal S1x1024 .f32) (x5 : Vec Ideal S256x256 .bf16) : out0_11 (F := Ideal) x0 x1 x2 x3 x4 x5 = TB (VB x0 x1 x2 x3 x4 x5) := by
  funext y
  unfold out0_11
  refine View.canon_apply_of_pieces _ _ (View.PiecesOf.mem ?_) y (cover0_11 (F := Ideal) _ _ _ _ _ _ _ _ _ _ _ _ _ _ _ _ y)
  refine ⟨Slab.tile (TB (VB x0 x1 x2 x3 x4 x5)) _ 7 1 inb_S1x8x2x128x256_S1x1x1x128x256_0_7_1_0_0 (by omega) (by omega) fun d r =>
      (cut (k0_pay76 (F := Ideal) x0 x1 x2 x3 x4 x5) 256 384 (by omega) (by omega) _ _ _ _ d r).trans ((v1 x0 x1 x2 x3 x4 x5 _ _).trans (TB_of (VB x0 x1 x2 x3 x4 x5) _ _ _ _ _ _ (by first | rfl | omega | (dsimp only; omega)) (by first | rfl | omega | (dsimp only; omega)))),
    Slab.tile (TB (VB x0 x1 x2 x3 x4 x5)) _ 7 0 inb_S1x8x2x128x256_S1x1x1x128x256_0_7_0_0_0 (by omega) (by omega) fun d r =>
      (cut (k0_pay76 (F := Ideal) x0 x1 x2 x3 x4 x5) 0 384 (by omega) (by omega) _ _ _ _ d r).trans ((v1 x0 x1 x2 x3 x4 x5 _ _).trans (TB_of (VB x0 x1 x2 x3 x4 x5) _ _ _ _ _ _ (by first | rfl | omega | (dsimp only; omega)) (by first | rfl | omega | (dsimp only; omega)))),
    Slab.tile (TB (VB x0 x1 x2 x3 x4 x5)) _ 6 1 inb_S1x8x2x128x256_S1x1x1x128x256_0_6_1_0_0 (by omega) (by omega) fun d r =>
      (cut (k0_pay76 (F := Ideal) x0 x1 x2 x3 x4 x5) 256 256 (by omega) (by omega) _ _ _ _ d r).trans ((v1 x0 x1 x2 x3 x4 x5 _ _).trans (TB_of (VB x0 x1 x2 x3 x4 x5) _ _ _ _ _ _ (by first | rfl | omega | (dsimp only; omega)) (by first | rfl | omega | (dsimp only; omega)))),
    Slab.tile (TB (VB x0 x1 x2 x3 x4 x5)) _ 6 0 inb_S1x8x2x128x256_S1x1x1x128x256_0_6_0_0_0 (by omega) (by omega) fun d r =>
      (cut (k0_pay76 (F := Ideal) x0 x1 x2 x3 x4 x5) 0 256 (by omega) (by omega) _ _ _ _ d r).trans ((v1 x0 x1 x2 x3 x4 x5 _ _).trans (TB_of (VB x0 x1 x2 x3 x4 x5) _ _ _ _ _ _ (by first | rfl | omega | (dsimp only; omega)) (by first | rfl | omega | (dsimp only; omega)))),
    Slab.tile (TB (VB x0 x1 x2 x3 x4 x5)) _ 5 1 inb_S1x8x2x128x256_S1x1x1x128x256_0_5_1_0_0 (by omega) (by omega) fun d r =>
      (cut (k0_pay76 (F := Ideal) x0 x1 x2 x3 x4 x5) 256 128 (by omega) (by omega) _ _ _ _ d r).trans ((v1 x0 x1 x2 x3 x4 x5 _ _).trans (TB_of (VB x0 x1 x2 x3 x4 x5) _ _ _ _ _ _ (by first | rfl | omega | (dsimp only; omega)) (by first | rfl | omega | (dsimp only; omega)))),
    Slab.tile (TB (VB x0 x1 x2 x3 x4 x5)) _ 5 0 inb_S1x8x2x128x256_S1x1x1x128x256_0_5_0_0_0 (by omega) (by omega) fun d r =>
      (cut (k0_pay76 (F := Ideal) x0 x1 x2 x3 x4 x5) 0 128 (by omega) (by omega) _ _ _ _ d r).trans ((v1 x0 x1 x2 x3 x4 x5 _ _).trans (TB_of (VB x0 x1 x2 x3 x4 x5) _ _ _ _ _ _ (by first | rfl | omega | (dsimp only; omega)) (by first | rfl | omega | (dsimp only; omega)))),
    Slab.tile (TB (VB x0 x1 x2 x3 x4 x5)) _ 4 1 inb_S1x8x2x128x256_S1x1x1x128x256_0_4_1_0_0 (by omega) (by omega) fun d r =>
      (cut (k0_pay76 (F := Ideal) x0 x1 x2 x3 x4 x5) 256 0 (by omega) (by omega) _ _ _ _ d r).trans ((v1 x0 x1 x2 x3 x4 x5 _ _).trans (TB_of (VB x0 x1 x2 x3 x4 x5) _ _ _ _ _ _ (by first | rfl | omega | (dsimp only; omega)) (by first | rfl | omega | (dsimp only; omega)))),
    Slab.tile (TB (VB x0 x1 x2 x3 x4 x5)) _ 4 0 inb_S1x8x2x128x256_S1x1x1x128x256_0_4_0_0_0 (by omega) (by omega) fun d r =>
      (cut (k0_pay76 (F := Ideal) x0 x1 x2 x3 x4 x5) 0 0 (by omega) (by omega) _ _ _ _ d r).trans ((v1 x0 x1 x2 x3 x4 x5 _ _).trans (TB_of (VB x0 x1 x2 x3 x4 x5) _ _ _ _ _ _ (by first | rfl | omega | (dsimp only; omega)) (by first | rfl | omega | (dsimp only; omega)))),
    Slab.tile (TB (VB x0 x1 x2 x3 x4 x5)) _ 3 1 inb_S1x8x2x128x256_S1x1x1x128x256_0_3_1_0_0 (by omega) (by omega) fun d r =>
      (cut (k0_pay67 (F := Ideal) x0 x1 x2 x3 x4 x5) 256 384 (by omega) (by omega) _ _ _ _ d r).trans ((v0 x0 x1 x2 x3 x4 x5 _ _).trans (TB_of (VB x0 x1 x2 x3 x4 x5) _ _ _ _ _ _ (by first | rfl | omega | (dsimp only; omega)) (by first | rfl | omega | (dsimp only; omega)))),
    Slab.tile (TB (VB x0 x1 x2 x3 x4 x5)) _ 3 0 inb_S1x8x2x128x256_S1x1x1x128x256_0_3_0_0_0 (by omega) (by omega) fun d r =>
      (cut (k0_pay67 (F := Ideal) x0 x1 x2 x3 x4 x5) 0 384 (by omega) (by omega) _ _ _ _ d r).trans ((v0 x0 x1 x2 x3 x4 x5 _ _).trans (TB_of (VB x0 x1 x2 x3 x4 x5) _ _ _ _ _ _ (by first | rfl | omega | (dsimp only; omega)) (by first | rfl | omega | (dsimp only; omega)))),
    Slab.tile (TB (VB x0 x1 x2 x3 x4 x5)) _ 2 1 inb_S1x8x2x128x256_S1x1x1x128x256_0_2_1_0_0 (by omega) (by omega) fun d r =>
      (cut (k0_pay67 (F := Ideal) x0 x1 x2 x3 x4 x5) 256 256 (by omega) (by omega) _ _ _ _ d r).trans ((v0 x0 x1 x2 x3 x4 x5 _ _).trans (TB_of (VB x0 x1 x2 x3 x4 x5) _ _ _ _ _ _ (by first | rfl | omega | (dsimp only; omega)) (by first | rfl | omega | (dsimp only; omega)))),
    Slab.tile (TB (VB x0 x1 x2 x3 x4 x5)) _ 2 0 inb_S1x8x2x128x256_S1x1x1x128x256_0_2_0_0_0 (by omega) (by omega) fun d r =>
      (cut (k0_pay67 (F := Ideal) x0 x1 x2 x3 x4 x5) 0 256 (by omega) (by omega) _ _ _ _ d r).trans ((v0 x0 x1 x2 x3 x4 x5 _ _).trans (TB_of (VB x0 x1 x2 x3 x4 x5) _ _ _ _ _ _ (by first | rfl | omega | (dsimp only; omega)) (by first | rfl | omega | (dsimp only; omega)))),
    Slab.tile (TB (VB x0 x1 x2 x3 x4 x5)) _ 1 1 inb_S1x8x2x128x256_S1x1x1x128x256_0_1_1_0_0 (by omega) (by omega) fun d r =>
      (cut (k0_pay67 (F := Ideal) x0 x1 x2 x3 x4 x5) 256 128 (by omega) (by omega) _ _ _ _ d r).trans ((v0 x0 x1 x2 x3 x4 x5 _ _).trans (TB_of (VB x0 x1 x2 x3 x4 x5) _ _ _ _ _ _ (by first | rfl | omega | (dsimp only; omega)) (by first | rfl | omega | (dsimp only; omega)))),
    Slab.tile (TB (VB x0 x1 x2 x3 x4 x5)) _ 1 0 inb_S1x8x2x128x256_S1x1x1x128x256_0_1_0_0_0 (by omega) (by omega) fun d r =>
      (cut (k0_pay67 (F := Ideal) x0 x1 x2 x3 x4 x5) 0 128 (by omega) (by omega) _ _ _ _ d r).trans ((v0 x0 x1 x2 x3 x4 x5 _ _).trans (TB_of (VB x0 x1 x2 x3 x4 x5) _ _ _ _ _ _ (by first | rfl | omega | (dsimp only; omega)) (by first | rfl | omega | (dsimp only; omega)))),
    Slab.tile (TB (VB x0 x1 x2 x3 x4 x5)) _ 0 1 inb_S1x8x2x128x256_S1x1x1x128x256_0_0_1_0_0 (by omega) (by omega) fun d r =>
      (cut (k0_pay67 (F := Ideal) x0 x1 x2 x3 x4 x5) 256 0 (by omega) (by omega) _ _ _ _ d r).trans ((v0 x0 x1 x2 x3 x4 x5 _ _).trans (TB_of (VB x0 x1 x2 x3 x4 x5) _ _ _ _ _ _ (by first | rfl | omega | (dsimp only; omega)) (by first | rfl | omega | (dsimp only; omega)))),
    Slab.tile (TB (VB x0 x1 x2 x3 x4 x5)) _ 0 0 inb_S1x8x2x128x256_S1x1x1x128x256_0_0_0_0_0 (by omega) (by omega) fun d r =>
      (cut (k0_pay67 (F := Ideal) x0 x1 x2 x3 x4 x5) 0 0 (by omega) (by omega) _ _ _ _ d r).trans ((v0 x0 x1 x2 x3 x4 x5 _ _).trans (TB_of (VB x0 x1 x2 x3 x4 x5) _ _ _ _ _ _ (by first | rfl | omega | (dsimp only; omega)) (by first | rfl | omega | (dsimp only; omega)))), trivial⟩

end Cert.Kernel3Ideal.Block

end
-- ==== Proof.BArr.lean ====
module

public import proofs.«01_k».proof.Proof.BBlock
@[expose] public section

set_option maxRecDepth 16384

noncomputable section

namespace Cert.Kernel3Ideal.Block

open Cert.Kernel3Ideal Cert.Kernel3Ideal.Gen Idealize.ShloMosaic Idealize.ShloMosaic.TcCoe Idealize.SL.Sem

/-! The attention layer's projection: the six result arrays, from the arguments. -/

variable (m : (ℓ : Loc nD τ sig) → Buf (Elt Ideal) ℓ) (c : Dev nD) (t : Fin cfg0.N)

/-- The block of window 0 at a point. -/
theorem index0 : ∀ t : Fin cfg0.N, win0_0.index t = ![(t : ℕ), 0] := by decide +kernel
/-- The block of window 1 at a point. -/
theorem index1 : ∀ t : Fin cfg0.N, win0_1.index t = ![0, 0] := by decide +kernel
/-- The block of window 2 at a point. -/
theorem index2 : ∀ t : Fin cfg0.N, win0_2.index t = ![0, 0] := by decide +kernel
/-- The block of window 3 at a point. -/
theorem index3 : ∀ t : Fin cfg0.N, win0_3.index t = ![0, 0] := by decide +kernel
/-- The block of window 4 at a point. -/
theorem index4 : ∀ t : Fin cfg0.N, win0_4.index t = ![0, 0] := by decide +kernel
/-- The block of window 5 at a point. -/
theorem index5 : ∀ t : Fin cfg0.N, win0_5.index t = ![0, 0] := by decide +kernel
/-- The block of window 6 at a point. -/
theorem index6 : ∀ t : Fin cfg0.N, win0_6.index t = ![(t : ℕ), 0] := by decide +kernel
/-- The block of window 7 at a point. -/
theorem index7 : ∀ t : Fin cfg0.N, win0_7.index t = ![(t : ℕ), 0] := by decide +kernel
/-- The block of window 8 at a point. -/
theorem index8 : ∀ t : Fin cfg0.N, win0_8.index t = ![(t : ℕ), 0] := by decide +kernel
/-- The block of window 9 at a point. -/
theorem index9 : ∀ t : Fin cfg0.N, win0_9.index t = ![(t : ℕ) / 8, 0, (t : ℕ) % 8, 0, 0] := by decide +kernel
/-- The block of window 10 at a point. -/
theorem index10 : ∀ t : Fin cfg0.N, win0_10.index t = ![(t : ℕ), 0] := by decide +kernel
/-- The block of window 11 at a point. -/
theorem index11 : ∀ t : Fin cfg0.N, win0_11.index t = ![(t : ℕ) / 8, 0, (t : ℕ) % 8, 0, 0] := by decide +kernel

/-- The rows, flattened. -/
theorem V_main_v0 : V m c main_v0 = shapeCast S16384x1024 (m ((c : Thread nD τ).loc main_arg0)) shapeCasts_S4x4096x1024_S16384x1024 := by
  unfold_abbrev_sides
  simp only [hostOps0, hostOps0_1, hostOps0_2, hostOps0_3, hostOps0_4, List.flatten_cons, List.flatten_nil, List.append_nil, List.cons_append, List.nil_append]
  after_results
  rfl
/-- The gain as a row. -/
theorem V_main_v19 : V m c main_v19 = shapeCast S1x1024 (m ((c : Thread nD τ).loc main_arg1)) shapeCasts_S1024_S1x1024 := by
  unfold_abbrev_sides
  simp only [hostOps0, hostOps0_1, hostOps0_2, hostOps0_3, hostOps0_4, List.flatten_cons, List.flatten_nil, List.append_nil, List.cons_append, List.nil_append]
  after_results
  rfl
/-- The queries' gain, repeated. -/
theorem V_main_v14 : V m c main_v14 = shapeCast S1x1024 (shapeCast S1024 (broadcastInDim S16x64 ![0, 1] bcast_S1x64_S16x64_0_1
    (shapeCast S1x64 (m ((c : Thread nD τ).loc main_arg3)) shapeCasts_S64_S1x64)) shapeCasts_S16x64_S1024) shapeCasts_S1024_S1x1024 := by
  unfold_abbrev_sides
  simp only [hostOps0, hostOps0_1, hostOps0_2, hostOps0_3, hostOps0_4, List.flatten_cons, List.flatten_nil, List.append_nil, List.cons_append, List.nil_append]
  after_results
  rfl
/-- The keys' gain, repeated. -/
theorem V_main_v18 : V m c main_v18 = shapeCast S1x1024 (shapeCast S1024 (broadcastInDim S16x64 ![0, 1] bcast_S1x64_S16x64_0_1
    (shapeCast S1x64 (m ((c : Thread nD τ).loc main_arg4)) shapeCasts_S64_S1x64)) shapeCasts_S16x64_S1024) shapeCasts_S1024_S1x1024 := by
  unfold_abbrev_sides
  simp only [hostOps0, hostOps0_1, hostOps0_2, hostOps0_3, hostOps0_4, List.flatten_cons, List.flatten_nil, List.append_nil, List.cons_append, List.nil_append]
  after_results
  rfl
/-- Each number below 256, divided by 64 and rounded down, as the host works it out in a column. -/
def fcol : IVec S256x1 32 :=
  select (andi (cmpi .ne (signi (broadcastInDim S256x1 ![0] bcast_S256_S256x1_0 (iotaInDim S256 32 0))) (broadcastInDim S256x1 ![] bcast_S_S256x1 (signi (constantI S_ 32 64#32))))
      (cmpi .ne (Host.remsi (broadcastInDim S256x1 ![0] bcast_S256_S256x1_0 (iotaInDim S256 32 0)) (broadcastInDim S256x1 ![] bcast_S_S256x1 (constantI S_ 32 64#32)))
        (broadcastInDim S256x1 ![] bcast_S_S256x1 (constantI S_ 32 0#32))))
    (subi (Host.divsi (broadcastInDim S256x1 ![0] bcast_S256_S256x1_0 (iotaInDim S256 32 0)) (broadcastInDim S256x1 ![] bcast_S_S256x1 (constantI S_ 32 64#32)))
      (broadcastInDim S256x1 ![] bcast_S_S256x1 (constantI S_ 32 1#32)))
    (Host.divsi (broadcastInDim S256x1 ![0] bcast_S256_S256x1_0 (iotaInDim S256 32 0)) (broadcastInDim S256x1 ![] bcast_S_S256x1 (constantI S_ 32 64#32)))
/-- The same in a row. -/
def frow : IVec S1x256 32 :=
  select (andi (cmpi .ne (signi (broadcastInDim S1x256 ![1] bcast_S256_S1x256_1 (iotaInDim S256 32 0))) (broadcastInDim S1x256 ![] bcast_S_S1x256 (signi (constantI S_ 32 64#32))))
      (cmpi .ne (Host.remsi (broadcastInDim S1x256 ![1] bcast_S256_S1x256_1 (iotaInDim S256 32 0)) (broadcastInDim S1x256 ![] bcast_S_S1x256 (constantI S_ 32 64#32)))
        (broadcastInDim S1x256 ![] bcast_S_S1x256 (constantI S_ 32 0#32))))
    (subi (Host.divsi (broadcastInDim S1x256 ![1] bcast_S256_S1x256_1 (iotaInDim S256 32 0)) (broadcastInDim S1x256 ![] bcast_S_S1x256 (constantI S_ 32 64#32)))
      (broadcastInDim S1x256 ![] bcast_S_S1x256 (constantI S_ 32 1#32)))
    (Host.divsi (broadcastInDim S1x256 ![1] bcast_S256_S1x256_1 (iotaInDim S256 32 0)) (broadcastInDim S1x256 ![] bcast_S_S1x256 (constantI S_ 32 64#32)))
/-- Which pairs of 256 columns lie in one part of 64. -/
theorem V_main_v10 : V m c main_v10 = uitofp (F := Ideal) .bf16 (cmpi .eq (broadcastInDim S256x256 ![0, 1] bcast_S256x1_S256x256_0_1 fcol)
    (broadcastInDim S256x256 ![0, 1] bcast_S1x256_S256x256_0_1 frow)) := by
  unfold_abbrev_sides
  simp only [hostOps0, hostOps0_1, hostOps0_2, hostOps0_3, hostOps0_4, List.flatten_cons, List.flatten_nil, List.append_nil, List.cons_append, List.nil_append]
  after_results
  simp only [StableHlo.TRef.ofBuf_toBuf]
  rfl
/-- An entry of the column. -/
theorem fcol_at (a : Fin 256) : fcol (ix2 a 0) = BitVec.ofNat 32 ((a : ℕ) / 64) := by
  unfold fcol
  pointwise
  revert a
  decide +kernel
/-- An entry of the row. -/
theorem frow_at (a : Fin 256) : frow (ix2 0 a) = BitVec.ofNat 32 ((a : ℕ) / 64) := by
  unfold frow
  pointwise
  revert a
  decide +kernel
/-- Whether two columns lie in one part of 64. -/
theorem same_part (a b : Fin 256) : (uitofp (F := Ideal) .bf16 (cmpi .eq (broadcastInDim S256x256 ![0, 1] bcast_S256x1_S256x256_0_1 fcol)
    (broadcastInDim S256x256 ![0, 1] bcast_S1x256_S256x256_0_1 frow)) (ix2 a b) : EReal) = if (a : ℕ) / 64 = (b : ℕ) / 64 then 1 else 0 := by
  pointwise
  rw [fcol_at, frow_at]
  have h : ∀ i j : Fin 4, IntOp.cmpi CmpIPredicate.eq (BitVec.ofNat 32 (i : ℕ)) (BitVec.ofNat 32 (j : ℕ)) = if (i : ℕ) = (j : ℕ) then 1#1 else 0#1 := by decide +kernel
  rw [show IntOp.cmpi CmpIPredicate.eq (BitVec.ofNat 32 ((a : ℕ) / 64)) (BitVec.ofNat 32 ((b : ℕ) / 64)) = _ from h ⟨(a : ℕ) / 64, by omega⟩ ⟨(b : ℕ) / 64, by omega⟩]
  dsimp only
  split_ifs
  · simp [FloatOps.uitofp]
  · simp [FloatOps.uitofp]
/-- Where a point's row lies among the flattened rows. -/
theorem emb0 (r : Fin 512) (k : Fin 1024) (ht : (t : ℕ) < 32) : (win0_0.blk t).view.emb (ix2 r k) = ix2 (n0 := 16384) (n1 := 1024) ⟨512 * (t : ℕ) + r, by omega⟩ k := by
  blk_ext [index0 t]
/-- A flattened row is a row of its prompt. -/
theorem flat_row (x : FVec Ideal S4x4096x1024 .f32) (r : Fin 16384) (k : Fin 1024) : shapeCast S16384x1024 x shapeCasts_S4x4096x1024_S16384x1024 (ix2 r k)
    = x (ix3 ⟨(r : ℕ) / 4096, by omega⟩ ⟨(r : ℕ) % 4096, by omega⟩ k) := by
  pointwise
theorem cutA (r : Fin 512) (k : Fin 1024) : iblk m c 0 t (ix2 r k) = V m c main_v0 ((win0_0.blk t).view.emb (ix2 r k)) := rfl
/-- Row `r` of a point's block of rows is row `512 t + r` of the flattened rows. -/
theorem blk0 (r : Fin 512) (k : Fin 1024) : iblk m c 0 t (ix2 r k) = (m ((c : Thread nD τ).loc main_arg0))
    (ix3 ⟨(512 * (t : ℕ) + r) / 4096, by have : (t : ℕ) < 32 := t.isLt; omega⟩ ⟨(512 * (t : ℕ) + r) % 4096, by omega⟩ k) := by
  have ht : (t : ℕ) < 32 := t.isLt
  rw [cutA, emb0 t r k ht, V_main_v0]
  exact flat_row _ _ _
/-- The gain's block is the gain, as a row. -/
theorem blk1 (k : Fin 1024) : iblk m c 1 t (ix2 0 k) = (m ((c : Thread nD τ).loc main_arg1)) (ix1 k) := by
  have e : (win0_1.blk t).view.emb (ix2 0 k) = ix2 (n0 := 1) (n1 := 1024) 0 k := by blk_ext [index1 t]
  show V m c main_v19 ((win0_1.blk t).view.emb _) = _
  rw [e, V_main_v19]
  pointwise
/-- The weights' block is the input weights. -/
theorem blk2 (k : Fin 1024) (j : Fin 4096) : iblk m c 2 t (ix2 k j) = (m ((c : Thread nD τ).loc main_arg2)) (ix2 k j) := by
  blk_ext! [iblk, V, index2 t]
/-- The queries' gain, repeated for each half head. -/
theorem blk3 (j : Fin 1024) : iblk m c 3 t (ix2 0 j) = (m ((c : Thread nD τ).loc main_arg3)) (ix1 ⟨(j : ℕ) % 64, by omega⟩) := by
  have e : (win0_3.blk t).view.emb (ix2 0 j) = ix2 (n0 := 1) (n1 := 1024) 0 j := by blk_ext [index3 t]
  show V m c main_v14 ((win0_3.blk t).view.emb _) = _
  rw [e, V_main_v14]
  pointwise
/-- The keys' gain, repeated for each half head. -/
theorem blk4 (j : Fin 1024) : iblk m c 4 t (ix2 0 j) = (m ((c : Thread nD τ).loc main_arg4)) (ix1 ⟨(j : ℕ) % 64, by omega⟩) := by
  have e : (win0_4.blk t).view.emb (ix2 0 j) = ix2 (n0 := 1) (n1 := 1024) 0 j := by blk_ext [index4 t]
  show V m c main_v18 ((win0_4.blk t).view.emb _) = _
  rw [e, V_main_v18]
  pointwise
/-- The matrix of the parts. -/
theorem blk5 (a b : Fin 256) : iblk m c 5 t (ix2 a b) = (if (a : ℕ) / 64 = (b : ℕ) / 64 then 1 else 0 : EReal) := by
  have e : (win0_5.blk t).view.emb (ix2 a b) = ix2 (n0 := 256) (n1 := 256) a b := by blk_ext [index5 t]
  show V m c main_v10 ((win0_5.blk t).view.emb _) = _
  rw [e, V_main_v10]
  exact same_part a b

/-! What the result arrays hold. -/

/-- The word of 64. -/
theorem word_64 : Ideal.ofBits .f32 0x42800000#32 = ((64 : ℝ) : EReal) := by
  simp [Ideal.ofBits, Ideal.ieee, -EReal.coe_mul]; norm_num
/-- The word of 1/64. -/
theorem word_inv_64 : Ideal.ofBits .f32 0x3C800000#32 = (((1 : ℝ) / 64 : ℝ) : EReal) := by
  simp [Ideal.ofBits, Ideal.ieee, -EReal.coe_mul]; norm_num

/-- A row `P` of 1024 columns, each part of 64 under its own norm, times `g`. -/
def partA (P : Fin 1024 → EReal) (g : Fin 1024 → EReal) (j : Fin 1024) : EReal :=
  P j * Ideal.rsqrt (Ideal.div (∑ i : Fin 64, P ⟨64 * ((j : ℕ) / 64) + i, by omega⟩ * P ⟨64 * ((j : ℕ) / 64) + i, by omega⟩) (Ideal.ofBits FTy.f32 0x42800000#32)
    + Ideal.ofBits FTy.f32 0x358637BD#32) * g j

/-- Summing over 256 columns what lies in one part is summing over the part. -/
theorem sum_part (F : Fin 256 → EReal) (k : Fin 256) :
    (∑ s : Fin 256, F s * (if (s : ℕ) / 64 = (k : ℕ) / 64 then 1 else 0 : EReal)) = ∑ i : Fin 64, F ⟨64 * ((k : ℕ) / 64) + i, by omega⟩ := by
  rw [← (finProdFinEquiv (m := 4) (n := 64)).sum_comp, Fintype.sum_prod_type]
  rw [Finset.sum_eq_single (⟨(k : ℕ) / 64, by omega⟩ : Fin 4)]
  · refine Finset.sum_congr rfl fun s _ => ?_
    have hs := s.isLt
    have e : (finProdFinEquiv (m := 4) (n := 64)) (⟨(k : ℕ) / 64, by omega⟩, s) = (⟨64 * ((k : ℕ) / 64) + s, by omega⟩ : Fin 256) :=
      Fin.ext (by show (s : ℕ) + 64 * ((k : ℕ) / 64) = _; exact add_comm _ _)
    rw [e, if_pos (by show (64 * ((k : ℕ) / 64) + (s : ℕ)) / 64 = _; omega), mul_one]
  · intro a _ ha
    refine Finset.sum_eq_zero fun s _ => ?_
    have hs := s.isLt
    have e : (((finProdFinEquiv (m := 4) (n := 64)) (a, s) : Fin 256) : ℕ) = s + 64 * a := rfl
    have ha' : (a : ℕ) ≠ (k : ℕ) / 64 := fun h => ha (Fin.ext h)
    rw [if_neg (by rw [e]; omega), mul_zero]
  · intro h
    exact absurd (Finset.mem_univ _) h

/-- The norm by the matrix of the parts is the norm of the part. -/
theorem part_eq (P g : Fin 1024 → EReal) (j : Fin 1024) :
    part P (fun s k => (if (s : ℕ) / 64 = (k : ℕ) / 64 then 1 else 0 : EReal)) g j = partA P g j := by
  unfold part partA
  rw [sum_part (fun s => P ⟨256 * ((j : ℕ) / 256) + s, by omega⟩ * P ⟨256 * ((j : ℕ) / 256) + s, by omega⟩) ⟨(j : ℕ) % 256, by omega⟩, word_64, word_inv_64,
    Ideal.div_coe (by norm_num)]
  have e : ∀ i : Fin 64, 256 * ((j : ℕ) / 256) + (64 * ((j : ℕ) % 256 / 64) + i) = 64 * ((j : ℕ) / 64) + i := fun i => by omega
  simp only [e]

/-- The normed rows against column `j` of the input weights. -/
def linA (X : S4x4096x1024.Idx → EReal) (g : S1024.Idx → EReal) (w : S1024x4096.Idx → EReal) (r : Fin 16384) (j : Fin 4096) : EReal :=
  Slab.lin (fun k => X (ix3 ⟨(r : ℕ) / 4096, by omega⟩ ⟨(r : ℕ) % 4096, by omega⟩ k)) (fun k => g (ix1 k)) (fun k j => w (ix2 k j)) j
/-- The scaled queries. -/
def QF (X : S4x4096x1024.Idx → EReal) (g : S1024.Idx → EReal) (w : S1024x4096.Idx → EReal) (n : S64.Idx → EReal) (r : Fin 16384) (j : Fin 1024) : EReal :=
  partA (fun j => linA X g w r ⟨j, by omega⟩) (fun j => n (ix1 ⟨(j : ℕ) % 64, by omega⟩) * Ideal.ofBits FTy.f32 0x3E38AA3B#32) j
/-- The keys. -/
def KF (X : S4x4096x1024.Idx → EReal) (g : S1024.Idx → EReal) (w : S1024x4096.Idx → EReal) (n : S64.Idx → EReal) (r : Fin 16384) (j : Fin 1024) : EReal :=
  partA (fun j => linA X g w r ⟨1024 + j, by omega⟩) (fun j => n (ix1 ⟨(j : ℕ) % 64, by omega⟩)) j
/-- The values. -/
def VF (X : S4x4096x1024.Idx → EReal) (g : S1024.Idx → EReal) (w : S1024x4096.Idx → EReal) (r : Fin 16384) (j : Fin 1024) : EReal :=
  linA X g w r ⟨2048 + j, by omega⟩
/-- The gate. -/
def ZF (X : S4x4096x1024.Idx → EReal) (g : S1024.Idx → EReal) (w : S1024x4096.Idx → EReal) (r : Fin 16384) (j : Fin 1024) : EReal :=
  linA X g w r ⟨3072 + j, by omega⟩
/-- Rows as one array. -/
def RA (f : Fin 16384 → Fin 1024 → EReal) (i : S16384x1024.Idx) : EReal := f (i 0) (i 1)
/-- Rows as a stack of transposed blocks, prompt by prompt and head by head. -/
def TA (f : Fin 16384 → Fin 1024 → EReal) (i : S4x8x16x128x256.Idx) : EReal :=
  f ⟨4096 * (i 0 : ℕ) + (256 * (i 2 : ℕ) + (i 4 : ℕ)), by have := (i 0).isLt; have := (i 2).isLt; have := (i 4).isLt; change (i 0 : ℕ) < 4 at *; change (i 2 : ℕ) < 16 at *; change (i 4 : ℕ) < 256 at *; omega⟩
    ⟨128 * (i 1 : ℕ) + (i 3 : ℕ), by have := (i 1).isLt; have := (i 3).isLt; change (i 1 : ℕ) < 8 at *; change (i 3 : ℕ) < 128 at *; omega⟩

/-- A point's rows against a column of the weights. -/
theorem LB_eq (r : Fin 512) (j : Fin 4096) (ht : (t : ℕ) < 32) : LB (iblk m c 0 t) (iblk m c 1 t) (iblk m c 2 t) r j =
    linA (m ((c : Thread nD τ).loc main_arg0)) (m ((c : Thread nD τ).loc main_arg1)) (m ((c : Thread nD τ).loc main_arg2)) ⟨512 * (t : ℕ) + r, by omega⟩ j := by
  simp only [LB, blk0, blk1, blk2]
  rfl
/-- A point's queries. -/
theorem QB_eq (r : Fin 512) (j : Fin 1024) (ht : (t : ℕ) < 32) : QB (iblk m c 0 t) (iblk m c 1 t) (iblk m c 2 t) (iblk m c 3 t) (iblk m c 4 t) (iblk m c 5 t) r j = QF (m ((c : Thread nD τ).loc main_arg0)) (m ((c : Thread nD τ).loc main_arg1)) (m ((c : Thread nD τ).loc main_arg2)) (m ((c : Thread nD τ).loc main_arg3)) ⟨512 * (t : ℕ) + r, by omega⟩ j := by
  simp only [QB, QF, blk3, blk4, blk5, part_eq, LB_eq m c t _ _ ht]
/-- A point's keys. -/
theorem KB_eq (r : Fin 512) (j : Fin 1024) (ht : (t : ℕ) < 32) : KB (iblk m c 0 t) (iblk m c 1 t) (iblk m c 2 t) (iblk m c 3 t) (iblk m c 4 t) (iblk m c 5 t) r j = KF (m ((c : Thread nD τ).loc main_arg0)) (m ((c : Thread nD τ).loc main_arg1)) (m ((c : Thread nD τ).loc main_arg2)) (m ((c : Thread nD τ).loc main_arg4)) ⟨512 * (t : ℕ) + r, by omega⟩ j := by
  simp only [KB, KF, blk3, blk4, blk5, part_eq, LB_eq m c t _ _ ht]
/-- A point's values. -/
theorem VB_eq (r : Fin 512) (j : Fin 1024) (ht : (t : ℕ) < 32) : VB (iblk m c 0 t) (iblk m c 1 t) (iblk m c 2 t) (iblk m c 3 t) (iblk m c 4 t) (iblk m c 5 t) r j = VF (m ((c : Thread nD τ).loc main_arg0)) (m ((c : Thread nD τ).loc main_arg1)) (m ((c : Thread nD τ).loc main_arg2)) ⟨512 * (t : ℕ) + r, by omega⟩ j := by
  simp only [VB, VF, LB_eq m c t _ _ ht]
/-- A point's gate. -/
theorem ZB_eq (r : Fin 512) (j : Fin 1024) (ht : (t : ℕ) < 32) : ZB (iblk m c 0 t) (iblk m c 1 t) (iblk m c 2 t) (iblk m c 3 t) (iblk m c 4 t) (iblk m c 5 t) r j = ZF (m ((c : Thread nD τ).loc main_arg0)) (m ((c : Thread nD τ).loc main_arg1)) (m ((c : Thread nD τ).loc main_arg2)) ⟨512 * (t : ℕ) + r, by omega⟩ j := by
  simp only [ZB, ZF, LB_eq m c t _ _ ht]
/-- The array of the keys after the run. -/
theorem arr6_eq : (dats m 0 c).arrAt 6 cfg0.N = RA (KF (m ((c : Thread nD τ).loc main_arg0)) (m ((c : Thread nD τ).loc main_arg1)) (m ((c : Thread nD τ).loc main_arg2)) (m ((c : Thread nD τ).loc main_arg4))) := by
  refine (dats m 0 c).arrAt_eq_of_covers 6 _ (by decide +kernel) fun t hf y => ?_
  obtain ⟨r, j, rfl⟩ : ∃ (r : Fin 512) (j : Fin 1024), y = ix2 r j := ⟨y 0, y 1, eq_ix2 _⟩
  have ht : (t : ℕ) < 32 := lt_of_lt_of_eq t.isLt (by decide)
  have e : ((cfg0.win 6).blk t).view.emb (ix2 r j) = ix2 (n0 := 16384) (n1 := 1024) ⟨512 * (t : ℕ) + r, by omega⟩ j := by
    blk_ext [index6 t]
  have ex : (cfg0.win 6).xinj (cfg0.grid.coords t) (ix2 r j) = ix2 (n0 := 512) (n1 := 1024) r j := rfl
  have eb : RB (KB (iblk m c 0 t) (iblk m c 1 t) (iblk m c 2 t) (iblk m c 3 t) (iblk m c 4 t) (iblk m c 5 t)) (ix2 (n0 := 512) (n1 := 1024) r j) = RA (KF (m ((c : Thread nD τ).loc main_arg0)) (m ((c : Thread nD τ).loc main_arg1)) (m ((c : Thread nD τ).loc main_arg2)) (m ((c : Thread nD τ).loc main_arg4))) (ix2 (n0 := 16384) (n1 := 1024) ⟨512 * (t : ℕ) + r, by omega⟩ j) := KB_eq m c t r j ht
  rw [e, after0_6, out6_eq, ex, eb]
  exact cast_eq _ _
/-- The array of the values after the run. -/
theorem arr7_eq : (dats m 0 c).arrAt 7 cfg0.N = RA (VF (m ((c : Thread nD τ).loc main_arg0)) (m ((c : Thread nD τ).loc main_arg1)) (m ((c : Thread nD τ).loc main_arg2))) := by
  refine (dats m 0 c).arrAt_eq_of_covers 7 _ (by decide +kernel) fun t hf y => ?_
  obtain ⟨r, j, rfl⟩ : ∃ (r : Fin 512) (j : Fin 1024), y = ix2 r j := ⟨y 0, y 1, eq_ix2 _⟩
  have ht : (t : ℕ) < 32 := lt_of_lt_of_eq t.isLt (by decide)
  have e : ((cfg0.win 7).blk t).view.emb (ix2 r j) = ix2 (n0 := 16384) (n1 := 1024) ⟨512 * (t : ℕ) + r, by omega⟩ j := by
    blk_ext [index7 t]
  have ex : (cfg0.win 7).xinj (cfg0.grid.coords t) (ix2 r j) = ix2 (n0 := 512) (n1 := 1024) r j := rfl
  have eb : RB (VB (iblk m c 0 t) (iblk m c 1 t) (iblk m c 2 t) (iblk m c 3 t) (iblk m c 4 t) (iblk m c 5 t)) (ix2 (n0 := 512) (n1 := 1024) r j) = RA (VF (m ((c : Thread nD τ).loc main_arg0)) (m ((c : Thread nD τ).loc main_arg1)) (m ((c : Thread nD τ).loc main_arg2))) (ix2 (n0 := 16384) (n1 := 1024) ⟨512 * (t : ℕ) + r, by omega⟩ j) := VB_eq m c t r j ht
  rw [e, after0_7, out7_eq, ex, eb]
  exact cast_eq _ _
/-- The array of the gate after the run. -/
theorem arr8_eq : (dats m 0 c).arrAt 8 cfg0.N = RA (ZF (m ((c : Thread nD τ).loc main_arg0)) (m ((c : Thread nD τ).loc main_arg1)) (m ((c : Thread nD τ).loc main_arg2))) := by
  refine (dats m 0 c).arrAt_eq_of_covers 8 _ (by decide +kernel) fun t hf y => ?_
  obtain ⟨r, j, rfl⟩ : ∃ (r : Fin 512) (j : Fin 1024), y = ix2 r j := ⟨y 0, y 1, eq_ix2 _⟩
  have ht : (t : ℕ) < 32 := lt_of_lt_of_eq t.isLt (by decide)
  have e : ((cfg0.win 8).blk t).view.emb (ix2 r j) = ix2 (n0 := 16384) (n1 := 1024) ⟨512 * (t : ℕ) + r, by omega⟩ j := by
    blk_ext [index8 t]
  have ex : (cfg0.win 8).xinj (cfg0.grid.coords t) (ix2 r j) = ix2 (n0 := 512) (n1 := 1024) r j := rfl
  have eb : RB (ZB (iblk m c 0 t) (iblk m c 1 t) (iblk m c 2 t) (iblk m c 3 t) (iblk m c 4 t) (iblk m c 5 t)) (ix2 (n0 := 512) (n1 := 1024) r j) = RA (ZF (m ((c : Thread nD τ).loc main_arg0)) (m ((c : Thread nD τ).loc main_arg1)) (m ((c : Thread nD τ).loc main_arg2))) (ix2 (n0 := 16384) (n1 := 1024) ⟨512 * (t : ℕ) + r, by omega⟩ j) := ZB_eq m c t r j ht
  rw [e, after0_8, out8_eq, ex, eb]
  exact cast_eq _ _
/-- The array of the keys' copy after the run. -/
theorem arr10_eq : (dats m 0 c).arrAt 10 cfg0.N = RA (KF (m ((c : Thread nD τ).loc main_arg0)) (m ((c : Thread nD τ).loc main_arg1)) (m ((c : Thread nD τ).loc main_arg2)) (m ((c : Thread nD τ).loc main_arg4))) := by
  refine (dats m 0 c).arrAt_eq_of_covers 10 _ (by decide +kernel) fun t hf y => ?_
  obtain ⟨r, j, rfl⟩ : ∃ (r : Fin 512) (j : Fin 1024), y = ix2 r j := ⟨y 0, y 1, eq_ix2 _⟩
  have ht : (t : ℕ) < 32 := lt_of_lt_of_eq t.isLt (by decide)
  have e : ((cfg0.win 10).blk t).view.emb (ix2 r j) = ix2 (n0 := 16384) (n1 := 1024) ⟨512 * (t : ℕ) + r, by omega⟩ j := by
    blk_ext [index10 t]
  have ex : (cfg0.win 10).xinj (cfg0.grid.coords t) (ix2 r j) = ix2 (n0 := 512) (n1 := 1024) r j := rfl
  have eb : RB (KB (iblk m c 0 t) (iblk m c 1 t) (iblk m c 2 t) (iblk m c 3 t) (iblk m c 4 t) (iblk m c 5 t)) (ix2 (n0 := 512) (n1 := 1024) r j) = RA (KF (m ((c : Thread nD τ).loc main_arg0)) (m ((c : Thread nD τ).loc main_arg1)) (m ((c : Thread nD τ).loc main_arg2)) (m ((c : Thread nD τ).loc main_arg4))) (ix2 (n0 := 16384) (n1 := 1024) ⟨512 * (t : ℕ) + r, by omega⟩ j) := KB_eq m c t r j ht
  rw [e, after0_10, out10_eq, ex, eb]
  exact cast_eq _ _
/-- The array of the transposed queries after the run. -/
theorem arr9_eq : (dats m 0 c).arrAt 9 cfg0.N = TA (QF (m ((c : Thread nD τ).loc main_arg0)) (m ((c : Thread nD τ).loc main_arg1)) (m ((c : Thread nD τ).loc main_arg2)) (m ((c : Thread nD τ).loc main_arg3))) := by
  refine (dats m 0 c).arrAt_eq_of_covers 9 _ (by decide +kernel) fun t hf y => ?_
  obtain ⟨z, h, b, d, r, rfl⟩ : ∃ (z : Fin 1) (h : Fin 8) (b : Fin 2) (d : Fin 128) (r : Fin 256), y = ix5 z h b d r := ⟨y 0, y 1, y 2, y 3, y 4, eq_ix5 _⟩
  obtain rfl : z = 0 := Subsingleton.elim _ _
  have ht : (t : ℕ) < 32 := lt_of_lt_of_eq t.isLt (by decide)
  have e : ((cfg0.win 9).blk t).view.emb (ix5 0 h b d r) = ix5 (n0 := 4) (n1 := 8) (n2 := 16) (n3 := 128) (n4 := 256) ⟨(t : ℕ) / 8, by omega⟩ h ⟨2 * ((t : ℕ) % 8) + b, by omega⟩ d r := by
    blk_ext [index9 t]
  have ex : (cfg0.win 9).xinj (cfg0.grid.coords t) (ix5 0 h b d r) = ix5 (n0 := 1) (n1 := 8) (n2 := 2) (n3 := 128) (n4 := 256) 0 h b d r := rfl
  have eb : TB (QB (iblk m c 0 t) (iblk m c 1 t) (iblk m c 2 t) (iblk m c 3 t) (iblk m c 4 t) (iblk m c 5 t)) (ix5 (n0 := 1) (n1 := 8) (n2 := 2) (n3 := 128) (n4 := 256) 0 h b d r) =
      TA (QF (m ((c : Thread nD τ).loc main_arg0)) (m ((c : Thread nD τ).loc main_arg1)) (m ((c : Thread nD τ).loc main_arg2)) (m ((c : Thread nD τ).loc main_arg3))) (ix5 (n0 := 4) (n1 := 8) (n2 := 16) (n3 := 128) (n4 := 256) ⟨(t : ℕ) / 8, by omega⟩ h ⟨2 * ((t : ℕ) % 8) + b, by omega⟩ d r) := by
    refine (QB_eq m c t _ _ ht).trans ?_
    show _ = (QF (m ((c : Thread nD τ).loc main_arg0)) (m ((c : Thread nD τ).loc main_arg1)) (m ((c : Thread nD τ).loc main_arg2)) (m ((c : Thread nD τ).loc main_arg3))) _ _
    refine congrArg₂ (QF (m ((c : Thread nD τ).loc main_arg0)) (m ((c : Thread nD τ).loc main_arg1)) (m ((c : Thread nD τ).loc main_arg2)) (m ((c : Thread nD τ).loc main_arg3))) (Fin.ext ?_) rfl
    show 512 * (t : ℕ) + (256 * (b : ℕ) + (r : ℕ)) = 4096 * ((t : ℕ) / 8) + (256 * (2 * ((t : ℕ) % 8) + (b : ℕ)) + (r : ℕ))
    omega
  rw [e, after0_9, out9_eq, ex, eb]
  exact cast_eq _ _
/-- The array of the transposed values after the run. -/
theorem arr11_eq : (dats m 0 c).arrAt 11 cfg0.N = TA (VF (m ((c : Thread nD τ).loc main_arg0)) (m ((c : Thread nD τ).loc main_arg1)) (m ((c : Thread nD τ).loc main_arg2))) := by
  refine (dats m 0 c).arrAt_eq_of_covers 11 _ (by decide +kernel) fun t hf y => ?_
  obtain ⟨z, h, b, d, r, rfl⟩ : ∃ (z : Fin 1) (h : Fin 8) (b : Fin 2) (d : Fin 128) (r : Fin 256), y = ix5 z h b d r := ⟨y 0, y 1, y 2, y 3, y 4, eq_ix5 _⟩
  obtain rfl : z = 0 := Subsingleton.elim _ _
  have ht : (t : ℕ) < 32 := lt_of_lt_of_eq t.isLt (by decide)
  have e : ((cfg0.win 11).blk t).view.emb (ix5 0 h b d r) = ix5 (n0 := 4) (n1 := 8) (n2 := 16) (n3 := 128) (n4 := 256) ⟨(t : ℕ) / 8, by omega⟩ h ⟨2 * ((t : ℕ) % 8) + b, by omega⟩ d r := by
    blk_ext [index11 t]
  have ex : (cfg0.win 11).xinj (cfg0.grid.coords t) (ix5 0 h b d r) = ix5 (n0 := 1) (n1 := 8) (n2 := 2) (n3 := 128) (n4 := 256) 0 h b d r := rfl
  have eb : TB (VB (iblk m c 0 t) (iblk m c 1 t) (iblk m c 2 t) (iblk m c 3 t) (iblk m c 4 t) (iblk m c 5 t)) (ix5 (n0 := 1) (n1 := 8) (n2 := 2) (n3 := 128) (n4 := 256) 0 h b d r) =
      TA (VF (m ((c : Thread nD τ).loc main_arg0)) (m ((c : Thread nD τ).loc main_arg1)) (m ((c : Thread nD τ).loc main_arg2))) (ix5 (n0 := 4) (n1 := 8) (n2 := 16) (n3 := 128) (n4 := 256) ⟨(t : ℕ) / 8, by omega⟩ h ⟨2 * ((t : ℕ) % 8) + b, by omega⟩ d r) := by
    refine (VB_eq m c t _ _ ht).trans ?_
    show _ = (VF (m ((c : Thread nD τ).loc main_arg0)) (m ((c : Thread nD τ).loc main_arg1)) (m ((c : Thread nD τ).loc main_arg2))) _ _
    refine congrArg₂ (VF (m ((c : Thread nD τ).loc main_arg0)) (m ((c : Thread nD τ).loc main_arg1)) (m ((c : Thread nD τ).loc main_arg2))) (Fin.ext ?_) rfl
    show 512 * (t : ℕ) + (256 * (b : ℕ) + (r : ℕ)) = 4096 * ((t : ℕ) / 8) + (256 * (2 * ((t : ℕ) % 8) + (b : ℕ)) + (r : ℕ))
    omega
  rw [e, after0_11, out11_eq, ex, eb]
  exact cast_eq _ _

end Cert.Kernel3Ideal.Block

end
-- ==== Proof.BProj.lean ====
module

public import proofs.«01_k».proof.Proof.BArr
public import proofs.«01_k».proof.Proof.Gen.Reference3Ideal.Read
@[expose] public section

set_option maxRecDepth 16384

noncomputable section

namespace Cert.Reference3Ideal.Rows

open Cert.Reference3Ideal Cert.Reference3Ideal.Read Idealize.ShloMosaic Cert.Kernel3Ideal.Block

/-! What the reference computes, row by row. -/

variable (x0 : (⟨S4x4096x1024, .f32⟩ : BufTy).Contents (Elt Ideal)) (x1 : (⟨S1024, .f32⟩ : BufTy).Contents (Elt Ideal))
  (x2 : (⟨S1024x4096, .f32⟩ : BufTy).Contents (Elt Ideal)) (x3 x4 : (⟨S64, .f32⟩ : BufTy).Contents (Elt Ideal))

/-- The normed rows. -/
theorem norm_row (b : Fin 4) (t : Fin 4096) (k : Fin 1024) :
    val_main_v12 (F := Ideal) x0 x1 (ix3 b t k) = Gmlp.hrow (fun k => x0 (ix3 b t k)) (fun k => x1 (ix1 k)) k := by
  simp only [val_main_v12_apply, val_main_v9_apply, val_main_v8_apply, val_main_v7_apply, val_main_v6_apply, val_main_v5_apply, val_main_v4_apply,
    val_main_v3_apply, val_main_v2_apply, val_main_v1_apply, val_main_v0_apply, val_main_cst_apply, val_main_cst_0_apply, val_main_cst_1_apply,
    val_main_v10_apply, val_main_v11_apply]
  have ex : ∀ i, x0 (idx_main_v1 (idx_main_v2 (idx_main_v8 (ix3 b t k))) i) = x0 (ix3 b t i) := fun i => congrArg x0 (eq_ix3 _)
  have eg : x1 (idx_main_v10 (idx_main_v11 (ix3 b t k))) = x1 (ix1 k) := congrArg x1 (eq_ix1 _)
  simp only [ex, eg]
  pointwise
  rfl

/-- The projection of the normed rows, at a flattened row. -/
theorem proj_row (r : Fin 16384) (j : Fin 4096) :
    val_main_v13 (F := Ideal) x0 x1 x2 (ix3 ⟨(r : ℕ) / 4096, by omega⟩ ⟨(r : ℕ) % 4096, by omega⟩ j) = linA x0 x1 x2 r j := by
  rw [val_main_v13_apply]
  unfold linA
  refine Finset.sum_congr rfl fun k _ => congrArg₂ (· * ·) ?_ ?_
  · exact (congrArg (val_main_v12 (F := Ideal) x0 x1) (eq_ix3 _)).trans (norm_row x0 x1 _ _ k)
  · exact congrArg x2 (eq_ix2 _)

/-- A part's query columns of the projection. -/
theorem q_at (r : Fin 16384) (j : Fin 1024) (i : Fin 64) :
    val_main_v18 (F := Ideal) x0 x1 x2 (ix5 (n0 := 4) (n1 := 4096) (n2 := 8) (n3 := 2) (n4 := 64) ⟨(r : ℕ) / 4096, by omega⟩ ⟨(r : ℕ) % 4096, by omega⟩ ⟨(j : ℕ) / 128, by omega⟩ ⟨(j : ℕ) / 64 % 2, by omega⟩ i)
      = linA x0 x1 x2 r ⟨64 * ((j : ℕ) / 64) + i, by omega⟩ := by
  have hr := r.isLt
  have hj := j.isLt
  have hi := i.isLt
  have e : idx_main_v14 (idx_main_v18 (ix5 (n0 := 4) (n1 := 4096) (n2 := 8) (n3 := 2) (n4 := 64) ⟨(r : ℕ) / 4096, by omega⟩ ⟨(r : ℕ) % 4096, by omega⟩ ⟨(j : ℕ) / 128, by omega⟩ ⟨(j : ℕ) / 64 % 2, by omega⟩ i))
      = ix3 (n0 := 4) (n1 := 4096) (n2 := 4096) ⟨(r : ℕ) / 4096, by omega⟩ ⟨(r : ℕ) % 4096, by omega⟩ ⟨64 * ((j : ℕ) / 64) + i, by omega⟩ := by
    funext a
    refine Fin.ext ?_
    match a with
    | ⟨0, _⟩ => show (((((r : ℕ) / 4096 * 4096 + (r : ℕ) % 4096) * 8 + (j : ℕ) / 128) * 2 + (j : ℕ) / 64 % 2) * 64 + (i : ℕ)) / 4194304 = (r : ℕ) / 4096; omega
    | ⟨1, _⟩ => show (((((r : ℕ) / 4096 * 4096 + (r : ℕ) % 4096) * 8 + (j : ℕ) / 128) * 2 + (j : ℕ) / 64 % 2) * 64 + (i : ℕ)) / 1024 % 4096 = (r : ℕ) % 4096; omega
    | ⟨2, _⟩ => show (((((r : ℕ) / 4096 * 4096 + (r : ℕ) % 4096) * 8 + (j : ℕ) / 128) * 2 + (j : ℕ) / 64 % 2) * 64 + (i : ℕ)) % 1024 = 64 * ((j : ℕ) / 64) + (i : ℕ); omega
  rw [val_main_v18_apply, val_main_v14_apply, e, proj_row]

/-- A part's key columns of the projection. -/
theorem k_at (r : Fin 16384) (j : Fin 1024) (i : Fin 64) :
    val_main_v32 (F := Ideal) x0 x1 x2 (ix5 (n0 := 4) (n1 := 4096) (n2 := 8) (n3 := 2) (n4 := 64) ⟨(r : ℕ) / 4096, by omega⟩ ⟨(r : ℕ) % 4096, by omega⟩ ⟨(j : ℕ) / 128, by omega⟩ ⟨(j : ℕ) / 64 % 2, by omega⟩ i)
      = linA x0 x1 x2 r ⟨1024 + (64 * ((j : ℕ) / 64) + i), by omega⟩ := by
  have hr := r.isLt
  have hj := j.isLt
  have hi := i.isLt
  have e : idx_main_v15 (idx_main_v32 (ix5 (n0 := 4) (n1 := 4096) (n2 := 8) (n3 := 2) (n4 := 64) ⟨(r : ℕ) / 4096, by omega⟩ ⟨(r : ℕ) % 4096, by omega⟩ ⟨(j : ℕ) / 128, by omega⟩ ⟨(j : ℕ) / 64 % 2, by omega⟩ i))
      = ix3 (n0 := 4) (n1 := 4096) (n2 := 4096) ⟨(r : ℕ) / 4096, by omega⟩ ⟨(r : ℕ) % 4096, by omega⟩ ⟨1024 + (64 * ((j : ℕ) / 64) + i), by omega⟩ := by
    funext a
    refine Fin.ext ?_
    match a with
    | ⟨0, _⟩ => show (((((r : ℕ) / 4096 * 4096 + (r : ℕ) % 4096) * 8 + (j : ℕ) / 128) * 2 + (j : ℕ) / 64 % 2) * 64 + (i : ℕ)) / 4194304 = (r : ℕ) / 4096; omega
    | ⟨1, _⟩ => show (((((r : ℕ) / 4096 * 4096 + (r : ℕ) % 4096) * 8 + (j : ℕ) / 128) * 2 + (j : ℕ) / 64 % 2) * 64 + (i : ℕ)) / 1024 % 4096 = (r : ℕ) % 4096; omega
    | ⟨2, _⟩ => show 1024 + (((((r : ℕ) / 4096 * 4096 + (r : ℕ) % 4096) * 8 + (j : ℕ) / 128) * 2 + (j : ℕ) / 64 % 2) * 64 + (i : ℕ)) % 1024 = 1024 + (64 * ((j : ℕ) / 64) + (i : ℕ)); omega
  rw [val_main_v32_apply, val_main_v15_apply, e, proj_row]

/-- The queries, scaled. -/
theorem q_row (r : Fin 16384) (j : Fin 1024) :
    val_main_v48 (F := Ideal) x0 x1 x2 x3 (ix5 (n0 := 4) (n1 := 4096) (n2 := 8) (n3 := 2) (n4 := 64) ⟨(r : ℕ) / 4096, by omega⟩ ⟨(r : ℕ) % 4096, by omega⟩ ⟨(j : ℕ) / 128, by omega⟩ ⟨(j : ℕ) / 64 % 2, by omega⟩ ⟨(j : ℕ) % 64, by omega⟩) = QF x0 x1 x2 x3 r j := by
  have hr := r.isLt
  have hj := j.isLt
  simp only [val_main_v48_apply, val_main_v47_apply, val_main_cst_8_apply, val_main_v31_apply, val_main_v30_apply, val_main_v29_apply, val_main_v28_apply, val_main_v27_apply, val_main_v26_apply, val_main_v25_apply, val_main_v24_apply, val_main_v23_apply, val_main_v22_apply, val_main_v21_apply, val_main_v20_apply, val_main_v19_apply, val_main_cst_2_apply, val_main_cst_3_apply, val_main_cst_4_apply]
  have es : ∀ i : Fin 64, val_main_v18 (F := Ideal) x0 x1 x2 (idx_main_v20 (idx_main_v21 (idx_main_v27 (ix5 (n0 := 4) (n1 := 4096) (n2 := 8) (n3 := 2) (n4 := 64) ⟨(r : ℕ) / 4096, by omega⟩ ⟨(r : ℕ) % 4096, by omega⟩ ⟨(j : ℕ) / 128, by omega⟩ ⟨(j : ℕ) / 64 % 2, by omega⟩ ⟨(j : ℕ) % 64, by omega⟩))) i)
      = linA x0 x1 x2 r ⟨64 * ((j : ℕ) / 64) + i, by omega⟩ := fun i =>
    (congrArg (val_main_v18 (F := Ideal) x0 x1 x2) (eq_ix5 _)).trans (q_at x0 x1 x2 r j i)
  have eg : x3 (idx_main_v29 (idx_main_v30 (ix5 (n0 := 4) (n1 := 4096) (n2 := 8) (n3 := 2) (n4 := 64) ⟨(r : ℕ) / 4096, by omega⟩ ⟨(r : ℕ) % 4096, by omega⟩ ⟨(j : ℕ) / 128, by omega⟩ ⟨(j : ℕ) / 64 % 2, by omega⟩ ⟨(j : ℕ) % 64, by omega⟩))) = x3 (ix1 ⟨(j : ℕ) % 64, by omega⟩) := congrArg x3 (eq_ix1 _)
  have ej : 64 * ((j : ℕ) / 64) + (j : ℕ) % 64 = j := by omega
  simp only [es, eg, q_at, ej]
  simp only [QF, partA]
  pointwise
  try rw [mul_assoc]
  try rfl

/-- The keys. -/
theorem k_row (r : Fin 16384) (j : Fin 1024) :
    val_main_v45 (F := Ideal) x0 x1 x2 x4 (ix5 (n0 := 4) (n1 := 4096) (n2 := 8) (n3 := 2) (n4 := 64) ⟨(r : ℕ) / 4096, by omega⟩ ⟨(r : ℕ) % 4096, by omega⟩ ⟨(j : ℕ) / 128, by omega⟩ ⟨(j : ℕ) / 64 % 2, by omega⟩ ⟨(j : ℕ) % 64, by omega⟩) = KF x0 x1 x2 x4 r j := by
  have hr := r.isLt
  have hj := j.isLt
  simp only [val_main_v45_apply, val_main_v44_apply, val_main_v43_apply, val_main_v42_apply, val_main_v41_apply, val_main_v40_apply, val_main_v39_apply, val_main_v38_apply, val_main_v37_apply, val_main_v36_apply, val_main_v35_apply, val_main_v34_apply, val_main_v33_apply, val_main_cst_5_apply, val_main_cst_6_apply, val_main_cst_7_apply]
  have es : ∀ i : Fin 64, val_main_v32 (F := Ideal) x0 x1 x2 (idx_main_v34 (idx_main_v35 (idx_main_v41 (ix5 (n0 := 4) (n1 := 4096) (n2 := 8) (n3 := 2) (n4 := 64) ⟨(r : ℕ) / 4096, by omega⟩ ⟨(r : ℕ) % 4096, by omega⟩ ⟨(j : ℕ) / 128, by omega⟩ ⟨(j : ℕ) / 64 % 2, by omega⟩ ⟨(j : ℕ) % 64, by omega⟩))) i)
      = linA x0 x1 x2 r ⟨1024 + (64 * ((j : ℕ) / 64) + i), by omega⟩ := fun i =>
    (congrArg (val_main_v32 (F := Ideal) x0 x1 x2) (eq_ix5 _)).trans (k_at x0 x1 x2 r j i)
  have eg : x4 (idx_main_v43 (idx_main_v44 (ix5 (n0 := 4) (n1 := 4096) (n2 := 8) (n3 := 2) (n4 := 64) ⟨(r : ℕ) / 4096, by omega⟩ ⟨(r : ℕ) % 4096, by omega⟩ ⟨(j : ℕ) / 128, by omega⟩ ⟨(j : ℕ) / 64 % 2, by omega⟩ ⟨(j : ℕ) % 64, by omega⟩))) = x4 (ix1 ⟨(j : ℕ) % 64, by omega⟩) := congrArg x4 (eq_ix1 _)
  have ej : 64 * ((j : ℕ) / 64) + (j : ℕ) % 64 = j := by omega
  simp only [es, eg, k_at, ej]
  simp only [KF, partA]
  pointwise
  try rw [mul_assoc]
  try rfl

/-- The values. -/
theorem v_row (r : Fin 16384) (j : Fin 1024) :
    val_main_v46 (F := Ideal) x0 x1 x2 (ix4 (n0 := 4) (n1 := 4096) (n2 := 8) (n3 := 128) ⟨(r : ℕ) / 4096, by omega⟩ ⟨(r : ℕ) % 4096, by omega⟩ ⟨(j : ℕ) / 128, by omega⟩ ⟨(j : ℕ) % 128, by omega⟩)
      = VF x0 x1 x2 r j := by
  have hr := r.isLt
  have hj := j.isLt
  have e : idx_main_v16 (idx_main_v46 (ix4 (n0 := 4) (n1 := 4096) (n2 := 8) (n3 := 128) ⟨(r : ℕ) / 4096, by omega⟩ ⟨(r : ℕ) % 4096, by omega⟩ ⟨(j : ℕ) / 128, by omega⟩ ⟨(j : ℕ) % 128, by omega⟩))
      = ix3 (n0 := 4) (n1 := 4096) (n2 := 4096) ⟨(r : ℕ) / 4096, by omega⟩ ⟨(r : ℕ) % 4096, by omega⟩ ⟨2048 + j, by omega⟩ := by
    funext a
    refine Fin.ext ?_
    match a with
    | ⟨0, _⟩ => show ((((r : ℕ) / 4096 * 4096 + (r : ℕ) % 4096) * 8 + (j : ℕ) / 128) * 128 + (j : ℕ) % 128) / 4194304 = (r : ℕ) / 4096; omega
    | ⟨1, _⟩ => show ((((r : ℕ) / 4096 * 4096 + (r : ℕ) % 4096) * 8 + (j : ℕ) / 128) * 128 + (j : ℕ) % 128) / 1024 % 4096 = (r : ℕ) % 4096; omega
    | ⟨2, _⟩ => show 2048 + ((((r : ℕ) / 4096 * 4096 + (r : ℕ) % 4096) * 8 + (j : ℕ) / 128) * 128 + (j : ℕ) % 128) % 1024 = 2048 + (j : ℕ); omega
  rw [val_main_v46_apply, val_main_v16_apply, e, proj_row]
  rfl

/-- The reference's keys. -/
theorem k_eq : val_main_v55 (F := Ideal) x0 x1 x2 x4 = RA (KF x0 x1 x2 x4) := by
  funext i
  obtain ⟨r, j, rfl⟩ : ∃ (r : Fin 16384) (j : Fin 1024), i = ix2 r j := ⟨i 0, i 1, eq_ix2 _⟩
  have hr := r.isLt
  have hj := j.isLt
  have e : idx_main_v55 (ix2 r j) = (ix5 (n0 := 4) (n1 := 4096) (n2 := 8) (n3 := 2) (n4 := 64) ⟨(r : ℕ) / 4096, by omega⟩ ⟨(r : ℕ) % 4096, by omega⟩ ⟨(j : ℕ) / 128, by omega⟩ ⟨(j : ℕ) / 64 % 2, by omega⟩ ⟨(j : ℕ) % 64, by omega⟩) := by
    funext a
    refine Fin.ext ?_
    match a with
    | ⟨0, _⟩ => show ((r : ℕ) * 1024 + (j : ℕ)) / 4194304 = (r : ℕ) / 4096; omega
    | ⟨1, _⟩ => show ((r : ℕ) * 1024 + (j : ℕ)) / 1024 % 4096 = (r : ℕ) % 4096; omega
    | ⟨2, _⟩ => show ((r : ℕ) * 1024 + (j : ℕ)) / 128 % 8 = (j : ℕ) / 128; omega
    | ⟨3, _⟩ => show ((r : ℕ) * 1024 + (j : ℕ)) / 64 % 2 = (j : ℕ) / 64 % 2; omega
    | ⟨4, _⟩ => show ((r : ℕ) * 1024 + (j : ℕ)) % 64 = (j : ℕ) % 64; omega
  rw [val_main_v55_apply, e, k_row]
  rfl

/-- The reference's copy of the keys. -/
theorem kb_eq : val_main_v58 (F := Ideal) x0 x1 x2 x4 = RA (KF x0 x1 x2 x4) := by
  funext i
  rw [val_main_v58_apply, k_eq]
  pointwise

/-- The reference's values. -/
theorem v_eq : val_main_v56 (F := Ideal) x0 x1 x2 = RA (VF x0 x1 x2) := by
  funext i
  obtain ⟨r, j, rfl⟩ : ∃ (r : Fin 16384) (j : Fin 1024), i = ix2 r j := ⟨i 0, i 1, eq_ix2 _⟩
  have hr := r.isLt
  have hj := j.isLt
  have e : idx_main_v56 (ix2 r j) = ix4 (n0 := 4) (n1 := 4096) (n2 := 8) (n3 := 128) ⟨(r : ℕ) / 4096, by omega⟩ ⟨(r : ℕ) % 4096, by omega⟩ ⟨(j : ℕ) / 128, by omega⟩ ⟨(j : ℕ) % 128, by omega⟩ := by
    funext a
    refine Fin.ext ?_
    match a with
    | ⟨0, _⟩ => show ((r : ℕ) * 1024 + (j : ℕ)) / 4194304 = (r : ℕ) / 4096; omega
    | ⟨1, _⟩ => show ((r : ℕ) * 1024 + (j : ℕ)) / 1024 % 4096 = (r : ℕ) % 4096; omega
    | ⟨2, _⟩ => show ((r : ℕ) * 1024 + (j : ℕ)) / 128 % 8 = (j : ℕ) / 128; omega
    | ⟨3, _⟩ => show ((r : ℕ) * 1024 + (j : ℕ)) % 128 = (j : ℕ) % 128; omega
  rw [val_main_v56_apply, e, v_row]
  rfl

/-- The reference's gate. -/
theorem z_eq : val_main_v57 (F := Ideal) x0 x1 x2 = RA (ZF x0 x1 x2) := by
  funext i
  obtain ⟨r, j, rfl⟩ : ∃ (r : Fin 16384) (j : Fin 1024), i = ix2 r j := ⟨i 0, i 1, eq_ix2 _⟩
  have hr := r.isLt
  have hj := j.isLt
  have e : idx_main_v17 (idx_main_v57 (ix2 r j)) = ix3 (n0 := 4) (n1 := 4096) (n2 := 4096) ⟨(r : ℕ) / 4096, by omega⟩ ⟨(r : ℕ) % 4096, by omega⟩ ⟨3072 + j, by omega⟩ := by
    funext a
    refine Fin.ext ?_
    match a with
    | ⟨0, _⟩ => show ((r : ℕ) * 1024 + (j : ℕ)) / 4194304 = (r : ℕ) / 4096; omega
    | ⟨1, _⟩ => show ((r : ℕ) * 1024 + (j : ℕ)) / 1024 % 4096 = (r : ℕ) % 4096; omega
    | ⟨2, _⟩ => show 3072 + ((r : ℕ) * 1024 + (j : ℕ)) % 1024 = 3072 + (j : ℕ); omega
  rw [val_main_v57_apply, val_main_v17_apply, e, proj_row]
  rfl

/-- The reference's transposed queries. -/
theorem qt_eq : val_main_v51 (F := Ideal) x0 x1 x2 x3 = TA (QF x0 x1 x2 x3) := by
  funext i
  obtain ⟨b, h, n, d, r, rfl⟩ : ∃ (b : Fin 4) (h : Fin 8) (n : Fin 16) (d : Fin 128) (r : Fin 256), i = ix5 b h n d r := ⟨i 0, i 1, i 2, i 3, i 4, eq_ix5 _⟩
  have hb := b.isLt
  have hh := h.isLt
  have hn := n.isLt
  have hd := d.isLt
  have hr := r.isLt
  have e : idx_main_v49 (idx_main_v50 (ix5 b h n d r)) = ix5 (n0 := 4) (n1 := 4096) (n2 := 8) (n3 := 2) (n4 := 64) ⟨(4096 * (b : ℕ) + (256 * (n : ℕ) + (r : ℕ))) / 4096, by omega⟩ ⟨(4096 * (b : ℕ) + (256 * (n : ℕ) + (r : ℕ))) % 4096, by omega⟩ ⟨(128 * (h : ℕ) + (d : ℕ)) / 128, by omega⟩ ⟨(128 * (h : ℕ) + (d : ℕ)) / 64 % 2, by omega⟩ ⟨(128 * (h : ℕ) + (d : ℕ)) % 64, by omega⟩ := by
    funext a
    refine Fin.ext ?_
    match a with
    | ⟨0, _⟩ => show (((((b : ℕ) * 16 + (n : ℕ)) * 256 + (r : ℕ)) * 8 + (h : ℕ)) * 128 + (d : ℕ)) / 4194304 = (4096 * (b : ℕ) + (256 * (n : ℕ) + (r : ℕ))) / 4096; omega
    | ⟨1, _⟩ => show (((((b : ℕ) * 16 + (n : ℕ)) * 256 + (r : ℕ)) * 8 + (h : ℕ)) * 128 + (d : ℕ)) / 1024 % 4096 = (4096 * (b : ℕ) + (256 * (n : ℕ) + (r : ℕ))) % 4096; omega
    | ⟨2, _⟩ => show (((((b : ℕ) * 16 + (n : ℕ)) * 256 + (r : ℕ)) * 8 + (h : ℕ)) * 128 + (d : ℕ)) / 128 % 8 = (128 * (h : ℕ) + (d : ℕ)) / 128; omega
    | ⟨3, _⟩ => show (((((b : ℕ) * 16 + (n : ℕ)) * 256 + (r : ℕ)) * 8 + (h : ℕ)) * 128 + (d : ℕ)) / 64 % 2 = (128 * (h : ℕ) + (d : ℕ)) / 64 % 2; omega
    | ⟨4, _⟩ => show (((((b : ℕ) * 16 + (n : ℕ)) * 256 + (r : ℕ)) * 8 + (h : ℕ)) * 128 + (d : ℕ)) % 64 = (128 * (h : ℕ) + (d : ℕ)) % 64; omega
  rw [val_main_v51_apply, val_main_v50_apply, val_main_v49_apply, e]
  refine Eq.trans ?_ (q_row x0 x1 x2 x3 ⟨4096 * (b : ℕ) + (256 * (n : ℕ) + (r : ℕ)), by omega⟩ ⟨128 * (h : ℕ) + (d : ℕ), by omega⟩)
  pointwise

/-- The reference's transposed values. -/
theorem vt_eq : val_main_v54 (F := Ideal) x0 x1 x2 = TA (VF x0 x1 x2) := by
  funext i
  obtain ⟨b, h, n, d, r, rfl⟩ : ∃ (b : Fin 4) (h : Fin 8) (n : Fin 16) (d : Fin 128) (r : Fin 256), i = ix5 b h n d r := ⟨i 0, i 1, i 2, i 3, i 4, eq_ix5 _⟩
  have hb := b.isLt
  have hh := h.isLt
  have hn := n.isLt
  have hd := d.isLt
  have hr := r.isLt
  have e : idx_main_v52 (idx_main_v53 (ix5 b h n d r)) = ix4 (n0 := 4) (n1 := 4096) (n2 := 8) (n3 := 128) ⟨(4096 * (b : ℕ) + (256 * (n : ℕ) + (r : ℕ))) / 4096, by omega⟩ ⟨(4096 * (b : ℕ) + (256 * (n : ℕ) + (r : ℕ))) % 4096, by omega⟩ ⟨(128 * (h : ℕ) + (d : ℕ)) / 128, by omega⟩ ⟨(128 * (h : ℕ) + (d : ℕ)) % 128, by omega⟩ := by
    funext a
    refine Fin.ext ?_
    match a with
    | ⟨0, _⟩ => show (((((b : ℕ) * 16 + (n : ℕ)) * 256 + (r : ℕ)) * 8 + (h : ℕ)) * 128 + (d : ℕ)) / 4194304 = (4096 * (b : ℕ) + (256 * (n : ℕ) + (r : ℕ))) / 4096; omega
    | ⟨1, _⟩ => show (((((b : ℕ) * 16 + (n : ℕ)) * 256 + (r : ℕ)) * 8 + (h : ℕ)) * 128 + (d : ℕ)) / 1024 % 4096 = (4096 * (b : ℕ) + (256 * (n : ℕ) + (r : ℕ))) % 4096; omega
    | ⟨2, _⟩ => show (((((b : ℕ) * 16 + (n : ℕ)) * 256 + (r : ℕ)) * 8 + (h : ℕ)) * 128 + (d : ℕ)) / 128 % 8 = (128 * (h : ℕ) + (d : ℕ)) / 128; omega
    | ⟨3, _⟩ => show (((((b : ℕ) * 16 + (n : ℕ)) * 256 + (r : ℕ)) * 8 + (h : ℕ)) * 128 + (d : ℕ)) % 128 = (128 * (h : ℕ) + (d : ℕ)) % 128; omega
  rw [val_main_v54_apply, val_main_v53_apply, val_main_v52_apply, e]
  refine Eq.trans ?_ (v_row x0 x1 x2 ⟨4096 * (b : ℕ) + (256 * (n : ℕ) + (r : ℕ)), by omega⟩ ⟨128 * (h : ℕ) + (d : ℕ), by omega⟩)
  pointwise

end Cert.Reference3Ideal.Rows

end
-- ==== Proof.Gate.lean ====
module

public import proofs.«01_k».proof.Proof.Slab
public import Idealize.ShloMosaic.Lib.IdealHost

@[expose] public section

set_option maxRecDepth 16384

noncomputable section

namespace Gate

open Idealize.ShloMosaic

/-! The forget gate of the recurrent layer over the extended reals: its lower bound from the layers' weights, and the two ways
    to write the key and the gate's logarithm. -/

/-- The exponential of a layer's weight below the greatest one. -/
def ew (w : Fin 4 → EReal) (r : Fin 4) : EReal := Ideal.exp (w r - Finset.univ.fold max (Ideal.ofBits FTy.f32 4286578688#32) w)

/-- The lower bound of the third layer: the second and third layers' share. -/
def lb (w : Fin 4 → EReal) : EReal := Ideal.div (ew w 1 + ew w 2) (∑ x, ew w x)

/-- The logistic function. -/
def sg (p : EReal) : EReal := Ideal.div 1 (1 + Ideal.exp (-p))

/-- The key. -/
def key (w : Fin 4 → EReal) (p : EReal) : EReal := (1 - lb w) * (1 - sg p)

/-- The logarithm of the forget gate. -/
def forget (w : Fin 4 → EReal) (p : EReal) : EReal := Ideal.log (lb w + (1 - lb w) * sg p)

/-- The logarithm of a sum of two exponentials, the greater one taken out. -/
def lae (a b : EReal) : EReal := max a b + Ideal.log1p (Ideal.exp (-(max (a - b) (-(a - b)))))

/-- The greatest of finite weights is finite. -/
theorem top_real (w : Fin 4 → EReal) (ω : Fin 4 → ℝ) (h : ∀ r, w r = (ω r : EReal)) :
    ∃ μ : ℝ, Finset.univ.fold max (Ideal.ofBits FTy.f32 4286578688#32) w = (μ : EReal) := by
  have hb : Ideal.ofBits FTy.f32 4286578688#32 = ⊥ := by simp [Ideal.ofBits, Ideal.ieee]
  rw [hb]
  have h1 : Finset.univ.fold max ⊥ w < ⊤ := by
    rw [Finset.fold_max_lt]
    exact ⟨bot_lt_top, fun x _ => by rw [h x]; exact EReal.coe_lt_top _⟩
  have h2 : w 0 ≤ Finset.univ.fold max ⊥ w := by
    rw [Finset.le_fold_max]
    exact Or.inr ⟨0, Finset.mem_univ _, le_refl _⟩
  rw [h 0] at h2
  refine ⟨(Finset.univ.fold max ⊥ w).toReal, (EReal.coe_toReal h1.ne ?_).symm⟩
  intro hbot
  rw [hbot] at h2
  exact absurd h2 (not_le.mpr (EReal.bot_lt_coe _))

/-- The exponentials of finite weights are positive reals. -/
theorem ew_real (w : Fin 4 → EReal) (ω : Fin 4 → ℝ) (h : ∀ r, w r = (ω r : EReal)) :
    ∃ e : Fin 4 → ℝ, (∀ r, 0 < e r) ∧ ∀ r, ew w r = (e r : EReal) := by
  obtain ⟨μ, hμ⟩ := top_real w ω h
  refine ⟨fun r => Real.exp (ω r - μ), fun r => Real.exp_pos _, fun r => ?_⟩
  rw [ew, hμ, h r, ← EReal.coe_sub, Ideal.exp_coe]

/-- A quotient of reals. -/
theorem div_real (a b : ℝ) (h : b ≠ 0) : Ideal.div (a : EReal) (b : EReal) = ((a / b : ℝ) : EReal) := by
  rw [Ideal.div_coe h, ← EReal.coe_mul, mul_one_div]

/-- The lower bound of finite weights lies strictly between zero and one, and is the running sum of the shares less the first. -/
theorem lb_real (w : Fin 4 → EReal) (ω : Fin 4 → ℝ) (h : ∀ r, w r = (ω r : EReal)) :
    ∃ b : ℝ, 0 < b ∧ b < 1 ∧ lb w = (b : EReal) ∧
      Ideal.div (ew w 0) (∑ x, ew w x) + Ideal.div (ew w 1) (∑ x, ew w x) + Ideal.div (ew w 2) (∑ x, ew w x) - Ideal.div (ew w 0) (∑ x, ew w x) = (b : EReal) := by
  obtain ⟨e, hp, he⟩ := ew_real w ω h
  have p0 := hp 0
  have p1 := hp 1
  have p2 := hp 2
  have p3 := hp 3
  have hs : ∑ x, ew w x = ((e 0 + e 1 + e 2 + e 3 : ℝ) : EReal) := by
    simp only [he, Fin.sum_univ_four, EReal.coe_add]
  have hS : e 0 + e 1 + e 2 + e 3 ≠ 0 := by positivity
  have hS' : 0 < e 0 + e 1 + e 2 + e 3 := by positivity
  refine ⟨(e 1 + e 2) / (e 0 + e 1 + e 2 + e 3), by positivity, ?_, ?_, ?_⟩
  · rw [div_lt_one hS']; linarith
  · rw [lb, hs, he, he, ← EReal.coe_add, div_real _ _ hS]
  · rw [hs, he, he, he, div_real _ _ hS, div_real _ _ hS, div_real _ _ hS, ← EReal.coe_add, ← EReal.coe_add, ← EReal.coe_sub]
    congr 1
    field_simp
    ring

/-- The logistic function at a real. -/
theorem sg_coe (x : ℝ) : sg (x : EReal) = ((1 / (1 + Real.exp (-x)) : ℝ) : EReal) := by
  have := Real.exp_pos (-x)
  rw [sg, ← EReal.coe_neg, Ideal.exp_coe, ← EReal.coe_one, ← EReal.coe_add, div_real _ _ (by positivity)]

theorem sg_top : sg ⊤ = 1 := by
  rw [sg, EReal.neg_top]
  show Ideal.div 1 (1 + 0) = 1
  rw [add_zero, ← EReal.coe_one, div_real _ _ one_ne_zero, div_one]

theorem sg_bot : sg ⊥ = 0 := by
  rw [sg, EReal.neg_bot]
  show Ideal.div 1 (1 + ⊤) = 0
  have : (1 : EReal) + ⊤ = ⊤ := EReal.add_top_of_ne_bot (by decide)
  rw [this, Ideal.div, if_neg (by simp)]
  simp

/-- One less the logistic function is the logistic function of the negative. -/
theorem one_sub_sg (p : EReal) : 1 - sg p = sg (-p) := by
  induction p with
  | bot => rw [sg_bot, EReal.neg_bot, sg_top, sub_zero]
  | top =>
    rw [sg_top, EReal.neg_top, sg_bot, ← EReal.coe_one, ← EReal.coe_sub, sub_self]; rfl
  | coe x =>
    have := Real.exp_pos (-x)
    rw [sg_coe, ← EReal.coe_neg, sg_coe, ← EReal.coe_one, ← EReal.coe_sub]
    congr 1
    have hx : Real.exp (- -x) = 1 / Real.exp (-x) := by rw [Real.exp_neg (-x), one_div]
    rw [hx]
    field_simp
    ring

/-- The key, the logistic function of the negative written out. -/
theorem key_eq (w : Fin 4 → EReal) (p : EReal) : (1 - lb w) * sg (-p) = key w p := by rw [key, one_sub_sg]

/-- The real form of the sum of two exponentials. -/
theorem lae_real (a b : ℝ) : max a b + Real.log (1 + Real.exp (-(max (a - b) (-(a - b))))) = Real.log (Real.exp a + Real.exp b) := by
  rcases le_total a b with h | h
  · rw [max_eq_right h, max_eq_right (by linarith), neg_neg]
    have e : Real.exp a + Real.exp b = Real.exp b * (1 + Real.exp (a - b)) := by
      rw [mul_add, mul_one, ← Real.exp_add]; ring_nf
    have := Real.exp_pos (a - b)
    rw [e, Real.log_mul (Real.exp_pos b).ne' (by positivity), Real.log_exp]
  · rw [max_eq_left h, max_eq_left (by linarith)]
    have e : Real.exp a + Real.exp b = Real.exp a * (1 + Real.exp (-(a - b))) := by
      rw [mul_add, mul_one, ← Real.exp_add]; ring_nf
    have := Real.exp_pos (-(a - b))
    rw [e, Real.log_mul (Real.exp_pos a).ne' (by positivity), Real.log_exp]

/-- The logarithm of a positive real. -/
theorem log_pos_coe (x : ℝ) (h : 0 < x) : Ideal.log (x : EReal) = (Real.log x : EReal) := by
  rw [Ideal.log_coe, if_neg (not_le.mpr h)]

/-- The greater of two reals. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

theorem lae_coe (a b : ℝ) : lae (a : EReal) (b : EReal) = ((Real.log (Real.exp a + Real.exp b) : ℝ) : EReal) := by
  have hp := Real.exp_pos (-(max (a - b) (-(a - b))))
  rw [lae, ← EReal.coe_sub, ← EReal.coe_neg, coe_max, coe_max, ← EReal.coe_neg, Ideal.exp_coe, Ideal.log1p, ← EReal.coe_one,
    ← EReal.coe_add, log_pos_coe _ (by positivity), ← EReal.coe_add, lae_real]

theorem log1p_zero : Ideal.log1p 0 = 0 := by
  rw [Ideal.log1p, add_zero, ← EReal.coe_one, log_pos_coe _ one_pos, Real.log_one]; rfl

theorem lae_bot (a : ℝ) : lae (a : EReal) ⊥ = (a : EReal) := by
  have e : (a : EReal) - ⊥ = ⊤ := by rw [sub_eq_add_neg, EReal.neg_bot]; exact EReal.coe_add_top a
  rw [lae, max_eq_left bot_le, e, max_eq_left le_top, EReal.neg_top]
  show (a : EReal) + Ideal.log1p 0 = a
  rw [log1p_zero, add_zero]

theorem lae_bot_zero : lae ⊥ 0 = 0 := by
  rw [lae, max_eq_right bot_le, sub_zero, EReal.neg_bot, max_eq_right bot_le, EReal.neg_top]
  show (0 : EReal) + Ideal.log1p 0 = 0
  rw [log1p_zero, add_zero]

theorem lae_top_zero : lae ⊤ 0 = ⊤ := by
  rw [lae, max_eq_left le_top, sub_zero, EReal.neg_top, max_eq_left le_top, EReal.neg_top]
  show (⊤ : EReal) + Ideal.log1p 0 = ⊤
  rw [log1p_zero, add_zero]

/-- The logarithm of the forget gate, as the logarithm of a sum of two exponentials. -/
theorem forget_eq (w : Fin 4 → EReal) (ω : Fin 4 → ℝ) (h : ∀ r, w r = (ω r : EReal)) (p : EReal) :
    lae (Ideal.log (lb w)) (Ideal.log1p (-lb w) + -(lae (-p) 0)) = forget w p := by
  obtain ⟨b, b0, b1, hb, -⟩ := lb_real w ω h
  have b2 : 0 < 1 + -b := by linarith
  have b3 : 0 < 1 - b := by linarith
  rw [forget, hb, log_pos_coe b b0, Ideal.log1p, ← EReal.coe_neg, ← EReal.coe_one, ← EReal.coe_add, log_pos_coe _ b2, ← EReal.coe_sub]
  induction p with
  | bot =>
    have e : ((Real.log (1 + -b) : ℝ) : EReal) + ⊥ = ⊥ := EReal.add_bot _
    rw [EReal.neg_bot, lae_top_zero, EReal.neg_top, e, lae_bot, sg_bot, mul_zero, add_zero, log_pos_coe b b0]
  | top =>
    rw [EReal.neg_top, lae_bot_zero, neg_zero, add_zero, lae_coe, Real.exp_log b0, Real.exp_log b2, sg_top, mul_one, ← EReal.coe_add]
    have e : b + (1 - b) = b + (1 + -b) := by ring
    rw [e, log_pos_coe _ (by linarith)]
  | coe x =>
    have hx := Real.exp_pos (-x)
    rw [← EReal.coe_neg, ← EReal.coe_zero, lae_coe, ← EReal.coe_neg, ← EReal.coe_add, lae_coe, sg_coe, ← EReal.coe_mul, ← EReal.coe_add,
      log_pos_coe _ (by positivity)]
    congr 2
    rw [Real.exp_add, Real.exp_log b0, Real.exp_log b2, Real.exp_neg (Real.log _), Real.exp_log (by positivity), Real.exp_zero, one_div, add_comm 1 (Real.exp (-x))]
    ring

end Gate

end
-- ==== Proof.CFg.lean ====
module

public import proofs.«01_k».proof.Proof.Gate
public import proofs.«01_k».proof.Proof.Gen.Kernel10Ideal.Value
public import proofs.«01_k».proof.Proof.Gen.Reference10Ideal.Read
public import Idealize.ShloMosaic.Lib.IdealHost
public import proofs.«01_k».proof.Defs

@[expose] public section

set_option maxRecDepth 16384

noncomputable section

namespace Cert.Kernel10Ideal.Block

open Cert.Kernel10Ideal Cert.Kernel10Ideal.Gen Idealize.ShloMosaic Idealize.ShloMosaic.TcCoe Idealize.SL.Sem

/-! The projection to the keys and the forget gates of the recurrent layer, head by head: what a grid point leaves in its output
    blocks, and the result arrays. -/

/-- The output block of a point, from its normed rows against the weights: the keys. -/
def KB (x0 : Vec Ideal S512x1024 .f32) (x1 : Vec Ideal S1x1024 .f32) (x2 : Vec Ideal S1024x2048 .bf16) (x3 : Vec Ideal S4x2048 .f32) : S16x512x128.Idx → Elt Ideal .f32 :=
  fun y => Gate.key (fun a => x3 (ix2 a ⟨128 * (y 0 : ℕ) + (y 2 : ℕ), by have := (y 0).isLt; have := (y 2).isLt; change (y 0 : ℕ) < 16 at *; change (y 2 : ℕ) < 128 at *; omega⟩)) (Slab.lin (fun k => x0 (ix2 (y 1) k)) (fun k => x1 (ix2 0 k)) (fun k j => x2 (ix2 k j)) ⟨128 * (y 0 : ℕ) + (y 2 : ℕ), by have := (y 0).isLt; have := (y 2).isLt; change (y 0 : ℕ) < 16 at *; change (y 2 : ℕ) < 128 at *; omega⟩)

/-- The output block of a point, from its normed rows against the weights: the forget gates' logarithms. -/
def GB (x0 : Vec Ideal S512x1024 .f32) (x1 : Vec Ideal S1x1024 .f32) (x2 : Vec Ideal S1024x2048 .bf16) (x3 : Vec Ideal S4x2048 .f32) : S16x512x128.Idx → Elt Ideal .f32 :=
  fun y => Gate.forget (fun a => x3 (ix2 a ⟨128 * (y 0 : ℕ) + (y 2 : ℕ), by have := (y 0).isLt; have := (y 2).isLt; change (y 0 : ℕ) < 16 at *; change (y 2 : ℕ) < 128 at *; omega⟩)) (Slab.lin (fun k => x0 (ix2 (y 1) k)) (fun k => x1 (ix2 0 k)) (fun k j => x2 (ix2 k j)) ⟨128 * (y 0 : ℕ) + (y 2 : ℕ), by have := (y 0).isLt; have := (y 2).isLt; change (y 0 : ℕ) < 16 at *; change (y 2 : ℕ) < 128 at *; omega⟩)

/-- What the body leaves in output block 1. -/
theorem out4_eq (x0 : Vec Ideal S512x1024 .f32) (x1 : Vec Ideal S1x1024 .f32) (x2 : Vec Ideal S1024x2048 .bf16) (x3 : Vec Ideal S4x2048 .f32) :
    out0_4 (F := Ideal) x0 x1 x2 x3 = KB x0 x1 x2 x3 := by
  funext y
  unfold out0_4
  refine View.canon_apply_of_pieces _ _ (View.PiecesOf.mem ?_) y (cover0_4 (F := Ideal) _ _ _ _ _ _ _ _ _ _ _ _ _ _ _ _ y)
  refine ⟨Slab.plane _ _ 15 inb_S16x512x128_S1x512x128_15_0_0 (by omega) fun r j => ?_,
    Slab.plane _ _ 14 inb_S16x512x128_S1x512x128_14_0_0 (by omega) fun r j => ?_,
    Slab.plane _ _ 13 inb_S16x512x128_S1x512x128_13_0_0 (by omega) fun r j => ?_,
    Slab.plane _ _ 12 inb_S16x512x128_S1x512x128_12_0_0 (by omega) fun r j => ?_,
    Slab.plane _ _ 11 inb_S16x512x128_S1x512x128_11_0_0 (by omega) fun r j => ?_,
    Slab.plane _ _ 10 inb_S16x512x128_S1x512x128_10_0_0 (by omega) fun r j => ?_,
    Slab.plane _ _ 9 inb_S16x512x128_S1x512x128_9_0_0 (by omega) fun r j => ?_,
    Slab.plane _ _ 8 inb_S16x512x128_S1x512x128_8_0_0 (by omega) fun r j => ?_,
    Slab.plane _ _ 7 inb_S16x512x128_S1x512x128_7_0_0 (by omega) fun r j => ?_,
    Slab.plane _ _ 6 inb_S16x512x128_S1x512x128_6_0_0 (by omega) fun r j => ?_,
    Slab.plane _ _ 5 inb_S16x512x128_S1x512x128_5_0_0 (by omega) fun r j => ?_,
    Slab.plane _ _ 4 inb_S16x512x128_S1x512x128_4_0_0 (by omega) fun r j => ?_,
    Slab.plane _ _ 3 inb_S16x512x128_S1x512x128_3_0_0 (by omega) fun r j => ?_,
    Slab.plane _ _ 2 inb_S16x512x128_S1x512x128_2_0_0 (by omega) fun r j => ?_,
    Slab.plane _ _ 1 inb_S16x512x128_S1x512x128_1_0_0 (by omega) fun r j => ?_,
    Slab.plane _ _ 0 inb_S16x512x128_S1x512x128_0_0_0 (by omega) fun r j => ?_, trivial⟩
  all_goals
    unfold_payloads
    pointwise
    simp only [KB, Gate.key, Gate.forget, Gate.sg, Gate.lb, Gate.ew, Slab.lin, Gmlp.hrow]
    try simp only [ix2_0, ix2_1, ix3_0, ix3_1, ix3_2, Fin.val_zero, Fin.coe_ofNat_eq_mod, Nat.zero_mod, Nat.mul_zero, ← Nat.add_assoc, Nat.reduceAdd, Nat.reduceMul, Nat.zero_add, zero_sub]
    try rfl

/-- What the body leaves in output block 2. -/
theorem out5_eq (x0 : Vec Ideal S512x1024 .f32) (x1 : Vec Ideal S1x1024 .f32) (x2 : Vec Ideal S1024x2048 .bf16) (x3 : Vec Ideal S4x2048 .f32) :
    out0_5 (F := Ideal) x0 x1 x2 x3 = GB x0 x1 x2 x3 := by
  funext y
  unfold out0_5
  refine View.canon_apply_of_pieces _ _ (View.PiecesOf.mem ?_) y (cover0_5 (F := Ideal) _ _ _ _ _ _ _ _ _ _ _ _ _ _ _ _ y)
  refine ⟨Slab.plane _ _ 15 inb_S16x512x128_S1x512x128_15_0_0 (by omega) fun r j => ?_,
    Slab.plane _ _ 14 inb_S16x512x128_S1x512x128_14_0_0 (by omega) fun r j => ?_,
    Slab.plane _ _ 13 inb_S16x512x128_S1x512x128_13_0_0 (by omega) fun r j => ?_,
    Slab.plane _ _ 12 inb_S16x512x128_S1x512x128_12_0_0 (by omega) fun r j => ?_,
    Slab.plane _ _ 11 inb_S16x512x128_S1x512x128_11_0_0 (by omega) fun r j => ?_,
    Slab.plane _ _ 10 inb_S16x512x128_S1x512x128_10_0_0 (by omega) fun r j => ?_,
    Slab.plane _ _ 9 inb_S16x512x128_S1x512x128_9_0_0 (by omega) fun r j => ?_,
    Slab.plane _ _ 8 inb_S16x512x128_S1x512x128_8_0_0 (by omega) fun r j => ?_,
    Slab.plane _ _ 7 inb_S16x512x128_S1x512x128_7_0_0 (by omega) fun r j => ?_,
    Slab.plane _ _ 6 inb_S16x512x128_S1x512x128_6_0_0 (by omega) fun r j => ?_,
    Slab.plane _ _ 5 inb_S16x512x128_S1x512x128_5_0_0 (by omega) fun r j => ?_,
    Slab.plane _ _ 4 inb_S16x512x128_S1x512x128_4_0_0 (by omega) fun r j => ?_,
    Slab.plane _ _ 3 inb_S16x512x128_S1x512x128_3_0_0 (by omega) fun r j => ?_,
    Slab.plane _ _ 2 inb_S16x512x128_S1x512x128_2_0_0 (by omega) fun r j => ?_,
    Slab.plane _ _ 1 inb_S16x512x128_S1x512x128_1_0_0 (by omega) fun r j => ?_,
    Slab.plane _ _ 0 inb_S16x512x128_S1x512x128_0_0_0 (by omega) fun r j => ?_, trivial⟩
  all_goals
    unfold_payloads
    pointwise
    simp only [GB, Gate.key, Gate.forget, Gate.sg, Gate.lb, Gate.ew, Slab.lin, Gmlp.hrow]
    try simp only [ix2_0, ix2_1, ix3_0, ix3_1, ix3_2, Fin.val_zero, Fin.coe_ofNat_eq_mod, Nat.zero_mod, Nat.mul_zero, ← Nat.add_assoc, Nat.reduceAdd, Nat.reduceMul, Nat.zero_add, zero_sub]
    try rfl

variable (m : (ℓ : Loc nD τ sig) → Buf (Elt Ideal) ℓ) (c : Dev nD) (t : Fin cfg0.N)

/-- The rows' block at a point is the point's own. -/
theorem index0 : ∀ t : Fin cfg0.N, win0_0.index t = ![(t : ℕ), 0] := by decide +kernel
/-- The gain's block is the same at every point. -/
theorem index1 : ∀ t : Fin cfg0.N, win0_1.index t = ![0, 0] := by decide +kernel
/-- The weights' block is the same at every point. -/
theorem index2 : ∀ t : Fin cfg0.N, win0_2.index t = ![0, 0] := by decide +kernel
/-- The bounds' weights' block is the same at every point. -/
theorem index3 : ∀ t : Fin cfg0.N, win0_3.index t = ![0, 0] := by decide +kernel
/-- The keys' block at a point is the point's own. -/
theorem index4 : ∀ t : Fin cfg0.N, win0_4.index t = ![0, (t : ℕ), 0] := by decide +kernel
/-- The gates' block at a point is the point's own. -/
theorem index5 : ∀ t : Fin cfg0.N, win0_5.index t = ![0, (t : ℕ), 0] := by decide +kernel

/-- Row `r` of a point's block of rows is row `512 t + r` of the flattened rows. -/
theorem blk0 (r : Fin 512) (k : Fin 1024) : iblk m c 0 t (ix2 r k) = m ((c : Thread nD τ).loc main_arg0)
    (ix3 ⟨(512 * (t : ℕ) + r) / 4096, by have : (t : ℕ) < 32 := t.isLt; omega⟩ ⟨(512 * (t : ℕ) + r) % 4096, by omega⟩ k) := by
  blk_ext! [iblk, V, index0 t]
/-- The gain's block is the gain, as a row. -/
theorem blk1 (k : Fin 1024) : iblk m c 1 t (ix2 0 k) = m ((c : Thread nD τ).loc main_arg1) (ix1 k) := by
  blk_ext! [iblk, V, index1 t]
/-- The weights' block is the call's columns of the input weights. -/
theorem blk2 (k : Fin 1024) (j : Fin 2048) : iblk m c 2 t (ix2 k j) = m ((c : Thread nD τ).loc main_arg2) (ix2 k ⟨2048 + j, by omega⟩) := by
  blk_ext! [iblk, V, index2 t]
/-- The bounds' weights' block is the bounds' weights. -/
theorem blk3 (a : Fin 4) (j : Fin 2048) : iblk m c 3 t (ix2 a j) = m ((c : Thread nD τ).loc main_arg3) (ix2 a j) := by
  blk_ext! [iblk, V, index3 t]

/-- What the keys' array holds, from the arguments. -/
def KA (X : S4x4096x1024.Idx → EReal) (g : S1024.Idx → EReal) (w : S1024x8192.Idx → EReal) (b : S4x2048.Idx → EReal) (i : S16x16384x128.Idx) : EReal :=
  Gate.key (fun a => b (ix2 a ⟨128 * (i 0 : ℕ) + (i 2 : ℕ), by have := (i 0).isLt; have := (i 2).isLt; change (i 0 : ℕ) < 16 at *; change (i 2 : ℕ) < 128 at *; omega⟩)) (Slab.lin (fun k => X (ix3 ⟨(i 1 : ℕ) / 4096, by have := (i 1).isLt; change (i 1 : ℕ) < 16384 at this; omega⟩ ⟨(i 1 : ℕ) % 4096, by omega⟩ k)) (fun k => g (ix1 k)) (fun k j => w (ix2 k j)) ⟨2048 + (128 * (i 0 : ℕ) + (i 2 : ℕ)), by have := (i 0).isLt; have := (i 2).isLt; change (i 0 : ℕ) < 16 at *; change (i 2 : ℕ) < 128 at *; omega⟩)

/-- One place of a point's output block is the array's place it is written to: the keys. -/
theorem block_row4 (h : Fin 16) (r : Fin 512) (j : Fin 128) (ht : (t : ℕ) < 32) :
    KB (iblk m c 0 t) (iblk m c 1 t) (iblk m c 2 t) (iblk m c 3 t) (ix3 h r j) = KA (m ((c : Thread nD τ).loc main_arg0)) (m ((c : Thread nD τ).loc main_arg1)) (m ((c : Thread nD τ).loc main_arg2)) (m ((c : Thread nD τ).loc main_arg3)) (ix3 (n0 := 16) (n1 := 16384) (n2 := 128) h ⟨512 * (t : ℕ) + r, by omega⟩ j) := by
  show Gate.key (fun a => iblk m c 3 t (ix2 a ⟨128 * (h : ℕ) + (j : ℕ), by omega⟩)) (Slab.lin (fun k => iblk m c 0 t (ix2 r k)) (fun k => iblk m c 1 t (ix2 0 k)) (fun k j => iblk m c 2 t (ix2 k j)) ⟨128 * (h : ℕ) + (j : ℕ), by omega⟩) = _
  simp only [blk0, blk1, blk2, blk3]
  rfl

/-- The keys' array after the run. -/
theorem arr4_eq : (dats m 0 c).arrAt 4 cfg0.N = KA (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  obtain ⟨h, r, j, rfl⟩ : ∃ (h : Fin 16) (r : Fin 512) (j : Fin 128), y = ix3 h r j := ⟨y 0, y 1, y 2, eq_ix3 _⟩
  have ht : (t : ℕ) < 32 := lt_of_lt_of_eq t.isLt (by decide)
  have e : ((cfg0.win 4).blk t).view.emb (ix3 h r j) = ix3 (n0 := 16) (n1 := 16384) (n2 := 128) h ⟨512 * (t : ℕ) + r, by omega⟩ j := by
    blk_ext [index4 t]
  have ex : (cfg0.win 4).xinj (cfg0.grid.coords t) (ix3 h r j) = ix3 (n0 := 16) (n1 := 512) (n2 := 128) h r j := rfl
  rw [e, after0_4, out4_eq, ex, ← block_row4 m c t h r j ht]
  exact cast_eq _ _

/-- What the forget gates' logarithms' array holds, from the arguments. -/
def GA (X : S4x4096x1024.Idx → EReal) (g : S1024.Idx → EReal) (w : S1024x8192.Idx → EReal) (b : S4x2048.Idx → EReal) (i : S16x16384x128.Idx) : EReal :=
  Gate.forget (fun a => b (ix2 a ⟨128 * (i 0 : ℕ) + (i 2 : ℕ), by have := (i 0).isLt; have := (i 2).isLt; change (i 0 : ℕ) < 16 at *; change (i 2 : ℕ) < 128 at *; omega⟩)) (Slab.lin (fun k => X (ix3 ⟨(i 1 : ℕ) / 4096, by have := (i 1).isLt; change (i 1 : ℕ) < 16384 at this; omega⟩ ⟨(i 1 : ℕ) % 4096, by omega⟩ k)) (fun k => g (ix1 k)) (fun k j => w (ix2 k j)) ⟨2048 + (128 * (i 0 : ℕ) + (i 2 : ℕ)), by have := (i 0).isLt; have := (i 2).isLt; change (i 0 : ℕ) < 16 at *; change (i 2 : ℕ) < 128 at *; omega⟩)

/-- One place of a point's output block is the array's place it is written to: the forget gates' logarithms. -/
theorem block_row5 (h : Fin 16) (r : Fin 512) (j : Fin 128) (ht : (t : ℕ) < 32) :
    GB (iblk m c 0 t) (iblk m c 1 t) (iblk m c 2 t) (iblk m c 3 t) (ix3 h r j) = GA (m ((c : Thread nD τ).loc main_arg0)) (m ((c : Thread nD τ).loc main_arg1)) (m ((c : Thread nD τ).loc main_arg2)) (m ((c : Thread nD τ).loc main_arg3)) (ix3 (n0 := 16) (n1 := 16384) (n2 := 128) h ⟨512 * (t : ℕ) + r, by omega⟩ j) := by
  show Gate.forget (fun a => iblk m c 3 t (ix2 a ⟨128 * (h : ℕ) + (j : ℕ), by omega⟩)) (Slab.lin (fun k => iblk m c 0 t (ix2 r k)) (fun k => iblk m c 1 t (ix2 0 k)) (fun k j => iblk m c 2 t (ix2 k j)) ⟨128 * (h : ℕ) + (j : ℕ), by omega⟩) = _
  simp only [blk0, blk1, blk2, blk3]
  rfl

/-- The forget gates' logarithms' array after the run. -/
theorem arr5_eq : (dats m 0 c).arrAt 5 cfg0.N = GA (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨h, r, j, rfl⟩ : ∃ (h : Fin 16) (r : Fin 512) (j : Fin 128), y = ix3 h r j := ⟨y 0, y 1, y 2, eq_ix3 _⟩
  have ht : (t : ℕ) < 32 := lt_of_lt_of_eq t.isLt (by decide)
  have e : ((cfg0.win 5).blk t).view.emb (ix3 h r j) = ix3 (n0 := 16) (n1 := 16384) (n2 := 128) h ⟨512 * (t : ℕ) + r, by omega⟩ j := by
    blk_ext [index5 t]
  have ex : (cfg0.win 5).xinj (cfg0.grid.coords t) (ix3 h r j) = ix3 (n0 := 16) (n1 := 512) (n2 := 128) h r j := rfl
  rw [e, after0_5, out5_eq, ex, ← block_row5 m c t h r j ht]
  exact cast_eq _ _

end Cert.Kernel10Ideal.Block

namespace Cert.Reference10Ideal.Rows

open Cert.Reference10Ideal Cert.Reference10Ideal.Read Idealize.ShloMosaic

/-! What the reference computes, row by row. -/

variable (x0 : (⟨S4x4096x1024, .f32⟩ : BufTy).Contents (Elt Ideal)) (x1 : (⟨S1024, .f32⟩ : BufTy).Contents (Elt Ideal))
  (x2 : (⟨S1024x8192, .f32⟩ : BufTy).Contents (Elt Ideal)) (x3 : (⟨S4x2048, .f32⟩ : BufTy).Contents (Elt Ideal))

/-- The normed rows. -/
theorem norm_row (b : Fin 4) (t : Fin 4096) (k : Fin 1024) :
    val_main_v31 (F := Ideal) x0 x1 (ix3 b t k) = Gmlp.hrow (fun k => x0 (ix3 b t k)) (fun k => x1 (ix1 k)) k := by
  simp only [val_main_v31_apply, val_main_v28_apply, val_main_v27_apply, val_main_v26_apply, val_main_v25_apply, val_main_v24_apply, val_main_v23_apply,
    val_main_v22_apply, val_main_v21_apply, val_main_v20_apply, val_main_v19_apply, val_main_cst_2_apply, val_main_cst_3_apply, val_main_cst_4_apply,
    val_main_v29_apply, val_main_v30_apply]
  have ex : ∀ i, x0 (idx_main_v20 (idx_main_v21 (idx_main_v27 (ix3 b t k))) i) = x0 (ix3 b t i) := fun i => congrArg x0 (eq_ix3 _)
  have eg : x1 (idx_main_v29 (idx_main_v30 (ix3 b t k))) = x1 (ix1 k) := congrArg x1 (eq_ix1 _)
  simp only [ex, eg]
  pointwise
  rfl

/-- The projection of the normed rows. -/
theorem proj_row (b : Fin 4) (t : Fin 4096) (j : Fin 8192) :
    val_main_v32 (F := Ideal) x0 x1 x2 (ix3 b t j) = Slab.lin (fun k => x0 (ix3 b t k)) (fun k => x1 (ix1 k)) (fun k j => x2 (ix2 k j)) j := by
  rw [val_main_v32_apply]
  refine Finset.sum_congr rfl fun k _ => congrArg₂ (· * ·) ?_ ?_
  · exact (congrArg (val_main_v31 (F := Ideal) x0 x1) (eq_ix3 _)).trans (norm_row x0 x1 b t k)
  · exact congrArg x2 (eq_ix2 _)

/-- The call's columns of the projection. -/
theorem cols_row (b : Fin 4) (t : Fin 4096) (j : Fin 2048) :
    val_main_v33 (F := Ideal) x0 x1 x2 (ix3 b t j) = Slab.lin (fun k => x0 (ix3 b t k)) (fun k => x1 (ix1 k)) (fun k j => x2 (ix2 k j)) ⟨2048 + j, by omega⟩ := by
  rw [val_main_v33_apply]
  exact (congrArg (val_main_v32 (F := Ideal) x0 x1 x2) ((eq_ix3 _).trans (by congr 1))).trans (proj_row x0 x1 x2 b t ⟨2048 + j, by omega⟩)

/-- The greatest weight of a column. -/
theorem max_row (j : Fin 2048) :
    val_main_v0 (F := Ideal) x3 (ix1 j) = Finset.univ.fold max (Ideal.ofBits FTy.f32 4286578688#32) (fun a : Fin 4 => x3 (ix2 a j)) := by
  unfold val_main_v0
  pointwise
  rfl

/-- The exponentials of a column. -/
theorem exp_row (a : Fin 4) (j : Fin 2048) : val_main_v6 (F := Ideal) x3 (ix2 a j) = Gate.ew (fun a => x3 (ix2 a j)) a := by
  simp only [val_main_v6_apply, val_main_v5_apply, val_main_v4_apply, val_main_v3_apply, val_main_v2_apply, val_main_v1_apply, val_main_cst_0_apply]
  have e : val_main_v0 (F := Ideal) x3 (idx_main_v3 (idx_main_v4 (ix2 a j))) = _ := (congrArg _ (eq_ix1 _)).trans (max_row x3 j)
  rw [e]
  have hb : (FloatOps.ofBits FTy.f32 0xFF800000#32 : Ideal .f32) = ⊥ := by
    show Ideal.ofBits FTy.f32 0xFF800000#32 = ⊥
    simp [Ideal.ofBits, Ideal.ieee]
  rw [hb]
  simp only [Gate.ew, Ideal.hostUnary_exp_def, Ideal.subf_def, Ideal.maximumf_def]
  rw [max_eq_right bot_le]

/-- The shares of a column. -/
theorem share_row (a : Fin 4) (j : Fin 2048) :
    val_main_v10 (F := Ideal) x3 (ix2 a j) = Ideal.div (Gate.ew (fun a => x3 (ix2 a j)) a) (∑ x, Gate.ew (fun a => x3 (ix2 a j)) x) := by
  have es : ∀ x : Fin 4, val_main_v6 (F := Ideal) x3 (idx_main_v7 (idx_main_v8 (idx_main_v9 (ix2 a j))) x) = Gate.ew (fun a => x3 (ix2 a j)) x :=
    fun x => (congrArg _ (eq_ix2 _)).trans (exp_row x3 x j)
  simp only [val_main_v10_apply, val_main_v9_apply, val_main_v8_apply, val_main_v7_apply, exp_row, es, val_main_cst_1_apply]
  pointwise

/-- The third running sum of the shares. -/
theorem cum_row (j : Fin 2048) : val_main_v11 (F := Ideal) x3 (ix2 2 j) =
    val_main_v10 (F := Ideal) x3 (ix2 0 j) + val_main_v10 (F := Ideal) x3 (ix2 1 j) + val_main_v10 (F := Ideal) x3 (ix2 2 j) := by
  unfold val_main_v11
  generalize val_main_v10 (F := Ideal) x3 = y
  simp only [Host.reduceWindowAdd, Ideal.hostReduceWindowAdd_def]
  unfold Ideal.hostReduceWindowAdd Host.reduceWindow
  have hv : val_main_call0_call0_v0 (F := Ideal) (Shape.Idx.first Gen.h_S_) = 0 := by
    rw [val_main_call0_call0_v0_apply, val_main_call0_call0_cst_apply]
    show Ideal.ofBits FTy.f32 0x00000000#32 = 0
    simp [Ideal.ofBits, Ideal.ieee]
  dsimp only
  rw [hv]
  have h0 : ∀ n : Fin (⟨2, ![4, 1]⟩ : Shape).numel, ((⟨2, ![4, 1]⟩ : Shape).rowMajor.symm n 0).val = n.val := by decide +kernel
  have h1 : ∀ n : Fin (⟨2, ![4, 1]⟩ : Shape).numel, ((⟨2, ![4, 1]⟩ : Shape).rowMajor.symm n 1).val = 0 := by decide +kernel
  have hN : (⟨2, ![4, 1]⟩ : Shape).numel = 4 := by decide +kernel
  let g : ℕ → EReal := fun n => if n = 1 then y (ix2 0 j) else if n = 2 then y (ix2 1 j) else if n = 3 then y (ix2 2 j) else 0
  have e : ∀ (r : EReal) (n : Fin (⟨2, ![4, 1]⟩ : Shape).numel), (r +
      if hin : ∀ (a : Fin S4x2048.rank), ![3, 0] a ≤ (ix2 (n0 := 4) (n1 := 2048) 2 j (Fin.cast rfl a)).val * ![1, 1] a + ((⟨2, ![4, 1]⟩ : Shape).rowMajor.symm n a).val ∧
          (ix2 (n0 := 4) (n1 := 2048) 2 j (Fin.cast rfl a)).val * ![1, 1] a + ((⟨2, ![4, 1]⟩ : Shape).rowMajor.symm n a).val - ![3, 0] a < S4x2048.size a then
        y fun a => ⟨(ix2 (n0 := 4) (n1 := 2048) 2 j (Fin.cast rfl a)).val * ![1, 1] a + ((⟨2, ![4, 1]⟩ : Shape).rowMajor.symm n a).val - ![3, 0] a, (hin a).2⟩
      else 0) = r + g n.val := by
    intro r n
    have hn : n.val < 4 := lt_of_lt_of_eq n.isLt hN
    congr 1
    split
    · next hin =>
      have q := (hin 0).1
      change 3 ≤ 2 * 1 + ((⟨2, ![4, 1]⟩ : Shape).rowMajor.symm n 0).val at q
      rw [h0] at q
      have gg : g n.val = y (ix2 ⟨n.val - 1, by omega⟩ j) := by
        obtain e | e | e : n.val = 1 ∨ n.val = 2 ∨ n.val = 3 := by omega
        all_goals simp only [g, e]; rfl
      rw [gg]
      refine congrArg y (funext fun a => Fin.ext ?_)
      match a with
      | ⟨0, _⟩ =>
        show 2 * 1 + ((⟨2, ![4, 1]⟩ : Shape).rowMajor.symm n 0).val - 3 = n.val - 1
        rw [h0]; omega
      | ⟨1, _⟩ =>
        show j.val * 1 + ((⟨2, ![4, 1]⟩ : Shape).rowMajor.symm n 1).val - 0 = j.val
        rw [h1]; omega
    · next hin =>
      have hz : n.val = 0 := by
        by_contra hne
        refine hin fun a => ?_
        match a with
        | ⟨0, _⟩ =>
          show 3 ≤ 2 * 1 + ((⟨2, ![4, 1]⟩ : Shape).rowMajor.symm n 0).val ∧ 2 * 1 + ((⟨2, ![4, 1]⟩ : Shape).rowMajor.symm n 0).val - 3 < 4
          rw [h0]; omega
        | ⟨1, _⟩ =>
          show 0 ≤ j.val * 1 + ((⟨2, ![4, 1]⟩ : Shape).rowMajor.symm n 1).val ∧ j.val * 1 + ((⟨2, ![4, 1]⟩ : Shape).rowMajor.symm n 1).val - 0 < 2048
          rw [h1]; omega
      simp only [g, hz]; rfl
  refine (List.foldl_ext _ (fun r n => r + g n.val) _ fun r n _ => by convert e r n).trans ?_
  have em : ∀ (N : ℕ) (v : EReal), List.foldl (fun r (n : Fin N) => r + g n.val) v (List.finRange N) = List.foldl (fun r n => r + g n) v (List.range N) := by
    intro N v
    rw [← List.map_coe_finRange_eq_range, List.foldl_map]
  rw [em, hN]
  show 0 + 0 + y (ix2 0 j) + y (ix2 1 j) + y (ix2 2 j) = _
  rw [zero_add, zero_add]

/-- The lower bound before its reshapes, from the shares. -/
theorem bound_row (j : Fin 2048) : val_main_v18 (F := Ideal) x3 (ix1 j) =
    Ideal.div (Gate.ew (fun a => x3 (ix2 a j)) 0) (∑ x, Gate.ew (fun a => x3 (ix2 a j)) x)
      + Ideal.div (Gate.ew (fun a => x3 (ix2 a j)) 1) (∑ x, Gate.ew (fun a => x3 (ix2 a j)) x)
      + Ideal.div (Gate.ew (fun a => x3 (ix2 a j)) 2) (∑ x, Gate.ew (fun a => x3 (ix2 a j)) x)
      - Ideal.div (Gate.ew (fun a => x3 (ix2 a j)) 0) (∑ x, Gate.ew (fun a => x3 (ix2 a j)) x) := by
  rw [val_main_v18_apply, val_main_v17_apply, val_main_v16_apply, val_main_v15_apply, val_main_v14_apply, val_main_v13_apply, val_main_v12_apply]
  have ea : idx_main_v17 (idx_main_v18 (ix1 j)) = ix2 (n0 := 4) (n1 := 2048) 2 j := by
    funext a
    refine Fin.ext ?_
    match a with
    | ⟨0, _⟩ => rfl
    | ⟨1, _⟩ => simp [idx_main_v17, idx_main_v18]
  rw [ea, cum_row]
  have eb : idx_main_v12 (idx_main_v13 (idx_main_v14 (idx_main_v15 (ix2 (n0 := 4) (n1 := 2048) 2 j)))) = ix2 (n0 := 4) (n1 := 2048) 0 j := by
    funext a
    refine Fin.ext ?_
    match a with
    | ⟨0, _⟩ => rfl
    | ⟨1, _⟩ => simp [idx_main_v12, idx_main_v13, idx_main_v14, idx_main_v15]
  rw [eb]
  simp only [share_row]
  rfl

/-- A comparison of a number with itself picks the branch of numbers. -/
theorem sel_self (x a b : EReal) : Scalar.select (FloatOps.cmpf (F := Ideal) (φ := .f32) .une x x) a b = b := by
  simp [FloatOps.cmpf, Ideal.cmp, Scalar.select]

/-- The lower bound of a column, its weights being numbers. -/
theorem lb_row (h : ∀ i, ∃ r : ℝ, x3 i = (r : EReal)) (j : Fin 2048) : val_main_v18 (F := Ideal) x3 (ix1 j) = Gate.lb (fun a => x3 (ix2 a j)) := by
  choose ω hω using fun a : Fin 4 => h (ix2 a j)
  obtain ⟨b, -, -, hb, hc⟩ := Gate.lb_real (fun a => x3 (ix2 a j)) ω hω
  rw [bound_row, hb]
  exact hc

/-- The logarithm of the sigmoid, negated: the softplus of the negation. -/
theorem soft_row (b : Fin 4) (t : Fin 4096) (j : Fin 2048) :
    val_main_call1_v1 (F := Ideal) x0 x1 x2 (ix3 b t j) = Gate.lae (-(val_main_v33 (F := Ideal) x0 x1 x2 (ix3 b t j))) 0 := by
  rw [val_main_call1_v1_apply, val_main_call1_call0_v4_apply, sel_self]
  simp only [val_main_call1_v0_apply, val_main_call1_call0_v0_apply, val_main_call1_call0_v1_apply, val_main_call1_call0_v2_apply, val_main_call1_call0_v3_apply, val_main_call1_call0_v5_apply,
    val_main_call1_call0_v7_apply, val_main_call1_call0_v8_apply, val_main_call1_call0_v9_apply, val_main_call1_call0_v10_apply, val_main_call1_call0_v11_apply, val_main_call1_call0_cst_apply]
  generalize val_main_v33 (F := Ideal) x0 x1 x2 (ix3 b t j) = p
  have z : Ideal.ofBits FTy.f32 0x00000000#32 = 0 := by simp [Ideal.ofBits, Ideal.ieee]
  rw [Gate.lae]
  rw [← z]
  rfl

/-- The forget gate's logarithm. -/
theorem gate_row (h : ∀ i, ∃ r : ℝ, x3 i = (r : EReal)) (b : Fin 4) (t : Fin 4096) (j : Fin 2048) :
    val_main_v54 (F := Ideal) x0 x1 x2 x3 (ix3 b t j) = Gate.forget (fun a => x3 (ix2 a j)) (val_main_v33 (F := Ideal) x0 x1 x2 (ix3 b t j)) := by
  choose ω hω using fun a : Fin 4 => h (ix2 a j)
  rw [val_main_v54_apply, val_main_v46_apply, sel_self, ← Gate.forget_eq _ ω hω, ← lb_row x3 h j, ← soft_row, Gate.lae]
  simp only [val_main_v34_apply, val_main_v35_apply, val_main_v36_apply, val_main_v37_apply, val_main_v38_apply, val_main_v39_apply, val_main_v40_apply, val_main_v41_apply, val_main_v42_apply, val_main_v43_apply,
    val_main_v44_apply, val_main_v45_apply, val_main_v49_apply, val_main_v50_apply, val_main_v51_apply, val_main_v52_apply, val_main_v53_apply]
  have e1 : idx_main_v38 (idx_main_v39 (ix3 b t j)) = ix1 j := eq_ix1 _
  have e2 : idx_main_v41 (idx_main_v42 (ix3 b t j)) = ix1 j := eq_ix1 _
  rw [e1, e2]
  rfl

/-- The key. -/
theorem key_row (h : ∀ i, ∃ r : ℝ, x3 i = (r : EReal)) (b : Fin 4) (t : Fin 4096) (j : Fin 2048) :
    val_main_v66 (F := Ideal) x0 x1 x2 x3 (ix3 b t j) = Gate.key (fun a => x3 (ix2 a j)) (val_main_v33 (F := Ideal) x0 x1 x2 (ix3 b t j)) := by
  rw [← Gate.key_eq, ← lb_row x3 h j, Gate.sg]
  simp only [val_main_v55_apply, val_main_v56_apply, val_main_v57_apply, val_main_v58_apply, val_main_v59_apply, val_main_v60_apply, val_main_v61_apply, val_main_v62_apply, val_main_v63_apply, val_main_v64_apply, val_main_v65_apply, val_main_v66_apply,
    val_main_cst_5_apply, val_main_cst_6_apply, val_main_cst_7_apply]
  have e1 : idx_main_v64 (idx_main_v65 (ix3 b t j)) = ix1 j := eq_ix1 _
  rw [e1]
  have z : Ideal.ofBits FTy.f32 0x3F800000#32 = 1 := by
    simp [Ideal.ofBits, Ideal.ieee]
    rw [← EReal.coe_mul]
    norm_num
  rw [← z]
  rfl

/-- The reference's keys are what the kernel's first result array holds. -/
theorem ref_eq (h : ∀ i, ∃ r : ℝ, x3 i = (r : EReal)) : val_main_v68 (F := Ideal) x0 x1 x2 x3 = Cert.Kernel10Ideal.Block.KA x0 x1 x2 x3 := by
  funext i
  obtain ⟨d, r, j, rfl⟩ : ∃ (d : Fin 16) (r : Fin 16384) (j : Fin 128), i = ix3 d r j := ⟨i 0, i 1, i 2, eq_ix3 _⟩
  have e : idx_main_v67 (idx_main_v68 (ix3 d r j)) = ix3 (n0 := 4) (n1 := 4096) (n2 := 2048) ⟨(r : ℕ) / 4096, by omega⟩ ⟨(r : ℕ) % 4096, by omega⟩ ⟨128 * (d : ℕ) + j, by omega⟩ := by
    funext a
    refine Fin.ext ?_
    match a with
    | ⟨0, _⟩ => show (((r : ℕ) * 16 + (d : ℕ)) * 128 + (j : ℕ)) / 8388608 = (r : ℕ) / 4096; omega
    | ⟨1, _⟩ => show (((r : ℕ) * 16 + (d : ℕ)) * 128 + (j : ℕ)) / 2048 % 4096 = (r : ℕ) % 4096; omega
    | ⟨2, _⟩ => show (((r : ℕ) * 16 + (d : ℕ)) * 128 + (j : ℕ)) % 2048 = 128 * (d : ℕ) + j; omega
  rw [val_main_v68_apply, val_main_v67_apply, e, key_row x0 x1 x2 x3 h, cols_row]
  rfl

/-- The reference's forget gates are what the kernel's second result array holds. -/
theorem gref_eq (h : ∀ i, ∃ r : ℝ, x3 i = (r : EReal)) : val_main_v70 (F := Ideal) x0 x1 x2 x3 = Cert.Kernel10Ideal.Block.GA x0 x1 x2 x3 := by
  funext i
  obtain ⟨d, r, j, rfl⟩ : ∃ (d : Fin 16) (r : Fin 16384) (j : Fin 128), i = ix3 d r j := ⟨i 0, i 1, i 2, eq_ix3 _⟩
  have e : idx_main_v69 (idx_main_v70 (ix3 d r j)) = ix3 (n0 := 4) (n1 := 4096) (n2 := 2048) ⟨(r : ℕ) / 4096, by omega⟩ ⟨(r : ℕ) % 4096, by omega⟩ ⟨128 * (d : ℕ) + j, by omega⟩ := by
    funext a
    refine Fin.ext ?_
    match a with
    | ⟨0, _⟩ => show (((r : ℕ) * 16 + (d : ℕ)) * 128 + (j : ℕ)) / 8388608 = (r : ℕ) / 4096; omega
    | ⟨1, _⟩ => show (((r : ℕ) * 16 + (d : ℕ)) * 128 + (j : ℕ)) / 2048 % 4096 = (r : ℕ) % 4096; omega
    | ⟨2, _⟩ => show (((r : ℕ) * 16 + (d : ℕ)) * 128 + (j : ℕ)) % 2048 = 128 * (d : ℕ) + j; omega
  rw [val_main_v70_apply, val_main_v69_apply, e, gate_row x0 x1 x2 x3 h, cols_row]
  rfl

/-- The side conditions of the precondition. -/
instance pre_facts : Cert.Pre_lb_finite.Facts := ⟨by decide⟩

/-- Weights that the precondition admits are numbers. -/
theorem weights [Cert.Pre_lb_finite.Facts] (h : Cert.Pre_lb_finite.fn (F := Ideal) x0 x1 x2 x3 = fun _ => 1#1) : ∀ i, ∃ r : ℝ, x3 i = (r : EReal) := by
  intro i
  have e := congrFun h i
  change BitVec.ofBool (decide (max (x3 i) (-(x3 i)) < Ideal.ofBits FTy.f32 0x7F800000#32)) = 1#1 at e
  have z : Ideal.ofBits FTy.f32 0x7F800000#32 = ⊤ := by simp [Ideal.ofBits, Ideal.ieee]
  rw [z] at e
  have q : ∀ w : EReal, BitVec.ofBool (decide (max w (-w) < ⊤)) = 1#1 → ∃ r : ℝ, w = (r : EReal) := by
    intro w e
    induction w with
    | bot => simp at e
    | top => simp at e
    | coe r => exact ⟨r, rfl⟩
  exact q _ e

end Cert.Reference10Ideal.Rows

end
-- ==== Proof.JBBlock.lean ====
module

public import proofs.«01_k».proof.Proof.Slab
public import proofs.«01_k».proof.Proof.Gen.Kernel11Ideal.Frame
public import Idealize.ShloMosaic.Lib.IdealHost

@[expose] public section

set_option maxRecDepth 16384

noncomputable section

namespace Cert.Kernel11Ideal.Proj

open Cert.Kernel11Ideal Cert.Kernel11Ideal.Gen Idealize.ShloMosaic Idealize.ShloMosaic.TcCoe Idealize.SL.Sem

/-! The two joined calls: what a grid point of the second leaves in the keys' and the values' block. -/

/-- The normed rows of a point against column `j` of the input weights. -/
def LB (x0 : Vec Ideal S512x1024 .f32) (x1 : Vec Ideal S1x1024 .f32) (x2 : Vec Ideal S1024x4096 .bf16) (r : Fin 512) (j : Fin 4096) : EReal :=
  Slab.lin (fun k => x0 (ix2 r k)) (fun k => x1 (ix2 0 k)) (fun k j => x2 (ix2 k j)) j

/-- A row `P` of 1024 columns under the norm of its column's part of 256 against the 256 × 256 matrix `w`, times `g`. -/
def part (P : Fin 1024 → EReal) (w : Fin 256 → Fin 256 → EReal) (g : Fin 1024 → EReal) (j : Fin 1024) : EReal :=
  P j * Ideal.rsqrt ((∑ s : Fin 256, P ⟨256 * ((j : ℕ) / 256) + s, by omega⟩ * P ⟨256 * ((j : ℕ) / 256) + s, by omega⟩ * w s ⟨(j : ℕ) % 256, by omega⟩)
    * Ideal.ofBits FTy.f32 0x3C800000#32 + Ideal.ofBits FTy.f32 0x358637BD#32) * g j

/-- The keys of a point. -/
def KB (x0 : Vec Ideal S512x1024 .f32) (x1 : Vec Ideal S1x1024 .f32) (x2 : Vec Ideal S1024x4096 .bf16) (x3 x4 : Vec Ideal S1x1024 .f32) (x5 : Vec Ideal S256x256 .bf16) (r : Fin 512) (j : Fin 1024) : EReal :=
  part (fun j => LB x0 x1 x2 r ⟨1024 + j, by omega⟩) (fun s k => x5 (ix2 s k)) (fun j => x4 (ix2 0 j)) j

/-- The values of a point. -/
def VB (x0 : Vec Ideal S512x1024 .f32) (x1 : Vec Ideal S1x1024 .f32) (x2 : Vec Ideal S1024x4096 .bf16) (x3 x4 : Vec Ideal S1x1024 .f32) (x5 : Vec Ideal S256x256 .bf16) (r : Fin 512) (j : Fin 1024) : EReal := LB x0 x1 x2 r ⟨2048 + j, by omega⟩

/-- A block of rows as one array. -/
def RB (f : Fin 512 → Fin 1024 → EReal) (y : S512x1024.Idx) : EReal := f (y 0) (y 1)

/-- The first 512 columns of the values. -/
theorem v0 (x0 : Vec Ideal S512x1024 .f32) (x1 : Vec Ideal S1x1024 .f32) (x2 : Vec Ideal S1024x4096 .bf16) (x3 x4 : Vec Ideal S1x1024 .f32) (x5 : Vec Ideal S256x256 .bf16) (r j : Fin 512) :
    k1_pay67 (F := Ideal) x0 x1 x2 x3 x4 x5 (ix2 r j) = VB x0 x1 x2 x3 x4 x5 r ⟨0 + j, by omega⟩ := by
  unfold_payloads
  pointwise
  simp only [VB, LB, Slab.lin, Gmlp.hrow]
  try simp only [← Nat.add_assoc, Nat.reduceAdd, Nat.zero_add]
  try rfl

/-- The last 512 columns of the values. -/
theorem v1 (x0 : Vec Ideal S512x1024 .f32) (x1 : Vec Ideal S1x1024 .f32) (x2 : Vec Ideal S1024x4096 .bf16) (x3 x4 : Vec Ideal S1x1024 .f32) (x5 : Vec Ideal S256x256 .bf16) (r j : Fin 512) :
    k1_pay76 (F := Ideal) x0 x1 x2 x3 x4 x5 (ix2 r j) = VB x0 x1 x2 x3 x4 x5 r ⟨512 + j, by omega⟩ := by
  unfold_payloads
  pointwise
  simp only [VB, LB, Slab.lin, Gmlp.hrow]
  try simp only [← Nat.add_assoc, Nat.reduceAdd, Nat.zero_add]
  try rfl

/-- The first 512 columns of the keys. -/
theorem k0 (x0 : Vec Ideal S512x1024 .f32) (x1 : Vec Ideal S1x1024 .f32) (x2 : Vec Ideal S1024x4096 .bf16) (x3 x4 : Vec Ideal S1x1024 .f32) (x5 : Vec Ideal S256x256 .bf16) (r j : Fin 512) :
    k1_pay20 (F := Ideal) (k1_pay64 x0 x1 x2 x3 x4 x5) (k1_pay65 x0 x1 x2 x3 x4 x5) (k1_pay66 x0 x1 x2 x3 x4 x5) (View.ld x5 r1_3) (View.ld x5 r1_3) (View.ld x4 r1_4) (ix2 r j) = KB x0 x1 x2 x3 x4 x5 r ⟨0 + j, by omega⟩ := by
  unfold_payloads
  pointwise
  have hj := j.isLt
  by_cases h : (j : ℕ) < 256
  · have e1 : (j : ℕ) / 256 = 0 := by omega
    have e2 : (j : ℕ) % 256 = j - 0 := by omega
    simp only [h, if_true, if_false, ite_true, ite_false, dite_true, dite_false, KB, part, LB, Slab.lin, Gmlp.hrow, Nat.zero_add, Nat.sub_zero, e1, e2, ← Nat.add_assoc, Nat.reduceAdd, Nat.reduceMul]
  · have e1 : (j : ℕ) / 256 = 1 := by omega
    have e2 : (j : ℕ) % 256 = j - 256 := by omega
    have e3 : 1280 + ((j : ℕ) - 256) = 1024 + (j : ℕ) := by omega
    simp only [h, if_true, if_false, ite_true, ite_false, dite_true, dite_false, KB, part, LB, Slab.lin, Gmlp.hrow, Nat.zero_add, Nat.sub_zero, e1, e2, ← Nat.add_assoc, Nat.reduceAdd, Nat.reduceMul, e3]

/-- The last 512 columns of the keys. -/
theorem k1 (x0 : Vec Ideal S512x1024 .f32) (x1 : Vec Ideal S1x1024 .f32) (x2 : Vec Ideal S1024x4096 .bf16) (x3 x4 : Vec Ideal S1x1024 .f32) (x5 : Vec Ideal S256x256 .bf16) (r j : Fin 512) :
    k1_pay47 (F := Ideal) (k1_pay74 x0 x1 x2 x3 x4 x5) (k1_pay75 x0 x1 x2 x3 x4 x5) (ix2 r j) = KB x0 x1 x2 x3 x4 x5 r ⟨512 + j, by omega⟩ := by
  unfold_payloads
  pointwise
  have hj := j.isLt
  by_cases h : (j : ℕ) < 256
  · have e1 : (512 + (j : ℕ)) / 256 = 2 := by omega
    have e2 : (512 + (j : ℕ)) % 256 = j - 0 := by omega
    simp only [h, if_true, if_false, ite_true, ite_false, dite_true, dite_false, KB, part, LB, Slab.lin, Gmlp.hrow, Nat.zero_add, Nat.sub_zero, e1, e2, ← Nat.add_assoc, Nat.reduceAdd, Nat.reduceMul]
  · have e1 : (512 + (j : ℕ)) / 256 = 3 := by omega
    have e2 : (512 + (j : ℕ)) % 256 = j - 256 := by omega
    have e3 : 1792 + ((j : ℕ) - 256) = 1536 + (j : ℕ) := by omega
    simp only [h, if_true, if_false, ite_true, ite_false, dite_true, dite_false, KB, part, LB, Slab.lin, Gmlp.hrow, Nat.zero_add, Nat.sub_zero, e1, e2, ← Nat.add_assoc, Nat.reduceAdd, Nat.reduceMul, e3]

/-- What the body leaves in the keys' block. -/
theorem out6_eq (x0 : Vec Ideal S512x1024 .f32) (x1 : Vec Ideal S1x1024 .f32) (x2 : Vec Ideal S1024x4096 .bf16) (x3 x4 : Vec Ideal S1x1024 .f32) (x5 : Vec Ideal S256x256 .bf16) : out1_6 (F := Ideal) x0 x1 x2 x3 x4 x5 = RB (KB x0 x1 x2 x3 x4 x5) := by
  funext y
  unfold out1_6
  refine View.canon_apply_of_pieces _ _ (View.PiecesOf.mem ?_) y (cover1_6 (F := Ideal) _ _ y)
  refine ⟨Slab.cols (RB (KB x0 x1 x2 x3 x4 x5)) _ 512 inb_S512x1024_S512x512_0_512 (by omega) fun r j => k1 x0 x1 x2 x3 x4 x5 r j,
    Slab.cols (RB (KB x0 x1 x2 x3 x4 x5)) _ 0 inb_S512x1024_S512x512_0_0 (by omega) fun r j => k0 x0 x1 x2 x3 x4 x5 r j, trivial⟩

/-- What the body leaves in the values' block. -/
theorem out7_eq (x0 : Vec Ideal S512x1024 .f32) (x1 : Vec Ideal S1x1024 .f32) (x2 : Vec Ideal S1024x4096 .bf16) (x3 x4 : Vec Ideal S1x1024 .f32) (x5 : Vec Ideal S256x256 .bf16) : out1_7 (F := Ideal) x0 x1 x2 x3 x4 x5 = RB (VB x0 x1 x2 x3 x4 x5) := by
  funext y
  unfold out1_7
  refine View.canon_apply_of_pieces _ _ (View.PiecesOf.mem ?_) y (cover1_7 (F := Ideal) _ _ y)
  refine ⟨Slab.cols (RB (VB x0 x1 x2 x3 x4 x5)) _ 512 inb_S512x1024_S512x512_0_512 (by omega) fun r j => v1 x0 x1 x2 x3 x4 x5 r j,
    Slab.cols (RB (VB x0 x1 x2 x3 x4 x5)) _ 0 inb_S512x1024_S512x512_0_0 (by omega) fun r j => v0 x0 x1 x2 x3 x4 x5 r j, trivial⟩

end Cert.Kernel11Ideal.Proj

end
-- ==== Proof.JBlock.lean ====
module

public import proofs.«01_k».proof.Proof.Layer
public import proofs.«01_k».proof.Proof.Gen.Kernel11Ideal.Frame
public import Idealize.ShloMosaic.Lib.Pipeline.ValueKit
public import Idealize.ShloMosaic.Lib.Pipeline.ReadBack

@[expose] public section

set_option maxRecDepth 16384

noncomputable section

namespace Cert.Kernel11Ideal.Block

open Cert.Kernel11Ideal Cert.Kernel11Ideal.Gen Idealize.ShloMosaic Idealize.ShloMosaic.TcCoe Idealize.SL.Sem

/-! What one block of 256 rows computes, as functions of the block's inputs. -/

/-- Row `r` of the block of rows. -/
abbrev rowB (x0 : Vec Ideal S256x1024 .f32) (r : Fin 256) : Fin 1024 → EReal := fun k => x0 (ix2 r k)
/-- The gain of the norm, as a row. -/
abbrev gainB (x1 : Vec Ideal S1x1024 .f32) : Fin 1024 → EReal := fun k => x1 (ix2 0 k)
/-- The input weights. -/
abbrev winB (x2 : Vec Ideal S1024x6144 .bf16) : Fin 1024 → Fin 6144 → EReal := fun k j => x2 (ix2 k j)
/-- The gain of the value norm, as a row. -/
abbrev vgB (x3 : Vec Ideal S1x2048 .f32) : Fin 2048 → EReal := fun j => x3 (ix2 0 j)

/-- The first gate over the block. -/
def UB (x0 : Vec Ideal S256x1024 .f32) (x1 : Vec Ideal S1x1024 .f32) (x2 : Vec Ideal S1024x6144 .bf16) : S256x2048.Idx → Elt Ideal .f32 :=
  fun y => Gmlp.urow (rowB x0 (y 0)) (gainB x1) (winB x2) (y 1)
/-- The values over the block. -/
def VB (x0 : Vec Ideal S256x1024 .f32) (x1 : Vec Ideal S1x1024 .f32) (x2 : Vec Ideal S1024x6144 .bf16) : S256x2048.Idx → Elt Ideal .f32 :=
  fun y => Gmlp.vrow (rowB x0 (y 0)) (gainB x1) (winB x2) (y 1)
/-- The second gate over the block. -/
def ZB (x0 : Vec Ideal S256x1024 .f32) (x1 : Vec Ideal S1x1024 .f32) (x2 : Vec Ideal S1024x6144 .bf16) : S256x2048.Idx → Elt Ideal .f32 :=
  fun y => Gmlp.zrow (rowB x0 (y 0)) (gainB x1) (winB x2) (y 1)
/-- The normed values over the block. -/
def VNB (x0 : Vec Ideal S256x1024 .f32) (x1 : Vec Ideal S1x1024 .f32) (x2 : Vec Ideal S1024x6144 .bf16) (x3 : Vec Ideal S1x2048 .f32) :
    S256x2048.Idx → Elt Ideal .f32 :=
  fun y => Gmlp.vnrow (rowB x0 (y 0)) (gainB x1) (winB x2) (vgB x3) (y 1)
/-- The mixed rows over the block: row `r` is row `r % 128` of chunk `r / 128`. -/
def GB (x0 : Vec Ideal S256x1024 .f32) (x1 : Vec Ideal S1x1024 .f32) (x2 : Vec Ideal S1024x6144 .bf16) (x3 : Vec Ideal S1x2048 .f32)
    (x4 x5 : Vec Ideal S16x128x128 .f32) : S256x2048.Idx → Elt Ideal .bf16 :=
  fun y => Gmlp.grow Gmlp.causal (fun s => rowB x0 ⟨128 * ((y 0 : ℕ) / 128) + s, by have := (y 0).isLt; change (y 0 : ℕ) < 256 at this; omega⟩) (gainB x1) (winB x2) (vgB x3)
    (fun g t s => x4 (ix3 g t s)) (fun g t d => x5 (ix3 g t d)) ⟨(y 0 : ℕ) % 128, by omega⟩ (y 1)

/-- A stored slab of 512 columns whose entries are those of a whole-block function is that function at the slab's places. -/
theorem slab_of (G : S256x2048.Idx → Elt Ideal .f32) (p : FVec Ideal S256x512 .f32) (o : ℕ) (inb : ∀ a, (![0, o] : Fin 2 → ℕ) a + S256x512.size a ≤ S256x2048.size a)
    (ho : o ≤ 1536)
    (hp : ∀ (r : Fin 256) (j : Fin 512), p (ix2 r j) = G (ix2 r ⟨o + j, by omega⟩))
    (x : (Rect.unit (s := S256x2048) ![0, o] S256x512.size inb).shape.Idx) : p x = G ((Rect.unit (s := S256x2048) ![0, o] S256x512.size inb).emb x) := by
  have hx : x = ix2 (n0 := 256) (n1 := 512) (x 0) (x 1) := eq_ix2 _
  rw [hx]
  refine (hp (x 0) (x 1)).trans (congrArg G ?_)
  funext a
  match a with
  | ⟨0, _⟩ => exact Fin.ext (show ((x 0 : Fin 256) : ℕ) = 0 + 1 * ((x 0 : Fin 256) : ℕ) by omega)
  | ⟨1, _⟩ => exact Fin.ext (show o + ((x 1 : Fin 512) : ℕ) = o + 1 * ((x 1 : Fin 512) : ℕ) by omega)

variable (c : Dev nD) (arg1 : Memref sig .tc .vmem S256x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S16x128x128 .f32) (harg6 : arg6.IsWhole)
  (arg9 arg10 arg11 : Memref sig .tc .vmem S256x2048 .f32)
  (x0 : Vec Ideal S256x1024 .f32) (x1 : Vec Ideal S1x1024 .f32) (x2 : Vec Ideal S1024x6144 .bf16) (x3 : Vec Ideal S1x2048 .f32) (x4 x5 : Vec Ideal S16x128x128 .f32)

/-- The normed rows. -/
theorem norm_word : kernelRun0_A.sl.r_1 (F := Ideal) c arg1 harg1 arg2 harg2 x0 x1 = fun i => Gmlp.hrow (rowB x0 (i 0)) (gainB x1) (i 1) := by
  funext i
  simp only [kernelRun0_A.sl.r_1, View.readAt_eq_ld, Memref.IsWhole.read_unread]
  unfold_payloads
  idx_vars i
  pointwise
  rfl

/-- The first scratch holds the first gate. -/
theorem HS0_4_eq : View.canon (kernelRun0_A.sl.HS0_4 (F := Ideal) c arg1 harg1 arg2 harg2 arg3 harg3 x0 x1 x2) = UB x0 x1 x2 := by
  have hc := View.cover_of_tiledL (kernelRun0_A.sl.HS0_4 (F := Ideal) c arg1 harg1 arg2 harg2 arg3 harg3 x0 x1 x2) ![256, 512] (by unfold kernelRun0_A.sl.HS0_4; rfl)
  funext y
  refine View.canon_apply_of_pieces _ _ (View.PiecesOf.mem ?_) y (hc y)
  unfold kernelRun0_A.sl.HS0_4
  refine ⟨slab_of _ _ 1536 inb_S256x2048_S256x512_0_1536 (by omega) fun r j => ?_, slab_of _ _ 1024 inb_S256x2048_S256x512_0_1024 (by omega) fun r j => ?_, slab_of _ _ 512 inb_S256x2048_S256x512_0_512 (by omega) fun r j => ?_,
    slab_of _ _ 0 inb_S256x2048_S256x512_0_0 (by omega) fun r j => ?_, trivial⟩
  all_goals
    simp only [kernelRun0_A.sl.r_11, kernelRun0_A.sl.r_12, kernelRun0_A.sl.r_4, kernelRun0_A.sl.cst_33, norm_word, View.readAt_eq_ld, Memref.IsWhole.read_unread]
    unfold_payloads
    pointwise
    simp only [UB, Gmlp.urow, Gmlp.prow, Gmlp.gelu, Gmlp.silu, Gmlp.hrow]
    try simp only [ix2_0, ix2_1, ← Nat.add_assoc, Nat.reduceAdd]
    try rfl

/-- The second scratch holds the values. -/
theorem HS1_4_eq : View.canon (kernelRun0_A.sl.HS1_4 (F := Ideal) c arg1 harg1 arg2 harg2 arg3 harg3 x0 x1 x2) = VB x0 x1 x2 := by
  have hc := View.cover_of_tiledL (kernelRun0_A.sl.HS1_4 (F := Ideal) c arg1 harg1 arg2 harg2 arg3 harg3 x0 x1 x2) ![256, 512] (by unfold kernelRun0_A.sl.HS1_4; rfl)
  funext y
  refine View.canon_apply_of_pieces _ _ (View.PiecesOf.mem ?_) y (hc y)
  unfold kernelRun0_A.sl.HS1_4
  refine ⟨slab_of _ _ 1536 inb_S256x2048_S256x512_0_1536 (by omega) fun r j => ?_, slab_of _ _ 1024 inb_S256x2048_S256x512_0_1024 (by omega) fun r j => ?_, slab_of _ _ 512 inb_S256x2048_S256x512_0_512 (by omega) fun r j => ?_,
    slab_of _ _ 0 inb_S256x2048_S256x512_0_0 (by omega) fun r j => ?_, trivial⟩
  all_goals
    simp only [kernelRun0_A.sl.r_2, kernelRun0_A.sl.r_7, kernelRun0_A.sl.r_8, kernelRun0_A.sl.r_9, kernelRun0_A.sl.cst_66, norm_word, View.readAt_eq_ld, Memref.IsWhole.read_unread]
    unfold_payloads
    pointwise
    simp only [VB, Gmlp.vrow, Gmlp.prow, Gmlp.gelu, Gmlp.silu, Gmlp.hrow]
    try simp only [ix2_0, ix2_1, ← Nat.add_assoc, Nat.reduceAdd]
    try rfl

/-- The third scratch holds the second gate. -/
theorem HS2_4_eq : View.canon (kernelRun0_A.sl.HS2_4 (F := Ideal) c arg1 harg1 arg2 harg2 arg3 harg3 x0 x1 x2) = ZB x0 x1 x2 := by
  have hc := View.cover_of_tiledL (kernelRun0_A.sl.HS2_4 (F := Ideal) c arg1 harg1 arg2 harg2 arg3 harg3 x0 x1 x2) ![256, 512] (by unfold kernelRun0_A.sl.HS2_4; rfl)
  funext y
  refine View.canon_apply_of_pieces _ _ (View.PiecesOf.mem ?_) y (hc y)
  unfold kernelRun0_A.sl.HS2_4
  refine ⟨slab_of _ _ 1536 inb_S256x2048_S256x512_0_1536 (by omega) fun r j => ?_, slab_of _ _ 1024 inb_S256x2048_S256x512_0_1024 (by omega) fun r j => ?_, slab_of _ _ 512 inb_S256x2048_S256x512_0_512 (by omega) fun r j => ?_,
    slab_of _ _ 0 inb_S256x2048_S256x512_0_0 (by omega) fun r j => ?_, trivial⟩
  all_goals
    simp only [kernelRun0_A.sl.r_14, kernelRun0_A.sl.r_15, kernelRun0_A.sl.r_6, norm_word, View.readAt_eq_ld, Memref.IsWhole.read_unread]
    unfold_payloads
    pointwise
    simp only [ZB, Gmlp.zrow, Gmlp.prow, Gmlp.gelu, Gmlp.silu, Gmlp.hrow]
    try simp only [ix2_0, ix2_1, ← Nat.add_assoc, Nat.reduceAdd]
    try rfl

end Cert.Kernel11Ideal.Block

end
-- ==== Proof.JMix.lean ====
module

public import proofs.«01_k».proof.Proof.JBlock
public import proofs.«01_k».proof.Proof.Gen.Kernel11Ideal.Frame
public import Idealize.ShloMosaic.Lib.Pipeline.ValueKit
public import Idealize.ShloMosaic.Lib.Pipeline.ReadBack

@[expose] public section

set_option maxRecDepth 16384

noncomputable section

namespace Cert.Kernel11Ideal.Block

open Cert.Kernel11Ideal Cert.Kernel11Ideal.Gen Idealize.ShloMosaic Idealize.ShloMosaic.TcCoe Idealize.SL.Sem

variable (c : Dev nD) (arg1 : Memref sig .tc .vmem S256x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S16x128x128 .f32) (harg6 : arg6.IsWhole)
  (arg9 arg10 arg11 : Memref sig .tc .vmem S256x2048 .f32)
  (x0 : Vec Ideal S256x1024 .f32) (x1 : Vec Ideal S1x1024 .f32) (x2 : Vec Ideal S1024x6144 .bf16) (x3 : Vec Ideal S1x2048 .f32) (x4 x5 : Vec Ideal S16x128x128 .f32)

/-- The sum of squares that the kernel accumulates slab by slab is the whole row's. -/
theorem ssq_word : kernelRun0_A.sl.r_13 (F := Ideal) c arg1 harg1 arg2 harg2 arg3 harg3 x0 x1 x2 = fun i => Gmlp.ssq (rowB x0 (i 0)) (gainB x1) (winB x2) := by
  funext i
  simp only [kernelRun0_A.sl.r_13, kernelRun0_A.sl.r_10, kernelRun0_A.sl.r_5, kernelRun0_A.sl.r_3, kernelRun0_A.sl.r_2, kernelRun0_A.sl.r_7, kernelRun0_A.sl.r_8, kernelRun0_A.sl.r_9, kernelRun0_A.sl.cst_66, norm_word, View.readAt_eq_ld, Memref.IsWhole.read_unread]
  unfold_payloads
  idx_vars i
  pointwise
  refine Eq.trans ?_ (Gmlp.sum_quarters _)
  simp only [Gmlp.vrow, Gmlp.prow, Gmlp.gelu, Gmlp.hrow, ← Nat.add_assoc, Nat.reduceAdd]
  try rfl

/-- After the norm the second scratch holds the normed values. -/
theorem HS1_5_eq : View.canon (kernelRun0_A.sl.HS1_5 (F := Ideal) c arg1 harg1 arg2 harg2 arg3 harg3 arg4 harg4 arg10 x0 x1 x2 x3) = VNB x0 x1 x2 x3 := by
  unfold kernelRun0_A.sl.HS1_5 kernelRun0_A.sl.v242
  rw [View.canon_cons_unit_lit _ _ _ (by decide), View.readCov_eq_canon', HS1_4_eq, ssq_word]
  funext y
  simp only [View.readAt_eq_ld, Memref.IsWhole.read_unread]
  unfold_payloads
  idx_vars y
  pointwise
  rfl

/-- A stored tile of 128 × 128 entries, given entry by entry over the whole-block gates and normed values, is the mixed block at the tile's
    places: rows of chunk `rr`, columns of group `g`. -/
theorem tile_of (x0 : Vec Ideal S256x1024 .f32) (x1 : Vec Ideal S1x1024 .f32) (x2 : Vec Ideal S1024x6144 .bf16) (x3 : Vec Ideal S1x2048 .f32)
    (x4 x5 : Vec Ideal S16x128x128 .f32) (p : FVec Ideal S128x128 .bf16) (o q : ℕ)
    (inb : ∀ a, (![o, q] : Fin 2 → ℕ) a + S128x128.size a ≤ S256x2048.size a) (rr g : ℕ) (hr : o = 128 * rr) (hg : q = 128 * g) (hr2 : rr < 2) (hg16 : g < 16)
    (hp : ∀ t d : Fin 128, p (ix2 t d) = UB x0 x1 x2 (ix2 ⟨o + t, by omega⟩ ⟨q + d, by omega⟩) *
      ((∑ s : Fin 128, if Gmlp.causal t s then x4 (ix3 ⟨g, hg16⟩ t s) * VNB x0 x1 x2 x3 (ix2 ⟨o + s, by omega⟩ ⟨q + d, by omega⟩) else 0)
        + x5 (ix3 ⟨g, hg16⟩ t d)) * ZB x0 x1 x2 (ix2 ⟨o + t, by omega⟩ ⟨q + d, by omega⟩))
    (x : (Rect.unit (s := S256x2048) ![o, q] S128x128.size inb).shape.Idx) :
    p x = GB x0 x1 x2 x3 x4 x5 ((Rect.unit (s := S256x2048) ![o, q] S128x128.size inb).emb x) := by
  have key : ∀ t d : Fin 128, p (ix2 t d) = GB x0 x1 x2 x3 x4 x5 (ix2 ⟨o + t, by omega⟩ ⟨q + d, by omega⟩) := fun t d => by
    have e1 : (o + (t : ℕ)) % 128 = t := by omega
    have e2 : 128 * ((o + (t : ℕ)) / 128) = o := by omega
    have e3 : (q + (d : ℕ)) / 128 = g := by omega
    have e4 : (q + (d : ℕ)) % 128 = d := by omega
    rw [hp]
    simp only [GB, Gmlp.grow, UB, VNB, ZB, ix2_0, ix2_1, e1, e2, e3, e4, Fin.eta]
  have hx : x = ix2 (n0 := 128) (n1 := 128) (x 0) (x 1) := eq_ix2 _
  refine (congrArg p hx).trans ((key (x 0) (x 1)).trans (congrArg (GB x0 x1 x2 x3 x4 x5) ?_))
  funext a
  match a with
  | ⟨0, _⟩ => exact Fin.ext (show o + ((x 0 : Fin 128) : ℕ) = o + 1 * ((x 0 : Fin 128) : ℕ) by omega)
  | ⟨1, _⟩ => exact Fin.ext (show q + ((x 1 : Fin 128) : ℕ) = q + 1 * ((x 1 : Fin 128) : ℕ) by omega)

/-- The last scratch holds the mixed rows. -/
theorem HS3_32_eq : View.canon (kernelRun0_A.sl.HS3_32 (F := Ideal) c arg1 harg1 arg2 harg2 arg3 harg3 arg4 harg4 arg5 harg5 arg6 harg6 arg9 arg10 arg11 x0 x1 x2 x3 x4 x5) = GB x0 x1 x2 x3 x4 x5 := by
  have hc := View.cover_of_tiledL (kernelRun0_A.sl.HS3_32 (F := Ideal) c arg1 harg1 arg2 harg2 arg3 harg3 arg4 harg4 arg5 harg5 arg6 harg6 arg9 arg10 arg11 x0 x1 x2 x3 x4 x5) ![128, 128] (by unfold kernelRun0_A.sl.HS3_32; rfl)
  funext y
  refine View.canon_apply_of_pieces _ _ (View.PiecesOf.mem ?_) y (hc y)
  unfold kernelRun0_A.sl.HS3_32
  refine ⟨tile_of x0 x1 x2 x3 x4 x5 _ 128 1920 inb_S256x2048_S128x128_128_1920 1 15 rfl rfl (by omega) (by omega) fun t d => ?_,
    tile_of x0 x1 x2 x3 x4 x5 _ 0 1920 inb_S256x2048_S128x128_0_1920 0 15 rfl rfl (by omega) (by omega) fun t d => ?_,
    tile_of x0 x1 x2 x3 x4 x5 _ 128 1792 inb_S256x2048_S128x128_128_1792 1 14 rfl rfl (by omega) (by omega) fun t d => ?_,
    tile_of x0 x1 x2 x3 x4 x5 _ 0 1792 inb_S256x2048_S128x128_0_1792 0 14 rfl rfl (by omega) (by omega) fun t d => ?_,
    tile_of x0 x1 x2 x3 x4 x5 _ 128 1664 inb_S256x2048_S128x128_128_1664 1 13 rfl rfl (by omega) (by omega) fun t d => ?_,
    tile_of x0 x1 x2 x3 x4 x5 _ 0 1664 inb_S256x2048_S128x128_0_1664 0 13 rfl rfl (by omega) (by omega) fun t d => ?_,
    tile_of x0 x1 x2 x3 x4 x5 _ 128 1536 inb_S256x2048_S128x128_128_1536 1 12 rfl rfl (by omega) (by omega) fun t d => ?_,
    tile_of x0 x1 x2 x3 x4 x5 _ 0 1536 inb_S256x2048_S128x128_0_1536 0 12 rfl rfl (by omega) (by omega) fun t d => ?_,
    tile_of x0 x1 x2 x3 x4 x5 _ 128 1408 inb_S256x2048_S128x128_128_1408 1 11 rfl rfl (by omega) (by omega) fun t d => ?_,
    tile_of x0 x1 x2 x3 x4 x5 _ 0 1408 inb_S256x2048_S128x128_0_1408 0 11 rfl rfl (by omega) (by omega) fun t d => ?_,
    tile_of x0 x1 x2 x3 x4 x5 _ 128 1280 inb_S256x2048_S128x128_128_1280 1 10 rfl rfl (by omega) (by omega) fun t d => ?_,
    tile_of x0 x1 x2 x3 x4 x5 _ 0 1280 inb_S256x2048_S128x128_0_1280 0 10 rfl rfl (by omega) (by omega) fun t d => ?_,
    tile_of x0 x1 x2 x3 x4 x5 _ 128 1152 inb_S256x2048_S128x128_128_1152 1 9 rfl rfl (by omega) (by omega) fun t d => ?_,
    tile_of x0 x1 x2 x3 x4 x5 _ 0 1152 inb_S256x2048_S128x128_0_1152 0 9 rfl rfl (by omega) (by omega) fun t d => ?_,
    tile_of x0 x1 x2 x3 x4 x5 _ 128 1024 inb_S256x2048_S128x128_128_1024 1 8 rfl rfl (by omega) (by omega) fun t d => ?_,
    tile_of x0 x1 x2 x3 x4 x5 _ 0 1024 inb_S256x2048_S128x128_0_1024 0 8 rfl rfl (by omega) (by omega) fun t d => ?_,
    tile_of x0 x1 x2 x3 x4 x5 _ 128 896 inb_S256x2048_S128x128_128_896 1 7 rfl rfl (by omega) (by omega) fun t d => ?_,
    tile_of x0 x1 x2 x3 x4 x5 _ 0 896 inb_S256x2048_S128x128_0_896 0 7 rfl rfl (by omega) (by omega) fun t d => ?_,
    tile_of x0 x1 x2 x3 x4 x5 _ 128 768 inb_S256x2048_S128x128_128_768 1 6 rfl rfl (by omega) (by omega) fun t d => ?_,
    tile_of x0 x1 x2 x3 x4 x5 _ 0 768 inb_S256x2048_S128x128_0_768 0 6 rfl rfl (by omega) (by omega) fun t d => ?_,
    tile_of x0 x1 x2 x3 x4 x5 _ 128 640 inb_S256x2048_S128x128_128_640 1 5 rfl rfl (by omega) (by omega) fun t d => ?_,
    tile_of x0 x1 x2 x3 x4 x5 _ 0 640 inb_S256x2048_S128x128_0_640 0 5 rfl rfl (by omega) (by omega) fun t d => ?_,
    tile_of x0 x1 x2 x3 x4 x5 _ 128 512 inb_S256x2048_S128x128_128_512 1 4 rfl rfl (by omega) (by omega) fun t d => ?_,
    tile_of x0 x1 x2 x3 x4 x5 _ 0 512 inb_S256x2048_S128x128_0_512 0 4 rfl rfl (by omega) (by omega) fun t d => ?_,
    tile_of x0 x1 x2 x3 x4 x5 _ 128 384 inb_S256x2048_S128x128_128_384 1 3 rfl rfl (by omega) (by omega) fun t d => ?_,
    tile_of x0 x1 x2 x3 x4 x5 _ 0 384 inb_S256x2048_S128x128_0_384 0 3 rfl rfl (by omega) (by omega) fun t d => ?_,
    tile_of x0 x1 x2 x3 x4 x5 _ 128 256 inb_S256x2048_S128x128_128_256 1 2 rfl rfl (by omega) (by omega) fun t d => ?_,
    tile_of x0 x1 x2 x3 x4 x5 _ 0 256 inb_S256x2048_S128x128_0_256 0 2 rfl rfl (by omega) (by omega) fun t d => ?_,
    tile_of x0 x1 x2 x3 x4 x5 _ 128 128 inb_S256x2048_S128x128_128_128 1 1 rfl rfl (by omega) (by omega) fun t d => ?_,
    tile_of x0 x1 x2 x3 x4 x5 _ 0 128 inb_S256x2048_S128x128_0_128 0 1 rfl rfl (by omega) (by omega) fun t d => ?_,
    tile_of x0 x1 x2 x3 x4 x5 _ 128 0 inb_S256x2048_S128x128_128_0 1 0 rfl rfl (by omega) (by omega) fun t d => ?_,
    tile_of x0 x1 x2 x3 x4 x5 _ 0 0 inb_S256x2048_S128x128_0_0 0 0 rfl rfl (by omega) (by omega) fun t d => ?_, trivial⟩
  all_goals
    simp only [kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.v273, kernelRun0_A.sl.v277, kernelRun0_A.sl.v279, kernelRun0_A.sl.v285, kernelRun0_A.sl.v289, kernelRun0_A.sl.v291, kernelRun0_A.sl.v304, kernelRun0_A.sl.v308, kernelRun0_A.sl.v310, kernelRun0_A.sl.v316, kernelRun0_A.sl.v320, kernelRun0_A.sl.v322, kernelRun0_A.sl.v335, kernelRun0_A.sl.v339, kernelRun0_A.sl.v341, kernelRun0_A.sl.v347, kernelRun0_A.sl.v351, kernelRun0_A.sl.v353, kernelRun0_A.sl.v366, kernelRun0_A.sl.v370, kernelRun0_A.sl.v372, kernelRun0_A.sl.v378, kernelRun0_A.sl.v382, kernelRun0_A.sl.v384, kernelRun0_A.sl.v397, kernelRun0_A.sl.v401, kernelRun0_A.sl.v403, kernelRun0_A.sl.v409, kernelRun0_A.sl.v413, kernelRun0_A.sl.v415, kernelRun0_A.sl.v428, kernelRun0_A.sl.v432, kernelRun0_A.sl.v434, kernelRun0_A.sl.v440, kernelRun0_A.sl.v444, kernelRun0_A.sl.v446, kernelRun0_A.sl.v459, kernelRun0_A.sl.v463, kernelRun0_A.sl.v465, kernelRun0_A.sl.v471, kernelRun0_A.sl.v475, kernelRun0_A.sl.v477, kernelRun0_A.sl.v490, kernelRun0_A.sl.v494, kernelRun0_A.sl.v496, kernelRun0_A.sl.v502, kernelRun0_A.sl.v506, kernelRun0_A.sl.v508, kernelRun0_A.sl.v521, kernelRun0_A.sl.v525, kernelRun0_A.sl.v527, kernelRun0_A.sl.v533, kernelRun0_A.sl.v537, kernelRun0_A.sl.v539, kernelRun0_A.sl.v552, kernelRun0_A.sl.v556, kernelRun0_A.sl.v558, kernelRun0_A.sl.v564, kernelRun0_A.sl.v568, kernelRun0_A.sl.v570, kernelRun0_A.sl.v583, kernelRun0_A.sl.v587, kernelRun0_A.sl.v589, kernelRun0_A.sl.v595, kernelRun0_A.sl.v599, kernelRun0_A.sl.v601, kernelRun0_A.sl.v614, kernelRun0_A.sl.v618, kernelRun0_A.sl.v620, kernelRun0_A.sl.v626, kernelRun0_A.sl.v630, kernelRun0_A.sl.v632, kernelRun0_A.sl.v645, kernelRun0_A.sl.v649, kernelRun0_A.sl.v651, kernelRun0_A.sl.v657, kernelRun0_A.sl.v661, kernelRun0_A.sl.v663, kernelRun0_A.sl.v676, kernelRun0_A.sl.v680, kernelRun0_A.sl.v682, kernelRun0_A.sl.v688, kernelRun0_A.sl.v692, kernelRun0_A.sl.v694, kernelRun0_A.sl.v707, kernelRun0_A.sl.v711, kernelRun0_A.sl.v713, kernelRun0_A.sl.v719, kernelRun0_A.sl.v723, kernelRun0_A.sl.v725, kernelRun0_A.sl.v738, kernelRun0_A.sl.v742, kernelRun0_A.sl.v744, kernelRun0_A.sl.v750, kernelRun0_A.sl.v754, kernelRun0_A.sl.v756, View.readCov_eq_canon', HS0_4_eq, HS1_5_eq, HS2_4_eq, View.readAt_eq_ld, Memref.IsWhole.read_unread]
    unfold_payloads
    pointwise
    simp only [Gmlp.select_mask, Nat.zero_add, Fin.eta]
    try rfl

end Cert.Kernel11Ideal.Block

end
-- ==== Proof.JOut.lean ====
module

public import proofs.«01_k».proof.Proof.JMix

@[expose] public section

set_option maxRecDepth 16384

noncomputable section

namespace Cert.Kernel11Ideal.Block

open Cert.Kernel11Ideal Cert.Kernel11Ideal.Gen Idealize.ShloMosaic Idealize.ShloMosaic.TcCoe Idealize.SL.Sem

/-! What a grid point leaves in the output block. -/

/-- What the output block holds after a point, as a function of the point's input blocks: the rows plus the mixed rows
    against the output weights. -/
def YB (x0 : Vec Ideal S256x1024 .f32) (x1 : Vec Ideal S1x1024 .f32) (x2 : Vec Ideal S1024x6144 .bf16) (x3 : Vec Ideal S1x2048 .f32)
    (x4 x5 : Vec Ideal S16x128x128 .f32) (x6 : Vec Ideal S2048x1024 .bf16) : S256x1024.Idx → EReal :=
  fun y => Gmlp.yrow Gmlp.causal (fun s => rowB x0 ⟨128 * ((y 0 : ℕ) / 128) + s, by have := (y 0).isLt; change (y 0 : ℕ) < 256 at this; omega⟩) (gainB x1) (winB x2) (vgB x3)
    (fun g t s => x4 (ix3 g t s)) (fun g t d => x5 (ix3 g t d)) (fun j n => x6 (ix2 j n)) ⟨(y 0 : ℕ) % 128, by omega⟩ (y 1)

/-- `YB` through the mixed block. -/
theorem YB_apply (x0 : Vec Ideal S256x1024 .f32) (x1 : Vec Ideal S1x1024 .f32) (x2 : Vec Ideal S1024x6144 .bf16) (x3 : Vec Ideal S1x2048 .f32)
    (x4 x5 : Vec Ideal S16x128x128 .f32) (x6 : Vec Ideal S2048x1024 .bf16) (r : Fin 256) (n : Fin 1024) :
    x0 (ix2 r n) + ∑ j : Fin 2048, GB x0 x1 x2 x3 x4 x5 (ix2 r j) * x6 (ix2 j n) = YB x0 x1 x2 x3 x4 x5 x6 (ix2 r n) := by
  have e : 128 * ((r : ℕ) / 128) + (r : ℕ) % 128 = r := by omega
  simp only [YB, Gmlp.yrow, GB, ix2_0, ix2_1, e, Fin.eta]

/-- A run's output block is `YB` of its input blocks. -/
theorem out_eq (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S16x128x128 .f32) (harg6 : arg6.IsWhole) (arg7 : Memref sig .tc .vmem S2048x1024 .bf16) (harg7 : arg7.IsWhole) (arg8 : Memref sig .tc .vmem S256x1024 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .bf16) (harg12 : arg12.IsWhole)
    (x0 : Vec Ideal S256x1024 .f32) (x1 : Vec Ideal S1x1024 .f32) (x2 : Vec Ideal S1024x6144 .bf16) (x3 : Vec Ideal S1x2048 .f32) (x4 : Vec Ideal S16x128x128 .f32) (x5 : Vec Ideal S16x128x128 .f32) (x6 : Vec Ideal S2048x1024 .bf16) :
    out0_A_7 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 = YB x0 x1 x2 x3 x4 x5 x6 := by
  unfold out0_A_7
  rw [View.read_writes_junk_eq_canon]
  unfold kernelRun0_A
  dsimp only
  rw [View.canon_cons_unit_lit _ _ _ (by decide)]
  simp only [kernelRun0_A.sl.r, kernelRun0_A.sl.v762, View.readCov_eq_canon', HS3_32_eq, View.readAt_eq_ld, Memref.IsWhole.read_unread]
  funext y
  rw [eq_ix2 (n0 := 256) (n1 := 1024) y]
  refine Eq.trans ?_ (YB_apply x0 x1 x2 x3 x4 x5 x6 (y 0) (y 1))
  unfold_payloads
  pointwise

/-- The output block after a point is `YB` of the point's input blocks. -/
theorem outs_eq (V : (c : Dev nD) → (b : Ref sig .tc) → Buf (Elt Ideal) ((c : Thread nD τ).loc b)) (c : Dev nD) (t : Fin cfg0.N) :
    outsAt0 V c t = YB (iblk0 V c 0 t) (iblk0 V c 1 t) (iblk0 V c 2 t) (iblk0 V c 3 t) (iblk0 V c 4 t) (iblk0 V c 5 t) (iblk0 V c 6 t) :=
  out_eq ..

end Cert.Kernel11Ideal.Block

end
-- ==== Proof.JArray.lean ====
module

public import proofs.«01_k».proof.Proof.JOut

@[expose] public section

set_option maxRecDepth 16384

noncomputable section

namespace Cert.Kernel11Ideal.Block

open Cert.Kernel11Ideal Cert.Kernel11Ideal.Gen Idealize.ShloMosaic Idealize.ShloMosaic.TcCoe Idealize.SL.Sem

/-! The result array after the run, from the arguments. -/

variable (m : (ℓ : Loc nD τ sig) → Buf (Elt Ideal) ℓ) (ρ : Dev nD → PrngReg) (c : Dev nD) (t : Fin cfg0.N)

/-- The block of window 0 at a point is the point's own block of rows. -/
theorem index0 : ∀ t : Fin cfg0.N, win0_0.index t = ![(t : ℕ), 0] := by decide +kernel
/-- The block of window 1 is the same at every point. -/
theorem index1 : ∀ t : Fin cfg0.N, win0_1.index t = ![0, 0] := by decide +kernel
/-- The block of window 2 is the same at every point. -/
theorem index2 : ∀ t : Fin cfg0.N, win0_2.index t = ![0, 0] := by decide +kernel
/-- The block of window 3 is the same at every point. -/
theorem index3 : ∀ t : Fin cfg0.N, win0_3.index t = ![0, 0] := by decide +kernel
/-- The block of window 4 is the same at every point. -/
theorem index4 : ∀ t : Fin cfg0.N, win0_4.index t = ![0, 0, 0] := by decide +kernel
/-- The block of window 5 is the same at every point. -/
theorem index5 : ∀ t : Fin cfg0.N, win0_5.index t = ![0, 0, 0] := by decide +kernel
/-- The block of window 6 is the same at every point. -/
theorem index6 : ∀ t : Fin cfg0.N, win0_6.index t = ![0, 0] := by decide +kernel
/-- The block of window 7 at a point is the point's own block of rows. -/
theorem index7 : ∀ t : Fin cfg0.N, win0_7.index t = ![(t : ℕ), 0] := by decide +kernel

/-- The weights' block is the whole array. -/
theorem blk2 (k : Fin 1024) (j : Fin 6144) : iblk0 (V1 m ρ) c 2 t (ix2 k j) = m ((c : Thread nD τ).loc main_arg2) (ix2 k j) := by
  blk_ext! [iblk0, V1, W1, W0, s₀, index2 t]
/-- The output weights' block is the whole array. -/
theorem blk6 (j : Fin 2048) (n : Fin 1024) : iblk0 (V1 m ρ) c 6 t (ix2 j n) = m ((c : Thread nD τ).loc main_arg6) (ix2 j n) := by
  blk_ext! [iblk0, V1, W1, W0, s₀, index6 t]
/-- The gain's block is the gain, as a row. -/
theorem blk1 (k : Fin 1024) : iblk0 (V1 m ρ) c 1 t (ix2 0 k) = m ((c : Thread nD τ).loc main_arg1) (ix1 k) := by
  blk_ext! [iblk0, V1, W1, W0, s₀, index1 t]
/-- The value gain's block is that gain, as a row. -/
theorem blk3 (k : Fin 2048) : iblk0 (V1 m ρ) c 3 t (ix2 0 k) = m ((c : Thread nD τ).loc main_arg3) (ix1 k) := by
  blk_ext! [iblk0, V1, W1, W0, s₀, index3 t]
/-- The spatial weights' block is the whole array. -/
theorem blk4 (g : Fin 16) (r s : Fin 128) : iblk0 (V1 m ρ) c 4 t (ix3 g r s) = m ((c : Thread nD τ).loc main_arg4) (ix3 g r s) := by
  blk_ext! [iblk0, V1, W1, W0, s₀, index4 t]
/-- The bias block repeats the bias along its last axis. -/
theorem blk5 (g : Fin 16) (r s : Fin 128) : iblk0 (V1 m ρ) c 5 t (ix3 g r s) = m ((c : Thread nD τ).loc main_arg5) (ix2 g r) := by
  blk_ext! [iblk0, V1, W1, W0, s₀, index5 t]
/-- Row `r` of a point's block of rows is row `256 t + r` of the flattened rows. -/
theorem blk0 (r : Fin 256) (k : Fin 1024) : iblk0 (V1 m ρ) c 0 t (ix2 r k) = m ((c : Thread nD τ).loc main_arg0)
    (ix3 ⟨(256 * (t : ℕ) + r) / 4096, by have : (t : ℕ) < 64 := t.isLt; omega⟩ ⟨(256 * (t : ℕ) + r) % 4096, by omega⟩ k) := by
  blk_ext! [iblk0, V1, W1, W0, s₀, index0 t]

/-- What the result array holds, from the arguments: place `(i, n)` is row `i % 4096` of batch `i / 4096`, in its chunk of 128 rows. -/
def YA (X : S4x4096x1024.Idx → EReal) (g : S1024.Idx → EReal) (w : S1024x6144.Idx → EReal) (vg : S2048.Idx → EReal) (W : S16x128x128.Idx → EReal)
    (B : S16x128.Idx → EReal) (wo : S2048x1024.Idx → EReal) (i : S16384x1024.Idx) : EReal :=
  Gmlp.yrow Gmlp.causal
    (fun s k => X (ix3 ⟨(i 0 : ℕ) / 4096, by have : (i 0 : ℕ) < 16384 := (i 0).isLt; omega⟩ ⟨128 * ((i 0 : ℕ) % 4096 / 128) + s, by omega⟩ k))
    (fun k => g (ix1 k)) (fun k j => w (ix2 k j)) (fun j => vg (ix1 j)) (fun g t s => W (ix3 g t s)) (fun g t _ => B (ix2 g t))
    (fun j n => wo (ix2 j n)) ⟨(i 0 : ℕ) % 4096 % 128, by omega⟩ (i 1)

/-- One place of a point's output block is the array's place it is written to. -/
theorem block_row (r : Fin 256) (n : Fin 1024) (ht : (t : ℕ) < 64) :
    YB (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (ix2 r n) =
      YA (m ((c : Thread nD τ).loc main_arg0)) (m ((c : Thread nD τ).loc main_arg1))
        (m ((c : Thread nD τ).loc main_arg2)) (m ((c : Thread nD τ).loc main_arg3)) (m ((c : Thread nD τ).loc main_arg4)) (m ((c : Thread nD τ).loc main_arg5))
        (m ((c : Thread nD τ).loc main_arg6)) (ix2 ⟨256 * (t : ℕ) + r, by omega⟩ n) := by
  have hX : (fun s : Fin 128 => rowB (iblk0 (V1 m ρ) c 0 t) ⟨128 * ((r : ℕ) / 128) + s, by omega⟩) = fun (s : Fin 128) (k : Fin 1024) => m ((c : Thread nD τ).loc main_arg0)
      (ix3 ⟨(256 * (t : ℕ) + r) / 4096, by omega⟩ ⟨128 * ((256 * (t : ℕ) + r) % 4096 / 128) + s, by omega⟩ k) := by
    funext s k
    have e1 : (256 * (t : ℕ) + (128 * ((r : ℕ) / 128) + s)) / 4096 = (256 * (t : ℕ) + r) / 4096 := by omega
    have e2 : (256 * (t : ℕ) + (128 * ((r : ℕ) / 128) + s)) % 4096 = 128 * ((256 * (t : ℕ) + r) % 4096 / 128) + s := by omega
    exact (blk0 m ρ c t _ k).trans (by simp only [e1, e2])
  have hT : (⟨(r : ℕ) % 128, by omega⟩ : Fin 128) = ⟨(256 * (t : ℕ) + r) % 4096 % 128, by omega⟩ := Fin.ext (by show (r : ℕ) % 128 = (256 * (t : ℕ) + r) % 4096 % 128; omega)
  show Gmlp.yrow Gmlp.causal (fun s : Fin 128 => rowB (iblk0 (V1 m ρ) c 0 t) ⟨128 * ((r : ℕ) / 128) + s, by omega⟩) (fun k => iblk0 (V1 m ρ) c 1 t (ix2 0 k))
    (fun k j => iblk0 (V1 m ρ) c 2 t (ix2 k j)) (fun j => iblk0 (V1 m ρ) c 3 t (ix2 0 j)) (fun g t' s => iblk0 (V1 m ρ) c 4 t (ix3 g t' s))
    (fun g t' d => iblk0 (V1 m ρ) c 5 t (ix3 g t' d)) (fun j n => iblk0 (V1 m ρ) c 6 t (ix2 j n)) ⟨(r : ℕ) % 128, by omega⟩ n = _
  rw [hX, hT]
  simp only [blk1, blk2, blk3, blk4, blk5, blk6]
  rfl

/-- The result array after the run. -/
theorem arr_eq : (dat0 (V1 m ρ) c).arrAt 7 cfg0.N = YA (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6)) := by
  refine (dat0 (V1 m ρ) c).arrAt_eq_of_covers 7 _ (by decide +kernel) fun t hf y => ?_
  obtain ⟨r, n, rfl⟩ : ∃ (r : Fin 256) (n : Fin 1024), y = ix2 r n := ⟨y 0, y 1, eq_ix2 _⟩
  have ht : (t : ℕ) < 64 := lt_of_lt_of_eq t.isLt (by decide)
  have e : ((cfg0.win 7).blk t).view.emb (ix2 r n) = ix2 (n0 := 16384) (n1 := 1024) ⟨256 * (t : ℕ) + r, by omega⟩ n := by
    blk_ext [index7 t]
  have ex : (cfg0.win 7).xinj (cfg0.grid.coords t) (ix2 r n) = ix2 (n0 := 256) (n1 := 1024) r n := rfl
  rw [e, after0_7, outs_eq, ex, ← block_row m ρ c t r n ht]
  exact cast_eq _ _

end Cert.Kernel11Ideal.Block

end
-- ==== Proof.JBArr.lean ====
module

public import proofs.«01_k».proof.Proof.JBBlock
public import proofs.«01_k».proof.Proof.JArray

@[expose] public section

set_option maxRecDepth 16384

noncomputable section

namespace Cert.Kernel11Ideal.Proj

open Cert.Kernel11Ideal Cert.Kernel11Ideal.Gen Idealize.ShloMosaic Idealize.ShloMosaic.TcCoe Idealize.SL.Sem

/-! The two joined calls: the arrays the second call finds, and the keys' and values' arrays it leaves. -/

variable (m : (ℓ : Loc nD τ sig) → Buf (Elt Ideal) ℓ) (ρ : Dev nD → PrngReg) (c : Dev nD) (t : Fin cfg1.N)

/-- The block of window 0 at a point. -/
theorem index0 : ∀ t : Fin cfg1.N, win1_0.index t = ![(t : ℕ), 0] := by decide +kernel
/-- The block of window 1 at a point. -/
theorem index1 : ∀ t : Fin cfg1.N, win1_1.index t = ![0, 0] := by decide +kernel
/-- The block of window 2 at a point. -/
theorem index2 : ∀ t : Fin cfg1.N, win1_2.index t = ![0, 0] := by decide +kernel
/-- The block of window 3 at a point. -/
theorem index3 : ∀ t : Fin cfg1.N, win1_3.index t = ![0, 0] := by decide +kernel
/-- The block of window 4 at a point. -/
theorem index4 : ∀ t : Fin cfg1.N, win1_4.index t = ![0, 0] := by decide +kernel
/-- The block of window 5 at a point. -/
theorem index5 : ∀ t : Fin cfg1.N, win1_5.index t = ![0, 0] := by decide +kernel
/-- The block of window 6 at a point. -/
theorem index6 : ∀ t : Fin cfg1.N, win1_6.index t = ![(t : ℕ), 0] := by decide +kernel
/-- The block of window 7 at a point. -/
theorem index7 : ∀ t : Fin cfg1.N, win1_7.index t = ![(t : ℕ), 0] := by decide +kernel

/-- The gain as a row, from any contents before it is made. -/
theorem host_v32 (W : Valuation τ sig (Elt Ideal)) : StableHlo.after (List.flatten [hostOps1, hostOps1_1, hostOps1_2, hostOps1_3, hostOps1_4]) W (Proc.devRef .tc main_v32) = shapeCast S1x1024 (W (Proc.devRef .tc main_arg7)) shapeCasts_S1024_S1x1024 := by
  simp only [hostOps1, hostOps1_1, hostOps1_2, hostOps1_3, hostOps1_4, List.flatten_cons, List.flatten_nil, List.append_nil, List.cons_append, List.nil_append]
  after_results
  rfl
/-- The weights, rounded. -/
theorem host_v33 (W : Valuation τ sig (Elt Ideal)) : StableHlo.after (List.flatten [hostOps1, hostOps1_1, hostOps1_2, hostOps1_3, hostOps1_4]) W (Proc.devRef .tc main_v33) = truncf (F := Ideal) .bf16 (φ := .f32) (W (Proc.devRef .tc main_arg8)) bitsLt_bf16_f32 := by
  simp only [hostOps1, hostOps1_1, hostOps1_2, hostOps1_3, hostOps1_4, List.flatten_cons, List.flatten_nil, List.append_nil, List.cons_append, List.nil_append]
  after_results
/-- The keys' gain, repeated. -/
theorem host_v31 (W : Valuation τ sig (Elt Ideal)) : StableHlo.after (List.flatten [hostOps1, hostOps1_1, hostOps1_2, hostOps1_3, hostOps1_4]) W (Proc.devRef .tc main_v31) = shapeCast S1x1024 (shapeCast S1024 (broadcastInDim S16x64 ![0, 1] bcast_S1x64_S16x64_0_1
    (shapeCast S1x64 (W (Proc.devRef .tc main_arg10)) shapeCasts_S64_S1x64)) shapeCasts_S16x64_S1024) shapeCasts_S1024_S1x1024 := by
  simp only [hostOps1, hostOps1_1, hostOps1_2, hostOps1_3, hostOps1_4, List.flatten_cons, List.flatten_nil, List.append_nil, List.cons_append, List.nil_append]
  after_results
  rfl
/-- Each number below 256, divided by 64 and rounded down, as the host works it out in a column. -/
def fcol : IVec S256x1 32 :=
  select (andi (cmpi .ne (signi (broadcastInDim S256x1 ![0] bcast_S256_S256x1_0 (iotaInDim S256 32 0))) (broadcastInDim S256x1 ![] bcast_S_S256x1 (signi (constantI S_ 32 64#32))))
      (cmpi .ne (Host.remsi (broadcastInDim S256x1 ![0] bcast_S256_S256x1_0 (iotaInDim S256 32 0)) (broadcastInDim S256x1 ![] bcast_S_S256x1 (constantI S_ 32 64#32)))
        (broadcastInDim S256x1 ![] bcast_S_S256x1 (constantI S_ 32 0#32))))
    (subi (Host.divsi (broadcastInDim S256x1 ![0] bcast_S256_S256x1_0 (iotaInDim S256 32 0)) (broadcastInDim S256x1 ![] bcast_S_S256x1 (constantI S_ 32 64#32)))
      (broadcastInDim S256x1 ![] bcast_S_S256x1 (constantI S_ 32 1#32)))
    (Host.divsi (broadcastInDim S256x1 ![0] bcast_S256_S256x1_0 (iotaInDim S256 32 0)) (broadcastInDim S256x1 ![] bcast_S_S256x1 (constantI S_ 32 64#32)))
/-- The same in a row. -/
def frow : IVec S1x256 32 :=
  select (andi (cmpi .ne (signi (broadcastInDim S1x256 ![1] bcast_S256_S1x256_1 (iotaInDim S256 32 0))) (broadcastInDim S1x256 ![] bcast_S_S1x256 (signi (constantI S_ 32 64#32))))
      (cmpi .ne (Host.remsi (broadcastInDim S1x256 ![1] bcast_S256_S1x256_1 (iotaInDim S256 32 0)) (broadcastInDim S1x256 ![] bcast_S_S1x256 (constantI S_ 32 64#32)))
        (broadcastInDim S1x256 ![] bcast_S_S1x256 (constantI S_ 32 0#32))))
    (subi (Host.divsi (broadcastInDim S1x256 ![1] bcast_S256_S1x256_1 (iotaInDim S256 32 0)) (broadcastInDim S1x256 ![] bcast_S_S1x256 (constantI S_ 32 64#32)))
      (broadcastInDim S1x256 ![] bcast_S_S1x256 (constantI S_ 32 1#32)))
    (Host.divsi (broadcastInDim S1x256 ![1] bcast_S256_S1x256_1 (iotaInDim S256 32 0)) (broadcastInDim S1x256 ![] bcast_S_S1x256 (constantI S_ 32 64#32)))
/-- Which pairs of 256 columns lie in one part of 64. -/
theorem host_v23 (W : Valuation τ sig (Elt Ideal)) : StableHlo.after (List.flatten [hostOps1, hostOps1_1, hostOps1_2, hostOps1_3, hostOps1_4]) W (Proc.devRef .tc main_v23) = uitofp (F := Ideal) .bf16 (cmpi .eq (broadcastInDim S256x256 ![0, 1] bcast_S256x1_S256x256_0_1 fcol)
    (broadcastInDim S256x256 ![0, 1] bcast_S1x256_S256x256_0_1 frow)) := by
  simp only [hostOps1, hostOps1_1, hostOps1_2, hostOps1_3, hostOps1_4, List.flatten_cons, List.flatten_nil, List.append_nil, List.cons_append, List.nil_append]
  after_results
  simp only [StableHlo.TRef.ofBuf_toBuf]
  rfl
/-- What the second call finds is what its host operations leave, from the first call's exit. -/
theorem V7_eq (b : Ref sig .tc) : V7 m ρ c b = StableHlo.after (List.flatten [hostOps1, hostOps1_1, hostOps1_2, hostOps1_3, hostOps1_4]) (W2 m ρ c) (Proc.devRef .tc b) := by
  simp only [V7, W7, W6, W5, W4, W3, hostOps1, hostOps1_1, hostOps1_2, hostOps1_3, hostOps1_4, List.flatten_cons, List.flatten_nil, List.append_nil, List.cons_append, List.nil_append, StableHlo.after]
/-- The first call's result array, from the arguments. -/
def yA : S16384x1024.Idx → EReal := Block.YA (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5))
    (m ((c : Thread nD τ).loc main_arg6))
/-- The second call's rows are the first call's result. -/
theorem V7_v13 : V7 m ρ c main_v13 = yA m c :=
  (W7_of m ρ c main_v13 (by decide)).trans <| (W6_of m ρ c main_v13 (by decide)).trans <| (W5_of m ρ c main_v13 (by decide)).trans <|
    (W4_of m ρ c main_v13 (by decide)).trans <| (W3_of m ρ c main_v13 (by decide)).trans <| (W2_arr m ρ c 7).trans (Block.arr_eq m ρ c)
/-- An argument array at the first call's exit. -/
theorem W2_arg (a : Ref sig .tc) (h : a ∈ argRefs) : W2 m ρ c (Proc.devRef .tc a) = m ((c : Thread nD τ).loc a) := W2_args m ρ c a h
/-- An entry of the column. -/
theorem fcol_at (a : Fin 256) : fcol (ix2 a 0) = BitVec.ofNat 32 ((a : ℕ) / 64) := by
  unfold fcol
  pointwise
  revert a
  decide +kernel
/-- An entry of the row. -/
theorem frow_at (a : Fin 256) : frow (ix2 0 a) = BitVec.ofNat 32 ((a : ℕ) / 64) := by
  unfold frow
  pointwise
  revert a
  decide +kernel
/-- Whether two columns lie in one part of 64. -/
theorem same_part (a b : Fin 256) : (uitofp (F := Ideal) .bf16 (cmpi .eq (broadcastInDim S256x256 ![0, 1] bcast_S256x1_S256x256_0_1 fcol)
    (broadcastInDim S256x256 ![0, 1] bcast_S1x256_S256x256_0_1 frow)) (ix2 a b) : EReal) = if (a : ℕ) / 64 = (b : ℕ) / 64 then 1 else 0 := by
  pointwise
  rw [fcol_at, frow_at]
  have h : ∀ i j : Fin 4, IntOp.cmpi CmpIPredicate.eq (BitVec.ofNat 32 (i : ℕ)) (BitVec.ofNat 32 (j : ℕ)) = if (i : ℕ) = (j : ℕ) then 1#1 else 0#1 := by decide +kernel
  rw [show IntOp.cmpi CmpIPredicate.eq (BitVec.ofNat 32 ((a : ℕ) / 64)) (BitVec.ofNat 32 ((b : ℕ) / 64)) = _ from h ⟨(a : ℕ) / 64, by omega⟩ ⟨(b : ℕ) / 64, by omega⟩]
  dsimp only
  split_ifs
  · simp [FloatOps.uitofp]
  · simp [FloatOps.uitofp]
/-- Where a point's row lies among the rows. -/
theorem emb0 (r : Fin 512) (k : Fin 1024) (ht : (t : ℕ) < 32) : (win1_0.blk t).view.emb (ix2 r k) = ix2 (n0 := 16384) (n1 := 1024) ⟨512 * (t : ℕ) + r, by omega⟩ k := by
  blk_ext [index0 t]
/-- Row `r` of a point's block of rows is row `512 t + r` of the rows. -/
theorem blk0 (r : Fin 512) (k : Fin 1024) (ht : (t : ℕ) < 32) : iblk1 (V7 m ρ) c 0 t (ix2 r k) = yA m c (ix2 ⟨512 * (t : ℕ) + r, by omega⟩ k) := by
  show V7 m ρ c main_v13 ((win1_0.blk t).view.emb (ix2 r k)) = _
  rw [emb0 t r k ht, V7_v13]
/-- The gain's block is the gain, as a row. -/
theorem blk1 (k : Fin 1024) : iblk1 (V7 m ρ) c 1 t (ix2 0 k) = (m ((c : Thread nD τ).loc main_arg7)) (ix1 k) := by
  have e : (win1_1.blk t).view.emb (ix2 0 k) = ix2 (n0 := 1) (n1 := 1024) 0 k := by blk_ext [index1 t]
  show V7 m ρ c main_v32 ((win1_1.blk t).view.emb _) = _
  rw [e, V7_eq, host_v32, W2_arg m ρ c main_arg7 (by decide)]
  pointwise
/-- The weights' block is the input weights. -/
theorem blk2 (k : Fin 1024) (j : Fin 4096) : iblk1 (V7 m ρ) c 2 t (ix2 k j) = (m ((c : Thread nD τ).loc main_arg8)) (ix2 k j) := by
  have e : (win1_2.blk t).view.emb (ix2 k j) = ix2 (n0 := 1024) (n1 := 4096) k j := by blk_ext [index2 t]
  show V7 m ρ c main_v33 ((win1_2.blk t).view.emb _) = _
  rw [e, V7_eq, host_v33, W2_arg m ρ c main_arg8 (by decide)]
  pointwise
/-- The keys' gain, repeated for each half head. -/
theorem blk4 (j : Fin 1024) : iblk1 (V7 m ρ) c 4 t (ix2 0 j) = (m ((c : Thread nD τ).loc main_arg10)) (ix1 ⟨(j : ℕ) % 64, by omega⟩) := by
  have e : (win1_4.blk t).view.emb (ix2 0 j) = ix2 (n0 := 1) (n1 := 1024) 0 j := by blk_ext [index4 t]
  show V7 m ρ c main_v31 ((win1_4.blk t).view.emb _) = _
  rw [e, V7_eq, host_v31, W2_arg m ρ c main_arg10 (by decide)]
  pointwise
/-- The matrix of the parts. -/
theorem blk5 (a b : Fin 256) : iblk1 (V7 m ρ) c 5 t (ix2 a b) = (if (a : ℕ) / 64 = (b : ℕ) / 64 then 1 else 0 : EReal) := by
  have e : (win1_5.blk t).view.emb (ix2 a b) = ix2 (n0 := 256) (n1 := 256) a b := by blk_ext [index5 t]
  show V7 m ρ c main_v23 ((win1_5.blk t).view.emb _) = _
  rw [e, V7_eq, host_v23]
  exact same_part a b

/-- The word of 64. -/
theorem word_64 : Ideal.ofBits .f32 0x42800000#32 = ((64 : ℝ) : EReal) := by
  simp [Ideal.ofBits, Ideal.ieee, -EReal.coe_mul]; norm_num

/-- The word of 1/64. -/
theorem word_inv_64 : Ideal.ofBits .f32 0x3C800000#32 = (((1 : ℝ) / 64 : ℝ) : EReal) := by
  simp [Ideal.ofBits, Ideal.ieee, -EReal.coe_mul]; norm_num

/-- A row `P` of 1024 columns, each part of 64 under its own norm, times `g`. -/
def partA (P : Fin 1024 → EReal) (g : Fin 1024 → EReal) (j : Fin 1024) : EReal :=
  P j * Ideal.rsqrt (Ideal.div (∑ i : Fin 64, P ⟨64 * ((j : ℕ) / 64) + i, by omega⟩ * P ⟨64 * ((j : ℕ) / 64) + i, by omega⟩) (Ideal.ofBits FTy.f32 0x42800000#32)
    + Ideal.ofBits FTy.f32 0x358637BD#32) * g j

/-- Summing over 256 columns what lies in one part is summing over the part. -/
theorem sum_part (F : Fin 256 → EReal) (k : Fin 256) :
    (∑ s : Fin 256, F s * (if (s : ℕ) / 64 = (k : ℕ) / 64 then 1 else 0 : EReal)) = ∑ i : Fin 64, F ⟨64 * ((k : ℕ) / 64) + i, by omega⟩ := by
  rw [← (finProdFinEquiv (m := 4) (n := 64)).sum_comp, Fintype.sum_prod_type]
  rw [Finset.sum_eq_single (⟨(k : ℕ) / 64, by omega⟩ : Fin 4)]
  · refine Finset.sum_congr rfl fun s _ => ?_
    have hs := s.isLt
    have e : (finProdFinEquiv (m := 4) (n := 64)) (⟨(k : ℕ) / 64, by omega⟩, s) = (⟨64 * ((k : ℕ) / 64) + s, by omega⟩ : Fin 256) :=
      Fin.ext (by show (s : ℕ) + 64 * ((k : ℕ) / 64) = _; exact add_comm _ _)
    rw [e, if_pos (by show (64 * ((k : ℕ) / 64) + (s : ℕ)) / 64 = _; omega), mul_one]
  · intro a _ ha
    refine Finset.sum_eq_zero fun s _ => ?_
    have hs := s.isLt
    have e : (((finProdFinEquiv (m := 4) (n := 64)) (a, s) : Fin 256) : ℕ) = s + 64 * a := rfl
    have ha' : (a : ℕ) ≠ (k : ℕ) / 64 := fun h => ha (Fin.ext h)
    rw [if_neg (by rw [e]; omega), mul_zero]
  · intro h
    exact absurd (Finset.mem_univ _) h

/-- The norm by the matrix of the parts is the norm of the part. -/
theorem part_eq (P g : Fin 1024 → EReal) (j : Fin 1024) :
    part P (fun s k => (if (s : ℕ) / 64 = (k : ℕ) / 64 then 1 else 0 : EReal)) g j = partA P g j := by
  unfold part partA
  rw [sum_part (fun s => P ⟨256 * ((j : ℕ) / 256) + s, by omega⟩ * P ⟨256 * ((j : ℕ) / 256) + s, by omega⟩) ⟨(j : ℕ) % 256, by omega⟩, word_64, word_inv_64,
    Ideal.div_coe (by norm_num)]
  have e : ∀ i : Fin 64, 256 * ((j : ℕ) / 256) + (64 * ((j : ℕ) % 256 / 64) + i) = 64 * ((j : ℕ) / 64) + i := fun i => by omega
  simp only [e]

/-- The normed rows against column `j` of the input weights. -/
def linA (X : S16384x1024.Idx → EReal) (g : S1024.Idx → EReal) (w : S1024x4096.Idx → EReal) (r : Fin 16384) (j : Fin 4096) : EReal :=
  Slab.lin (fun k => X (ix2 r k)) (fun k => g (ix1 k)) (fun k j => w (ix2 k j)) j
/-- The keys. -/
def KF (X : S16384x1024.Idx → EReal) (g : S1024.Idx → EReal) (w : S1024x4096.Idx → EReal) (n : S64.Idx → EReal) (r : Fin 16384) (j : Fin 1024) : EReal :=
  partA (fun j => linA X g w r ⟨1024 + j, by omega⟩) (fun j => n (ix1 ⟨(j : ℕ) % 64, by omega⟩)) j

/-- The values. -/
def VF (X : S16384x1024.Idx → EReal) (g : S1024.Idx → EReal) (w : S1024x4096.Idx → EReal) (r : Fin 16384) (j : Fin 1024) : EReal :=
  linA X g w r ⟨2048 + j, by omega⟩

/-- Rows as one array. -/
def RA (f : Fin 16384 → Fin 1024 → EReal) (i : S16384x1024.Idx) : EReal := f (i 0) (i 1)

/-- A point's rows against a column of the weights. -/
theorem LB_eq (r : Fin 512) (j : Fin 4096) (ht : (t : ℕ) < 32) : LB (iblk1 (V7 m ρ) c 0 t) (iblk1 (V7 m ρ) c 1 t) (iblk1 (V7 m ρ) c 2 t) r j =
    linA (yA m c) (m ((c : Thread nD τ).loc main_arg7)) (m ((c : Thread nD τ).loc main_arg8)) ⟨512 * (t : ℕ) + r, by omega⟩ j := by
  simp only [LB, blk0 m ρ c t _ _ ht, blk1, blk2]
  rfl

/-- A point's keys. -/
theorem KB_eq (r : Fin 512) (j : Fin 1024) (ht : (t : ℕ) < 32) : KB (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) r j = KF (yA m c) (m ((c : Thread nD τ).loc main_arg7)) (m ((c : Thread nD τ).loc main_arg8)) (m ((c : Thread nD τ).loc main_arg10)) ⟨512 * (t : ℕ) + r, by omega⟩ j := by
  simp only [KB, KF, blk4, blk5, part_eq, LB_eq m ρ c t _ _ ht]

/-- A point's values. -/
theorem VB_eq (r : Fin 512) (j : Fin 1024) (ht : (t : ℕ) < 32) : VB (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t) r j = VF (yA m c) (m ((c : Thread nD τ).loc main_arg7)) (m ((c : Thread nD τ).loc main_arg8)) ⟨512 * (t : ℕ) + r, by omega⟩ j := by
  simp only [VB, VF, LB_eq m ρ c t _ _ ht]

/-- The array of the keys after the run. -/
theorem arr6_eq : (dat1 (V7 m ρ) c).arrAt 6 cfg1.N = RA (KF (yA m c) (m ((c : Thread nD τ).loc main_arg7)) (m ((c : Thread nD τ).loc main_arg8)) (m ((c : Thread nD τ).loc main_arg10))) := by
  refine (dat1 (V7 m ρ) c).arrAt_eq_of_covers 6 _ (by decide +kernel) fun t hf y => ?_
  obtain ⟨r, j, rfl⟩ : ∃ (r : Fin 512) (j : Fin 1024), y = ix2 r j := ⟨y 0, y 1, eq_ix2 _⟩
  have ht : (t : ℕ) < 32 := lt_of_lt_of_eq t.isLt (by decide)
  have e : ((cfg1.win 6).blk t).view.emb (ix2 r j) = ix2 (n0 := 16384) (n1 := 1024) ⟨512 * (t : ℕ) + r, by omega⟩ j := by
    blk_ext [index6 t]
  have ex : (cfg1.win 6).xinj (cfg1.grid.coords t) (ix2 r j) = ix2 (n0 := 512) (n1 := 1024) r j := rfl
  have eb : RB (KB (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t)) (ix2 (n0 := 512) (n1 := 1024) r j) = RA (KF (yA m c) (m ((c : Thread nD τ).loc main_arg7)) (m ((c : Thread nD τ).loc main_arg8)) (m ((c : Thread nD τ).loc main_arg10))) (ix2 (n0 := 16384) (n1 := 1024) ⟨512 * (t : ℕ) + r, by omega⟩ j) := KB_eq m ρ c t r j ht
  rw [e, after1_6, out6_eq, ex, eb]
  exact cast_eq _ _

/-- The array of the values after the run. -/
theorem arr7_eq : (dat1 (V7 m ρ) c).arrAt 7 cfg1.N = RA (VF (yA m c) (m ((c : Thread nD τ).loc main_arg7)) (m ((c : Thread nD τ).loc main_arg8))) := by
  refine (dat1 (V7 m ρ) c).arrAt_eq_of_covers 7 _ (by decide +kernel) fun t hf y => ?_
  obtain ⟨r, j, rfl⟩ : ∃ (r : Fin 512) (j : Fin 1024), y = ix2 r j := ⟨y 0, y 1, eq_ix2 _⟩
  have ht : (t : ℕ) < 32 := lt_of_lt_of_eq t.isLt (by decide)
  have e : ((cfg1.win 7).blk t).view.emb (ix2 r j) = ix2 (n0 := 16384) (n1 := 1024) ⟨512 * (t : ℕ) + r, by omega⟩ j := by
    blk_ext [index7 t]
  have ex : (cfg1.win 7).xinj (cfg1.grid.coords t) (ix2 r j) = ix2 (n0 := 512) (n1 := 1024) r j := rfl
  have eb : RB (VB (iblk1 (V7 m ρ) c 0 t) (iblk1 (V7 m ρ) c 1 t) (iblk1 (V7 m ρ) c 2 t) (iblk1 (V7 m ρ) c 3 t) (iblk1 (V7 m ρ) c 4 t) (iblk1 (V7 m ρ) c 5 t)) (ix2 (n0 := 512) (n1 := 1024) r j) = RA (VF (yA m c) (m ((c : Thread nD τ).loc main_arg7)) (m ((c : Thread nD τ).loc main_arg8))) (ix2 (n0 := 16384) (n1 := 1024) ⟨512 * (t : ℕ) + r, by omega⟩ j) := VB_eq m ρ c t r j ht
  rw [e, after1_7, out7_eq, ex, eb]
  exact cast_eq _ _

end Cert.Kernel11Ideal.Proj

end
-- ==== Proof.JRun.lean ====
module

public import proofs.«01_k».proof.Proof.JBArr

@[expose] public section

set_option maxRecDepth 16384

noncomputable section

namespace Cert.Kernel11Ideal.Proj

open Cert.Kernel11Ideal Cert.Kernel11Ideal.Gen Idealize.ShloMosaic Idealize.ShloMosaic.TcCoe
open Idealize.SL Idealize.SL.RA Idealize.SL.BI
open scoped Idealize.SL.BI
open Idealize.ShloMosaic.Rounds Idealize.ShloMosaic.Tactic
open Idealize.SL.BI.BIBase Idealize.SL.BI.Laws Idealize.SL.ProofMode Idealize.SL.Sem

/-! The run of the two joined calls, with its results from the arguments. -/

variable (m : (ℓ : Loc nD τ sig) → Buf (Elt Ideal) ℓ) (ρ : Dev nD → PrngReg)

set_option backward.isDefEq.respectTransparency.types false in
/-- The two joined calls run, leave the keys and the values of the first call's result in the result arrays, and their arguments as they were. -/
theorem run : θ_run (defs (F := Ideal)) (onTc (τ := τ) (main (F := Ideal))) ⟨m, fun _ => 0, ρ⟩ (fun r => ∀ c : Dev nD,
      r.2.mem ((c.tc : Thread nD τ).loc main_v34_0) = RA (KF (yA m c) (m ((c : Thread nD τ).loc main_arg7)) (m ((c : Thread nD τ).loc main_arg8)) (m ((c : Thread nD τ).loc main_arg10)))
      ∧ r.2.mem ((c.tc : Thread nD τ).loc main_v34_1) = RA (VF (yA m c) (m ((c : Thread nD τ).loc main_arg7)) (m ((c : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c =>
      ⟨(h c _ (mem_uc main_v34_0 (by decide))).trans ((W8_arr m ρ c 6).trans (arr6_eq m ρ c)),
       (h c _ (mem_uc main_v34_1 (by decide))).trans ((W8_arr m ρ c 7).trans (arr7_eq m ρ c)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c)⟩)

end Cert.Kernel11Ideal.Proj

end
-- ==== Proof.JRows.lean ====
module

public import proofs.«01_k».proof.Proof.Layer
public import proofs.«01_k».proof.Proof.Gen.Reference11Ideal.Read
public import Idealize.ShloMosaic.Lib.Pipeline.ValueKit
public import Idealize.ShloMosaic.Lib.IdealHost

@[expose] public section

set_option maxRecDepth 16384

noncomputable section

namespace Cert.Reference11Ideal.Rows

open Cert.Reference11Ideal Cert.Reference11Ideal.Read Idealize.ShloMosaic

/-! What the reference computes, row by row, as the layer's functions. -/

variable (x0 : (⟨S4x4096x1024, .f32⟩ : BufTy).Contents (Elt Ideal)) (x1 : (⟨S1024, .f32⟩ : BufTy).Contents (Elt Ideal))
  (x2 : (⟨S1024x6144, .f32⟩ : BufTy).Contents (Elt Ideal)) (x3 : (⟨S2048, .f32⟩ : BufTy).Contents (Elt Ideal))

/-- Row `t` of batch `b`. -/
abbrev rowR (b : Fin 4) (t : Fin 4096) : Fin 1024 → EReal := fun k => x0 (ix3 b t k)
/-- The gain of the norm. -/
abbrev gainR : Fin 1024 → EReal := fun k => x1 (ix1 k)
/-- The input weights. -/
abbrev winR : Fin 1024 → Fin 6144 → EReal := fun k j => x2 (ix2 k j)
/-- The gain of the value norm. -/
abbrev vgR : Fin 2048 → EReal := fun j => x3 (ix1 j)

/-- The normed rows. -/
theorem norm_row (b : Fin 4) (t : Fin 4096) (k : Fin 1024) :
    val_main_v12 (F := Ideal) x0 x1 (ix3 b t k) = Gmlp.hrow (rowR x0 b t) (gainR x1) k := by
  simp only [val_main_v12_apply, val_main_v9_apply, val_main_v8_apply, val_main_v7_apply, val_main_v6_apply, val_main_v5_apply, val_main_v4_apply,
    val_main_v3_apply, val_main_v2_apply, val_main_v1_apply, val_main_v0_apply, val_main_cst_apply, val_main_cst_0_apply, val_main_cst_1_apply,
    val_main_v10_apply, val_main_v11_apply]
  have ex : ∀ i, x0 (idx_main_v1 (idx_main_v2 (idx_main_v8 (ix3 b t k))) i) = x0 (ix3 b t i) := fun i => congrArg x0 (eq_ix3 _)
  have eg : x1 (idx_main_v10 (idx_main_v11 (ix3 b t k))) = x1 (ix1 k) := congrArg x1 (eq_ix1 _)
  simp only [ex, eg]
  pointwise
  rfl

/-- The projection of the normed rows. -/
theorem proj_row (b : Fin 4) (t : Fin 4096) (j : Fin 6144) :
    val_main_v13 (F := Ideal) x0 x1 x2 (ix3 b t j) = Gmlp.prow (rowR x0 b t) (gainR x1) (winR x2) j := by
  rw [val_main_v13_apply]
  refine Finset.sum_congr rfl fun k _ => congrArg₂ (· * ·) ?_ ?_
  · exact (congrArg (val_main_v12 (F := Ideal) x0 x1) (eq_ix3 _)).trans (norm_row x0 x1 b t k)
  · exact congrArg x2 (eq_ix2 _)

/-- The first gate. -/
theorem u_row (b : Fin 4) (t : Fin 4096) (j : Fin 2048) :
    val_main_v27 (F := Ideal) x0 x1 x2 (ix3 b t j) = Gmlp.urow (rowR x0 b t) (gainR x1) (winR x2) j := by
  have e : val_main_v14 (F := Ideal) x0 x1 x2 (ix3 b t j) = Gmlp.prow (rowR x0 b t) (gainR x1) (winR x2) ⟨j, by omega⟩ := by
    rw [val_main_v14_apply]
    exact (congrArg (val_main_v13 (F := Ideal) x0 x1 x2) (eq_ix3 _)).trans (proj_row x0 x1 x2 b t ⟨j, by omega⟩)
  simp only [val_main_v27_apply, val_main_v26_apply, val_main_v25_apply, val_main_v24_apply, val_main_v23_apply, val_main_v22_apply, val_main_v21_apply,
    val_main_v20_apply, val_main_v19_apply, val_main_v18_apply, val_main_v17_apply, val_main_v16_apply, val_main_v15_apply, e,
    val_main_cst_2_apply, val_main_cst_3_apply, val_main_cst_4_apply, val_main_cst_5_apply, Gmlp.urow]
  generalize Gmlp.prow _ _ _ _ = p
  pointwise
  rw [Gmlp.gelu, ← mul_assoc, mul_comm p]

/-- The values. -/
theorem v_row (b : Fin 4) (t : Fin 4096) (j : Fin 2048) :
    val_main_v41 (F := Ideal) x0 x1 x2 (ix3 b t j) = Gmlp.vrow (rowR x0 b t) (gainR x1) (winR x2) j := by
  have e : val_main_v28 (F := Ideal) x0 x1 x2 (ix3 b t j) = Gmlp.prow (rowR x0 b t) (gainR x1) (winR x2) ⟨2048 + j, by omega⟩ := by
    rw [val_main_v28_apply]
    exact (congrArg (val_main_v13 (F := Ideal) x0 x1 x2) (eq_ix3 _)).trans (proj_row x0 x1 x2 b t ⟨2048 + j, by omega⟩)
  simp only [val_main_v41_apply, val_main_v40_apply, val_main_v39_apply, val_main_v38_apply, val_main_v37_apply, val_main_v36_apply, val_main_v35_apply,
    val_main_v34_apply, val_main_v33_apply, val_main_v32_apply, val_main_v31_apply, val_main_v30_apply, val_main_v29_apply, e,
    val_main_cst_6_apply, val_main_cst_7_apply, val_main_cst_8_apply, val_main_cst_9_apply, Gmlp.vrow]
  generalize Gmlp.prow _ _ _ _ = p
  pointwise
  rw [Gmlp.gelu, ← mul_assoc, mul_comm p]

/-- The second gate. -/
theorem z_row (b : Fin 4) (t : Fin 4096) (j : Fin 2048) :
    val_main_v68 (F := Ideal) x0 x1 x2 (ix3 b t j) = Gmlp.zrow (rowR x0 b t) (gainR x1) (winR x2) j := by
  have e : val_main_v55 (F := Ideal) x0 x1 x2 (ix3 b t j) = Gmlp.prow (rowR x0 b t) (gainR x1) (winR x2) ⟨4096 + j, by omega⟩ := by
    rw [val_main_v55_apply]
    exact (congrArg (val_main_v13 (F := Ideal) x0 x1 x2) (eq_ix3 _)).trans (proj_row x0 x1 x2 b t ⟨4096 + j, by omega⟩)
  simp only [val_main_v68_apply, val_main_call2_v5_apply, val_main_call2_v4_apply, val_main_call2_v3_apply, val_main_call2_v2_apply,
    val_main_call2_v1_apply, val_main_call2_v0_apply, val_main_call2_cst_apply, val_main_call2_cst_0_apply, e, Gmlp.zrow]
  generalize Gmlp.prow _ _ _ _ = p
  pointwise
  rw [Gmlp.silu, zero_sub]

/-- The f32 word of 2048 and that of its reciprocal, as numbers. -/
theorem word_2048 : Ideal.ofBits .f32 0x45000000#32 = ((2048 : ℝ) : EReal) := by
  simp [Ideal.ofBits, Ideal.ieee, -EReal.coe_mul]; norm_num

/-- The f32 word of `1/2048`. -/
theorem word_inv_2048 : Ideal.ofBits .f32 973078528#32 = ((1 / 2048 : ℝ) : EReal) := by
  simp [Ideal.ofBits, Ideal.ieee, -EReal.coe_mul]; norm_num

/-- Dividing by 2048 is multiplying by its reciprocal. -/
theorem div_2048 (x : EReal) : Ideal.div x (Ideal.ofBits .f32 0x45000000#32) = x * Ideal.ofBits .f32 973078528#32 := by
  rw [word_2048, word_inv_2048, Ideal.div_coe (by norm_num)]

/-- The sum of a row's squared values. -/
theorem ssq_row (b : Fin 4) (t : Fin 4096) :
    val_main_v43 (F := Ideal) x0 x1 x2 (ix2 b t) = Gmlp.ssq (rowR x0 b t) (gainR x1) (winR x2) := by
  rw [val_main_v43_apply, val_main_cst_10_apply]
  pointwise
  refine Finset.sum_congr rfl fun k _ => ?_
  rw [val_main_v42_apply]
  have e : val_main_v41 (F := Ideal) x0 x1 x2 (idx_main_v43 (ix2 b t) k) = Gmlp.vrow (rowR x0 b t) (gainR x1) (winR x2) k :=
    (congrArg (val_main_v41 (F := Ideal) x0 x1 x2) (eq_ix3 _)).trans (v_row x0 x1 x2 b t k)
  rw [e]
  rfl

/-- The normed values. -/
theorem vn_row (b : Fin 4) (t : Fin 4096) (j : Fin 2048) :
    val_main_v54 (F := Ideal) x0 x1 x2 x3 (ix3 b t j) = Gmlp.vnrow (rowR x0 b t) (gainR x1) (winR x2) (vgR x3) j := by
  have e : val_main_v44 (F := Ideal) x0 x1 x2 (idx_main_v50 (ix3 b t j)) = Gmlp.ssq (rowR x0 b t) (gainR x1) (winR x2) := by
    rw [val_main_v44_apply]
    exact (congrArg (val_main_v43 (F := Ideal) x0 x1 x2) (eq_ix2 _)).trans (ssq_row x0 x1 x2 b t)
  have eg : x3 (idx_main_v52 (idx_main_v53 (ix3 b t j))) = x3 (ix1 j) := congrArg x3 (eq_ix1 _)
  simp only [val_main_v54_apply, val_main_v53_apply, val_main_v52_apply, val_main_v51_apply, val_main_v50_apply, val_main_v49_apply, val_main_v48_apply,
    val_main_v47_apply, val_main_v46_apply, val_main_v45_apply, val_main_cst_11_apply, val_main_cst_12_apply, v_row, e, eg, Gmlp.vnrow]
  generalize Gmlp.vrow _ _ _ _ = v
  generalize Gmlp.ssq _ _ _ = q
  rw [← div_2048]
  pointwise

end Cert.Reference11Ideal.Rows

end
-- ==== Proof.JRefMix.lean ====
module

public import proofs.«01_k».proof.Proof.JRows

@[expose] public section

set_option maxRecDepth 16384

noncomputable section

namespace Cert.Reference11Ideal.Rows

open Cert.Reference11Ideal Cert.Reference11Ideal.Read Idealize.ShloMosaic

/-! The reference's spatial mixing and its result. -/

variable (x0 : (⟨S4x4096x1024, .f32⟩ : BufTy).Contents (Elt Ideal)) (x1 : (⟨S1024, .f32⟩ : BufTy).Contents (Elt Ideal))
  (x2 : (⟨S1024x6144, .f32⟩ : BufTy).Contents (Elt Ideal)) (x3 : (⟨S2048, .f32⟩ : BufTy).Contents (Elt Ideal))
  (x4 : (⟨S16x128x128, .f32⟩ : BufTy).Contents (Elt Ideal)) (x5 : (⟨S16x128, .f32⟩ : BufTy).Contents (Elt Ideal))
  (x6 : (⟨S2048x1024, .f32⟩ : BufTy).Contents (Elt Ideal))

/-- The reference's lower-triangle word picks the causal entries. -/
theorem tril_word (t s : Fin 128) : Scalar.select (IntOp.cmpi CmpIPredicate.sge (IntOp.addi (BitVec.ofNat 32 (t : ℕ)) 0#32) (BitVec.ofNat 32 (s : ℕ))) 1#1 0#1
    = if Gmlp.causal t s then 1#1 else 0#1 := by
  revert t s; decide +kernel

/-- The masked spatial weights. -/
theorem mask_row (g : Fin 16) (t s : Fin 128) :
    val_main_v58 (F := Ideal) x4 (ix3 g t s) = if Gmlp.causal t s then x4 (ix3 g t s) else 0 := by
  have hm : val_main_v57 (F := Ideal) (idx_main_call1_v1 (ix3 g t s)) = if Gmlp.causal t s then 1#1 else 0#1 := by
    simp only [val_main_v57_apply, val_main_v56_apply, val_main_c_apply, val_main_call0_v0_apply, val_main_call0_v1_apply, val_main_call0_v2_apply,
      val_main_call0_v3_apply, val_main_call0_v4_apply, val_main_call0_v5_apply, val_main_call0_c_apply, val_main_call0_c_0_apply]
    exact tril_word t s
  simp only [val_main_v58_apply, val_main_call1_v1_apply, val_main_call1_v2_apply, val_main_call1_v0_apply, val_main_cst_13_apply, hm]
  pointwise
  cases Gmlp.causal t s <;> rfl

/-- One place of the mixed values before the gates. -/
theorem mix_row (b : Fin 4) (t : Fin 4096) (j : Fin 2048) :
    val_main_v66 (F := Ideal) x0 x1 x2 x3 x4 x5 (ix3 b t j) =
      (∑ s : Fin 128, if Gmlp.causal ⟨(t : ℕ) % 128, by omega⟩ s then x4 (ix3 ⟨(j : ℕ) / 128, by omega⟩ ⟨(t : ℕ) % 128, by omega⟩ s)
          * Gmlp.vnrow (rowR x0 b ⟨128 * ((t : ℕ) / 128) + s, by omega⟩) (gainR x1) (winR x2) (vgR x3) j else 0)
        + x5 (ix2 ⟨(j : ℕ) / 128, by omega⟩ ⟨(t : ℕ) % 128, by omega⟩) := by
  have hb := b.isLt
  have ht := t.isLt
  have hj := j.isLt
  rw [val_main_v66_apply, val_main_v65_apply]
  refine congrArg₂ (· + ·) ?_ ?_
  · rw [val_main_v61_apply, val_main_v60_apply]
    refine Finset.sum_congr rfl fun s _ => ?_
    have hs := s.isLt
    have ev : val_main_v59 (F := Ideal) x0 x1 x2 x3 (lidx_main_v60 (idx_main_v61 (idx_main_v66 (ix3 b t j))) s)
        = Gmlp.vnrow (rowR x0 b ⟨128 * ((t : ℕ) / 128) + s, by omega⟩) (gainR x1) (winR x2) (vgR x3) j := by
      rw [val_main_v59_apply, ← vn_row]
      refine congrArg (val_main_v54 (F := Ideal) x0 x1 x2 x3) (funext fun a => Fin.ext ?_)
      match a with
      | ⟨0, _⟩ =>
        show (((((((b : ℕ) * 4096 + t) * 2048 + j) / 8388608 * 32 + (((b : ℕ) * 4096 + t) * 2048 + j) / 262144 % 32) * 128 + s) * 16
          + (((b : ℕ) * 4096 + t) * 2048 + j) / 128 % 16) * 128 + (((b : ℕ) * 4096 + t) * 2048 + j) % 128) / 8388608 = b
        omega
      | ⟨1, _⟩ =>
        show (((((((b : ℕ) * 4096 + t) * 2048 + j) / 8388608 * 32 + (((b : ℕ) * 4096 + t) * 2048 + j) / 262144 % 32) * 128 + s) * 16
          + (((b : ℕ) * 4096 + t) * 2048 + j) / 128 % 16) * 128 + (((b : ℕ) * 4096 + t) * 2048 + j) % 128) / 2048 % 4096 = 128 * ((t : ℕ) / 128) + s
        omega
      | ⟨2, _⟩ =>
        show (((((((b : ℕ) * 4096 + t) * 2048 + j) / 8388608 * 32 + (((b : ℕ) * 4096 + t) * 2048 + j) / 262144 % 32) * 128 + s) * 16
          + (((b : ℕ) * 4096 + t) * 2048 + j) / 128 % 16) * 128 + (((b : ℕ) * 4096 + t) * 2048 + j) % 128) % 2048 = j
        omega
    have ew : val_main_v58 (F := Ideal) x4 (ridx_main_v60 (idx_main_v61 (idx_main_v66 (ix3 b t j))) s)
        = if Gmlp.causal ⟨(t : ℕ) % 128, by omega⟩ s then x4 (ix3 ⟨(j : ℕ) / 128, by omega⟩ ⟨(t : ℕ) % 128, by omega⟩ s) else 0 := by
      rw [← mask_row]
      refine congrArg (val_main_v58 (F := Ideal) x4) (funext fun a => Fin.ext ?_)
      match a with
      | ⟨0, _⟩ => show (((b : ℕ) * 4096 + t) * 2048 + j) / 128 % 16 = (j : ℕ) / 128; omega
      | ⟨1, _⟩ => show (((b : ℕ) * 4096 + t) * 2048 + j) / 2048 % 128 = (t : ℕ) % 128; omega
      | ⟨2, _⟩ => rfl
    rw [ev, ew, mul_comm]
    split_ifs
    · rfl
    · rw [zero_mul]
  · rw [val_main_v64_apply, val_main_v63_apply, val_main_v62_apply]
    refine congrArg x5 (funext fun a => Fin.ext ?_)
    match a with
    | ⟨0, _⟩ => show (((b : ℕ) * 4096 + t) * 2048 + j) / 128 % 16 = (j : ℕ) / 128; omega
    | ⟨1, _⟩ => show (((b : ℕ) * 4096 + t) * 2048 + j) / 2048 % 128 = (t : ℕ) % 128; omega

/-- The rows of the chunk that holds row `t`. -/
abbrev chunkR (b : Fin 4) (t : Fin 4096) (s : Fin 128) : Fin 1024 → EReal := rowR x0 b ⟨128 * ((t : ℕ) / 128) + s, by omega⟩

/-- The gated mixed rows. -/
theorem g_row (b : Fin 4) (t : Fin 4096) (j : Fin 2048) :
    val_main_v69 (F := Ideal) x0 x1 x2 x3 x4 x5 (ix3 b t j) =
      Gmlp.grow Gmlp.causal (chunkR x0 b t) (gainR x1) (winR x2) (vgR x3) (fun g t s => x4 (ix3 g t s)) (fun g t _ => x5 (ix2 g t)) ⟨(t : ℕ) % 128, by omega⟩ j := by
  have e : 128 * ((t : ℕ) / 128) + (t : ℕ) % 128 = t := by omega
  rw [val_main_v69_apply, val_main_v67_apply, u_row, z_row, mix_row]
  simp only [Gmlp.grow, chunkR, e, Fin.eta]
  rfl

/-- The reference's result at row `t` of batch `b`. -/
theorem y_row (b : Fin 4) (t : Fin 4096) (n : Fin 1024) :
    val_main_v71 (F := Ideal) x0 x1 x2 x3 x4 x5 x6 (ix3 b t n) =
      Gmlp.yrow Gmlp.causal (chunkR x0 b t) (gainR x1) (winR x2) (vgR x3) (fun g t s => x4 (ix3 g t s)) (fun g t _ => x5 (ix2 g t))
        (fun j n => x6 (ix2 j n)) ⟨(t : ℕ) % 128, by omega⟩ n := by
  have e : 128 * ((t : ℕ) / 128) + (t : ℕ) % 128 = t := by omega
  rw [val_main_v71_apply, val_main_v70_apply]
  simp only [Gmlp.yrow]
  refine congrArg₂ (· + ·) (by simp only [chunkR, e, Fin.eta]) (Finset.sum_congr rfl fun j _ => congrArg₂ (· * ·) ?_ ?_)
  · exact (congrArg (val_main_v69 (F := Ideal) x0 x1 x2 x3 x4 x5) (eq_ix3 _)).trans (g_row x0 x1 x2 x3 x4 x5 b t j)
  · exact congrArg x6 (eq_ix2 _)

end Cert.Reference11Ideal.Rows

end
-- ==== Proof.JProj.lean ====
module

public import proofs.«01_k».proof.Proof.JBArr
public import proofs.«01_k».proof.Proof.JRefMix

@[expose] public section

set_option maxRecDepth 16384

noncomputable section

namespace Cert.Reference11Ideal.Rows

open Cert.Reference11Ideal Cert.Reference11Ideal.Read Idealize.ShloMosaic Cert.Kernel11Ideal.Proj

/-! What the reference computes past the first layer, row by row. -/

variable (x0 : (⟨S4x4096x1024, .f32⟩ : BufTy).Contents (Elt Ideal)) (x1 : (⟨S1024, .f32⟩ : BufTy).Contents (Elt Ideal))
  (x2 : (⟨S1024x6144, .f32⟩ : BufTy).Contents (Elt Ideal)) (x3 : (⟨S2048, .f32⟩ : BufTy).Contents (Elt Ideal))
  (x4 : (⟨S16x128x128, .f32⟩ : BufTy).Contents (Elt Ideal)) (x5 : (⟨S16x128, .f32⟩ : BufTy).Contents (Elt Ideal))
  (x6 : (⟨S2048x1024, .f32⟩ : BufTy).Contents (Elt Ideal)) (x7 : (⟨S1024, .f32⟩ : BufTy).Contents (Elt Ideal))
  (x8 : (⟨S1024x4096, .f32⟩ : BufTy).Contents (Elt Ideal)) (x10 : (⟨S64, .f32⟩ : BufTy).Contents (Elt Ideal))

/-- The first layer's result at a flattened row is what the first call's array holds. -/
theorem y_flat (r : Fin 16384) (k : Fin 1024) : val_main_v71 (F := Ideal) x0 x1 x2 x3 x4 x5 x6 (ix3 ⟨(r : ℕ) / 4096, by omega⟩ ⟨(r : ℕ) % 4096, by omega⟩ k)
    = Cert.Kernel11Ideal.Block.YA x0 x1 x2 x3 x4 x5 x6 (ix2 r k) := by
  rw [y_row]
  rfl

/-- The normed rows of the first layer's result. -/
theorem norm2_row (b : Fin 4) (t : Fin 4096) (k : Fin 1024) :
    val_main_v84 (F := Ideal) x0 x1 x2 x3 x4 x5 x6 x7 (ix3 b t k) = Gmlp.hrow (fun k => val_main_v71 (F := Ideal) x0 x1 x2 x3 x4 x5 x6 (ix3 b t k)) (fun k => x7 (ix1 k)) k := by
  simp only [val_main_v84_apply, val_main_v81_apply, val_main_v80_apply, val_main_v79_apply, val_main_v78_apply, val_main_v77_apply, val_main_v76_apply,
    val_main_v75_apply, val_main_v74_apply, val_main_v73_apply, val_main_v72_apply, val_main_cst_14_apply, val_main_cst_15_apply, val_main_cst_16_apply,
    val_main_v82_apply, val_main_v83_apply]
  have ex : ∀ i, val_main_v71 (F := Ideal) x0 x1 x2 x3 x4 x5 x6 (idx_main_v73 (idx_main_v74 (idx_main_v80 (ix3 b t k))) i) = val_main_v71 (F := Ideal) x0 x1 x2 x3 x4 x5 x6 (ix3 b t i) :=
    fun i => congrArg (val_main_v71 (F := Ideal) x0 x1 x2 x3 x4 x5 x6) (eq_ix3 _)
  have eg : x7 (idx_main_v82 (idx_main_v83 (ix3 b t k))) = x7 (ix1 k) := congrArg x7 (eq_ix1 _)
  simp only [ex, eg]
  generalize val_main_v71 (F := Ideal) x0 x1 x2 x3 x4 x5 x6 = Y
  pointwise
  rfl

/-- The projection of those rows, at a flattened row. -/
theorem proj2_row (r : Fin 16384) (j : Fin 4096) :
    val_main_v85 (F := Ideal) x0 x1 x2 x3 x4 x5 x6 x7 x8 (ix3 ⟨(r : ℕ) / 4096, by omega⟩ ⟨(r : ℕ) % 4096, by omega⟩ j)
      = linA (Cert.Kernel11Ideal.Block.YA x0 x1 x2 x3 x4 x5 x6) x7 x8 r j := by
  rw [val_main_v85_apply]
  unfold linA
  refine Finset.sum_congr rfl fun k _ => congrArg₂ (· * ·) ?_ ?_
  · refine (congrArg (val_main_v84 (F := Ideal) x0 x1 x2 x3 x4 x5 x6 x7) (eq_ix3 _)).trans ((norm2_row x0 x1 x2 x3 x4 x5 x6 x7 _ _ k).trans ?_)
    exact congrArg (fun X => Gmlp.hrow X (fun k => x7 (ix1 k)) k) (funext fun k => y_flat x0 x1 x2 x3 x4 x5 x6 r k)
  · exact congrArg x8 (eq_ix2 _)

/-- A part's key columns of the projection. -/
theorem k2_at (r : Fin 16384) (j : Fin 1024) (i : Fin 64) :
    val_main_v104 (F := Ideal) x0 x1 x2 x3 x4 x5 x6 x7 x8 (ix5 (n0 := 4) (n1 := 4096) (n2 := 8) (n3 := 2) (n4 := 64) ⟨(r : ℕ) / 4096, by omega⟩ ⟨(r : ℕ) % 4096, by omega⟩ ⟨(j : ℕ) / 128, by omega⟩ ⟨(j : ℕ) / 64 % 2, by omega⟩ i)
      = linA (Cert.Kernel11Ideal.Block.YA x0 x1 x2 x3 x4 x5 x6) x7 x8 r ⟨1024 + (64 * ((j : ℕ) / 64) + i), by omega⟩ := by
  have hr := r.isLt
  have hj := j.isLt
  have hi := i.isLt
  have e : idx_main_v87 (idx_main_v104 (ix5 (n0 := 4) (n1 := 4096) (n2 := 8) (n3 := 2) (n4 := 64) ⟨(r : ℕ) / 4096, by omega⟩ ⟨(r : ℕ) % 4096, by omega⟩ ⟨(j : ℕ) / 128, by omega⟩ ⟨(j : ℕ) / 64 % 2, by omega⟩ i))
      = ix3 (n0 := 4) (n1 := 4096) (n2 := 4096) ⟨(r : ℕ) / 4096, by omega⟩ ⟨(r : ℕ) % 4096, by omega⟩ ⟨1024 + (64 * ((j : ℕ) / 64) + i), by omega⟩ := by
    funext a
    refine Fin.ext ?_
    match a with
    | ⟨0, _⟩ => show (((((r : ℕ) / 4096 * 4096 + (r : ℕ) % 4096) * 8 + (j : ℕ) / 128) * 2 + (j : ℕ) / 64 % 2) * 64 + (i : ℕ)) / 4194304 = (r : ℕ) / 4096; omega
    | ⟨1, _⟩ => show (((((r : ℕ) / 4096 * 4096 + (r : ℕ) % 4096) * 8 + (j : ℕ) / 128) * 2 + (j : ℕ) / 64 % 2) * 64 + (i : ℕ)) / 1024 % 4096 = (r : ℕ) % 4096; omega
    | ⟨2, _⟩ => show 1024 + (((((r : ℕ) / 4096 * 4096 + (r : ℕ) % 4096) * 8 + (j : ℕ) / 128) * 2 + (j : ℕ) / 64 % 2) * 64 + (i : ℕ)) % 1024 = 1024 + (64 * ((j : ℕ) / 64) + (i : ℕ)); omega
  rw [val_main_v104_apply, val_main_v87_apply, e, proj2_row]

/-- The keys. -/
theorem k2_row (r : Fin 16384) (j : Fin 1024) :
    val_main_v117 (F := Ideal) x0 x1 x2 x3 x4 x5 x6 x7 x8 x10 (ix5 (n0 := 4) (n1 := 4096) (n2 := 8) (n3 := 2) (n4 := 64) ⟨(r : ℕ) / 4096, by omega⟩ ⟨(r : ℕ) % 4096, by omega⟩ ⟨(j : ℕ) / 128, by omega⟩ ⟨(j : ℕ) / 64 % 2, by omega⟩ ⟨(j : ℕ) % 64, by omega⟩) = KF (Cert.Kernel11Ideal.Block.YA x0 x1 x2 x3 x4 x5 x6) x7 x8 x10 r j := by
  have hr := r.isLt
  have hj := j.isLt
  simp only [val_main_v117_apply, val_main_v116_apply, val_main_v115_apply, val_main_v114_apply, val_main_v113_apply, val_main_v112_apply, val_main_v111_apply, val_main_v110_apply, val_main_v109_apply, val_main_v108_apply, val_main_v107_apply, val_main_v106_apply, val_main_v105_apply, val_main_cst_20_apply, val_main_cst_21_apply, val_main_cst_22_apply]
  have es : ∀ i : Fin 64, val_main_v104 (F := Ideal) x0 x1 x2 x3 x4 x5 x6 x7 x8 (idx_main_v106 (idx_main_v107 (idx_main_v113 (ix5 (n0 := 4) (n1 := 4096) (n2 := 8) (n3 := 2) (n4 := 64) ⟨(r : ℕ) / 4096, by omega⟩ ⟨(r : ℕ) % 4096, by omega⟩ ⟨(j : ℕ) / 128, by omega⟩ ⟨(j : ℕ) / 64 % 2, by omega⟩ ⟨(j : ℕ) % 64, by omega⟩))) i)
      = linA (Cert.Kernel11Ideal.Block.YA x0 x1 x2 x3 x4 x5 x6) x7 x8 r ⟨1024 + (64 * ((j : ℕ) / 64) + i), by omega⟩ := fun i =>
    (congrArg (val_main_v104 (F := Ideal) x0 x1 x2 x3 x4 x5 x6 x7 x8) (eq_ix5 _)).trans (k2_at x0 x1 x2 x3 x4 x5 x6 x7 x8 r j i)
  have eg : x10 (idx_main_v115 (idx_main_v116 (ix5 (n0 := 4) (n1 := 4096) (n2 := 8) (n3 := 2) (n4 := 64) ⟨(r : ℕ) / 4096, by omega⟩ ⟨(r : ℕ) % 4096, by omega⟩ ⟨(j : ℕ) / 128, by omega⟩ ⟨(j : ℕ) / 64 % 2, by omega⟩ ⟨(j : ℕ) % 64, by omega⟩))) = x10 (ix1 ⟨(j : ℕ) % 64, by omega⟩) := congrArg x10 (eq_ix1 _)
  have ej : 64 * ((j : ℕ) / 64) + (j : ℕ) % 64 = j := by omega
  simp only [es, eg, k2_at, ej]
  simp only [KF, partA]
  pointwise
  try rw [mul_assoc]
  try rfl

/-- The values. -/
theorem v2_row (r : Fin 16384) (j : Fin 1024) :
    val_main_v118 (F := Ideal) x0 x1 x2 x3 x4 x5 x6 x7 x8 (ix4 (n0 := 4) (n1 := 4096) (n2 := 8) (n3 := 128) ⟨(r : ℕ) / 4096, by omega⟩ ⟨(r : ℕ) % 4096, by omega⟩ ⟨(j : ℕ) / 128, by omega⟩ ⟨(j : ℕ) % 128, by omega⟩)
      = VF (Cert.Kernel11Ideal.Block.YA x0 x1 x2 x3 x4 x5 x6) x7 x8 r j := by
  have hr := r.isLt
  have hj := j.isLt
  have e : idx_main_v88 (idx_main_v118 (ix4 (n0 := 4) (n1 := 4096) (n2 := 8) (n3 := 128) ⟨(r : ℕ) / 4096, by omega⟩ ⟨(r : ℕ) % 4096, by omega⟩ ⟨(j : ℕ) / 128, by omega⟩ ⟨(j : ℕ) % 128, by omega⟩))
      = ix3 (n0 := 4) (n1 := 4096) (n2 := 4096) ⟨(r : ℕ) / 4096, by omega⟩ ⟨(r : ℕ) % 4096, by omega⟩ ⟨2048 + j, by omega⟩ := by
    funext a
    refine Fin.ext ?_
    match a with
    | ⟨0, _⟩ => show ((((r : ℕ) / 4096 * 4096 + (r : ℕ) % 4096) * 8 + (j : ℕ) / 128) * 128 + (j : ℕ) % 128) / 4194304 = (r : ℕ) / 4096; omega
    | ⟨1, _⟩ => show ((((r : ℕ) / 4096 * 4096 + (r : ℕ) % 4096) * 8 + (j : ℕ) / 128) * 128 + (j : ℕ) % 128) / 1024 % 4096 = (r : ℕ) % 4096; omega
    | ⟨2, _⟩ => show 2048 + ((((r : ℕ) / 4096 * 4096 + (r : ℕ) % 4096) * 8 + (j : ℕ) / 128) * 128 + (j : ℕ) % 128) % 1024 = 2048 + (j : ℕ); omega
  rw [val_main_v118_apply, val_main_v88_apply, e, proj2_row]
  rfl

/-- The reference's keys. -/
theorem k_eq : val_main_v119 (F := Ideal) x0 x1 x2 x3 x4 x5 x6 x7 x8 x10 = RA (KF (Cert.Kernel11Ideal.Block.YA x0 x1 x2 x3 x4 x5 x6) x7 x8 x10) := by
  funext i
  obtain ⟨r, j, rfl⟩ : ∃ (r : Fin 16384) (j : Fin 1024), i = ix2 r j := ⟨i 0, i 1, eq_ix2 _⟩
  have hr := r.isLt
  have hj := j.isLt
  have e : idx_main_v119 (ix2 r j) = (ix5 (n0 := 4) (n1 := 4096) (n2 := 8) (n3 := 2) (n4 := 64) ⟨(r : ℕ) / 4096, by omega⟩ ⟨(r : ℕ) % 4096, by omega⟩ ⟨(j : ℕ) / 128, by omega⟩ ⟨(j : ℕ) / 64 % 2, by omega⟩ ⟨(j : ℕ) % 64, by omega⟩) := by
    funext a
    refine Fin.ext ?_
    match a with
    | ⟨0, _⟩ => show ((r : ℕ) * 1024 + (j : ℕ)) / 4194304 = (r : ℕ) / 4096; omega
    | ⟨1, _⟩ => show ((r : ℕ) * 1024 + (j : ℕ)) / 1024 % 4096 = (r : ℕ) % 4096; omega
    | ⟨2, _⟩ => show ((r : ℕ) * 1024 + (j : ℕ)) / 128 % 8 = (j : ℕ) / 128; omega
    | ⟨3, _⟩ => show ((r : ℕ) * 1024 + (j : ℕ)) / 64 % 2 = (j : ℕ) / 64 % 2; omega
    | ⟨4, _⟩ => show ((r : ℕ) * 1024 + (j : ℕ)) % 64 = (j : ℕ) % 64; omega
  rw [val_main_v119_apply, e, k2_row]
  rfl

/-- The reference's values. -/
theorem v_eq : val_main_v120 (F := Ideal) x0 x1 x2 x3 x4 x5 x6 x7 x8 = RA (VF (Cert.Kernel11Ideal.Block.YA x0 x1 x2 x3 x4 x5 x6) x7 x8) := by
  funext i
  obtain ⟨r, j, rfl⟩ : ∃ (r : Fin 16384) (j : Fin 1024), i = ix2 r j := ⟨i 0, i 1, eq_ix2 _⟩
  have hr := r.isLt
  have hj := j.isLt
  have e : idx_main_v120 (ix2 r j) = ix4 (n0 := 4) (n1 := 4096) (n2 := 8) (n3 := 128) ⟨(r : ℕ) / 4096, by omega⟩ ⟨(r : ℕ) % 4096, by omega⟩ ⟨(j : ℕ) / 128, by omega⟩ ⟨(j : ℕ) % 128, by omega⟩ := by
    funext a
    refine Fin.ext ?_
    match a with
    | ⟨0, _⟩ => show ((r : ℕ) * 1024 + (j : ℕ)) / 4194304 = (r : ℕ) / 4096; omega
    | ⟨1, _⟩ => show ((r : ℕ) * 1024 + (j : ℕ)) / 1024 % 4096 = (r : ℕ) % 4096; omega
    | ⟨2, _⟩ => show ((r : ℕ) * 1024 + (j : ℕ)) / 128 % 8 = (j : ℕ) / 128; omega
    | ⟨3, _⟩ => show ((r : ℕ) * 1024 + (j : ℕ)) % 128 = (j : ℕ) % 128; omega
  rw [val_main_v120_apply, e, v2_row]
  rfl

end Cert.Reference11Ideal.Rows

end
-- ==== Proof.S12Block.lean ====
module

public import proofs.«01_k».proof.Proof.SampleBlock
public import proofs.«01_k».proof.Proof.Gen.Kernel12Ideal.Frame
public import Idealize.ShloMosaic.Lib.Pipeline.ValueKit
public import Idealize.ShloMosaic.Lib.Pipeline.ReadBack

@[expose] public section

set_option maxRecDepth 16384

noncomputable section

namespace Cert.Kernel12Ideal.Block

open Cert.Kernel12Ideal Cert.Kernel12Ideal.Gen Idealize.ShloMosaic Idealize.ShloMosaic.TcCoe Idealize.SL.Sem

/-! What one block of 256 rows computes, as functions of the block's inputs. -/

/-- Row `r` of the block of rows. -/
abbrev rowB (x0 : Vec Ideal S256x1024 .f32) (r : Fin 256) : Fin 1024 → EReal := fun k => x0 (ix2 r k)
/-- The gain of the norm, as a row. -/
abbrev gainB (x1 : Vec Ideal S1x1024 .f32) : Fin 1024 → EReal := fun k => x1 (ix2 0 k)
/-- The input weights. -/
abbrev winB (x2 : Vec Ideal S1024x6144 .bf16) : Fin 1024 → Fin 6144 → EReal := fun k j => x2 (ix2 k j)
/-- The gain of the value norm, as a row. -/
abbrev vgB (x3 : Vec Ideal S1x2048 .f32) : Fin 2048 → EReal := fun j => x3 (ix2 0 j)

/-- The first gate over the block. -/
def UB (x0 : Vec Ideal S256x1024 .f32) (x1 : Vec Ideal S1x1024 .f32) (x2 : Vec Ideal S1024x6144 .bf16) : S256x2048.Idx → Elt Ideal .f32 :=
  fun y => Gmlp.urow (rowB x0 (y 0)) (gainB x1) (winB x2) (y 1)
/-- The values over the block. -/
def VB (x0 : Vec Ideal S256x1024 .f32) (x1 : Vec Ideal S1x1024 .f32) (x2 : Vec Ideal S1024x6144 .bf16) : S256x2048.Idx → Elt Ideal .f32 :=
  fun y => Gmlp.vrow (rowB x0 (y 0)) (gainB x1) (winB x2) (y 1)
/-- The second gate over the block. -/
def ZB (x0 : Vec Ideal S256x1024 .f32) (x1 : Vec Ideal S1x1024 .f32) (x2 : Vec Ideal S1024x6144 .bf16) : S256x2048.Idx → Elt Ideal .f32 :=
  fun y => Gmlp.zrow (rowB x0 (y 0)) (gainB x1) (winB x2) (y 1)
/-- The normed values over the block. -/
def VNB (x0 : Vec Ideal S256x1024 .f32) (x1 : Vec Ideal S1x1024 .f32) (x2 : Vec Ideal S1024x6144 .bf16) (x3 : Vec Ideal S1x2048 .f32) :
    S256x2048.Idx → Elt Ideal .f32 :=
  fun y => Gmlp.vnrow (rowB x0 (y 0)) (gainB x1) (winB x2) (vgB x3) (y 1)
/-- The mixed rows over the block: row `r` is row `r % 128` of chunk `r / 128`. -/
def GB (x0 : Vec Ideal S256x1024 .f32) (x1 : Vec Ideal S1x1024 .f32) (x2 : Vec Ideal S1024x6144 .bf16) (x3 : Vec Ideal S1x2048 .f32)
    (x4 x5 : Vec Ideal S16x128x128 .f32) : S256x2048.Idx → Elt Ideal .bf16 :=
  fun y => Gmlp.grow Gmlp.recent (fun s => rowB x0 ⟨128 * ((y 0 : ℕ) / 128) + s, by have := (y 0).isLt; change (y 0 : ℕ) < 256 at this; omega⟩) (gainB x1) (winB x2) (vgB x3)
    (fun g t s => x4 (ix3 g t s)) (fun g t d => x5 (ix3 g t d)) ⟨(y 0 : ℕ) % 128, by omega⟩ (y 1)

/-- A stored slab of 512 columns whose entries are those of a whole-block function is that function at the slab's places. -/
theorem slab_of (G : S256x2048.Idx → Elt Ideal .f32) (p : FVec Ideal S256x512 .f32) (o : ℕ) (inb : ∀ a, (![0, o] : Fin 2 → ℕ) a + S256x512.size a ≤ S256x2048.size a)
    (ho : o ≤ 1536)
    (hp : ∀ (r : Fin 256) (j : Fin 512), p (ix2 r j) = G (ix2 r ⟨o + j, by omega⟩))
    (x : (Rect.unit (s := S256x2048) ![0, o] S256x512.size inb).shape.Idx) : p x = G ((Rect.unit (s := S256x2048) ![0, o] S256x512.size inb).emb x) := by
  have hx : x = ix2 (n0 := 256) (n1 := 512) (x 0) (x 1) := eq_ix2 _
  rw [hx]
  refine (hp (x 0) (x 1)).trans (congrArg G ?_)
  funext a
  match a with
  | ⟨0, _⟩ => exact Fin.ext (show ((x 0 : Fin 256) : ℕ) = 0 + 1 * ((x 0 : Fin 256) : ℕ) by omega)
  | ⟨1, _⟩ => exact Fin.ext (show o + ((x 1 : Fin 512) : ℕ) = o + 1 * ((x 1 : Fin 512) : ℕ) by omega)

variable (c : Dev nD) (arg1 : Memref sig .tc .vmem S256x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S16x128x128 .f32) (harg6 : arg6.IsWhole)
  (arg10 arg11 arg12 : Memref sig .tc .vmem S256x2048 .f32)
  (x0 : Vec Ideal S256x1024 .f32) (x1 : Vec Ideal S1x1024 .f32) (x2 : Vec Ideal S1024x6144 .bf16) (x3 : Vec Ideal S1x2048 .f32) (x4 x5 : Vec Ideal S16x128x128 .f32)

/-- The normed rows. -/
theorem norm_word : kernelRun0_A.sl.r_1 (F := Ideal) c arg1 harg1 arg2 harg2 x0 x1 = fun i => Gmlp.hrow (rowB x0 (i 0)) (gainB x1) (i 1) := by
  funext i
  simp only [kernelRun0_A.sl.r_1, View.readAt_eq_ld, Memref.IsWhole.read_unread]
  unfold_payloads
  idx_vars i
  pointwise
  rfl

/-- The first scratch holds the first gate. -/
theorem HS0_4_eq : View.canon (kernelRun0_A.sl.HS0_4 (F := Ideal) c arg1 harg1 arg2 harg2 arg3 harg3 x0 x1 x2) = UB x0 x1 x2 := by
  have hc := View.cover_of_tiledL (kernelRun0_A.sl.HS0_4 (F := Ideal) c arg1 harg1 arg2 harg2 arg3 harg3 x0 x1 x2) ![256, 512] (by unfold kernelRun0_A.sl.HS0_4; rfl)
  funext y
  refine View.canon_apply_of_pieces _ _ (View.PiecesOf.mem ?_) y (hc y)
  unfold kernelRun0_A.sl.HS0_4
  refine ⟨slab_of _ _ 1536 inb_S256x2048_S256x512_0_1536 (by omega) fun r j => ?_, slab_of _ _ 1024 inb_S256x2048_S256x512_0_1024 (by omega) fun r j => ?_, slab_of _ _ 512 inb_S256x2048_S256x512_0_512 (by omega) fun r j => ?_,
    slab_of _ _ 0 inb_S256x2048_S256x512_0_0 (by omega) fun r j => ?_, trivial⟩
  all_goals
    simp only [kernelRun0_A.sl.r_10, kernelRun0_A.sl.r_11, kernelRun0_A.sl.r_12, kernelRun0_A.sl.r_13, kernelRun0_A.sl.r_14, kernelRun0_A.sl.r_15, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.cst_33, kernelRun0_A.sl.cst_66, norm_word, View.readAt_eq_ld, Memref.IsWhole.read_unread]
    unfold_payloads
    pointwise
    simp only [UB, Gmlp.urow, Gmlp.prow, Gmlp.gelu, Gmlp.silu, Gmlp.hrow]
    try simp only [ix2_0, ix2_1, ← Nat.add_assoc, Nat.reduceAdd]
    try rfl

/-- The second scratch holds the values. -/
theorem HS1_4_eq : View.canon (kernelRun0_A.sl.HS1_4 (F := Ideal) c arg1 harg1 arg2 harg2 arg3 harg3 x0 x1 x2) = VB x0 x1 x2 := by
  have hc := View.cover_of_tiledL (kernelRun0_A.sl.HS1_4 (F := Ideal) c arg1 harg1 arg2 harg2 arg3 harg3 x0 x1 x2) ![256, 512] (by unfold kernelRun0_A.sl.HS1_4; rfl)
  funext y
  refine View.canon_apply_of_pieces _ _ (View.PiecesOf.mem ?_) y (hc y)
  unfold kernelRun0_A.sl.HS1_4
  refine ⟨slab_of _ _ 1536 inb_S256x2048_S256x512_0_1536 (by omega) fun r j => ?_, slab_of _ _ 1024 inb_S256x2048_S256x512_0_1024 (by omega) fun r j => ?_, slab_of _ _ 512 inb_S256x2048_S256x512_0_512 (by omega) fun r j => ?_,
    slab_of _ _ 0 inb_S256x2048_S256x512_0_0 (by omega) fun r j => ?_, trivial⟩
  all_goals
    simp only [kernelRun0_A.sl.r_10, kernelRun0_A.sl.r_11, kernelRun0_A.sl.r_12, kernelRun0_A.sl.r_13, kernelRun0_A.sl.r_14, kernelRun0_A.sl.r_15, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.cst_33, kernelRun0_A.sl.cst_66, norm_word, View.readAt_eq_ld, Memref.IsWhole.read_unread]
    unfold_payloads
    pointwise
    simp only [VB, Gmlp.vrow, Gmlp.prow, Gmlp.gelu, Gmlp.silu, Gmlp.hrow]
    try simp only [ix2_0, ix2_1, ← Nat.add_assoc, Nat.reduceAdd]
    try rfl

/-- The third scratch holds the second gate. -/
theorem HS2_4_eq : View.canon (kernelRun0_A.sl.HS2_4 (F := Ideal) c arg1 harg1 arg2 harg2 arg3 harg3 x0 x1 x2) = ZB x0 x1 x2 := by
  have hc := View.cover_of_tiledL (kernelRun0_A.sl.HS2_4 (F := Ideal) c arg1 harg1 arg2 harg2 arg3 harg3 x0 x1 x2) ![256, 512] (by unfold kernelRun0_A.sl.HS2_4; rfl)
  funext y
  refine View.canon_apply_of_pieces _ _ (View.PiecesOf.mem ?_) y (hc y)
  unfold kernelRun0_A.sl.HS2_4
  refine ⟨slab_of _ _ 1536 inb_S256x2048_S256x512_0_1536 (by omega) fun r j => ?_, slab_of _ _ 1024 inb_S256x2048_S256x512_0_1024 (by omega) fun r j => ?_, slab_of _ _ 512 inb_S256x2048_S256x512_0_512 (by omega) fun r j => ?_,
    slab_of _ _ 0 inb_S256x2048_S256x512_0_0 (by omega) fun r j => ?_, trivial⟩
  all_goals
    simp only [kernelRun0_A.sl.r_10, kernelRun0_A.sl.r_11, kernelRun0_A.sl.r_12, kernelRun0_A.sl.r_13, kernelRun0_A.sl.r_14, kernelRun0_A.sl.r_15, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.cst_33, kernelRun0_A.sl.cst_66, norm_word, View.readAt_eq_ld, Memref.IsWhole.read_unread]
    unfold_payloads
    pointwise
    simp only [ZB, Gmlp.zrow, Gmlp.prow, Gmlp.gelu, Gmlp.silu, Gmlp.hrow]
    try simp only [ix2_0, ix2_1, ← Nat.add_assoc, Nat.reduceAdd]
    try rfl

/-- The sum of squares that the kernel accumulates slab by slab is the whole row's. -/
theorem ssq_word : kernelRun0_A.sl.r_13 (F := Ideal) c arg1 harg1 arg2 harg2 arg3 harg3 x0 x1 x2 = fun i => Gmlp.ssq (rowB x0 (i 0)) (gainB x1) (winB x2) := by
  funext i
  simp only [kernelRun0_A.sl.r_10, kernelRun0_A.sl.r_11, kernelRun0_A.sl.r_12, kernelRun0_A.sl.r_13, kernelRun0_A.sl.r_14, kernelRun0_A.sl.r_15, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.cst_33, kernelRun0_A.sl.cst_66, norm_word, View.readAt_eq_ld, Memref.IsWhole.read_unread]
  unfold_payloads
  idx_vars i
  pointwise
  refine Eq.trans ?_ (Gmlp.sum_quarters _)
  simp only [Gmlp.vrow, Gmlp.prow, Gmlp.gelu, Gmlp.hrow, ← Nat.add_assoc, Nat.reduceAdd]
  try rfl

/-- After the norm the second scratch holds the normed values. -/
theorem HS1_5_eq : View.canon (kernelRun0_A.sl.HS1_5 (F := Ideal) c arg1 harg1 arg2 harg2 arg3 harg3 arg4 harg4 arg11 x0 x1 x2 x3) = VNB x0 x1 x2 x3 := by
  unfold kernelRun0_A.sl.HS1_5 kernelRun0_A.sl.v242
  rw [View.canon_cons_unit_lit _ _ _ (by decide), View.readCov_eq_canon', HS1_4_eq, ssq_word]
  funext y
  simp only [View.readAt_eq_ld, Memref.IsWhole.read_unread]
  unfold_payloads
  idx_vars y
  pointwise
  rfl

/-- A stored tile of 128 × 128 entries, given entry by entry over the whole-block gates and normed values, is the mixed block at the tile's
    places: rows of chunk `rr`, columns of group `g`. -/
theorem tile_of (x0 : Vec Ideal S256x1024 .f32) (x1 : Vec Ideal S1x1024 .f32) (x2 : Vec Ideal S1024x6144 .bf16) (x3 : Vec Ideal S1x2048 .f32)
    (x4 x5 : Vec Ideal S16x128x128 .f32) (p : FVec Ideal S128x128 .bf16) (o q : ℕ)
    (inb : ∀ a, (![o, q] : Fin 2 → ℕ) a + S128x128.size a ≤ S256x2048.size a) (rr g : ℕ) (hr : o = 128 * rr) (hg : q = 128 * g) (hr2 : rr < 2) (hg16 : g < 16)
    (hp : ∀ t d : Fin 128, p (ix2 t d) = UB x0 x1 x2 (ix2 ⟨o + t, by omega⟩ ⟨q + d, by omega⟩) *
      ((∑ s : Fin 128, if Gmlp.recent t s then x4 (ix3 ⟨g, hg16⟩ t s) * VNB x0 x1 x2 x3 (ix2 ⟨o + s, by omega⟩ ⟨q + d, by omega⟩) else 0)
        + x5 (ix3 ⟨g, hg16⟩ t d)) * ZB x0 x1 x2 (ix2 ⟨o + t, by omega⟩ ⟨q + d, by omega⟩))
    (x : (Rect.unit (s := S256x2048) ![o, q] S128x128.size inb).shape.Idx) :
    p x = GB x0 x1 x2 x3 x4 x5 ((Rect.unit (s := S256x2048) ![o, q] S128x128.size inb).emb x) := by
  have key : ∀ t d : Fin 128, p (ix2 t d) = GB x0 x1 x2 x3 x4 x5 (ix2 ⟨o + t, by omega⟩ ⟨q + d, by omega⟩) := fun t d => by
    have e1 : (o + (t : ℕ)) % 128 = t := by omega
    have e2 : 128 * ((o + (t : ℕ)) / 128) = o := by omega
    have e3 : (q + (d : ℕ)) / 128 = g := by omega
    have e4 : (q + (d : ℕ)) % 128 = d := by omega
    rw [hp]
    simp only [GB, Gmlp.grow, UB, VNB, ZB, ix2_0, ix2_1, e1, e2, e3, e4, Fin.eta]
  have hx : x = ix2 (n0 := 128) (n1 := 128) (x 0) (x 1) := eq_ix2 _
  refine (congrArg p hx).trans ((key (x 0) (x 1)).trans (congrArg (GB x0 x1 x2 x3 x4 x5) ?_))
  funext a
  match a with
  | ⟨0, _⟩ => exact Fin.ext (show o + ((x 0 : Fin 128) : ℕ) = o + 1 * ((x 0 : Fin 128) : ℕ) by omega)
  | ⟨1, _⟩ => exact Fin.ext (show q + ((x 1 : Fin 128) : ℕ) = q + 1 * ((x 1 : Fin 128) : ℕ) by omega)

/-- The last scratch holds the mixed rows. -/
theorem HS3_32_eq : View.canon (kernelRun0_A.sl.HS3_32 (F := Ideal) c arg1 harg1 arg2 harg2 arg3 harg3 arg4 harg4 arg5 harg5 arg6 harg6 arg10 arg11 arg12 x0 x1 x2 x3 x4 x5) = GB x0 x1 x2 x3 x4 x5 := by
  have hc := View.cover_of_tiledL (kernelRun0_A.sl.HS3_32 (F := Ideal) c arg1 harg1 arg2 harg2 arg3 harg3 arg4 harg4 arg5 harg5 arg6 harg6 arg10 arg11 arg12 x0 x1 x2 x3 x4 x5) ![128, 128] (by unfold kernelRun0_A.sl.HS3_32; rfl)
  funext y
  refine View.canon_apply_of_pieces _ _ (View.PiecesOf.mem ?_) y (hc y)
  unfold kernelRun0_A.sl.HS3_32
  refine ⟨tile_of x0 x1 x2 x3 x4 x5 _ 128 1920 inb_S256x2048_S128x128_128_1920 1 15 rfl rfl (by omega) (by omega) fun t d => ?_,
    tile_of x0 x1 x2 x3 x4 x5 _ 0 1920 inb_S256x2048_S128x128_0_1920 0 15 rfl rfl (by omega) (by omega) fun t d => ?_,
    tile_of x0 x1 x2 x3 x4 x5 _ 128 1792 inb_S256x2048_S128x128_128_1792 1 14 rfl rfl (by omega) (by omega) fun t d => ?_,
    tile_of x0 x1 x2 x3 x4 x5 _ 0 1792 inb_S256x2048_S128x128_0_1792 0 14 rfl rfl (by omega) (by omega) fun t d => ?_,
    tile_of x0 x1 x2 x3 x4 x5 _ 128 1664 inb_S256x2048_S128x128_128_1664 1 13 rfl rfl (by omega) (by omega) fun t d => ?_,
    tile_of x0 x1 x2 x3 x4 x5 _ 0 1664 inb_S256x2048_S128x128_0_1664 0 13 rfl rfl (by omega) (by omega) fun t d => ?_,
    tile_of x0 x1 x2 x3 x4 x5 _ 128 1536 inb_S256x2048_S128x128_128_1536 1 12 rfl rfl (by omega) (by omega) fun t d => ?_,
    tile_of x0 x1 x2 x3 x4 x5 _ 0 1536 inb_S256x2048_S128x128_0_1536 0 12 rfl rfl (by omega) (by omega) fun t d => ?_,
    tile_of x0 x1 x2 x3 x4 x5 _ 128 1408 inb_S256x2048_S128x128_128_1408 1 11 rfl rfl (by omega) (by omega) fun t d => ?_,
    tile_of x0 x1 x2 x3 x4 x5 _ 0 1408 inb_S256x2048_S128x128_0_1408 0 11 rfl rfl (by omega) (by omega) fun t d => ?_,
    tile_of x0 x1 x2 x3 x4 x5 _ 128 1280 inb_S256x2048_S128x128_128_1280 1 10 rfl rfl (by omega) (by omega) fun t d => ?_,
    tile_of x0 x1 x2 x3 x4 x5 _ 0 1280 inb_S256x2048_S128x128_0_1280 0 10 rfl rfl (by omega) (by omega) fun t d => ?_,
    tile_of x0 x1 x2 x3 x4 x5 _ 128 1152 inb_S256x2048_S128x128_128_1152 1 9 rfl rfl (by omega) (by omega) fun t d => ?_,
    tile_of x0 x1 x2 x3 x4 x5 _ 0 1152 inb_S256x2048_S128x128_0_1152 0 9 rfl rfl (by omega) (by omega) fun t d => ?_,
    tile_of x0 x1 x2 x3 x4 x5 _ 128 1024 inb_S256x2048_S128x128_128_1024 1 8 rfl rfl (by omega) (by omega) fun t d => ?_,
    tile_of x0 x1 x2 x3 x4 x5 _ 0 1024 inb_S256x2048_S128x128_0_1024 0 8 rfl rfl (by omega) (by omega) fun t d => ?_,
    tile_of x0 x1 x2 x3 x4 x5 _ 128 896 inb_S256x2048_S128x128_128_896 1 7 rfl rfl (by omega) (by omega) fun t d => ?_,
    tile_of x0 x1 x2 x3 x4 x5 _ 0 896 inb_S256x2048_S128x128_0_896 0 7 rfl rfl (by omega) (by omega) fun t d => ?_,
    tile_of x0 x1 x2 x3 x4 x5 _ 128 768 inb_S256x2048_S128x128_128_768 1 6 rfl rfl (by omega) (by omega) fun t d => ?_,
    tile_of x0 x1 x2 x3 x4 x5 _ 0 768 inb_S256x2048_S128x128_0_768 0 6 rfl rfl (by omega) (by omega) fun t d => ?_,
    tile_of x0 x1 x2 x3 x4 x5 _ 128 640 inb_S256x2048_S128x128_128_640 1 5 rfl rfl (by omega) (by omega) fun t d => ?_,
    tile_of x0 x1 x2 x3 x4 x5 _ 0 640 inb_S256x2048_S128x128_0_640 0 5 rfl rfl (by omega) (by omega) fun t d => ?_,
    tile_of x0 x1 x2 x3 x4 x5 _ 128 512 inb_S256x2048_S128x128_128_512 1 4 rfl rfl (by omega) (by omega) fun t d => ?_,
    tile_of x0 x1 x2 x3 x4 x5 _ 0 512 inb_S256x2048_S128x128_0_512 0 4 rfl rfl (by omega) (by omega) fun t d => ?_,
    tile_of x0 x1 x2 x3 x4 x5 _ 128 384 inb_S256x2048_S128x128_128_384 1 3 rfl rfl (by omega) (by omega) fun t d => ?_,
    tile_of x0 x1 x2 x3 x4 x5 _ 0 384 inb_S256x2048_S128x128_0_384 0 3 rfl rfl (by omega) (by omega) fun t d => ?_,
    tile_of x0 x1 x2 x3 x4 x5 _ 128 256 inb_S256x2048_S128x128_128_256 1 2 rfl rfl (by omega) (by omega) fun t d => ?_,
    tile_of x0 x1 x2 x3 x4 x5 _ 0 256 inb_S256x2048_S128x128_0_256 0 2 rfl rfl (by omega) (by omega) fun t d => ?_,
    tile_of x0 x1 x2 x3 x4 x5 _ 128 128 inb_S256x2048_S128x128_128_128 1 1 rfl rfl (by omega) (by omega) fun t d => ?_,
    tile_of x0 x1 x2 x3 x4 x5 _ 0 128 inb_S256x2048_S128x128_0_128 0 1 rfl rfl (by omega) (by omega) fun t d => ?_,
    tile_of x0 x1 x2 x3 x4 x5 _ 128 0 inb_S256x2048_S128x128_128_0 1 0 rfl rfl (by omega) (by omega) fun t d => ?_,
    tile_of x0 x1 x2 x3 x4 x5 _ 0 0 inb_S256x2048_S128x128_0_0 0 0 rfl rfl (by omega) (by omega) fun t d => ?_, trivial⟩
  all_goals
    simp only [kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.v274, kernelRun0_A.sl.v278, kernelRun0_A.sl.v280, kernelRun0_A.sl.v286, kernelRun0_A.sl.v290, kernelRun0_A.sl.v292, kernelRun0_A.sl.v305, kernelRun0_A.sl.v309, kernelRun0_A.sl.v311, kernelRun0_A.sl.v317, kernelRun0_A.sl.v321, kernelRun0_A.sl.v323, kernelRun0_A.sl.v336, kernelRun0_A.sl.v340, kernelRun0_A.sl.v342, kernelRun0_A.sl.v348, kernelRun0_A.sl.v352, kernelRun0_A.sl.v354, kernelRun0_A.sl.v367, kernelRun0_A.sl.v371, kernelRun0_A.sl.v373, kernelRun0_A.sl.v379, kernelRun0_A.sl.v383, kernelRun0_A.sl.v385, kernelRun0_A.sl.v398, kernelRun0_A.sl.v402, kernelRun0_A.sl.v404, kernelRun0_A.sl.v410, kernelRun0_A.sl.v414, kernelRun0_A.sl.v416, kernelRun0_A.sl.v429, kernelRun0_A.sl.v433, kernelRun0_A.sl.v435, kernelRun0_A.sl.v441, kernelRun0_A.sl.v445, kernelRun0_A.sl.v447, kernelRun0_A.sl.v460, kernelRun0_A.sl.v464, kernelRun0_A.sl.v466, kernelRun0_A.sl.v472, kernelRun0_A.sl.v476, kernelRun0_A.sl.v478, kernelRun0_A.sl.v491, kernelRun0_A.sl.v495, kernelRun0_A.sl.v497, kernelRun0_A.sl.v503, kernelRun0_A.sl.v507, kernelRun0_A.sl.v509, kernelRun0_A.sl.v522, kernelRun0_A.sl.v526, kernelRun0_A.sl.v528, kernelRun0_A.sl.v534, kernelRun0_A.sl.v538, kernelRun0_A.sl.v540, kernelRun0_A.sl.v553, kernelRun0_A.sl.v557, kernelRun0_A.sl.v559, kernelRun0_A.sl.v565, kernelRun0_A.sl.v569, kernelRun0_A.sl.v571, kernelRun0_A.sl.v584, kernelRun0_A.sl.v588, kernelRun0_A.sl.v590, kernelRun0_A.sl.v596, kernelRun0_A.sl.v600, kernelRun0_A.sl.v602, kernelRun0_A.sl.v615, kernelRun0_A.sl.v619, kernelRun0_A.sl.v621, kernelRun0_A.sl.v627, kernelRun0_A.sl.v631, kernelRun0_A.sl.v633, kernelRun0_A.sl.v646, kernelRun0_A.sl.v650, kernelRun0_A.sl.v652, kernelRun0_A.sl.v658, kernelRun0_A.sl.v662, kernelRun0_A.sl.v664, kernelRun0_A.sl.v677, kernelRun0_A.sl.v681, kernelRun0_A.sl.v683, kernelRun0_A.sl.v689, kernelRun0_A.sl.v693, kernelRun0_A.sl.v695, kernelRun0_A.sl.v708, kernelRun0_A.sl.v712, kernelRun0_A.sl.v714, kernelRun0_A.sl.v720, kernelRun0_A.sl.v724, kernelRun0_A.sl.v726, kernelRun0_A.sl.v739, kernelRun0_A.sl.v743, kernelRun0_A.sl.v745, kernelRun0_A.sl.v751, kernelRun0_A.sl.v755, kernelRun0_A.sl.v757, View.readCov_eq_canon', HS0_4_eq, HS1_5_eq, HS2_4_eq, View.readAt_eq_ld, Memref.IsWhole.read_unread]
    unfold_payloads
    pointwise
    simp only [Gmlp.select_recent, Nat.zero_add, Fin.eta]
    try rfl

end Cert.Kernel12Ideal.Block

end
-- ==== Proof.S12Out.lean ====
module

public import proofs.«01_k».proof.Proof.S12Block
public import proofs.«01_k».proof.Proof.Gen.Kernel12Ideal.Frame
public import Idealize.ShloMosaic.Lib.Pipeline.ValueKit
public import Idealize.ShloMosaic.Lib.Pipeline.ReadBack

@[expose] public section

set_option maxRecDepth 16384

noncomputable section

namespace Cert.Kernel12Ideal.Block

open Cert.Kernel12Ideal Cert.Kernel12Ideal.Gen Idealize.ShloMosaic Idealize.ShloMosaic.TcCoe Idealize.SL.Sem

/-! What a grid point leaves in the output block. -/

/-- What the output block holds after a point, as a function of the point's input blocks: the rows plus the mixed rows
    against the output weights. -/
def YB (x0 : Vec Ideal S256x1024 .f32) (x1 : Vec Ideal S1x1024 .f32) (x2 : Vec Ideal S1024x6144 .bf16) (x3 : Vec Ideal S1x2048 .f32)
    (x4 x5 : Vec Ideal S16x128x128 .f32) (x6 : Vec Ideal S2048x1024 .bf16) : S256x1024.Idx → EReal :=
  fun y => Gmlp.yrow Gmlp.recent (fun s => rowB x0 ⟨128 * ((y 0 : ℕ) / 128) + s, by have := (y 0).isLt; change (y 0 : ℕ) < 256 at this; omega⟩) (gainB x1) (winB x2) (vgB x3)
    (fun g t s => x4 (ix3 g t s)) (fun g t d => x5 (ix3 g t d)) (fun j n => x6 (ix2 j n)) ⟨(y 0 : ℕ) % 128, by omega⟩ (y 1)

/-- `YB` through the mixed block. -/
theorem YB_apply (x0 : Vec Ideal S256x1024 .f32) (x1 : Vec Ideal S1x1024 .f32) (x2 : Vec Ideal S1024x6144 .bf16) (x3 : Vec Ideal S1x2048 .f32)
    (x4 x5 : Vec Ideal S16x128x128 .f32) (x6 : Vec Ideal S2048x1024 .bf16) (r : Fin 256) (n : Fin 1024) :
    x0 (ix2 r n) + ∑ j : Fin 2048, GB x0 x1 x2 x3 x4 x5 (ix2 r j) * x6 (ix2 j n) = YB x0 x1 x2 x3 x4 x5 x6 (ix2 r n) := by
  have e : 128 * ((r : ℕ) / 128) + (r : ℕ) % 128 = r := by omega
  simp only [YB, Gmlp.yrow, GB, ix2_0, ix2_1, e, Fin.eta]

/-- A run's first output block is `YB` of its input blocks. -/
theorem out_eq (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S16x128x128 .f32) (harg6 : arg6.IsWhole) (arg7 : Memref sig .tc .vmem S2048x1024 .bf16) (harg7 : arg7.IsWhole) (arg8 : Memref sig .tc .vmem S256x1024 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .bf16) (harg13 : arg13.IsWhole)
    (x0 : Vec Ideal S256x1024 .f32) (x1 : Vec Ideal S1x1024 .f32) (x2 : Vec Ideal S1024x6144 .bf16) (x3 : Vec Ideal S1x2048 .f32) (x4 : Vec Ideal S16x128x128 .f32) (x5 : Vec Ideal S16x128x128 .f32) (x6 : Vec Ideal S2048x1024 .bf16) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 = YB x0 x1 x2 x3 x4 x5 x6 := by
  unfold out0_A_7
  rw [View.read_writes_junk_eq_canon]
  unfold kernelRun0_A
  dsimp only
  rw [View.canon_cons_unit_lit _ _ _ (by decide)]
  simp only [kernelRun0_A.sl.r, kernelRun0_A.sl.v763, View.readCov_eq_canon', HS3_32_eq, View.readAt_eq_ld, Memref.IsWhole.read_unread]
  funext y
  rw [eq_ix2 (n0 := 256) (n1 := 1024) y]
  refine Eq.trans ?_ (YB_apply x0 x1 x2 x3 x4 x5 x6 (y 0) (y 1))
  unfold_payloads
  pointwise

/-- A run's second output block is the normed values. -/
theorem vout_eq (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S16x128x128 .f32) (harg6 : arg6.IsWhole) (arg7 : Memref sig .tc .vmem S2048x1024 .bf16) (harg7 : arg7.IsWhole) (arg8 : Memref sig .tc .vmem S256x1024 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .bf16) (harg13 : arg13.IsWhole)
    (x0 : Vec Ideal S256x1024 .f32) (x1 : Vec Ideal S1x1024 .f32) (x2 : Vec Ideal S1024x6144 .bf16) (x3 : Vec Ideal S1x2048 .f32) (x4 : Vec Ideal S16x128x128 .f32) (x5 : Vec Ideal S16x128x128 .f32) (x6 : Vec Ideal S2048x1024 .bf16) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 = VNB x0 x1 x2 x3 := by
  unfold out0_A_8
  rw [View.read_writes_junk_eq_canon]
  unfold kernelRun0_A
  dsimp only
  rw [View.canon_cons_unit_lit _ _ _ (by decide)]
  unfold kernelRun0_A.sl.v242
  rw [View.readCov_eq_canon', HS1_4_eq, ssq_word]
  funext y
  simp only [View.readAt_eq_ld, Memref.IsWhole.read_unread]
  unfold_payloads
  idx_vars y
  pointwise
  rfl

/-- The output blocks after a point are `YB` and the normed values of the point's input blocks. -/
theorem outs_eq (V : (c : Dev nD) → (b : Ref sig .tc) → Buf (Elt Ideal) ((c : Thread nD τ).loc b)) (c : Dev nD) (t : Fin cfg0.N) :
    outsAt0 V c t = (YB (iblk0 V c 0 t) (iblk0 V c 1 t) (iblk0 V c 2 t) (iblk0 V c 3 t) (iblk0 V c 4 t) (iblk0 V c 5 t) (iblk0 V c 6 t),
      VNB (iblk0 V c 0 t) (iblk0 V c 1 t) (iblk0 V c 2 t) (iblk0 V c 3 t)) := by
  rw [outsAt0, out_eq, vout_eq]

end Cert.Kernel12Ideal.Block

end
-- ==== Proof.S12Arr.lean ====
module

public import proofs.«01_k».proof.Proof.S12Out

@[expose] public section

set_option maxRecDepth 16384

noncomputable section

namespace Cert.Kernel12Ideal.Block

open Cert.Kernel12Ideal Cert.Kernel12Ideal.Gen Idealize.ShloMosaic Idealize.ShloMosaic.TcCoe Idealize.SL.Sem

/-! The result array after the run, from the arguments. -/

variable (m : (ℓ : Loc nD τ sig) → Buf (Elt Ideal) ℓ) (ρ : Dev nD → PrngReg) (c : Dev nD) (t : Fin cfg0.N)

/-- The block of window 0 at a point is the point's own block of rows. -/
theorem index0 : ∀ t : Fin cfg0.N, win0_0.index t = ![(t : ℕ), 0] := by decide +kernel
/-- The block of window 1 is the same at every point. -/
theorem index1 : ∀ t : Fin cfg0.N, win0_1.index t = ![0, 0] := by decide +kernel
/-- The block of window 2 is the same at every point. -/
theorem index2 : ∀ t : Fin cfg0.N, win0_2.index t = ![0, 0] := by decide +kernel
/-- The block of window 3 is the same at every point. -/
theorem index3 : ∀ t : Fin cfg0.N, win0_3.index t = ![0, 0] := by decide +kernel
/-- The block of window 4 is the same at every point. -/
theorem index4 : ∀ t : Fin cfg0.N, win0_4.index t = ![0, 0, 0] := by decide +kernel
/-- The block of window 5 is the same at every point. -/
theorem index5 : ∀ t : Fin cfg0.N, win0_5.index t = ![0, 0, 0] := by decide +kernel
/-- The block of window 6 is the same at every point. -/
theorem index6 : ∀ t : Fin cfg0.N, win0_6.index t = ![0, 0] := by decide +kernel
/-- The block of window 7 at a point is the point's own block of rows. -/
theorem index7 : ∀ t : Fin cfg0.N, win0_7.index t = ![(t : ℕ), 0] := by decide +kernel
/-- The block of window 8 at a point is the point's own block of rows. -/
theorem index8 : ∀ t : Fin cfg0.N, win0_8.index t = ![(t : ℕ), 0] := by decide +kernel

/-- The weights' block is the whole array. -/
theorem blk2 (k : Fin 1024) (j : Fin 6144) : iblk0 (V1 m ρ) c 2 t (ix2 k j) = m ((c : Thread nD τ).loc main_arg2) (ix2 k j) := by
  blk_ext! [iblk0, V1, W1, W0, s₀, index2 t]
/-- The output weights' block is the whole array. -/
theorem blk6 (j : Fin 2048) (n : Fin 1024) : iblk0 (V1 m ρ) c 6 t (ix2 j n) = m ((c : Thread nD τ).loc main_arg6) (ix2 j n) := by
  blk_ext! [iblk0, V1, W1, W0, s₀, index6 t]
/-- The gain's block is the gain, as a row. -/
theorem blk1 (k : Fin 1024) : iblk0 (V1 m ρ) c 1 t (ix2 0 k) = m ((c : Thread nD τ).loc main_arg1) (ix1 k) := by
  blk_ext! [iblk0, V1, W1, W0, s₀, index1 t]
/-- The value gain's block is that gain, as a row. -/
theorem blk3 (k : Fin 2048) : iblk0 (V1 m ρ) c 3 t (ix2 0 k) = m ((c : Thread nD τ).loc main_arg3) (ix1 k) := by
  blk_ext! [iblk0, V1, W1, W0, s₀, index3 t]
/-- The spatial weights' block repeats the first 8 × 8 entries of each plane. -/
theorem blk4 (g : Fin 16) (r s : Fin 128) : iblk0 (V1 m ρ) c 4 t (ix3 g r s) = m ((c : Thread nD τ).loc main_arg4)
    (ix3 g ⟨(r : ℕ) % 8, by omega⟩ ⟨(s : ℕ) % 8, by omega⟩) := by
  blk_ext! [iblk0, V1, W1, W0, s₀, index4 t]
/-- The bias block repeats the first 8 biases, and each along its last axis. -/
theorem blk5 (g : Fin 16) (r s : Fin 128) : iblk0 (V1 m ρ) c 5 t (ix3 g r s) = m ((c : Thread nD τ).loc main_arg5) (ix2 g ⟨(r : ℕ) % 8, by omega⟩) := by
  blk_ext! [iblk0, V1, W1, W0, s₀, index5 t]
/-- Row `r` of a point's block of rows is row `256 t + r` of the flattened rows. -/
theorem blk0 (r : Fin 256) (k : Fin 1024) : iblk0 (V1 m ρ) c 0 t (ix2 r k) = m ((c : Thread nD τ).loc main_arg0)
    (ix3 ⟨(256 * (t : ℕ) + r) / 8, by have : (t : ℕ) < 4 := t.isLt; omega⟩ ⟨(256 * (t : ℕ) + r) % 8, by omega⟩ k) := by
  blk_ext! [iblk0, V1, W1, W0, s₀, index0 t]

/-- What the first result array holds, from the arguments: place `(i, n)` is row `i % 8` of sample `i / 8`, in its chunk of 16 samples. -/
def YA (X : S128x8x1024.Idx → EReal) (g : S1024.Idx → EReal) (w : S1024x6144.Idx → EReal) (vg : S2048.Idx → EReal) (W : S16x128x128.Idx → EReal)
    (B : S16x128.Idx → EReal) (wo : S2048x1024.Idx → EReal) (i : S1024x1024.Idx) : EReal :=
  Gmlp.yrow Gmlp.recent
    (fun s k => X (ix3 ⟨(128 * ((i 0 : ℕ) / 128) + s) / 8, by have : (i 0 : ℕ) < 1024 := (i 0).isLt; omega⟩ ⟨(128 * ((i 0 : ℕ) / 128) + s) % 8, by omega⟩ k))
    (fun k => g (ix1 k)) (fun k j => w (ix2 k j)) (fun j => vg (ix1 j))
    (fun g t s => W (ix3 g ⟨(t : ℕ) % 8, by omega⟩ ⟨(s : ℕ) % 8, by omega⟩)) (fun g t _ => B (ix2 g ⟨(t : ℕ) % 8, by omega⟩))
    (fun j n => wo (ix2 j n)) ⟨(i 0 : ℕ) % 128, by omega⟩ (i 1)

/-- One place of a point's first output block is the array's place it is written to. -/
theorem block_row (r : Fin 256) (n : Fin 1024) (ht : (t : ℕ) < 4) :
    YB (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (ix2 r n) =
      YA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 ⟨256 * (t : ℕ) + r, by omega⟩ n) := by
  have hX : (fun s : Fin 128 => rowB (iblk0 (V1 m ρ) c 0 t) ⟨128 * ((r : ℕ) / 128) + s, by omega⟩) = fun (s : Fin 128) (k : Fin 1024) => m ((c : Thread nD τ).loc main_arg0)
      (ix3 ⟨(128 * ((256 * (t : ℕ) + r) / 128) + s) / 8, by omega⟩ ⟨(128 * ((256 * (t : ℕ) + r) / 128) + s) % 8, by omega⟩ k) := by
    funext s k
    have e1 : 256 * (t : ℕ) + (128 * ((r : ℕ) / 128) + s) = 128 * ((256 * (t : ℕ) + r) / 128) + s := by omega
    exact (blk0 m ρ c t _ k).trans (by simp only [e1])
  have hT : (⟨(r : ℕ) % 128, by omega⟩ : Fin 128) = ⟨(256 * (t : ℕ) + r) % 128, by omega⟩ := Fin.ext (by show (r : ℕ) % 128 = (256 * (t : ℕ) + r) % 128; omega)
  show Gmlp.yrow Gmlp.recent (fun s : Fin 128 => rowB (iblk0 (V1 m ρ) c 0 t) ⟨128 * ((r : ℕ) / 128) + s, by omega⟩) (fun k => iblk0 (V1 m ρ) c 1 t (ix2 0 k))
    (fun k j => iblk0 (V1 m ρ) c 2 t (ix2 k j)) (fun j => iblk0 (V1 m ρ) c 3 t (ix2 0 j)) (fun g t' s => iblk0 (V1 m ρ) c 4 t (ix3 g t' s))
    (fun g t' d => iblk0 (V1 m ρ) c 5 t (ix3 g t' d)) (fun j n => iblk0 (V1 m ρ) c 6 t (ix2 j n)) ⟨(r : ℕ) % 128, by omega⟩ n = _
  rw [hX, hT]
  simp only [blk1, blk2, blk3, blk4, blk5, blk6]
  rfl

/-- The first result array after the run. -/
theorem arr_eq : (dat0 (V1 m ρ) c).arrAt 7 cfg0.N = YA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dat0 (V1 m ρ) c).arrAt_eq_of_covers 7 _ (by decide +kernel) fun t hf y => ?_
  obtain ⟨r, n, rfl⟩ : ∃ (r : Fin 256) (n : Fin 1024), y = ix2 r n := ⟨y 0, y 1, eq_ix2 _⟩
  have ht : (t : ℕ) < 4 := lt_of_lt_of_eq t.isLt (by decide)
  have e : ((cfg0.win 7).blk t).view.emb (ix2 r n) = ix2 (n0 := 1024) (n1 := 1024) ⟨256 * (t : ℕ) + r, by omega⟩ n := by
    blk_ext [index7 t]
  have ex : (cfg0.win 7).xinj (cfg0.grid.coords t) (ix2 r n) = ix2 (n0 := 256) (n1 := 1024) r n := rfl
  rw [e, after0_7, outs_eq, ex, ← block_row m ρ c t r n ht]
  exact cast_eq _ _

end Cert.Kernel12Ideal.Block

end
-- ==== Proof.S12Proj.lean ====
module

public import proofs.«01_k».proof.Proof.Slab
public import proofs.«01_k».proof.Proof.S12Arr
public import Idealize.ShloMosaic.Lib.IdealHost

@[expose] public section

set_option maxRecDepth 16384

noncomputable section

namespace Cert.Kernel12Ideal.Proj

open Cert.Kernel12Ideal Cert.Kernel12Ideal.Gen Idealize.ShloMosaic Idealize.ShloMosaic.TcCoe Idealize.SL.Sem

/-! The two joined calls: what a grid point of the second leaves in its block, the arrays it finds, and the values' array it leaves. -/

/-- The normed rows of a point against column `j` of the call's columns of the weights. -/
def LB (x0 : Vec Ideal S512x1024 .f32) (x1 : Vec Ideal S1x1024 .f32) (x2 : Vec Ideal S1024x1024 .bf16) (r : Fin 512) (j : Fin 1024) : EReal :=
  Slab.lin (fun k => x0 (ix2 r k)) (fun k => x1 (ix2 0 k)) (fun k j => x2 (ix2 k j)) j

/-- The values of a point. -/
def OB (x0 : Vec Ideal S512x1024 .f32) (x1 : Vec Ideal S1x1024 .f32) (x2 : Vec Ideal S1024x1024 .bf16) (y : S512x1024.Idx) : EReal := LB x0 x1 x2 (y 0) (y 1)

/-- What the body leaves in the values' block. -/
theorem out_eq (x0 : Vec Ideal S512x1024 .f32) (x1 : Vec Ideal S1x1024 .f32) (x2 : Vec Ideal S1024x1024 .bf16) : out1_3 (F := Ideal) x0 x1 x2 = OB x0 x1 x2 := by
  funext y
  unfold out1_3
  refine View.canon_apply_of_pieces _ _ (View.PiecesOf.mem ?_) y (cover1_3 (F := Ideal) _ _ y)
  refine ⟨Slab.cols _ _ 512 inb_S512x1024_S512x512_0_512 (by omega) fun r j => ?_,
    Slab.cols _ _ 0 inb_S512x1024_S512x512_0_0 (by omega) fun r j => ?_, trivial⟩
  all_goals
    unfold_payloads
    pointwise
    simp only [OB, LB, Slab.lin, Gmlp.hrow]
    try simp only [ix2_0, ix2_1, Fin.val_zero, Fin.coe_ofNat_eq_mod, Nat.zero_mod, Nat.mul_zero, ← Nat.add_assoc, Nat.reduceAdd, Nat.reduceMul, Nat.zero_add]
    try rfl

variable (m : (ℓ : Loc nD τ sig) → Buf (Elt Ideal) ℓ) (ρ : Dev nD → PrngReg) (c : Dev nD) (t : Fin cfg1.N)

/-- The block of window 0 at a point. -/
theorem index0 : ∀ t : Fin cfg1.N, win1_0.index t = ![(t : ℕ), 0] := by decide +kernel
/-- The block of window 1 at a point. -/
theorem index1 : ∀ t : Fin cfg1.N, win1_1.index t = ![0, 0] := by decide +kernel
/-- The block of window 2 at a point. -/
theorem index2 : ∀ t : Fin cfg1.N, win1_2.index t = ![0, 0] := by decide +kernel
/-- The block of window 3 at a point. -/
theorem index3 : ∀ t : Fin cfg1.N, win1_3.index t = ![(t : ℕ), 0] := by decide +kernel

/-- The gain as a row, from any contents before it is made. -/
theorem host_gain (W : Valuation τ sig (Elt Ideal)) : StableHlo.after (List.flatten [hostOps1]) W (Proc.devRef .tc main_v17) = shapeCast S1x1024 (W (Proc.devRef .tc main_arg7)) shapeCasts_S1024_S1x1024 := by
  simp only [hostOps1, List.flatten_cons, List.flatten_nil, List.append_nil, List.cons_append, List.nil_append]
  after_results
  rfl
/-- The call's columns of the weights, rounded. -/
theorem host_weights (W : Valuation τ sig (Elt Ideal)) : StableHlo.after (List.flatten [hostOps1]) W (Proc.devRef .tc main_v18) =
    truncf (F := Ideal) .bf16 (φ := .f32) (extractStridedSlice S1024x1024 ![0, 2048] (W (Proc.devRef .tc main_arg8)) slices_S1024x4096_S1024x1024_0_2048) bitsLt_bf16_f32 := by
  simp only [hostOps1, List.flatten_cons, List.flatten_nil, List.append_nil, List.cons_append, List.nil_append]
  after_results
/-- What the second call finds is what its host operations leave, from the first call's exit. -/
theorem found (b : Ref sig .tc) : V3 m ρ c b = StableHlo.after (List.flatten [hostOps1]) (W2 m ρ c) (Proc.devRef .tc b) := by
  simp only [V3, W3, hostOps1, List.flatten_cons, List.flatten_nil, List.append_nil, List.cons_append, List.nil_append, StableHlo.after]
/-- The first call's result array, from the arguments. -/
def yA : S1024x1024.Idx → EReal := Block.YA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- The second call's rows are the first call's result. -/
theorem found_rows : V3 m ρ c main_v15_0 = yA m c :=
  (W3_of m ρ c main_v15_0 (by decide)).trans <| (W2_arr m ρ c 7).trans (Block.arr_eq m ρ c)
/-- An argument array at the first call's exit. -/
theorem W2_arg (a : Ref sig .tc) (h : a ∈ argRefs) : W2 m ρ c (Proc.devRef .tc a) = m ((c : Thread nD τ).loc a) := W2_args m ρ c a h
/-- Row `r` of a point's block of rows is row `512 t + r` of the rows. -/
theorem blk0 (r : Fin 512) (k : Fin 1024) (ht : (t : ℕ) < 2) : iblk1 (V3 m ρ) c 0 t (ix2 r k) = yA m c (ix2 ⟨512 * (t : ℕ) + r, by omega⟩ k) := by
  have e : (win1_0.blk t).view.emb (ix2 r k) = ix2 (n0 := 1024) (n1 := 1024) ⟨512 * (t : ℕ) + r, by omega⟩ k := by blk_ext [index0 t]
  show V3 m ρ c main_v15_0 ((win1_0.blk t).view.emb (ix2 r k)) = _
  rw [e, found_rows]
/-- The gain's block is the gain, as a row. -/
theorem blk1 (k : Fin 1024) : iblk1 (V3 m ρ) c 1 t (ix2 0 k) = (m ((c : Thread nD τ).loc main_arg7)) (ix1 k) := by
  have e : (win1_1.blk t).view.emb (ix2 0 k) = ix2 (n0 := 1) (n1 := 1024) 0 k := by blk_ext [index1 t]
  show V3 m ρ c main_v17 ((win1_1.blk t).view.emb _) = _
  rw [e, found, host_gain, W2_arg m ρ c main_arg7 (by decide)]
  pointwise
/-- The weights' block is the call's columns of the input weights. -/
theorem blk2 (k j : Fin 1024) : iblk1 (V3 m ρ) c 2 t (ix2 k j) = (m ((c : Thread nD τ).loc main_arg8)) (ix2 k ⟨2048 + j, by omega⟩) := by
  have e : (win1_2.blk t).view.emb (ix2 k j) = ix2 (n0 := 1024) (n1 := 1024) k j := by blk_ext [index2 t]
  show V3 m ρ c main_v18 ((win1_2.blk t).view.emb _) = _
  rw [e, found, host_weights, W2_arg m ρ c main_arg8 (by decide)]
  pointwise
/-- The normed rows against column `j` of the input weights. -/
def linA (X : S1024x1024.Idx → EReal) (g : S1024.Idx → EReal) (w : S1024x4096.Idx → EReal) (r : Fin 1024) (j : Fin 4096) : EReal :=
  Slab.lin (fun k => X (ix2 r k)) (fun k => g (ix1 k)) (fun k j => w (ix2 k j)) j
/-- The values, as rows. -/
def PA (X : S1024x1024.Idx → EReal) (g : S1024.Idx → EReal) (w : S1024x4096.Idx → EReal) (i : S1024x1024.Idx) : EReal :=
  linA X g w (i 0) ⟨2048 + (i 1 : ℕ), by have : (i 1 : ℕ) < 1024 := (i 1).isLt; omega⟩
/-- One place of a point's output block is the array's place it is written to. -/
theorem block_row (r : Fin 512) (j : Fin 1024) (ht : (t : ℕ) < 2) : OB (iblk1 (V3 m ρ) c 0 t) (iblk1 (V3 m ρ) c 1 t) (iblk1 (V3 m ρ) c 2 t) (ix2 r j) = PA (yA m c) (m ((c : Thread nD τ).loc main_arg7)) (m ((c : Thread nD τ).loc main_arg8)) (ix2 (n0 := 1024) (n1 := 1024) ⟨512 * (t : ℕ) + r, by omega⟩ j) := by
  show LB (iblk1 (V3 m ρ) c 0 t) (iblk1 (V3 m ρ) c 1 t) (iblk1 (V3 m ρ) c 2 t) r j = _
  simp only [LB, blk0 m ρ c t _ _ ht, blk1, blk2]
  rfl

/-- The result array after the run. -/
theorem arr_eq : (dat1 (V3 m ρ) c).arrAt 3 cfg1.N = PA (yA m c) (m ((c : Thread nD τ).loc main_arg7)) (m ((c : Thread nD τ).loc main_arg8)) := by
  refine (dat1 (V3 m ρ) c).arrAt_eq_of_covers 3 _ (by decide +kernel) fun t hf y => ?_
  obtain ⟨r, j, rfl⟩ : ∃ (r : Fin 512) (j : Fin 1024), y = ix2 r j := ⟨y 0, y 1, eq_ix2 _⟩
  have ht : (t : ℕ) < 2 := lt_of_lt_of_eq t.isLt (by decide)
  have e : ((cfg1.win 3).blk t).view.emb (ix2 r j) = ix2 (n0 := 1024) (n1 := 1024) ⟨512 * (t : ℕ) + r, by omega⟩ j := by
    blk_ext [index3 t]
  have ex : (cfg1.win 3).xinj (cfg1.grid.coords t) (ix2 r j) = ix2 (n0 := 512) (n1 := 1024) r j := rfl
  rw [e, after1_3, out_eq, ex, block_row m ρ c t r j ht]
  exact cast_eq _ _

end Cert.Kernel12Ideal.Proj

end
-- ==== Proof.S12Run.lean ====
module

public import proofs.«01_k».proof.Proof.S12Proj

@[expose] public section

set_option maxRecDepth 16384

noncomputable section

namespace Cert.Kernel12Ideal.Proj

open Cert.Kernel12Ideal Cert.Kernel12Ideal.Gen Idealize.ShloMosaic Idealize.ShloMosaic.TcCoe
open Idealize.SL Idealize.SL.RA Idealize.SL.BI
open scoped Idealize.SL.BI
open Idealize.ShloMosaic.Rounds Idealize.ShloMosaic.Tactic
open Idealize.SL.BI.BIBase Idealize.SL.BI.Laws Idealize.SL.ProofMode Idealize.SL.Sem

/-! The run of the two joined calls, with its result from the arguments. -/

variable (m : (ℓ : Loc nD τ sig) → Buf (Elt Ideal) ℓ) (ρ : Dev nD → PrngReg)

set_option backward.isDefEq.respectTransparency.types false in
/-- The two joined calls run, leave the values of the first call's result in the result array, and their arguments as they were. -/
theorem run : θ_run (defs (F := Ideal)) (onTc (τ := τ) (main (F := Ideal))) ⟨m, fun _ => 0, ρ⟩ (fun r => ∀ c : Dev nD,
      r.2.mem ((c.tc : Thread nD τ).loc main_v19) = PA (yA m c) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v19 (by decide))).trans ((W4_arr m ρ c 3).trans (arr_eq m ρ c)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.Kernel12Ideal.Proj

end
-- ==== Proof.S12Ref.lean ====
module

public import proofs.«01_k».proof.Proof.S12Proj
public import proofs.«01_k».proof.Proof.S12Rows

@[expose] public section

set_option maxRecDepth 16384

noncomputable section

namespace Cert.Reference12Ideal.Rows

open Cert.Reference12Ideal Cert.Reference12Ideal.Read Idealize.ShloMosaic Cert.Kernel12Ideal.Proj

/-! What the reference computes past the first layer, row by row. -/

variable (x0 : (⟨S128x8x1024, .f32⟩ : BufTy).Contents (Elt Ideal)) (x1 : (⟨S1024, .f32⟩ : BufTy).Contents (Elt Ideal))
  (x2 : (⟨S1024x6144, .f32⟩ : BufTy).Contents (Elt Ideal)) (x3 : (⟨S2048, .f32⟩ : BufTy).Contents (Elt Ideal))
  (x4 : (⟨S16x128x128, .f32⟩ : BufTy).Contents (Elt Ideal)) (x5 : (⟨S16x128, .f32⟩ : BufTy).Contents (Elt Ideal))
  (x6 : (⟨S2048x1024, .f32⟩ : BufTy).Contents (Elt Ideal)) (x7 : (⟨S1024, .f32⟩ : BufTy).Contents (Elt Ideal))
  (x8 : (⟨S1024x4096, .f32⟩ : BufTy).Contents (Elt Ideal))

/-- The first layer's result at a flattened row is what the first call's array holds. -/
theorem y_flat (r : Fin 1024) (k : Fin 1024) : val_main_v73 (F := Ideal) x0 x1 x2 x3 x4 x5 x6 (ix3 (n0 := 128) (n1 := 8) (n2 := 1024) ⟨(r : ℕ) / 8, by omega⟩ ⟨(r : ℕ) % 8, by omega⟩ k)
    = Cert.Kernel12Ideal.Block.YA x0 x1 x2 x3 x4 x5 x6 (ix2 r k) := by
  rw [y_row]
  rfl

/-- The normed rows of the first layer's result. -/
theorem norm2_row (b : Fin 128) (t : Fin 8) (k : Fin 1024) :
    val_main_v86 (F := Ideal) x0 x1 x2 x3 x4 x5 x6 x7 (ix3 b t k) = Gmlp.hrow (fun k => val_main_v73 (F := Ideal) x0 x1 x2 x3 x4 x5 x6 (ix3 b t k)) (fun k => x7 (ix1 k)) k := by
  simp only [val_main_v86_apply, val_main_v83_apply, val_main_v82_apply, val_main_v81_apply, val_main_v80_apply, val_main_v79_apply, val_main_v78_apply, val_main_v77_apply, val_main_v76_apply, val_main_v75_apply, val_main_v74_apply, val_main_cst_14_apply, val_main_cst_15_apply, val_main_cst_16_apply,
    val_main_v84_apply, val_main_v85_apply]
  have ex : ∀ i, val_main_v73 (F := Ideal) x0 x1 x2 x3 x4 x5 x6 (idx_main_v75 (idx_main_v76 (idx_main_v82 (ix3 b t k))) i) = val_main_v73 (F := Ideal) x0 x1 x2 x3 x4 x5 x6 (ix3 b t i) :=
    fun i => congrArg (val_main_v73 (F := Ideal) x0 x1 x2 x3 x4 x5 x6) (eq_ix3 _)
  have eg : x7 (idx_main_v84 (idx_main_v85 (ix3 b t k))) = x7 (ix1 k) := congrArg x7 (eq_ix1 _)
  simp only [ex, eg]
  generalize val_main_v73 (F := Ideal) x0 x1 x2 x3 x4 x5 x6 = Y
  pointwise
  rfl

/-- The projection of those rows, at a flattened row. -/
theorem proj2_row (r : Fin 1024) (j : Fin 4096) :
    val_main_v87 (F := Ideal) x0 x1 x2 x3 x4 x5 x6 x7 x8 (ix3 (n0 := 128) (n1 := 8) (n2 := 4096) ⟨(r : ℕ) / 8, by omega⟩ ⟨(r : ℕ) % 8, by omega⟩ j)
      = linA (Cert.Kernel12Ideal.Block.YA x0 x1 x2 x3 x4 x5 x6) x7 x8 r j := by
  rw [val_main_v87_apply]
  unfold linA
  refine Finset.sum_congr rfl fun k _ => congrArg₂ (· * ·) ?_ ?_
  · refine (congrArg (val_main_v86 (F := Ideal) x0 x1 x2 x3 x4 x5 x6 x7) (eq_ix3 _)).trans ((norm2_row x0 x1 x2 x3 x4 x5 x6 x7 _ _ k).trans ?_)
    exact congrArg (fun X => Gmlp.hrow X (fun k => x7 (ix1 k)) k) (funext fun k => y_flat x0 x1 x2 x3 x4 x5 x6 r k)
  · exact congrArg x8 (eq_ix2 _)

/-- The values. -/
theorem v2_row (r : Fin 1024) (j : Fin 1024) :
    val_main_v92 (F := Ideal) x0 x1 x2 x3 x4 x5 x6 x7 x8 (ix4 (n0 := 128) (n1 := 8) (n2 := 8) (n3 := 128) ⟨(r : ℕ) / 8, by omega⟩ ⟨(r : ℕ) % 8, by omega⟩ ⟨(j : ℕ) / 128, by omega⟩ ⟨(j : ℕ) % 128, by omega⟩) = PA (Cert.Kernel12Ideal.Block.YA x0 x1 x2 x3 x4 x5 x6) x7 x8 (ix2 (n0 := 1024) (n1 := 1024) r j) := by
  have hr := r.isLt
  have hj := j.isLt
  have e : idx_main_v90 (idx_main_v92 (ix4 (n0 := 128) (n1 := 8) (n2 := 8) (n3 := 128) ⟨(r : ℕ) / 8, by omega⟩ ⟨(r : ℕ) % 8, by omega⟩ ⟨(j : ℕ) / 128, by omega⟩ ⟨(j : ℕ) % 128, by omega⟩))
      = ix3 (n0 := 128) (n1 := 8) (n2 := 4096) ⟨(r : ℕ) / 8, by omega⟩ ⟨(r : ℕ) % 8, by omega⟩ ⟨2048 + j, by omega⟩ := by
    funext a
    refine Fin.ext ?_
    match a with
    | ⟨0, _⟩ => show ((((r : ℕ) / 8 * 8 + (r : ℕ) % 8) * 8 + (j : ℕ) / 128) * 128 + (j : ℕ) % 128) / 8192 = (r : ℕ) / 8; omega
    | ⟨1, _⟩ => show ((((r : ℕ) / 8 * 8 + (r : ℕ) % 8) * 8 + (j : ℕ) / 128) * 128 + (j : ℕ) % 128) / 1024 % 8 = (r : ℕ) % 8; omega
    | ⟨2, _⟩ => show 2048 + ((((r : ℕ) / 8 * 8 + (r : ℕ) % 8) * 8 + (j : ℕ) / 128) * 128 + (j : ℕ) % 128) % 1024 = 2048 + (j : ℕ); omega
  rw [val_main_v92_apply, val_main_v90_apply, e, proj2_row]
  rfl

/-- The reference's values. -/
theorem ref_eq : val_main_v93 (F := Ideal) x0 x1 x2 x3 x4 x5 x6 x7 x8 = PA (Cert.Kernel12Ideal.Block.YA x0 x1 x2 x3 x4 x5 x6) x7 x8 := by
  funext i
  obtain ⟨r, j, rfl⟩ : ∃ (r : Fin 1024) (j : Fin 1024), i = ix2 r j := ⟨i 0, i 1, eq_ix2 _⟩
  have hr := r.isLt
  have hj := j.isLt
  have e : idx_main_v93 (ix2 r j) = (ix4 (n0 := 128) (n1 := 8) (n2 := 8) (n3 := 128) ⟨(r : ℕ) / 8, by omega⟩ ⟨(r : ℕ) % 8, by omega⟩ ⟨(j : ℕ) / 128, by omega⟩ ⟨(j : ℕ) % 128, by omega⟩) := by
    funext a
    refine Fin.ext ?_
    match a with
    | ⟨0, _⟩ => show ((r : ℕ) * 1024 + (j : ℕ)) / 8192 = (r : ℕ) / 8; omega
    | ⟨1, _⟩ => show ((r : ℕ) * 1024 + (j : ℕ)) / 1024 % 8 = (r : ℕ) % 8; omega
    | ⟨2, _⟩ => show ((r : ℕ) * 1024 + (j : ℕ)) / 128 % 8 = (j : ℕ) / 128; omega
    | ⟨3, _⟩ => show ((r : ℕ) * 1024 + (j : ℕ)) % 128 = (j : ℕ) % 128; omega
  rw [val_main_v93_apply, e, v2_row]

end Cert.Reference12Ideal.Rows

end
-- ==== Proof.S13Block.lean ====
module

public import proofs.«01_k».proof.Proof.SampleBlock
public import proofs.«01_k».proof.Proof.Gen.Kernel13Ideal.Frame
public import Idealize.ShloMosaic.Lib.Pipeline.ValueKit
public import Idealize.ShloMosaic.Lib.Pipeline.ReadBack

@[expose] public section

set_option maxRecDepth 16384

noncomputable section

namespace Cert.Kernel13Ideal.Block

open Cert.Kernel13Ideal Cert.Kernel13Ideal.Gen Idealize.ShloMosaic Idealize.ShloMosaic.TcCoe Idealize.SL.Sem

/-! What one block of 256 rows computes, as functions of the block's inputs. -/

/-- Row `r` of the block of rows. -/
abbrev rowB (x0 : Vec Ideal S256x1024 .f32) (r : Fin 256) : Fin 1024 → EReal := fun k => x0 (ix2 r k)
/-- The gain of the norm, as a row. -/
abbrev gainB (x1 : Vec Ideal S1x1024 .f32) : Fin 1024 → EReal := fun k => x1 (ix2 0 k)
/-- The input weights. -/
abbrev winB (x2 : Vec Ideal S1024x6144 .bf16) : Fin 1024 → Fin 6144 → EReal := fun k j => x2 (ix2 k j)
/-- The gain of the value norm, as a row. -/
abbrev vgB (x3 : Vec Ideal S1x2048 .f32) : Fin 2048 → EReal := fun j => x3 (ix2 0 j)

/-- The first gate over the block. -/
def UB (x0 : Vec Ideal S256x1024 .f32) (x1 : Vec Ideal S1x1024 .f32) (x2 : Vec Ideal S1024x6144 .bf16) : S256x2048.Idx → Elt Ideal .f32 :=
  fun y => Gmlp.urow (rowB x0 (y 0)) (gainB x1) (winB x2) (y 1)
/-- The values over the block. -/
def VB (x0 : Vec Ideal S256x1024 .f32) (x1 : Vec Ideal S1x1024 .f32) (x2 : Vec Ideal S1024x6144 .bf16) : S256x2048.Idx → Elt Ideal .f32 :=
  fun y => Gmlp.vrow (rowB x0 (y 0)) (gainB x1) (winB x2) (y 1)
/-- The second gate over the block. -/
def ZB (x0 : Vec Ideal S256x1024 .f32) (x1 : Vec Ideal S1x1024 .f32) (x2 : Vec Ideal S1024x6144 .bf16) : S256x2048.Idx → Elt Ideal .f32 :=
  fun y => Gmlp.zrow (rowB x0 (y 0)) (gainB x1) (winB x2) (y 1)
/-- The normed values over the block. -/
def VNB (x0 : Vec Ideal S256x1024 .f32) (x1 : Vec Ideal S1x1024 .f32) (x2 : Vec Ideal S1024x6144 .bf16) (x3 : Vec Ideal S1x2048 .f32) :
    S256x2048.Idx → Elt Ideal .f32 :=
  fun y => Gmlp.vnrow (rowB x0 (y 0)) (gainB x1) (winB x2) (vgB x3) (y 1)
/-- The mixed rows over the block: row `r` is row `r % 128` of chunk `r / 128`. -/
def GB (x0 : Vec Ideal S256x1024 .f32) (x1 : Vec Ideal S1x1024 .f32) (x2 : Vec Ideal S1024x6144 .bf16) (x3 : Vec Ideal S1x2048 .f32)
    (x4 x5 : Vec Ideal S16x128x128 .f32) : S256x2048.Idx → Elt Ideal .bf16 :=
  fun y => Gmlp.grow Gmlp.recent (fun s => rowB x0 ⟨128 * ((y 0 : ℕ) / 128) + s, by have := (y 0).isLt; change (y 0 : ℕ) < 256 at this; omega⟩) (gainB x1) (winB x2) (vgB x3)
    (fun g t s => x4 (ix3 g t s)) (fun g t d => x5 (ix3 g t d)) ⟨(y 0 : ℕ) % 128, by omega⟩ (y 1)

/-- A stored slab of 512 columns whose entries are those of a whole-block function is that function at the slab's places. -/
theorem slab_of (G : S256x2048.Idx → Elt Ideal .f32) (p : FVec Ideal S256x512 .f32) (o : ℕ) (inb : ∀ a, (![0, o] : Fin 2 → ℕ) a + S256x512.size a ≤ S256x2048.size a)
    (ho : o ≤ 1536)
    (hp : ∀ (r : Fin 256) (j : Fin 512), p (ix2 r j) = G (ix2 r ⟨o + j, by omega⟩))
    (x : (Rect.unit (s := S256x2048) ![0, o] S256x512.size inb).shape.Idx) : p x = G ((Rect.unit (s := S256x2048) ![0, o] S256x512.size inb).emb x) := by
  have hx : x = ix2 (n0 := 256) (n1 := 512) (x 0) (x 1) := eq_ix2 _
  rw [hx]
  refine (hp (x 0) (x 1)).trans (congrArg G ?_)
  funext a
  match a with
  | ⟨0, _⟩ => exact Fin.ext (show ((x 0 : Fin 256) : ℕ) = 0 + 1 * ((x 0 : Fin 256) : ℕ) by omega)
  | ⟨1, _⟩ => exact Fin.ext (show o + ((x 1 : Fin 512) : ℕ) = o + 1 * ((x 1 : Fin 512) : ℕ) by omega)

variable (c : Dev nD) (arg1 : Memref sig .tc .vmem S256x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S16x128x128 .f32) (harg6 : arg6.IsWhole)
  (arg10 arg11 arg12 : Memref sig .tc .vmem S256x2048 .f32)
  (x0 : Vec Ideal S256x1024 .f32) (x1 : Vec Ideal S1x1024 .f32) (x2 : Vec Ideal S1024x6144 .bf16) (x3 : Vec Ideal S1x2048 .f32) (x4 x5 : Vec Ideal S16x128x128 .f32)

/-- The normed rows. -/
theorem norm_word : kernelRun0_A.sl.r_1 (F := Ideal) c arg1 harg1 arg2 harg2 x0 x1 = fun i => Gmlp.hrow (rowB x0 (i 0)) (gainB x1) (i 1) := by
  funext i
  simp only [kernelRun0_A.sl.r_1, View.readAt_eq_ld, Memref.IsWhole.read_unread]
  unfold_payloads
  idx_vars i
  pointwise
  rfl

/-- The first scratch holds the first gate. -/
theorem HS0_4_eq : View.canon (kernelRun0_A.sl.HS0_4 (F := Ideal) c arg1 harg1 arg2 harg2 arg3 harg3 x0 x1 x2) = UB x0 x1 x2 := by
  have hc := View.cover_of_tiledL (kernelRun0_A.sl.HS0_4 (F := Ideal) c arg1 harg1 arg2 harg2 arg3 harg3 x0 x1 x2) ![256, 512] (by unfold kernelRun0_A.sl.HS0_4; rfl)
  funext y
  refine View.canon_apply_of_pieces _ _ (View.PiecesOf.mem ?_) y (hc y)
  unfold kernelRun0_A.sl.HS0_4
  refine ⟨slab_of _ _ 1536 inb_S256x2048_S256x512_0_1536 (by omega) fun r j => ?_, slab_of _ _ 1024 inb_S256x2048_S256x512_0_1024 (by omega) fun r j => ?_, slab_of _ _ 512 inb_S256x2048_S256x512_0_512 (by omega) fun r j => ?_,
    slab_of _ _ 0 inb_S256x2048_S256x512_0_0 (by omega) fun r j => ?_, trivial⟩
  all_goals
    simp only [kernelRun0_A.sl.r_10, kernelRun0_A.sl.r_11, kernelRun0_A.sl.r_12, kernelRun0_A.sl.r_13, kernelRun0_A.sl.r_14, kernelRun0_A.sl.r_15, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.cst_33, kernelRun0_A.sl.cst_66, norm_word, View.readAt_eq_ld, Memref.IsWhole.read_unread]
    unfold_payloads
    pointwise
    simp only [UB, Gmlp.urow, Gmlp.prow, Gmlp.gelu, Gmlp.silu, Gmlp.hrow]
    try simp only [ix2_0, ix2_1, ← Nat.add_assoc, Nat.reduceAdd]
    try rfl

/-- The second scratch holds the values. -/
theorem HS1_4_eq : View.canon (kernelRun0_A.sl.HS1_4 (F := Ideal) c arg1 harg1 arg2 harg2 arg3 harg3 x0 x1 x2) = VB x0 x1 x2 := by
  have hc := View.cover_of_tiledL (kernelRun0_A.sl.HS1_4 (F := Ideal) c arg1 harg1 arg2 harg2 arg3 harg3 x0 x1 x2) ![256, 512] (by unfold kernelRun0_A.sl.HS1_4; rfl)
  funext y
  refine View.canon_apply_of_pieces _ _ (View.PiecesOf.mem ?_) y (hc y)
  unfold kernelRun0_A.sl.HS1_4
  refine ⟨slab_of _ _ 1536 inb_S256x2048_S256x512_0_1536 (by omega) fun r j => ?_, slab_of _ _ 1024 inb_S256x2048_S256x512_0_1024 (by omega) fun r j => ?_, slab_of _ _ 512 inb_S256x2048_S256x512_0_512 (by omega) fun r j => ?_,
    slab_of _ _ 0 inb_S256x2048_S256x512_0_0 (by omega) fun r j => ?_, trivial⟩
  all_goals
    simp only [kernelRun0_A.sl.r_10, kernelRun0_A.sl.r_11, kernelRun0_A.sl.r_12, kernelRun0_A.sl.r_13, kernelRun0_A.sl.r_14, kernelRun0_A.sl.r_15, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.cst_33, kernelRun0_A.sl.cst_66, norm_word, View.readAt_eq_ld, Memref.IsWhole.read_unread]
    unfold_payloads
    pointwise
    simp only [VB, Gmlp.vrow, Gmlp.prow, Gmlp.gelu, Gmlp.silu, Gmlp.hrow]
    try simp only [ix2_0, ix2_1, ← Nat.add_assoc, Nat.reduceAdd]
    try rfl

/-- The third scratch holds the second gate. -/
theorem HS2_4_eq : View.canon (kernelRun0_A.sl.HS2_4 (F := Ideal) c arg1 harg1 arg2 harg2 arg3 harg3 x0 x1 x2) = ZB x0 x1 x2 := by
  have hc := View.cover_of_tiledL (kernelRun0_A.sl.HS2_4 (F := Ideal) c arg1 harg1 arg2 harg2 arg3 harg3 x0 x1 x2) ![256, 512] (by unfold kernelRun0_A.sl.HS2_4; rfl)
  funext y
  refine View.canon_apply_of_pieces _ _ (View.PiecesOf.mem ?_) y (hc y)
  unfold kernelRun0_A.sl.HS2_4
  refine ⟨slab_of _ _ 1536 inb_S256x2048_S256x512_0_1536 (by omega) fun r j => ?_, slab_of _ _ 1024 inb_S256x2048_S256x512_0_1024 (by omega) fun r j => ?_, slab_of _ _ 512 inb_S256x2048_S256x512_0_512 (by omega) fun r j => ?_,
    slab_of _ _ 0 inb_S256x2048_S256x512_0_0 (by omega) fun r j => ?_, trivial⟩
  all_goals
    simp only [kernelRun0_A.sl.r_10, kernelRun0_A.sl.r_11, kernelRun0_A.sl.r_12, kernelRun0_A.sl.r_13, kernelRun0_A.sl.r_14, kernelRun0_A.sl.r_15, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.cst_33, kernelRun0_A.sl.cst_66, norm_word, View.readAt_eq_ld, Memref.IsWhole.read_unread]
    unfold_payloads
    pointwise
    simp only [ZB, Gmlp.zrow, Gmlp.prow, Gmlp.gelu, Gmlp.silu, Gmlp.hrow]
    try simp only [ix2_0, ix2_1, ← Nat.add_assoc, Nat.reduceAdd]
    try rfl

/-- The sum of squares that the kernel accumulates slab by slab is the whole row's. -/
theorem ssq_word : kernelRun0_A.sl.r_13 (F := Ideal) c arg1 harg1 arg2 harg2 arg3 harg3 x0 x1 x2 = fun i => Gmlp.ssq (rowB x0 (i 0)) (gainB x1) (winB x2) := by
  funext i
  simp only [kernelRun0_A.sl.r_10, kernelRun0_A.sl.r_11, kernelRun0_A.sl.r_12, kernelRun0_A.sl.r_13, kernelRun0_A.sl.r_14, kernelRun0_A.sl.r_15, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.cst_33, kernelRun0_A.sl.cst_66, norm_word, View.readAt_eq_ld, Memref.IsWhole.read_unread]
  unfold_payloads
  idx_vars i
  pointwise
  refine Eq.trans ?_ (Gmlp.sum_quarters _)
  simp only [Gmlp.vrow, Gmlp.prow, Gmlp.gelu, Gmlp.hrow, ← Nat.add_assoc, Nat.reduceAdd]
  try rfl

/-- After the norm the second scratch holds the normed values. -/
theorem HS1_5_eq : View.canon (kernelRun0_A.sl.HS1_5 (F := Ideal) c arg1 harg1 arg2 harg2 arg3 harg3 arg4 harg4 arg11 x0 x1 x2 x3) = VNB x0 x1 x2 x3 := by
  unfold kernelRun0_A.sl.HS1_5 kernelRun0_A.sl.v242
  rw [View.canon_cons_unit_lit _ _ _ (by decide), View.readCov_eq_canon', HS1_4_eq, ssq_word]
  funext y
  simp only [View.readAt_eq_ld, Memref.IsWhole.read_unread]
  unfold_payloads
  idx_vars y
  pointwise
  rfl

/-- A stored tile of 128 × 128 entries, given entry by entry over the whole-block gates and normed values, is the mixed block at the tile's
    places: rows of chunk `rr`, columns of group `g`. -/
theorem tile_of (x0 : Vec Ideal S256x1024 .f32) (x1 : Vec Ideal S1x1024 .f32) (x2 : Vec Ideal S1024x6144 .bf16) (x3 : Vec Ideal S1x2048 .f32)
    (x4 x5 : Vec Ideal S16x128x128 .f32) (p : FVec Ideal S128x128 .bf16) (o q : ℕ)
    (inb : ∀ a, (![o, q] : Fin 2 → ℕ) a + S128x128.size a ≤ S256x2048.size a) (rr g : ℕ) (hr : o = 128 * rr) (hg : q = 128 * g) (hr2 : rr < 2) (hg16 : g < 16)
    (hp : ∀ t d : Fin 128, p (ix2 t d) = UB x0 x1 x2 (ix2 ⟨o + t, by omega⟩ ⟨q + d, by omega⟩) *
      ((∑ s : Fin 128, if Gmlp.recent t s then x4 (ix3 ⟨g, hg16⟩ t s) * VNB x0 x1 x2 x3 (ix2 ⟨o + s, by omega⟩ ⟨q + d, by omega⟩) else 0)
        + x5 (ix3 ⟨g, hg16⟩ t d)) * ZB x0 x1 x2 (ix2 ⟨o + t, by omega⟩ ⟨q + d, by omega⟩))
    (x : (Rect.unit (s := S256x2048) ![o, q] S128x128.size inb).shape.Idx) :
    p x = GB x0 x1 x2 x3 x4 x5 ((Rect.unit (s := S256x2048) ![o, q] S128x128.size inb).emb x) := by
  have key : ∀ t d : Fin 128, p (ix2 t d) = GB x0 x1 x2 x3 x4 x5 (ix2 ⟨o + t, by omega⟩ ⟨q + d, by omega⟩) := fun t d => by
    have e1 : (o + (t : ℕ)) % 128 = t := by omega
    have e2 : 128 * ((o + (t : ℕ)) / 128) = o := by omega
    have e3 : (q + (d : ℕ)) / 128 = g := by omega
    have e4 : (q + (d : ℕ)) % 128 = d := by omega
    rw [hp]
    simp only [GB, Gmlp.grow, UB, VNB, ZB, ix2_0, ix2_1, e1, e2, e3, e4, Fin.eta]
  have hx : x = ix2 (n0 := 128) (n1 := 128) (x 0) (x 1) := eq_ix2 _
  refine (congrArg p hx).trans ((key (x 0) (x 1)).trans (congrArg (GB x0 x1 x2 x3 x4 x5) ?_))
  funext a
  match a with
  | ⟨0, _⟩ => exact Fin.ext (show o + ((x 0 : Fin 128) : ℕ) = o + 1 * ((x 0 : Fin 128) : ℕ) by omega)
  | ⟨1, _⟩ => exact Fin.ext (show q + ((x 1 : Fin 128) : ℕ) = q + 1 * ((x 1 : Fin 128) : ℕ) by omega)

/-- The last scratch holds the mixed rows. -/
theorem HS3_32_eq : View.canon (kernelRun0_A.sl.HS3_32 (F := Ideal) c arg1 harg1 arg2 harg2 arg3 harg3 arg4 harg4 arg5 harg5 arg6 harg6 arg10 arg11 arg12 x0 x1 x2 x3 x4 x5) = GB x0 x1 x2 x3 x4 x5 := by
  have hc := View.cover_of_tiledL (kernelRun0_A.sl.HS3_32 (F := Ideal) c arg1 harg1 arg2 harg2 arg3 harg3 arg4 harg4 arg5 harg5 arg6 harg6 arg10 arg11 arg12 x0 x1 x2 x3 x4 x5) ![128, 128] (by unfold kernelRun0_A.sl.HS3_32; rfl)
  funext y
  refine View.canon_apply_of_pieces _ _ (View.PiecesOf.mem ?_) y (hc y)
  unfold kernelRun0_A.sl.HS3_32
  refine ⟨tile_of x0 x1 x2 x3 x4 x5 _ 128 1920 inb_S256x2048_S128x128_128_1920 1 15 rfl rfl (by omega) (by omega) fun t d => ?_,
    tile_of x0 x1 x2 x3 x4 x5 _ 0 1920 inb_S256x2048_S128x128_0_1920 0 15 rfl rfl (by omega) (by omega) fun t d => ?_,
    tile_of x0 x1 x2 x3 x4 x5 _ 128 1792 inb_S256x2048_S128x128_128_1792 1 14 rfl rfl (by omega) (by omega) fun t d => ?_,
    tile_of x0 x1 x2 x3 x4 x5 _ 0 1792 inb_S256x2048_S128x128_0_1792 0 14 rfl rfl (by omega) (by omega) fun t d => ?_,
    tile_of x0 x1 x2 x3 x4 x5 _ 128 1664 inb_S256x2048_S128x128_128_1664 1 13 rfl rfl (by omega) (by omega) fun t d => ?_,
    tile_of x0 x1 x2 x3 x4 x5 _ 0 1664 inb_S256x2048_S128x128_0_1664 0 13 rfl rfl (by omega) (by omega) fun t d => ?_,
    tile_of x0 x1 x2 x3 x4 x5 _ 128 1536 inb_S256x2048_S128x128_128_1536 1 12 rfl rfl (by omega) (by omega) fun t d => ?_,
    tile_of x0 x1 x2 x3 x4 x5 _ 0 1536 inb_S256x2048_S128x128_0_1536 0 12 rfl rfl (by omega) (by omega) fun t d => ?_,
    tile_of x0 x1 x2 x3 x4 x5 _ 128 1408 inb_S256x2048_S128x128_128_1408 1 11 rfl rfl (by omega) (by omega) fun t d => ?_,
    tile_of x0 x1 x2 x3 x4 x5 _ 0 1408 inb_S256x2048_S128x128_0_1408 0 11 rfl rfl (by omega) (by omega) fun t d => ?_,
    tile_of x0 x1 x2 x3 x4 x5 _ 128 1280 inb_S256x2048_S128x128_128_1280 1 10 rfl rfl (by omega) (by omega) fun t d => ?_,
    tile_of x0 x1 x2 x3 x4 x5 _ 0 1280 inb_S256x2048_S128x128_0_1280 0 10 rfl rfl (by omega) (by omega) fun t d => ?_,
    tile_of x0 x1 x2 x3 x4 x5 _ 128 1152 inb_S256x2048_S128x128_128_1152 1 9 rfl rfl (by omega) (by omega) fun t d => ?_,
    tile_of x0 x1 x2 x3 x4 x5 _ 0 1152 inb_S256x2048_S128x128_0_1152 0 9 rfl rfl (by omega) (by omega) fun t d => ?_,
    tile_of x0 x1 x2 x3 x4 x5 _ 128 1024 inb_S256x2048_S128x128_128_1024 1 8 rfl rfl (by omega) (by omega) fun t d => ?_,
    tile_of x0 x1 x2 x3 x4 x5 _ 0 1024 inb_S256x2048_S128x128_0_1024 0 8 rfl rfl (by omega) (by omega) fun t d => ?_,
    tile_of x0 x1 x2 x3 x4 x5 _ 128 896 inb_S256x2048_S128x128_128_896 1 7 rfl rfl (by omega) (by omega) fun t d => ?_,
    tile_of x0 x1 x2 x3 x4 x5 _ 0 896 inb_S256x2048_S128x128_0_896 0 7 rfl rfl (by omega) (by omega) fun t d => ?_,
    tile_of x0 x1 x2 x3 x4 x5 _ 128 768 inb_S256x2048_S128x128_128_768 1 6 rfl rfl (by omega) (by omega) fun t d => ?_,
    tile_of x0 x1 x2 x3 x4 x5 _ 0 768 inb_S256x2048_S128x128_0_768 0 6 rfl rfl (by omega) (by omega) fun t d => ?_,
    tile_of x0 x1 x2 x3 x4 x5 _ 128 640 inb_S256x2048_S128x128_128_640 1 5 rfl rfl (by omega) (by omega) fun t d => ?_,
    tile_of x0 x1 x2 x3 x4 x5 _ 0 640 inb_S256x2048_S128x128_0_640 0 5 rfl rfl (by omega) (by omega) fun t d => ?_,
    tile_of x0 x1 x2 x3 x4 x5 _ 128 512 inb_S256x2048_S128x128_128_512 1 4 rfl rfl (by omega) (by omega) fun t d => ?_,
    tile_of x0 x1 x2 x3 x4 x5 _ 0 512 inb_S256x2048_S128x128_0_512 0 4 rfl rfl (by omega) (by omega) fun t d => ?_,
    tile_of x0 x1 x2 x3 x4 x5 _ 128 384 inb_S256x2048_S128x128_128_384 1 3 rfl rfl (by omega) (by omega) fun t d => ?_,
    tile_of x0 x1 x2 x3 x4 x5 _ 0 384 inb_S256x2048_S128x128_0_384 0 3 rfl rfl (by omega) (by omega) fun t d => ?_,
    tile_of x0 x1 x2 x3 x4 x5 _ 128 256 inb_S256x2048_S128x128_128_256 1 2 rfl rfl (by omega) (by omega) fun t d => ?_,
    tile_of x0 x1 x2 x3 x4 x5 _ 0 256 inb_S256x2048_S128x128_0_256 0 2 rfl rfl (by omega) (by omega) fun t d => ?_,
    tile_of x0 x1 x2 x3 x4 x5 _ 128 128 inb_S256x2048_S128x128_128_128 1 1 rfl rfl (by omega) (by omega) fun t d => ?_,
    tile_of x0 x1 x2 x3 x4 x5 _ 0 128 inb_S256x2048_S128x128_0_128 0 1 rfl rfl (by omega) (by omega) fun t d => ?_,
    tile_of x0 x1 x2 x3 x4 x5 _ 128 0 inb_S256x2048_S128x128_128_0 1 0 rfl rfl (by omega) (by omega) fun t d => ?_,
    tile_of x0 x1 x2 x3 x4 x5 _ 0 0 inb_S256x2048_S128x128_0_0 0 0 rfl rfl (by omega) (by omega) fun t d => ?_, trivial⟩
  all_goals
    simp only [kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.v274, kernelRun0_A.sl.v278, kernelRun0_A.sl.v280, kernelRun0_A.sl.v286, kernelRun0_A.sl.v290, kernelRun0_A.sl.v292, kernelRun0_A.sl.v305, kernelRun0_A.sl.v309, kernelRun0_A.sl.v311, kernelRun0_A.sl.v317, kernelRun0_A.sl.v321, kernelRun0_A.sl.v323, kernelRun0_A.sl.v336, kernelRun0_A.sl.v340, kernelRun0_A.sl.v342, kernelRun0_A.sl.v348, kernelRun0_A.sl.v352, kernelRun0_A.sl.v354, kernelRun0_A.sl.v367, kernelRun0_A.sl.v371, kernelRun0_A.sl.v373, kernelRun0_A.sl.v379, kernelRun0_A.sl.v383, kernelRun0_A.sl.v385, kernelRun0_A.sl.v398, kernelRun0_A.sl.v402, kernelRun0_A.sl.v404, kernelRun0_A.sl.v410, kernelRun0_A.sl.v414, kernelRun0_A.sl.v416, kernelRun0_A.sl.v429, kernelRun0_A.sl.v433, kernelRun0_A.sl.v435, kernelRun0_A.sl.v441, kernelRun0_A.sl.v445, kernelRun0_A.sl.v447, kernelRun0_A.sl.v460, kernelRun0_A.sl.v464, kernelRun0_A.sl.v466, kernelRun0_A.sl.v472, kernelRun0_A.sl.v476, kernelRun0_A.sl.v478, kernelRun0_A.sl.v491, kernelRun0_A.sl.v495, kernelRun0_A.sl.v497, kernelRun0_A.sl.v503, kernelRun0_A.sl.v507, kernelRun0_A.sl.v509, kernelRun0_A.sl.v522, kernelRun0_A.sl.v526, kernelRun0_A.sl.v528, kernelRun0_A.sl.v534, kernelRun0_A.sl.v538, kernelRun0_A.sl.v540, kernelRun0_A.sl.v553, kernelRun0_A.sl.v557, kernelRun0_A.sl.v559, kernelRun0_A.sl.v565, kernelRun0_A.sl.v569, kernelRun0_A.sl.v571, kernelRun0_A.sl.v584, kernelRun0_A.sl.v588, kernelRun0_A.sl.v590, kernelRun0_A.sl.v596, kernelRun0_A.sl.v600, kernelRun0_A.sl.v602, kernelRun0_A.sl.v615, kernelRun0_A.sl.v619, kernelRun0_A.sl.v621, kernelRun0_A.sl.v627, kernelRun0_A.sl.v631, kernelRun0_A.sl.v633, kernelRun0_A.sl.v646, kernelRun0_A.sl.v650, kernelRun0_A.sl.v652, kernelRun0_A.sl.v658, kernelRun0_A.sl.v662, kernelRun0_A.sl.v664, kernelRun0_A.sl.v677, kernelRun0_A.sl.v681, kernelRun0_A.sl.v683, kernelRun0_A.sl.v689, kernelRun0_A.sl.v693, kernelRun0_A.sl.v695, kernelRun0_A.sl.v708, kernelRun0_A.sl.v712, kernelRun0_A.sl.v714, kernelRun0_A.sl.v720, kernelRun0_A.sl.v724, kernelRun0_A.sl.v726, kernelRun0_A.sl.v739, kernelRun0_A.sl.v743, kernelRun0_A.sl.v745, kernelRun0_A.sl.v751, kernelRun0_A.sl.v755, kernelRun0_A.sl.v757, View.readCov_eq_canon', HS0_4_eq, HS1_5_eq, HS2_4_eq, View.readAt_eq_ld, Memref.IsWhole.read_unread]
    unfold_payloads
    pointwise
    simp only [Gmlp.select_recent, Nat.zero_add, Fin.eta]
    try rfl

end Cert.Kernel13Ideal.Block

end
-- ==== Proof.S13Out.lean ====
module

public import proofs.«01_k».proof.Proof.S13Block
public import proofs.«01_k».proof.Proof.Gen.Kernel13Ideal.Frame
public import Idealize.ShloMosaic.Lib.Pipeline.ValueKit
public import Idealize.ShloMosaic.Lib.Pipeline.ReadBack

@[expose] public section

set_option maxRecDepth 16384

noncomputable section

namespace Cert.Kernel13Ideal.Block

open Cert.Kernel13Ideal Cert.Kernel13Ideal.Gen Idealize.ShloMosaic Idealize.ShloMosaic.TcCoe Idealize.SL.Sem

/-! What a grid point leaves in the output block. -/

/-- What the output block holds after a point, as a function of the point's input blocks: the rows plus the mixed rows
    against the output weights. -/
def YB (x0 : Vec Ideal S256x1024 .f32) (x1 : Vec Ideal S1x1024 .f32) (x2 : Vec Ideal S1024x6144 .bf16) (x3 : Vec Ideal S1x2048 .f32)
    (x4 x5 : Vec Ideal S16x128x128 .f32) (x6 : Vec Ideal S2048x1024 .bf16) : S256x1024.Idx → EReal :=
  fun y => Gmlp.yrow Gmlp.recent (fun s => rowB x0 ⟨128 * ((y 0 : ℕ) / 128) + s, by have := (y 0).isLt; change (y 0 : ℕ) < 256 at this; omega⟩) (gainB x1) (winB x2) (vgB x3)
    (fun g t s => x4 (ix3 g t s)) (fun g t d => x5 (ix3 g t d)) (fun j n => x6 (ix2 j n)) ⟨(y 0 : ℕ) % 128, by omega⟩ (y 1)

/-- `YB` through the mixed block. -/
theorem YB_apply (x0 : Vec Ideal S256x1024 .f32) (x1 : Vec Ideal S1x1024 .f32) (x2 : Vec Ideal S1024x6144 .bf16) (x3 : Vec Ideal S1x2048 .f32)
    (x4 x5 : Vec Ideal S16x128x128 .f32) (x6 : Vec Ideal S2048x1024 .bf16) (r : Fin 256) (n : Fin 1024) :
    x0 (ix2 r n) + ∑ j : Fin 2048, GB x0 x1 x2 x3 x4 x5 (ix2 r j) * x6 (ix2 j n) = YB x0 x1 x2 x3 x4 x5 x6 (ix2 r n) := by
  have e : 128 * ((r : ℕ) / 128) + (r : ℕ) % 128 = r := by omega
  simp only [YB, Gmlp.yrow, GB, ix2_0, ix2_1, e, Fin.eta]

/-- A run's first output block is `YB` of its input blocks. -/
theorem out_eq (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S16x128x128 .f32) (harg6 : arg6.IsWhole) (arg7 : Memref sig .tc .vmem S2048x1024 .bf16) (harg7 : arg7.IsWhole) (arg8 : Memref sig .tc .vmem S256x1024 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .bf16) (harg13 : arg13.IsWhole)
    (x0 : Vec Ideal S256x1024 .f32) (x1 : Vec Ideal S1x1024 .f32) (x2 : Vec Ideal S1024x6144 .bf16) (x3 : Vec Ideal S1x2048 .f32) (x4 : Vec Ideal S16x128x128 .f32) (x5 : Vec Ideal S16x128x128 .f32) (x6 : Vec Ideal S2048x1024 .bf16) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 = YB x0 x1 x2 x3 x4 x5 x6 := by
  unfold out0_A_7
  rw [View.read_writes_junk_eq_canon]
  unfold kernelRun0_A
  dsimp only
  rw [View.canon_cons_unit_lit _ _ _ (by decide)]
  simp only [kernelRun0_A.sl.r, kernelRun0_A.sl.v763, View.readCov_eq_canon', HS3_32_eq, View.readAt_eq_ld, Memref.IsWhole.read_unread]
  funext y
  rw [eq_ix2 (n0 := 256) (n1 := 1024) y]
  refine Eq.trans ?_ (YB_apply x0 x1 x2 x3 x4 x5 x6 (y 0) (y 1))
  unfold_payloads
  pointwise

/-- A run's second output block is the normed values. -/
theorem vout_eq (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S1024x6144 .bf16) (harg3 : arg3.IsWhole) (arg4 : Memref sig .tc .vmem S1x2048 .f32) (harg4 : arg4.IsWhole) (arg5 : Memref sig .tc .vmem S16x128x128 .f32) (harg5 : arg5.IsWhole) (arg6 : Memref sig .tc .vmem S16x128x128 .f32) (harg6 : arg6.IsWhole) (arg7 : Memref sig .tc .vmem S2048x1024 .bf16) (harg7 : arg7.IsWhole) (arg8 : Memref sig .tc .vmem S256x1024 .f32) (harg8 : arg8.IsWhole) (arg9 : Memref sig .tc .vmem S256x2048 .f32) (harg9 : arg9.IsWhole) (arg10 : Memref sig .tc .vmem S256x2048 .f32) (harg10 : arg10.IsWhole) (arg11 : Memref sig .tc .vmem S256x2048 .f32) (harg11 : arg11.IsWhole) (arg12 : Memref sig .tc .vmem S256x2048 .f32) (harg12 : arg12.IsWhole) (arg13 : Memref sig .tc .vmem S256x2048 .bf16) (harg13 : arg13.IsWhole)
    (x0 : Vec Ideal S256x1024 .f32) (x1 : Vec Ideal S1x1024 .f32) (x2 : Vec Ideal S1024x6144 .bf16) (x3 : Vec Ideal S1x2048 .f32) (x4 : Vec Ideal S16x128x128 .f32) (x5 : Vec Ideal S16x128x128 .f32) (x6 : Vec Ideal S2048x1024 .bf16) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 = VNB x0 x1 x2 x3 := by
  unfold out0_A_8
  rw [View.read_writes_junk_eq_canon]
  unfold kernelRun0_A
  dsimp only
  rw [View.canon_cons_unit_lit _ _ _ (by decide)]
  unfold kernelRun0_A.sl.v242
  rw [View.readCov_eq_canon', HS1_4_eq, ssq_word]
  funext y
  simp only [View.readAt_eq_ld, Memref.IsWhole.read_unread]
  unfold_payloads
  idx_vars y
  pointwise
  rfl

/-- The output blocks after a point are `YB` and the normed values of the point's input blocks. -/
theorem outs_eq (V : (c : Dev nD) → (b : Ref sig .tc) → Buf (Elt Ideal) ((c : Thread nD τ).loc b)) (c : Dev nD) (t : Fin cfg0.N) :
    outsAt0 V c t = (YB (iblk0 V c 0 t) (iblk0 V c 1 t) (iblk0 V c 2 t) (iblk0 V c 3 t) (iblk0 V c 4 t) (iblk0 V c 5 t) (iblk0 V c 6 t),
      VNB (iblk0 V c 0 t) (iblk0 V c 1 t) (iblk0 V c 2 t) (iblk0 V c 3 t)) := by
  rw [outsAt0, out_eq, vout_eq]

end Cert.Kernel13Ideal.Block

end
-- ==== Proof.S13Arr.lean ====
module

public import proofs.«01_k».proof.Proof.S13Out

@[expose] public section

set_option maxRecDepth 16384

noncomputable section

namespace Cert.Kernel13Ideal.Block

open Cert.Kernel13Ideal Cert.Kernel13Ideal.Gen Idealize.ShloMosaic Idealize.ShloMosaic.TcCoe Idealize.SL.Sem

/-! The result array after the run, from the arguments. -/

variable (m : (ℓ : Loc nD τ sig) → Buf (Elt Ideal) ℓ) (ρ : Dev nD → PrngReg) (c : Dev nD) (t : Fin cfg0.N)

/-- The block of window 0 at a point is the point's own block of rows. -/
theorem index0 : ∀ t : Fin cfg0.N, win0_0.index t = ![(t : ℕ), 0] := by decide +kernel
/-- The block of window 1 is the same at every point. -/
theorem index1 : ∀ t : Fin cfg0.N, win0_1.index t = ![0, 0] := by decide +kernel
/-- The block of window 2 is the same at every point. -/
theorem index2 : ∀ t : Fin cfg0.N, win0_2.index t = ![0, 0] := by decide +kernel
/-- The block of window 3 is the same at every point. -/
theorem index3 : ∀ t : Fin cfg0.N, win0_3.index t = ![0, 0] := by decide +kernel
/-- The block of window 4 is the same at every point. -/
theorem index4 : ∀ t : Fin cfg0.N, win0_4.index t = ![0, 0, 0] := by decide +kernel
/-- The block of window 5 is the same at every point. -/
theorem index5 : ∀ t : Fin cfg0.N, win0_5.index t = ![0, 0, 0] := by decide +kernel
/-- The block of window 6 is the same at every point. -/
theorem index6 : ∀ t : Fin cfg0.N, win0_6.index t = ![0, 0] := by decide +kernel
/-- The block of window 7 at a point is the point's own block of rows. -/
theorem index7 : ∀ t : Fin cfg0.N, win0_7.index t = ![(t : ℕ), 0] := by decide +kernel
/-- The block of window 8 at a point is the point's own block of rows. -/
theorem index8 : ∀ t : Fin cfg0.N, win0_8.index t = ![(t : ℕ), 0] := by decide +kernel

/-- The weights' block is the whole array. -/
theorem blk2 (k : Fin 1024) (j : Fin 6144) : iblk0 (V1 m ρ) c 2 t (ix2 k j) = m ((c : Thread nD τ).loc main_arg2) (ix2 k j) := by
  blk_ext! [iblk0, V1, W1, W0, s₀, index2 t]
/-- The output weights' block is the whole array. -/
theorem blk6 (j : Fin 2048) (n : Fin 1024) : iblk0 (V1 m ρ) c 6 t (ix2 j n) = m ((c : Thread nD τ).loc main_arg6) (ix2 j n) := by
  blk_ext! [iblk0, V1, W1, W0, s₀, index6 t]
/-- The gain's block is the gain, as a row. -/
theorem blk1 (k : Fin 1024) : iblk0 (V1 m ρ) c 1 t (ix2 0 k) = m ((c : Thread nD τ).loc main_arg1) (ix1 k) := by
  blk_ext! [iblk0, V1, W1, W0, s₀, index1 t]
/-- The value gain's block is that gain, as a row. -/
theorem blk3 (k : Fin 2048) : iblk0 (V1 m ρ) c 3 t (ix2 0 k) = m ((c : Thread nD τ).loc main_arg3) (ix1 k) := by
  blk_ext! [iblk0, V1, W1, W0, s₀, index3 t]
/-- The spatial weights' block repeats the first 8 × 8 entries of each plane. -/
theorem blk4 (g : Fin 16) (r s : Fin 128) : iblk0 (V1 m ρ) c 4 t (ix3 g r s) = m ((c : Thread nD τ).loc main_arg4)
    (ix3 g ⟨(r : ℕ) % 8, by omega⟩ ⟨(s : ℕ) % 8, by omega⟩) := by
  blk_ext! [iblk0, V1, W1, W0, s₀, index4 t]
/-- The bias block repeats the first 8 biases, and each along its last axis. -/
theorem blk5 (g : Fin 16) (r s : Fin 128) : iblk0 (V1 m ρ) c 5 t (ix3 g r s) = m ((c : Thread nD τ).loc main_arg5) (ix2 g ⟨(r : ℕ) % 8, by omega⟩) := by
  blk_ext! [iblk0, V1, W1, W0, s₀, index5 t]
/-- Row `r` of a point's block of rows is row `256 t + r` of the flattened rows. -/
theorem blk0 (r : Fin 256) (k : Fin 1024) : iblk0 (V1 m ρ) c 0 t (ix2 r k) = m ((c : Thread nD τ).loc main_arg0)
    (ix3 ⟨(256 * (t : ℕ) + r) / 8, by have : (t : ℕ) < 4 := t.isLt; omega⟩ ⟨(256 * (t : ℕ) + r) % 8, by omega⟩ k) := by
  blk_ext! [iblk0, V1, W1, W0, s₀, index0 t]

/-- What the first result array holds, from the arguments: place `(i, n)` is row `i % 8` of sample `i / 8`, in its chunk of 16 samples. -/
def YA (X : S128x8x1024.Idx → EReal) (g : S1024.Idx → EReal) (w : S1024x6144.Idx → EReal) (vg : S2048.Idx → EReal) (W : S16x128x128.Idx → EReal)
    (B : S16x128.Idx → EReal) (wo : S2048x1024.Idx → EReal) (i : S1024x1024.Idx) : EReal :=
  Gmlp.yrow Gmlp.recent
    (fun s k => X (ix3 ⟨(128 * ((i 0 : ℕ) / 128) + s) / 8, by have : (i 0 : ℕ) < 1024 := (i 0).isLt; omega⟩ ⟨(128 * ((i 0 : ℕ) / 128) + s) % 8, by omega⟩ k))
    (fun k => g (ix1 k)) (fun k j => w (ix2 k j)) (fun j => vg (ix1 j))
    (fun g t s => W (ix3 g ⟨(t : ℕ) % 8, by omega⟩ ⟨(s : ℕ) % 8, by omega⟩)) (fun g t _ => B (ix2 g ⟨(t : ℕ) % 8, by omega⟩))
    (fun j n => wo (ix2 j n)) ⟨(i 0 : ℕ) % 128, by omega⟩ (i 1)

/-- One place of a point's first output block is the array's place it is written to. -/
theorem block_row (r : Fin 256) (n : Fin 1024) (ht : (t : ℕ) < 4) :
    YB (iblk0 (V1 m ρ) c 0 t) (iblk0 (V1 m ρ) c 1 t) (iblk0 (V1 m ρ) c 2 t) (iblk0 (V1 m ρ) c 3 t) (iblk0 (V1 m ρ) c 4 t) (iblk0 (V1 m ρ) c 5 t) (iblk0 (V1 m ρ) c 6 t) (ix2 r n) =
      YA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (ix2 ⟨256 * (t : ℕ) + r, by omega⟩ n) := by
  have hX : (fun s : Fin 128 => rowB (iblk0 (V1 m ρ) c 0 t) ⟨128 * ((r : ℕ) / 128) + s, by omega⟩) = fun (s : Fin 128) (k : Fin 1024) => m ((c : Thread nD τ).loc main_arg0)
      (ix3 ⟨(128 * ((256 * (t : ℕ) + r) / 128) + s) / 8, by omega⟩ ⟨(128 * ((256 * (t : ℕ) + r) / 128) + s) % 8, by omega⟩ k) := by
    funext s k
    have e1 : 256 * (t : ℕ) + (128 * ((r : ℕ) / 128) + s) = 128 * ((256 * (t : ℕ) + r) / 128) + s := by omega
    exact (blk0 m ρ c t _ k).trans (by simp only [e1])
  have hT : (⟨(r : ℕ) % 128, by omega⟩ : Fin 128) = ⟨(256 * (t : ℕ) + r) % 128, by omega⟩ := Fin.ext (by show (r : ℕ) % 128 = (256 * (t : ℕ) + r) % 128; omega)
  show Gmlp.yrow Gmlp.recent (fun s : Fin 128 => rowB (iblk0 (V1 m ρ) c 0 t) ⟨128 * ((r : ℕ) / 128) + s, by omega⟩) (fun k => iblk0 (V1 m ρ) c 1 t (ix2 0 k))
    (fun k j => iblk0 (V1 m ρ) c 2 t (ix2 k j)) (fun j => iblk0 (V1 m ρ) c 3 t (ix2 0 j)) (fun g t' s => iblk0 (V1 m ρ) c 4 t (ix3 g t' s))
    (fun g t' d => iblk0 (V1 m ρ) c 5 t (ix3 g t' d)) (fun j n => iblk0 (V1 m ρ) c 6 t (ix2 j n)) ⟨(r : ℕ) % 128, by omega⟩ n = _
  rw [hX, hT]
  simp only [blk1, blk2, blk3, blk4, blk5, blk6]
  rfl

/-- The first result array after the run. -/
theorem arr_eq : (dat0 (V1 m ρ) c).arrAt 7 cfg0.N = YA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dat0 (V1 m ρ) c).arrAt_eq_of_covers 7 _ (by decide +kernel) fun t hf y => ?_
  obtain ⟨r, n, rfl⟩ : ∃ (r : Fin 256) (n : Fin 1024), y = ix2 r n := ⟨y 0, y 1, eq_ix2 _⟩
  have ht : (t : ℕ) < 4 := lt_of_lt_of_eq t.isLt (by decide)
  have e : ((cfg0.win 7).blk t).view.emb (ix2 r n) = ix2 (n0 := 1024) (n1 := 1024) ⟨256 * (t : ℕ) + r, by omega⟩ n := by
    blk_ext [index7 t]
  have ex : (cfg0.win 7).xinj (cfg0.grid.coords t) (ix2 r n) = ix2 (n0 := 256) (n1 := 1024) r n := rfl
  rw [e, after0_7, outs_eq, ex, ← block_row m ρ c t r n ht]
  exact cast_eq _ _

end Cert.Kernel13Ideal.Block

end
-- ==== Proof.S13Proj.lean ====
module

public import proofs.«01_k».proof.Proof.Slab
public import proofs.«01_k».proof.Proof.JBArr
public import proofs.«01_k».proof.Proof.S13Arr
public import Idealize.ShloMosaic.Lib.IdealHost

@[expose] public section

set_option maxRecDepth 16384

noncomputable section

namespace Cert.Kernel13Ideal.Proj

open Cert.Kernel13Ideal Cert.Kernel13Ideal.Gen Idealize.ShloMosaic Idealize.ShloMosaic.TcCoe Idealize.SL.Sem

/-! The two joined calls: what a grid point of the second leaves in its block, the arrays it finds, and the keys' array it leaves. -/

/-- The normed rows of a point against column `j` of the call's columns of the weights. -/
def LB (x0 : Vec Ideal S512x1024 .f32) (x1 : Vec Ideal S1x1024 .f32) (x2 : Vec Ideal S1024x1024 .bf16) (r : Fin 512) (j : Fin 1024) : EReal :=
  Slab.lin (fun k => x0 (ix2 r k)) (fun k => x1 (ix2 0 k)) (fun k j => x2 (ix2 k j)) j

/-- The keys of a point. -/
def OB (x0 : Vec Ideal S512x1024 .f32) (x1 : Vec Ideal S1x1024 .f32) (x2 : Vec Ideal S1024x1024 .bf16) (x3 : Vec Ideal S1x1024 .f32) (x4 : Vec Ideal S256x256 .bf16) (y : S512x1024.Idx) : EReal :=
  Cert.Kernel11Ideal.Proj.part (fun j => LB x0 x1 x2 (y 0) j) (fun s k => x4 (ix2 s k)) (fun j => x3 (ix2 0 j)) (y 1)

/-- The first 512 columns of the keys. -/
theorem k0 (x0 : Vec Ideal S512x1024 .f32) (x1 : Vec Ideal S1x1024 .f32) (x2 : Vec Ideal S1024x1024 .bf16) (x3 : Vec Ideal S1x1024 .f32) (x4 : Vec Ideal S256x256 .bf16) (r j : Fin 512) :
    k1_pay7 (F := Ideal) (k1_pay4 (View.ld x0 r1_0) (View.ld x1 r1_1) (View.ld x2 r1_2) (View.ld x4 r1_3)) (k1_pay5 (View.ld x0 r1_0) (View.ld x1 r1_1) (View.ld x2 r1_2)) (k1_pay6 (View.ld x0 r1_0) (View.ld x1 r1_1) (View.ld x2 r1_2) (View.ld x4 r1_3)) (View.ld x3 r1_4) (ix2 r j)
      = OB x0 x1 x2 x3 x4 (ix2 r ⟨0 + j, by omega⟩) := by
  unfold_payloads
  pointwise
  have hj := j.isLt
  by_cases h : (j : ℕ) < 256
  · have e1 : (j : ℕ) / 256 = 0 := by omega
    have e2 : (j : ℕ) % 256 = j - 0 := by omega
    simp only [h, if_true, if_false, ite_true, ite_false, dite_true, dite_false, OB, ix2_0, ix2_1, Cert.Kernel11Ideal.Proj.part, LB, Slab.lin, Gmlp.hrow, Nat.zero_add, Nat.sub_zero, e1, e2, ← Nat.add_assoc, Nat.reduceAdd, Nat.reduceMul]
  · have e1 : (j : ℕ) / 256 = 1 := by omega
    have e2 : (j : ℕ) % 256 = j - 256 := by omega
    have e3 : 256 + ((j : ℕ) - 256) = (j : ℕ) := by omega
    simp only [h, if_true, if_false, ite_true, ite_false, dite_true, dite_false, OB, ix2_0, ix2_1, Cert.Kernel11Ideal.Proj.part, LB, Slab.lin, Gmlp.hrow, Nat.zero_add, Nat.sub_zero, e1, e2, ← Nat.add_assoc, Nat.reduceAdd, Nat.reduceMul, e3]

/-- The last 512 columns of the keys. -/
theorem k1 (x0 : Vec Ideal S512x1024 .f32) (x1 : Vec Ideal S1x1024 .f32) (x2 : Vec Ideal S1024x1024 .bf16) (x3 : Vec Ideal S1x1024 .f32) (x4 : Vec Ideal S256x256 .bf16) (r j : Fin 512) :
    k1_pay1 (F := Ideal) (k1_pay8 (k1_pay2 (View.ld x0 r1_0) (View.ld x1 r1_1)) (View.ld x2 r1_6) (View.ld x4 r1_3) (View.ld x4 r1_3)) (View.ld x3 r1_7) (ix2 r j)
      = OB x0 x1 x2 x3 x4 (ix2 r ⟨512 + j, by omega⟩) := by
  unfold_payloads
  pointwise
  have hj := j.isLt
  by_cases h : (j : ℕ) < 256
  · have e1 : (512 + (j : ℕ)) / 256 = 2 := by omega
    have e2 : (512 + (j : ℕ)) % 256 = j - 0 := by omega
    simp only [h, if_true, if_false, ite_true, ite_false, dite_true, dite_false, OB, ix2_0, ix2_1, Cert.Kernel11Ideal.Proj.part, LB, Slab.lin, Gmlp.hrow, Nat.zero_add, Nat.sub_zero, e1, e2, ← Nat.add_assoc, Nat.reduceAdd, Nat.reduceMul]
  · have e1 : (512 + (j : ℕ)) / 256 = 3 := by omega
    have e2 : (512 + (j : ℕ)) % 256 = j - 256 := by omega
    have e3 : 768 + ((j : ℕ) - 256) = 512 + (j : ℕ) := by omega
    simp only [h, if_true, if_false, ite_true, ite_false, dite_true, dite_false, OB, ix2_0, ix2_1, Cert.Kernel11Ideal.Proj.part, LB, Slab.lin, Gmlp.hrow, Nat.zero_add, Nat.sub_zero, e1, e2, ← Nat.add_assoc, Nat.reduceAdd, Nat.reduceMul, e3]

/-- What the body leaves in the keys' block. -/
theorem out_eq (x0 : Vec Ideal S512x1024 .f32) (x1 : Vec Ideal S1x1024 .f32) (x2 : Vec Ideal S1024x1024 .bf16) (x3 : Vec Ideal S1x1024 .f32) (x4 : Vec Ideal S256x256 .bf16) : out1_5 (F := Ideal) x0 x1 x2 x3 x4 = OB x0 x1 x2 x3 x4 := by
  funext y
  unfold out1_5
  refine View.canon_apply_of_pieces _ _ (View.PiecesOf.mem ?_) y (cover1_5 (F := Ideal) _ _ y)
  exact ⟨Slab.cols (OB x0 x1 x2 x3 x4) _ 512 inb_S512x1024_S512x512_0_512 (by omega) fun r j => k1 x0 x1 x2 x3 x4 r j,
    Slab.cols (OB x0 x1 x2 x3 x4) _ 0 inb_S512x1024_S512x512_0_0 (by omega) fun r j => k0 x0 x1 x2 x3 x4 r j, trivial⟩

variable (m : (ℓ : Loc nD τ sig) → Buf (Elt Ideal) ℓ) (ρ : Dev nD → PrngReg) (c : Dev nD) (t : Fin cfg1.N)

/-- The block of window 0 at a point. -/
theorem index0 : ∀ t : Fin cfg1.N, win1_0.index t = ![(t : ℕ), 0] := by decide +kernel
/-- The block of window 1 at a point. -/
theorem index1 : ∀ t : Fin cfg1.N, win1_1.index t = ![0, 0] := by decide +kernel
/-- The block of window 2 at a point. -/
theorem index2 : ∀ t : Fin cfg1.N, win1_2.index t = ![0, 0] := by decide +kernel
/-- The block of window 3 at a point. -/
theorem index3 : ∀ t : Fin cfg1.N, win1_3.index t = ![0, 0] := by decide +kernel
/-- The block of window 4 at a point. -/
theorem index4 : ∀ t : Fin cfg1.N, win1_4.index t = ![0, 0] := by decide +kernel
/-- The block of window 5 at a point. -/
theorem index5 : ∀ t : Fin cfg1.N, win1_5.index t = ![(t : ℕ), 0] := by decide +kernel

/-- The gain as a row, from any contents before it is made. -/
theorem host_gain (W : Valuation τ sig (Elt Ideal)) : StableHlo.after (List.flatten [hostOps1, hostOps1_1, hostOps1_2, hostOps1_3, hostOps1_4]) W (Proc.devRef .tc main_v31) = shapeCast S1x1024 (W (Proc.devRef .tc main_arg7)) shapeCasts_S1024_S1x1024 := by
  simp only [hostOps1, hostOps1_1, hostOps1_2, hostOps1_3, hostOps1_4, List.flatten_cons, List.flatten_nil, List.append_nil, List.cons_append, List.nil_append]
  after_results
  rfl
/-- The call's columns of the weights, rounded. -/
theorem host_weights (W : Valuation τ sig (Elt Ideal)) : StableHlo.after (List.flatten [hostOps1, hostOps1_1, hostOps1_2, hostOps1_3, hostOps1_4]) W (Proc.devRef .tc main_v32) =
    truncf (F := Ideal) .bf16 (φ := .f32) (extractStridedSlice S1024x1024 ![0, 1024] (W (Proc.devRef .tc main_arg8)) slices_S1024x4096_S1024x1024_0_1024) bitsLt_bf16_f32 := by
  simp only [hostOps1, hostOps1_1, hostOps1_2, hostOps1_3, hostOps1_4, List.flatten_cons, List.flatten_nil, List.append_nil, List.cons_append, List.nil_append]
  after_results
/-- The keys' gain, repeated. -/
theorem host_knorm (W : Valuation τ sig (Elt Ideal)) : StableHlo.after (List.flatten [hostOps1, hostOps1_1, hostOps1_2, hostOps1_3, hostOps1_4]) W (Proc.devRef .tc main_v29) = shapeCast S1x1024 (shapeCast S1024 (broadcastInDim S16x64 ![0, 1] bcast_S1x64_S16x64_0_1
    (shapeCast S1x64 (W (Proc.devRef .tc main_arg9)) shapeCasts_S64_S1x64)) shapeCasts_S16x64_S1024) shapeCasts_S1024_S1x1024 := by
  simp only [hostOps1, hostOps1_1, hostOps1_2, hostOps1_3, hostOps1_4, List.flatten_cons, List.flatten_nil, List.append_nil, List.cons_append, List.nil_append]
  after_results
  rfl
/-- Which pairs of 256 columns lie in one part of 64. -/
theorem host_parts (W : Valuation τ sig (Elt Ideal)) : StableHlo.after (List.flatten [hostOps1, hostOps1_1, hostOps1_2, hostOps1_3, hostOps1_4]) W (Proc.devRef .tc main_v25) = uitofp (F := Ideal) .bf16 (cmpi .eq (broadcastInDim S256x256 ![0, 1] bcast_S256x1_S256x256_0_1 Cert.Kernel11Ideal.Proj.fcol)
    (broadcastInDim S256x256 ![0, 1] bcast_S1x256_S256x256_0_1 Cert.Kernel11Ideal.Proj.frow)) := by
  simp only [hostOps1, hostOps1_1, hostOps1_2, hostOps1_3, hostOps1_4, List.flatten_cons, List.flatten_nil, List.append_nil, List.cons_append, List.nil_append]
  after_results
  simp only [StableHlo.TRef.ofBuf_toBuf]
  rfl
/-- What the second call finds is what its host operations leave, from the first call's exit. -/
theorem found (b : Ref sig .tc) : V7 m ρ c b = StableHlo.after (List.flatten [hostOps1, hostOps1_1, hostOps1_2, hostOps1_3, hostOps1_4]) (W2 m ρ c) (Proc.devRef .tc b) := by
  simp only [V7, W7, W6, W5, W4, W3, hostOps1, hostOps1_1, hostOps1_2, hostOps1_3, hostOps1_4, List.flatten_cons, List.flatten_nil, List.append_nil, List.cons_append, List.nil_append, StableHlo.after]
/-- The first call's result array, from the arguments. -/
def yA : S1024x1024.Idx → EReal := Block.YA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
/-- The second call's rows are the first call's result. -/
theorem found_rows : V7 m ρ c main_v15_0 = yA m c :=
  (W7_of m ρ c main_v15_0 (by decide)).trans <| (W6_of m ρ c main_v15_0 (by decide)).trans <| (W5_of m ρ c main_v15_0 (by decide)).trans <| (W4_of m ρ c main_v15_0 (by decide)).trans <| (W3_of m ρ c main_v15_0 (by decide)).trans <| (W2_arr m ρ c 7).trans (Block.arr_eq m ρ c)
/-- An argument array at the first call's exit. -/
theorem W2_arg (a : Ref sig .tc) (h : a ∈ argRefs) : W2 m ρ c (Proc.devRef .tc a) = m ((c : Thread nD τ).loc a) := W2_args m ρ c a h
/-- Row `r` of a point's block of rows is row `512 t + r` of the rows. -/
theorem blk0 (r : Fin 512) (k : Fin 1024) (ht : (t : ℕ) < 2) : iblk1 (V7 m ρ) c 0 t (ix2 r k) = yA m c (ix2 ⟨512 * (t : ℕ) + r, by omega⟩ k) := by
  have e : (win1_0.blk t).view.emb (ix2 r k) = ix2 (n0 := 1024) (n1 := 1024) ⟨512 * (t : ℕ) + r, by omega⟩ k := by blk_ext [index0 t]
  show V7 m ρ c main_v15_0 ((win1_0.blk t).view.emb (ix2 r k)) = _
  rw [e, found_rows]
/-- The gain's block is the gain, as a row. -/
theorem blk1 (k : Fin 1024) : iblk1 (V7 m ρ) c 1 t (ix2 0 k) = (m ((c : Thread nD τ).loc main_arg7)) (ix1 k) := by
  have e : (win1_1.blk t).view.emb (ix2 0 k) = ix2 (n0 := 1) (n1 := 1024) 0 k := by blk_ext [index1 t]
  show V7 m ρ c main_v31 ((win1_1.blk t).view.emb _) = _
  rw [e, found, host_gain, W2_arg m ρ c main_arg7 (by decide)]
  pointwise
/-- The weights' block is the call's columns of the input weights. -/
theorem blk2 (k j : Fin 1024) : iblk1 (V7 m ρ) c 2 t (ix2 k j) = (m ((c : Thread nD τ).loc main_arg8)) (ix2 k ⟨1024 + j, by omega⟩) := by
  have e : (win1_2.blk t).view.emb (ix2 k j) = ix2 (n0 := 1024) (n1 := 1024) k j := by blk_ext [index2 t]
  show V7 m ρ c main_v32 ((win1_2.blk t).view.emb _) = _
  rw [e, found, host_weights, W2_arg m ρ c main_arg8 (by decide)]
  pointwise
/-- The keys' gain, repeated for each half head. -/
theorem blk3 (j : Fin 1024) : iblk1 (V7 m ρ) c 3 t (ix2 0 j) = (m ((c : Thread nD τ).loc main_arg9)) (ix1 ⟨(j : ℕ) % 64, by omega⟩) := by
  have e : (win1_3.blk t).view.emb (ix2 0 j) = ix2 (n0 := 1) (n1 := 1024) 0 j := by blk_ext [index3 t]
  show V7 m ρ c main_v29 ((win1_3.blk t).view.emb _) = _
  rw [e, found, host_knorm, W2_arg m ρ c main_arg9 (by decide)]
  pointwise
/-- The matrix of the parts. -/
theorem blk4 (a b : Fin 256) : iblk1 (V7 m ρ) c 4 t (ix2 a b) = (if (a : ℕ) / 64 = (b : ℕ) / 64 then 1 else 0 : EReal) := by
  have e : (win1_4.blk t).view.emb (ix2 a b) = ix2 (n0 := 256) (n1 := 256) a b := by blk_ext [index4 t]
  show V7 m ρ c main_v25 ((win1_4.blk t).view.emb _) = _
  rw [e, found, host_parts]
  exact Cert.Kernel11Ideal.Proj.same_part a b
/-- The normed rows against column `j` of the input weights. -/
def linA (X : S1024x1024.Idx → EReal) (g : S1024.Idx → EReal) (w : S1024x4096.Idx → EReal) (r : Fin 1024) (j : Fin 4096) : EReal :=
  Slab.lin (fun k => X (ix2 r k)) (fun k => g (ix1 k)) (fun k j => w (ix2 k j)) j
/-- The keys, as rows. -/
def PA (X : S1024x1024.Idx → EReal) (g : S1024.Idx → EReal) (w : S1024x4096.Idx → EReal) (n : S64.Idx → EReal) (i : S1024x1024.Idx) : EReal :=
  Cert.Kernel11Ideal.Proj.partA (fun j => linA X g w (i 0) ⟨1024 + j, by omega⟩) (fun j => n (ix1 ⟨(j : ℕ) % 64, by omega⟩)) (i 1)
/-- One place of a point's output block is the array's place it is written to. -/
theorem block_row (r : Fin 512) (j : Fin 1024) (ht : (t : ℕ) < 2) : OB (iblk1 (V7 m ρ) c 0 t) (iblk1 (V7 m ρ) c 1 t) (iblk1 (V7 m ρ) c 2 t) (iblk1 (V7 m ρ) c 3 t) (iblk1 (V7 m ρ) c 4 t) (ix2 r j) = PA (yA m c) (m ((c : Thread nD τ).loc main_arg7)) (m ((c : Thread nD τ).loc main_arg8)) (m ((c : Thread nD τ).loc main_arg9)) (ix2 (n0 := 1024) (n1 := 1024) ⟨512 * (t : ℕ) + r, by omega⟩ j) := by
  have hl : ∀ j, LB (iblk1 (V7 m ρ) c 0 t) (iblk1 (V7 m ρ) c 1 t) (iblk1 (V7 m ρ) c 2 t) r j = linA (yA m c) (m ((c : Thread nD τ).loc main_arg7)) (m ((c : Thread nD τ).loc main_arg8)) ⟨512 * (t : ℕ) + r, by omega⟩ ⟨1024 + j, by omega⟩ := fun j => by
    simp only [LB, blk0 m ρ c t _ _ ht, blk1, blk2]
    rfl
  show Cert.Kernel11Ideal.Proj.part (fun j => LB (iblk1 (V7 m ρ) c 0 t) (iblk1 (V7 m ρ) c 1 t) (iblk1 (V7 m ρ) c 2 t) r j) (fun s k => iblk1 (V7 m ρ) c 4 t (ix2 s k)) (fun j => iblk1 (V7 m ρ) c 3 t (ix2 0 j)) j = _
  simp only [hl, blk3, blk4, Cert.Kernel11Ideal.Proj.part_eq]
  rfl

/-- The result array after the run. -/
theorem arr_eq : (dat1 (V7 m ρ) c).arrAt 5 cfg1.N = PA (yA m c) (m ((c : Thread nD τ).loc main_arg7)) (m ((c : Thread nD τ).loc main_arg8)) (m ((c : Thread nD τ).loc main_arg9)) := by
  refine (dat1 (V7 m ρ) c).arrAt_eq_of_covers 5 _ (by decide +kernel) fun t hf y => ?_
  obtain ⟨r, j, rfl⟩ : ∃ (r : Fin 512) (j : Fin 1024), y = ix2 r j := ⟨y 0, y 1, eq_ix2 _⟩
  have ht : (t : ℕ) < 2 := lt_of_lt_of_eq t.isLt (by decide)
  have e : ((cfg1.win 5).blk t).view.emb (ix2 r j) = ix2 (n0 := 1024) (n1 := 1024) ⟨512 * (t : ℕ) + r, by omega⟩ j := by
    blk_ext [index5 t]
  have ex : (cfg1.win 5).xinj (cfg1.grid.coords t) (ix2 r j) = ix2 (n0 := 512) (n1 := 1024) r j := rfl
  rw [e, after1_5, out_eq, ex, block_row m ρ c t r j ht]
  exact cast_eq _ _

end Cert.Kernel13Ideal.Proj

end
-- ==== Proof.S13Run.lean ====
module

public import proofs.«01_k».proof.Proof.S13Proj

@[expose] public section

set_option maxRecDepth 16384

noncomputable section

namespace Cert.Kernel13Ideal.Proj

open Cert.Kernel13Ideal Cert.Kernel13Ideal.Gen Idealize.ShloMosaic Idealize.ShloMosaic.TcCoe
open Idealize.SL Idealize.SL.RA Idealize.SL.BI
open scoped Idealize.SL.BI
open Idealize.ShloMosaic.Rounds Idealize.ShloMosaic.Tactic
open Idealize.SL.BI.BIBase Idealize.SL.BI.Laws Idealize.SL.ProofMode Idealize.SL.Sem

/-! The run of the two joined calls, with its result from the arguments. -/

variable (m : (ℓ : Loc nD τ sig) → Buf (Elt Ideal) ℓ) (ρ : Dev nD → PrngReg)

set_option backward.isDefEq.respectTransparency.types false in
/-- The two joined calls run, leave the keys of the first call's result in the result array, and their arguments as they were. -/
theorem run : θ_run (defs (F := Ideal)) (onTc (τ := τ) (main (F := Ideal))) ⟨m, fun _ => 0, ρ⟩ (fun r => ∀ c : Dev nD,
      r.2.mem ((c.tc : Thread nD τ).loc main_v33) = PA (yA m c) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => fun c =>
      ⟨(h c _ (mem_uc main_v33 (by decide))).trans ((W8_arr m ρ c 5).trans (arr_eq m ρ c)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.Kernel13Ideal.Proj

end
-- ==== Proof.S13Rows.lean ====
module

public import proofs.«01_k».proof.Proof.S13Arr
public import proofs.«01_k».proof.Proof.Gen.Reference13Ideal.Read
public import Idealize.ShloMosaic.Lib.Pipeline.ValueKit
public import Idealize.ShloMosaic.Lib.IdealHost

@[expose] public section

set_option maxRecDepth 16384

noncomputable section

namespace Cert.Reference13Ideal.Rows

open Cert.Reference13Ideal Cert.Reference13Ideal.Read Idealize.ShloMosaic

/-! What the reference computes, row by row, as the layer's functions. -/

variable (x0 : (⟨S128x8x1024, .f32⟩ : BufTy).Contents (Elt Ideal)) (x1 : (⟨S1024, .f32⟩ : BufTy).Contents (Elt Ideal))
  (x2 : (⟨S1024x6144, .f32⟩ : BufTy).Contents (Elt Ideal)) (x3 : (⟨S2048, .f32⟩ : BufTy).Contents (Elt Ideal))

/-- Row `t` of sample `b`. -/
abbrev rowR (b : Fin 128) (t : Fin 8) : Fin 1024 → EReal := fun k => x0 (ix3 b t k)
/-- The gain of the norm. -/
abbrev gainR : Fin 1024 → EReal := fun k => x1 (ix1 k)
/-- The input weights. -/
abbrev winR : Fin 1024 → Fin 6144 → EReal := fun k j => x2 (ix2 k j)
/-- The gain of the value norm. -/
abbrev vgR : Fin 2048 → EReal := fun j => x3 (ix1 j)

/-- The normed rows. -/
theorem norm_row (b : Fin 128) (t : Fin 8) (k : Fin 1024) :
    val_main_v12 (F := Ideal) x0 x1 (ix3 b t k) = Gmlp.hrow (rowR x0 b t) (gainR x1) k := by
  simp only [val_main_v12_apply, val_main_v9_apply, val_main_v8_apply, val_main_v7_apply, val_main_v6_apply, val_main_v5_apply, val_main_v4_apply,
    val_main_v3_apply, val_main_v2_apply, val_main_v1_apply, val_main_v0_apply, val_main_cst_apply, val_main_cst_0_apply, val_main_cst_1_apply,
    val_main_v10_apply, val_main_v11_apply]
  have ex : ∀ i, x0 (idx_main_v1 (idx_main_v2 (idx_main_v8 (ix3 b t k))) i) = x0 (ix3 b t i) := fun i => congrArg x0 (eq_ix3 _)
  have eg : x1 (idx_main_v10 (idx_main_v11 (ix3 b t k))) = x1 (ix1 k) := congrArg x1 (eq_ix1 _)
  simp only [ex, eg]
  pointwise
  rfl

/-- The projection of the normed rows. -/
theorem proj_row (b : Fin 128) (t : Fin 8) (j : Fin 6144) :
    val_main_v13 (F := Ideal) x0 x1 x2 (ix3 b t j) = Gmlp.prow (rowR x0 b t) (gainR x1) (winR x2) j := by
  rw [val_main_v13_apply]
  refine Finset.sum_congr rfl fun k _ => congrArg₂ (· * ·) ?_ ?_
  · exact (congrArg (val_main_v12 (F := Ideal) x0 x1) (eq_ix3 _)).trans (norm_row x0 x1 b t k)
  · exact congrArg x2 (eq_ix2 _)

/-- The first gate. -/
theorem u_row (b : Fin 128) (t : Fin 8) (j : Fin 2048) :
    val_main_v27 (F := Ideal) x0 x1 x2 (ix3 b t j) = Gmlp.urow (rowR x0 b t) (gainR x1) (winR x2) j := by
  have e : val_main_v14 (F := Ideal) x0 x1 x2 (ix3 b t j) = Gmlp.prow (rowR x0 b t) (gainR x1) (winR x2) ⟨j, by omega⟩ := by
    rw [val_main_v14_apply]
    exact (congrArg (val_main_v13 (F := Ideal) x0 x1 x2) (eq_ix3 _)).trans (proj_row x0 x1 x2 b t ⟨j, by omega⟩)
  simp only [val_main_v27_apply, val_main_v26_apply, val_main_v25_apply, val_main_v24_apply, val_main_v23_apply, val_main_v22_apply, val_main_v21_apply,
    val_main_v20_apply, val_main_v19_apply, val_main_v18_apply, val_main_v17_apply, val_main_v16_apply, val_main_v15_apply, e,
    val_main_cst_2_apply, val_main_cst_3_apply, val_main_cst_4_apply, val_main_cst_5_apply, Gmlp.urow]
  generalize Gmlp.prow _ _ _ _ = p
  pointwise
  rw [Gmlp.gelu, ← mul_assoc, mul_comm p]

/-- The values. -/
theorem v_row (b : Fin 128) (t : Fin 8) (j : Fin 2048) :
    val_main_v41 (F := Ideal) x0 x1 x2 (ix3 b t j) = Gmlp.vrow (rowR x0 b t) (gainR x1) (winR x2) j := by
  have e : val_main_v28 (F := Ideal) x0 x1 x2 (ix3 b t j) = Gmlp.prow (rowR x0 b t) (gainR x1) (winR x2) ⟨2048 + j, by omega⟩ := by
    rw [val_main_v28_apply]
    exact (congrArg (val_main_v13 (F := Ideal) x0 x1 x2) (eq_ix3 _)).trans (proj_row x0 x1 x2 b t ⟨2048 + j, by omega⟩)
  simp only [val_main_v41_apply, val_main_v40_apply, val_main_v39_apply, val_main_v38_apply, val_main_v37_apply, val_main_v36_apply, val_main_v35_apply,
    val_main_v34_apply, val_main_v33_apply, val_main_v32_apply, val_main_v31_apply, val_main_v30_apply, val_main_v29_apply, e,
    val_main_cst_6_apply, val_main_cst_7_apply, val_main_cst_8_apply, val_main_cst_9_apply, Gmlp.vrow]
  generalize Gmlp.prow _ _ _ _ = p
  pointwise
  rw [Gmlp.gelu, ← mul_assoc, mul_comm p]

/-- The second gate. -/
theorem z_row (b : Fin 128) (t : Fin 8) (j : Fin 2048) :
    val_main_v70 (F := Ideal) x0 x1 x2 (ix3 b t j) = Gmlp.zrow (rowR x0 b t) (gainR x1) (winR x2) j := by
  have e : val_main_v55 (F := Ideal) x0 x1 x2 (ix3 b t j) = Gmlp.prow (rowR x0 b t) (gainR x1) (winR x2) ⟨4096 + j, by omega⟩ := by
    rw [val_main_v55_apply]
    exact (congrArg (val_main_v13 (F := Ideal) x0 x1 x2) (eq_ix3 _)).trans (proj_row x0 x1 x2 b t ⟨4096 + j, by omega⟩)
  simp only [val_main_v70_apply, val_main_call2_v5_apply, val_main_call2_v4_apply, val_main_call2_v3_apply, val_main_call2_v2_apply,
    val_main_call2_v1_apply, val_main_call2_v0_apply, val_main_call2_cst_apply, val_main_call2_cst_0_apply, e, Gmlp.zrow]
  generalize Gmlp.prow _ _ _ _ = p
  pointwise
  rw [Gmlp.silu, zero_sub]

/-- The f32 word of 2048 and that of its reciprocal, as numbers. -/
theorem word_2048 : Ideal.ofBits .f32 0x45000000#32 = ((2048 : ℝ) : EReal) := by
  simp [Ideal.ofBits, Ideal.ieee, -EReal.coe_mul]; norm_num

/-- The f32 word of `1/2048`. -/
theorem word_inv_2048 : Ideal.ofBits .f32 973078528#32 = ((1 / 2048 : ℝ) : EReal) := by
  simp [Ideal.ofBits, Ideal.ieee, -EReal.coe_mul]; norm_num

/-- Dividing by 2048 is multiplying by its reciprocal. -/
theorem div_2048 (x : EReal) : Ideal.div x (Ideal.ofBits .f32 0x45000000#32) = x * Ideal.ofBits .f32 973078528#32 := by
  rw [word_2048, word_inv_2048, Ideal.div_coe (by norm_num)]

/-- The sum of a row's squared values. -/
theorem ssq_row (b : Fin 128) (t : Fin 8) :
    val_main_v43 (F := Ideal) x0 x1 x2 (ix2 b t) = Gmlp.ssq (rowR x0 b t) (gainR x1) (winR x2) := by
  rw [val_main_v43_apply, val_main_cst_10_apply]
  pointwise
  refine Finset.sum_congr rfl fun k _ => ?_
  rw [val_main_v42_apply]
  have e : val_main_v41 (F := Ideal) x0 x1 x2 (idx_main_v43 (ix2 b t) k) = Gmlp.vrow (rowR x0 b t) (gainR x1) (winR x2) k :=
    (congrArg (val_main_v41 (F := Ideal) x0 x1 x2) (eq_ix3 _)).trans (v_row x0 x1 x2 b t k)
  rw [e]
  rfl

/-- The normed values. -/
theorem vn_row (b : Fin 128) (t : Fin 8) (j : Fin 2048) :
    val_main_v54 (F := Ideal) x0 x1 x2 x3 (ix3 b t j) = Gmlp.vnrow (rowR x0 b t) (gainR x1) (winR x2) (vgR x3) j := by
  have e : val_main_v44 (F := Ideal) x0 x1 x2 (idx_main_v50 (ix3 b t j)) = Gmlp.ssq (rowR x0 b t) (gainR x1) (winR x2) := by
    rw [val_main_v44_apply]
    exact (congrArg (val_main_v43 (F := Ideal) x0 x1 x2) (eq_ix2 _)).trans (ssq_row x0 x1 x2 b t)
  have eg : x3 (idx_main_v52 (idx_main_v53 (ix3 b t j))) = x3 (ix1 j) := congrArg x3 (eq_ix1 _)
  simp only [val_main_v54_apply, val_main_v53_apply, val_main_v52_apply, val_main_v51_apply, val_main_v50_apply, val_main_v49_apply, val_main_v48_apply,
    val_main_v47_apply, val_main_v46_apply, val_main_v45_apply, val_main_cst_11_apply, val_main_cst_12_apply, v_row, e, eg, Gmlp.vnrow]
  generalize Gmlp.vrow _ _ _ _ = v
  generalize Gmlp.ssq _ _ _ = q
  rw [← div_2048]
  pointwise

variable (x4 : (⟨S16x128x128, .f32⟩ : BufTy).Contents (Elt Ideal)) (x5 : (⟨S16x128, .f32⟩ : BufTy).Contents (Elt Ideal))
  (x6 : (⟨S2048x1024, .f32⟩ : BufTy).Contents (Elt Ideal))

/-- The reference's lower-triangle word picks the places at or before. -/
theorem tril_word (t s : Fin 8) : Scalar.select (IntOp.cmpi CmpIPredicate.sge (IntOp.addi (BitVec.ofNat 32 (t : ℕ)) 0#32) (BitVec.ofNat 32 (s : ℕ))) 1#1 0#1
    = if s ≤ t then 1#1 else 0#1 := by
  revert t s; decide +kernel

/-- The masked spatial weights. -/
theorem mask_row (g : Fin 16) (t s : Fin 8) :
    val_main_v59 (F := Ideal) x4 (ix3 g t s) = if s ≤ t then x4 (ix3 g ⟨t, by omega⟩ ⟨s, by omega⟩) else 0 := by
  have hm : val_main_v57 (F := Ideal) (idx_main_call1_v1 (ix3 g t s)) = if s ≤ t then 1#1 else 0#1 := by
    simp only [val_main_v57_apply, val_main_v56_apply, val_main_c_apply, val_main_call0_v0_apply, val_main_call0_v1_apply, val_main_call0_v2_apply,
      val_main_call0_v3_apply, val_main_call0_v4_apply, val_main_call0_v5_apply, val_main_call0_c_apply, val_main_call0_c_0_apply]
    exact tril_word t s
  have hw : x4 (idx_main_v58 (ix3 g t s)) = x4 (ix3 g ⟨t, by omega⟩ ⟨s, by omega⟩) := congrArg x4 (eq_ix3 _)
  simp only [val_main_v59_apply, val_main_v58_apply, val_main_call1_v1_apply, val_main_call1_v2_apply, val_main_call1_v0_apply, val_main_cst_13_apply, hm, hw]
  pointwise
  by_cases h : s ≤ t
  · simp only [if_pos h]; rfl
  · simp only [if_neg h]; rfl

/-- One place of the mixed values before the gates. -/
theorem mix_row (b : Fin 128) (t : Fin 8) (j : Fin 2048) :
    val_main_v68 (F := Ideal) x0 x1 x2 x3 x4 x5 (ix3 b t j) =
      (∑ s : Fin 8, if s ≤ t then x4 (ix3 ⟨(j : ℕ) / 128, by omega⟩ ⟨t, by omega⟩ ⟨s, by omega⟩)
          * Gmlp.vnrow (rowR x0 b s) (gainR x1) (winR x2) (vgR x3) j else 0)
        + x5 (ix2 ⟨(j : ℕ) / 128, by omega⟩ ⟨t, by omega⟩) := by
  have hb := b.isLt
  have ht := t.isLt
  have hj := j.isLt
  rw [val_main_v68_apply, val_main_v67_apply]
  refine congrArg₂ (· + ·) ?_ ?_
  · rw [val_main_v62_apply, val_main_v61_apply]
    refine Finset.sum_congr rfl fun s _ => ?_
    have hs := s.isLt
    have ev : val_main_v60 (F := Ideal) x0 x1 x2 x3 (lidx_main_v61 (idx_main_v62 (idx_main_v68 (ix3 b t j))) s)
        = Gmlp.vnrow (rowR x0 b s) (gainR x1) (winR x2) (vgR x3) j := by
      rw [val_main_v60_apply, ← vn_row]
      refine congrArg (val_main_v54 (F := Ideal) x0 x1 x2 x3) (funext fun a => Fin.ext ?_)
      match a with
      | ⟨0, _⟩ =>
        show ((((((((b : ℕ) * 8 + t) * 2048 + j) / 16384) * 1 + 0) * 8 + s) * 16
          + (((b : ℕ) * 8 + t) * 2048 + j) / 128 % 16) * 128 + (((b : ℕ) * 8 + t) * 2048 + j) % 128) / 16384 = b
        omega
      | ⟨1, _⟩ =>
        show ((((((((b : ℕ) * 8 + t) * 2048 + j) / 16384) * 1 + 0) * 8 + s) * 16
          + (((b : ℕ) * 8 + t) * 2048 + j) / 128 % 16) * 128 + (((b : ℕ) * 8 + t) * 2048 + j) % 128) / 2048 % 8 = s
        omega
      | ⟨2, _⟩ =>
        show ((((((((b : ℕ) * 8 + t) * 2048 + j) / 16384) * 1 + 0) * 8 + s) * 16
          + (((b : ℕ) * 8 + t) * 2048 + j) / 128 % 16) * 128 + (((b : ℕ) * 8 + t) * 2048 + j) % 128) % 2048 = j
        omega
    have ew : val_main_v59 (F := Ideal) x4 (ridx_main_v61 (idx_main_v62 (idx_main_v68 (ix3 b t j))) s)
        = if s ≤ t then x4 (ix3 ⟨(j : ℕ) / 128, by omega⟩ ⟨t, by omega⟩ ⟨s, by omega⟩) else 0 := by
      rw [← mask_row]
      refine congrArg (val_main_v59 (F := Ideal) x4) (funext fun a => Fin.ext ?_)
      match a with
      | ⟨0, _⟩ => show (((b : ℕ) * 8 + t) * 2048 + j) / 128 % 16 = (j : ℕ) / 128; omega
      | ⟨1, _⟩ => show (((b : ℕ) * 8 + t) * 2048 + j) / 2048 % 8 = (t : ℕ); omega
      | ⟨2, _⟩ => rfl
    rw [ev, ew, mul_comm]
    by_cases h : s ≤ t
    · simp only [if_pos h]
    · simp only [if_neg h, zero_mul]
  · rw [val_main_v66_apply, val_main_v65_apply, val_main_v64_apply, val_main_v63_apply]
    refine congrArg x5 (funext fun a => Fin.ext ?_)
    match a with
    | ⟨0, _⟩ => show (((b : ℕ) * 8 + t) * 2048 + j) / 128 % 16 = (j : ℕ) / 128; omega
    | ⟨1, _⟩ => show (((b : ℕ) * 8 + t) * 2048 + j) / 2048 % 8 = (t : ℕ); omega

/-- Summing what is recent over a chunk is summing over the place's own sample. -/
theorem sum_recent (T : Fin 128) (F : Fin 128 → EReal) :
    (∑ s : Fin 128, if Gmlp.recent T s then F s else 0) =
      ∑ s : Fin 8, if (s : ℕ) ≤ (T : ℕ) % 8 then F ⟨8 * ((T : ℕ) / 8) + s, by omega⟩ else 0 := by
  have hT := T.isLt
  rw [← (finProdFinEquiv (m := 16) (n := 8)).sum_comp, Fintype.sum_prod_type]
  rw [Finset.sum_eq_single (⟨(T : ℕ) / 8, by omega⟩ : Fin 16)]
  · refine Finset.sum_congr rfl fun s _ => ?_
    have hs := s.isLt
    have e : (finProdFinEquiv (m := 16) (n := 8)) (⟨(T : ℕ) / 8, by omega⟩, s) = (⟨8 * ((T : ℕ) / 8) + s, by omega⟩ : Fin 128) :=
      Fin.ext (by show (s : ℕ) + 8 * ((T : ℕ) / 8) = _; exact add_comm _ _)
    rw [e]
    by_cases h : (s : ℕ) ≤ (T : ℕ) % 8
    · rw [if_pos h, if_pos (by simp only [Gmlp.recent, decide_eq_true_eq, Fin.le_def]; omega)]
    · rw [if_neg h, if_neg (by simp only [Gmlp.recent, decide_eq_true_eq, Fin.le_def]; omega)]
  · intro a _ ha
    refine Finset.sum_eq_zero fun s _ => if_neg ?_
    have hs := s.isLt
    have e : (((finProdFinEquiv (m := 16) (n := 8)) (a, s) : Fin 128) : ℕ) = s + 8 * a := rfl
    have ha' : (a : ℕ) ≠ (T : ℕ) / 8 := fun h => ha (Fin.ext h)
    simp only [Gmlp.recent, decide_eq_true_eq, Fin.le_def, e]
    omega
  · intro h
    exact absurd (Finset.mem_univ _) h

/-- The rows of the chunk of 16 samples that holds row `r` of the flattened rows. -/
abbrev chunkR (r : Fin 1024) (s : Fin 128) : Fin 1024 → EReal :=
  rowR x0 ⟨(128 * ((r : ℕ) / 128) + s) / 8, by omega⟩ ⟨(128 * ((r : ℕ) / 128) + s) % 8, by omega⟩

/-- The gated mixed rows. -/
theorem g_row (r : Fin 1024) (j : Fin 2048) :
    val_main_v71 (F := Ideal) x0 x1 x2 x3 x4 x5 (ix3 (n0 := 128) (n1 := 8) (n2 := 2048) ⟨(r : ℕ) / 8, by omega⟩ ⟨(r : ℕ) % 8, by omega⟩ j) =
      Gmlp.grow Gmlp.recent (chunkR x0 r) (gainR x1) (winR x2) (vgR x3)
        (fun g t s => x4 (ix3 g ⟨(t : ℕ) % 8, by omega⟩ ⟨(s : ℕ) % 8, by omega⟩)) (fun g t _ => x5 (ix2 g ⟨(t : ℕ) % 8, by omega⟩)) ⟨(r : ℕ) % 128, by omega⟩ j := by
  have e : 128 * ((r : ℕ) / 128) + (r : ℕ) % 128 = r := by omega
  have e8 : (r : ℕ) % 128 % 8 = (r : ℕ) % 8 := by omega
  rw [val_main_v71_apply, val_main_v69_apply, u_row, z_row, mix_row]
  simp only [Gmlp.grow]
  rw [sum_recent]
  have es : ∀ s : Fin 8, (128 * ((r : ℕ) / 128) + (8 * ((r : ℕ) % 128 / 8) + s)) / 8 = (r : ℕ) / 8 := fun s => by omega
  have es' : ∀ s : Fin 8, (128 * ((r : ℕ) / 128) + (8 * ((r : ℕ) % 128 / 8) + s)) % 8 = s := fun s => by omega
  have es2 : ∀ s : Fin 8, (8 * ((r : ℕ) % 128 / 8) + (s : ℕ)) % 8 = s := fun s => by omega
  simp only [chunkR, e, e8, es, es', es2, Fin.eta]
  rfl

/-- The first layer's result at row `r` of the flattened rows. -/
theorem y_row (r : Fin 1024) (n : Fin 1024) :
    val_main_v73 (F := Ideal) x0 x1 x2 x3 x4 x5 x6 (ix3 (n0 := 128) (n1 := 8) (n2 := 1024) ⟨(r : ℕ) / 8, by omega⟩ ⟨(r : ℕ) % 8, by omega⟩ n) =
      Gmlp.yrow Gmlp.recent (chunkR x0 r) (gainR x1) (winR x2) (vgR x3)
        (fun g t s => x4 (ix3 g ⟨(t : ℕ) % 8, by omega⟩ ⟨(s : ℕ) % 8, by omega⟩)) (fun g t _ => x5 (ix2 g ⟨(t : ℕ) % 8, by omega⟩))
        (fun j n => x6 (ix2 j n)) ⟨(r : ℕ) % 128, by omega⟩ n := by
  have e : 128 * ((r : ℕ) / 128) + (r : ℕ) % 128 = r := by omega
  rw [val_main_v73_apply, val_main_v72_apply]
  simp only [Gmlp.yrow]
  refine congrArg₂ (· + ·) (by simp only [chunkR, e, Fin.eta]) (Finset.sum_congr rfl fun j _ => congrArg₂ (· * ·) ?_ ?_)
  · exact (congrArg (val_main_v71 (F := Ideal) x0 x1 x2 x3 x4 x5) (eq_ix3 _)).trans (g_row x0 x1 x2 x3 x4 x5 r j)
  · exact congrArg x6 (eq_ix2 _)

end Cert.Reference13Ideal.Rows

end
-- ==== Proof.S13Ref.lean ====
module

public import proofs.«01_k».proof.Proof.S13Proj
public import proofs.«01_k».proof.Proof.S13Rows

@[expose] public section

set_option maxRecDepth 16384

noncomputable section

namespace Cert.Reference13Ideal.Rows

open Cert.Reference13Ideal Cert.Reference13Ideal.Read Idealize.ShloMosaic Cert.Kernel13Ideal.Proj

/-! What the reference computes past the first layer, row by row. -/

variable (x0 : (⟨S128x8x1024, .f32⟩ : BufTy).Contents (Elt Ideal)) (x1 : (⟨S1024, .f32⟩ : BufTy).Contents (Elt Ideal))
  (x2 : (⟨S1024x6144, .f32⟩ : BufTy).Contents (Elt Ideal)) (x3 : (⟨S2048, .f32⟩ : BufTy).Contents (Elt Ideal))
  (x4 : (⟨S16x128x128, .f32⟩ : BufTy).Contents (Elt Ideal)) (x5 : (⟨S16x128, .f32⟩ : BufTy).Contents (Elt Ideal))
  (x6 : (⟨S2048x1024, .f32⟩ : BufTy).Contents (Elt Ideal)) (x7 : (⟨S1024, .f32⟩ : BufTy).Contents (Elt Ideal))
  (x8 : (⟨S1024x4096, .f32⟩ : BufTy).Contents (Elt Ideal)) (x9 : (⟨S64, .f32⟩ : BufTy).Contents (Elt Ideal))

/-- The first layer's result at a flattened row is what the first call's array holds. -/
theorem y_flat (r : Fin 1024) (k : Fin 1024) : val_main_v73 (F := Ideal) x0 x1 x2 x3 x4 x5 x6 (ix3 (n0 := 128) (n1 := 8) (n2 := 1024) ⟨(r : ℕ) / 8, by omega⟩ ⟨(r : ℕ) % 8, by omega⟩ k)
    = Cert.Kernel13Ideal.Block.YA x0 x1 x2 x3 x4 x5 x6 (ix2 r k) := by
  rw [y_row]
  rfl

/-- The normed rows of the first layer's result. -/
theorem norm2_row (b : Fin 128) (t : Fin 8) (k : Fin 1024) :
    val_main_v86 (F := Ideal) x0 x1 x2 x3 x4 x5 x6 x7 (ix3 b t k) = Gmlp.hrow (fun k => val_main_v73 (F := Ideal) x0 x1 x2 x3 x4 x5 x6 (ix3 b t k)) (fun k => x7 (ix1 k)) k := by
  simp only [val_main_v86_apply, val_main_v83_apply, val_main_v82_apply, val_main_v81_apply, val_main_v80_apply, val_main_v79_apply, val_main_v78_apply, val_main_v77_apply, val_main_v76_apply, val_main_v75_apply, val_main_v74_apply, val_main_cst_14_apply, val_main_cst_15_apply, val_main_cst_16_apply,
    val_main_v84_apply, val_main_v85_apply]
  have ex : ∀ i, val_main_v73 (F := Ideal) x0 x1 x2 x3 x4 x5 x6 (idx_main_v75 (idx_main_v76 (idx_main_v82 (ix3 b t k))) i) = val_main_v73 (F := Ideal) x0 x1 x2 x3 x4 x5 x6 (ix3 b t i) :=
    fun i => congrArg (val_main_v73 (F := Ideal) x0 x1 x2 x3 x4 x5 x6) (eq_ix3 _)
  have eg : x7 (idx_main_v84 (idx_main_v85 (ix3 b t k))) = x7 (ix1 k) := congrArg x7 (eq_ix1 _)
  simp only [ex, eg]
  generalize val_main_v73 (F := Ideal) x0 x1 x2 x3 x4 x5 x6 = Y
  pointwise
  rfl

/-- The projection of those rows, at a flattened row. -/
theorem proj2_row (r : Fin 1024) (j : Fin 4096) :
    val_main_v87 (F := Ideal) x0 x1 x2 x3 x4 x5 x6 x7 x8 (ix3 (n0 := 128) (n1 := 8) (n2 := 4096) ⟨(r : ℕ) / 8, by omega⟩ ⟨(r : ℕ) % 8, by omega⟩ j)
      = linA (Cert.Kernel13Ideal.Block.YA x0 x1 x2 x3 x4 x5 x6) x7 x8 r j := by
  rw [val_main_v87_apply]
  unfold linA
  refine Finset.sum_congr rfl fun k _ => congrArg₂ (· * ·) ?_ ?_
  · refine (congrArg (val_main_v86 (F := Ideal) x0 x1 x2 x3 x4 x5 x6 x7) (eq_ix3 _)).trans ((norm2_row x0 x1 x2 x3 x4 x5 x6 x7 _ _ k).trans ?_)
    exact congrArg (fun X => Gmlp.hrow X (fun k => x7 (ix1 k)) k) (funext fun k => y_flat x0 x1 x2 x3 x4 x5 x6 r k)
  · exact congrArg x8 (eq_ix2 _)

/-- A part's key columns of the projection. -/
theorem k2_at (r : Fin 1024) (j : Fin 1024) (i : Fin 64) :
    val_main_v92 (F := Ideal) x0 x1 x2 x3 x4 x5 x6 x7 x8 (ix5 (n0 := 128) (n1 := 8) (n2 := 8) (n3 := 2) (n4 := 64) ⟨(r : ℕ) / 8, by omega⟩ ⟨(r : ℕ) % 8, by omega⟩ ⟨(j : ℕ) / 128, by omega⟩ ⟨(j : ℕ) / 64 % 2, by omega⟩ i)
      = linA (Cert.Kernel13Ideal.Block.YA x0 x1 x2 x3 x4 x5 x6) x7 x8 r ⟨1024 + (64 * ((j : ℕ) / 64) + i), by omega⟩ := by
  have hr := r.isLt
  have hj := j.isLt
  have hi := i.isLt
  have e : idx_main_v89 (idx_main_v92 (ix5 (n0 := 128) (n1 := 8) (n2 := 8) (n3 := 2) (n4 := 64) ⟨(r : ℕ) / 8, by omega⟩ ⟨(r : ℕ) % 8, by omega⟩ ⟨(j : ℕ) / 128, by omega⟩ ⟨(j : ℕ) / 64 % 2, by omega⟩ i))
      = ix3 (n0 := 128) (n1 := 8) (n2 := 4096) ⟨(r : ℕ) / 8, by omega⟩ ⟨(r : ℕ) % 8, by omega⟩ ⟨1024 + (64 * ((j : ℕ) / 64) + i), by omega⟩ := by
    funext a
    refine Fin.ext ?_
    match a with
    | ⟨0, _⟩ => show (((((r : ℕ) / 8 * 8 + (r : ℕ) % 8) * 8 + (j : ℕ) / 128) * 2 + (j : ℕ) / 64 % 2) * 64 + (i : ℕ)) / 8192 = (r : ℕ) / 8; omega
    | ⟨1, _⟩ => show (((((r : ℕ) / 8 * 8 + (r : ℕ) % 8) * 8 + (j : ℕ) / 128) * 2 + (j : ℕ) / 64 % 2) * 64 + (i : ℕ)) / 1024 % 8 = (r : ℕ) % 8; omega
    | ⟨2, _⟩ => show 1024 + (((((r : ℕ) / 8 * 8 + (r : ℕ) % 8) * 8 + (j : ℕ) / 128) * 2 + (j : ℕ) / 64 % 2) * 64 + (i : ℕ)) % 1024 = 1024 + (64 * ((j : ℕ) / 64) + (i : ℕ)); omega
  rw [val_main_v92_apply, val_main_v89_apply, e, proj2_row]

/-- The keys. -/
theorem k2_row (r : Fin 1024) (j : Fin 1024) :
    val_main_v105 (F := Ideal) x0 x1 x2 x3 x4 x5 x6 x7 x8 x9 (ix5 (n0 := 128) (n1 := 8) (n2 := 8) (n3 := 2) (n4 := 64) ⟨(r : ℕ) / 8, by omega⟩ ⟨(r : ℕ) % 8, by omega⟩ ⟨(j : ℕ) / 128, by omega⟩ ⟨(j : ℕ) / 64 % 2, by omega⟩ ⟨(j : ℕ) % 64, by omega⟩) = PA (Cert.Kernel13Ideal.Block.YA x0 x1 x2 x3 x4 x5 x6) x7 x8 x9 (ix2 (n0 := 1024) (n1 := 1024) r j) := by
  have hr := r.isLt
  have hj := j.isLt
  simp only [val_main_v105_apply, val_main_v104_apply, val_main_v103_apply, val_main_v102_apply, val_main_v101_apply, val_main_v100_apply, val_main_v99_apply, val_main_v98_apply, val_main_v97_apply, val_main_v96_apply, val_main_v95_apply, val_main_v94_apply, val_main_v93_apply, val_main_cst_17_apply, val_main_cst_18_apply, val_main_cst_19_apply]
  have es : ∀ i : Fin 64, val_main_v92 (F := Ideal) x0 x1 x2 x3 x4 x5 x6 x7 x8 (idx_main_v94 (idx_main_v95 (idx_main_v101 (ix5 (n0 := 128) (n1 := 8) (n2 := 8) (n3 := 2) (n4 := 64) ⟨(r : ℕ) / 8, by omega⟩ ⟨(r : ℕ) % 8, by omega⟩ ⟨(j : ℕ) / 128, by omega⟩ ⟨(j : ℕ) / 64 % 2, by omega⟩ ⟨(j : ℕ) % 64, by omega⟩))) i)
      = linA (Cert.Kernel13Ideal.Block.YA x0 x1 x2 x3 x4 x5 x6) x7 x8 r ⟨1024 + (64 * ((j : ℕ) / 64) + i), by omega⟩ := fun i =>
    (congrArg (val_main_v92 (F := Ideal) x0 x1 x2 x3 x4 x5 x6 x7 x8) (eq_ix5 _)).trans (k2_at x0 x1 x2 x3 x4 x5 x6 x7 x8 r j i)
  have eg : x9 (idx_main_v103 (idx_main_v104 (ix5 (n0 := 128) (n1 := 8) (n2 := 8) (n3 := 2) (n4 := 64) ⟨(r : ℕ) / 8, by omega⟩ ⟨(r : ℕ) % 8, by omega⟩ ⟨(j : ℕ) / 128, by omega⟩ ⟨(j : ℕ) / 64 % 2, by omega⟩ ⟨(j : ℕ) % 64, by omega⟩))) = x9 (ix1 ⟨(j : ℕ) % 64, by omega⟩) := congrArg x9 (eq_ix1 _)
  have ej : 64 * ((j : ℕ) / 64) + (j : ℕ) % 64 = j := by omega
  simp only [es, eg, k2_at, ej]
  simp only [PA, ix2_0, ix2_1, Cert.Kernel11Ideal.Proj.partA]
  pointwise
  try rw [mul_assoc]
  try rfl

/-- The reference's keys. -/
theorem ref_eq : val_main_v106 (F := Ideal) x0 x1 x2 x3 x4 x5 x6 x7 x8 x9 = PA (Cert.Kernel13Ideal.Block.YA x0 x1 x2 x3 x4 x5 x6) x7 x8 x9 := by
  funext i
  obtain ⟨r, j, rfl⟩ : ∃ (r : Fin 1024) (j : Fin 1024), i = ix2 r j := ⟨i 0, i 1, eq_ix2 _⟩
  have hr := r.isLt
  have hj := j.isLt
  have e : idx_main_v106 (ix2 r j) = (ix5 (n0 := 128) (n1 := 8) (n2 := 8) (n3 := 2) (n4 := 64) ⟨(r : ℕ) / 8, by omega⟩ ⟨(r : ℕ) % 8, by omega⟩ ⟨(j : ℕ) / 128, by omega⟩ ⟨(j : ℕ) / 64 % 2, by omega⟩ ⟨(j : ℕ) % 64, by omega⟩) := by
    funext a
    refine Fin.ext ?_
    match a with
    | ⟨0, _⟩ => show ((r : ℕ) * 1024 + (j : ℕ)) / 8192 = (r : ℕ) / 8; omega
    | ⟨1, _⟩ => show ((r : ℕ) * 1024 + (j : ℕ)) / 1024 % 8 = (r : ℕ) % 8; omega
    | ⟨2, _⟩ => show ((r : ℕ) * 1024 + (j : ℕ)) / 128 % 8 = (j : ℕ) / 128; omega
    | ⟨3, _⟩ => show ((r : ℕ) * 1024 + (j : ℕ)) / 64 % 2 = (j : ℕ) / 64 % 2; omega
    | ⟨4, _⟩ => show ((r : ℕ) * 1024 + (j : ℕ)) % 64 = (j : ℕ) % 64; omega
  rw [val_main_v106_apply, e, k2_row]

end Cert.Reference13Ideal.Rows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Meet
public import proofs.«01_k».proof.Proof.Array
public import proofs.«01_k».proof.Proof.CQ
public import proofs.«01_k».proof.Proof.CV
public import proofs.«01_k».proof.Proof.CZ
public import proofs.«01_k».proof.Proof.CF
public import proofs.«01_k».proof.Proof.BF
public import proofs.«01_k».proof.Proof.SampleRef
public import proofs.«01_k».proof.Proof.BProj
public import proofs.«01_k».proof.Proof.CFg
public import proofs.«01_k».proof.Proof.JRun
public import proofs.«01_k».proof.Proof.JProj
public import proofs.«01_k».proof.Proof.S12Run
public import proofs.«01_k».proof.Proof.S12Ref
public import proofs.«01_k».proof.Proof.S13Run
public import proofs.«01_k».proof.Proof.S13Ref
public import Idealize.ShloMosaic.Adequacy
public import Idealize.ShloMosaic.Init

@[expose] public section

noncomputable section

namespace Cert.Proof

open Idealize.ShloMosaic Idealize.SL.Sem

/-- The idealized kernel and the reference end with one array: the gated spatial-mixing layer's result. -/
theorem value [hKernelIdeal : Cert.KernelIdeal.Facts] [hReferenceIdeal : Cert.ReferenceIdeal.Facts] : Cert.algebraic_KernelIdeal_ReferenceIdeal := by
  intro m g m' g' _ hagree
  refine ⟨fun c => Cert.KernelIdeal.Block.YA (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (Cert.KernelIdeal.Block.arr_eq m c), (h c).2⟩) (Cert.KernelIdeal.Value.run_blocks m g)
  · refine (θ_run Cert.ReferenceIdeal.defs _ _).mono (fun r h c => ⟨(h c).1.trans ?_, (h c).2⟩) (Cert.ReferenceIdeal.Value.run m' g')
    obtain ⟨h0, h1, h2, h3, h4, h5, h6⟩ := hagree c
    refine (Cert.ReferenceIdeal.Read.val_main_v72_eq _ _).trans ?_
    rw [Cert.Meet.ref_eq, h0, h1, h2, h3, h4, h5, h6]

/-- The reference of the first call runs and leaves its arguments and the counters as they were. -/
theorem ref_frame [hReferenceIdeal : Cert.ReferenceIdeal.Facts] : Cert.quiescent_ReferenceIdeal := by
  intro m ρ _
  exact (θ_run Cert.ReferenceIdeal.defs _ _).mono (fun r h => ⟨fun c => (h c).2, Idealize.ShloMosaic.sem_eq_zero_of_no_sems (by decide) r.2⟩)
    (Cert.ReferenceIdeal.Value.run m ρ)

/-- The idealized kernel and the reference end with one array: the recurrent layer's queries. -/
theorem value4 [hKernel4Ideal : Cert.Kernel4Ideal.Facts] [hReference4Ideal : Cert.Reference4Ideal.Facts] : Cert.algebraic_Kernel4Ideal_Reference4Ideal := by
  intro m g m' g' _ hagree
  refine ⟨fun c => Cert.Kernel4Ideal.Block.PA (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)), ?_, ?_⟩
  · exact (θ_run Cert.Kernel4Ideal.defs _ _).mono (fun r h c => ⟨(h c).1.trans (Cert.Kernel4Ideal.Block.arr_eq m c), (h c).2⟩) (Cert.Kernel4Ideal.Value.run_blocks m g)
  · refine (θ_run Cert.Reference4Ideal.defs _ _).mono (fun r h c => ⟨(h c).1.trans ?_, (h c).2⟩) (Cert.Reference4Ideal.Value.run m' g')
    obtain ⟨h0, h1, h2⟩ := hagree c
    refine (Cert.Reference4Ideal.Read.val_main_v19_eq _ _ _).trans ?_
    rw [Cert.Reference4Ideal.Rows.ref_eq, h0, h1, h2]

/-- The reference of call 4 runs and leaves its arguments and the counters as they were. -/
theorem ref_frame4 [hReference4Ideal : Cert.Reference4Ideal.Facts] : Cert.quiescent_Reference4Ideal := by
  intro m ρ _
  exact (θ_run Cert.Reference4Ideal.defs _ _).mono (fun r h => ⟨fun c => (h c).2, Idealize.ShloMosaic.sem_eq_zero_of_no_sems (by decide) r.2⟩)
    (Cert.Reference4Ideal.Value.run m ρ)

/-- The idealized kernel and the reference end with one array: the recurrent layer's values. -/
theorem value5 [hKernel5Ideal : Cert.Kernel5Ideal.Facts] [hReference5Ideal : Cert.Reference5Ideal.Facts] : Cert.algebraic_Kernel5Ideal_Reference5Ideal := by
  intro m g m' g' _ hagree
  refine ⟨fun c => Cert.Kernel5Ideal.Block.PA (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)), ?_, ?_⟩
  · exact (θ_run Cert.Kernel5Ideal.defs _ _).mono (fun r h c => ⟨(h c).1.trans (Cert.Kernel5Ideal.Block.arr_eq m c), (h c).2⟩) (Cert.Kernel5Ideal.Value.run_blocks m g)
  · refine (θ_run Cert.Reference5Ideal.defs _ _).mono (fun r h c => ⟨(h c).1.trans ?_, (h c).2⟩) (Cert.Reference5Ideal.Value.run m' g')
    obtain ⟨h0, h1, h2⟩ := hagree c
    refine (Cert.Reference5Ideal.Read.val_main_v16_eq _ _ _).trans ?_
    rw [Cert.Reference5Ideal.Rows.ref_eq, h0, h1, h2]

/-- The reference of call 5 runs and leaves its arguments and the counters as they were. -/
theorem ref_frame5 [hReference5Ideal : Cert.Reference5Ideal.Facts] : Cert.quiescent_Reference5Ideal := by
  intro m ρ _
  exact (θ_run Cert.Reference5Ideal.defs _ _).mono (fun r h => ⟨fun c => (h c).2, Idealize.ShloMosaic.sem_eq_zero_of_no_sems (by decide) r.2⟩)
    (Cert.Reference5Ideal.Value.run m ρ)

/-- The idealized kernel and the reference end with one array: the recurrent layer's gate. -/
theorem value6 [hKernel6Ideal : Cert.Kernel6Ideal.Facts] [hReference6Ideal : Cert.Reference6Ideal.Facts] : Cert.algebraic_Kernel6Ideal_Reference6Ideal := by
  intro m g m' g' _ hagree
  refine ⟨fun c => Cert.Kernel6Ideal.Block.PA (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)), ?_, ?_⟩
  · exact (θ_run Cert.Kernel6Ideal.defs _ _).mono (fun r h c => ⟨(h c).1.trans (Cert.Kernel6Ideal.Block.arr_eq m c), (h c).2⟩) (Cert.Kernel6Ideal.Value.run_blocks m g)
  · refine (θ_run Cert.Reference6Ideal.defs _ _).mono (fun r h c => ⟨(h c).1.trans ?_, (h c).2⟩) (Cert.Reference6Ideal.Value.run m' g')
    obtain ⟨h0, h1, h2⟩ := hagree c
    refine (Cert.Reference6Ideal.Read.val_main_v15_eq _ _ _).trans ?_
    rw [Cert.Reference6Ideal.Rows.ref_eq, h0, h1, h2]

/-- The reference of call 6 runs and leaves its arguments and the counters as they were. -/
theorem ref_frame6 [hReference6Ideal : Cert.Reference6Ideal.Facts] : Cert.quiescent_Reference6Ideal := by
  intro m ρ _
  exact (θ_run Cert.Reference6Ideal.defs _ _).mono (fun r h => ⟨fun c => (h c).2, Idealize.ShloMosaic.sem_eq_zero_of_no_sems (by decide) r.2⟩)
    (Cert.Reference6Ideal.Value.run m ρ)

/-- The idealized kernel and the reference end with one array: the recurrent layer's result. -/
theorem value7 [hKernel7Ideal : Cert.Kernel7Ideal.Facts] [hReference7Ideal : Cert.Reference7Ideal.Facts] : Cert.algebraic_Kernel7Ideal_Reference7Ideal := by
  intro m g m' g' _ hagree
  refine ⟨fun c => Cert.Kernel7Ideal.Block.PA (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)), ?_, ?_⟩
  · exact (θ_run Cert.Kernel7Ideal.defs _ _).mono (fun r h c => ⟨(h c).1.trans (Cert.Kernel7Ideal.Block.arr_eq m c), (h c).2⟩) (Cert.Kernel7Ideal.Value.run_blocks m g)
  · refine (θ_run Cert.Reference7Ideal.defs _ _).mono (fun r h c => ⟨(h c).1.trans ?_, (h c).2⟩) (Cert.Reference7Ideal.Value.run m' g')
    obtain ⟨h0, h1, h2, h3, h4⟩ := hagree c
    refine (Cert.Reference7Ideal.Read.val_main_v21_eq _ _ _ _ _).trans ?_
    rw [Cert.Reference7Ideal.Rows.ref_eq, h0, h1, h2, h3, h4]

/-- The reference of call 7 runs and leaves its arguments and the counters as they were. -/
theorem ref_frame7 [hReference7Ideal : Cert.Reference7Ideal.Facts] : Cert.quiescent_Reference7Ideal := by
  intro m ρ _
  exact (θ_run Cert.Reference7Ideal.defs _ _).mono (fun r h => ⟨fun c => (h c).2, Idealize.ShloMosaic.sem_eq_zero_of_no_sems (by decide) r.2⟩)
    (Cert.Reference7Ideal.Value.run m ρ)

/-- The idealized kernel and the reference end with one array: the attention layer's result. -/
theorem value8 [hKernel8Ideal : Cert.Kernel8Ideal.Facts] [hReference8Ideal : Cert.Reference8Ideal.Facts] : Cert.algebraic_Kernel8Ideal_Reference8Ideal := by
  intro m g m' g' _ hagree
  refine ⟨fun c => Cert.Kernel8Ideal.Block.PA (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)), ?_, ?_⟩
  · exact (θ_run Cert.Kernel8Ideal.defs _ _).mono (fun r h c => ⟨(h c).1.trans (Cert.Kernel8Ideal.Block.arr_eq m c), (h c).2⟩) (Cert.Kernel8Ideal.Value.run_blocks m g)
  · refine (θ_run Cert.Reference8Ideal.defs _ _).mono (fun r h c => ⟨(h c).1.trans ?_, (h c).2⟩) (Cert.Reference8Ideal.Value.run m' g')
    obtain ⟨h0, h1, h2, h3, h4⟩ := hagree c
    refine (Cert.Reference8Ideal.Read.val_main_v22_eq _ _ _ _ _).trans ?_
    rw [Cert.Reference8Ideal.Rows.ref_eq, h0, h1, h2, h3, h4]

/-- The reference of call 8 runs and leaves its arguments and the counters as they were. -/
theorem ref_frame8 [hReference8Ideal : Cert.Reference8Ideal.Facts] : Cert.quiescent_Reference8Ideal := by
  intro m ρ _
  exact (θ_run Cert.Reference8Ideal.defs _ _).mono (fun r h => ⟨fun c => (h c).2, Idealize.ShloMosaic.sem_eq_zero_of_no_sems (by decide) r.2⟩)
    (Cert.Reference8Ideal.Value.run m ρ)

/-- The reference of call 9 runs and leaves its arguments and the counters as they were. -/
theorem ref_frame9 [hReference9Ideal : Cert.Reference9Ideal.Facts] : Cert.quiescent_Reference9Ideal := by
  intro m ρ _
  exact (θ_run Cert.Reference9Ideal.defs _ _).mono (fun r h => ⟨fun c => (h c).2.2, Idealize.ShloMosaic.sem_eq_zero_of_no_sems (by decide) r.2⟩)
    (Cert.Reference9Ideal.Value.run m ρ)

/-- The reference of call 3 runs and leaves its arguments and the counters as they were. -/
theorem ref_frame3 [hReference3Ideal : Cert.Reference3Ideal.Facts] : Cert.quiescent_Reference3Ideal := by
  intro m ρ _
  exact (θ_run Cert.Reference3Ideal.defs _ _).mono (fun r h => ⟨fun c => (h c).2.2.2.2.2.2, Idealize.ShloMosaic.sem_eq_zero_of_no_sems (by decide) r.2⟩)
    (Cert.Reference3Ideal.Value.run m ρ)

/-- The reference of call 10 runs and leaves its arguments and the counters as they were. -/
theorem ref_frame10 [hReference10Ideal : Cert.Reference10Ideal.Facts] : Cert.quiescent_Reference10Ideal := by
  intro m ρ _
  exact (θ_run Cert.Reference10Ideal.defs _ _).mono (fun r h => ⟨fun c => (h c).2.2, Idealize.ShloMosaic.sem_eq_zero_of_no_sems (by decide) r.2⟩)
    (Cert.Reference10Ideal.Value.run m ρ)

/-- The reference of call 11 runs and leaves its arguments and the counters as they were. -/
theorem ref_frame11 [hReference11Ideal : Cert.Reference11Ideal.Facts] : Cert.quiescent_Reference11Ideal := by
  intro m ρ _
  exact (θ_run Cert.Reference11Ideal.defs _ _).mono (fun r h => ⟨fun c => (h c).2.2, Idealize.ShloMosaic.sem_eq_zero_of_no_sems (by decide) r.2⟩)
    (Cert.Reference11Ideal.Value.run m ρ)

/-- The reference of call 12 runs and leaves its arguments and the counters as they were. -/
theorem ref_frame12 [hReference12Ideal : Cert.Reference12Ideal.Facts] : Cert.quiescent_Reference12Ideal := by
  intro m ρ _
  exact (θ_run Cert.Reference12Ideal.defs _ _).mono (fun r h => ⟨fun c => (h c).2, Idealize.ShloMosaic.sem_eq_zero_of_no_sems (by decide) r.2⟩)
    (Cert.Reference12Ideal.Value.run m ρ)

/-- The reference of call 13 runs and leaves its arguments and the counters as they were. -/
theorem ref_frame13 [hReference13Ideal : Cert.Reference13Ideal.Facts] : Cert.quiescent_Reference13Ideal := by
  intro m ρ _
  exact (θ_run Cert.Reference13Ideal.defs _ _).mono (fun r h => ⟨fun c => (h c).2, Idealize.ShloMosaic.sem_eq_zero_of_no_sems (by decide) r.2⟩)
    (Cert.Reference13Ideal.Value.run m ρ)

/-- The idealized kernel and the reference of the sample batch's layer end with the same two arrays: the layer's result and its normed values. -/
theorem value9 [hKernel9Ideal : Cert.Kernel9Ideal.Facts] [hReference9Ideal : Cert.Reference9Ideal.Facts] : Cert.algebraic_Kernel9Ideal_Reference9Ideal := by
  intro m g m' g' _ hagree
  refine ⟨fun c => Cert.Kernel9Ideal.Block.YA (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6)), fun c => Cert.Kernel9Ideal.Block.VA (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)), ?_, ?_⟩
  · exact (θ_run Cert.Kernel9Ideal.defs _ _).mono (fun r h c => ⟨(h c).1.trans (Cert.Kernel9Ideal.Block.arr_eq m c),
      (h c).2.1.trans (Cert.Kernel9Ideal.Block.varr_eq m c), (h c).2.2⟩) (Cert.Kernel9Ideal.Value.run_blocks m g)
  · refine (θ_run Cert.Reference9Ideal.defs _ _).mono (fun r h c => ⟨(h c).1.trans ?_, (h c).2.1.trans ?_, (h c).2.2⟩) (Cert.Reference9Ideal.Value.run m' g')
    · obtain ⟨h0, h1, h2, h3, h4, h5, h6⟩ := hagree c
      refine (Cert.Reference9Ideal.Read.val_main_v74_eq _ _).trans ?_
      rw [Cert.Reference9Ideal.Rows.ref_eq, h0, h1, h2, h3, h4, h5, h6]
    · obtain ⟨h0, h1, h2, h3, h4, h5, h6⟩ := hagree c
      refine (Cert.Reference9Ideal.Read.val_main_v75_eq _ _).trans ?_
      rw [Cert.Reference9Ideal.Rows.vref_eq, h0, h1, h2, h3]

/-- The idealized kernel and the reference of the attention layer's projection end with the same six arrays: keys, values, gate, transposed
    queries, the keys' copy and transposed values. -/
theorem value3 [hKernel3Ideal : Cert.Kernel3Ideal.Facts] [hReference3Ideal : Cert.Reference3Ideal.Facts] : Cert.algebraic_Kernel3Ideal_Reference3Ideal := by
  intro m g m' g' _ hagree
  refine ⟨fun c => Cert.Kernel3Ideal.Block.RA (Cert.Kernel3Ideal.Block.KF (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg4))),
    fun c => Cert.Kernel3Ideal.Block.RA (Cert.Kernel3Ideal.Block.VF (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))),
    fun c => Cert.Kernel3Ideal.Block.RA (Cert.Kernel3Ideal.Block.ZF (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))),
    fun c => Cert.Kernel3Ideal.Block.TA (Cert.Kernel3Ideal.Block.QF (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))),
    fun c => Cert.Kernel3Ideal.Block.RA (Cert.Kernel3Ideal.Block.KF (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg4))),
    fun c => Cert.Kernel3Ideal.Block.TA (Cert.Kernel3Ideal.Block.VF (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))),
    ?_, ?_⟩
  · exact (θ_run Cert.Kernel3Ideal.defs _ _).mono (fun r h c => ⟨(h c).1.trans (Cert.Kernel3Ideal.Block.arr6_eq m c), (h c).2.1.trans (Cert.Kernel3Ideal.Block.arr7_eq m c), (h c).2.2.1.trans (Cert.Kernel3Ideal.Block.arr8_eq m c), (h c).2.2.2.1.trans (Cert.Kernel3Ideal.Block.arr9_eq m c), (h c).2.2.2.2.1.trans (Cert.Kernel3Ideal.Block.arr10_eq m c), (h c).2.2.2.2.2.1.trans (Cert.Kernel3Ideal.Block.arr11_eq m c), (h c).2.2.2.2.2.2⟩) (Cert.Kernel3Ideal.Value.run_blocks m g)
  · refine (θ_run Cert.Reference3Ideal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.Reference3Ideal.Value.run m' g')
    · obtain ⟨h0, h1, h2, h3, h4⟩ := hagree c
      refine (Cert.Reference3Ideal.Read.val_main_v55_eq _ _ _ _).trans ?_
      rw [Cert.Reference3Ideal.Rows.k_eq, h0, h1, h2, h4]
    · obtain ⟨h0, h1, h2, h3, h4⟩ := hagree c
      refine (Cert.Reference3Ideal.Read.val_main_v56_eq _ _ _).trans ?_
      rw [Cert.Reference3Ideal.Rows.v_eq, h0, h1, h2]
    · obtain ⟨h0, h1, h2, h3, h4⟩ := hagree c
      refine (Cert.Reference3Ideal.Read.val_main_v57_eq _ _ _).trans ?_
      rw [Cert.Reference3Ideal.Rows.z_eq, h0, h1, h2]
    · obtain ⟨h0, h1, h2, h3, h4⟩ := hagree c
      refine (Cert.Reference3Ideal.Read.val_main_v51_eq _ _ _ _).trans ?_
      rw [Cert.Reference3Ideal.Rows.qt_eq, h0, h1, h2, h3]
    · obtain ⟨h0, h1, h2, h3, h4⟩ := hagree c
      refine (Cert.Reference3Ideal.Read.val_main_v58_eq _ _ _ _).trans ?_
      rw [Cert.Reference3Ideal.Rows.kb_eq, h0, h1, h2, h4]
    · obtain ⟨h0, h1, h2, h3, h4⟩ := hagree c
      refine (Cert.Reference3Ideal.Read.val_main_v54_eq _ _ _).trans ?_
      rw [Cert.Reference3Ideal.Rows.vt_eq, h0, h1, h2]

/-- Where the lower bounds' weights are finite, the idealized kernel and the reference of the recurrent layer's keys and forget gates end with
    the same two arrays. -/
theorem value10 [hKernel10Ideal : Cert.Kernel10Ideal.Facts] [hReference10Ideal : Cert.Reference10Ideal.Facts] [hPre_lb_finite : Cert.Pre_lb_finite.Facts] : Cert.algebraic_Kernel10Ideal_Reference10Ideal_pre_lb_finite := by
  intro m g m' g' hpre hagree
  refine ⟨fun c => Cert.Kernel10Ideal.Block.KA (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)), fun c => Cert.Kernel10Ideal.Block.GA (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)), ?_, ?_⟩
  · exact (θ_run Cert.Kernel10Ideal.defs _ _).mono (fun r h c => ⟨(h c).1.trans (Cert.Kernel10Ideal.Block.arr4_eq m c),
      (h c).2.1.trans (Cert.Kernel10Ideal.Block.arr5_eq m c), (h c).2.2⟩) (Cert.Kernel10Ideal.Value.run_blocks m g)
  · refine (θ_run Cert.Reference10Ideal.defs _ _).mono (fun r h c => ⟨(h c).1.trans ?_, (h c).2.1.trans ?_, (h c).2.2⟩) (Cert.Reference10Ideal.Value.run m' g')
    · obtain ⟨h0, h1, h2, h3⟩ := hagree c
      refine (Cert.Reference10Ideal.Read.val_main_v68_eq _ _).trans ?_
      rw [h0, h1, h2, h3]
      exact Cert.Reference10Ideal.Rows.ref_eq _ _ _ _ (Cert.Reference10Ideal.Rows.weights _ _ _ _ (hpre c))
    · obtain ⟨h0, h1, h2, h3⟩ := hagree c
      refine (Cert.Reference10Ideal.Read.val_main_v70_eq _ _).trans ?_
      rw [h0, h1, h2, h3]
      exact Cert.Reference10Ideal.Rows.gref_eq _ _ _ _ (Cert.Reference10Ideal.Rows.weights _ _ _ _ (hpre c))

/-- The two joined calls and the reference end with the same two arrays: the keys and the values the attention layer makes of the first
    layer's result. -/
theorem value11 [hKernel11Ideal : Cert.Kernel11Ideal.Facts] [hReference11Ideal : Cert.Reference11Ideal.Facts] : Cert.algebraic_Kernel11Ideal_Reference11Ideal := by
  intro m g m' g' _ hagree
  refine ⟨fun c => Cert.Kernel11Ideal.Proj.RA (Cert.Kernel11Ideal.Proj.KF (Cert.Kernel11Ideal.Proj.yA m c) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg10))), fun c => Cert.Kernel11Ideal.Proj.RA (Cert.Kernel11Ideal.Proj.VF (Cert.Kernel11Ideal.Proj.yA m c) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg8))), ?_, ?_⟩
  · exact Cert.Kernel11Ideal.Proj.run m g
  · refine (θ_run Cert.Reference11Ideal.defs _ _).mono (fun r h c => ⟨(h c).1.trans ?_, (h c).2.1.trans ?_, (h c).2.2⟩) (Cert.Reference11Ideal.Value.run m' g')
    · obtain ⟨h0, h1, h2, h3, h4, h5, h6, h7, h8, _, h10⟩ := hagree c
      refine (Cert.Reference11Ideal.Read.val_main_v119_eq _).trans ((Cert.Reference11Ideal.Rows.k_eq _ _ _ _ _ _ _ _ _ _).trans ?_)
      show Cert.Kernel11Ideal.Proj.RA (Cert.Kernel11Ideal.Proj.KF (Cert.Kernel11Ideal.Block.YA (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) (m' ((c.tc : Thread Cert.Reference11Ideal.nD Cert.Reference11Ideal.τ).loc Cert.Reference11Ideal.main_arg5)) (m' ((c.tc : Thread Cert.Reference11Ideal.nD Cert.Reference11Ideal.τ).loc Cert.Reference11Ideal.main_arg6))) (m' ((c.tc : Thread Cert.Reference11Ideal.nD Cert.Reference11Ideal.τ).loc Cert.Reference11Ideal.main_arg7)) (m' ((c.tc : Thread Cert.Reference11Ideal.nD Cert.Reference11Ideal.τ).loc Cert.Reference11Ideal.main_arg8)) (m' ((c.tc : Thread Cert.Reference11Ideal.nD Cert.Reference11Ideal.τ).loc Cert.Reference11Ideal.main_arg10))) = _
      rw [h0, h1, h2, h3, h4, h5, h6, h7, h8, h10]
      rfl
    · obtain ⟨h0, h1, h2, h3, h4, h5, h6, h7, h8, _, h10⟩ := hagree c
      refine (Cert.Reference11Ideal.Read.val_main_v120_eq _).trans ((Cert.Reference11Ideal.Rows.v_eq _ _ _ _ _ _ _ _ _).trans ?_)
      show Cert.Kernel11Ideal.Proj.RA (Cert.Kernel11Ideal.Proj.VF (Cert.Kernel11Ideal.Block.YA (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg1)) (m' ((c.tc : Thread Cert.Reference11Ideal.nD Cert.Reference11Ideal.τ).loc Cert.Reference11Ideal.main_arg2)) (m' ((c.tc : Thread Cert.Reference11Ideal.nD Cert.Reference11Ideal.τ).loc Cert.Reference11Ideal.main_arg3)) (m' ((c.tc : Thread Cert.Reference11Ideal.nD Cert.Reference11Ideal.τ).loc Cert.Reference11Ideal.main_arg4)) (m' ((c.tc : Thread Cert.Reference11Ideal.nD Cert.Reference11Ideal.τ).loc Cert.Reference11Ideal.main_arg5)) (m' ((c.tc : Thread Cert.Reference11Ideal.nD Cert.Reference11Ideal.τ).loc Cert.Reference11Ideal.main_arg6))) (m' ((c.tc : Thread Cert.Reference11Ideal.nD Cert.Reference11Ideal.τ).loc Cert.Reference11Ideal.main_arg7)) (m' ((c.tc : Thread Cert.Reference11Ideal.nD Cert.Reference11Ideal.τ).loc Cert.Reference11Ideal.main_arg8))) = _
      rw [h0, h1, h2, h3, h4, h5, h6, h7, h8]
      rfl

/-- The two joined calls on the sample and the reference end with one array: the values the attention layer makes of the first
    layer's result. -/
theorem value12 [hKernel12Ideal : Cert.Kernel12Ideal.Facts] [hReference12Ideal : Cert.Reference12Ideal.Facts] : Cert.algebraic_Kernel12Ideal_Reference12Ideal := by
  intro m g m' g' _ hagree
  refine ⟨fun c => Cert.Kernel12Ideal.Proj.PA (Cert.Kernel12Ideal.Proj.yA m c) (m ((c.tc : Thread Cert.Kernel12Ideal.nD Cert.Kernel12Ideal.τ).loc Cert.Kernel12Ideal.main_arg7)) (m ((c.tc : Thread Cert.Kernel12Ideal.nD Cert.Kernel12Ideal.τ).loc Cert.Kernel12Ideal.main_arg8)), ?_, ?_⟩
  · exact Cert.Kernel12Ideal.Proj.run m g
  · refine (θ_run Cert.Reference12Ideal.defs _ _).mono (fun r h c => ⟨(h c).1.trans ?_, (h c).2⟩) (Cert.Reference12Ideal.Value.run m' g')
    obtain ⟨h0, h1, h2, h3, h4, h5, h6, h7, h8⟩ := hagree c
    refine (Cert.Reference12Ideal.Read.val_main_v93_eq _ _).trans ((Cert.Reference12Ideal.Rows.ref_eq _ _ _ _ _ _ _ _ _).trans ?_)
    show Cert.Kernel12Ideal.Proj.PA (Cert.Kernel12Ideal.Block.YA (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg1)) (m' ((c.tc : Thread Cert.Reference12Ideal.nD Cert.Reference12Ideal.τ).loc Cert.Reference12Ideal.main_arg2)) (m' ((c.tc : Thread Cert.Reference12Ideal.nD Cert.Reference12Ideal.τ).loc Cert.Reference12Ideal.main_arg3)) (m' ((c.tc : Thread Cert.Reference12Ideal.nD Cert.Reference12Ideal.τ).loc Cert.Reference12Ideal.main_arg4)) (m' ((c.tc : Thread Cert.Reference12Ideal.nD Cert.Reference12Ideal.τ).loc Cert.Reference12Ideal.main_arg5)) (m' ((c.tc : Thread Cert.Reference12Ideal.nD Cert.Reference12Ideal.τ).loc Cert.Reference12Ideal.main_arg6))) (m' ((c.tc : Thread Cert.Reference12Ideal.nD Cert.Reference12Ideal.τ).loc Cert.Reference12Ideal.main_arg7)) (m' ((c.tc : Thread Cert.Reference12Ideal.nD Cert.Reference12Ideal.τ).loc Cert.Reference12Ideal.main_arg8)) = _
    rw [h0, h1, h2, h3, h4, h5, h6, h7, h8]
    rfl

/-- The two joined calls on the sample and the reference end with one array: the keys the attention layer makes of the first
    layer's result. -/
theorem value13 [hKernel13Ideal : Cert.Kernel13Ideal.Facts] [hReference13Ideal : Cert.Reference13Ideal.Facts] : Cert.algebraic_Kernel13Ideal_Reference13Ideal := by
  intro m g m' g' _ hagree
  refine ⟨fun c => Cert.Kernel13Ideal.Proj.PA (Cert.Kernel13Ideal.Proj.yA m c) (m ((c.tc : Thread Cert.Kernel13Ideal.nD Cert.Kernel13Ideal.τ).loc Cert.Kernel13Ideal.main_arg7)) (m ((c.tc : Thread Cert.Kernel13Ideal.nD Cert.Kernel13Ideal.τ).loc Cert.Kernel13Ideal.main_arg8)) (m ((c.tc : Thread Cert.Kernel13Ideal.nD Cert.Kernel13Ideal.τ).loc Cert.Kernel13Ideal.main_arg9)), ?_, ?_⟩
  · exact Cert.Kernel13Ideal.Proj.run m g
  · refine (θ_run Cert.Reference13Ideal.defs _ _).mono (fun r h c => ⟨(h c).1.trans ?_, (h c).2⟩) (Cert.Reference13Ideal.Value.run m' g')
    obtain ⟨h0, h1, h2, h3, h4, h5, h6, h7, h8, h9⟩ := hagree c
    refine (Cert.Reference13Ideal.Read.val_main_v106_eq _).trans ((Cert.Reference13Ideal.Rows.ref_eq _ _ _ _ _ _ _ _ _ _).trans ?_)
    show Cert.Kernel13Ideal.Proj.PA (Cert.Kernel13Ideal.Block.YA (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) (m' ((c.tc : Thread Cert.Reference13Ideal.nD Cert.Reference13Ideal.τ).loc Cert.Reference13Ideal.main_arg2)) (m' ((c.tc : Thread Cert.Reference13Ideal.nD Cert.Reference13Ideal.τ).loc Cert.Reference13Ideal.main_arg3)) (m' ((c.tc : Thread Cert.Reference13Ideal.nD Cert.Reference13Ideal.τ).loc Cert.Reference13Ideal.main_arg4)) (m' ((c.tc : Thread Cert.Reference13Ideal.nD Cert.Reference13Ideal.τ).loc Cert.Reference13Ideal.main_arg5)) (m' ((c.tc : Thread Cert.Reference13Ideal.nD Cert.Reference13Ideal.τ).loc Cert.Reference13Ideal.main_arg6))) (m' ((c.tc : Thread Cert.Reference13Ideal.nD Cert.Reference13Ideal.τ).loc Cert.Reference13Ideal.main_arg7)) (m' ((c.tc : Thread Cert.Reference13Ideal.nD Cert.Reference13Ideal.τ).loc Cert.Reference13Ideal.main_arg8)) (m' ((c.tc : Thread Cert.Reference13Ideal.nD Cert.Reference13Ideal.τ).loc Cert.Reference13Ideal.main_arg9)) = _
    rw [h0, h1, h2, h3, h4, h5, h6, h7, h8, h9]
    rfl

/-- Every claim: each program and its idealization leave what they were given as it was, the idealization rewrites only what it
    states, and each idealized kernel computes its reference. -/
theorem claim : Cert.Claim := ⟨Cert.Kernel.Gen.facts, Cert.KernelIdeal.Gen.facts, Cert.ReferenceIdeal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel3.Gen.facts, Cert.Kernel3Ideal.Gen.facts, Cert.Reference3Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Reference10Ideal.Rows.pre_facts,
  fun m ρ _ => Cert.Kernel.Gen.frame m ρ, fun m ρ _ => Cert.KernelIdeal.Gen.frame m ρ, ref_frame,
  fun m ρ _ => Cert.Kernel4.Gen.frame m ρ, fun m ρ _ => Cert.Kernel4Ideal.Gen.frame m ρ, ref_frame4,
  fun m ρ _ => Cert.Kernel5.Gen.frame m ρ, fun m ρ _ => Cert.Kernel5Ideal.Gen.frame m ρ, ref_frame5,
  fun m ρ _ => Cert.Kernel6.Gen.frame m ρ, fun m ρ _ => Cert.Kernel6Ideal.Gen.frame m ρ, ref_frame6,
  fun m ρ _ => Cert.Kernel7.Gen.frame m ρ, fun m ρ _ => Cert.Kernel7Ideal.Gen.frame m ρ, ref_frame7,
  fun m ρ _ => Cert.Kernel8.Gen.frame m ρ, fun m ρ _ => Cert.Kernel8Ideal.Gen.frame m ρ, ref_frame8,
  fun m ρ _ => Cert.Kernel9.Gen.frame m ρ, fun m ρ _ => Cert.Kernel9Ideal.Gen.frame m ρ, ref_frame9,
  fun m ρ _ => Cert.Kernel3.Gen.frame m ρ, fun m ρ _ => Cert.Kernel3Ideal.Gen.frame m ρ, ref_frame3,
  fun m ρ _ => Cert.Kernel10.Gen.frame m ρ, fun m ρ _ => Cert.Kernel10Ideal.Gen.frame m ρ, fun m ρ _ => Cert.Kernel10Ideal.Gen.frame m ρ, ref_frame10, fun m ρ _ => ref_frame10 m ρ trivial,
  fun m ρ _ => Cert.Kernel11.Gen.frame m ρ, fun m ρ _ => Cert.Kernel11Ideal.Gen.frame m ρ, ref_frame11,
  fun m ρ _ => Cert.Kernel12.Gen.frame m ρ, fun m ρ _ => Cert.Kernel12Ideal.Gen.frame m ρ, ref_frame12,
  fun m ρ _ => Cert.Kernel13.Gen.frame m ρ, fun m ρ _ => Cert.Kernel13Ideal.Gen.frame m ρ, ref_frame13,
  trivial, value,
  trivial, value4,
  trivial, value5,
  trivial, value6,
  trivial, value7,
  trivial, value8,
  trivial, value9,
  trivial, value3,
  trivial, value10,
  trivial, value11,
  trivial, value12,
  trivial, value13⟩

end Cert.Proof

end
